-- ==== Defs.lean ====
def Pre_KvBwd (m : (ℓ : Loc Cert.KvBwd.nD Cert.KvBwd.τ Cert.KvBwd.sig) → Buf (Elt Bits) ℓ) : Prop :=
  True

def Pre_KvBwdIdeal (m : (ℓ : Loc Cert.KvBwdIdeal.nD Cert.KvBwdIdeal.τ Cert.KvBwdIdeal.sig) → Buf (Elt Ideal) ℓ) : Prop :=
  True

def Pre_KvGradIdeal (m : (ℓ : Loc Cert.KvGradIdeal.nD Cert.KvGradIdeal.τ Cert.KvGradIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_attn [hPre_finite_attn : Cert.Pre_finite_attn.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_attn.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))) = (fun _ => 1#1)

def Pre_AttnGradIdeal (m : (ℓ : Loc Cert.AttnGradIdeal.nD Cert.AttnGradIdeal.τ Cert.AttnGradIdeal.sig) → Buf (Elt Ideal) ℓ) : Prop :=
  True

def Pre_AttnGradIdeal_finite_attn [hPre_finite_attn : Cert.Pre_finite_attn.Facts] (m : (ℓ : Loc Cert.AttnGradIdeal.nD Cert.AttnGradIdeal.τ Cert.AttnGradIdeal.sig) → Buf (Elt Ideal) ℓ) : Prop :=
  ∀ c : Dev Cert.AttnGradIdeal.nD,
    (Cert.Pre_finite_attn.fn (F := Ideal) (m ((c.tc : Thread Cert.AttnGradIdeal.nD Cert.AttnGradIdeal.τ).loc Cert.AttnGradIdeal.main_arg0)) (m ((c.tc : Thread Cert.AttnGradIdeal.nD Cert.AttnGradIdeal.τ).loc Cert.AttnGradIdeal.main_arg1)) (m ((c.tc : Thread Cert.AttnGradIdeal.nD Cert.AttnGradIdeal.τ).loc Cert.AttnGradIdeal.main_arg2)) (m ((c.tc : Thread Cert.AttnGradIdeal.nD Cert.AttnGradIdeal.τ).loc Cert.AttnGradIdeal.main_arg3)) (m ((c.tc : Thread Cert.AttnGradIdeal.nD Cert.AttnGradIdeal.τ).loc Cert.AttnGradIdeal.main_arg4)) (m ((c.tc : Thread Cert.AttnGradIdeal.nD Cert.AttnGradIdeal.τ).loc Cert.AttnGradIdeal.main_arg5))) = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdIdeal_finite_in [hPre_finite_in : Cert.Pre_finite_in.Facts] (m : (ℓ : Loc Cert.InBwdIdeal.nD Cert.InBwdIdeal.τ Cert.InBwdIdeal.sig) → Buf (Elt Ideal) ℓ) : Prop :=
  ∀ c : Dev Cert.InBwdIdeal.nD,
    (Cert.Pre_finite_in.fn (F := Ideal) (m ((c.tc : Thread Cert.InBwdIdeal.nD Cert.InBwdIdeal.τ).loc Cert.InBwdIdeal.main_arg0)) (m ((c.tc : Thread Cert.InBwdIdeal.nD Cert.InBwdIdeal.τ).loc Cert.InBwdIdeal.main_arg1)) (m ((c.tc : Thread Cert.InBwdIdeal.nD Cert.InBwdIdeal.τ).loc Cert.InBwdIdeal.main_arg2)) (m ((c.tc : Thread Cert.InBwdIdeal.nD Cert.InBwdIdeal.τ).loc Cert.InBwdIdeal.main_arg3)) (m ((c.tc : Thread Cert.InBwdIdeal.nD Cert.InBwdIdeal.τ).loc Cert.InBwdIdeal.main_arg4))) = (fun _ => 1#1)

def Pre_InGradIdeal (m : (ℓ : Loc Cert.InGradIdeal.nD Cert.InGradIdeal.τ Cert.InGradIdeal.sig) → Buf (Elt Ideal) ℓ) : Prop :=
  True

def Pre_InGradIdeal_finite_in [hPre_finite_in : Cert.Pre_finite_in.Facts] (m : (ℓ : Loc Cert.InGradIdeal.nD Cert.InGradIdeal.τ Cert.InGradIdeal.sig) → Buf (Elt Ideal) ℓ) : Prop :=
  ∀ c : Dev Cert.InGradIdeal.nD,
    (Cert.Pre_finite_in.fn (F := Ideal) (m ((c.tc : Thread Cert.InGradIdeal.nD Cert.InGradIdeal.τ).loc Cert.InGradIdeal.main_arg0)) (m ((c.tc : Thread Cert.InGradIdeal.nD Cert.InGradIdeal.τ).loc Cert.InGradIdeal.main_arg1)) (m ((c.tc : Thread Cert.InGradIdeal.nD Cert.InGradIdeal.τ).loc Cert.InGradIdeal.main_arg2)) (m ((c.tc : Thread Cert.InGradIdeal.nD Cert.InGradIdeal.τ).loc Cert.InGradIdeal.main_arg3)) (m ((c.tc : Thread Cert.InGradIdeal.nD Cert.InGradIdeal.τ).loc Cert.InGradIdeal.main_arg4))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_finite_ffn [hPre_finite_ffn : Cert.Pre_finite_ffn.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_finite_ffn.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6))) = (fun _ => 1#1)

def Pre_FfnGradIdeal (m : (ℓ : Loc Cert.FfnGradIdeal.nD Cert.FfnGradIdeal.τ Cert.FfnGradIdeal.sig) → Buf (Elt Ideal) ℓ) : Prop :=
  True

def Pre_FfnGradIdeal_finite_ffn [hPre_finite_ffn : Cert.Pre_finite_ffn.Facts] (m : (ℓ : Loc Cert.FfnGradIdeal.nD Cert.FfnGradIdeal.τ Cert.FfnGradIdeal.sig) → Buf (Elt Ideal) ℓ) : Prop :=
  ∀ c : Dev Cert.FfnGradIdeal.nD,
    (Cert.Pre_finite_ffn.fn (F := Ideal) (m ((c.tc : Thread Cert.FfnGradIdeal.nD Cert.FfnGradIdeal.τ).loc Cert.FfnGradIdeal.main_arg0)) (m ((c.tc : Thread Cert.FfnGradIdeal.nD Cert.FfnGradIdeal.τ).loc Cert.FfnGradIdeal.main_arg1)) (m ((c.tc : Thread Cert.FfnGradIdeal.nD Cert.FfnGradIdeal.τ).loc Cert.FfnGradIdeal.main_arg2)) (m ((c.tc : Thread Cert.FfnGradIdeal.nD Cert.FfnGradIdeal.τ).loc Cert.FfnGradIdeal.main_arg3)) (m ((c.tc : Thread Cert.FfnGradIdeal.nD Cert.FfnGradIdeal.τ).loc Cert.FfnGradIdeal.main_arg4)) (m ((c.tc : Thread Cert.FfnGradIdeal.nD Cert.FfnGradIdeal.τ).loc Cert.FfnGradIdeal.main_arg5)) (m ((c.tc : Thread Cert.FfnGradIdeal.nD Cert.FfnGradIdeal.τ).loc Cert.FfnGradIdeal.main_arg6))) = (fun _ => 1#1)

def Pre_ConfBwd (m : (ℓ : Loc Cert.ConfBwd.nD Cert.ConfBwd.τ Cert.ConfBwd.sig) → Buf (Elt Bits) ℓ) : Prop :=
  True

def Pre_ConfBwdIdeal (m : (ℓ : Loc Cert.ConfBwdIdeal.nD Cert.ConfBwdIdeal.τ Cert.ConfBwdIdeal.sig) → Buf (Elt Ideal) ℓ) : Prop :=
  True

def Pre_ConfBwdIdeal_finite_conf [hPre_finite_conf : Cert.Pre_finite_conf.Facts] (m : (ℓ : Loc Cert.ConfBwdIdeal.nD Cert.ConfBwdIdeal.τ Cert.ConfBwdIdeal.sig) → Buf (Elt Ideal) ℓ) : Prop :=
  ∀ c : Dev Cert.ConfBwdIdeal.nD,
    (Cert.Pre_finite_conf.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))) = (fun _ => 1#1)

def Pre_ConfGradIdeal (m : (ℓ : Loc Cert.ConfGradIdeal.nD Cert.ConfGradIdeal.τ Cert.ConfGradIdeal.sig) → Buf (Elt Ideal) ℓ) : Prop :=
  True

def Pre_ConfGradIdeal_finite_conf [hPre_finite_conf : Cert.Pre_finite_conf.Facts] (m : (ℓ : Loc Cert.ConfGradIdeal.nD Cert.ConfGradIdeal.τ Cert.ConfGradIdeal.sig) → Buf (Elt Ideal) ℓ) : Prop :=
  ∀ c : Dev Cert.ConfGradIdeal.nD,
    (Cert.Pre_finite_conf.fn (F := Ideal) (m ((c.tc : Thread Cert.ConfGradIdeal.nD Cert.ConfGradIdeal.τ).loc Cert.ConfGradIdeal.main_arg0)) (m ((c.tc : Thread Cert.ConfGradIdeal.nD Cert.ConfGradIdeal.τ).loc Cert.ConfGradIdeal.main_arg1)) (m ((c.tc : Thread Cert.ConfGradIdeal.nD Cert.ConfGradIdeal.τ).loc Cert.ConfGradIdeal.main_arg2)) (m ((c.tc : Thread Cert.ConfGradIdeal.nD Cert.ConfGradIdeal.τ).loc Cert.ConfGradIdeal.main_arg3)) (m ((c.tc : Thread Cert.ConfGradIdeal.nD Cert.ConfGradIdeal.τ).loc Cert.ConfGradIdeal.main_arg4)) (m ((c.tc : Thread Cert.ConfGradIdeal.nD Cert.ConfGradIdeal.τ).loc Cert.ConfGradIdeal.main_arg5)) (m ((c.tc : Thread Cert.ConfGradIdeal.nD Cert.ConfGradIdeal.τ).loc Cert.ConfGradIdeal.main_arg6))) = (fun _ => 1#1)

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdIdeal_finite_ffn_fwd [hPre_finite_ffn_fwd : Cert.Pre_finite_ffn_fwd.Facts] (m : (ℓ : Loc Cert.FfnFwdIdeal.nD Cert.FfnFwdIdeal.τ Cert.FfnFwdIdeal.sig) → Buf (Elt Ideal) ℓ) : Prop :=
  ∀ c : Dev Cert.FfnFwdIdeal.nD,
    (Cert.Pre_finite_ffn_fwd.fn (F := Ideal) (m ((c.tc : Thread Cert.FfnFwdIdeal.nD Cert.FfnFwdIdeal.τ).loc Cert.FfnFwdIdeal.main_arg0)) (m ((c.tc : Thread Cert.FfnFwdIdeal.nD Cert.FfnFwdIdeal.τ).loc Cert.FfnFwdIdeal.main_arg1)) (m ((c.tc : Thread Cert.FfnFwdIdeal.nD Cert.FfnFwdIdeal.τ).loc Cert.FfnFwdIdeal.main_arg2)) (m ((c.tc : Thread Cert.FfnFwdIdeal.nD Cert.FfnFwdIdeal.τ).loc Cert.FfnFwdIdeal.main_arg3)) (m ((c.tc : Thread Cert.FfnFwdIdeal.nD Cert.FfnFwdIdeal.τ).loc Cert.FfnFwdIdeal.main_arg4)) (m ((c.tc : Thread Cert.FfnFwdIdeal.nD Cert.FfnFwdIdeal.τ).loc Cert.FfnFwdIdeal.main_arg5)) (m ((c.tc : Thread Cert.FfnFwdIdeal.nD Cert.FfnFwdIdeal.τ).loc Cert.FfnFwdIdeal.main_arg6)) (m ((c.tc : Thread Cert.FfnFwdIdeal.nD Cert.FfnFwdIdeal.τ).loc Cert.FfnFwdIdeal.main_arg7))) = (fun _ => 1#1)

def Pre_FfnFwdRefIdeal (m : (ℓ : Loc Cert.FfnFwdRefIdeal.nD Cert.FfnFwdRefIdeal.τ Cert.FfnFwdRefIdeal.sig) → Buf (Elt Ideal) ℓ) : Prop :=
  True

def Pre_FfnFwdRefIdeal_finite_ffn_fwd [hPre_finite_ffn_fwd : Cert.Pre_finite_ffn_fwd.Facts] (m : (ℓ : Loc Cert.FfnFwdRefIdeal.nD Cert.FfnFwdRefIdeal.τ Cert.FfnFwdRefIdeal.sig) → Buf (Elt Ideal) ℓ) : Prop :=
  ∀ c : Dev Cert.FfnFwdRefIdeal.nD,
    (Cert.Pre_finite_ffn_fwd.fn (F := Ideal) (m ((c.tc : Thread Cert.FfnFwdRefIdeal.nD Cert.FfnFwdRefIdeal.τ).loc Cert.FfnFwdRefIdeal.main_arg0)) (m ((c.tc : Thread Cert.FfnFwdRefIdeal.nD Cert.FfnFwdRefIdeal.τ).loc Cert.FfnFwdRefIdeal.main_arg1)) (m ((c.tc : Thread Cert.FfnFwdRefIdeal.nD Cert.FfnFwdRefIdeal.τ).loc Cert.FfnFwdRefIdeal.main_arg2)) (m ((c.tc : Thread Cert.FfnFwdRefIdeal.nD Cert.FfnFwdRefIdeal.τ).loc Cert.FfnFwdRefIdeal.main_arg3)) (m ((c.tc : Thread Cert.FfnFwdRefIdeal.nD Cert.FfnFwdRefIdeal.τ).loc Cert.FfnFwdRefIdeal.main_arg4)) (m ((c.tc : Thread Cert.FfnFwdRefIdeal.nD Cert.FfnFwdRefIdeal.τ).loc Cert.FfnFwdRefIdeal.main_arg5)) (m ((c.tc : Thread Cert.FfnFwdRefIdeal.nD Cert.FfnFwdRefIdeal.τ).loc Cert.FfnFwdRefIdeal.main_arg6)) (m ((c.tc : Thread Cert.FfnFwdRefIdeal.nD Cert.FfnFwdRefIdeal.τ).loc Cert.FfnFwdRefIdeal.main_arg7))) = (fun _ => 1#1)

def Pre_KvFwd (m : (ℓ : Loc Cert.KvFwd.nD Cert.KvFwd.τ Cert.KvFwd.sig) → Buf (Elt Bits) ℓ) : Prop :=
  True

def Pre_KvFwdIdeal (m : (ℓ : Loc Cert.KvFwdIdeal.nD Cert.KvFwdIdeal.τ Cert.KvFwdIdeal.sig) → Buf (Elt Ideal) ℓ) : Prop :=
  True

def Pre_KvFwdRefIdeal (m : (ℓ : Loc Cert.KvFwdRefIdeal.nD Cert.KvFwdRefIdeal.τ Cert.KvFwdRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_ConfFwd (m : (ℓ : Loc Cert.ConfFwd.nD Cert.ConfFwd.τ Cert.ConfFwd.sig) → Buf (Elt Bits) ℓ) : Prop :=
  True

def Pre_ConfFwdIdeal (m : (ℓ : Loc Cert.ConfFwdIdeal.nD Cert.ConfFwdIdeal.τ Cert.ConfFwdIdeal.sig) → Buf (Elt Ideal) ℓ) : Prop :=
  True

def Pre_ConfFwdRefIdeal (m : (ℓ : Loc Cert.ConfFwdRefIdeal.nD Cert.ConfFwdRefIdeal.τ Cert.ConfFwdRefIdeal.sig) → Buf (Elt Ideal) ℓ) : Prop :=
  True

def quiescent_KvBwd [hKvBwd : Cert.KvBwd.Facts] : Prop :=
  ∀ (m : (ℓ : Loc Cert.KvBwd.nD Cert.KvBwd.τ Cert.KvBwd.sig) → Buf (Elt Bits) ℓ) (g : Dev Cert.KvBwd.nD → PrngReg), Pre_KvBwd m →
    θ_run (Cert.KvBwd.defs (F := Bits)) (onTc (τ := Cert.KvBwd.τ) (Cert.KvBwd.main (F := Bits))) ⟨m, fun _ => 0, g⟩ (fun r => (∀ c : Dev Cert.KvBwd.nD,
      r.2.mem ((c.tc : Thread Cert.KvBwd.nD Cert.KvBwd.τ).loc Cert.KvBwd.main_arg0) = m ((c.tc : Thread Cert.KvBwd.nD Cert.KvBwd.τ).loc Cert.KvBwd.main_arg0)
      ∧ r.2.mem ((c.tc : Thread Cert.KvBwd.nD Cert.KvBwd.τ).loc Cert.KvBwd.main_arg1) = m ((c.tc : Thread Cert.KvBwd.nD Cert.KvBwd.τ).loc Cert.KvBwd.main_arg1)
      ∧ r.2.mem ((c.tc : Thread Cert.KvBwd.nD Cert.KvBwd.τ).loc Cert.KvBwd.main_arg2) = m ((c.tc : Thread Cert.KvBwd.nD Cert.KvBwd.τ).loc Cert.KvBwd.main_arg2)
      ∧ r.2.mem ((c.tc : Thread Cert.KvBwd.nD Cert.KvBwd.τ).loc Cert.KvBwd.main_arg3) = m ((c.tc : Thread Cert.KvBwd.nD Cert.KvBwd.τ).loc Cert.KvBwd.main_arg3))
      ∧ r.2.sem = fun _ => 0)

def quiescent_KvBwdIdeal [hKvBwdIdeal : Cert.KvBwdIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg), Pre_KvBwdIdeal m →
    θ_run (Cert.KvBwdIdeal.defs (F := Ideal)) (onTc (τ := Cert.KvBwdIdeal.τ) (Cert.KvBwdIdeal.main (F := Ideal))) ⟨m, fun _ => 0, g⟩ (fun r => (∀ c : Dev Cert.KvBwdIdeal.nD,
      r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
      ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
      ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
      ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
      ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
      ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_attn [hAttnBwdIdeal : Cert.AttnBwdIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_attn m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnGradIdeal [hAttnGradIdeal : Cert.AttnGradIdeal.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5))
      ∧ r.2.sem = fun _ => 0)

def quiescent_AttnGradIdeal_pre_finite_attn [hAttnGradIdeal : Cert.AttnGradIdeal.Facts] [hPre_finite_attn : Cert.Pre_finite_attn.Facts] : Prop :=
  ∀ (m : (ℓ : Loc Cert.AttnGradIdeal.nD Cert.AttnGradIdeal.τ Cert.AttnGradIdeal.sig) → Buf (Elt Ideal) ℓ) (g : Dev Cert.AttnGradIdeal.nD → PrngReg), Pre_AttnGradIdeal_finite_attn m →
    θ_run (Cert.AttnGradIdeal.defs (F := Ideal)) (onTc (τ := Cert.AttnGradIdeal.τ) (Cert.AttnGradIdeal.main (F := Ideal))) ⟨m, fun _ => 0, g⟩ (fun r => (∀ c : Dev Cert.AttnGradIdeal.nD,
      r.2.mem ((c.tc : Thread Cert.AttnGradIdeal.nD Cert.AttnGradIdeal.τ).loc Cert.AttnGradIdeal.main_arg0) = m ((c.tc : Thread Cert.AttnGradIdeal.nD Cert.AttnGradIdeal.τ).loc Cert.AttnGradIdeal.main_arg0)
      ∧ r.2.mem ((c.tc : Thread Cert.AttnGradIdeal.nD Cert.AttnGradIdeal.τ).loc Cert.AttnGradIdeal.main_arg1) = m ((c.tc : Thread Cert.AttnGradIdeal.nD Cert.AttnGradIdeal.τ).loc Cert.AttnGradIdeal.main_arg1)
      ∧ r.2.mem ((c.tc : Thread Cert.AttnGradIdeal.nD Cert.AttnGradIdeal.τ).loc Cert.AttnGradIdeal.main_arg2) = m ((c.tc : Thread Cert.AttnGradIdeal.nD Cert.AttnGradIdeal.τ).loc Cert.AttnGradIdeal.main_arg2)
      ∧ r.2.mem ((c.tc : Thread Cert.AttnGradIdeal.nD Cert.AttnGradIdeal.τ).loc Cert.AttnGradIdeal.main_arg3) = m ((c.tc : Thread Cert.AttnGradIdeal.nD Cert.AttnGradIdeal.τ).loc Cert.AttnGradIdeal.main_arg3)
      ∧ r.2.mem ((c.tc : Thread Cert.AttnGradIdeal.nD Cert.AttnGradIdeal.τ).loc Cert.AttnGradIdeal.main_arg4) = m ((c.tc : Thread Cert.AttnGradIdeal.nD Cert.AttnGradIdeal.τ).loc Cert.AttnGradIdeal.main_arg4)
      ∧ r.2.mem ((c.tc : Thread Cert.AttnGradIdeal.nD Cert.AttnGradIdeal.τ).loc Cert.AttnGradIdeal.main_arg5) = m ((c.tc : Thread Cert.AttnGradIdeal.nD Cert.AttnGradIdeal.τ).loc Cert.AttnGradIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdIdeal_pre_finite_in [hInBwdIdeal : Cert.InBwdIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal_finite_in m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_InGradIdeal_pre_finite_in [hInGradIdeal : Cert.InGradIdeal.Facts] [hPre_finite_in : Cert.Pre_finite_in.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal_finite_in m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnBwdIdeal_pre_finite_ffn [hFfnBwdIdeal : Cert.FfnBwdIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_finite_ffn m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ r.2.sem = fun _ => 0)

def quiescent_FfnGradIdeal [hFfnGradIdeal : Cert.FfnGradIdeal.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6))
      ∧ r.2.sem = fun _ => 0)

def quiescent_FfnGradIdeal_pre_finite_ffn [hFfnGradIdeal : Cert.FfnGradIdeal.Facts] [hPre_finite_ffn : Cert.Pre_finite_ffn.Facts] : Prop :=
  ∀ (m : (ℓ : Loc Cert.FfnGradIdeal.nD Cert.FfnGradIdeal.τ Cert.FfnGradIdeal.sig) → Buf (Elt Ideal) ℓ) (g : Dev Cert.FfnGradIdeal.nD → PrngReg), Pre_FfnGradIdeal_finite_ffn m →
    θ_run (Cert.FfnGradIdeal.defs (F := Ideal)) (onTc (τ := Cert.FfnGradIdeal.τ) (Cert.FfnGradIdeal.main (F := Ideal))) ⟨m, fun _ => 0, g⟩ (fun r => (∀ c : Dev Cert.FfnGradIdeal.nD,
      r.2.mem ((c.tc : Thread Cert.FfnGradIdeal.nD Cert.FfnGradIdeal.τ).loc Cert.FfnGradIdeal.main_arg0) = m ((c.tc : Thread Cert.FfnGradIdeal.nD Cert.FfnGradIdeal.τ).loc Cert.FfnGradIdeal.main_arg0)
      ∧ r.2.mem ((c.tc : Thread Cert.FfnGradIdeal.nD Cert.FfnGradIdeal.τ).loc Cert.FfnGradIdeal.main_arg1) = m ((c.tc : Thread Cert.FfnGradIdeal.nD Cert.FfnGradIdeal.τ).loc Cert.FfnGradIdeal.main_arg1)
      ∧ r.2.mem ((c.tc : Thread Cert.FfnGradIdeal.nD Cert.FfnGradIdeal.τ).loc Cert.FfnGradIdeal.main_arg2) = m ((c.tc : Thread Cert.FfnGradIdeal.nD Cert.FfnGradIdeal.τ).loc Cert.FfnGradIdeal.main_arg2)
      ∧ r.2.mem ((c.tc : Thread Cert.FfnGradIdeal.nD Cert.FfnGradIdeal.τ).loc Cert.FfnGradIdeal.main_arg3) = m ((c.tc : Thread Cert.FfnGradIdeal.nD Cert.FfnGradIdeal.τ).loc Cert.FfnGradIdeal.main_arg3)
      ∧ r.2.mem ((c.tc : Thread Cert.FfnGradIdeal.nD Cert.FfnGradIdeal.τ).loc Cert.FfnGradIdeal.main_arg4) = m ((c.tc : Thread Cert.FfnGradIdeal.nD Cert.FfnGradIdeal.τ).loc Cert.FfnGradIdeal.main_arg4)
      ∧ r.2.mem ((c.tc : Thread Cert.FfnGradIdeal.nD Cert.FfnGradIdeal.τ).loc Cert.FfnGradIdeal.main_arg5) = m ((c.tc : Thread Cert.FfnGradIdeal.nD Cert.FfnGradIdeal.τ).loc Cert.FfnGradIdeal.main_arg5)
      ∧ r.2.mem ((c.tc : Thread Cert.FfnGradIdeal.nD Cert.FfnGradIdeal.τ).loc Cert.FfnGradIdeal.main_arg6) = m ((c.tc : Thread Cert.FfnGradIdeal.nD Cert.FfnGradIdeal.τ).loc Cert.FfnGradIdeal.main_arg6))
      ∧ r.2.sem = fun _ => 0)

def quiescent_ConfBwd [hConfBwd : Cert.ConfBwd.Facts] : Prop :=
  ∀ (m : (ℓ : Loc Cert.ConfBwd.nD Cert.ConfBwd.τ Cert.ConfBwd.sig) → Buf (Elt Bits) ℓ) (g : Dev Cert.ConfBwd.nD → PrngReg), Pre_ConfBwd m →
    θ_run (Cert.ConfBwd.defs (F := Bits)) (onTc (τ := Cert.ConfBwd.τ) (Cert.ConfBwd.main (F := Bits))) ⟨m, fun _ => 0, g⟩ (fun r => (∀ c : Dev Cert.ConfBwd.nD,
      r.2.mem ((c.tc : Thread Cert.ConfBwd.nD Cert.ConfBwd.τ).loc Cert.ConfBwd.main_arg0) = m ((c.tc : Thread Cert.ConfBwd.nD Cert.ConfBwd.τ).loc Cert.ConfBwd.main_arg0)
      ∧ r.2.mem ((c.tc : Thread Cert.ConfBwd.nD Cert.ConfBwd.τ).loc Cert.ConfBwd.main_arg1) = m ((c.tc : Thread Cert.ConfBwd.nD Cert.ConfBwd.τ).loc Cert.ConfBwd.main_arg1)
      ∧ r.2.mem ((c.tc : Thread Cert.ConfBwd.nD Cert.ConfBwd.τ).loc Cert.ConfBwd.main_arg2) = m ((c.tc : Thread Cert.ConfBwd.nD Cert.ConfBwd.τ).loc Cert.ConfBwd.main_arg2)
      ∧ r.2.mem ((c.tc : Thread Cert.ConfBwd.nD Cert.ConfBwd.τ).loc Cert.ConfBwd.main_arg3) = m ((c.tc : Thread Cert.ConfBwd.nD Cert.ConfBwd.τ).loc Cert.ConfBwd.main_arg3)
      ∧ r.2.mem ((c.tc : Thread Cert.ConfBwd.nD Cert.ConfBwd.τ).loc Cert.ConfBwd.main_arg4) = m ((c.tc : Thread Cert.ConfBwd.nD Cert.ConfBwd.τ).loc Cert.ConfBwd.main_arg4)
      ∧ r.2.mem ((c.tc : Thread Cert.ConfBwd.nD Cert.ConfBwd.τ).loc Cert.ConfBwd.main_arg5) = m ((c.tc : Thread Cert.ConfBwd.nD Cert.ConfBwd.τ).loc Cert.ConfBwd.main_arg5)
      ∧ r.2.mem ((c.tc : Thread Cert.ConfBwd.nD Cert.ConfBwd.τ).loc Cert.ConfBwd.main_arg6) = m ((c.tc : Thread Cert.ConfBwd.nD Cert.ConfBwd.τ).loc Cert.ConfBwd.main_arg6))
      ∧ r.2.sem = fun _ => 0)

def quiescent_ConfBwdIdeal [hConfBwdIdeal : Cert.ConfBwdIdeal.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg), Pre_ConfBwdIdeal m →
    θ_run (Cert.ConfBwdIdeal.defs (F := Ideal)) (onTc (τ := Cert.ConfBwdIdeal.τ) (Cert.ConfBwdIdeal.main (F := Ideal))) ⟨m, fun _ => 0, g⟩ (fun r => (∀ c : Dev Cert.ConfBwdIdeal.nD,
      r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
      ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
      ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
      ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
      ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
      ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
      ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6))
      ∧ r.2.sem = fun _ => 0)

def quiescent_ConfBwdIdeal_pre_finite_conf [hConfBwdIdeal : Cert.ConfBwdIdeal.Facts] [hPre_finite_conf : Cert.Pre_finite_conf.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg), Pre_ConfBwdIdeal_finite_conf m →
    θ_run (Cert.ConfBwdIdeal.defs (F := Ideal)) (onTc (τ := Cert.ConfBwdIdeal.τ) (Cert.ConfBwdIdeal.main (F := Ideal))) ⟨m, fun _ => 0, g⟩ (fun r => (∀ c : Dev Cert.ConfBwdIdeal.nD,
      r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
      ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
      ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
      ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
      ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
      ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
      ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6))
      ∧ r.2.sem = fun _ => 0)

def quiescent_ConfGradIdeal [hConfGradIdeal : Cert.ConfGradIdeal.Facts] : Prop :=
  ∀ (m : (ℓ : Loc Cert.ConfGradIdeal.nD Cert.ConfGradIdeal.τ Cert.ConfGradIdeal.sig) → Buf (Elt Ideal) ℓ) (g : Dev Cert.ConfGradIdeal.nD → PrngReg), Pre_ConfGradIdeal m →
    θ_run (Cert.ConfGradIdeal.defs (F := Ideal)) (onTc (τ := Cert.ConfGradIdeal.τ) (Cert.ConfGradIdeal.main (F := Ideal))) ⟨m, fun _ => 0, g⟩ (fun r => (∀ c : Dev Cert.ConfGradIdeal.nD,
      r.2.mem ((c.tc : Thread Cert.ConfGradIdeal.nD Cert.ConfGradIdeal.τ).loc Cert.ConfGradIdeal.main_arg0) = m ((c.tc : Thread Cert.ConfGradIdeal.nD Cert.ConfGradIdeal.τ).loc Cert.ConfGradIdeal.main_arg0)
      ∧ r.2.mem ((c.tc : Thread Cert.ConfGradIdeal.nD Cert.ConfGradIdeal.τ).loc Cert.ConfGradIdeal.main_arg1) = m ((c.tc : Thread Cert.ConfGradIdeal.nD Cert.ConfGradIdeal.τ).loc Cert.ConfGradIdeal.main_arg1)
      ∧ r.2.mem ((c.tc : Thread Cert.ConfGradIdeal.nD Cert.ConfGradIdeal.τ).loc Cert.ConfGradIdeal.main_arg2) = m ((c.tc : Thread Cert.ConfGradIdeal.nD Cert.ConfGradIdeal.τ).loc Cert.ConfGradIdeal.main_arg2)
      ∧ r.2.mem ((c.tc : Thread Cert.ConfGradIdeal.nD Cert.ConfGradIdeal.τ).loc Cert.ConfGradIdeal.main_arg3) = m ((c.tc : Thread Cert.ConfGradIdeal.nD Cert.ConfGradIdeal.τ).loc Cert.ConfGradIdeal.main_arg3)
      ∧ r.2.mem ((c.tc : Thread Cert.ConfGradIdeal.nD Cert.ConfGradIdeal.τ).loc Cert.ConfGradIdeal.main_arg4) = m ((c.tc : Thread Cert.ConfGradIdeal.nD Cert.ConfGradIdeal.τ).loc Cert.ConfGradIdeal.main_arg4)
      ∧ r.2.mem ((c.tc : Thread Cert.ConfGradIdeal.nD Cert.ConfGradIdeal.τ).loc Cert.ConfGradIdeal.main_arg5) = m ((c.tc : Thread Cert.ConfGradIdeal.nD Cert.ConfGradIdeal.τ).loc Cert.ConfGradIdeal.main_arg5)
      ∧ r.2.mem ((c.tc : Thread Cert.ConfGradIdeal.nD Cert.ConfGradIdeal.τ).loc Cert.ConfGradIdeal.main_arg6) = m ((c.tc : Thread Cert.ConfGradIdeal.nD Cert.ConfGradIdeal.τ).loc Cert.ConfGradIdeal.main_arg6))
      ∧ r.2.sem = fun _ => 0)

def quiescent_ConfGradIdeal_pre_finite_conf [hConfGradIdeal : Cert.ConfGradIdeal.Facts] [hPre_finite_conf : Cert.Pre_finite_conf.Facts] : Prop :=
  ∀ (m : (ℓ : Loc Cert.ConfGradIdeal.nD Cert.ConfGradIdeal.τ Cert.ConfGradIdeal.sig) → Buf (Elt Ideal) ℓ) (g : Dev Cert.ConfGradIdeal.nD → PrngReg), Pre_ConfGradIdeal_finite_conf m →
    θ_run (Cert.ConfGradIdeal.defs (F := Ideal)) (onTc (τ := Cert.ConfGradIdeal.τ) (Cert.ConfGradIdeal.main (F := Ideal))) ⟨m, fun _ => 0, g⟩ (fun r => (∀ c : Dev Cert.ConfGradIdeal.nD,
      r.2.mem ((c.tc : Thread Cert.ConfGradIdeal.nD Cert.ConfGradIdeal.τ).loc Cert.ConfGradIdeal.main_arg0) = m ((c.tc : Thread Cert.ConfGradIdeal.nD Cert.ConfGradIdeal.τ).loc Cert.ConfGradIdeal.main_arg0)
      ∧ r.2.mem ((c.tc : Thread Cert.ConfGradIdeal.nD Cert.ConfGradIdeal.τ).loc Cert.ConfGradIdeal.main_arg1) = m ((c.tc : Thread Cert.ConfGradIdeal.nD Cert.ConfGradIdeal.τ).loc Cert.ConfGradIdeal.main_arg1)
      ∧ r.2.mem ((c.tc : Thread Cert.ConfGradIdeal.nD Cert.ConfGradIdeal.τ).loc Cert.ConfGradIdeal.main_arg2) = m ((c.tc : Thread Cert.ConfGradIdeal.nD Cert.ConfGradIdeal.τ).loc Cert.ConfGradIdeal.main_arg2)
      ∧ r.2.mem ((c.tc : Thread Cert.ConfGradIdeal.nD Cert.ConfGradIdeal.τ).loc Cert.ConfGradIdeal.main_arg3) = m ((c.tc : Thread Cert.ConfGradIdeal.nD Cert.ConfGradIdeal.τ).loc Cert.ConfGradIdeal.main_arg3)
      ∧ r.2.mem ((c.tc : Thread Cert.ConfGradIdeal.nD Cert.ConfGradIdeal.τ).loc Cert.ConfGradIdeal.main_arg4) = m ((c.tc : Thread Cert.ConfGradIdeal.nD Cert.ConfGradIdeal.τ).loc Cert.ConfGradIdeal.main_arg4)
      ∧ r.2.mem ((c.tc : Thread Cert.ConfGradIdeal.nD Cert.ConfGradIdeal.τ).loc Cert.ConfGradIdeal.main_arg5) = m ((c.tc : Thread Cert.ConfGradIdeal.nD Cert.ConfGradIdeal.τ).loc Cert.ConfGradIdeal.main_arg5)
      ∧ r.2.mem ((c.tc : Thread Cert.ConfGradIdeal.nD Cert.ConfGradIdeal.τ).loc Cert.ConfGradIdeal.main_arg6) = m ((c.tc : Thread Cert.ConfGradIdeal.nD Cert.ConfGradIdeal.τ).loc Cert.ConfGradIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6)
      ∧ r.2.mem ((c.tc : Thread Cert.FfnFwd.nD Cert.FfnFwd.τ).loc Cert.FfnFwd.main_arg7) = m ((c.tc : Thread Cert.FfnFwd.nD Cert.FfnFwd.τ).loc Cert.FfnFwd.main_arg7))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ r.2.sem = fun _ => 0)

def quiescent_FfnFwdIdeal_pre_finite_ffn_fwd [hFfnFwdIdeal : Cert.FfnFwdIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal_finite_ffn_fwd m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
      ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7))
      ∧ r.2.sem = fun _ => 0)

def quiescent_FfnFwdRefIdeal_pre_finite_ffn_fwd [hFfnFwdRefIdeal : Cert.FfnFwdRefIdeal.Facts] [hPre_finite_ffn_fwd : Cert.Pre_finite_ffn_fwd.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal_finite_ffn_fwd m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6)
      ∧ r.2.mem ((c.tc : Thread Cert.FfnFwdRefIdeal.nD Cert.FfnFwdRefIdeal.τ).loc Cert.FfnFwdRefIdeal.main_arg7) = m ((c.tc : Thread Cert.FfnFwdRefIdeal.nD Cert.FfnFwdRefIdeal.τ).loc Cert.FfnFwdRefIdeal.main_arg7))
      ∧ r.2.sem = fun _ => 0)

def quiescent_KvFwd [hKvFwd : Cert.KvFwd.Facts] : Prop :=
  ∀ (m : (ℓ : Loc Cert.KvFwd.nD Cert.KvFwd.τ Cert.KvFwd.sig) → Buf (Elt Bits) ℓ) (g : Dev Cert.KvFwd.nD → PrngReg), Pre_KvFwd m →
    θ_run (Cert.KvFwd.defs (F := Bits)) (onTc (τ := Cert.KvFwd.τ) (Cert.KvFwd.main (F := Bits))) ⟨m, fun _ => 0, g⟩ (fun r => (∀ c : Dev Cert.KvFwd.nD,
      r.2.mem ((c.tc : Thread Cert.KvFwd.nD Cert.KvFwd.τ).loc Cert.KvFwd.main_arg0) = m ((c.tc : Thread Cert.KvFwd.nD Cert.KvFwd.τ).loc Cert.KvFwd.main_arg0)
      ∧ r.2.mem ((c.tc : Thread Cert.KvFwd.nD Cert.KvFwd.τ).loc Cert.KvFwd.main_arg1) = m ((c.tc : Thread Cert.KvFwd.nD Cert.KvFwd.τ).loc Cert.KvFwd.main_arg1)
      ∧ r.2.mem ((c.tc : Thread Cert.KvFwd.nD Cert.KvFwd.τ).loc Cert.KvFwd.main_arg2) = m ((c.tc : Thread Cert.KvFwd.nD Cert.KvFwd.τ).loc Cert.KvFwd.main_arg2))
      ∧ r.2.sem = fun _ => 0)

def quiescent_KvFwdIdeal [hKvFwdIdeal : Cert.KvFwdIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg), Pre_KvFwdIdeal m →
    θ_run (Cert.KvFwdIdeal.defs (F := Ideal)) (onTc (τ := Cert.KvFwdIdeal.τ) (Cert.KvFwdIdeal.main (F := Ideal))) ⟨m, fun _ => 0, g⟩ (fun r => (∀ c : Dev Cert.KvFwdIdeal.nD,
      r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
      ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
      ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ r.2.sem = fun _ => 0)

def quiescent_KvFwdRefIdeal [hKvFwdRefIdeal : Cert.KvFwdRefIdeal.Facts] : Prop :=
  ∀ (m : (ℓ : Loc Cert.KvFwdRefIdeal.nD Cert.KvFwdRefIdeal.τ Cert.KvFwdRefIdeal.sig) → Buf (Elt Ideal) ℓ) (g : Dev Cert.KvFwdRefIdeal.nD → PrngReg), Pre_KvFwdRefIdeal m →
    θ_run (Cert.KvFwdRefIdeal.defs (F := Ideal)) (onTc (τ := Cert.KvFwdRefIdeal.τ) (Cert.KvFwdRefIdeal.main (F := Ideal))) ⟨m, fun _ => 0, g⟩ (fun r => (∀ c : Dev Cert.KvFwdRefIdeal.nD,
      r.2.mem ((c.tc : Thread Cert.KvFwdRefIdeal.nD Cert.KvFwdRefIdeal.τ).loc Cert.KvFwdRefIdeal.main_arg0) = m ((c.tc : Thread Cert.KvFwdRefIdeal.nD Cert.KvFwdRefIdeal.τ).loc Cert.KvFwdRefIdeal.main_arg0)
      ∧ r.2.mem ((c.tc : Thread Cert.KvFwdRefIdeal.nD Cert.KvFwdRefIdeal.τ).loc Cert.KvFwdRefIdeal.main_arg1) = m ((c.tc : Thread Cert.KvFwdRefIdeal.nD Cert.KvFwdRefIdeal.τ).loc Cert.KvFwdRefIdeal.main_arg1)
      ∧ r.2.mem ((c.tc : Thread Cert.KvFwdRefIdeal.nD Cert.KvFwdRefIdeal.τ).loc Cert.KvFwdRefIdeal.main_arg2) = m ((c.tc : Thread Cert.KvFwdRefIdeal.nD Cert.KvFwdRefIdeal.τ).loc Cert.KvFwdRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_ConfFwd [hConfFwd : Cert.ConfFwd.Facts] : Prop :=
  ∀ (m : (ℓ : Loc Cert.ConfFwd.nD Cert.ConfFwd.τ Cert.ConfFwd.sig) → Buf (Elt Bits) ℓ) (g : Dev Cert.ConfFwd.nD → PrngReg), Pre_ConfFwd m →
    θ_run (Cert.ConfFwd.defs (F := Bits)) (onTc (τ := Cert.ConfFwd.τ) (Cert.ConfFwd.main (F := Bits))) ⟨m, fun _ => 0, g⟩ (fun r => (∀ c : Dev Cert.ConfFwd.nD,
      r.2.mem ((c.tc : Thread Cert.ConfFwd.nD Cert.ConfFwd.τ).loc Cert.ConfFwd.main_arg0) = m ((c.tc : Thread Cert.ConfFwd.nD Cert.ConfFwd.τ).loc Cert.ConfFwd.main_arg0)
      ∧ r.2.mem ((c.tc : Thread Cert.ConfFwd.nD Cert.ConfFwd.τ).loc Cert.ConfFwd.main_arg1) = m ((c.tc : Thread Cert.ConfFwd.nD Cert.ConfFwd.τ).loc Cert.ConfFwd.main_arg1)
      ∧ r.2.mem ((c.tc : Thread Cert.ConfFwd.nD Cert.ConfFwd.τ).loc Cert.ConfFwd.main_arg2) = m ((c.tc : Thread Cert.ConfFwd.nD Cert.ConfFwd.τ).loc Cert.ConfFwd.main_arg2)
      ∧ r.2.mem ((c.tc : Thread Cert.ConfFwd.nD Cert.ConfFwd.τ).loc Cert.ConfFwd.main_arg3) = m ((c.tc : Thread Cert.ConfFwd.nD Cert.ConfFwd.τ).loc Cert.ConfFwd.main_arg3)
      ∧ r.2.mem ((c.tc : Thread Cert.ConfFwd.nD Cert.ConfFwd.τ).loc Cert.ConfFwd.main_arg4) = m ((c.tc : Thread Cert.ConfFwd.nD Cert.ConfFwd.τ).loc Cert.ConfFwd.main_arg4))
      ∧ r.2.sem = fun _ => 0)

def quiescent_ConfFwdIdeal [hConfFwdIdeal : Cert.ConfFwdIdeal.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg), Pre_ConfFwdIdeal m →
    θ_run (Cert.ConfFwdIdeal.defs (F := Ideal)) (onTc (τ := Cert.ConfFwdIdeal.τ) (Cert.ConfFwdIdeal.main (F := Ideal))) ⟨m, fun _ => 0, g⟩ (fun r => (∀ c : Dev Cert.ConfFwdIdeal.nD,
      r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
      ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
      ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
      ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3)
      ∧ r.2.mem ((c.tc : Thread Cert.ConfFwdIdeal.nD Cert.ConfFwdIdeal.τ).loc Cert.ConfFwdIdeal.main_arg4) = m ((c.tc : Thread Cert.ConfFwdIdeal.nD Cert.ConfFwdIdeal.τ).loc Cert.ConfFwdIdeal.main_arg4))
      ∧ r.2.sem = fun _ => 0)

def quiescent_ConfFwdRefIdeal [hConfFwdRefIdeal : Cert.ConfFwdRefIdeal.Facts] : Prop :=
  ∀ (m : (ℓ : Loc Cert.ConfFwdRefIdeal.nD Cert.ConfFwdRefIdeal.τ Cert.ConfFwdRefIdeal.sig) → Buf (Elt Ideal) ℓ) (g : Dev Cert.ConfFwdRefIdeal.nD → PrngReg), Pre_ConfFwdRefIdeal m →
    θ_run (Cert.ConfFwdRefIdeal.defs (F := Ideal)) (onTc (τ := Cert.ConfFwdRefIdeal.τ) (Cert.ConfFwdRefIdeal.main (F := Ideal))) ⟨m, fun _ => 0, g⟩ (fun r => (∀ c : Dev Cert.ConfFwdRefIdeal.nD,
      r.2.mem ((c.tc : Thread Cert.ConfFwdRefIdeal.nD Cert.ConfFwdRefIdeal.τ).loc Cert.ConfFwdRefIdeal.main_arg0) = m ((c.tc : Thread Cert.ConfFwdRefIdeal.nD Cert.ConfFwdRefIdeal.τ).loc Cert.ConfFwdRefIdeal.main_arg0)
      ∧ r.2.mem ((c.tc : Thread Cert.ConfFwdRefIdeal.nD Cert.ConfFwdRefIdeal.τ).loc Cert.ConfFwdRefIdeal.main_arg1) = m ((c.tc : Thread Cert.ConfFwdRefIdeal.nD Cert.ConfFwdRefIdeal.τ).loc Cert.ConfFwdRefIdeal.main_arg1)
      ∧ r.2.mem ((c.tc : Thread Cert.ConfFwdRefIdeal.nD Cert.ConfFwdRefIdeal.τ).loc Cert.ConfFwdRefIdeal.main_arg2) = m ((c.tc : Thread Cert.ConfFwdRefIdeal.nD Cert.ConfFwdRefIdeal.τ).loc Cert.ConfFwdRefIdeal.main_arg2)
      ∧ r.2.mem ((c.tc : Thread Cert.ConfFwdRefIdeal.nD Cert.ConfFwdRefIdeal.τ).loc Cert.ConfFwdRefIdeal.main_arg3) = m ((c.tc : Thread Cert.ConfFwdRefIdeal.nD Cert.ConfFwdRefIdeal.τ).loc Cert.ConfFwdRefIdeal.main_arg3)
      ∧ r.2.mem ((c.tc : Thread Cert.ConfFwdRefIdeal.nD Cert.ConfFwdRefIdeal.τ).loc Cert.ConfFwdRefIdeal.main_arg4) = m ((c.tc : Thread Cert.ConfFwdRefIdeal.nD Cert.ConfFwdRefIdeal.τ).loc Cert.ConfFwdRefIdeal.main_arg4))
      ∧ r.2.sem = fun _ => 0)

def preserves_KvBwd_KvBwdIdeal : Prop :=
  True

def algebraic_KvBwdIdeal_KvGradIdeal [hKvBwdIdeal : Cert.KvBwdIdeal.Facts] [hKvGradIdeal : Cert.KvGradIdeal.Facts] : Prop :=
  ∀ (m : (ℓ : Loc Cert.KvBwdIdeal.nD Cert.KvBwdIdeal.τ Cert.KvBwdIdeal.sig) → Buf (Elt Ideal) ℓ) (g : Dev Cert.KvBwdIdeal.nD → PrngReg)
    (m' : (ℓ : Loc Cert.KvGradIdeal.nD Cert.KvGradIdeal.τ Cert.KvGradIdeal.sig) → Buf (Elt Ideal) ℓ) (g' : Dev Cert.KvGradIdeal.nD → PrngReg), Pre_KvBwdIdeal m →
    (∀ c : Dev Cert.KvBwdIdeal.nD,
      m' ((c.tc : Thread Cert.KvGradIdeal.nD Cert.KvGradIdeal.τ).loc Cert.KvGradIdeal.main_arg0) = m ((c.tc : Thread Cert.KvBwdIdeal.nD Cert.KvBwdIdeal.τ).loc Cert.KvBwdIdeal.main_arg0)
      ∧ m' ((c.tc : Thread Cert.KvGradIdeal.nD Cert.KvGradIdeal.τ).loc Cert.KvGradIdeal.main_arg1) = m ((c.tc : Thread Cert.KvBwdIdeal.nD Cert.KvBwdIdeal.τ).loc Cert.KvBwdIdeal.main_arg1)
      ∧ m' ((c.tc : Thread Cert.KvGradIdeal.nD Cert.KvGradIdeal.τ).loc Cert.KvGradIdeal.main_arg2) = m ((c.tc : Thread Cert.KvBwdIdeal.nD Cert.KvBwdIdeal.τ).loc Cert.KvBwdIdeal.main_arg2)
      ∧ m' ((c.tc : Thread Cert.KvGradIdeal.nD Cert.KvGradIdeal.τ).loc Cert.KvGradIdeal.main_arg3) = m ((c.tc : Thread Cert.KvBwdIdeal.nD Cert.KvBwdIdeal.τ).loc Cert.KvBwdIdeal.main_arg3)) →
    ∃ (v0 : (c : Dev Cert.KvBwdIdeal.nD) → Buf (Elt Ideal) ((c.tc : Thread Cert.KvBwdIdeal.nD Cert.KvBwdIdeal.τ).loc Cert.KvBwdIdeal.main_v23_0)) (v1 : (c : Dev Cert.KvBwdIdeal.nD) → Buf (Elt Ideal) ((c.tc : Thread Cert.KvBwdIdeal.nD Cert.KvBwdIdeal.τ).loc Cert.KvBwdIdeal.main_v23_1)),
      θ_run (Cert.KvBwdIdeal.defs (F := Ideal)) (onTc (τ := Cert.KvBwdIdeal.τ) (Cert.KvBwdIdeal.main (F := Ideal))) ⟨m, fun _ => 0, g⟩ (fun r => ∀ c : Dev Cert.KvBwdIdeal.nD,
          r.2.mem ((c.tc : Thread Cert.KvBwdIdeal.nD Cert.KvBwdIdeal.τ).loc Cert.KvBwdIdeal.main_v23_0) = v0 c
          ∧ r.2.mem ((c.tc : Thread Cert.KvBwdIdeal.nD Cert.KvBwdIdeal.τ).loc Cert.KvBwdIdeal.main_v23_1) = v1 c
          ∧ r.2.mem ((c.tc : Thread Cert.KvBwdIdeal.nD Cert.KvBwdIdeal.τ).loc Cert.KvBwdIdeal.main_arg0) = m ((c.tc : Thread Cert.KvBwdIdeal.nD Cert.KvBwdIdeal.τ).loc Cert.KvBwdIdeal.main_arg0)
          ∧ r.2.mem ((c.tc : Thread Cert.KvBwdIdeal.nD Cert.KvBwdIdeal.τ).loc Cert.KvBwdIdeal.main_arg1) = m ((c.tc : Thread Cert.KvBwdIdeal.nD Cert.KvBwdIdeal.τ).loc Cert.KvBwdIdeal.main_arg1)
          ∧ r.2.mem ((c.tc : Thread Cert.KvBwdIdeal.nD Cert.KvBwdIdeal.τ).loc Cert.KvBwdIdeal.main_arg2) = m ((c.tc : Thread Cert.KvBwdIdeal.nD Cert.KvBwdIdeal.τ).loc Cert.KvBwdIdeal.main_arg2)
          ∧ r.2.mem ((c.tc : Thread Cert.KvBwdIdeal.nD Cert.KvBwdIdeal.τ).loc Cert.KvBwdIdeal.main_arg3) = m ((c.tc : Thread Cert.KvBwdIdeal.nD Cert.KvBwdIdeal.τ).loc Cert.KvBwdIdeal.main_arg3))
      ∧ θ_run (Cert.KvGradIdeal.defs (F := Ideal)) (onTc (τ := Cert.KvGradIdeal.τ) (Cert.KvGradIdeal.main (F := Ideal))) ⟨m', fun _ => 0, g'⟩ (fun r => ∀ c : Dev Cert.KvGradIdeal.nD,
          r.2.mem ((c.tc : Thread Cert.KvGradIdeal.nD Cert.KvGradIdeal.τ).loc Cert.KvGradIdeal.main_v28) = v0 c
          ∧ r.2.mem ((c.tc : Thread Cert.KvGradIdeal.nD Cert.KvGradIdeal.τ).loc Cert.KvGradIdeal.main_v18) = v1 c
          ∧ r.2.mem ((c.tc : Thread Cert.KvGradIdeal.nD Cert.KvGradIdeal.τ).loc Cert.KvGradIdeal.main_arg0) = m' ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m' ((c.tc : Thread Cert.KvGradIdeal.nD Cert.KvGradIdeal.τ).loc Cert.KvGradIdeal.main_arg1)
          ∧ r.2.mem ((c.tc : Thread Cert.KvGradIdeal.nD Cert.KvGradIdeal.τ).loc Cert.KvGradIdeal.main_arg2) = m' ((c.tc : Thread Cert.KvGradIdeal.nD Cert.KvGradIdeal.τ).loc Cert.KvGradIdeal.main_arg2)
          ∧ r.2.mem ((c.tc : Thread Cert.KvGradIdeal.nD Cert.KvGradIdeal.τ).loc Cert.KvGradIdeal.main_arg3) = m' ((c.tc : Thread Cert.KvGradIdeal.nD Cert.KvGradIdeal.τ).loc Cert.KvGradIdeal.main_arg3))

def preserves_AttnBwd_AttnBwdIdeal : Prop :=
  True

def algebraic_AttnBwdIdeal_AttnGradIdeal_pre_finite_attn [hAttnBwdIdeal : Cert.AttnBwdIdeal.Facts] [hAttnGradIdeal : Cert.AttnGradIdeal.Facts] [hPre_finite_attn : Cert.Pre_finite_attn.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnGradIdeal.nD Cert.AttnGradIdeal.τ Cert.AttnGradIdeal.sig) → Buf (Elt Ideal) ℓ) (g' : Dev Cert.AttnGradIdeal.nD → PrngReg), Pre_AttnBwdIdeal_finite_attn m →
    (∀ c : Dev Cert.AttnBwdIdeal.nD,
      m' ((c.tc : Thread Cert.AttnGradIdeal.nD Cert.AttnGradIdeal.τ).loc Cert.AttnGradIdeal.main_arg0) = m ((c.tc : Thread Cert.AttnBwdIdeal.nD Cert.AttnBwdIdeal.τ).loc Cert.AttnBwdIdeal.main_arg0)
      ∧ m' ((c.tc : Thread Cert.AttnGradIdeal.nD Cert.AttnGradIdeal.τ).loc Cert.AttnGradIdeal.main_arg1) = m ((c.tc : Thread Cert.AttnBwdIdeal.nD Cert.AttnBwdIdeal.τ).loc Cert.AttnBwdIdeal.main_arg1)
      ∧ m' ((c.tc : Thread Cert.AttnGradIdeal.nD Cert.AttnGradIdeal.τ).loc Cert.AttnGradIdeal.main_arg2) = m ((c.tc : Thread Cert.AttnBwdIdeal.nD Cert.AttnBwdIdeal.τ).loc Cert.AttnBwdIdeal.main_arg2)
      ∧ m' ((c.tc : Thread Cert.AttnGradIdeal.nD Cert.AttnGradIdeal.τ).loc Cert.AttnGradIdeal.main_arg3) = m ((c.tc : Thread Cert.AttnBwdIdeal.nD Cert.AttnBwdIdeal.τ).loc Cert.AttnBwdIdeal.main_arg3)
      ∧ m' ((c.tc : Thread Cert.AttnGradIdeal.nD Cert.AttnGradIdeal.τ).loc Cert.AttnGradIdeal.main_arg4) = m ((c.tc : Thread Cert.AttnBwdIdeal.nD Cert.AttnBwdIdeal.τ).loc Cert.AttnBwdIdeal.main_arg4)
      ∧ m' ((c.tc : Thread Cert.AttnGradIdeal.nD Cert.AttnGradIdeal.τ).loc Cert.AttnGradIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v19_0)) (v1 : (c : Dev Cert.AttnBwdIdeal.nD) → Buf (Elt Ideal) ((c.tc : Thread Cert.AttnBwdIdeal.nD Cert.AttnBwdIdeal.τ).loc Cert.AttnBwdIdeal.main_v19_1)) (v2 : (c : Dev Cert.AttnBwdIdeal.nD) → Buf (Elt Ideal) ((c.tc : Thread Cert.AttnBwdIdeal.nD Cert.AttnBwdIdeal.τ).loc Cert.AttnBwdIdeal.main_v19_2)) (v3 : (c : Dev Cert.AttnBwdIdeal.nD) → Buf (Elt Ideal) ((c.tc : Thread Cert.AttnBwdIdeal.nD Cert.AttnBwdIdeal.τ).loc Cert.AttnBwdIdeal.main_v19_3)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v19_0) = v0 c
          ∧ r.2.mem ((c.tc : Thread Cert.AttnBwdIdeal.nD Cert.AttnBwdIdeal.τ).loc Cert.AttnBwdIdeal.main_v19_1) = v1 c
          ∧ r.2.mem ((c.tc : Thread Cert.AttnBwdIdeal.nD Cert.AttnBwdIdeal.τ).loc Cert.AttnBwdIdeal.main_v19_2) = v2 c
          ∧ r.2.mem ((c.tc : Thread Cert.AttnBwdIdeal.nD Cert.AttnBwdIdeal.τ).loc Cert.AttnBwdIdeal.main_v19_3) = v3 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnGradIdeal.defs (F := Ideal)) (onTc (τ := Cert.AttnGradIdeal.τ) (Cert.AttnGradIdeal.main (F := Ideal))) ⟨m', fun _ => 0, g'⟩ (fun r => ∀ c : Dev Cert.AttnGradIdeal.nD,
          r.2.mem ((c.tc : Thread Cert.AttnGradIdeal.nD Cert.AttnGradIdeal.τ).loc Cert.AttnGradIdeal.main_v105) = v0 c
          ∧ r.2.mem ((c.tc : Thread Cert.AttnGradIdeal.nD Cert.AttnGradIdeal.τ).loc Cert.AttnGradIdeal.main_v104) = v1 c
          ∧ r.2.mem ((c.tc : Thread Cert.AttnGradIdeal.nD Cert.AttnGradIdeal.τ).loc Cert.AttnGradIdeal.main_v83) = v2 c
          ∧ r.2.mem ((c.tc : Thread Cert.AttnGradIdeal.nD Cert.AttnGradIdeal.τ).loc Cert.AttnGradIdeal.main_v87) = v3 c
          ∧ r.2.mem ((c.tc : Thread Cert.AttnGradIdeal.nD Cert.AttnGradIdeal.τ).loc Cert.AttnGradIdeal.main_arg0) = m' ((c.tc : Thread Cert.AttnGradIdeal.nD Cert.AttnGradIdeal.τ).loc Cert.AttnGradIdeal.main_arg0)
          ∧ r.2.mem ((c.tc : Thread Cert.AttnGradIdeal.nD Cert.AttnGradIdeal.τ).loc Cert.AttnGradIdeal.main_arg1) = m' ((c.tc : Thread Cert.AttnGradIdeal.nD Cert.AttnGradIdeal.τ).loc Cert.AttnGradIdeal.main_arg1)
          ∧ r.2.mem ((c.tc : Thread Cert.AttnGradIdeal.nD Cert.AttnGradIdeal.τ).loc Cert.AttnGradIdeal.main_arg2) = m' ((c.tc : Thread Cert.AttnGradIdeal.nD Cert.AttnGradIdeal.τ).loc Cert.AttnGradIdeal.main_arg2)
          ∧ r.2.mem ((c.tc : Thread Cert.AttnGradIdeal.nD Cert.AttnGradIdeal.τ).loc Cert.AttnGradIdeal.main_arg3) = m' ((c.tc : Thread Cert.AttnGradIdeal.nD Cert.AttnGradIdeal.τ).loc Cert.AttnGradIdeal.main_arg3)
          ∧ r.2.mem ((c.tc : Thread Cert.AttnGradIdeal.nD Cert.AttnGradIdeal.τ).loc Cert.AttnGradIdeal.main_arg4) = m' ((c.tc : Thread Cert.AttnGradIdeal.nD Cert.AttnGradIdeal.τ).loc Cert.AttnGradIdeal.main_arg4)
          ∧ r.2.mem ((c.tc : Thread Cert.AttnGradIdeal.nD Cert.AttnGradIdeal.τ).loc Cert.AttnGradIdeal.main_arg5) = m' ((c.tc : Thread Cert.AttnGradIdeal.nD Cert.AttnGradIdeal.τ).loc Cert.AttnGradIdeal.main_arg5))

def preserves_InBwd_InBwdIdeal : Prop :=
  True

def algebraic_InBwdIdeal_InGradIdeal_pre_finite_in [hInBwdIdeal : Cert.InBwdIdeal.Facts] [hInGradIdeal : Cert.InGradIdeal.Facts] [hPre_finite_in : Cert.Pre_finite_in.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InGradIdeal.nD Cert.InGradIdeal.τ Cert.InGradIdeal.sig) → Buf (Elt Ideal) ℓ) (g' : Dev Cert.InGradIdeal.nD → PrngReg), Pre_InBwdIdeal_finite_in m →
    (∀ c : Dev Cert.InBwdIdeal.nD,
      m' ((c.tc : Thread Cert.InGradIdeal.nD Cert.InGradIdeal.τ).loc Cert.InGradIdeal.main_arg0) = m ((c.tc : Thread Cert.InBwdIdeal.nD Cert.InBwdIdeal.τ).loc Cert.InBwdIdeal.main_arg0)
      ∧ m' ((c.tc : Thread Cert.InGradIdeal.nD Cert.InGradIdeal.τ).loc Cert.InGradIdeal.main_arg1) = m ((c.tc : Thread Cert.InBwdIdeal.nD Cert.InBwdIdeal.τ).loc Cert.InBwdIdeal.main_arg1)
      ∧ m' ((c.tc : Thread Cert.InGradIdeal.nD Cert.InGradIdeal.τ).loc Cert.InGradIdeal.main_arg2) = m ((c.tc : Thread Cert.InBwdIdeal.nD Cert.InBwdIdeal.τ).loc Cert.InBwdIdeal.main_arg2)
      ∧ m' ((c.tc : Thread Cert.InGradIdeal.nD Cert.InGradIdeal.τ).loc Cert.InGradIdeal.main_arg3) = m ((c.tc : Thread Cert.InBwdIdeal.nD Cert.InBwdIdeal.τ).loc Cert.InBwdIdeal.main_arg3)
      ∧ m' ((c.tc : Thread Cert.InGradIdeal.nD Cert.InGradIdeal.τ).loc Cert.InGradIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v20_0)) (v1 : (c : Dev Cert.InBwdIdeal.nD) → Buf (Elt Ideal) ((c.tc : Thread Cert.InBwdIdeal.nD Cert.InBwdIdeal.τ).loc Cert.InBwdIdeal.main_v20_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v20_0) = v0 c
          ∧ r.2.mem ((c.tc : Thread Cert.InBwdIdeal.nD Cert.InBwdIdeal.τ).loc Cert.InBwdIdeal.main_v20_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InGradIdeal.defs (F := Ideal)) (onTc (τ := Cert.InGradIdeal.τ) (Cert.InGradIdeal.main (F := Ideal))) ⟨m', fun _ => 0, g'⟩ (fun r => ∀ c : Dev Cert.InGradIdeal.nD,
          r.2.mem ((c.tc : Thread Cert.InGradIdeal.nD Cert.InGradIdeal.τ).loc Cert.InGradIdeal.main_v36) = v0 c
          ∧ r.2.mem ((c.tc : Thread Cert.InGradIdeal.nD Cert.InGradIdeal.τ).loc Cert.InGradIdeal.main_v19) = v1 c
          ∧ r.2.mem ((c.tc : Thread Cert.InGradIdeal.nD Cert.InGradIdeal.τ).loc Cert.InGradIdeal.main_arg0) = m' ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m' ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m' ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m' ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m' ((c.tc : Thread Cert.InGradIdeal.nD Cert.InGradIdeal.τ).loc Cert.InGradIdeal.main_arg4))

def preserves_FfnBwd_FfnBwdIdeal : Prop :=
  IdealRules.named_const.Statement Cert.FfnBwdIdeal.κ "gelu_ck" .f32 0x3D122279#32 ((80338380498831 / 2251799813685248 : ℝ) : EReal)
  ∧ IdealRules.named_const.Statement Cert.FfnBwdIdeal.κ "gelu_3ck" .f32 0x3DDB33B6#32 ((241015141496493 / 2251799813685248 : ℝ) : EReal)

def algebraic_FfnBwdIdeal_FfnGradIdeal_pre_finite_ffn [hFfnBwdIdeal : Cert.FfnBwdIdeal.Facts] [hFfnGradIdeal : Cert.FfnGradIdeal.Facts] [hPre_finite_ffn : Cert.Pre_finite_ffn.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnGradIdeal.nD Cert.FfnGradIdeal.τ Cert.FfnGradIdeal.sig) → Buf (Elt Ideal) ℓ) (g' : Dev Cert.FfnGradIdeal.nD → PrngReg), Pre_FfnBwdIdeal_finite_ffn m →
    (∀ c : Dev Cert.FfnBwdIdeal.nD,
      m' ((c.tc : Thread Cert.FfnGradIdeal.nD Cert.FfnGradIdeal.τ).loc Cert.FfnGradIdeal.main_arg0) = m ((c.tc : Thread Cert.FfnBwdIdeal.nD Cert.FfnBwdIdeal.τ).loc Cert.FfnBwdIdeal.main_arg0)
      ∧ m' ((c.tc : Thread Cert.FfnGradIdeal.nD Cert.FfnGradIdeal.τ).loc Cert.FfnGradIdeal.main_arg1) = m ((c.tc : Thread Cert.FfnBwdIdeal.nD Cert.FfnBwdIdeal.τ).loc Cert.FfnBwdIdeal.main_arg1)
      ∧ m' ((c.tc : Thread Cert.FfnGradIdeal.nD Cert.FfnGradIdeal.τ).loc Cert.FfnGradIdeal.main_arg2) = m ((c.tc : Thread Cert.FfnBwdIdeal.nD Cert.FfnBwdIdeal.τ).loc Cert.FfnBwdIdeal.main_arg2)
      ∧ m' ((c.tc : Thread Cert.FfnGradIdeal.nD Cert.FfnGradIdeal.τ).loc Cert.FfnGradIdeal.main_arg3) = m ((c.tc : Thread Cert.FfnBwdIdeal.nD Cert.FfnBwdIdeal.τ).loc Cert.FfnBwdIdeal.main_arg3)
      ∧ m' ((c.tc : Thread Cert.FfnGradIdeal.nD Cert.FfnGradIdeal.τ).loc Cert.FfnGradIdeal.main_arg4) = m ((c.tc : Thread Cert.FfnBwdIdeal.nD Cert.FfnBwdIdeal.τ).loc Cert.FfnBwdIdeal.main_arg4)
      ∧ m' ((c.tc : Thread Cert.FfnGradIdeal.nD Cert.FfnGradIdeal.τ).loc Cert.FfnGradIdeal.main_arg5) = m ((c.tc : Thread Cert.FfnBwdIdeal.nD Cert.FfnBwdIdeal.τ).loc Cert.FfnBwdIdeal.main_arg5)
      ∧ m' ((c.tc : Thread Cert.FfnGradIdeal.nD Cert.FfnGradIdeal.τ).loc Cert.FfnGradIdeal.main_arg6) = m ((c.tc : Thread Cert.FfnBwdIdeal.nD Cert.FfnBwdIdeal.τ).loc Cert.FfnBwdIdeal.main_arg6)) →
    ∃ (v0 : (c : Dev Cert.FfnBwdIdeal.nD) → Buf (Elt Ideal) ((c.tc : Thread Cert.FfnBwdIdeal.nD Cert.FfnBwdIdeal.τ).loc Cert.FfnBwdIdeal.main_v37_0)) (v1 : (c : Dev Cert.FfnBwdIdeal.nD) → Buf (Elt Ideal) ((c.tc : Thread Cert.FfnBwdIdeal.nD Cert.FfnBwdIdeal.τ).loc Cert.FfnBwdIdeal.main_v37_1)) (v2 : (c : Dev Cert.FfnBwdIdeal.nD) → Buf (Elt Ideal) ((c.tc : Thread Cert.FfnBwdIdeal.nD Cert.FfnBwdIdeal.τ).loc Cert.FfnBwdIdeal.main_v37_2)) (v3 : (c : Dev Cert.FfnBwdIdeal.nD) → Buf (Elt Ideal) ((c.tc : Thread Cert.FfnBwdIdeal.nD Cert.FfnBwdIdeal.τ).loc Cert.FfnBwdIdeal.main_v37_3)) (v4 : (c : Dev Cert.FfnBwdIdeal.nD) → Buf (Elt Ideal) ((c.tc : Thread Cert.FfnBwdIdeal.nD Cert.FfnBwdIdeal.τ).loc Cert.FfnBwdIdeal.main_v37_4)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v37_0) = v0 c
          ∧ r.2.mem ((c.tc : Thread Cert.FfnBwdIdeal.nD Cert.FfnBwdIdeal.τ).loc Cert.FfnBwdIdeal.main_v37_1) = v1 c
          ∧ r.2.mem ((c.tc : Thread Cert.FfnBwdIdeal.nD Cert.FfnBwdIdeal.τ).loc Cert.FfnBwdIdeal.main_v37_2) = v2 c
          ∧ r.2.mem ((c.tc : Thread Cert.FfnBwdIdeal.nD Cert.FfnBwdIdeal.τ).loc Cert.FfnBwdIdeal.main_v37_3) = v3 c
          ∧ r.2.mem ((c.tc : Thread Cert.FfnBwdIdeal.nD Cert.FfnBwdIdeal.τ).loc Cert.FfnBwdIdeal.main_v37_4) = v4 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6))
      ∧ θ_run (Cert.FfnGradIdeal.defs (F := Ideal)) (onTc (τ := Cert.FfnGradIdeal.τ) (Cert.FfnGradIdeal.main (F := Ideal))) ⟨m', fun _ => 0, g'⟩ (fun r => ∀ c : Dev Cert.FfnGradIdeal.nD,
          r.2.mem ((c.tc : Thread Cert.FfnGradIdeal.nD Cert.FfnGradIdeal.τ).loc Cert.FfnGradIdeal.main_v136) = v0 c
          ∧ r.2.mem ((c.tc : Thread Cert.FfnGradIdeal.nD Cert.FfnGradIdeal.τ).loc Cert.FfnGradIdeal.main_v125) = v1 c
          ∧ r.2.mem ((c.tc : Thread Cert.FfnGradIdeal.nD Cert.FfnGradIdeal.τ).loc Cert.FfnGradIdeal.main_v108) = v2 c
          ∧ r.2.mem ((c.tc : Thread Cert.FfnGradIdeal.nD Cert.FfnGradIdeal.τ).loc Cert.FfnGradIdeal.main_v101) = v3 c
          ∧ r.2.mem ((c.tc : Thread Cert.FfnGradIdeal.nD Cert.FfnGradIdeal.τ).loc Cert.FfnGradIdeal.main_v76) = v4 c
          ∧ r.2.mem ((c.tc : Thread Cert.FfnGradIdeal.nD Cert.FfnGradIdeal.τ).loc Cert.FfnGradIdeal.main_arg0) = m' ((c.tc : Thread Cert.FfnGradIdeal.nD Cert.FfnGradIdeal.τ).loc Cert.FfnGradIdeal.main_arg0)
          ∧ r.2.mem ((c.tc : Thread Cert.FfnGradIdeal.nD Cert.FfnGradIdeal.τ).loc Cert.FfnGradIdeal.main_arg1) = m' ((c.tc : Thread Cert.FfnGradIdeal.nD Cert.FfnGradIdeal.τ).loc Cert.FfnGradIdeal.main_arg1)
          ∧ r.2.mem ((c.tc : Thread Cert.FfnGradIdeal.nD Cert.FfnGradIdeal.τ).loc Cert.FfnGradIdeal.main_arg2) = m' ((c.tc : Thread Cert.FfnGradIdeal.nD Cert.FfnGradIdeal.τ).loc Cert.FfnGradIdeal.main_arg2)
          ∧ r.2.mem ((c.tc : Thread Cert.FfnGradIdeal.nD Cert.FfnGradIdeal.τ).loc Cert.FfnGradIdeal.main_arg3) = m' ((c.tc : Thread Cert.FfnGradIdeal.nD Cert.FfnGradIdeal.τ).loc Cert.FfnGradIdeal.main_arg3)
          ∧ r.2.mem ((c.tc : Thread Cert.FfnGradIdeal.nD Cert.FfnGradIdeal.τ).loc Cert.FfnGradIdeal.main_arg4) = m' ((c.tc : Thread Cert.FfnGradIdeal.nD Cert.FfnGradIdeal.τ).loc Cert.FfnGradIdeal.main_arg4)
          ∧ r.2.mem ((c.tc : Thread Cert.FfnGradIdeal.nD Cert.FfnGradIdeal.τ).loc Cert.FfnGradIdeal.main_arg5) = m' ((c.tc : Thread Cert.FfnGradIdeal.nD Cert.FfnGradIdeal.τ).loc Cert.FfnGradIdeal.main_arg5)
          ∧ r.2.mem ((c.tc : Thread Cert.FfnGradIdeal.nD Cert.FfnGradIdeal.τ).loc Cert.FfnGradIdeal.main_arg6) = m' ((c.tc : Thread Cert.FfnGradIdeal.nD Cert.FfnGradIdeal.τ).loc Cert.FfnGradIdeal.main_arg6))

def preserves_ConfBwd_ConfBwdIdeal : Prop :=
  True

def algebraic_ConfBwdIdeal_ConfGradIdeal_on_written_pre_finite_conf [hConfBwdIdeal : Cert.ConfBwdIdeal.Facts] [hConfGradIdeal : Cert.ConfGradIdeal.Facts] [hPre_finite_conf : Cert.Pre_finite_conf.Facts] [hOn_written : Cert.On_written.Facts] : Prop :=
  ∀ (m : (ℓ : Loc Cert.ConfBwdIdeal.nD Cert.ConfBwdIdeal.τ Cert.ConfBwdIdeal.sig) → Buf (Elt Ideal) ℓ) (g : Dev Cert.ConfBwdIdeal.nD → PrngReg)
    (m' : (ℓ : Loc Cert.ConfGradIdeal.nD Cert.ConfGradIdeal.τ Cert.ConfGradIdeal.sig) → Buf (Elt Ideal) ℓ) (g' : Dev Cert.ConfGradIdeal.nD → PrngReg), Pre_ConfBwdIdeal_finite_conf m →
    (∀ c : Dev Cert.ConfBwdIdeal.nD,
      m' ((c.tc : Thread Cert.ConfGradIdeal.nD Cert.ConfGradIdeal.τ).loc Cert.ConfGradIdeal.main_arg0) = m ((c.tc : Thread Cert.ConfBwdIdeal.nD Cert.ConfBwdIdeal.τ).loc Cert.ConfBwdIdeal.main_arg0)
      ∧ m' ((c.tc : Thread Cert.ConfGradIdeal.nD Cert.ConfGradIdeal.τ).loc Cert.ConfGradIdeal.main_arg1) = m ((c.tc : Thread Cert.ConfBwdIdeal.nD Cert.ConfBwdIdeal.τ).loc Cert.ConfBwdIdeal.main_arg1)
      ∧ m' ((c.tc : Thread Cert.ConfGradIdeal.nD Cert.ConfGradIdeal.τ).loc Cert.ConfGradIdeal.main_arg2) = m ((c.tc : Thread Cert.ConfBwdIdeal.nD Cert.ConfBwdIdeal.τ).loc Cert.ConfBwdIdeal.main_arg2)
      ∧ m' ((c.tc : Thread Cert.ConfGradIdeal.nD Cert.ConfGradIdeal.τ).loc Cert.ConfGradIdeal.main_arg3) = m ((c.tc : Thread Cert.ConfBwdIdeal.nD Cert.ConfBwdIdeal.τ).loc Cert.ConfBwdIdeal.main_arg3)
      ∧ m' ((c.tc : Thread Cert.ConfGradIdeal.nD Cert.ConfGradIdeal.τ).loc Cert.ConfGradIdeal.main_arg4) = m ((c.tc : Thread Cert.ConfBwdIdeal.nD Cert.ConfBwdIdeal.τ).loc Cert.ConfBwdIdeal.main_arg4)
      ∧ m' ((c.tc : Thread Cert.ConfGradIdeal.nD Cert.ConfGradIdeal.τ).loc Cert.ConfGradIdeal.main_arg5) = m ((c.tc : Thread Cert.ConfBwdIdeal.nD Cert.ConfBwdIdeal.τ).loc Cert.ConfBwdIdeal.main_arg5)
      ∧ m' ((c.tc : Thread Cert.ConfGradIdeal.nD Cert.ConfGradIdeal.τ).loc Cert.ConfGradIdeal.main_arg6) = m ((c.tc : Thread Cert.ConfBwdIdeal.nD Cert.ConfBwdIdeal.τ).loc Cert.ConfBwdIdeal.main_arg6)) →
    ∃ (v0 : (c : Dev Cert.ConfBwdIdeal.nD) → Buf (Elt Ideal) ((c.tc : Thread Cert.ConfBwdIdeal.nD Cert.ConfBwdIdeal.τ).loc Cert.ConfBwdIdeal.main_v180_0)) (v1 : (c : Dev Cert.ConfBwdIdeal.nD) → Buf (Elt Ideal) ((c.tc : Thread Cert.ConfBwdIdeal.nD Cert.ConfBwdIdeal.τ).loc Cert.ConfBwdIdeal.main_v180_1)) (v2 : (c : Dev Cert.ConfBwdIdeal.nD) → Buf (Elt Ideal) ((c.tc : Thread Cert.ConfBwdIdeal.nD Cert.ConfBwdIdeal.τ).loc Cert.ConfBwdIdeal.main_v180_2)) (v3 : (c : Dev Cert.ConfBwdIdeal.nD) → Buf (Elt Ideal) ((c.tc : Thread Cert.ConfBwdIdeal.nD Cert.ConfBwdIdeal.τ).loc Cert.ConfBwdIdeal.main_v180_3)) (v4 : (c : Dev Cert.ConfBwdIdeal.nD) → Buf (Elt Ideal) ((c.tc : Thread Cert.ConfBwdIdeal.nD Cert.ConfBwdIdeal.τ).loc Cert.ConfBwdIdeal.main_v180_4)),
      θ_run (Cert.ConfBwdIdeal.defs (F := Ideal)) (onTc (τ := Cert.ConfBwdIdeal.τ) (Cert.ConfBwdIdeal.main (F := Ideal))) ⟨m, fun _ => 0, g⟩ (fun r => ∀ c : Dev Cert.ConfBwdIdeal.nD,
          (∀ i : (⟨3, ![4, 8192, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).1 i = 1#1 → r.2.mem ((c.tc : Thread Cert.ConfBwdIdeal.nD Cert.ConfBwdIdeal.τ).loc Cert.ConfBwdIdeal.main_v180_0) i = v0 c i)
          ∧ (∀ i : (⟨2, ![31, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.1 i = 1#1 → r.2.mem ((c.tc : Thread Cert.ConfBwdIdeal.nD Cert.ConfBwdIdeal.τ).loc Cert.ConfBwdIdeal.main_v180_1) i = v1 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.1 i = 1#1 → r.2.mem ((c.tc : Thread Cert.ConfBwdIdeal.nD Cert.ConfBwdIdeal.τ).loc Cert.ConfBwdIdeal.main_v180_2) i = v2 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.2.1 i = 1#1 → r.2.mem ((c.tc : Thread Cert.ConfBwdIdeal.nD Cert.ConfBwdIdeal.τ).loc Cert.ConfBwdIdeal.main_v180_3) i = v3 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.2.2 i = 1#1 → r.2.mem ((c.tc : Thread Cert.ConfBwdIdeal.nD Cert.ConfBwdIdeal.τ).loc Cert.ConfBwdIdeal.main_v180_4) i = v4 c i)
          ∧ r.2.mem ((c.tc : Thread Cert.ConfBwdIdeal.nD Cert.ConfBwdIdeal.τ).loc Cert.ConfBwdIdeal.main_arg0) = m ((c.tc : Thread Cert.ConfBwdIdeal.nD Cert.ConfBwdIdeal.τ).loc Cert.ConfBwdIdeal.main_arg0)
          ∧ r.2.mem ((c.tc : Thread Cert.ConfBwdIdeal.nD Cert.ConfBwdIdeal.τ).loc Cert.ConfBwdIdeal.main_arg1) = m ((c.tc : Thread Cert.ConfBwdIdeal.nD Cert.ConfBwdIdeal.τ).loc Cert.ConfBwdIdeal.main_arg1)
          ∧ r.2.mem ((c.tc : Thread Cert.ConfBwdIdeal.nD Cert.ConfBwdIdeal.τ).loc Cert.ConfBwdIdeal.main_arg2) = m ((c.tc : Thread Cert.ConfBwdIdeal.nD Cert.ConfBwdIdeal.τ).loc Cert.ConfBwdIdeal.main_arg2)
          ∧ r.2.mem ((c.tc : Thread Cert.ConfBwdIdeal.nD Cert.ConfBwdIdeal.τ).loc Cert.ConfBwdIdeal.main_arg3) = m ((c.tc : Thread Cert.ConfBwdIdeal.nD Cert.ConfBwdIdeal.τ).loc Cert.ConfBwdIdeal.main_arg3)
          ∧ r.2.mem ((c.tc : Thread Cert.ConfBwdIdeal.nD Cert.ConfBwdIdeal.τ).loc Cert.ConfBwdIdeal.main_arg4) = m ((c.tc : Thread Cert.ConfBwdIdeal.nD Cert.ConfBwdIdeal.τ).loc Cert.ConfBwdIdeal.main_arg4)
          ∧ r.2.mem ((c.tc : Thread Cert.ConfBwdIdeal.nD Cert.ConfBwdIdeal.τ).loc Cert.ConfBwdIdeal.main_arg5) = m ((c.tc : Thread Cert.ConfBwdIdeal.nD Cert.ConfBwdIdeal.τ).loc Cert.ConfBwdIdeal.main_arg5)
          ∧ r.2.mem ((c.tc : Thread Cert.ConfBwdIdeal.nD Cert.ConfBwdIdeal.τ).loc Cert.ConfBwdIdeal.main_arg6) = m ((c.tc : Thread Cert.ConfBwdIdeal.nD Cert.ConfBwdIdeal.τ).loc Cert.ConfBwdIdeal.main_arg6))
      ∧ θ_run (Cert.ConfGradIdeal.defs (F := Ideal)) (onTc (τ := Cert.ConfGradIdeal.τ) (Cert.ConfGradIdeal.main (F := Ideal))) ⟨m', fun _ => 0, g'⟩ (fun r => ∀ c : Dev Cert.ConfGradIdeal.nD,
          (∀ i : (⟨3, ![4, 8192, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).1 i = 1#1 → r.2.mem ((c.tc : Thread Cert.ConfGradIdeal.nD Cert.ConfGradIdeal.τ).loc Cert.ConfGradIdeal.main_v517) i = v0 c i)
          ∧ (∀ i : (⟨2, ![31, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.1 i = 1#1 → r.2.mem ((c.tc : Thread Cert.ConfGradIdeal.nD Cert.ConfGradIdeal.τ).loc Cert.ConfGradIdeal.main_v506) i = v1 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.1 i = 1#1 → r.2.mem ((c.tc : Thread Cert.ConfGradIdeal.nD Cert.ConfGradIdeal.τ).loc Cert.ConfGradIdeal.main_v229) i = v2 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.2.1 i = 1#1 → r.2.mem ((c.tc : Thread Cert.ConfGradIdeal.nD Cert.ConfGradIdeal.τ).loc Cert.ConfGradIdeal.main_v203) i = v3 c i)
          ∧ (∀ i : (⟨2, ![1, 512]⟩ : Shape).Idx, (Cert.On_written.fn (F := Ideal) (m ((c.tc : Thread Cert.ConfBwdIdeal.nD Cert.ConfBwdIdeal.τ).loc Cert.ConfBwdIdeal.main_arg0)) (m ((c.tc : Thread Cert.ConfBwdIdeal.nD Cert.ConfBwdIdeal.τ).loc Cert.ConfBwdIdeal.main_arg1)) (m ((c.tc : Thread Cert.ConfBwdIdeal.nD Cert.ConfBwdIdeal.τ).loc Cert.ConfBwdIdeal.main_arg2)) (m ((c.tc : Thread Cert.ConfBwdIdeal.nD Cert.ConfBwdIdeal.τ).loc Cert.ConfBwdIdeal.main_arg3)) (m ((c.tc : Thread Cert.ConfBwdIdeal.nD Cert.ConfBwdIdeal.τ).loc Cert.ConfBwdIdeal.main_arg4)) (m ((c.tc : Thread Cert.ConfBwdIdeal.nD Cert.ConfBwdIdeal.τ).loc Cert.ConfBwdIdeal.main_arg5)) (m ((c.tc : Thread Cert.ConfBwdIdeal.nD Cert.ConfBwdIdeal.τ).loc Cert.ConfBwdIdeal.main_arg6))).2.2.2.2 i = 1#1 → r.2.mem ((c.tc : Thread Cert.ConfGradIdeal.nD Cert.ConfGradIdeal.τ).loc Cert.ConfGradIdeal.main_v200) i = v4 c i)
          ∧ r.2.mem ((c.tc : Thread Cert.ConfGradIdeal.nD Cert.ConfGradIdeal.τ).loc Cert.ConfGradIdeal.main_arg0) = m' ((c.tc : Thread Cert.ConfGradIdeal.nD Cert.ConfGradIdeal.τ).loc Cert.ConfGradIdeal.main_arg0)
          ∧ r.2.mem ((c.tc : Thread Cert.ConfGradIdeal.nD Cert.ConfGradIdeal.τ).loc Cert.ConfGradIdeal.main_arg1) = m' ((c.tc : Thread Cert.ConfGradIdeal.nD Cert.ConfGradIdeal.τ).loc Cert.ConfGradIdeal.main_arg1)
          ∧ r.2.mem ((c.tc : Thread Cert.ConfGradIdeal.nD Cert.ConfGradIdeal.τ).loc Cert.ConfGradIdeal.main_arg2) = m' ((c.tc : Thread Cert.ConfGradIdeal.nD Cert.ConfGradIdeal.τ).loc Cert.ConfGradIdeal.main_arg2)
          ∧ r.2.mem ((c.tc : Thread Cert.ConfGradIdeal.nD Cert.ConfGradIdeal.τ).loc Cert.ConfGradIdeal.main_arg3) = m' ((c.tc : Thread Cert.ConfGradIdeal.nD Cert.ConfGradIdeal.τ).loc Cert.ConfGradIdeal.main_arg3)
          ∧ r.2.mem ((c.tc : Thread Cert.ConfGradIdeal.nD Cert.ConfGradIdeal.τ).loc Cert.ConfGradIdeal.main_arg4) = m' ((c.tc : Thread Cert.ConfGradIdeal.nD Cert.ConfGradIdeal.τ).loc Cert.ConfGradIdeal.main_arg4)
          ∧ r.2.mem ((c.tc : Thread Cert.ConfGradIdeal.nD Cert.ConfGradIdeal.τ).loc Cert.ConfGradIdeal.main_arg5) = m' ((c.tc : Thread Cert.ConfGradIdeal.nD Cert.ConfGradIdeal.τ).loc Cert.ConfGradIdeal.main_arg5)
          ∧ r.2.mem ((c.tc : Thread Cert.ConfGradIdeal.nD Cert.ConfGradIdeal.τ).loc Cert.ConfGradIdeal.main_arg6) = m' ((c.tc : Thread Cert.ConfGradIdeal.nD Cert.ConfGradIdeal.τ).loc Cert.ConfGradIdeal.main_arg6))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v3_0)) (v1 : (c : Dev Cert.AttnFwdIdeal.nD) → Buf (Elt Ideal) ((c.tc : Thread Cert.AttnFwdIdeal.nD Cert.AttnFwdIdeal.τ).loc Cert.AttnFwdIdeal.main_v3_1)) (v2 : (c : Dev Cert.AttnFwdIdeal.nD) → Buf (Elt Ideal) ((c.tc : Thread Cert.AttnFwdIdeal.nD Cert.AttnFwdIdeal.τ).loc Cert.AttnFwdIdeal.main_v3_2)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v3_0) = v0 c
          ∧ r.2.mem ((c.tc : Thread Cert.AttnFwdIdeal.nD Cert.AttnFwdIdeal.τ).loc Cert.AttnFwdIdeal.main_v3_1) = v1 c
          ∧ r.2.mem ((c.tc : Thread Cert.AttnFwdIdeal.nD Cert.AttnFwdIdeal.τ).loc Cert.AttnFwdIdeal.main_v3_2) = v2 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v24) = v0 c
          ∧ r.2.mem ((c.tc : Thread Cert.AttnFwdRefIdeal.nD Cert.AttnFwdRefIdeal.τ).loc Cert.AttnFwdRefIdeal.main_v23) = v1 c
          ∧ r.2.mem ((c.tc : Thread Cert.AttnFwdRefIdeal.nD Cert.AttnFwdRefIdeal.τ).loc Cert.AttnFwdRefIdeal.main_v37) = v2 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_FfnFwd_FfnFwdIdeal : Prop :=
  IdealRules.named_const.Statement Cert.FfnFwdIdeal.κ "gelu_ck" .f32 0x3D122279#32 ((80338380498831 / 2251799813685248 : ℝ) : EReal)

def algebraic_FfnFwdIdeal_FfnFwdRefIdeal_pre_finite_ffn_fwd [hFfnFwdIdeal : Cert.FfnFwdIdeal.Facts] [hFfnFwdRefIdeal : Cert.FfnFwdRefIdeal.Facts] [hPre_finite_ffn_fwd : Cert.Pre_finite_ffn_fwd.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal_finite_ffn_fwd m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)
      ∧ m' ((c.tc : Thread Cert.FfnFwdRefIdeal.nD Cert.FfnFwdRefIdeal.τ).loc Cert.FfnFwdRefIdeal.main_arg7) = m ((c.tc : Thread Cert.FfnFwdIdeal.nD Cert.FfnFwdIdeal.τ).loc Cert.FfnFwdIdeal.main_arg7)) →
    ∃ (v0 : (c : Dev Cert.FfnFwdIdeal.nD) → Buf (Elt Ideal) ((c.tc : Thread Cert.FfnFwdIdeal.nD Cert.FfnFwdIdeal.τ).loc Cert.FfnFwdIdeal.main_v13_0)) (v1 : (c : Dev Cert.FfnFwdIdeal.nD) → Buf (Elt Ideal) ((c.tc : Thread Cert.FfnFwdIdeal.nD Cert.FfnFwdIdeal.τ).loc Cert.FfnFwdIdeal.main_v13_1)) (v2 : (c : Dev Cert.FfnFwdIdeal.nD) → Buf (Elt Ideal) ((c.tc : Thread Cert.FfnFwdIdeal.nD Cert.FfnFwdIdeal.τ).loc Cert.FfnFwdIdeal.main_v13_2)) (v3 : (c : Dev Cert.FfnFwdIdeal.nD) → Buf (Elt Ideal) ((c.tc : Thread Cert.FfnFwdIdeal.nD Cert.FfnFwdIdeal.τ).loc Cert.FfnFwdIdeal.main_v13_3)) (v4 : (c : Dev Cert.FfnFwdIdeal.nD) → Buf (Elt Ideal) ((c.tc : Thread Cert.FfnFwdIdeal.nD Cert.FfnFwdIdeal.τ).loc Cert.FfnFwdIdeal.main_v13_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v13_0) = v0 c
          ∧ r.2.mem ((c.tc : Thread Cert.FfnFwdIdeal.nD Cert.FfnFwdIdeal.τ).loc Cert.FfnFwdIdeal.main_v13_1) = v1 c
          ∧ r.2.mem ((c.tc : Thread Cert.FfnFwdIdeal.nD Cert.FfnFwdIdeal.τ).loc Cert.FfnFwdIdeal.main_v13_2) = v2 c
          ∧ r.2.mem ((c.tc : Thread Cert.FfnFwdIdeal.nD Cert.FfnFwdIdeal.τ).loc Cert.FfnFwdIdeal.main_v13_3) = v3 c
          ∧ r.2.mem ((c.tc : Thread Cert.FfnFwdIdeal.nD Cert.FfnFwdIdeal.τ).loc Cert.FfnFwdIdeal.main_v13_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6)
          ∧ r.2.mem ((c.tc : Thread Cert.FfnFwdIdeal.nD Cert.FfnFwdIdeal.τ).loc Cert.FfnFwdIdeal.main_arg7) = m ((c.tc : Thread Cert.FfnFwdIdeal.nD Cert.FfnFwdIdeal.τ).loc Cert.FfnFwdIdeal.main_arg7))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v100) = v0 c
          ∧ r.2.mem ((c.tc : Thread Cert.FfnFwdRefIdeal.nD Cert.FfnFwdRefIdeal.τ).loc Cert.FfnFwdRefIdeal.main_v90) = v1 c
          ∧ r.2.mem ((c.tc : Thread Cert.FfnFwdRefIdeal.nD Cert.FfnFwdRefIdeal.τ).loc Cert.FfnFwdRefIdeal.main_v84) = v2 c
          ∧ r.2.mem ((c.tc : Thread Cert.FfnFwdRefIdeal.nD Cert.FfnFwdRefIdeal.τ).loc Cert.FfnFwdRefIdeal.main_v59) = v3 c
          ∧ r.2.mem ((c.tc : Thread Cert.FfnFwdRefIdeal.nD Cert.FfnFwdRefIdeal.τ).loc Cert.FfnFwdRefIdeal.main_v68) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6)
          ∧ r.2.mem ((c.tc : Thread Cert.FfnFwdRefIdeal.nD Cert.FfnFwdRefIdeal.τ).loc Cert.FfnFwdRefIdeal.main_arg7) = m' ((c.tc : Thread Cert.FfnFwdRefIdeal.nD Cert.FfnFwdRefIdeal.τ).loc Cert.FfnFwdRefIdeal.main_arg7))

def preserves_KvFwd_KvFwdIdeal : Prop :=
  True

def algebraic_KvFwdIdeal_KvFwdRefIdeal [hKvFwdIdeal : Cert.KvFwdIdeal.Facts] [hKvFwdRefIdeal : Cert.KvFwdRefIdeal.Facts] : Prop :=
  ∀ (m : (ℓ : Loc Cert.KvFwdIdeal.nD Cert.KvFwdIdeal.τ Cert.KvFwdIdeal.sig) → Buf (Elt Ideal) ℓ) (g : Dev Cert.KvFwdIdeal.nD → PrngReg)
    (m' : (ℓ : Loc Cert.KvFwdRefIdeal.nD Cert.KvFwdRefIdeal.τ Cert.KvFwdRefIdeal.sig) → Buf (Elt Ideal) ℓ) (g' : Dev Cert.KvFwdRefIdeal.nD → PrngReg), Pre_KvFwdIdeal m →
    (∀ c : Dev Cert.KvFwdIdeal.nD,
      m' ((c.tc : Thread Cert.KvFwdRefIdeal.nD Cert.KvFwdRefIdeal.τ).loc Cert.KvFwdRefIdeal.main_arg0) = m ((c.tc : Thread Cert.KvFwdIdeal.nD Cert.KvFwdIdeal.τ).loc Cert.KvFwdIdeal.main_arg0)
      ∧ m' ((c.tc : Thread Cert.KvFwdRefIdeal.nD Cert.KvFwdRefIdeal.τ).loc Cert.KvFwdRefIdeal.main_arg1) = m ((c.tc : Thread Cert.KvFwdIdeal.nD Cert.KvFwdIdeal.τ).loc Cert.KvFwdIdeal.main_arg1)
      ∧ m' ((c.tc : Thread Cert.KvFwdRefIdeal.nD Cert.KvFwdRefIdeal.τ).loc Cert.KvFwdRefIdeal.main_arg2) = m ((c.tc : Thread Cert.KvFwdIdeal.nD Cert.KvFwdIdeal.τ).loc Cert.KvFwdIdeal.main_arg2)) →
    ∃ (v0 : (c : Dev Cert.KvFwdIdeal.nD) → Buf (Elt Ideal) ((c.tc : Thread Cert.KvFwdIdeal.nD Cert.KvFwdIdeal.τ).loc Cert.KvFwdIdeal.main_v10_0)) (v1 : (c : Dev Cert.KvFwdIdeal.nD) → Buf (Elt Ideal) ((c.tc : Thread Cert.KvFwdIdeal.nD Cert.KvFwdIdeal.τ).loc Cert.KvFwdIdeal.main_v10_1)),
      θ_run (Cert.KvFwdIdeal.defs (F := Ideal)) (onTc (τ := Cert.KvFwdIdeal.τ) (Cert.KvFwdIdeal.main (F := Ideal))) ⟨m, fun _ => 0, g⟩ (fun r => ∀ c : Dev Cert.KvFwdIdeal.nD,
          r.2.mem ((c.tc : Thread Cert.KvFwdIdeal.nD Cert.KvFwdIdeal.τ).loc Cert.KvFwdIdeal.main_v10_0) = v0 c
          ∧ r.2.mem ((c.tc : Thread Cert.KvFwdIdeal.nD Cert.KvFwdIdeal.τ).loc Cert.KvFwdIdeal.main_v10_1) = v1 c
          ∧ r.2.mem ((c.tc : Thread Cert.KvFwdIdeal.nD Cert.KvFwdIdeal.τ).loc Cert.KvFwdIdeal.main_arg0) = m ((c.tc : Thread Cert.KvFwdIdeal.nD Cert.KvFwdIdeal.τ).loc Cert.KvFwdIdeal.main_arg0)
          ∧ r.2.mem ((c.tc : Thread Cert.KvFwdIdeal.nD Cert.KvFwdIdeal.τ).loc Cert.KvFwdIdeal.main_arg1) = m ((c.tc : Thread Cert.KvFwdIdeal.nD Cert.KvFwdIdeal.τ).loc Cert.KvFwdIdeal.main_arg1)
          ∧ r.2.mem ((c.tc : Thread Cert.KvFwdIdeal.nD Cert.KvFwdIdeal.τ).loc Cert.KvFwdIdeal.main_arg2) = m ((c.tc : Thread Cert.KvFwdIdeal.nD Cert.KvFwdIdeal.τ).loc Cert.KvFwdIdeal.main_arg2))
      ∧ θ_run (Cert.KvFwdRefIdeal.defs (F := Ideal)) (onTc (τ := Cert.KvFwdRefIdeal.τ) (Cert.KvFwdRefIdeal.main (F := Ideal))) ⟨m', fun _ => 0, g'⟩ (fun r => ∀ c : Dev Cert.KvFwdRefIdeal.nD,
          r.2.mem ((c.tc : Thread Cert.KvFwdRefIdeal.nD Cert.KvFwdRefIdeal.τ).loc Cert.KvFwdRefIdeal.main_v12) = v0 c
          ∧ r.2.mem ((c.tc : Thread Cert.KvFwdRefIdeal.nD Cert.KvFwdRefIdeal.τ).loc Cert.KvFwdRefIdeal.main_v14) = v1 c
          ∧ r.2.mem ((c.tc : Thread Cert.KvFwdRefIdeal.nD Cert.KvFwdRefIdeal.τ).loc Cert.KvFwdRefIdeal.main_arg0) = m' ((c.tc : Thread Cert.KvFwdRefIdeal.nD Cert.KvFwdRefIdeal.τ).loc Cert.KvFwdRefIdeal.main_arg0)
          ∧ r.2.mem ((c.tc : Thread Cert.KvFwdRefIdeal.nD Cert.KvFwdRefIdeal.τ).loc Cert.KvFwdRefIdeal.main_arg1) = m' ((c.tc : Thread Cert.KvFwdRefIdeal.nD Cert.KvFwdRefIdeal.τ).loc Cert.KvFwdRefIdeal.main_arg1)
          ∧ r.2.mem ((c.tc : Thread Cert.KvFwdRefIdeal.nD Cert.KvFwdRefIdeal.τ).loc Cert.KvFwdRefIdeal.main_arg2) = m' ((c.tc : Thread Cert.KvFwdRefIdeal.nD Cert.KvFwdRefIdeal.τ).loc Cert.KvFwdRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v10_0)) (v1 : (c : Dev Cert.InFwdIdeal.nD) → Buf (Elt Ideal) ((c.tc : Thread Cert.InFwdIdeal.nD Cert.InFwdIdeal.τ).loc Cert.InFwdIdeal.main_v10_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v10_0) = v0 c
          ∧ r.2.mem ((c.tc : Thread Cert.InFwdIdeal.nD Cert.InFwdIdeal.τ).loc Cert.InFwdIdeal.main_v10_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v21) = v0 c
          ∧ r.2.mem ((c.tc : Thread Cert.InFwdRefIdeal.nD Cert.InFwdRefIdeal.τ).loc Cert.InFwdRefIdeal.main_v22) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v5_0)) (v1 : (c : Dev Cert.OutFwdIdeal.nD) → Buf (Elt Ideal) ((c.tc : Thread Cert.OutFwdIdeal.nD Cert.OutFwdIdeal.τ).loc Cert.OutFwdIdeal.main_v5_1)) (v2 : (c : Dev Cert.OutFwdIdeal.nD) → Buf (Elt Ideal) ((c.tc : Thread Cert.OutFwdIdeal.nD Cert.OutFwdIdeal.τ).loc Cert.OutFwdIdeal.main_v5_2)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v5_0) = v0 c
          ∧ r.2.mem ((c.tc : Thread Cert.OutFwdIdeal.nD Cert.OutFwdIdeal.τ).loc Cert.OutFwdIdeal.main_v5_1) = v1 c
          ∧ r.2.mem ((c.tc : Thread Cert.OutFwdIdeal.nD Cert.OutFwdIdeal.τ).loc Cert.OutFwdIdeal.main_v5_2) = v2 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v2) = v0 c
          ∧ r.2.mem ((c.tc : Thread Cert.OutFwdRefIdeal.nD Cert.OutFwdRefIdeal.τ).loc Cert.OutFwdRefIdeal.main_v15) = v1 c
          ∧ r.2.mem ((c.tc : Thread Cert.OutFwdRefIdeal.nD Cert.OutFwdRefIdeal.τ).loc Cert.OutFwdRefIdeal.main_v17) = v2 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_ConfFwd_ConfFwdIdeal : Prop :=
  True

def algebraic_ConfFwdIdeal_ConfFwdRefIdeal [hConfFwdIdeal : Cert.ConfFwdIdeal.Facts] [hConfFwdRefIdeal : Cert.ConfFwdRefIdeal.Facts] : Prop :=
  ∀ (m : (ℓ : Loc Cert.ConfFwdIdeal.nD Cert.ConfFwdIdeal.τ Cert.ConfFwdIdeal.sig) → Buf (Elt Ideal) ℓ) (g : Dev Cert.ConfFwdIdeal.nD → PrngReg)
    (m' : (ℓ : Loc Cert.ConfFwdRefIdeal.nD Cert.ConfFwdRefIdeal.τ Cert.ConfFwdRefIdeal.sig) → Buf (Elt Ideal) ℓ) (g' : Dev Cert.ConfFwdRefIdeal.nD → PrngReg), Pre_ConfFwdIdeal m →
    (∀ c : Dev Cert.ConfFwdIdeal.nD,
      m' ((c.tc : Thread Cert.ConfFwdRefIdeal.nD Cert.ConfFwdRefIdeal.τ).loc Cert.ConfFwdRefIdeal.main_arg0) = m ((c.tc : Thread Cert.ConfFwdIdeal.nD Cert.ConfFwdIdeal.τ).loc Cert.ConfFwdIdeal.main_arg0)
      ∧ m' ((c.tc : Thread Cert.ConfFwdRefIdeal.nD Cert.ConfFwdRefIdeal.τ).loc Cert.ConfFwdRefIdeal.main_arg1) = m ((c.tc : Thread Cert.ConfFwdIdeal.nD Cert.ConfFwdIdeal.τ).loc Cert.ConfFwdIdeal.main_arg1)
      ∧ m' ((c.tc : Thread Cert.ConfFwdRefIdeal.nD Cert.ConfFwdRefIdeal.τ).loc Cert.ConfFwdRefIdeal.main_arg2) = m ((c.tc : Thread Cert.ConfFwdIdeal.nD Cert.ConfFwdIdeal.τ).loc Cert.ConfFwdIdeal.main_arg2)
      ∧ m' ((c.tc : Thread Cert.ConfFwdRefIdeal.nD Cert.ConfFwdRefIdeal.τ).loc Cert.ConfFwdRefIdeal.main_arg3) = m ((c.tc : Thread Cert.ConfFwdIdeal.nD Cert.ConfFwdIdeal.τ).loc Cert.ConfFwdIdeal.main_arg3)
      ∧ m' ((c.tc : Thread Cert.ConfFwdRefIdeal.nD Cert.ConfFwdRefIdeal.τ).loc Cert.ConfFwdRefIdeal.main_arg4) = m ((c.tc : Thread Cert.ConfFwdIdeal.nD Cert.ConfFwdIdeal.τ).loc Cert.ConfFwdIdeal.main_arg4)) →
    ∃ (v0 : (c : Dev Cert.ConfFwdIdeal.nD) → Buf (Elt Ideal) ((c.tc : Thread Cert.ConfFwdIdeal.nD Cert.ConfFwdIdeal.τ).loc Cert.ConfFwdIdeal.main_v9_0)) (v1 : (c : Dev Cert.ConfFwdIdeal.nD) → Buf (Elt Ideal) ((c.tc : Thread Cert.ConfFwdIdeal.nD Cert.ConfFwdIdeal.τ).loc Cert.ConfFwdIdeal.main_v9_1)),
      θ_run (Cert.ConfFwdIdeal.defs (F := Ideal)) (onTc (τ := Cert.ConfFwdIdeal.τ) (Cert.ConfFwdIdeal.main (F := Ideal))) ⟨m, fun _ => 0, g⟩ (fun r => ∀ c : Dev Cert.ConfFwdIdeal.nD,
          r.2.mem ((c.tc : Thread Cert.ConfFwdIdeal.nD Cert.ConfFwdIdeal.τ).loc Cert.ConfFwdIdeal.main_v9_0) = v0 c
          ∧ r.2.mem ((c.tc : Thread Cert.ConfFwdIdeal.nD Cert.ConfFwdIdeal.τ).loc Cert.ConfFwdIdeal.main_v9_1) = v1 c
          ∧ r.2.mem ((c.tc : Thread Cert.ConfFwdIdeal.nD Cert.ConfFwdIdeal.τ).loc Cert.ConfFwdIdeal.main_arg0) = m ((c.tc : Thread Cert.ConfFwdIdeal.nD Cert.ConfFwdIdeal.τ).loc Cert.ConfFwdIdeal.main_arg0)
          ∧ r.2.mem ((c.tc : Thread Cert.ConfFwdIdeal.nD Cert.ConfFwdIdeal.τ).loc Cert.ConfFwdIdeal.main_arg1) = m ((c.tc : Thread Cert.ConfFwdIdeal.nD Cert.ConfFwdIdeal.τ).loc Cert.ConfFwdIdeal.main_arg1)
          ∧ r.2.mem ((c.tc : Thread Cert.ConfFwdIdeal.nD Cert.ConfFwdIdeal.τ).loc Cert.ConfFwdIdeal.main_arg2) = m ((c.tc : Thread Cert.ConfFwdIdeal.nD Cert.ConfFwdIdeal.τ).loc Cert.ConfFwdIdeal.main_arg2)
          ∧ r.2.mem ((c.tc : Thread Cert.ConfFwdIdeal.nD Cert.ConfFwdIdeal.τ).loc Cert.ConfFwdIdeal.main_arg3) = m ((c.tc : Thread Cert.ConfFwdIdeal.nD Cert.ConfFwdIdeal.τ).loc Cert.ConfFwdIdeal.main_arg3)
          ∧ r.2.mem ((c.tc : Thread Cert.ConfFwdIdeal.nD Cert.ConfFwdIdeal.τ).loc Cert.ConfFwdIdeal.main_arg4) = m ((c.tc : Thread Cert.ConfFwdIdeal.nD Cert.ConfFwdIdeal.τ).loc Cert.ConfFwdIdeal.main_arg4))
      ∧ θ_run (Cert.ConfFwdRefIdeal.defs (F := Ideal)) (onTc (τ := Cert.ConfFwdRefIdeal.τ) (Cert.ConfFwdRefIdeal.main (F := Ideal))) ⟨m', fun _ => 0, g'⟩ (fun r => ∀ c : Dev Cert.ConfFwdRefIdeal.nD,
          r.2.mem ((c.tc : Thread Cert.ConfFwdRefIdeal.nD Cert.ConfFwdRefIdeal.τ).loc Cert.ConfFwdRefIdeal.main_v166) = v0 c
          ∧ r.2.mem ((c.tc : Thread Cert.ConfFwdRefIdeal.nD Cert.ConfFwdRefIdeal.τ).loc Cert.ConfFwdRefIdeal.main_v188) = v1 c
          ∧ r.2.mem ((c.tc : Thread Cert.ConfFwdRefIdeal.nD Cert.ConfFwdRefIdeal.τ).loc Cert.ConfFwdRefIdeal.main_arg0) = m' ((c.tc : Thread Cert.ConfFwdRefIdeal.nD Cert.ConfFwdRefIdeal.τ).loc Cert.ConfFwdRefIdeal.main_arg0)
          ∧ r.2.mem ((c.tc : Thread Cert.ConfFwdRefIdeal.nD Cert.ConfFwdRefIdeal.τ).loc Cert.ConfFwdRefIdeal.main_arg1) = m' ((c.tc : Thread Cert.ConfFwdRefIdeal.nD Cert.ConfFwdRefIdeal.τ).loc Cert.ConfFwdRefIdeal.main_arg1)
          ∧ r.2.mem ((c.tc : Thread Cert.ConfFwdRefIdeal.nD Cert.ConfFwdRefIdeal.τ).loc Cert.ConfFwdRefIdeal.main_arg2) = m' ((c.tc : Thread Cert.ConfFwdRefIdeal.nD Cert.ConfFwdRefIdeal.τ).loc Cert.ConfFwdRefIdeal.main_arg2)
          ∧ r.2.mem ((c.tc : Thread Cert.ConfFwdRefIdeal.nD Cert.ConfFwdRefIdeal.τ).loc Cert.ConfFwdRefIdeal.main_arg3) = m' ((c.tc : Thread Cert.ConfFwdRefIdeal.nD Cert.ConfFwdRefIdeal.τ).loc Cert.ConfFwdRefIdeal.main_arg3)
          ∧ r.2.mem ((c.tc : Thread Cert.ConfFwdRefIdeal.nD Cert.ConfFwdRefIdeal.τ).loc Cert.ConfFwdRefIdeal.main_arg4) = m' ((c.tc : Thread Cert.ConfFwdRefIdeal.nD Cert.ConfFwdRefIdeal.τ).loc Cert.ConfFwdRefIdeal.main_arg4))

def Claim : Prop :=
  ∃ (hKvBwd : Cert.KvBwd.Facts) (hKvBwdIdeal : Cert.KvBwdIdeal.Facts) (hKvGradIdeal : Cert.KvGradIdeal.Facts) (hAttnBwd : Cert.AttnBwd.Facts) (hAttnBwdIdeal : Cert.AttnBwdIdeal.Facts) (hAttnGradIdeal : Cert.AttnGradIdeal.Facts) (hInBwd : Cert.InBwd.Facts) (hInBwdIdeal : Cert.InBwdIdeal.Facts) (hInGradIdeal : Cert.InGradIdeal.Facts) (hFfnBwd : Cert.FfnBwd.Facts) (hFfnBwdIdeal : Cert.FfnBwdIdeal.Facts) (hFfnGradIdeal : Cert.FfnGradIdeal.Facts) (hConfBwd : Cert.ConfBwd.Facts) (hConfBwdIdeal : Cert.ConfBwdIdeal.Facts) (hConfGradIdeal : Cert.ConfGradIdeal.Facts) (hAttnFwd : Cert.AttnFwd.Facts) (hAttnFwdIdeal : Cert.AttnFwdIdeal.Facts) (hAttnFwdRefIdeal : Cert.AttnFwdRefIdeal.Facts) (hFfnFwd : Cert.FfnFwd.Facts) (hFfnFwdIdeal : Cert.FfnFwdIdeal.Facts) (hFfnFwdRefIdeal : Cert.FfnFwdRefIdeal.Facts) (hKvFwd : Cert.KvFwd.Facts) (hKvFwdIdeal : Cert.KvFwdIdeal.Facts) (hKvFwdRefIdeal : Cert.KvFwdRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hConfFwd : Cert.ConfFwd.Facts) (hConfFwdIdeal : Cert.ConfFwdIdeal.Facts) (hConfFwdRefIdeal : Cert.ConfFwdRefIdeal.Facts) (hPre_finite_attn : Cert.Pre_finite_attn.Facts) (hPre_finite_in : Cert.Pre_finite_in.Facts) (hPre_finite_ffn : Cert.Pre_finite_ffn.Facts) (hPre_finite_conf : Cert.Pre_finite_conf.Facts) (hPre_finite_ffn_fwd : Cert.Pre_finite_ffn_fwd.Facts) (hOn_written : Cert.On_written.Facts),
    quiescent_KvBwd (hKvBwd := hKvBwd)
    ∧ quiescent_KvBwdIdeal (hKvBwdIdeal := hKvBwdIdeal)
    ∧ quiescent_KvGradIdeal (hKvGradIdeal := hKvGradIdeal)
    ∧ quiescent_AttnBwd (hAttnBwd := hAttnBwd)
    ∧ quiescent_AttnBwdIdeal (hAttnBwdIdeal := hAttnBwdIdeal)
    ∧ quiescent_AttnBwdIdeal_pre_finite_attn (hAttnBwdIdeal := hAttnBwdIdeal) (hPre_finite_attn := hPre_finite_attn)
    ∧ quiescent_AttnGradIdeal (hAttnGradIdeal := hAttnGradIdeal)
    ∧ quiescent_AttnGradIdeal_pre_finite_attn (hAttnGradIdeal := hAttnGradIdeal) (hPre_finite_attn := hPre_finite_attn)
    ∧ quiescent_InBwd (hInBwd := hInBwd)
    ∧ quiescent_InBwdIdeal (hInBwdIdeal := hInBwdIdeal)
    ∧ quiescent_InBwdIdeal_pre_finite_in (hInBwdIdeal := hInBwdIdeal) (hPre_finite_in := hPre_finite_in)
    ∧ quiescent_InGradIdeal (hInGradIdeal := hInGradIdeal)
    ∧ quiescent_InGradIdeal_pre_finite_in (hInGradIdeal := hInGradIdeal) (hPre_finite_in := hPre_finite_in)
    ∧ quiescent_FfnBwd (hFfnBwd := hFfnBwd)
    ∧ quiescent_FfnBwdIdeal (hFfnBwdIdeal := hFfnBwdIdeal)
    ∧ quiescent_FfnBwdIdeal_pre_finite_ffn (hFfnBwdIdeal := hFfnBwdIdeal) (hPre_finite_ffn := hPre_finite_ffn)
    ∧ quiescent_FfnGradIdeal (hFfnGradIdeal := hFfnGradIdeal)
    ∧ quiescent_FfnGradIdeal_pre_finite_ffn (hFfnGradIdeal := hFfnGradIdeal) (hPre_finite_ffn := hPre_finite_ffn)
    ∧ quiescent_ConfBwd (hConfBwd := hConfBwd)
    ∧ quiescent_ConfBwdIdeal (hConfBwdIdeal := hConfBwdIdeal)
    ∧ quiescent_ConfBwdIdeal_pre_finite_conf (hConfBwdIdeal := hConfBwdIdeal) (hPre_finite_conf := hPre_finite_conf)
    ∧ quiescent_ConfGradIdeal (hConfGradIdeal := hConfGradIdeal)
    ∧ quiescent_ConfGradIdeal_pre_finite_conf (hConfGradIdeal := hConfGradIdeal) (hPre_finite_conf := hPre_finite_conf)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_FfnFwd (hFfnFwd := hFfnFwd)
    ∧ quiescent_FfnFwdIdeal (hFfnFwdIdeal := hFfnFwdIdeal)
    ∧ quiescent_FfnFwdIdeal_pre_finite_ffn_fwd (hFfnFwdIdeal := hFfnFwdIdeal) (hPre_finite_ffn_fwd := hPre_finite_ffn_fwd)
    ∧ quiescent_FfnFwdRefIdeal (hFfnFwdRefIdeal := hFfnFwdRefIdeal)
    ∧ quiescent_FfnFwdRefIdeal_pre_finite_ffn_fwd (hFfnFwdRefIdeal := hFfnFwdRefIdeal) (hPre_finite_ffn_fwd := hPre_finite_ffn_fwd)
    ∧ quiescent_KvFwd (hKvFwd := hKvFwd)
    ∧ quiescent_KvFwdIdeal (hKvFwdIdeal := hKvFwdIdeal)
    ∧ quiescent_KvFwdRefIdeal (hKvFwdRefIdeal := hKvFwdRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_ConfFwd (hConfFwd := hConfFwd)
    ∧ quiescent_ConfFwdIdeal (hConfFwdIdeal := hConfFwdIdeal)
    ∧ quiescent_ConfFwdRefIdeal (hConfFwdRefIdeal := hConfFwdRefIdeal)
    ∧ preserves_KvBwd_KvBwdIdeal
    ∧ algebraic_KvBwdIdeal_KvGradIdeal (hKvBwdIdeal := hKvBwdIdeal) (hKvGradIdeal := hKvGradIdeal)
    ∧ preserves_AttnBwd_AttnBwdIdeal
    ∧ algebraic_AttnBwdIdeal_AttnGradIdeal_pre_finite_attn (hAttnBwdIdeal := hAttnBwdIdeal) (hAttnGradIdeal := hAttnGradIdeal) (hPre_finite_attn := hPre_finite_attn)
    ∧ preserves_InBwd_InBwdIdeal
    ∧ algebraic_InBwdIdeal_InGradIdeal_pre_finite_in (hInBwdIdeal := hInBwdIdeal) (hInGradIdeal := hInGradIdeal) (hPre_finite_in := hPre_finite_in)
    ∧ preserves_FfnBwd_FfnBwdIdeal
    ∧ algebraic_FfnBwdIdeal_FfnGradIdeal_pre_finite_ffn (hFfnBwdIdeal := hFfnBwdIdeal) (hFfnGradIdeal := hFfnGradIdeal) (hPre_finite_ffn := hPre_finite_ffn)
    ∧ preserves_ConfBwd_ConfBwdIdeal
    ∧ algebraic_ConfBwdIdeal_ConfGradIdeal_on_written_pre_finite_conf (hConfBwdIdeal := hConfBwdIdeal) (hConfGradIdeal := hConfGradIdeal) (hPre_finite_conf := hPre_finite_conf) (hOn_written := hOn_written)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_FfnFwd_FfnFwdIdeal
    ∧ algebraic_FfnFwdIdeal_FfnFwdRefIdeal_pre_finite_ffn_fwd (hFfnFwdIdeal := hFfnFwdIdeal) (hFfnFwdRefIdeal := hFfnFwdRefIdeal) (hPre_finite_ffn_fwd := hPre_finite_ffn_fwd)
    ∧ preserves_KvFwd_KvFwdIdeal
    ∧ algebraic_KvFwdIdeal_KvFwdRefIdeal (hKvFwdIdeal := hKvFwdIdeal) (hKvFwdRefIdeal := hKvFwdRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_ConfFwd_ConfFwdIdeal
    ∧ algebraic_ConfFwdIdeal_ConfFwdRefIdeal (hConfFwdIdeal := hConfFwdIdeal) (hConfFwdRefIdeal := hConfFwdRefIdeal)
-- ==== On_written.lean ====
abbrev S8192x1024 : Shape := ⟨2, ![8192, 1024]⟩
abbrev S1024x1024 : Shape := ⟨2, ![1024, 1024]⟩
abbrev S8192x2048 : Shape := ⟨2, ![8192, 2048]⟩
abbrev S31x512 : Shape := ⟨2, ![31, 512]⟩
abbrev S1x512 : Shape := ⟨2, ![1, 512]⟩
abbrev S4x8192x512 : Shape := ⟨3, ![4, 8192, 512]⟩
abbrev S_ : Shape := ⟨0, ![]⟩

class Facts : Prop where
  bcast_S_S4x8192x512 : S_.BroadcastsInDim S4x8192x512 (![] : Fin 0 → Fin S4x8192x512.rank)
  bcast_S_S31x512 : S_.BroadcastsInDim S31x512 (![] : Fin 0 → Fin S31x512.rank)
  bcast_S_S1x512 : S_.BroadcastsInDim S1x512 (![] : Fin 0 → Fin S1x512.rank)

variable [Facts]

def fn {F : FTy → Type} [FloatOps F] (main_arg0 : FVec F S8192x1024 .f32) (main_arg1 : FVec F S1024x1024 .f32) (main_arg2 : FVec F S8192x2048 .f32) (main_arg3 : FVec F S31x512 .f32) (main_arg4 : FVec F S1x512 .f32) (main_arg5 : FVec F S1x512 .f32) (main_arg6 : FVec F S1x512 .f32) : IVec S4x8192x512 1 × IVec S31x512 1 × IVec S1x512 1 × IVec S1x512 1 × IVec S1x512 1 :=
  let main_v0 : IVec S4x8192x512 32 := iotaInDim S4x8192x512 32 0
  let main_c : IVec S_ 32 := constantI S_ 32 2#32
  let main_v1 : IVec S4x8192x512 32 := broadcastInDim S4x8192x512 ![] bcast_S_S4x8192x512 main_c
  let main_v2 : IVec S4x8192x512 1 := cmpi .sge main_v0 main_v1
  let main_c_0 : IVec S_ 1 := constantI S_ 1 1#1
  let main_v3 : IVec S31x512 1 := broadcastInDim S31x512 ![] bcast_S_S31x512 main_c_0
  let main_c_1 : IVec S_ 1 := constantI S_ 1 1#1
  let main_v4 : IVec S1x512 1 := broadcastInDim S1x512 ![] bcast_S_S1x512 main_c_1
  let main_c_2 : IVec S_ 1 := constantI S_ 1 1#1
  let main_v5 : IVec S1x512 1 := broadcastInDim S1x512 ![] bcast_S_S1x512 main_c_2
  let main_c_3 : IVec S_ 1 := constantI S_ 1 1#1
  let main_v6 : IVec S1x512 1 := broadcastInDim S1x512 ![] bcast_S_S1x512 main_c_3
  (main_v2, main_v3, main_v4, main_v5, main_v6)
-- ==== Pre_finite_attn.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_v13 : IVec S_ 1) (main_v16 : IVec S256x2048 1) : IVec S_ 1 :=
  let main_c_5 : IVec S_ 1 := constantI S_ 1 1#1
  let main_v17 : IVec S_ 1 := (fun x v => Host.reduce IntOp.andi x v reducesTo_S256x2048_S_d0_1 h_S_) main_v16 main_c_5
  let main_v18 : IVec S_ 1 := andi main_v13 main_v17
  main_v18

def fn {F : FTy → Type} [FloatOps F] (main_arg0 : FVec F S8192x1024 .f32) (main_arg1 : FVec F S1x1024 .f32) (main_arg2 : FVec F S1024x1024 .f32) (main_arg3 : FVec F S256x2048 .f32) (main_arg4 : FVec F S1024x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg1
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S256x2048 .f32 := Host.absf main_arg3
  let main_cst_4 : FVec F S_ .f32 := constant S_ .f32 0x7F800000#32
  let main_v15 : FVec F S256x2048 .f32 := broadcastInDim S256x2048 ![] bcast_S_S256x2048 main_cst_4
  let main_v16 : IVec S256x2048 1 := cmpf .olt main_v14 main_v15
  fn_part1 (F := F) main_v13 main_v16
-- ==== Pre_finite_conf.lean ====
abbrev S8192x1024 : Shape := ⟨2, ![8192, 1024]⟩
abbrev S1024x1024 : Shape := ⟨2, ![1024, 1024]⟩
abbrev S8192x2048 : Shape := ⟨2, ![8192, 2048]⟩
abbrev S31x512 : Shape := ⟨2, ![31, 512]⟩
abbrev S1x512 : Shape := ⟨2, ![1, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S8192x2048 : S_.BroadcastsInDim S8192x2048 (![] : Fin 0 → Fin S8192x2048.rank)
  reducesTo_S8192x2048_S_d0_1 : S8192x2048.ReducesTo [0, 1] S_
  bcast_S_S31x512 : S_.BroadcastsInDim S31x512 (![] : Fin 0 → Fin S31x512.rank)
  reducesTo_S31x512_S_d0_1 : S31x512.ReducesTo [0, 1] S_
  bcast_S_S1x512 : S_.BroadcastsInDim S1x512 (![] : Fin 0 → Fin S1x512.rank)
  reducesTo_S1x512_S_d0_1 : S1x512.ReducesTo [0, 1] S_

variable [Facts]

def fn_part1 {F : FTy → Type} [FloatOps F] (main_arg4 : FVec F S1x512 .f32) (main_arg5 : FVec F S1x512 .f32) (main_arg6 : FVec F S1x512 .f32) (main_v13 : IVec S_ 1) (main_v16 : IVec S31x512 1) : IVec S_ 1 :=
  let main_c_5 : IVec S_ 1 := constantI S_ 1 1#1
  let main_v17 : IVec S_ 1 := (fun x v => Host.reduce IntOp.andi x v reducesTo_S31x512_S_d0_1 h_S_) main_v16 main_c_5
  let main_v18 : IVec S_ 1 := andi main_v13 main_v17
  let main_v19 : FVec F S1x512 .f32 := Host.absf main_arg4
  let main_cst_6 : FVec F S_ .f32 := constant S_ .f32 0x7F800000#32
  let main_v20 : FVec F S1x512 .f32 := broadcastInDim S1x512 ![] bcast_S_S1x512 main_cst_6
  let main_v21 : IVec S1x512 1 := cmpf .olt main_v19 main_v20
  let main_c_7 : IVec S_ 1 := constantI S_ 1 1#1
  let main_v22 : IVec S_ 1 := (fun x v => Host.reduce IntOp.andi x v reducesTo_S1x512_S_d0_1 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1x512 .f32 := Host.absf main_arg6
  let main_cst_10 : FVec F S_ .f32 := constant S_ .f32 0x7F800000#32
  let main_v30 : FVec F S1x512 .f32 := broadcastInDim S1x512 ![] bcast_S_S1x512 main_cst_10
  let main_v31 : IVec S1x512 1 := cmpf .olt main_v29 main_v30
  let main_c_11 : IVec S_ 1 := constantI S_ 1 1#1
  let main_v32 : IVec S_ 1 := (fun x v => Host.reduce IntOp.andi x v reducesTo_S1x512_S_d0_1 h_S_) main_v31 main_c_11
  let main_v33 : IVec S_ 1 := andi main_v28 main_v32
  main_v33

def fn {F : FTy → Type} [FloatOps F] (main_arg0 : FVec F S8192x1024 .f32) (main_arg1 : FVec F S1024x1024 .f32) (main_arg2 : FVec F S8192x2048 .f32) (main_arg3 : FVec F S31x512 .f32) (main_arg4 : FVec F S1x512 .f32) (main_arg5 : FVec F S1x512 .f32) (main_arg6 : FVec F S1x512 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S31x512 .f32 := Host.absf main_arg3
  let main_cst_4 : FVec F S_ .f32 := constant S_ .f32 0x7F800000#32
  let main_v15 : FVec F S31x512 .f32 := broadcastInDim S31x512 ![] bcast_S_S31x512 main_cst_4
  let main_v16 : IVec S31x512 1 := cmpf .olt main_v14 main_v15
  fn_part1 (F := F) main_arg4 main_arg5 main_arg6 main_v13 main_v16
-- ==== Pre_finite_ffn.lean ====
abbrev S8192x1024 : Shape := ⟨2, ![8192, 1024]⟩
abbrev S3072x1024 : Shape := ⟨2, ![3072, 1024]⟩
abbrev S1024x6144 : Shape := ⟨2, ![1024, 6144]⟩
abbrev S1x1024 : Shape := ⟨2, ![1, 1024]⟩
abbrev S3x3072 : Shape := ⟨2, ![3, 3072]⟩
abbrev S1x3072 : Shape := ⟨2, ![1, 3072]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S1024x6144 : S_.BroadcastsInDim S1024x6144 (![] : Fin 0 → Fin S1024x6144.rank)
  reducesTo_S1024x6144_S_d0_1 : S1024x6144.ReducesTo [0, 1] S_
  bcast_S_S1x1024 : S_.BroadcastsInDim S1x1024 (![] : Fin 0 → Fin S1x1024.rank)
  reducesTo_S1x1024_S_d0_1 : S1x1024.ReducesTo [0, 1] S_
  bcast_S_S3x3072 : S_.BroadcastsInDim S3x3072 (![] : Fin 0 → Fin S3x3072.rank)
  reducesTo_S3x3072_S_d0_1 : S3x3072.ReducesTo [0, 1] S_
  bcast_S_S1x3072 : S_.BroadcastsInDim S1x3072 (![] : Fin 0 → Fin S1x3072.rank)
  reducesTo_S1x3072_S_d0_1 : S1x3072.ReducesTo [0, 1] S_

variable [Facts]

def fn_part1 {F : FTy → Type} [FloatOps F] (main_arg4 : FVec F S1x1024 .f32) (main_arg5 : FVec F S3x3072 .f32) (main_arg6 : FVec F S1x3072 .f32) (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  let main_v19 : FVec F S1x1024 .f32 := Host.absf main_arg4
  let main_cst_6 : FVec F S_ .f32 := constant S_ .f32 0x7F800000#32
  let main_v20 : FVec F S1x1024 .f32 := broadcastInDim S1x1024 ![] bcast_S_S1x1024 main_cst_6
  let main_v21 : IVec S1x1024 1 := cmpf .olt main_v19 main_v20
  let main_c_7 : IVec S_ 1 := constantI S_ 1 1#1
  let main_v22 : IVec S_ 1 := (fun x v => Host.reduce IntOp.andi x v reducesTo_S1x1024_S_d0_1 h_S_) main_v21 main_c_7
  let main_v23 : IVec S_ 1 := andi main_v18 main_v22
  let main_v24 : FVec F S3x3072 .f32 := Host.absf main_arg5
  let main_cst_8 : FVec F S_ .f32 := constant S_ .f32 0x7F800000#32
  let main_v25 : FVec F S3x3072 .f32 := broadcastInDim S3x3072 ![] bcast_S_S3x3072 main_cst_8
  let main_v26 : IVec S3x3072 1 := cmpf .olt main_v24 main_v25
  let main_c_9 : IVec S_ 1 := constantI S_ 1 1#1
  let main_v27 : IVec S_ 1 := (fun x v => Host.reduce IntOp.andi x v reducesTo_S3x3072_S_d0_1 h_S_) main_v26 main_c_9
  let main_v28 : IVec S_ 1 := andi main_v23 main_v27
  let main_v29 : FVec F S1x3072 .f32 := Host.absf main_arg6
  let main_cst_10 : FVec F S_ .f32 := constant S_ .f32 0x7F800000#32
  let main_v30 : FVec F S1x3072 .f32 := broadcastInDim S1x3072 ![] bcast_S_S1x3072 main_cst_10
  let main_v31 : IVec S1x3072 1 := cmpf .olt main_v29 main_v30
  let main_c_11 : IVec S_ 1 := constantI S_ 1 1#1
  let main_v32 : IVec S_ 1 := (fun x v => Host.reduce IntOp.andi x v reducesTo_S1x3072_S_d0_1 h_S_) main_v31 main_c_11
  let main_v33 : IVec S_ 1 := andi main_v28 main_v32
  main_v33

def fn {F : FTy → Type} [FloatOps F] (main_arg0 : FVec F S8192x1024 .f32) (main_arg1 : FVec F S3072x1024 .f32) (main_arg2 : FVec F S1024x6144 .f32) (main_arg3 : FVec F S8192x1024 .f32) (main_arg4 : FVec F S1x1024 .f32) (main_arg5 : FVec F S3x3072 .f32) (main_arg6 : FVec F S1x3072 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S1024x6144 .f32 := Host.absf main_arg2
  let main_cst_2 : FVec F S_ .f32 := constant S_ .f32 0x7F800000#32
  let main_v10 : FVec F S1024x6144 .f32 := broadcastInDim S1024x6144 ![] bcast_S_S1024x6144 main_cst_2
  let main_v11 : IVec S1024x6144 1 := cmpf .olt main_v9 main_v10
  let main_c_3 : IVec S_ 1 := constantI S_ 1 1#1
  let main_v12 : IVec S_ 1 := (fun x v => Host.reduce IntOp.andi x v reducesTo_S1024x6144_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_arg4 main_arg5 main_arg6 main_v13 main_v16
-- ==== Pre_finite_ffn_fwd.lean ====
abbrev S8192x1024 : Shape := ⟨2, ![8192, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S1x1024 : Shape := ⟨2, ![1, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x6144 : S_.BroadcastsInDim S1024x6144 (![] : Fin 0 → Fin S1024x6144.rank)
  reducesTo_S1024x6144_S_d0_1 : S1024x6144.ReducesTo [0, 1] S_
  bcast_S_S3x3072 : S_.BroadcastsInDim S3x3072 (![] : Fin 0 → Fin S3x3072.rank)
  reducesTo_S3x3072_S_d0_1 : S3x3072.ReducesTo [0, 1] S_
  bcast_S_S1x3072 : S_.BroadcastsInDim S1x3072 (![] : Fin 0 → Fin S1x3072.rank)
  reducesTo_S1x3072_S_d0_1 : S1x3072.ReducesTo [0, 1] S_
  bcast_S_S3072x1024 : S_.BroadcastsInDim S3072x1024 (![] : Fin 0 → Fin S3072x1024.rank)
  reducesTo_S3072x1024_S_d0_1 : S3072x1024.ReducesTo [0, 1] S_

variable [Facts]

def fn_part1 {F : FTy → Type} [FloatOps F] (main_arg4 : FVec F S3072x1024 .f32) (main_arg5 : FVec F S8192x1024 .f32) (main_v13 : IVec S_ 1) (main_v16 : IVec S1x3072 1) : IVec S_ 1 :=
  let main_c_5 : IVec S_ 1 := constantI S_ 1 1#1
  let main_v17 : IVec S_ 1 := (fun x v => Host.reduce IntOp.andi x v reducesTo_S1x3072_S_d0_1 h_S_) main_v16 main_c_5
  let main_v18 : IVec S_ 1 := andi main_v13 main_v17
  let main_v19 : FVec F S3072x1024 .f32 := Host.absf main_arg4
  let main_cst_6 : FVec F S_ .f32 := constant S_ .f32 0x7F800000#32
  let main_v20 : FVec F S3072x1024 .f32 := broadcastInDim S3072x1024 ![] bcast_S_S3072x1024 main_cst_6
  let main_v21 : IVec S3072x1024 1 := cmpf .olt main_v19 main_v20
  let main_c_7 : IVec S_ 1 := constantI S_ 1 1#1
  let main_v22 : IVec S_ 1 := (fun x v => Host.reduce IntOp.andi x v reducesTo_S3072x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024x6144 .f32) (main_arg2 : FVec F S3x3072 .f32) (main_arg3 : FVec F S1x3072 .f32) (main_arg4 : FVec F S3072x1024 .f32) (main_arg5 : FVec F S8192x1024 .f32) (main_arg6 : FVec F S1x1024 .f32) (main_arg7 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x6144 .f32 := Host.absf main_arg1
  let main_cst_0 : FVec F S_ .f32 := constant S_ .f32 0x7F800000#32
  let main_v5 : FVec F S1024x6144 .f32 := broadcastInDim S1024x6144 ![] bcast_S_S1024x6144 main_cst_0
  let main_v6 : IVec S1024x6144 1 := cmpf .olt main_v4 main_v5
  let main_c_1 : IVec S_ 1 := constantI S_ 1 1#1
  let main_v7 : IVec S_ 1 := (fun x v => Host.reduce IntOp.andi x v reducesTo_S1024x6144_S_d0_1 h_S_) main_v6 main_c_1
  let main_v8 : IVec S_ 1 := andi main_v3 main_v7
  let main_v9 : FVec F S3x3072 .f32 := Host.absf main_arg2
  let main_cst_2 : FVec F S_ .f32 := constant S_ .f32 0x7F800000#32
  let main_v10 : FVec F S3x3072 .f32 := broadcastInDim S3x3072 ![] bcast_S_S3x3072 main_cst_2
  let main_v11 : IVec S3x3072 1 := cmpf .olt main_v9 main_v10
  let main_c_3 : IVec S_ 1 := constantI S_ 1 1#1
  let main_v12 : IVec S_ 1 := (fun x v => Host.reduce IntOp.andi x v reducesTo_S3x3072_S_d0_1 h_S_) main_v11 main_c_3
  let main_v13 : IVec S_ 1 := andi main_v8 main_v12
  let main_v14 : FVec F S1x3072 .f32 := Host.absf main_arg3
  let main_cst_4 : FVec F S_ .f32 := constant S_ .f32 0x7F800000#32
  let main_v15 : FVec F S1x3072 .f32 := broadcastInDim S1x3072 ![] bcast_S_S1x3072 main_cst_4
  let main_v16 : IVec S1x3072 1 := cmpf .olt main_v14 main_v15
  fn_part1 (F := F) main_arg4 main_arg5 main_v13 main_v16
-- ==== Pre_finite_in.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : FVec F S1x1024 .f32) (main_arg2 : FVec F S1024x2048 .f32) (main_arg3 : FVec F S8192x2048 .f32) (main_arg4 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== KvBwd.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S1024x512 : Shape := ⟨2, ![1024, 512]⟩
abbrev S1x1024x512 : Shape := ⟨3, ![1, 1024, 512]⟩
abbrev S4x1024x512 : Shape := ⟨3, ![4, 1024, 512]⟩
abbrev S256x512 : Shape := ⟨2, ![256, 512]⟩
abbrev S1024 : Shape := ⟨1, ![1024]⟩

abbrev nBuf : Space → Nat
  | .hbm => 32
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S1024x512, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S1x1024x512, .f32⟩
  | .hbm, ⟨25, _⟩ => ⟨S1x1024x512, .f32⟩
  | .hbm, ⟨26, _⟩ => ⟨S1x1024x512, .f32⟩
  | .hbm, ⟨27, _⟩ => ⟨S1x1024x512, .f32⟩
  | .hbm, ⟨28, _⟩ => ⟨S4x1024x512, .f32⟩
  | .hbm, ⟨29, _⟩ => ⟨S4x1024x512, .bf16⟩
  | .hbm, ⟨30, _⟩ => ⟨S4x1024x512, .bf16⟩
  | .hbm, ⟨31, _⟩ => ⟨S1x1024, .f32⟩
  | .local _ .vmem, ⟨0, _⟩ => ⟨S256x2048, .f32⟩
  | .local _ .vmem, ⟨1, _⟩ => ⟨S4x1024x512, .bf16⟩
  | .local _ .vmem, ⟨2, _⟩ => ⟨S256x1024, .f32⟩
  | .local _ .vmem, ⟨3, _⟩ => ⟨S256x1024, .bf16⟩
  | .local _ .vmem, ⟨4, _⟩ => ⟨S4x1024x512, .bf16⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23_0 : Ref sig .tc := ⟨.hbm, 30, rfl⟩
abbrev main_v23_1 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== KvGradIdeal.lean ====
abbrev S256x1024 : Shape := ⟨2, ![256, 1024]⟩
abbrev S1x1024 : Shape := ⟨2, ![1, 1024]⟩
abbrev S1024x2048 : Shape := ⟨2, ![1024, 2048]⟩
abbrev S256x2048 : Shape := ⟨2, ![256, 2048]⟩
abbrev S_ : Shape := ⟨0, ![]⟩
abbrev S256 : Shape := ⟨1, ![256]⟩
abbrev S256x1 : Shape := ⟨2, ![256, 1]⟩
abbrev S2048x1024 : Shape := ⟨2, ![2048, 1024]⟩
abbrev S1024 : Shape := ⟨1, ![1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x2048, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S256x2048, .f32⟩
  | .hbm, ⟨20, _⟩ => ⟨S2048x1024, .f32⟩
  | .hbm, ⟨21, _⟩ => ⟨S1024x2048, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S1x1024x512, .f32⟩
  | .hbm, ⟨32, _⟩ => ⟨S1x1024x512, .f32⟩
  | .hbm, ⟨33, _⟩ => ⟨S1x1024x512, .f32⟩
  | .hbm, ⟨34, _⟩ => ⟨S1x1024x512, .f32⟩
  | .hbm, ⟨35, _⟩ => ⟨S4x1024x512, .f32⟩
  | .hbm, ⟨36, _⟩ => ⟨S4x1024x512, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== AttnBwd.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 32
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1024, .f32⟩
  | .hbm, ⟨3, _⟩ => ⟨S256x2048, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .bf16⟩
  | .hbm, ⟨22, _⟩ => ⟨S1024x1024, .bf16⟩
  | .hbm, ⟨23, _⟩ => ⟨S8192x1024, .f32⟩
  | .hbm, ⟨24, _⟩ => ⟨S8192x1024, .bf16⟩
  | .hbm, ⟨25, _⟩ => ⟨S1024x1024, .bf16⟩
  | .hbm, ⟨26, _⟩ => ⟨S256x2048, .bf16⟩
  | .hbm, ⟨27, _⟩ => ⟨S1024x1024, .bf16⟩
  | .hbm, ⟨28, _⟩ => ⟨S8192x1024, .bf16⟩
  | .hbm, ⟨29, _⟩ => ⟨S8192x1024, .f32⟩
  | .hbm, ⟨30, _⟩ => ⟨S256x2048, .f32⟩
  | .hbm, ⟨31, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x2048, .bf16⟩
  | .local _ .vmem, ⟨6, _⟩ => ⟨S1024x1024, .f32⟩
  | .local _ .vmem, ⟨7, _⟩ => ⟨S1024x1024, .f32⟩
  | .local _ .vmem, ⟨8, _⟩ => ⟨S1x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S256x2048, .f32⟩
  | .local _ .vmem, ⟨15, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S256x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== AttnGradIdeal.lean ====
abbrev S8192x1024 : Shape := ⟨2, ![8192, 1024]⟩
abbrev S1x1024 : Shape := ⟨2, ![1, 1024]⟩
abbrev S1024x1024 : Shape := ⟨2, ![1024, 1024]⟩
abbrev S256x2048 : Shape := ⟨2, ![256, 2048]⟩
abbrev S_ : Shape := ⟨0, ![]⟩
abbrev S8192 : Shape := ⟨1, ![8192]⟩
abbrev S8192x1 : Shape := ⟨2, ![8192, 1]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S1024 : Shape := ⟨1, ![1024]⟩

abbrev nBuf : Space → Nat
  | .hbm => 134
  | .vmem => 0
  | .smem => 0
  | _ => 0

abbrev hbmTy0_0 (i : Nat) : BufTy := match i % 128 with
  | 0 => ⟨S8192x1024, .f32⟩
  | 1 => ⟨S1x1024, .f32⟩
  | 2 => ⟨S1024x1024, .f32⟩
  | 3 => ⟨S256x2048, .f32⟩
  | 4 => ⟨S1024x1024, .f32⟩
  | 5 => ⟨S8192x1024, .f32⟩
  | 6 => ⟨S8192x1024, .f32⟩
  | 7 => ⟨S_, .f32⟩
  | 8 => ⟨S8192, .f32⟩
  | 9 => ⟨S8192x1, .f32⟩
  | 10 => ⟨S_, .f32⟩
  | 11 => ⟨S8192x1, .f32⟩
  | 12 => ⟨S8192x1, .f32⟩
  | 13 => ⟨S_, .f32⟩
  | 14 => ⟨S8192x1, .f32⟩
  | 15 => ⟨S8192x1, .f32⟩
  | 16 => ⟨S8192x1, .f32⟩
  | 17 => ⟨S8192x1, .f32⟩
  | 18 => ⟨S_, .f32⟩
  | 19 => ⟨S8192x1, .f32⟩
  | 20 => ⟨S8192x1, .f32⟩
  | 21 => ⟨S8192x1024, .f32⟩
  | 22 => ⟨S8192x1024, .f32⟩
  | 23 => ⟨S8192x1024, .f32⟩
  | 24 => ⟨S8192x1024, .f32⟩
  | 25 => ⟨S8192x1024, .f32⟩
  | 26 => ⟨S256x1024, .f32⟩
  | 27 => ⟨S256x1024, .f32⟩
  | 28 => ⟨S8192x4x256, .f32⟩
  | 29 => ⟨S256x4x256, .f32⟩
  | 30 => ⟨S256x4x256, .f32⟩
  | 31 => ⟨S4x8192x256, .f32⟩
  | 32 => ⟨S_, .f32⟩
  | 33 => ⟨S4x8192x256, .f32⟩
  | 34 => ⟨S4x8192x256, .f32⟩
  | 35 => ⟨S_, .f32⟩
  | 36 => ⟨S4x8192, .f32⟩
  | 37 => ⟨S4x8192x1, .f32⟩
  | 38 => ⟨S4x8192x256, .f32⟩
  | 39 => ⟨S4x8192x256, .i1⟩
  | 40 => ⟨S4x8192x256, .f32⟩
  | 41 => ⟨S_, .f32⟩
  | 42 => ⟨S4x8192, .f32⟩
  | 43 => ⟨S_, .f32⟩
  | 44 => ⟨S4x8192, .f32⟩
  | 45 => ⟨S4x8192, .f32⟩
  | 46 => ⟨S_, .f32⟩
  | 47 => ⟨S4x8192, .f32⟩
  | 48 => ⟨S4x8192, .i1⟩
  | 49 => ⟨S_, .f32⟩
  | 50 => ⟨S4x8192, .f32⟩
  | 51 => ⟨S4x8192, .i1⟩
  | 52 => ⟨S_, .f32⟩
  | 53 => ⟨S4x8192, .f32⟩
  | 54 => ⟨S_, .f32⟩
  | 55 => ⟨S4x8192, .f32⟩
  | 56 => ⟨S_, .f32⟩
  | 57 => ⟨S4x8192, .f32⟩
  | 58 => ⟨S4x8192, .f32⟩
  | 59 => ⟨S4x8192, .f32⟩
  | 60 => ⟨S4x8192x1, .f32⟩
  | 61 => ⟨S4x8192x256, .f32⟩
  | 62 => ⟨S4x8192x256, .f32⟩
  | 63 => ⟨S4x8192x256, .f32⟩
  | 64 => ⟨S_, .f32⟩
  | 65 => ⟨S4x8192, .f32⟩
  | 66 => ⟨S4x8192x1, .f32⟩
  | 67 => ⟨S4x8192x256, .f32⟩
  | 68 => ⟨S4x8192x256, .f32⟩
  | 69 => ⟨S4x8192x1, .f32⟩
  | 70 => ⟨S_, .f32⟩
  | 71 => ⟨S4x8192x1, .f32⟩
  | 72 => ⟨S4x8192x1, .f32⟩
  | 73 => ⟨S4x256x8192, .f32⟩
  | 74 => ⟨S8192x4x256, .f32⟩
  | 75 => ⟨S8192x1024, .f32⟩
  | 76 => ⟨S8192x1024, .f32⟩
  | 77 => ⟨S8192x1024, .f32⟩
  | 78 => ⟨S8192x4x256, .f32⟩
  | 79 => ⟨S4x256x8192, .f32⟩
  | 80 => ⟨S4x8192x256, .f32⟩
  | 81 => ⟨S4x256x256, .f32⟩
  | 82 => ⟨S256x4x256, .f32⟩
  | 83 => ⟨S4x8192x256, .f32⟩
  | 84 => ⟨S4x8192x256, .f32⟩
  | 85 => ⟨S4x8192x256, .f32⟩
  | 86 => ⟨S_, .f32⟩
  | 87 => ⟨S4x8192, .f32⟩
  | 88 => ⟨S4x8192x1, .f32⟩
  | 89 => ⟨S4x8192x1, .f32⟩
  | 90 => ⟨S4x8192x256, .f32⟩
  | 91 => ⟨S4x8192x256, .f32⟩
  | 92 => ⟨S_, .f32⟩
  | 93 => ⟨S4x8192, .f32⟩
  | 94 => ⟨S4x8192x256, .f32⟩
  | 95 => ⟨S4x8192x256, .f32⟩
  | 96 => ⟨S4x8192x256, .f32⟩
  | 97 => ⟨S_, .f32⟩
  | 98 => ⟨S4x8192x256, .f32⟩
  | 99 => ⟨S4x8192x256, .f32⟩
  | 100 => ⟨S4x256x256, .f32⟩
  | 101 => ⟨S256x4x256, .f32⟩
  | 102 => ⟨S4x8192x256, .f32⟩
  | 103 => ⟨S8192x4x256, .f32⟩
  | 104 => ⟨S256x1024, .f32⟩
  | 105 => ⟨S256x1024, .f32⟩
  | 106 => ⟨S8192x1024, .f32⟩
  | 107 => ⟨S256x2048, .f32⟩
  | 108 => ⟨S8192x1024, .f32⟩
  | 109 => ⟨S8192x1024, .f32⟩
  | 110 => ⟨S_, .f32⟩
  | 111 => ⟨S1024, .f32⟩
  | 112 => ⟨S1x1024, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1024, .f32⟩
  | 121 => ⟨S8192x1024, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x1024, .f32⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x1024, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_cst_10 : Ref sig .tc := ⟨.hbm, 54, rfl⟩
abbrev main_v37 : Ref sig .tc := ⟨.hbm, 55, rfl⟩
abbrev main_cst_11 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_12 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_13 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_14 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_15 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_17 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_cst_18 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_v95 : Ref sig .tc := ⟨.hbm, 121, rfl⟩
abbrev main_v96 : Ref sig .tc := ⟨.hbm, 122, rfl⟩
abbrev main_cst_19 : Ref sig .tc := ⟨.hbm, 123, rfl⟩
abbrev main_v97 : Ref sig .tc := ⟨.hbm, 124, rfl⟩
abbrev main_v98 : Ref sig .tc := ⟨.hbm, 125, rfl⟩
abbrev main_cst_20 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== InBwd.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S8192x512 : Shape := ⟨2, ![8192, 512]⟩
abbrev S1x8192x512 : Shape := ⟨3, ![1, 8192, 512]⟩
abbrev S4x8192x512 : Shape := ⟨3, ![4, 8192, 512]⟩
abbrev S1024x512 : Shape := ⟨2, ![1024, 512]⟩
abbrev S1x1024x512 : Shape := ⟨3, ![1, 1024, 512]⟩
abbrev S4x1024x512 : Shape := ⟨3, ![4, 1024, 512]⟩
abbrev S4x512x512 : Shape := ⟨3, ![4, 512, 512]⟩
abbrev S512x1024 : Shape := ⟨2, ![512, 1024]⟩
abbrev S1x256x512 : Shape := ⟨3, ![1, 256, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 27
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S1x8192x512, .f32⟩
  | .hbm, ⟨10, _⟩ => ⟨S1x8192x512, .f32⟩
  | .hbm, ⟨11, _⟩ => ⟨S1x8192x512, .f32⟩
  | .hbm, ⟨12, _⟩ => ⟨S1x8192x512, .f32⟩
  | .hbm, ⟨13, _⟩ => ⟨S4x8192x512, .f32⟩
  | .hbm, ⟨14, _⟩ => ⟨S4x8192x512, .bf16⟩
  | .hbm, ⟨15, _⟩ => ⟨S1024x512, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S1x1024x512, .f32⟩
  | .hbm, ⟨20, _⟩ => ⟨S1x1024x512, .f32⟩
  | .hbm, ⟨21, _⟩ => ⟨S1x1024x512, .f32⟩
  | .hbm, ⟨22, _⟩ => ⟨S1x1024x512, .f32⟩
  | .hbm, ⟨23, _⟩ => ⟨S4x1024x512, .f32⟩
  | .hbm, ⟨24, _⟩ => ⟨S4x1024x512, .bf16⟩
  | .hbm, ⟨25, _⟩ => ⟨S8192x1024, .f32⟩
  | .hbm, ⟨26, _⟩ => ⟨S1x1024, .f32⟩
  | .local _ .vmem, ⟨0, _⟩ => ⟨S4x512x512, .bf16⟩
  | .local _ .vmem, ⟨1, _⟩ => ⟨S4x512x512, .bf16⟩
  | .local _ .vmem, ⟨2, _⟩ => ⟨S4x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20_0 : Ref sig .tc := ⟨.hbm, 25, rfl⟩
abbrev main_v20_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InGradIdeal.lean ====
abbrev S8192x1024 : Shape := ⟨2, ![8192, 1024]⟩
abbrev S1x1024 : Shape := ⟨2, ![1, 1024]⟩
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== FfnBwd.lean ====
abbrev S8192x1024 : Shape := ⟨2, ![8192, 1024]⟩
abbrev S3072x1024 : Shape := ⟨2, ![3072, 1024]⟩
abbrev S1024x6144 : Shape := ⟨2, ![1024, 6144]⟩
abbrev S1x1024 : Shape := ⟨2, ![1, 1024]⟩
abbrev S3x3072 : Shape := ⟨2, ![3, 3072]⟩
abbrev S1x3072 : Shape := ⟨2, ![1, 3072]⟩
abbrev S1024x1536 : Shape := ⟨2, ![1024, 1536]⟩
abbrev S1x1024x1536 : Shape := ⟨3, ![1, 1024, 1536]⟩
abbrev S4x1024x1536 : Shape := ⟨3, ![4, 1024, 1536]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x1536 : Shape := ⟨2, ![8192, 1536]⟩
abbrev S1x8192x1536 : Shape := ⟨3, ![1, 8192, 1536]⟩
abbrev S4x8192x1536 : Shape := ⟨3, ![4, 8192, 1536]⟩
abbrev S2x2x8192x1536 : Shape := ⟨4, ![2, 2, 8192, 1536]⟩
abbrev S2x1536x1024 : Shape := ⟨3, ![2, 1536, 1024]⟩
abbrev S256x1024 : Shape := ⟨2, ![256, 1024]⟩
abbrev S2x2x256x1536 : Shape := ⟨4, ![2, 2, 256, 1536]⟩
abbrev S1x2x8x1536 : Shape := ⟨4, ![1, 2, 8, 1536]⟩
abbrev S264x1536 : Shape := ⟨2, ![264, 1536]⟩
abbrev S2x264x1536 : Shape := ⟨3, ![2, 264, 1536]⟩
abbrev S1x1536x1024 : Shape := ⟨3, ![1, 1536, 1024]⟩
abbrev S1536x1024 : Shape := ⟨2, ![1536, 1024]⟩
abbrev S256x1536 : Shape := ⟨2, ![256, 1536]⟩
abbrev S1x1x8x1536 : Shape := ⟨4, ![1, 1, 8, 1536]⟩
abbrev S8x1536 : Shape := ⟨2, ![8, 1536]⟩
abbrev S1x1x256x1536 : Shape := ⟨4, ![1, 1, 256, 1536]⟩
abbrev S1x1536 : Shape := ⟨2, ![1, 1536]⟩
abbrev S1536 : Shape := ⟨1, ![1536]⟩
abbrev S1x256x1536 : Shape := ⟨3, ![1, 256, 1536]⟩
abbrev S1x264x1536 : Shape := ⟨3, ![1, 264, 1536]⟩
abbrev S1x8x1536 : Shape := ⟨3, ![1, 8, 1536]⟩
abbrev S256 : Shape := ⟨1, ![256]⟩
abbrev S256x1 : Shape := ⟨2, ![256, 1]⟩
abbrev S1024 : Shape := ⟨1, ![1024]⟩

abbrev nBuf : Space → Nat
  | .hbm => 52
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S3072x1024, .f32⟩
  | .hbm, ⟨2, _⟩ => ⟨S1024x6144, .f32⟩
  | .hbm, ⟨3, _⟩ => ⟨S8192x1024, .f32⟩
  | .hbm, ⟨4, _⟩ => ⟨S1x1024, .f32⟩
  | .hbm, ⟨5, _⟩ => ⟨S3x3072, .f32⟩
  | .hbm, ⟨6, _⟩ => ⟨S1x3072, .f32⟩
  | .hbm, ⟨7, _⟩ => ⟨S1024x1536, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S1x1024x1536, .f32⟩
  | .hbm, ⟨12, _⟩ => ⟨S1x1024x1536, .f32⟩
  | .hbm, ⟨13, _⟩ => ⟨S1x1024x1536, .f32⟩
  | .hbm, ⟨14, _⟩ => ⟨S1x1024x1536, .f32⟩
  | .hbm, ⟨15, _⟩ => ⟨S4x1024x1536, .f32⟩
  | .hbm, ⟨16, _⟩ => ⟨S4x1024x1536, .bf16⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | .hbm, ⟨33, _⟩ => ⟨S1024x6144, .bf16⟩
  | .hbm, ⟨34, _⟩ => ⟨S8192x6144, .f32⟩
  | .hbm, ⟨35, _⟩ => ⟨S8192x1536, .f32⟩
  | .hbm, ⟨36, _⟩ => ⟨S8192x1536, .f32⟩
  | .hbm, ⟨37, _⟩ => ⟨S8192x1536, .f32⟩
  | .hbm, ⟨38, _⟩ => ⟨S8192x1536, .f32⟩
  | .hbm, ⟨39, _⟩ => ⟨S1x8192x1536, .f32⟩
  | .hbm, ⟨40, _⟩ => ⟨S1x8192x1536, .f32⟩
  | .hbm, ⟨41, _⟩ => ⟨S1x8192x1536, .f32⟩
  | .hbm, ⟨42, _⟩ => ⟨S1x8192x1536, .f32⟩
  | .hbm, ⟨43, _⟩ => ⟨S4x8192x1536, .f32⟩
  | .hbm, ⟨44, _⟩ => ⟨S3072x1024, .bf16⟩
  | .hbm, ⟨45, _⟩ => ⟨S2x2x8192x1536, .f32⟩
  | .hbm, ⟨46, _⟩ => ⟨S2x1536x1024, .bf16⟩
  | .hbm, ⟨47, _⟩ => ⟨S2x2x8192x1536, .bf16⟩
  | .hbm, ⟨48, _⟩ => ⟨S8192x1024, .f32⟩
  | .hbm, ⟨49, _⟩ => ⟨S1x1024, .f32⟩
  | .hbm, ⟨50, _⟩ => ⟨S3x3072, .f32⟩
  | .hbm, ⟨51, _⟩ => ⟨S1x3072, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S2x1536x1024, .bf16⟩
  | .local _ .vmem, ⟨6, _⟩ => ⟨S4x1024x1536, .bf16⟩
  | .local _ .vmem, ⟨7, _⟩ => ⟨S2x2x256x1536, .f32⟩
  | .local _ .vmem, ⟨8, _⟩ => ⟨S2x2x256x1536, .f32⟩
  | .local _ .vmem, ⟨9, _⟩ => ⟨S1x2x8x1536, .f32⟩
  | .local _ .vmem, ⟨10, _⟩ => ⟨S1x2x8x1536, .f32⟩
  | .local _ .vmem, ⟨11, _⟩ => ⟨S3x3072, .f32⟩
  | .local _ .vmem, ⟨12, _⟩ => ⟨S1x3072, .f32⟩
  | .local _ .vmem, ⟨13, _⟩ => ⟨S2x2x256x1536, .bf16⟩
  | .local _ .vmem, ⟨14, _⟩ => ⟨S2x2x256x1536, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S3x3072, .f32⟩
  | .local _ .vmem, ⟨19, _⟩ => ⟨S1x3072, .f32⟩
  | .local _ .vmem, ⟨20, _⟩ => ⟨S264x1536, .f32⟩
  | .local _ .vmem, ⟨21, _⟩ => ⟨S2x264x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev main_v37_2 : Ref sig .tc := ⟨.hbm, 49, rfl⟩
abbrev main_v37_3 : Ref sig .tc := ⟨.hbm, 50, rfl⟩
abbrev main_v37_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_6 (i : grid0.Coords) : Fin 4 → Nat :=
  let arg0 : BitVec 32 := BitVec.ofNat 32 (i 0).val
  let c31_i32 : BitVec 32 := 31#32
  let v0 : BitVec 32 := Scalar.subi c31_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, v3.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  let c0_i32_2 : BitVec 32 := 0#32
  ![c0_i32.toNat, c0_i32_0.toNat, v0.toNat, c0_i32_1.toNat]

def cc0_transform_10 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1536x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x2x256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x8x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S3x3072 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2x2x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x3072 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnBwdIdeal.lean ====
variable {F : FTy → Type} [FloatOps F] [Named F]
def κ : String → Option EReal := fun
  | "gelu_3ck" => some ((241015141496493 / 2251799813685248 : ℝ) : EReal)
  | "gelu_ck" => some ((80338380498831 / 2251799813685248 : ℝ) : EReal)
  | _ => none
-- ==== FfnGradIdeal.lean ====
abbrev S8192x1024 : Shape := ⟨2, ![8192, 1024]⟩
abbrev S3072x1024 : Shape := ⟨2, ![3072, 1024]⟩
abbrev S1024x6144 : Shape := ⟨2, ![1024, 6144]⟩
abbrev S1x1024 : Shape := ⟨2, ![1, 1024]⟩
abbrev S3x3072 : Shape := ⟨2, ![3, 3072]⟩
abbrev S1x3072 : Shape := ⟨2, ![1, 3072]⟩
abbrev S_ : Shape := ⟨0, ![]⟩
abbrev S8192 : Shape := ⟨1, ![8192]⟩
abbrev S8192x1 : Shape := ⟨2, ![8192, 1]⟩
abbrev S8192x6144 : Shape := ⟨2, ![8192, 6144]⟩
abbrev S8192x3072 : Shape := ⟨2, ![8192, 3072]⟩
abbrev S2x3072 : Shape := ⟨2, ![2, 3072]⟩
abbrev S8194x3072 : Shape := ⟨2, ![8194, 3072]⟩
abbrev S3072 : Shape := ⟨1, ![3072]⟩
abbrev S1024 : Shape := ⟨1, ![1024]⟩
abbrev S8192x1536 : Shape := ⟨2, ![8192, 1536]⟩
abbrev S1x8192x1536 : Shape := ⟨3, ![1, 8192, 1536]⟩
abbrev S4x8192x1536 : Shape := ⟨3, ![4, 8192, 1536]⟩
abbrev S2x2x8192x1536 : Shape := ⟨4, ![2, 2, 8192, 1536]⟩

abbrev nBuf : Space → Nat
  | .hbm => 174
  | .vmem => 0
  | .smem => 0
  | _ => 0

abbrev hbmTy0_0 (i : Nat) : BufTy := match i % 128 with
  | 0 => ⟨S8192x1024, .f32⟩
  | 1 => ⟨S3072x1024, .f32⟩
  | 2 => ⟨S1024x6144, .f32⟩
  | 3 => ⟨S8192x1024, .f32⟩
  | 4 => ⟨S1x1024, .f32⟩
  | 5 => ⟨S3x3072, .f32⟩
  | 6 => ⟨S1x3072, .f32⟩
  | 7 => ⟨S8192x1024, .f32⟩
  | 8 => ⟨S_, .f32⟩
  | 9 => ⟨S8192, .f32⟩
  | 10 => ⟨S8192x1, .f32⟩
  | 11 => ⟨S_, .f32⟩
  | 12 => ⟨S8192x1, .f32⟩
  | 13 => ⟨S8192x1, .f32⟩
  | 14 => ⟨S_, .f32⟩
  | 15 => ⟨S8192x1, .f32⟩
  | 16 => ⟨S8192x1, .f32⟩
  | 17 => ⟨S8192x1, .f32⟩
  | 18 => ⟨S8192x1, .f32⟩
  | 19 => ⟨S_, .f32⟩
  | 20 => ⟨S8192x1, .f32⟩
  | 21 => ⟨S8192x1, .f32⟩
  | 22 => ⟨S8192x1024, .f32⟩
  | 23 => ⟨S8192x1024, .f32⟩
  | 24 => ⟨S8192x1024, .f32⟩
  | 25 => ⟨S8192x1024, .f32⟩
  | 26 => ⟨S8192x6144, .f32⟩
  | 27 => ⟨S8192x3072, .f32⟩
  | 28 => ⟨S8192x3072, .f32⟩
  | 29 => ⟨S_, .f32⟩
  | 30 => ⟨S2x3072, .f32⟩
  | 31 => ⟨S8194x3072, .f32⟩
  | 32 => ⟨S_, .f32⟩
  | 33 => ⟨S2x3072, .f32⟩
  | 34 => ⟨S1x3072, .f32⟩
  | 35 => ⟨S8192x3072, .f32⟩
  | 36 => ⟨S8192x3072, .f32⟩
  | 37 => ⟨S8192x3072, .f32⟩
  | 38 => ⟨S1x3072, .f32⟩
  | 39 => ⟨S8192x3072, .f32⟩
  | 40 => ⟨S8192x3072, .f32⟩
  | 41 => ⟨S8192x3072, .f32⟩
  | 42 => ⟨S8192x3072, .f32⟩
  | 43 => ⟨S1x3072, .f32⟩
  | 44 => ⟨S8192x3072, .f32⟩
  | 45 => ⟨S8192x3072, .f32⟩
  | 46 => ⟨S8192x3072, .f32⟩
  | 47 => ⟨S8192x3072, .f32⟩
  | 48 => ⟨S8192x3072, .f32⟩
  | 49 => ⟨S8192x3072, .f32⟩
  | 50 => ⟨S8192x3072, .f32⟩
  | 51 => ⟨S8192x3072, .f32⟩
  | 52 => ⟨S8192x3072, .f32⟩
  | 53 => ⟨S_, .f32⟩
  | 54 => ⟨S8192x3072, .f32⟩
  | 55 => ⟨S8192x3072, .f32⟩
  | 56 => ⟨S_, .f32⟩
  | 57 => ⟨S8192x3072, .f32⟩
  | 58 => ⟨S8192x3072, .f32⟩
  | 59 => ⟨S8192x3072, .f32⟩
  | 60 => ⟨S_, .f32⟩
  | 61 => ⟨S8192x3072, .f32⟩
  | 62 => ⟨S8192x3072, .f32⟩
  | 63 => ⟨S8192x3072, .f32⟩
  | 64 => ⟨S_, .f32⟩
  | 65 => ⟨S8192x3072, .f32⟩
  | 66 => ⟨S8192x3072, .f32⟩
  | 67 => ⟨S_, .f32⟩
  | 68 => ⟨S8192x3072, .f32⟩
  | 69 => ⟨S8192x3072, .f32⟩
  | 70 => ⟨S8192x3072, .f32⟩
  | 71 => ⟨S_, .f32⟩
  | 72 => ⟨S8192x3072, .f32⟩
  | 73 => ⟨S8192x3072, .f32⟩
  | 74 => ⟨S_, .f32⟩
  | 75 => ⟨S8192x3072, .f32⟩
  | 76 => ⟨S8192x3072, .f32⟩
  | 77 => ⟨S8192x3072, .f32⟩
  | 78 => ⟨S8192x3072, .f32⟩
  | 79 => ⟨S8192x1024, .f32⟩
  | 80 => ⟨S8192x3072, .f32⟩
  | 81 => ⟨S8192x3072, .f32⟩
  | 82 => ⟨S8192x3072, .f32⟩
  | 83 => ⟨S8192x3072, .f32⟩
  | 84 => ⟨S8192x3072, .f32⟩
  | 85 => ⟨S_, .f32⟩
  | 86 => ⟨S8192x3072, .f32⟩
  | 87 => ⟨S8192x3072, .f32⟩
  | 88 => ⟨S8192x3072, .f32⟩
  | 89 => ⟨S_, .f32⟩
  | 90 => ⟨S8192x3072, .f32⟩
  | 91 => ⟨S8192x3072, .f32⟩
  | 92 => ⟨S8192x3072, .f32⟩
  | 93 => ⟨S_, .f32⟩
  | 94 => ⟨S8192x3072, .f32⟩
  | 95 => ⟨S8192x3072, .f32⟩
  | 96 => ⟨S8192x3072, .f32⟩
  | 97 => ⟨S8192x3072, .f32⟩
  | 98 => ⟨S_, .f32⟩
  | 99 => ⟨S3072, .f32⟩
  | 100 => ⟨S1x3072, .f32⟩
  | 101 => ⟨S8192x3072, .f32⟩
  | 102 => ⟨S8192x3072, .f32⟩
  | 103 => ⟨S8192x3072, .f32⟩
  | 104 => ⟨S_, .f32⟩
  | 105 => ⟨S3072, .f32⟩
  | 106 => ⟨S1x3072, .f32⟩
  | 107 => ⟨S_, .f32⟩
  | 108 => ⟨S8194x3072, .f32⟩
  | 109 => ⟨S_, .f32⟩
  | 110 => ⟨S3x3072, .f32⟩
  | 111 => ⟨S8192x3072, .f32⟩
  | 112 => ⟨S8192x3072, .f32⟩
  | 113 => ⟨S8192x3072, .f32⟩
  | 114 => ⟨S_, .f32⟩
  | 115 => ⟨S3072, .f32⟩
  | 116 => ⟨S1x3072, .f32⟩
  | 117 => ⟨S_, .f32⟩
  | 118 => ⟨S8194x3072, .f32⟩
  | 119 => ⟨S8194x3072, .f32⟩
  | 120 => ⟨S_, .f32⟩
  | 121 => ⟨S3x3072, .f32⟩
  | 122 => ⟨S3x3072, .f32⟩
  | 123 => ⟨S8192x3072, .f32⟩
  | 124 => ⟨S8192x3072, .f32⟩
  | 125 => ⟨S8192x3072, .f32⟩
  | 126 => ⟨S_, .f32⟩
  | 127 => ⟨S3072, .f32⟩
  | _ => ⟨S8192x1024, .f32⟩

abbrev hbmTy0_1 (i : Nat) : BufTy := match i % 128 with
  | 0 => ⟨S1x3072, .f32⟩
  | 1 => ⟨S_, .f32⟩
  | 2 => ⟨S8194x3072, .f32⟩
  | 3 => ⟨S8194x3072, .f32⟩
  | 4 => ⟨S_, .f32⟩
  | 5 => ⟨S3x3072, .f32⟩
  | 6 => ⟨S3x3072, .f32⟩
  | 7 => ⟨S2x3072, .f32⟩
  | 8 => ⟨S8192x3072, .f32⟩
  | 9 => ⟨S8192x6144, .f32⟩
  | 10 => ⟨S8192x1024, .f32⟩
  | 11 => ⟨S8192x1024, .f32⟩
  | 12 => ⟨S_, .f32⟩
  | 13 => ⟨S1024, .f32⟩
  | 14 => ⟨S1x1024, .f32⟩
  | 15 => ⟨S8192x1024, .f32⟩
  | 16 => ⟨S8192x1024, .f32⟩
  | 17 => ⟨S8192x1024, .f32⟩
  | 18 => ⟨S_, .f32⟩
  | 19 => ⟨S8192, .f32⟩
  | 20 => ⟨S8192x1, .f32⟩
  | 21 => ⟨S8192x1024, .f32⟩
  | 22 => ⟨S8192x1024, .f32⟩
  | 23 => ⟨S8192x1024, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192, .f32⟩
  | 30 => ⟨S8192x1024, .f32⟩
  | 31 => ⟨S8192x1024, .f32⟩
  | 32 => ⟨S8192x1024, .f32⟩
  | 33 => ⟨S8192x1024, .f32⟩
  | 34 => ⟨S8192x1024, .f32⟩
  | 35 => ⟨S8192x1536, .f32⟩
  | 36 => ⟨S8192x1536, .f32⟩
  | 37 => ⟨S8192x1536, .f32⟩
  | 38 => ⟨S8192x1536, .f32⟩
  | 39 => ⟨S1x8192x1536, .f32⟩
  | 40 => ⟨S1x8192x1536, .f32⟩
  | 41 => ⟨S1x8192x1536, .f32⟩
  | 42 => ⟨S1x8192x1536, .f32⟩
  | 43 => ⟨S4x8192x1536, .f32⟩
  | 44 => ⟨S2x2x8192x1536, .f32⟩
  | 45 => ⟨S2x2x8192x1536, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_cst_9 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_cst_13 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_cst_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_16 : Ref sig .tc := ⟨.hbm, 104, rfl⟩
abbrev main_v80 : Ref sig .tc := ⟨.hbm, 105, rfl⟩
abbrev main_v81 : Ref sig .tc := ⟨.hbm, 106, rfl⟩
abbrev main_cst_17 : Ref sig .tc := ⟨.hbm, 107, rfl⟩
abbrev main_v82 : Ref sig .tc := ⟨.hbm, 108, rfl⟩
abbrev main_cst_18 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_cst_19 : Ref sig .tc := ⟨.hbm, 114, rfl⟩
abbrev main_v87 : Ref sig .tc := ⟨.hbm, 115, rfl⟩
abbrev main_v88 : Ref sig .tc := ⟨.hbm, 116, rfl⟩
abbrev main_cst_20 : Ref sig .tc := ⟨.hbm, 117, rfl⟩
abbrev main_v89 : Ref sig .tc := ⟨.hbm, 118, rfl⟩
abbrev main_v90 : Ref sig .tc := ⟨.hbm, 119, rfl⟩
abbrev main_cst_21 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_22 : Ref sig .tc := ⟨.hbm, 126, rfl⟩
abbrev main_v96 : Ref sig .tc := ⟨.hbm, 127, rfl⟩
abbrev main_v97 : Ref sig .tc := ⟨.hbm, 128, rfl⟩
abbrev main_cst_23 : Ref sig .tc := ⟨.hbm, 129, rfl⟩
abbrev main_v98 : Ref sig .tc := ⟨.hbm, 130, rfl⟩
abbrev main_v99 : Ref sig .tc := ⟨.hbm, 131, rfl⟩
abbrev main_cst_24 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_25 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_cst_26 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_27 : Ref sig .tc := ⟨.hbm, 153, rfl⟩
abbrev main_v118 : Ref sig .tc := ⟨.hbm, 154, rfl⟩
abbrev main_v119 : Ref sig .tc := ⟨.hbm, 155, rfl⟩
abbrev main_cst_28 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩

abbrev nD : Nat := 1
abbrev τ : Topo := Topo.v7x

variable {F : FTy → Type} [FloatOps F]
-- ==== ConfBwd.lean ====
abbrev S8192x1024 : Shape := ⟨2, ![8192, 1024]⟩
abbrev S1024x1024 : Shape := ⟨2, ![1024, 1024]⟩
abbrev S8192x2048 : Shape := ⟨2, ![8192, 2048]⟩
abbrev S31x512 : Shape := ⟨2, ![31, 512]⟩
abbrev S1x512 : Shape := ⟨2, ![1, 512]⟩
abbrev S8192x512 : Shape := ⟨2, ![8192, 512]⟩
abbrev S1x8192x512 : Shape := ⟨3, ![1, 8192, 512]⟩
abbrev S4x8192x512 : Shape := ⟨3, ![4, 8192, 512]⟩
abbrev S_ : Shape := ⟨0, ![]⟩
abbrev S30x512 : Shape := ⟨2, ![30, 512]⟩
abbrev S8222x512 : Shape := ⟨2, ![8222, 512]⟩
abbrev S512x1024 : Shape := ⟨2, ![512, 1024]⟩
abbrev S1x512x512 : Shape := ⟨3, ![1, 512, 512]⟩
abbrev S1x32x512 : Shape := ⟨3, ![1, 32, 512]⟩
abbrev S512x512 : Shape := ⟨2, ![512, 512]⟩
abbrev S2x512x512 : Shape := ⟨3, ![2, 512, 512]⟩
abbrev S544x512 : Shape := ⟨2, ![544, 512]⟩
abbrev S8x536x512 : Shape := ⟨3, ![8, 536, 512]⟩
abbrev S32x512 : Shape := ⟨2, ![32, 512]⟩
abbrev S512 : Shape := ⟨1, ![512]⟩
abbrev S512x1 : Shape := ⟨2, ![512, 1]⟩
abbrev S536x512 : Shape := ⟨2, ![536, 512]⟩
abbrev S1x536x512 : Shape := ⟨3, ![1, 536, 512]⟩

abbrev nBuf : Space → Nat
  | .hbm => 195
  | .vmem => 25
  | .smem => 0
  | _ => 0

abbrev hbmTy0_0 (i : Nat) : BufTy := match i % 128 with
  | 0 => ⟨S8192x1024, .f32⟩
  | 1 => ⟨S1024x1024, .f32⟩
  | 2 => ⟨S8192x2048, .f32⟩
  | 3 => ⟨S31x512, .f32⟩
  | 4 => ⟨S1x512, .f32⟩
  | 5 => ⟨S1x512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S1x8192x512, .f32⟩
  | 12 => ⟨S1x8192x512, .f32⟩
  | 13 => ⟨S1x8192x512, .f32⟩
  | 14 => ⟨S1x8192x512, .f32⟩
  | 15 => ⟨S4x8192x512, .f32⟩
  | 16 => ⟨S1x8192x512, .f32⟩
  | 17 => ⟨S8192x512, .f32⟩
  | 18 => ⟨S1x8192x512, .f32⟩
  | 19 => ⟨S8192x512, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S_, .f32⟩
  | 26 => ⟨S8192x512, .f32⟩
  | 27 => ⟨S8192x512, .f32⟩
  | 28 => ⟨S8192x512, .f32⟩
  | 29 => ⟨S_, .f32⟩
  | 30 => ⟨S30x512, .f32⟩
  | 31 => ⟨S8222x512, .f32⟩
  | 32 => ⟨S1x512, .f32⟩
  | 33 => ⟨S8192x512, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S8192x512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S8192x512, .f32⟩
  | 20 => ⟨S8192x512, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S8192x512, .f32⟩
  | 60 => ⟨S512x1024, .f32⟩
  | 61 => ⟨S512x1024, .bf16⟩
  | 62 => ⟨S4x8192x512, .bf16⟩
  | 63 => ⟨S31x512, .f32⟩
  | 64 => ⟨S1x512, .f32⟩
  | 65 => ⟨S1x512, .f32⟩
  | 66 => ⟨S1x512, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .f32⟩
  | .local _ .vmem, ⟨7, _⟩ => ⟨S1x32x512, .f32⟩
  | .local _ .vmem, ⟨8, _⟩ => ⟨S1x32x512, .f32⟩
  | .local _ .vmem, ⟨9, _⟩ => ⟨S1x32x512, .f32⟩
  | .local _ .vmem, ⟨10, _⟩ => ⟨S1x32x512, .f32⟩
  | .local _ .vmem, ⟨11, _⟩ => ⟨S512x512, .f32⟩
  | .local _ .vmem, ⟨12, _⟩ => ⟨S512x512, .f32⟩
  | .local _ .vmem, ⟨13, _⟩ => ⟨S31x512, .f32⟩
  | .local _ .vmem, ⟨14, _⟩ => ⟨S1x512, .f32⟩
  | .local _ .vmem, ⟨15, _⟩ => ⟨S1x512, .f32⟩
  | .local _ .vmem, ⟨16, _⟩ => ⟨S2x512x512, .bf16⟩
  | .local _ .vmem, ⟨17, _⟩ => ⟨S2x512x512, .bf16⟩
  | .local _ .vmem, ⟨18, _⟩ => ⟨S31x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S544x512, .f32⟩
  | .local _ .vmem, ⟨23, _⟩ => ⟨S544x512, .f32⟩
  | .local _ .vmem, ⟨24, _⟩ => ⟨S8x536x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_v121 : Ref sig .tc := ⟨.hbm, 131, rfl⟩
abbrev main_v122 : Ref sig .tc := ⟨.hbm, 132, rfl⟩
abbrev main_v123 : Ref sig .tc := ⟨.hbm, 133, rfl⟩
abbrev main_v124 : Ref sig .tc := ⟨.hbm, 134, rfl⟩
abbrev main_v125 : Ref sig .tc := ⟨.hbm, 135, rfl⟩
abbrev main_v126 : Ref sig .tc := ⟨.hbm, 136, rfl⟩
abbrev main_v127 : Ref sig .tc := ⟨.hbm, 137, rfl⟩
abbrev main_v128 : Ref sig .tc := ⟨.hbm, 138, rfl⟩
abbrev main_v129 : Ref sig .tc := ⟨.hbm, 139, rfl⟩
abbrev main_v130 : Ref sig .tc := ⟨.hbm, 140, rfl⟩
abbrev main_v131 : Ref sig .tc := ⟨.hbm, 141, rfl⟩
abbrev main_v132 : Ref sig .tc := ⟨.hbm, 142, rfl⟩
abbrev main_v133 : Ref sig .tc := ⟨.hbm, 143, rfl⟩
abbrev main_v134 : Ref sig .tc := ⟨.hbm, 144, rfl⟩
abbrev main_v135 : Ref sig .tc := ⟨.hbm, 145, rfl⟩
abbrev main_v136 : Ref sig .tc := ⟨.hbm, 146, rfl⟩
abbrev main_v137 : Ref sig .tc := ⟨.hbm, 147, rfl⟩
abbrev main_v138 : Ref sig .tc := ⟨.hbm, 148, rfl⟩
abbrev main_v139 : Ref sig .tc := ⟨.hbm, 149, rfl⟩
abbrev main_v140 : Ref sig .tc := ⟨.hbm, 150, rfl⟩
abbrev main_v141 : Ref sig .tc := ⟨.hbm, 151, rfl⟩
abbrev main_v142 : Ref sig .tc := ⟨.hbm, 152, rfl⟩
abbrev main_v143 : Ref sig .tc := ⟨.hbm, 153, rfl⟩
abbrev main_v144 : Ref sig .tc := ⟨.hbm, 154, rfl⟩
abbrev main_v145 : Ref sig .tc := ⟨.hbm, 155, rfl⟩
abbrev main_v146 : Ref sig .tc := ⟨.hbm, 156, rfl⟩
abbrev main_v147 : Ref sig .tc := ⟨.hbm, 157, rfl⟩
abbrev main_v148 : Ref sig .tc := ⟨.hbm, 158, rfl⟩
abbrev main_v149 : Ref sig .tc := ⟨.hbm, 159, rfl⟩
abbrev main_v150 : Ref sig .tc := ⟨.hbm, 160, rfl⟩
abbrev main_v151 : Ref sig .tc := ⟨.hbm, 161, rfl⟩
abbrev main_v152 : Ref sig .tc := ⟨.hbm, 162, rfl⟩
abbrev main_v153 : Ref sig .tc := ⟨.hbm, 163, rfl⟩
abbrev main_v154 : Ref sig .tc := ⟨.hbm, 164, rfl⟩
abbrev main_v155 : Ref sig .tc := ⟨.hbm, 165, rfl⟩
abbrev main_v156 : Ref sig .tc := ⟨.hbm, 166, rfl⟩
abbrev main_v157 : Ref sig .tc := ⟨.hbm, 167, rfl⟩
abbrev main_v158 : Ref sig .tc := ⟨.hbm, 168, rfl⟩
abbrev main_v159 : Ref sig .tc := ⟨.hbm, 169, rfl⟩
abbrev main_v160 : Ref sig .tc := ⟨.hbm, 170, rfl⟩
abbrev main_v161 : Ref sig .tc := ⟨.hbm, 171, rfl⟩
abbrev main_v162 : Ref sig .tc := ⟨.hbm, 172, rfl⟩
abbrev main_v163 : Ref sig .tc := ⟨.hbm, 173, rfl⟩
abbrev main_v164 : Ref sig .tc := ⟨.hbm, 174, rfl⟩
abbrev main_v165 : Ref sig .tc := ⟨.hbm, 175, rfl⟩
abbrev main_v166 : Ref sig .tc := ⟨.hbm, 176, rfl⟩
abbrev main_v167 : Ref sig .tc := ⟨.hbm, 177, rfl⟩
abbrev main_v168 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_v174 : Ref sig .tc := ⟨.hbm, 184, rfl⟩
abbrev main_v175 : Ref sig .tc := ⟨.hbm, 185, rfl⟩
abbrev main_v176 : Ref sig .tc := ⟨.hbm, 186, rfl⟩
abbrev main_v177 : Ref sig .tc := ⟨.hbm, 187, rfl⟩
abbrev main_v178 : Ref sig .tc := ⟨.hbm, 188, rfl⟩
abbrev main_v179 : Ref sig .tc := ⟨.hbm, 189, rfl⟩
abbrev main_v180_0 : Ref sig .tc := ⟨.hbm, 190, rfl⟩
abbrev main_v180_1 : Ref sig .tc := ⟨.hbm, 191, rfl⟩
abbrev main_v180_2 : Ref sig .tc := ⟨.hbm, 192, rfl⟩
abbrev main_v180_3 : Ref sig .tc := ⟨.hbm, 193, rfl⟩
abbrev main_v180_4 : Ref sig .tc := ⟨.hbm, 194, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c15_i32 : BitVec 32 := 15#32
  let v0 : BitVec 32 := Scalar.subi c15_i32 arg0
  let c2_i32 : BitVec 32 := 2#32
  let c0_i32 : BitVec 32 := 0#32
  let c0_i32_0 : BitVec 32 := 0#32
  ![c2_i32.toNat, v0.toNat, c0_i32.toNat]

def cc0_transform_3 (i : grid0.Coords) : Fin 3 → Nat :=
  let arg0 : BitVec 32 := BitVec.ofNat 32 (i 0).val
  let c15_i32 : BitVec 32 := 15#32
  let v0 : BitVec 32 := Scalar.subi c15_i32 arg0
  let c3_i32 : BitVec 32 := 3#32
  let c0_i32 : BitVec 32 := 0#32
  let c0_i32_0 : BitVec 32 := 0#32
  ![c3_i32.toNat, v0.toNat, c0_i32.toNat]

def cc0_transform_4 (i : grid0.Coords) : Fin 3 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  let c0_i32_1 : BitVec 32 := 0#32
  ![c2_i32.toNat, v3.toNat, c0_i32_0.toNat]

def cc0_transform_5 (i : grid0.Coords) : Fin 3 → Nat :=
  let arg0 : BitVec 32 := BitVec.ofNat 32 (i 0).val
  let c15_i32 : BitVec 32 := 15#32
  let v0 : BitVec 32 := Scalar.subi c15_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c3_i32 : BitVec 32 := 3#32
  let c0_i32_0 : BitVec 32 := 0#32
  let c0_i32_1 : BitVec 32 := 0#32
  ![c3_i32.toNat, v3.toNat, c0_i32_0.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c15_i32 : BitVec 32 := 15#32
  let v0 : BitVec 32 := Scalar.subi c15_i32 arg0
  let c1_i32 : BitVec 32 := 1#32
  let c0_i32 : BitVec 32 := 0#32
  let c0_i32_0 : BitVec 32 := 0#32
  ![c1_i32.toNat, v0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S31x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S31x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ConfGradIdeal.lean ====
abbrev S8192x1024 : Shape := ⟨2, ![8192, 1024]⟩
abbrev S1024x1024 : Shape := ⟨2, ![1024, 1024]⟩
abbrev S8192x2048 : Shape := ⟨2, ![8192, 2048]⟩
abbrev S31x512 : Shape := ⟨2, ![31, 512]⟩
abbrev S1x512 : Shape := ⟨2, ![1, 512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S8192 : Shape := ⟨1, ![8192]⟩
abbrev S8192x1 : Shape := ⟨2, ![8192, 1]⟩
abbrev S512x1024 : Shape := ⟨2, ![512, 1024]⟩
abbrev S512 : Shape := ⟨1, ![512]⟩
abbrev S1x8192x512 : Shape := ⟨3, ![1, 8192, 512]⟩
abbrev S2x8192x512 : Shape := ⟨3, ![2, 8192, 512]⟩
abbrev S4x8192x512 : Shape := ⟨3, ![4, 8192, 512]⟩

abbrev nBuf : Space → Nat
  | .hbm => 654
  | .vmem => 0
  | .smem => 0
  | _ => 0

abbrev hbmTy0_0 (i : Nat) : BufTy := match i % 128 with
  | 0 => ⟨S8192x1024, .f32⟩
  | 1 => ⟨S1024x1024, .f32⟩
  | 2 => ⟨S8192x2048, .f32⟩
  | 3 => ⟨S31x512, .f32⟩
  | 4 => ⟨S1x512, .f32⟩
  | 5 => ⟨S1x512, .f32⟩
  | 6 => ⟨S1x512, .f32⟩
  | 7 => ⟨S8192x512, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S_, .f32⟩
  | 15 => ⟨S8192x512, .f32⟩
  | 16 => ⟨S8192x512, .f32⟩
  | 17 => ⟨S_, .f32⟩
  | 18 => ⟨S8192x512, .f32⟩
  | 19 => ⟨S8192x512, .f32⟩
  | 20 => ⟨S8192x512, .f32⟩
  | 21 => ⟨S8192x512, .f32⟩
  | 22 => ⟨S_, .f32⟩
  | 23 => ⟨S30x512, .f32⟩
  | 24 => ⟨S8222x512, .f32⟩
  | 25 => ⟨S_, .f32⟩
  | 26 => ⟨S30x512, .f32⟩
  | 27 => ⟨S1x512, .f32⟩
  | 28 => ⟨S8192x512, .f32⟩
  | 29 => ⟨S8192x512, .f32⟩
  | 30 => ⟨S8192x512, .f32⟩
  | 31 => ⟨S1x512, .f32⟩
  | 32 => ⟨S8192x512, .f32⟩
  | 33 => ⟨S8192x512, .f32⟩
  | 34 => ⟨S8192x512, .f32⟩
  | 35 => ⟨S8192x512, .f32⟩
  | 36 => ⟨S1x512, .f32⟩
  | 37 => ⟨S8192x512, .f32⟩
  | 38 => ⟨S8192x512, .f32⟩
  | 39 => ⟨S8192x512, .f32⟩
  | 40 => ⟨S8192x512, .f32⟩
  | 41 => ⟨S1x512, .f32⟩
  | 42 => ⟨S8192x512, .f32⟩
  | 43 => ⟨S8192x512, .f32⟩
  | 44 => ⟨S8192x512, .f32⟩
  | 45 => ⟨S8192x512, .f32⟩
  | 46 => ⟨S1x512, .f32⟩
  | 47 => ⟨S8192x512, .f32⟩
  | 48 => ⟨S8192x512, .f32⟩
  | 49 => ⟨S8192x512, .f32⟩
  | 50 => ⟨S8192x512, .f32⟩
  | 51 => ⟨S1x512, .f32⟩
  | 52 => ⟨S8192x512, .f32⟩
  | 53 => ⟨S8192x512, .f32⟩
  | 54 => ⟨S8192x512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S8192x512, .f32⟩
  | 65 => ⟨S8192x512, .f32⟩
  | 66 => ⟨S1x512, .f32⟩
  | 67 => ⟨S8192x512, .f32⟩
  | 68 => ⟨S8192x512, .f32⟩
  | 69 => ⟨S8192x512, .f32⟩
  | 70 => ⟨S8192x512, .f32⟩
  | 71 => ⟨S1x512, .f32⟩
  | 72 => ⟨S8192x512, .f32⟩
  | 73 => ⟨S8192x512, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x512, .f32⟩
  | 80 => ⟨S8192x512, .f32⟩
  | 81 => ⟨S1x512, .f32⟩
  | 82 => ⟨S8192x512, .f32⟩
  | 83 => ⟨S8192x512, .f32⟩
  | 84 => ⟨S8192x512, .f32⟩
  | 85 => ⟨S8192x512, .f32⟩
  | 86 => ⟨S1x512, .f32⟩
  | 87 => ⟨S8192x512, .f32⟩
  | 88 => ⟨S8192x512, .f32⟩
  | 89 => ⟨S8192x512, .f32⟩
  | 90 => ⟨S8192x512, .f32⟩
  | 91 => ⟨S1x512, .f32⟩
  | 92 => ⟨S8192x512, .f32⟩
  | 93 => ⟨S8192x512, .f32⟩
  | 94 => ⟨S8192x512, .f32⟩
  | 95 => ⟨S8192x512, .f32⟩
  | 96 => ⟨S1x512, .f32⟩
  | 97 => ⟨S8192x512, .f32⟩
  | 98 => ⟨S8192x512, .f32⟩
  | 99 => ⟨S8192x512, .f32⟩
  | 100 => ⟨S8192x512, .f32⟩
  | 101 => ⟨S1x512, .f32⟩
  | 102 => ⟨S8192x512, .f32⟩
  | 103 => ⟨S8192x512, .f32⟩
  | 104 => ⟨S8192x512, .f32⟩
  | 105 => ⟨S8192x512, .f32⟩
  | 106 => ⟨S1x512, .f32⟩
  | 107 => ⟨S8192x512, .f32⟩
  | 108 => ⟨S8192x512, .f32⟩
  | 109 => ⟨S8192x512, .f32⟩
  | 110 => ⟨S8192x512, .f32⟩
  | 111 => ⟨S1x512, .f32⟩
  | 112 => ⟨S8192x512, .f32⟩
  | 113 => ⟨S8192x512, .f32⟩
  | 114 => ⟨S8192x512, .f32⟩
  | 115 => ⟨S8192x512, .f32⟩
  | 116 => ⟨S1x512, .f32⟩
  | 117 => ⟨S8192x512, .f32⟩
  | 118 => ⟨S8192x512, .f32⟩
  | 119 => ⟨S8192x512, .f32⟩
  | 120 => ⟨S8192x512, .f32⟩
  | 121 => ⟨S1x512, .f32⟩
  | 122 => ⟨S8192x512, .f32⟩
  | 123 => ⟨S8192x512, .f32⟩
  | 124 => ⟨S8192x512, .f32⟩
  | 125 => ⟨S8192x512, .f32⟩
  | 126 => ⟨S1x512, .f32⟩
  | 127 => ⟨S8192x512, .f32⟩
  | _ => ⟨S8192x1024, .f32⟩

abbrev hbmTy0_1 (i : Nat) : BufTy := match i % 128 with
  | 0 => ⟨S8192x512, .f32⟩
  | 1 => ⟨S8192x512, .f32⟩
  | 2 => ⟨S8192x512, .f32⟩
  | 3 => ⟨S1x512, .f32⟩
  | 4 => ⟨S8192x512, .f32⟩
  | 5 => ⟨S8192x512, .f32⟩
  | 6 => ⟨S8192x512, .f32⟩
  | 7 => ⟨S8192x512, .f32⟩
  | 8 => ⟨S1x512, .f32⟩
  | 9 => ⟨S8192x512, .f32⟩
  | 10 => ⟨S8192x512, .f32⟩
  | 11 => ⟨S8192x512, .f32⟩
  | 12 => ⟨S8192x512, .f32⟩
  | 13 => ⟨S1x512, .f32⟩
  | 14 => ⟨S8192x512, .f32⟩
  | 15 => ⟨S8192x512, .f32⟩
  | 16 => ⟨S8192x512, .f32⟩
  | 17 => ⟨S8192x512, .f32⟩
  | 18 => ⟨S1x512, .f32⟩
  | 19 => ⟨S8192x512, .f32⟩
  | 20 => ⟨S8192x512, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S8192x512, .f32⟩
  | 54 => ⟨S8192x512, .f32⟩
  | 55 => ⟨S_, .f32⟩
  | 56 => ⟨S8192, .f32⟩
  | 57 => ⟨S8192x1, .f32⟩
  | 58 => ⟨S_, .f32⟩
  | 59 => ⟨S8192x1, .f32⟩
  | 60 => ⟨S8192x1, .f32⟩
  | 61 => ⟨S8192x512, .f32⟩
  | 62 => ⟨S8192x512, .f32⟩
  | 63 => ⟨S8192x512, .f32⟩
  | 64 => ⟨S_, .f32⟩
  | 65 => ⟨S8192, .f32⟩
  | 66 => ⟨S8192x1, .f32⟩
  | 67 => ⟨S_, .f32⟩
  | 68 => ⟨S8192x1, .f32⟩
  | 69 => ⟨S8192x1, .f32⟩
  | 70 => ⟨S_, .f32⟩
  | 71 => ⟨S8192x1, .f32⟩
  | 72 => ⟨S8192x1, .f32⟩
  | 73 => ⟨S8192x1, .f32⟩
  | 74 => ⟨S8192x1, .f32⟩
  | 75 => ⟨S_, .f32⟩
  | 76 => ⟨S8192x1, .f32⟩
  | 77 => ⟨S8192x1, .f32⟩
  | 78 => ⟨S8192x512, .f32⟩
  | 79 => ⟨S8192x512, .f32⟩
  | 80 => ⟨S8192x512, .f32⟩
  | 81 => ⟨S8192x512, .f32⟩
  | 82 => ⟨S8192x512, .f32⟩
  | 83 => ⟨S8192x512, .f32⟩
  | 84 => ⟨S8192x512, .f32⟩
  | 85 => ⟨S8192x512, .f32⟩
  | 86 => ⟨S_, .f32⟩
  | 87 => ⟨S8192x512, .f32⟩
  | 88 => ⟨S8192x512, .f32⟩
  | 89 => ⟨S_, .f32⟩
  | 90 => ⟨S8192x512, .f32⟩
  | 91 => ⟨S8192x512, .f32⟩
  | 92 => ⟨S_, .f32⟩
  | 93 => ⟨S8192x512, .f32⟩
  | 94 => ⟨S8192x512, .f32⟩
  | 95 => ⟨S8192x512, .f32⟩
  | 96 => ⟨S8192x512, .f32⟩
  | 97 => ⟨S512x1024, .f32⟩
  | 98 => ⟨S8192x1024, .f32⟩
  | 99 => ⟨S8192x512, .f32⟩
  | 100 => ⟨S8192x512, .f32⟩
  | 101 => ⟨S8192x512, .f32⟩
  | 102 => ⟨S8192x512, .f32⟩
  | 103 => ⟨S8192x512, .f32⟩
  | 104 => ⟨S_, .f32⟩
  | 105 => ⟨S512, .f32⟩
  | 106 => ⟨S1x512, .f32⟩
  | 107 => ⟨S8192x512, .f32⟩
  | 108 => ⟨S_, .f32⟩
  | 109 => ⟨S512, .f32⟩
  | 110 => ⟨S1x512, .f32⟩
  | 111 => ⟨S8192x512, .f32⟩
  | 112 => ⟨S8192x512, .f32⟩
  | 113 => ⟨S8192x512, .f32⟩
  | 114 => ⟨S_, .f32⟩
  | 115 => ⟨S8192, .f32⟩
  | 116 => ⟨S8192x1, .f32⟩
  | 117 => ⟨S8192x512, .f32⟩
  | 118 => ⟨S8192x512, .f32⟩
  | 119 => ⟨S8192x1, .f32⟩
  | 120 => ⟨S_, .f32⟩
  | 121 => ⟨S8192x1, .f32⟩
  | 122 => ⟨S8192x1, .f32⟩
  | 123 => ⟨S_, .f32⟩
  | 124 => ⟨S8192, .f32⟩
  | 125 => ⟨S8192x512, .f32⟩
  | 126 => ⟨S8192x512, .f32⟩
  | 127 => ⟨S8192x512, .f32⟩
  | _ => ⟨S8192x1024, .f32⟩

abbrev hbmTy0_2 (i : Nat) : BufTy := match i % 128 with
  | 0 => ⟨S8192x512, .f32⟩
  | 1 => ⟨S8192x512, .f32⟩
  | 2 => ⟨S8192x512, .f32⟩
  | 3 => ⟨S_, .f32⟩
  | 4 => ⟨S8192, .f32⟩
  | 5 => ⟨S8192x1, .f32⟩
  | 6 => ⟨S_, .f32⟩
  | 7 => ⟨S8192x1, .f32⟩
  | 8 => ⟨S8192x1, .f32⟩
  | 9 => ⟨S_, .f32⟩
  | 10 => ⟨S8192, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S8192x512, .f32⟩
  | 17 => ⟨S8192x512, .f32⟩
  | 18 => ⟨S8192x512, .f32⟩
  | 19 => ⟨S_, .f32⟩
  | 20 => ⟨S512, .f32⟩
  | 21 => ⟨S1x512, .f32⟩
  | 22 => ⟨S_, .f32⟩
  | 23 => ⟨S8222x512, .f32⟩
  | 24 => ⟨S_, .f32⟩
  | 25 => ⟨S31x512, .f32⟩
  | 26 => ⟨S8192x512, .f32⟩
  | 27 => ⟨S8192x512, .f32⟩
  | 28 => ⟨S8192x512, .f32⟩
  | 29 => ⟨S_, .f32⟩
  | 30 => ⟨S512, .f32⟩
  | 31 => ⟨S1x512, .f32⟩
  | 32 => ⟨S_, .f32⟩
  | 33 => ⟨S8222x512, .f32⟩
  | 34 => ⟨S8222x512, .f32⟩
  | 35 => ⟨S_, .f32⟩
  | 36 => ⟨S31x512, .f32⟩
  | 37 => ⟨S31x512, .f32⟩
  | 38 => ⟨S8192x512, .f32⟩
  | 39 => ⟨S8192x512, .f32⟩
  | 40 => ⟨S8192x512, .f32⟩
  | 41 => ⟨S_, .f32⟩
  | 42 => ⟨S512, .f32⟩
  | 43 => ⟨S1x512, .f32⟩
  | 44 => ⟨S_, .f32⟩
  | 45 => ⟨S8222x512, .f32⟩
  | 46 => ⟨S8222x512, .f32⟩
  | 47 => ⟨S_, .f32⟩
  | 48 => ⟨S31x512, .f32⟩
  | 49 => ⟨S31x512, .f32⟩
  | 50 => ⟨S8192x512, .f32⟩
  | 51 => ⟨S8192x512, .f32⟩
  | 52 => ⟨S8192x512, .f32⟩
  | 53 => ⟨S_, .f32⟩
  | 54 => ⟨S512, .f32⟩
  | 55 => ⟨S1x512, .f32⟩
  | 56 => ⟨S_, .f32⟩
  | 57 => ⟨S8222x512, .f32⟩
  | 58 => ⟨S8222x512, .f32⟩
  | 59 => ⟨S_, .f32⟩
  | 60 => ⟨S31x512, .f32⟩
  | 61 => ⟨S31x512, .f32⟩
  | 62 => ⟨S8192x512, .f32⟩
  | 63 => ⟨S8192x512, .f32⟩
  | 64 => ⟨S8192x512, .f32⟩
  | 65 => ⟨S_, .f32⟩
  | 66 => ⟨S512, .f32⟩
  | 67 => ⟨S1x512, .f32⟩
  | 68 => ⟨S_, .f32⟩
  | 69 => ⟨S8222x512, .f32⟩
  | 70 => ⟨S8222x512, .f32⟩
  | 71 => ⟨S_, .f32⟩
  | 72 => ⟨S31x512, .f32⟩
  | 73 => ⟨S31x512, .f32⟩
  | 74 => ⟨S8192x512, .f32⟩
  | 75 => ⟨S8192x512, .f32⟩
  | 76 => ⟨S8192x512, .f32⟩
  | 77 => ⟨S_, .f32⟩
  | 78 => ⟨S512, .f32⟩
  | 79 => ⟨S1x512, .f32⟩
  | 80 => ⟨S_, .f32⟩
  | 81 => ⟨S8222x512, .f32⟩
  | 82 => ⟨S8222x512, .f32⟩
  | 83 => ⟨S_, .f32⟩
  | 84 => ⟨S31x512, .f32⟩
  | 85 => ⟨S31x512, .f32⟩
  | 86 => ⟨S8192x512, .f32⟩
  | 87 => ⟨S8192x512, .f32⟩
  | 88 => ⟨S8192x512, .f32⟩
  | 89 => ⟨S_, .f32⟩
  | 90 => ⟨S512, .f32⟩
  | 91 => ⟨S1x512, .f32⟩
  | 92 => ⟨S_, .f32⟩
  | 93 => ⟨S8222x512, .f32⟩
  | 94 => ⟨S8222x512, .f32⟩
  | 95 => ⟨S_, .f32⟩
  | 96 => ⟨S31x512, .f32⟩
  | 97 => ⟨S31x512, .f32⟩
  | 98 => ⟨S8192x512, .f32⟩
  | 99 => ⟨S8192x512, .f32⟩
  | 100 => ⟨S8192x512, .f32⟩
  | 101 => ⟨S_, .f32⟩
  | 102 => ⟨S512, .f32⟩
  | 103 => ⟨S1x512, .f32⟩
  | 104 => ⟨S_, .f32⟩
  | 105 => ⟨S8222x512, .f32⟩
  | 106 => ⟨S8222x512, .f32⟩
  | 107 => ⟨S_, .f32⟩
  | 108 => ⟨S31x512, .f32⟩
  | 109 => ⟨S31x512, .f32⟩
  | 110 => ⟨S8192x512, .f32⟩
  | 111 => ⟨S8192x512, .f32⟩
  | 112 => ⟨S8192x512, .f32⟩
  | 113 => ⟨S_, .f32⟩
  | 114 => ⟨S512, .f32⟩
  | 115 => ⟨S1x512, .f32⟩
  | 116 => ⟨S_, .f32⟩
  | 117 => ⟨S8222x512, .f32⟩
  | 118 => ⟨S8222x512, .f32⟩
  | 119 => ⟨S_, .f32⟩
  | 120 => ⟨S31x512, .f32⟩
  | 121 => ⟨S31x512, .f32⟩
  | 122 => ⟨S8192x512, .f32⟩
  | 123 => ⟨S8192x512, .f32⟩
  | 124 => ⟨S8192x512, .f32⟩
  | 125 => ⟨S_, .f32⟩
  | 126 => ⟨S512, .f32⟩
  | 127 => ⟨S1x512, .f32⟩
  | _ => ⟨S8192x1024, .f32⟩

abbrev hbmTy0_3 (i : Nat) : BufTy := match i % 128 with
  | 0 => ⟨S_, .f32⟩
  | 1 => ⟨S8222x512, .f32⟩
  | 2 => ⟨S8222x512, .f32⟩
  | 3 => ⟨S_, .f32⟩
  | 4 => ⟨S31x512, .f32⟩
  | 5 => ⟨S31x512, .f32⟩
  | 6 => ⟨S8192x512, .f32⟩
  | 7 => ⟨S8192x512, .f32⟩
  | 8 => ⟨S8192x512, .f32⟩
  | 9 => ⟨S_, .f32⟩
  | 10 => ⟨S512, .f32⟩
  | 11 => ⟨S1x512, .f32⟩
  | 12 => ⟨S_, .f32⟩
  | 13 => ⟨S8222x512, .f32⟩
  | 14 => ⟨S8222x512, .f32⟩
  | 15 => ⟨S_, .f32⟩
  | 16 => ⟨S31x512, .f32⟩
  | 17 => ⟨S31x512, .f32⟩
  | 18 => ⟨S8192x512, .f32⟩
  | 19 => ⟨S8192x512, .f32⟩
  | 20 => ⟨S8192x512, .f32⟩
  | 21 => ⟨S_, .f32⟩
  | 22 => ⟨S512, .f32⟩
  | 23 => ⟨S1x512, .f32⟩
  | 24 => ⟨S_, .f32⟩
  | 25 => ⟨S8222x512, .f32⟩
  | 26 => ⟨S8222x512, .f32⟩
  | 27 => ⟨S_, .f32⟩
  | 28 => ⟨S31x512, .f32⟩
  | 29 => ⟨S31x512, .f32⟩
  | 30 => ⟨S8192x512, .f32⟩
  | 31 => ⟨S8192x512, .f32⟩
  | 32 => ⟨S8192x512, .f32⟩
  | 33 => ⟨S_, .f32⟩
  | 34 => ⟨S512, .f32⟩
  | 35 => ⟨S1x512, .f32⟩
  | 36 => ⟨S_, .f32⟩
  | 37 => ⟨S8222x512, .f32⟩
  | 38 => ⟨S8222x512, .f32⟩
  | 39 => ⟨S_, .f32⟩
  | 40 => ⟨S31x512, .f32⟩
  | 41 => ⟨S31x512, .f32⟩
  | 42 => ⟨S8192x512, .f32⟩
  | 43 => ⟨S8192x512, .f32⟩
  | 44 => ⟨S8192x512, .f32⟩
  | 45 => ⟨S_, .f32⟩
  | 46 => ⟨S512, .f32⟩
  | 47 => ⟨S1x512, .f32⟩
  | 48 => ⟨S_, .f32⟩
  | 49 => ⟨S8222x512, .f32⟩
  | 50 => ⟨S8222x512, .f32⟩
  | 51 => ⟨S_, .f32⟩
  | 52 => ⟨S31x512, .f32⟩
  | 53 => ⟨S31x512, .f32⟩
  | 54 => ⟨S8192x512, .f32⟩
  | 55 => ⟨S8192x512, .f32⟩
  | 56 => ⟨S8192x512, .f32⟩
  | 57 => ⟨S_, .f32⟩
  | 58 => ⟨S512, .f32⟩
  | 59 => ⟨S1x512, .f32⟩
  | 60 => ⟨S_, .f32⟩
  | 61 => ⟨S8222x512, .f32⟩
  | 62 => ⟨S8222x512, .f32⟩
  | 63 => ⟨S_, .f32⟩
  | 64 => ⟨S31x512, .f32⟩
  | 65 => ⟨S31x512, .f32⟩
  | 66 => ⟨S8192x512, .f32⟩
  | 67 => ⟨S8192x512, .f32⟩
  | 68 => ⟨S8192x512, .f32⟩
  | 69 => ⟨S_, .f32⟩
  | 70 => ⟨S512, .f32⟩
  | 71 => ⟨S1x512, .f32⟩
  | 72 => ⟨S_, .f32⟩
  | 73 => ⟨S8222x512, .f32⟩
  | 74 => ⟨S8222x512, .f32⟩
  | 75 => ⟨S_, .f32⟩
  | 76 => ⟨S31x512, .f32⟩
  | 77 => ⟨S31x512, .f32⟩
  | 78 => ⟨S8192x512, .f32⟩
  | 79 => ⟨S8192x512, .f32⟩
  | 80 => ⟨S8192x512, .f32⟩
  | 81 => ⟨S_, .f32⟩
  | 82 => ⟨S512, .f32⟩
  | 83 => ⟨S1x512, .f32⟩
  | 84 => ⟨S_, .f32⟩
  | 85 => ⟨S8222x512, .f32⟩
  | 86 => ⟨S8222x512, .f32⟩
  | 87 => ⟨S_, .f32⟩
  | 88 => ⟨S31x512, .f32⟩
  | 89 => ⟨S31x512, .f32⟩
  | 90 => ⟨S8192x512, .f32⟩
  | 91 => ⟨S8192x512, .f32⟩
  | 92 => ⟨S8192x512, .f32⟩
  | 93 => ⟨S_, .f32⟩
  | 94 => ⟨S512, .f32⟩
  | 95 => ⟨S1x512, .f32⟩
  | 96 => ⟨S_, .f32⟩
  | 97 => ⟨S8222x512, .f32⟩
  | 98 => ⟨S8222x512, .f32⟩
  | 99 => ⟨S_, .f32⟩
  | 100 => ⟨S31x512, .f32⟩
  | 101 => ⟨S31x512, .f32⟩
  | 102 => ⟨S8192x512, .f32⟩
  | 103 => ⟨S8192x512, .f32⟩
  | 104 => ⟨S8192x512, .f32⟩
  | 105 => ⟨S_, .f32⟩
  | 106 => ⟨S512, .f32⟩
  | 107 => ⟨S1x512, .f32⟩
  | 108 => ⟨S_, .f32⟩
  | 109 => ⟨S8222x512, .f32⟩
  | 110 => ⟨S8222x512, .f32⟩
  | 111 => ⟨S_, .f32⟩
  | 112 => ⟨S31x512, .f32⟩
  | 113 => ⟨S31x512, .f32⟩
  | 114 => ⟨S8192x512, .f32⟩
  | 115 => ⟨S8192x512, .f32⟩
  | 116 => ⟨S8192x512, .f32⟩
  | 117 => ⟨S_, .f32⟩
  | 118 => ⟨S512, .f32⟩
  | 119 => ⟨S1x512, .f32⟩
  | 120 => ⟨S_, .f32⟩
  | 121 => ⟨S8222x512, .f32⟩
  | 122 => ⟨S8222x512, .f32⟩
  | 123 => ⟨S_, .f32⟩
  | 124 => ⟨S31x512, .f32⟩
  | 125 => ⟨S31x512, .f32⟩
  | 126 => ⟨S8192x512, .f32⟩
  | 127 => ⟨S8192x512, .f32⟩
  | _ => ⟨S8192x1024, .f32⟩

abbrev hbmTy0_4 (i : Nat) : BufTy := match i % 128 with
  | 0 => ⟨S8192x512, .f32⟩
  | 1 => ⟨S_, .f32⟩
  | 2 => ⟨S512, .f32⟩
  | 3 => ⟨S1x512, .f32⟩
  | 4 => ⟨S_, .f32⟩
  | 5 => ⟨S8222x512, .f32⟩
  | 6 => ⟨S8222x512, .f32⟩
  | 7 => ⟨S_, .f32⟩
  | 8 => ⟨S31x512, .f32⟩
  | 9 => ⟨S31x512, .f32⟩
  | 10 => ⟨S8192x512, .f32⟩
  | 11 => ⟨S8192x512, .f32⟩
  | 12 => ⟨S8192x512, .f32⟩
  | 13 => ⟨S_, .f32⟩
  | 14 => ⟨S512, .f32⟩
  | 15 => ⟨S1x512, .f32⟩
  | 16 => ⟨S_, .f32⟩
  | 17 => ⟨S8222x512, .f32⟩
  | 18 => ⟨S8222x512, .f32⟩
  | 19 => ⟨S_, .f32⟩
  | 20 => ⟨S31x512, .f32⟩
  | 21 => ⟨S31x512, .f32⟩
  | 22 => ⟨S8192x512, .f32⟩
  | 23 => ⟨S8192x512, .f32⟩
  | 24 => ⟨S8192x512, .f32⟩
  | 25 => ⟨S_, .f32⟩
  | 26 => ⟨S512, .f32⟩
  | 27 => ⟨S1x512, .f32⟩
  | 28 => ⟨S_, .f32⟩
  | 29 => ⟨S8222x512, .f32⟩
  | 30 => ⟨S8222x512, .f32⟩
  | 31 => ⟨S_, .f32⟩
  | 32 => ⟨S31x512, .f32⟩
  | 33 => ⟨S31x512, .f32⟩
  | 34 => ⟨S8192x512, .f32⟩
  | 35 => ⟨S8192x512, .f32⟩
  | 36 => ⟨S8192x512, .f32⟩
  | 37 => ⟨S_, .f32⟩
  | 38 => ⟨S512, .f32⟩
  | 39 => ⟨S1x512, .f32⟩
  | 40 => ⟨S_, .f32⟩
  | 41 => ⟨S8222x512, .f32⟩
  | 42 => ⟨S8222x512, .f32⟩
  | 43 => ⟨S_, .f32⟩
  | 44 => ⟨S31x512, .f32⟩
  | 45 => ⟨S31x512, .f32⟩
  | 46 => ⟨S8192x512, .f32⟩
  | 47 => ⟨S8192x512, .f32⟩
  | 48 => ⟨S8192x512, .f32⟩
  | 49 => ⟨S_, .f32⟩
  | 50 => ⟨S512, .f32⟩
  | 51 => ⟨S1x512, .f32⟩
  | 52 => ⟨S_, .f32⟩
  | 53 => ⟨S8222x512, .f32⟩
  | 54 => ⟨S8222x512, .f32⟩
  | 55 => ⟨S_, .f32⟩
  | 56 => ⟨S31x512, .f32⟩
  | 57 => ⟨S31x512, .f32⟩
  | 58 => ⟨S8192x512, .f32⟩
  | 59 => ⟨S8192x512, .f32⟩
  | 60 => ⟨S8192x512, .f32⟩
  | 61 => ⟨S_, .f32⟩
  | 62 => ⟨S512, .f32⟩
  | 63 => ⟨S1x512, .f32⟩
  | 64 => ⟨S_, .f32⟩
  | 65 => ⟨S8222x512, .f32⟩
  | 66 => ⟨S8222x512, .f32⟩
  | 67 => ⟨S_, .f32⟩
  | 68 => ⟨S31x512, .f32⟩
  | 69 => ⟨S31x512, .f32⟩
  | 70 => ⟨S8192x512, .f32⟩
  | 71 => ⟨S8192x512, .f32⟩
  | 72 => ⟨S8192x512, .f32⟩
  | 73 => ⟨S_, .f32⟩
  | 74 => ⟨S512, .f32⟩
  | 75 => ⟨S1x512, .f32⟩
  | 76 => ⟨S_, .f32⟩
  | 77 => ⟨S8222x512, .f32⟩
  | 78 => ⟨S8222x512, .f32⟩
  | 79 => ⟨S_, .f32⟩
  | 80 => ⟨S31x512, .f32⟩
  | 81 => ⟨S31x512, .f32⟩
  | 82 => ⟨S8192x512, .f32⟩
  | 83 => ⟨S8192x512, .f32⟩
  | 84 => ⟨S8192x512, .f32⟩
  | 85 => ⟨S_, .f32⟩
  | 86 => ⟨S512, .f32⟩
  | 87 => ⟨S1x512, .f32⟩
  | 88 => ⟨S_, .f32⟩
  | 89 => ⟨S8222x512, .f32⟩
  | 90 => ⟨S8222x512, .f32⟩
  | 91 => ⟨S_, .f32⟩
  | 92 => ⟨S31x512, .f32⟩
  | 93 => ⟨S31x512, .f32⟩
  | 94 => ⟨S8192x512, .f32⟩
  | 95 => ⟨S8192x512, .f32⟩
  | 96 => ⟨S8192x512, .f32⟩
  | 97 => ⟨S_, .f32⟩
  | 98 => ⟨S512, .f32⟩
  | 99 => ⟨S1x512, .f32⟩
  | 100 => ⟨S_, .f32⟩
  | 101 => ⟨S8222x512, .f32⟩
  | 102 => ⟨S8222x512, .f32⟩
  | 103 => ⟨S_, .f32⟩
  | 104 => ⟨S31x512, .f32⟩
  | 105 => ⟨S31x512, .f32⟩
  | 106 => ⟨S8192x512, .f32⟩
  | 107 => ⟨S8192x512, .f32⟩
  | 108 => ⟨S8192x512, .f32⟩
  | 109 => ⟨S_, .f32⟩
  | 110 => ⟨S512, .f32⟩
  | 111 => ⟨S1x512, .f32⟩
  | 112 => ⟨S_, .f32⟩
  | 113 => ⟨S8222x512, .f32⟩
  | 114 => ⟨S8222x512, .f32⟩
  | 115 => ⟨S_, .f32⟩
  | 116 => ⟨S31x512, .f32⟩
  | 117 => ⟨S31x512, .f32⟩
  | 118 => ⟨S8192x512, .f32⟩
  | 119 => ⟨S8192x512, .f32⟩
  | 120 => ⟨S8192x512, .f32⟩
  | 121 => ⟨S_, .f32⟩
  | 122 => ⟨S512, .f32⟩
  | 123 => ⟨S1x512, .f32⟩
  | 124 => ⟨S_, .f32⟩
  | 125 => ⟨S8222x512, .f32⟩
  | 126 => ⟨S8222x512, .f32⟩
  | 127 => ⟨S_, .f32⟩
  | _ => ⟨S8192x1024, .f32⟩

abbrev hbmTy0_5 (i : Nat) : BufTy := match i % 128 with
  | 0 => ⟨S31x512, .f32⟩
  | 1 => ⟨S31x512, .f32⟩
  | 2 => ⟨S30x512, .f32⟩
  | 3 => ⟨S8192x512, .f32⟩
  | 4 => ⟨S8192x512, .f32⟩
  | 5 => ⟨S8192x512, .f32⟩
  | 6 => ⟨S8192x512, .f32⟩
  | 7 => ⟨S1x8192x512, .f32⟩
  | 8 => ⟨S1x8192x512, .f32⟩
  | 9 => ⟨S2x8192x512, .f32⟩
  | 10 => ⟨S2x8192x512, .bf16⟩
  | 11 => ⟨S_, .bf16⟩
  | 12 => ⟨S2x8192x512, .bf16⟩
  | 13 => ⟨S4x8192x512, .bf16⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_cst_4 : Ref sig .tc := ⟨.hbm, 183, rfl⟩
abbrev main_v171 : Ref sig .tc := ⟨.hbm, 184, rfl⟩
abbrev main_v172 : Ref sig .tc := ⟨.hbm, 185, rfl⟩
abbrev main_cst_5 : Ref sig .tc := ⟨.hbm, 186, rfl⟩
abbrev main_v173 : Ref sig .tc := ⟨.hbm, 187, rfl⟩
abbrev main_v174 : Ref sig .tc := ⟨.hbm, 188, rfl⟩
abbrev main_v175 : Ref sig .tc := ⟨.hbm, 189, rfl⟩
abbrev main_v176 : Ref sig .tc := ⟨.hbm, 190, rfl⟩
abbrev main_v177 : Ref sig .tc := ⟨.hbm, 191, rfl⟩
abbrev main_cst_6 : Ref sig .tc := ⟨.hbm, 192, rfl⟩
abbrev main_v178 : Ref sig .tc := ⟨.hbm, 193, rfl⟩
abbrev main_v179 : Ref sig .tc := ⟨.hbm, 194, rfl⟩
abbrev main_cst_7 : Ref sig .tc := ⟨.hbm, 195, rfl⟩
abbrev main_v180 : Ref sig .tc := ⟨.hbm, 196, rfl⟩
abbrev main_v181 : Ref sig .tc := ⟨.hbm, 197, rfl⟩
abbrev main_cst_8 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_cst_9 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_call0_v0 : Ref sig .tc := ⟨.hbm, 212, rfl⟩
abbrev main_call0_v1 : Ref sig .tc := ⟨.hbm, 213, rfl⟩
abbrev main_call0_cst : Ref sig .tc := ⟨.hbm, 214, rfl⟩
abbrev main_call0_v2 : Ref sig .tc := ⟨.hbm, 215, rfl⟩
abbrev main_call0_v3 : Ref sig .tc := ⟨.hbm, 216, rfl⟩
abbrev main_call0_cst_0 : Ref sig .tc := ⟨.hbm, 217, rfl⟩
abbrev main_call0_v4 : Ref sig .tc := ⟨.hbm, 218, rfl⟩
abbrev main_v194_2 : Ref sig .tc := ⟨.hbm, 219, rfl⟩
abbrev main_call0_cst_1 : Ref sig .tc := ⟨.hbm, 220, rfl⟩
abbrev main_call0_v6 : Ref sig .tc := ⟨.hbm, 221, rfl⟩
abbrev main_call0_v7 : Ref sig .tc := ⟨.hbm, 222, rfl⟩
abbrev main_v194_1 : Ref sig .tc := ⟨.hbm, 223, rfl⟩
abbrev main_v194_0 : Ref sig .tc := ⟨.hbm, 224, rfl⟩
abbrev main_v195 : Ref sig .tc := ⟨.hbm, 225, rfl⟩
abbrev main_v196 : Ref sig .tc := ⟨.hbm, 226, rfl⟩
abbrev main_v197 : Ref sig .tc := ⟨.hbm, 227, rfl⟩
abbrev main_call1_v0 : Ref sig .tc := ⟨.hbm, 228, rfl⟩
abbrev main_call1_v1 : Ref sig .tc := ⟨.hbm, 229, rfl⟩
abbrev main_call1_v2 : Ref sig .tc := ⟨.hbm, 230, rfl⟩
abbrev main_v198 : Ref sig .tc := ⟨.hbm, 231, rfl⟩
abbrev main_cst_10 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_cst_11 : Ref sig .tc := ⟨.hbm, 236, rfl⟩
abbrev main_v202 : Ref sig .tc := ⟨.hbm, 237, rfl⟩
abbrev main_v203 : Ref sig .tc := ⟨.hbm, 238, rfl⟩
abbrev main_v204 : Ref sig .tc := ⟨.hbm, 239, rfl⟩
abbrev main_v205 : Ref sig .tc := ⟨.hbm, 240, rfl⟩
abbrev main_v206 : Ref sig .tc := ⟨.hbm, 241, rfl⟩
abbrev main_cst_12 : Ref sig .tc := ⟨.hbm, 242, rfl⟩
abbrev main_v207 : Ref sig .tc := ⟨.hbm, 243, rfl⟩
abbrev main_v208 : Ref sig .tc := ⟨.hbm, 244, rfl⟩
abbrev main_v209 : Ref sig .tc := ⟨.hbm, 245, rfl⟩
abbrev main_v210 : Ref sig .tc := ⟨.hbm, 246, rfl⟩
abbrev main_v211 : Ref sig .tc := ⟨.hbm, 247, rfl⟩
abbrev main_cst_13 : Ref sig .tc := ⟨.hbm, 248, rfl⟩
abbrev main_v212 : Ref sig .tc := ⟨.hbm, 249, rfl⟩
abbrev main_v213 : Ref sig .tc := ⟨.hbm, 250, rfl⟩
abbrev main_cst_14 : Ref sig .tc := ⟨.hbm, 251, rfl⟩
abbrev main_v214 : Ref sig .tc := ⟨.hbm, 252, rfl⟩
abbrev main_v215 : Ref sig .tc := ⟨.hbm, 253, rfl⟩
abbrev main_v216 : Ref sig .tc := ⟨.hbm, 254, rfl⟩
abbrev main_v217 : Ref sig .tc := ⟨.hbm, 255, rfl⟩
abbrev main_v218 : Ref sig .tc := ⟨.hbm, 256, rfl⟩
abbrev main_v219 : Ref sig .tc := ⟨.hbm, 257, rfl⟩
abbrev main_v220 : Ref sig .tc := ⟨.hbm, 258, rfl⟩
abbrev main_cst_15 : Ref sig .tc := ⟨.hbm, 259, rfl⟩
abbrev main_v221 : Ref sig .tc := ⟨.hbm, 260, rfl⟩
abbrev main_v222 : Ref sig .tc := ⟨.hbm, 261, rfl⟩
abbrev main_cst_16 : Ref sig .tc := ⟨.hbm, 262, rfl⟩
abbrev main_v223 : Ref sig .tc := ⟨.hbm, 263, rfl⟩
abbrev main_v224 : Ref sig .tc := ⟨.hbm, 264, rfl⟩
abbrev main_cst_17 : Ref sig .tc := ⟨.hbm, 265, rfl⟩
abbrev main_v225 : Ref sig .tc := ⟨.hbm, 266, rfl⟩
abbrev main_v226 : Ref sig .tc := ⟨.hbm, 267, rfl⟩
abbrev main_v227 : Ref sig .tc := ⟨.hbm, 268, rfl⟩
abbrev main_cst_18 : Ref sig .tc := ⟨.hbm, 269, rfl⟩
abbrev main_v228 : Ref sig .tc := ⟨.hbm, 270, rfl⟩
abbrev main_v229 : Ref sig .tc := ⟨.hbm, 271, rfl⟩
abbrev main_v230 : Ref sig .tc := ⟨.hbm, 272, rfl⟩
abbrev main_v231 : Ref sig .tc := ⟨.hbm, 273, rfl⟩
abbrev main_v232 : Ref sig .tc := ⟨.hbm, 274, rfl⟩
abbrev main_cst_19 : Ref sig .tc := ⟨.hbm, 275, rfl⟩
abbrev main_v233 : Ref sig .tc := ⟨.hbm, 276, rfl⟩
abbrev main_v234 : Ref sig .tc := ⟨.hbm, 277, rfl⟩
abbrev main_cst_20 : Ref sig .tc := ⟨.hbm, 278, rfl⟩
abbrev main_v235 : Ref sig .tc := ⟨.hbm, 279, rfl⟩
abbrev main_cst_21 : Ref sig .tc := ⟨.hbm, 280, rfl⟩
abbrev main_v236 : Ref sig .tc := ⟨.hbm, 281, rfl⟩
abbrev main_v237 : Ref sig .tc := ⟨.hbm, 282, rfl⟩
abbrev main_v238 : Ref sig .tc := ⟨.hbm, 283, rfl⟩
abbrev main_v239 : Ref sig .tc := ⟨.hbm, 284, rfl⟩
abbrev main_cst_22 : Ref sig .tc := ⟨.hbm, 285, rfl⟩
abbrev main_v240 : Ref sig .tc := ⟨.hbm, 286, rfl⟩
abbrev main_v241 : Ref sig .tc := ⟨.hbm, 287, rfl⟩
abbrev main_cst_23 : Ref sig .tc := ⟨.hbm, 288, rfl⟩
abbrev main_v242 : Ref sig .tc := ⟨.hbm, 289, rfl⟩
abbrev main_v243 : Ref sig .tc := ⟨.hbm, 290, rfl⟩
abbrev main_cst_24 : Ref sig .tc := ⟨.hbm, 291, rfl⟩
abbrev main_v244 : Ref sig .tc := ⟨.hbm, 292, rfl⟩
abbrev main_v245 : Ref sig .tc := ⟨.hbm, 293, rfl⟩
abbrev main_v246 : Ref sig .tc := ⟨.hbm, 294, rfl⟩
abbrev main_v247 : Ref sig .tc := ⟨.hbm, 295, rfl⟩
abbrev main_v248 : Ref sig .tc := ⟨.hbm, 296, rfl⟩
abbrev main_cst_25 : Ref sig .tc := ⟨.hbm, 297, rfl⟩
abbrev main_v249 : Ref sig .tc := ⟨.hbm, 298, rfl⟩
abbrev main_v250 : Ref sig .tc := ⟨.hbm, 299, rfl⟩
abbrev main_cst_26 : Ref sig .tc := ⟨.hbm, 300, rfl⟩
abbrev main_v251 : Ref sig .tc := ⟨.hbm, 301, rfl⟩
abbrev main_v252 : Ref sig .tc := ⟨.hbm, 302, rfl⟩
abbrev main_cst_27 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_cst_28 : Ref sig .tc := ⟨.hbm, 309, rfl⟩
abbrev main_v258 : Ref sig .tc := ⟨.hbm, 310, rfl⟩
abbrev main_v259 : Ref sig .tc := ⟨.hbm, 311, rfl⟩
abbrev main_cst_29 : Ref sig .tc := ⟨.hbm, 312, rfl⟩
abbrev main_v260 : Ref sig .tc := ⟨.hbm, 313, rfl⟩
abbrev main_v261 : Ref sig .tc := ⟨.hbm, 314, rfl⟩
abbrev main_cst_30 : Ref sig .tc := ⟨.hbm, 315, rfl⟩
abbrev main_v262 : Ref sig .tc := ⟨.hbm, 316, rfl⟩
abbrev main_v263 : Ref sig .tc := ⟨.hbm, 317, rfl⟩
abbrev main_v264 : Ref sig .tc := ⟨.hbm, 318, rfl⟩
abbrev main_v265 : Ref sig .tc := ⟨.hbm, 319, rfl⟩
abbrev main_v266 : Ref sig .tc := ⟨.hbm, 320, rfl⟩
abbrev main_cst_31 : Ref sig .tc := ⟨.hbm, 321, rfl⟩
abbrev main_v267 : Ref sig .tc := ⟨.hbm, 322, rfl⟩
abbrev main_v268 : Ref sig .tc := ⟨.hbm, 323, rfl⟩
abbrev main_cst_32 : Ref sig .tc := ⟨.hbm, 324, rfl⟩
abbrev main_v269 : Ref sig .tc := ⟨.hbm, 325, rfl⟩
abbrev main_v270 : Ref sig .tc := ⟨.hbm, 326, rfl⟩
abbrev main_cst_33 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_cst_34 : Ref sig .tc := ⟨.hbm, 333, rfl⟩
abbrev main_v276 : Ref sig .tc := ⟨.hbm, 334, rfl⟩
abbrev main_v277 : Ref sig .tc := ⟨.hbm, 335, rfl⟩
abbrev main_cst_35 : Ref sig .tc := ⟨.hbm, 336, rfl⟩
abbrev main_v278 : Ref sig .tc := ⟨.hbm, 337, rfl⟩
abbrev main_v279 : Ref sig .tc := ⟨.hbm, 338, rfl⟩
abbrev main_cst_36 : Ref sig .tc := ⟨.hbm, 339, rfl⟩
abbrev main_v280 : Ref sig .tc := ⟨.hbm, 340, rfl⟩
abbrev main_v281 : Ref sig .tc := ⟨.hbm, 341, rfl⟩
abbrev main_v282 : Ref sig .tc := ⟨.hbm, 342, rfl⟩
abbrev main_v283 : Ref sig .tc := ⟨.hbm, 343, rfl⟩
abbrev main_v284 : Ref sig .tc := ⟨.hbm, 344, rfl⟩
abbrev main_cst_37 : Ref sig .tc := ⟨.hbm, 345, rfl⟩
abbrev main_v285 : Ref sig .tc := ⟨.hbm, 346, rfl⟩
abbrev main_v286 : Ref sig .tc := ⟨.hbm, 347, rfl⟩
abbrev main_cst_38 : Ref sig .tc := ⟨.hbm, 348, rfl⟩
abbrev main_v287 : Ref sig .tc := ⟨.hbm, 349, rfl⟩
abbrev main_v288 : Ref sig .tc := ⟨.hbm, 350, rfl⟩
abbrev main_cst_39 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_v293 : Ref sig .tc := ⟨.hbm, 356, rfl⟩
abbrev main_cst_40 : Ref sig .tc := ⟨.hbm, 357, rfl⟩
abbrev main_v294 : Ref sig .tc := ⟨.hbm, 358, rfl⟩
abbrev main_v295 : Ref sig .tc := ⟨.hbm, 359, rfl⟩
abbrev main_cst_41 : Ref sig .tc := ⟨.hbm, 360, rfl⟩
abbrev main_v296 : Ref sig .tc := ⟨.hbm, 361, rfl⟩
abbrev main_v297 : Ref sig .tc := ⟨.hbm, 362, rfl⟩
abbrev main_cst_42 : Ref sig .tc := ⟨.hbm, 363, rfl⟩
abbrev main_v298 : Ref sig .tc := ⟨.hbm, 364, rfl⟩
abbrev main_v299 : Ref sig .tc := ⟨.hbm, 365, rfl⟩
abbrev main_v300 : Ref sig .tc := ⟨.hbm, 366, rfl⟩
abbrev main_v301 : Ref sig .tc := ⟨.hbm, 367, rfl⟩
abbrev main_v302 : Ref sig .tc := ⟨.hbm, 368, rfl⟩
abbrev main_cst_43 : Ref sig .tc := ⟨.hbm, 369, rfl⟩
abbrev main_v303 : Ref sig .tc := ⟨.hbm, 370, rfl⟩
abbrev main_v304 : Ref sig .tc := ⟨.hbm, 371, rfl⟩
abbrev main_cst_44 : Ref sig .tc := ⟨.hbm, 372, rfl⟩
abbrev main_v305 : Ref sig .tc := ⟨.hbm, 373, rfl⟩
abbrev main_v306 : Ref sig .tc := ⟨.hbm, 374, rfl⟩
abbrev main_cst_45 : Ref sig .tc := ⟨.hbm, 375, rfl⟩
abbrev main_v307 : Ref sig .tc := ⟨.hbm, 376, rfl⟩
abbrev main_v308 : Ref sig .tc := ⟨.hbm, 377, rfl⟩
abbrev main_v309 : Ref sig .tc := ⟨.hbm, 378, rfl⟩
abbrev main_v310 : Ref sig .tc := ⟨.hbm, 379, rfl⟩
abbrev main_v311 : Ref sig .tc := ⟨.hbm, 380, rfl⟩
abbrev main_cst_46 : Ref sig .tc := ⟨.hbm, 381, rfl⟩
abbrev main_v312 : Ref sig .tc := ⟨.hbm, 382, rfl⟩
abbrev main_v313 : Ref sig .tc := ⟨.hbm, 383, rfl⟩
abbrev main_cst_47 : Ref sig .tc := ⟨.hbm, 384, rfl⟩
abbrev main_v314 : Ref sig .tc := ⟨.hbm, 385, rfl⟩
abbrev main_v315 : Ref sig .tc := ⟨.hbm, 386, rfl⟩
abbrev main_cst_48 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_v320 : Ref sig .tc := ⟨.hbm, 392, rfl⟩
abbrev main_cst_49 : Ref sig .tc := ⟨.hbm, 393, rfl⟩
abbrev main_v321 : Ref sig .tc := ⟨.hbm, 394, rfl⟩
abbrev main_v322 : Ref sig .tc := ⟨.hbm, 395, rfl⟩
abbrev main_cst_50 : Ref sig .tc := ⟨.hbm, 396, rfl⟩
abbrev main_v323 : Ref sig .tc := ⟨.hbm, 397, rfl⟩
abbrev main_v324 : Ref sig .tc := ⟨.hbm, 398, rfl⟩
abbrev main_cst_51 : Ref sig .tc := ⟨.hbm, 399, rfl⟩
abbrev main_v325 : Ref sig .tc := ⟨.hbm, 400, rfl⟩
abbrev main_v326 : Ref sig .tc := ⟨.hbm, 401, rfl⟩
abbrev main_v327 : Ref sig .tc := ⟨.hbm, 402, rfl⟩
abbrev main_v328 : Ref sig .tc := ⟨.hbm, 403, rfl⟩
abbrev main_v329 : Ref sig .tc := ⟨.hbm, 404, rfl⟩
abbrev main_cst_52 : Ref sig .tc := ⟨.hbm, 405, rfl⟩
abbrev main_v330 : Ref sig .tc := ⟨.hbm, 406, rfl⟩
abbrev main_v331 : Ref sig .tc := ⟨.hbm, 407, rfl⟩
abbrev main_cst_53 : Ref sig .tc := ⟨.hbm, 408, rfl⟩
abbrev main_v332 : Ref sig .tc := ⟨.hbm, 409, rfl⟩
abbrev main_v333 : Ref sig .tc := ⟨.hbm, 410, rfl⟩
abbrev main_cst_54 : Ref sig .tc := ⟨.hbm, 411, rfl⟩
abbrev main_v334 : Ref sig .tc := ⟨.hbm, 412, rfl⟩
abbrev main_v335 : Ref sig .tc := ⟨.hbm, 413, rfl⟩
abbrev main_v336 : Ref sig .tc := ⟨.hbm, 414, rfl⟩
abbrev main_v337 : Ref sig .tc := ⟨.hbm, 415, rfl⟩
abbrev main_v338 : Ref sig .tc := ⟨.hbm, 416, rfl⟩
abbrev main_cst_55 : Ref sig .tc := ⟨.hbm, 417, rfl⟩
abbrev main_v339 : Ref sig .tc := ⟨.hbm, 418, rfl⟩
abbrev main_v340 : Ref sig .tc := ⟨.hbm, 419, rfl⟩
abbrev main_cst_56 : Ref sig .tc := ⟨.hbm, 420, rfl⟩
abbrev main_v341 : Ref sig .tc := ⟨.hbm, 421, rfl⟩
abbrev main_v342 : Ref sig .tc := ⟨.hbm, 422, rfl⟩
abbrev main_cst_57 : Ref sig .tc := ⟨.hbm, 423, rfl⟩
abbrev main_v343 : Ref sig .tc := ⟨.hbm, 424, rfl⟩
abbrev main_v344 : Ref sig .tc := ⟨.hbm, 425, rfl⟩
abbrev main_v345 : Ref sig .tc := ⟨.hbm, 426, rfl⟩
abbrev main_v346 : Ref sig .tc := ⟨.hbm, 427, rfl⟩
abbrev main_v347 : Ref sig .tc := ⟨.hbm, 428, rfl⟩
abbrev main_cst_58 : Ref sig .tc := ⟨.hbm, 429, rfl⟩
abbrev main_v348 : Ref sig .tc := ⟨.hbm, 430, rfl⟩
abbrev main_v349 : Ref sig .tc := ⟨.hbm, 431, rfl⟩
abbrev main_cst_59 : Ref sig .tc := ⟨.hbm, 432, rfl⟩
abbrev main_v350 : Ref sig .tc := ⟨.hbm, 433, rfl⟩
abbrev main_v351 : Ref sig .tc := ⟨.hbm, 434, rfl⟩
abbrev main_cst_60 : Ref sig .tc := ⟨.hbm, 435, rfl⟩
abbrev main_v352 : Ref sig .tc := ⟨.hbm, 436, rfl⟩
abbrev main_v353 : Ref sig .tc := ⟨.hbm, 437, rfl⟩
abbrev main_v354 : Ref sig .tc := ⟨.hbm, 438, rfl⟩
abbrev main_v355 : Ref sig .tc := ⟨.hbm, 439, rfl⟩
abbrev main_v356 : Ref sig .tc := ⟨.hbm, 440, rfl⟩
abbrev main_cst_61 : Ref sig .tc := ⟨.hbm, 441, rfl⟩
abbrev main_v357 : Ref sig .tc := ⟨.hbm, 442, rfl⟩
abbrev main_v358 : Ref sig .tc := ⟨.hbm, 443, rfl⟩
abbrev main_cst_62 : Ref sig .tc := ⟨.hbm, 444, rfl⟩
abbrev main_v359 : Ref sig .tc := ⟨.hbm, 445, rfl⟩
abbrev main_v360 : Ref sig .tc := ⟨.hbm, 446, rfl⟩
abbrev main_cst_63 : Ref sig .tc := ⟨.hbm, 447, rfl⟩
abbrev main_v361 : Ref sig .tc := ⟨.hbm, 448, rfl⟩
abbrev main_v362 : Ref sig .tc := ⟨.hbm, 449, rfl⟩
abbrev main_v363 : Ref sig .tc := ⟨.hbm, 450, rfl⟩
abbrev main_v364 : Ref sig .tc := ⟨.hbm, 451, rfl⟩
abbrev main_v365 : Ref sig .tc := ⟨.hbm, 452, rfl⟩
abbrev main_cst_64 : Ref sig .tc := ⟨.hbm, 453, rfl⟩
abbrev main_v366 : Ref sig .tc := ⟨.hbm, 454, rfl⟩
abbrev main_v367 : Ref sig .tc := ⟨.hbm, 455, rfl⟩
abbrev main_cst_65 : Ref sig .tc := ⟨.hbm, 456, rfl⟩
abbrev main_v368 : Ref sig .tc := ⟨.hbm, 457, rfl⟩
abbrev main_v369 : Ref sig .tc := ⟨.hbm, 458, rfl⟩
abbrev main_cst_66 : Ref sig .tc := ⟨.hbm, 459, rfl⟩
abbrev main_v370 : Ref sig .tc := ⟨.hbm, 460, rfl⟩
abbrev main_v371 : Ref sig .tc := ⟨.hbm, 461, rfl⟩
abbrev main_v372 : Ref sig .tc := ⟨.hbm, 462, rfl⟩
abbrev main_v373 : Ref sig .tc := ⟨.hbm, 463, rfl⟩
abbrev main_v374 : Ref sig .tc := ⟨.hbm, 464, rfl⟩
abbrev main_cst_67 : Ref sig .tc := ⟨.hbm, 465, rfl⟩
abbrev main_v375 : Ref sig .tc := ⟨.hbm, 466, rfl⟩
abbrev main_v376 : Ref sig .tc := ⟨.hbm, 467, rfl⟩
abbrev main_cst_68 : Ref sig .tc := ⟨.hbm, 468, rfl⟩
abbrev main_v377 : Ref sig .tc := ⟨.hbm, 469, rfl⟩
abbrev main_v378 : Ref sig .tc := ⟨.hbm, 470, rfl⟩
abbrev main_cst_69 : Ref sig .tc := ⟨.hbm, 471, rfl⟩
abbrev main_v379 : Ref sig .tc := ⟨.hbm, 472, rfl⟩
abbrev main_v380 : Ref sig .tc := ⟨.hbm, 473, rfl⟩
abbrev main_v381 : Ref sig .tc := ⟨.hbm, 474, rfl⟩
abbrev main_v382 : Ref sig .tc := ⟨.hbm, 475, rfl⟩
abbrev main_v383 : Ref sig .tc := ⟨.hbm, 476, rfl⟩
abbrev main_cst_70 : Ref sig .tc := ⟨.hbm, 477, rfl⟩
abbrev main_v384 : Ref sig .tc := ⟨.hbm, 478, rfl⟩
abbrev main_v385 : Ref sig .tc := ⟨.hbm, 479, rfl⟩
abbrev main_cst_71 : Ref sig .tc := ⟨.hbm, 480, rfl⟩
abbrev main_v386 : Ref sig .tc := ⟨.hbm, 481, rfl⟩
abbrev main_v387 : Ref sig .tc := ⟨.hbm, 482, rfl⟩
abbrev main_cst_72 : Ref sig .tc := ⟨.hbm, 483, rfl⟩
abbrev main_v388 : Ref sig .tc := ⟨.hbm, 484, rfl⟩
abbrev main_v389 : Ref sig .tc := ⟨.hbm, 485, rfl⟩
abbrev main_v390 : Ref sig .tc := ⟨.hbm, 486, rfl⟩
abbrev main_v391 : Ref sig .tc := ⟨.hbm, 487, rfl⟩
abbrev main_v392 : Ref sig .tc := ⟨.hbm, 488, rfl⟩
abbrev main_cst_73 : Ref sig .tc := ⟨.hbm, 489, rfl⟩
abbrev main_v393 : Ref sig .tc := ⟨.hbm, 490, rfl⟩
abbrev main_v394 : Ref sig .tc := ⟨.hbm, 491, rfl⟩
abbrev main_cst_74 : Ref sig .tc := ⟨.hbm, 492, rfl⟩
abbrev main_v395 : Ref sig .tc := ⟨.hbm, 493, rfl⟩
abbrev main_v396 : Ref sig .tc := ⟨.hbm, 494, rfl⟩
abbrev main_cst_75 : Ref sig .tc := ⟨.hbm, 495, rfl⟩
abbrev main_v397 : Ref sig .tc := ⟨.hbm, 496, rfl⟩
abbrev main_v398 : Ref sig .tc := ⟨.hbm, 497, rfl⟩
abbrev main_v399 : Ref sig .tc := ⟨.hbm, 498, rfl⟩
abbrev main_v400 : Ref sig .tc := ⟨.hbm, 499, rfl⟩
abbrev main_v401 : Ref sig .tc := ⟨.hbm, 500, rfl⟩
abbrev main_cst_76 : Ref sig .tc := ⟨.hbm, 501, rfl⟩
abbrev main_v402 : Ref sig .tc := ⟨.hbm, 502, rfl⟩
abbrev main_v403 : Ref sig .tc := ⟨.hbm, 503, rfl⟩
abbrev main_cst_77 : Ref sig .tc := ⟨.hbm, 504, rfl⟩
abbrev main_v404 : Ref sig .tc := ⟨.hbm, 505, rfl⟩
abbrev main_v405 : Ref sig .tc := ⟨.hbm, 506, rfl⟩
abbrev main_cst_78 : Ref sig .tc := ⟨.hbm, 507, rfl⟩
abbrev main_v406 : Ref sig .tc := ⟨.hbm, 508, rfl⟩
abbrev main_v407 : Ref sig .tc := ⟨.hbm, 509, rfl⟩
abbrev main_v408 : Ref sig .tc := ⟨.hbm, 510, rfl⟩
abbrev main_v409 : Ref sig .tc := ⟨.hbm, 511, rfl⟩
abbrev main_v410 : Ref sig .tc := ⟨.hbm, 512, rfl⟩
abbrev main_cst_79 : Ref sig .tc := ⟨.hbm, 513, rfl⟩
abbrev main_v411 : Ref sig .tc := ⟨.hbm, 514, rfl⟩
abbrev main_v412 : Ref sig .tc := ⟨.hbm, 515, rfl⟩
abbrev main_cst_80 : Ref sig .tc := ⟨.hbm, 516, rfl⟩
abbrev main_v413 : Ref sig .tc := ⟨.hbm, 517, rfl⟩
abbrev main_v414 : Ref sig .tc := ⟨.hbm, 518, rfl⟩
abbrev main_cst_81 : Ref sig .tc := ⟨.hbm, 519, rfl⟩
abbrev main_v415 : Ref sig .tc := ⟨.hbm, 520, rfl⟩
abbrev main_v416 : Ref sig .tc := ⟨.hbm, 521, rfl⟩
abbrev main_v417 : Ref sig .tc := ⟨.hbm, 522, rfl⟩
abbrev main_v418 : Ref sig .tc := ⟨.hbm, 523, rfl⟩
abbrev main_v419 : Ref sig .tc := ⟨.hbm, 524, rfl⟩
abbrev main_cst_82 : Ref sig .tc := ⟨.hbm, 525, rfl⟩
abbrev main_v420 : Ref sig .tc := ⟨.hbm, 526, rfl⟩
abbrev main_v421 : Ref sig .tc := ⟨.hbm, 527, rfl⟩
abbrev main_cst_83 : Ref sig .tc := ⟨.hbm, 528, rfl⟩
abbrev main_v422 : Ref sig .tc := ⟨.hbm, 529, rfl⟩
abbrev main_v423 : Ref sig .tc := ⟨.hbm, 530, rfl⟩
abbrev main_cst_84 : Ref sig .tc := ⟨.hbm, 531, rfl⟩
abbrev main_v424 : Ref sig .tc := ⟨.hbm, 532, rfl⟩
abbrev main_v425 : Ref sig .tc := ⟨.hbm, 533, rfl⟩
abbrev main_v426 : Ref sig .tc := ⟨.hbm, 534, rfl⟩
abbrev main_v427 : Ref sig .tc := ⟨.hbm, 535, rfl⟩
abbrev main_v428 : Ref sig .tc := ⟨.hbm, 536, rfl⟩
abbrev main_cst_85 : Ref sig .tc := ⟨.hbm, 537, rfl⟩
abbrev main_v429 : Ref sig .tc := ⟨.hbm, 538, rfl⟩
abbrev main_v430 : Ref sig .tc := ⟨.hbm, 539, rfl⟩
abbrev main_cst_86 : Ref sig .tc := ⟨.hbm, 540, rfl⟩
abbrev main_v431 : Ref sig .tc := ⟨.hbm, 541, rfl⟩
abbrev main_v432 : Ref sig .tc := ⟨.hbm, 542, rfl⟩
abbrev main_cst_87 : Ref sig .tc := ⟨.hbm, 543, rfl⟩
abbrev main_v433 : Ref sig .tc := ⟨.hbm, 544, rfl⟩
abbrev main_v434 : Ref sig .tc := ⟨.hbm, 545, rfl⟩
abbrev main_v435 : Ref sig .tc := ⟨.hbm, 546, rfl⟩
abbrev main_v436 : Ref sig .tc := ⟨.hbm, 547, rfl⟩
abbrev main_v437 : Ref sig .tc := ⟨.hbm, 548, rfl⟩
abbrev main_cst_88 : Ref sig .tc := ⟨.hbm, 549, rfl⟩
abbrev main_v438 : Ref sig .tc := ⟨.hbm, 550, rfl⟩
abbrev main_v439 : Ref sig .tc := ⟨.hbm, 551, rfl⟩
abbrev main_cst_89 : Ref sig .tc := ⟨.hbm, 552, rfl⟩
abbrev main_v440 : Ref sig .tc := ⟨.hbm, 553, rfl⟩
abbrev main_v441 : Ref sig .tc := ⟨.hbm, 554, rfl⟩
abbrev main_cst_90 : Ref sig .tc := ⟨.hbm, 555, rfl⟩
abbrev main_v442 : Ref sig .tc := ⟨.hbm, 556, rfl⟩
abbrev main_v443 : Ref sig .tc := ⟨.hbm, 557, rfl⟩
abbrev main_v444 : Ref sig .tc := ⟨.hbm, 558, rfl⟩
abbrev main_v445 : Ref sig .tc := ⟨.hbm, 559, rfl⟩
abbrev main_v446 : Ref sig .tc := ⟨.hbm, 560, rfl⟩
abbrev main_cst_91 : Ref sig .tc := ⟨.hbm, 561, rfl⟩
abbrev main_v447 : Ref sig .tc := ⟨.hbm, 562, rfl⟩
abbrev main_v448 : Ref sig .tc := ⟨.hbm, 563, rfl⟩
abbrev main_cst_92 : Ref sig .tc := ⟨.hbm, 564, rfl⟩
abbrev main_v449 : Ref sig .tc := ⟨.hbm, 565, rfl⟩
abbrev main_v450 : Ref sig .tc := ⟨.hbm, 566, rfl⟩
abbrev main_cst_93 : Ref sig .tc := ⟨.hbm, 567, rfl⟩
abbrev main_v451 : Ref sig .tc := ⟨.hbm, 568, rfl⟩
abbrev main_v452 : Ref sig .tc := ⟨.hbm, 569, rfl⟩
abbrev main_v453 : Ref sig .tc := ⟨.hbm, 570, rfl⟩
abbrev main_v454 : Ref sig .tc := ⟨.hbm, 571, rfl⟩
abbrev main_v455 : Ref sig .tc := ⟨.hbm, 572, rfl⟩
abbrev main_cst_94 : Ref sig .tc := ⟨.hbm, 573, rfl⟩
abbrev main_v456 : Ref sig .tc := ⟨.hbm, 574, rfl⟩
abbrev main_v457 : Ref sig .tc := ⟨.hbm, 575, rfl⟩
abbrev main_cst_95 : Ref sig .tc := ⟨.hbm, 576, rfl⟩
abbrev main_v458 : Ref sig .tc := ⟨.hbm, 577, rfl⟩
abbrev main_v459 : Ref sig .tc := ⟨.hbm, 578, rfl⟩
abbrev main_cst_96 : Ref sig .tc := ⟨.hbm, 579, rfl⟩
abbrev main_v460 : Ref sig .tc := ⟨.hbm, 580, rfl⟩
abbrev main_v461 : Ref sig .tc := ⟨.hbm, 581, rfl⟩
abbrev main_v462 : Ref sig .tc := ⟨.hbm, 582, rfl⟩
abbrev main_v463 : Ref sig .tc := ⟨.hbm, 583, rfl⟩
abbrev main_v464 : Ref sig .tc := ⟨.hbm, 584, rfl⟩
abbrev main_cst_97 : Ref sig .tc := ⟨.hbm, 585, rfl⟩
abbrev main_v465 : Ref sig .tc := ⟨.hbm, 586, rfl⟩
abbrev main_v466 : Ref sig .tc := ⟨.hbm, 587, rfl⟩
abbrev main_cst_98 : Ref sig .tc := ⟨.hbm, 588, rfl⟩
abbrev main_v467 : Ref sig .tc := ⟨.hbm, 589, rfl⟩
abbrev main_v468 : Ref sig .tc := ⟨.hbm, 590, rfl⟩
abbrev main_cst_99 : Ref sig .tc := ⟨.hbm, 591, rfl⟩
abbrev main_v469 : Ref sig .tc := ⟨.hbm, 592, rfl⟩
abbrev main_v470 : Ref sig .tc := ⟨.hbm, 593, rfl⟩
abbrev main_v471 : Ref sig .tc := ⟨.hbm, 594, rfl⟩
abbrev main_v472 : Ref sig .tc := ⟨.hbm, 595, rfl⟩
abbrev main_v473 : Ref sig .tc := ⟨.hbm, 596, rfl⟩
abbrev main_cst_100 : Ref sig .tc := ⟨.hbm, 597, rfl⟩
abbrev main_v474 : Ref sig .tc := ⟨.hbm, 598, rfl⟩
abbrev main_v475 : Ref sig .tc := ⟨.hbm, 599, rfl⟩
abbrev main_cst_101 : Ref sig .tc := ⟨.hbm, 600, rfl⟩
abbrev main_v476 : Ref sig .tc := ⟨.hbm, 601, rfl⟩
abbrev main_v477 : Ref sig .tc := ⟨.hbm, 602, rfl⟩
abbrev main_cst_102 : Ref sig .tc := ⟨.hbm, 603, rfl⟩
abbrev main_v478 : Ref sig .tc := ⟨.hbm, 604, rfl⟩
abbrev main_v479 : Ref sig .tc := ⟨.hbm, 605, rfl⟩
abbrev main_v480 : Ref sig .tc := ⟨.hbm, 606, rfl⟩
abbrev main_v481 : Ref sig .tc := ⟨.hbm, 607, rfl⟩
abbrev main_v482 : Ref sig .tc := ⟨.hbm, 608, rfl⟩
abbrev main_cst_103 : Ref sig .tc := ⟨.hbm, 609, rfl⟩
abbrev main_v483 : Ref sig .tc := ⟨.hbm, 610, rfl⟩
abbrev main_v484 : Ref sig .tc := ⟨.hbm, 611, rfl⟩
abbrev main_cst_104 : Ref sig .tc := ⟨.hbm, 612, rfl⟩
abbrev main_v485 : Ref sig .tc := ⟨.hbm, 613, rfl⟩
abbrev main_v486 : Ref sig .tc := ⟨.hbm, 614, rfl⟩
abbrev main_cst_105 : Ref sig .tc := ⟨.hbm, 615, rfl⟩
abbrev main_v487 : Ref sig .tc := ⟨.hbm, 616, rfl⟩
abbrev main_v488 : Ref sig .tc := ⟨.hbm, 617, rfl⟩
abbrev main_v489 : Ref sig .tc := ⟨.hbm, 618, rfl⟩
abbrev main_v490 : Ref sig .tc := ⟨.hbm, 619, rfl⟩
abbrev main_v491 : Ref sig .tc := ⟨.hbm, 620, rfl⟩
abbrev main_cst_106 : Ref sig .tc := ⟨.hbm, 621, rfl⟩
abbrev main_v492 : Ref sig .tc := ⟨.hbm, 622, rfl⟩
abbrev main_v493 : Ref sig .tc := ⟨.hbm, 623, rfl⟩
abbrev main_cst_107 : Ref sig .tc := ⟨.hbm, 624, rfl⟩
abbrev main_v494 : Ref sig .tc := ⟨.hbm, 625, rfl⟩
abbrev main_v495 : Ref sig .tc := ⟨.hbm, 626, rfl⟩
abbrev main_cst_108 : Ref sig .tc := ⟨.hbm, 627, rfl⟩
abbrev main_v496 : Ref sig .tc := ⟨.hbm, 628, rfl⟩
abbrev main_v497 : Ref sig .tc := ⟨.hbm, 629, rfl⟩
abbrev main_v498 : Ref sig .tc := ⟨.hbm, 630, rfl⟩
abbrev main_v499 : Ref sig .tc := ⟨.hbm, 631, rfl⟩
abbrev main_v500 : Ref sig .tc := ⟨.hbm, 632, rfl⟩
abbrev main_cst_109 : Ref sig .tc := ⟨.hbm, 633, rfl⟩
abbrev main_v501 : Ref sig .tc := ⟨.hbm, 634, rfl⟩
abbrev main_v502 : Ref sig .tc := ⟨.hbm, 635, rfl⟩
abbrev main_cst_110 : Ref sig .tc := ⟨.hbm, 636, rfl⟩
abbrev main_v503 : Ref sig .tc := ⟨.hbm, 637, rfl⟩
abbrev main_v504 : Ref sig .tc := ⟨.hbm, 638, rfl⟩
abbrev main_cst_111 : Ref sig .tc := ⟨.hbm, 639, rfl⟩
abbrev main_v505 : Ref sig .tc := ⟨.hbm, 640, rfl⟩
abbrev main_v506 : Ref sig .tc := ⟨.hbm, 641, rfl⟩
abbrev main_v507 : Ref sig .tc := ⟨.hbm, 642, rfl⟩
abbrev main_v508 : Ref sig .tc := ⟨.hbm, 643, rfl⟩
abbrev main_v509 : Ref sig .tc := ⟨.hbm, 644, rfl⟩
abbrev main_v510 : Ref sig .tc := ⟨.hbm, 645, rfl⟩
abbrev main_v511 : Ref sig .tc := ⟨.hbm, 646, rfl⟩
abbrev main_v512 : Ref sig .tc := ⟨.hbm, 647, rfl⟩
abbrev main_v513 : Ref sig .tc := ⟨.hbm, 648, rfl⟩
abbrev main_v514 : Ref sig .tc := ⟨.hbm, 649, rfl⟩
abbrev main_v515 : Ref sig .tc := ⟨.hbm, 650, rfl⟩
abbrev main_cst_112 : Ref sig .tc := ⟨.hbm, 651, rfl⟩
abbrev main_v516 : Ref sig .tc := ⟨.hbm, 652, rfl⟩
abbrev main_v517 : Ref sig .tc := ⟨.hbm, 653, rfl⟩

abbrev nD : Nat := 1
abbrev τ : Topo := Topo.v7x

variable {F : FTy → Type} [FloatOps F]
-- ==== AttnFwd.lean ====
abbrev S8192x1024 : Shape := ⟨2, ![8192, 1024]⟩
abbrev S256x2048 : Shape := ⟨2, ![256, 2048]⟩
abbrev S1024x1024 : Shape := ⟨2, ![1024, 1024]⟩
abbrev S1x1024 : Shape := ⟨2, ![1, 1024]⟩
abbrev S1024x256 : Shape := ⟨2, ![1024, 256]⟩
abbrev S256x256 : Shape := ⟨2, ![256, 256]⟩
abbrev S1024 : Shape := ⟨1, ![1024]⟩
abbrev S1024x1 : Shape := ⟨2, ![1024, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S8192x1024, .bf16⟩
  | .hbm, ⟨6, _⟩ => ⟨S256x2048, .bf16⟩
  | .hbm, ⟨7, _⟩ => ⟨S1024x1024, .bf16⟩
  | .hbm, ⟨8, _⟩ => ⟨S8192x1024, .bf16⟩
  | .hbm, ⟨9, _⟩ => ⟨S8192x1024, .f32⟩
  | .hbm, ⟨10, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S256x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .bf16⟩
  | .local _ .vmem, ⟨6, _⟩ => ⟨S1x1024, .f32⟩
  | .local _ .vmem, ⟨7, _⟩ => ⟨S1024x1024, .bf16⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnFwdRefIdeal.lean ====
abbrev S8192x1024 : Shape := ⟨2, ![8192, 1024]⟩
abbrev S256x2048 : Shape := ⟨2, ![256, 2048]⟩
abbrev S1024x1024 : Shape := ⟨2, ![1024, 1024]⟩
abbrev S1x1024 : Shape := ⟨2, ![1, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S1024x1024, .f32⟩
  | .hbm, ⟨4, _⟩ => ⟨S1x1024, .f32⟩
  | .hbm, ⟨5, _⟩ => ⟨S256x1024, .f32⟩
  | .hbm, ⟨6, _⟩ => ⟨S256x1024, .f32⟩
  | .hbm, ⟨7, _⟩ => ⟨S8192x4x256, .f32⟩
  | .hbm, ⟨8, _⟩ => ⟨S256x4x256, .f32⟩
  | .hbm, ⟨9, _⟩ => ⟨S256x4x256, .f32⟩
  | .hbm, ⟨10, _⟩ => ⟨S4x8192x256, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x256x8192, .f32⟩
  | .hbm, ⟨29, _⟩ => ⟨S8192x4x256, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .bf16⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩

abbrev nD : Nat := 1
abbrev τ : Topo := Topo.v7x

variable {F : FTy → Type} [FloatOps F]
-- ==== FfnFwd.lean ====
abbrev S8192x1024 : Shape := ⟨2, ![8192, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S1x1024 : Shape := ⟨2, ![1, 1024]⟩
abbrev S1024x1536 : Shape := ⟨2, ![1024, 1536]⟩
abbrev S1x1024x1536 : Shape := ⟨3, ![1, 1024, 1536]⟩
abbrev S4x1024x1536 : Shape := ⟨3, ![4, 1024, 1536]⟩
abbrev S2x1536x1024 : Shape := ⟨3, ![2, 1536, 1024]⟩
abbrev S2x2x8192x1536 : Shape := ⟨4, ![2, 2, 8192, 1536]⟩
abbrev S2x8192x1536 : Shape := ⟨3, ![2, 8192, 1536]⟩
abbrev S256x1024 : Shape := ⟨2, ![256, 1024]⟩
abbrev S2x2x256x1536 : Shape := ⟨4, ![2, 2, 256, 1536]⟩
abbrev S2x256x1536 : Shape := ⟨3, ![2, 256, 1536]⟩
abbrev S2x264x1536 : Shape := ⟨3, ![2, 264, 1536]⟩
abbrev S256x1536 : Shape := ⟨2, ![256, 1536]⟩
abbrev S1x1x256x1536 : Shape := ⟨4, ![1, 1, 256, 1536]⟩
abbrev S1x256x1536 : Shape := ⟨3, ![1, 256, 1536]⟩
abbrev S1x264x1536 : Shape := ⟨3, ![1, 264, 1536]⟩
abbrev S264x1536 : Shape := ⟨2, ![264, 1536]⟩
abbrev S1x1536 : Shape := ⟨2, ![1, 1536]⟩
abbrev S1x8x1536 : Shape := ⟨3, ![1, 8, 1536]⟩
abbrev S8x1536 : Shape := ⟨2, ![8, 1536]⟩
abbrev S1x1536x1024 : Shape := ⟨3, ![1, 1536, 1024]⟩
abbrev S1536x1024 : Shape := ⟨2, ![1536, 1024]⟩
abbrev S256 : Shape := ⟨1, ![256]⟩
abbrev S256x1 : Shape := ⟨2, ![256, 1]⟩
abbrev S1024 : Shape := ⟨1, ![1024]⟩

abbrev nBuf : Space → Nat
  | .hbm => 26
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S3x3072, .f32⟩
  | .hbm, ⟨3, _⟩ => ⟨S1x3072, .f32⟩
  | .hbm, ⟨4, _⟩ => ⟨S3072x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S1024x1536, .f32⟩
  | .hbm, ⟨9, _⟩ => ⟨S1024x1536, .f32⟩
  | .hbm, ⟨10, _⟩ => ⟨S1024x1536, .f32⟩
  | .hbm, ⟨11, _⟩ => ⟨S1024x1536, .f32⟩
  | .hbm, ⟨12, _⟩ => ⟨S1x1024x1536, .f32⟩
  | .hbm, ⟨13, _⟩ => ⟨S1x1024x1536, .f32⟩
  | .hbm, ⟨14, _⟩ => ⟨S1x1024x1536, .f32⟩
  | .hbm, ⟨15, _⟩ => ⟨S1x1024x1536, .f32⟩
  | .hbm, ⟨16, _⟩ => ⟨S4x1024x1536, .f32⟩
  | .hbm, ⟨17, _⟩ => ⟨S4x1024x1536, .bf16⟩
  | .hbm, ⟨18, _⟩ => ⟨S8192x1024, .bf16⟩
  | .hbm, ⟨19, _⟩ => ⟨S3072x1024, .bf16⟩
  | .hbm, ⟨20, _⟩ => ⟨S2x1536x1024, .bf16⟩
  | .hbm, ⟨21, _⟩ => ⟨S2x2x8192x1536, .f32⟩
  | .hbm, ⟨22, _⟩ => ⟨S2x8192x1536, .bf16⟩
  | .hbm, ⟨23, _⟩ => ⟨S8192x1024, .f32⟩
  | .hbm, ⟨24, _⟩ => ⟨S1x1024, .f32⟩
  | .hbm, ⟨25, _⟩ => ⟨S1x1024, .f32⟩
  | .local _ .vmem, ⟨0, _⟩ => ⟨S256x1024, .bf16⟩
  | .local _ .vmem, ⟨1, _⟩ => ⟨S256x1024, .bf16⟩
  | .local _ .vmem, ⟨2, _⟩ => ⟨S4x1024x1536, .bf16⟩
  | .local _ .vmem, ⟨3, _⟩ => ⟨S3x3072, .f32⟩
  | .local _ .vmem, ⟨4, _⟩ => ⟨S1x3072, .f32⟩
  | .local _ .vmem, ⟨5, _⟩ => ⟨S2x1536x1024, .bf16⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S256x1024, .f32⟩
  | .local _ .vmem, ⟨10, _⟩ => ⟨S256x1024, .f32⟩
  | .local _ .vmem, ⟨11, _⟩ => ⟨S2x2x256x1536, .f32⟩
  | .local _ .vmem, ⟨12, _⟩ => ⟨S2x2x256x1536, .f32⟩
  | .local _ .vmem, ⟨13, _⟩ => ⟨S2x256x1536, .bf16⟩
  | .local _ .vmem, ⟨14, _⟩ => ⟨S2x256x1536, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S2x264x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev main_v13_2 : Ref sig .tc := ⟨.hbm, 23, rfl⟩
abbrev main_v13_3 : Ref sig .tc := ⟨.hbm, 24, rfl⟩
abbrev main_v13_4 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_scratch0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x1536x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x2x256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== FfnFwdIdeal.lean ====
variable {F : FTy → Type} [FloatOps F] [Named F]
def κ : String → Option EReal := fun
  | "gelu_ck" => some ((80338380498831 / 2251799813685248 : ℝ) : EReal)
  | _ => none
-- ==== FfnFwdRefIdeal.lean ====
abbrev S8192x1024 : Shape := ⟨2, ![8192, 1024]⟩
abbrev S1024x6144 : Shape := ⟨2, ![1024, 6144]⟩
abbrev S3x3072 : Shape := ⟨2, ![3, 3072]⟩
abbrev S1x3072 : Shape := ⟨2, ![1, 3072]⟩
abbrev S3072x1024 : Shape := ⟨2, ![3072, 1024]⟩
abbrev S1x1024 : Shape := ⟨2, ![1, 1024]⟩
abbrev S8192x6144 : Shape := ⟨2, ![8192, 6144]⟩
abbrev S8192x3072 : Shape := ⟨2, ![8192, 3072]⟩
abbrev S_ : Shape := ⟨0, ![]⟩
abbrev S2x3072 : Shape := ⟨2, ![2, 3072]⟩
abbrev S8194x3072 : Shape := ⟨2, ![8194, 3072]⟩
abbrev S8192 : Shape := ⟨1, ![8192]⟩
abbrev S8192x1 : Shape := ⟨2, ![8192, 1]⟩
abbrev S1024 : Shape := ⟨1, ![1024]⟩
abbrev S8192x1536 : Shape := ⟨2, ![8192, 1536]⟩
abbrev S1x8192x1536 : Shape := ⟨3, ![1, 8192, 1536]⟩
abbrev S2x8192x1536 : Shape := ⟨3, ![2, 8192, 1536]⟩
abbrev S4x8192x1536 : Shape := ⟨3, ![4, 8192, 1536]⟩
abbrev S2x2x8192x1536 : Shape := ⟨4, ![2, 2, 8192, 1536]⟩

abbrev nBuf : Space → Nat
  | .hbm => 128
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x6144, .f32⟩
  | .hbm, ⟨2, _⟩ => ⟨S3x3072, .f32⟩
  | .hbm, ⟨3, _⟩ => ⟨S1x3072, .f32⟩
  | .hbm, ⟨4, _⟩ => ⟨S3072x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x6144, .f32⟩
  | .hbm, ⟨9, _⟩ => ⟨S8192x3072, .f32⟩
  | .hbm, ⟨10, _⟩ => ⟨S8192x3072, .f32⟩
  | .hbm, ⟨11, _⟩ => ⟨S_, .f32⟩
  | .hbm, ⟨12, _⟩ => ⟨S2x3072, .f32⟩
  | .hbm, ⟨13, _⟩ => ⟨S8194x3072, .f32⟩
  | .hbm, ⟨14, _⟩ => ⟨S1x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S1x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S8192x3072, .f32⟩
  | .hbm, ⟨23, _⟩ => ⟨S1x3072, .f32⟩
  | .hbm, ⟨24, _⟩ => ⟨S8192x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S8192x3072, .f32⟩
  | .hbm, ⟨29, _⟩ => ⟨S8192x3072, .f32⟩
  | .hbm, ⟨30, _⟩ => ⟨S8192x3072, .f32⟩
  | .hbm, ⟨31, _⟩ => ⟨S8192x3072, .f32⟩
  | .hbm, ⟨32, _⟩ => ⟨S_, .f32⟩
  | .hbm, ⟨33, _⟩ => ⟨S8192x3072, .f32⟩
  | .hbm, ⟨34, _⟩ => ⟨S8192x3072, .f32⟩
  | .hbm, ⟨35, _⟩ => ⟨S8192x3072, .f32⟩
  | .hbm, ⟨36, _⟩ => ⟨S_, .f32⟩
  | .hbm, ⟨37, _⟩ => ⟨S8192x3072, .f32⟩
  | .hbm, ⟨38, _⟩ => ⟨S8192x3072, .f32⟩
  | .hbm, ⟨39, _⟩ => ⟨S8192x3072, .f32⟩
  | .hbm, ⟨40, _⟩ => ⟨S_, .f32⟩
  | .hbm, ⟨41, _⟩ => ⟨S8192x3072, .f32⟩
  | .hbm, ⟨42, _⟩ => ⟨S8192x3072, .f32⟩
  | .hbm, ⟨43, _⟩ => ⟨S_, .f32⟩
  | .hbm, ⟨44, _⟩ => ⟨S8192x3072, .f32⟩
  | .hbm, ⟨45, _⟩ => ⟨S8192x3072, .f32⟩
  | .hbm, ⟨46, _⟩ => ⟨S8192x3072, .f32⟩
  | .hbm, ⟨47, _⟩ => ⟨S8192x3072, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192x1, .f32⟩
  | .hbm, ⟨64, _⟩ => ⟨S8192x1, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S_, .f32⟩
  | .hbm, ⟨78, _⟩ => ⟨S1x1024, .f32⟩
  | .hbm, ⟨79, _⟩ => ⟨S1x1024, .f32⟩
  | .hbm, ⟨80, _⟩ => ⟨S_, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S1x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S_, .f32⟩
  | .hbm, ⟨97, _⟩ => ⟨S8192, .f32⟩
  | .hbm, ⟨98, _⟩ => ⟨S8192x1, .f32⟩
  | .hbm, ⟨99, _⟩ => ⟨S8192x1024, .f32⟩
  | .hbm, ⟨100, _⟩ => ⟨S8192x1024, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S_, .f32⟩
  | .hbm, ⟨106, _⟩ => ⟨S8192, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1536, .f32⟩
  | .hbm, ⟨113, _⟩ => ⟨S8192x1536, .f32⟩
  | .hbm, ⟨114, _⟩ => ⟨S1x8192x1536, .f32⟩
  | .hbm, ⟨115, _⟩ => ⟨S1x8192x1536, .f32⟩
  | .hbm, ⟨116, _⟩ => ⟨S2x8192x1536, .f32⟩
  | .hbm, ⟨117, _⟩ => ⟨S2x8192x1536, .bf16⟩
  | .hbm, ⟨118, _⟩ => ⟨S8192x1536, .f32⟩
  | .hbm, ⟨119, _⟩ => ⟨S8192x1536, .f32⟩
  | .hbm, ⟨120, _⟩ => ⟨S8192x1536, .f32⟩
  | .hbm, ⟨121, _⟩ => ⟨S8192x1536, .f32⟩
  | .hbm, ⟨122, _⟩ => ⟨S1x8192x1536, .f32⟩
  | .hbm, ⟨123, _⟩ => ⟨S1x8192x1536, .f32⟩
  | .hbm, ⟨124, _⟩ => ⟨S1x8192x1536, .f32⟩
  | .hbm, ⟨125, _⟩ => ⟨S1x8192x1536, .f32⟩
  | .hbm, ⟨126, _⟩ => ⟨S4x8192x1536, .f32⟩
  | .hbm, ⟨127, _⟩ => ⟨S2x2x8192x1536, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_1 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_2 : Ref sig .tc := ⟨.hbm, 40, rfl⟩
abbrev main_v29 : Ref sig .tc := ⟨.hbm, 41, rfl⟩
abbrev main_v30 : Ref sig .tc := ⟨.hbm, 42, rfl⟩
abbrev main_cst_3 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_cst_5 : Ref sig .tc := ⟨.hbm, 54, rfl⟩
abbrev main_v40 : Ref sig .tc := ⟨.hbm, 55, rfl⟩
abbrev main_v41 : Ref sig .tc := ⟨.hbm, 56, rfl⟩
abbrev main_cst_6 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_7 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_8 : Ref sig .tc := ⟨.hbm, 71, rfl⟩
abbrev main_v54 : Ref sig .tc := ⟨.hbm, 72, rfl⟩
abbrev main_v55 : Ref sig .tc := ⟨.hbm, 73, rfl⟩
abbrev main_cst_9 : Ref sig .tc := ⟨.hbm, 74, rfl⟩
abbrev main_v56 : Ref sig .tc := ⟨.hbm, 75, rfl⟩
abbrev main_v57 : Ref sig .tc := ⟨.hbm, 76, rfl⟩
abbrev main_cst_10 : Ref sig .tc := ⟨.hbm, 77, rfl⟩
abbrev main_v58 : Ref sig .tc := ⟨.hbm, 78, rfl⟩
abbrev main_v59 : Ref sig .tc := ⟨.hbm, 79, rfl⟩
abbrev main_cst_11 : Ref sig .tc := ⟨.hbm, 80, rfl⟩
abbrev main_v60 : Ref sig .tc := ⟨.hbm, 81, rfl⟩
abbrev main_cst_12 : Ref sig .tc := ⟨.hbm, 82, rfl⟩
abbrev main_v61 : Ref sig .tc := ⟨.hbm, 83, rfl⟩
abbrev main_v62 : Ref sig .tc := ⟨.hbm, 84, rfl⟩
abbrev main_cst_13 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_14 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_15 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_16 : Ref sig .tc := ⟨.hbm, 102, rfl⟩
abbrev main_v77 : Ref sig .tc := ⟨.hbm, 103, rfl⟩
abbrev main_v78 : Ref sig .tc := ⟨.hbm, 104, rfl⟩
abbrev main_cst_17 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩

abbrev nD : Nat := 1
abbrev τ : Topo := Topo.v7x

variable {F : FTy → Type} [FloatOps F]
-- ==== KvFwd.lean ====
abbrev S256x1024 : Shape := ⟨2, ![256, 1024]⟩
abbrev S1x1024 : Shape := ⟨2, ![1, 1024]⟩
abbrev S1024x2048 : Shape := ⟨2, ![1024, 2048]⟩
abbrev S1024x512 : Shape := ⟨2, ![1024, 512]⟩
abbrev S1x1024x512 : Shape := ⟨3, ![1, 1024, 512]⟩
abbrev S4x1024x512 : Shape := ⟨3, ![4, 1024, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 15
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S4x1024x512, .f32⟩
  | .hbm, ⟨12, _⟩ => ⟨S4x1024x512, .bf16⟩
  | .hbm, ⟨13, _⟩ => ⟨S256x1024, .bf16⟩
  | .hbm, ⟨14, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KvFwdRefIdeal.lean ====
abbrev S256x1024 : Shape := ⟨2, ![256, 1024]⟩
abbrev S1x1024 : Shape := ⟨2, ![1, 1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S256x2048 : Shape := ⟨2, ![256, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x2048, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S256x1024, .f32⟩
  | .hbm, ⟨17, _⟩ => ⟨S256x1024, .f32⟩
  | .hbm, ⟨18, _⟩ => ⟨S256x1024, .bf16⟩
  | .hbm, ⟨19, _⟩ => ⟨S256x2048, .f32⟩
  | .hbm, ⟨20, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== InFwd.lean ====
abbrev S8192x1024 : Shape := ⟨2, ![8192, 1024]⟩
abbrev S1x1024 : Shape := ⟨2, ![1, 1024]⟩
abbrev S1024x2048 : Shape := ⟨2, ![1024, 2048]⟩
abbrev S1024x512 : Shape := ⟨2, ![1024, 512]⟩
abbrev S1x1024x512 : Shape := ⟨3, ![1, 1024, 512]⟩
abbrev S4x1024x512 : Shape := ⟨3, ![4, 1024, 512]⟩
abbrev S4x8192x512 : Shape := ⟨3, ![4, 8192, 512]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S1x512x512 : Shape := ⟨3, ![1, 512, 512]⟩

abbrev nBuf : Space → Nat
  | .hbm => 15
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1x1024x512, .f32⟩
  | .hbm, ⟨8, _⟩ => ⟨S1x1024x512, .f32⟩
  | .hbm, ⟨9, _⟩ => ⟨S1x1024x512, .f32⟩
  | .hbm, ⟨10, _⟩ => ⟨S1x1024x512, .f32⟩
  | .hbm, ⟨11, _⟩ => ⟨S4x1024x512, .f32⟩
  | .hbm, ⟨12, _⟩ => ⟨S4x1024x512, .bf16⟩
  | .hbm, ⟨13, _⟩ => ⟨S4x8192x512, .f32⟩
  | .hbm, ⟨14, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S4x1024x512, .bf16⟩
  | .local _ .vmem, ⟨4, _⟩ => ⟨S4x1024x512, .f32⟩
  | .local _ .vmem, ⟨5, _⟩ => ⟨S4x1024x512, .f32⟩
  | .local _ .vmem, ⟨6, _⟩ => ⟨S1024x1024, .bf16⟩
  | .local _ .vmem, ⟨7, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== InFwdRefIdeal.lean ====
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S8192x2048 : Shape := ⟨2, ![8192, 2048]⟩
abbrev S8192x512 : Shape := ⟨2, ![8192, 512]⟩
abbrev S1x8192x512 : Shape := ⟨3, ![1, 8192, 512]⟩
abbrev S4x8192x512 : Shape := ⟨3, ![4, 8192, 512]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2048, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x2048, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S1x8192x512, .f32⟩
  | .hbm, ⟨24, _⟩ => ⟨S1x8192x512, .f32⟩
  | .hbm, ⟨25, _⟩ => ⟨S1x8192x512, .f32⟩
  | .hbm, ⟨26, _⟩ => ⟨S1x8192x512, .f32⟩
  | .hbm, ⟨27, _⟩ => ⟨S4x8192x512, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== OutFwd.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S2x512x1024 : Shape := ⟨3, ![2, 512, 1024]⟩
abbrev S1024x512 : Shape := ⟨2, ![1024, 512]⟩
abbrev S512x512 : Shape := ⟨2, ![512, 512]⟩
abbrev S1x512x1024 : Shape := ⟨3, ![1, 512, 1024]⟩
abbrev S512x1024 : Shape := ⟨2, ![512, 1024]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S2x512x1024, .f32⟩
  | .hbm, ⟨7, _⟩ => ⟨S2x512x1024, .bf16⟩
  | .hbm, ⟨8, _⟩ => ⟨S8192x512, .bf16⟩
  | .hbm, ⟨9, _⟩ => ⟨S8192x512, .bf16⟩
  | .hbm, ⟨10, _⟩ => ⟨S1024x1024, .bf16⟩
  | .hbm, ⟨11, _⟩ => ⟨S8192x1024, .f32⟩
  | .hbm, ⟨12, _⟩ => ⟨S8192x1024, .bf16⟩
  | .hbm, ⟨13, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S2x512x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== OutFwdRefIdeal.lean ====
abbrev S8192x1024 : Shape := ⟨2, ![8192, 1024]⟩
abbrev S8192x512 : Shape := ⟨2, ![8192, 512]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S1024x1024, .f32⟩
  | .hbm, ⟨4, _⟩ => ⟨S1x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== ConfFwd.lean ====
abbrev S8192x2048 : Shape := ⟨2, ![8192, 2048]⟩
abbrev S31x512 : Shape := ⟨2, ![31, 512]⟩
abbrev S1x512 : Shape := ⟨2, ![1, 512]⟩
abbrev S8192x512 : Shape := ⟨2, ![8192, 512]⟩
abbrev S1x8192x512 : Shape := ⟨3, ![1, 8192, 512]⟩
abbrev S4x8192x512 : Shape := ⟨3, ![4, 8192, 512]⟩
abbrev S1x512x512 : Shape := ⟨3, ![1, 512, 512]⟩
abbrev S512x512 : Shape := ⟨2, ![512, 512]⟩
abbrev S544x512 : Shape := ⟨2, ![544, 512]⟩
abbrev S8x536x512 : Shape := ⟨3, ![8, 536, 512]⟩
abbrev S32x512 : Shape := ⟨2, ![32, 512]⟩
abbrev S536x512 : Shape := ⟨2, ![536, 512]⟩
abbrev S1x536x512 : Shape := ⟨3, ![1, 536, 512]⟩
abbrev S512 : Shape := ⟨1, ![512]⟩
abbrev S512x1 : Shape := ⟨2, ![512, 1]⟩

abbrev nBuf : Space → Nat
  | .hbm => 16
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S31x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S1x8192x512, .f32⟩
  | .hbm, ⟨10, _⟩ => ⟨S1x8192x512, .f32⟩
  | .hbm, ⟨11, _⟩ => ⟨S1x8192x512, .f32⟩
  | .hbm, ⟨12, _⟩ => ⟨S1x8192x512, .f32⟩
  | .hbm, ⟨13, _⟩ => ⟨S4x8192x512, .f32⟩
  | .hbm, ⟨14, _⟩ => ⟨S8192x512, .f32⟩
  | .hbm, ⟨15, _⟩ => ⟨S8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S31x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S544x512, .f32⟩
  | .local _ .vmem, ⟨13, _⟩ => ⟨S8x536x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9_0 : Ref sig .tc := ⟨.hbm, 14, rfl⟩
abbrev main_v9_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConfFwdRefIdeal.lean ====
abbrev S8192x2048 : Shape := ⟨2, ![8192, 2048]⟩
abbrev S31x512 : Shape := ⟨2, ![31, 512]⟩
abbrev S1x512 : Shape := ⟨2, ![1, 512]⟩
abbrev S8192x512 : Shape := ⟨2, ![8192, 512]⟩
abbrev S_ : Shape := ⟨0, ![]⟩
abbrev S30x512 : Shape := ⟨2, ![30, 512]⟩
abbrev S8222x512 : Shape := ⟨2, ![8222, 512]⟩
abbrev S8192 : Shape := ⟨1, ![8192]⟩
abbrev S8192x1 : Shape := ⟨2, ![8192, 1]⟩

abbrev nBuf : Space → Nat
  | .hbm => 210
  | .vmem => 0
  | .smem => 0
  | _ => 0

abbrev hbmTy0_0 (i : Nat) : BufTy := match i % 128 with
  | 0 => ⟨S8192x2048, .f32⟩
  | 1 => ⟨S31x512, .f32⟩
  | 2 => ⟨S1x512, .f32⟩
  | 3 => ⟨S1x512, .f32⟩
  | 4 => ⟨S1x512, .f32⟩
  | 5 => ⟨S8192x512, .f32⟩
  | 6 => ⟨S8192x512, .f32⟩
  | 7 => ⟨S8192x512, .f32⟩
  | 8 => ⟨S8192x512, .f32⟩
  | 9 => ⟨S_, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S30x512, .f32⟩
  | 18 => ⟨S8222x512, .f32⟩
  | 19 => ⟨S1x512, .f32⟩
  | 20 => ⟨S8192x512, .f32⟩
  | 21 => ⟨S8192x512, .f32⟩
  | 22 => ⟨S8192x512, .f32⟩
  | 23 => ⟨S1x512, .f32⟩
  | 24 => ⟨S8192x512, .f32⟩
  | 25 => ⟨S8192x512, .f32⟩
  | 26 => ⟨S8192x512, .f32⟩
  | 27 => ⟨S8192x512, .f32⟩
  | 28 => ⟨S1x512, .f32⟩
  | 29 => ⟨S8192x512, .f32⟩
  | 30 => ⟨S8192x512, .f32⟩
  | 31 => ⟨S8192x512, .f32⟩
  | 32 => ⟨S8192x512, .f32⟩
  | 33 => ⟨S1x512, .f32⟩
  | 34 => ⟨S8192x512, .f32⟩
  | 35 => ⟨S8192x512, .f32⟩
  | 36 => ⟨S8192x512, .f32⟩
  | 37 => ⟨S8192x512, .f32⟩
  | 38 => ⟨S1x512, .f32⟩
  | 39 => ⟨S8192x512, .f32⟩
  | 40 => ⟨S8192x512, .f32⟩
  | 41 => ⟨S8192x512, .f32⟩
  | 42 => ⟨S8192x512, .f32⟩
  | 43 => ⟨S1x512, .f32⟩
  | 44 => ⟨S8192x512, .f32⟩
  | 45 => ⟨S8192x512, .f32⟩
  | 46 => ⟨S8192x512, .f32⟩
  | 47 => ⟨S8192x512, .f32⟩
  | 48 => ⟨S1x512, .f32⟩
  | 49 => ⟨S8192x512, .f32⟩
  | 50 => ⟨S8192x512, .f32⟩
  | 51 => ⟨S8192x512, .f32⟩
  | 52 => ⟨S8192x512, .f32⟩
  | 53 => ⟨S1x512, .f32⟩
  | 54 => ⟨S8192x512, .f32⟩
  | 55 => ⟨S8192x512, .f32⟩
  | 56 => ⟨S8192x512, .f32⟩
  | 57 => ⟨S8192x512, .f32⟩
  | 58 => ⟨S1x512, .f32⟩
  | 59 => ⟨S8192x512, .f32⟩
  | 60 => ⟨S8192x512, .f32⟩
  | 61 => ⟨S8192x512, .f32⟩
  | 62 => ⟨S8192x512, .f32⟩
  | 63 => ⟨S1x512, .f32⟩
  | 64 => ⟨S8192x512, .f32⟩
  | 65 => ⟨S8192x512, .f32⟩
  | 66 => ⟨S8192x512, .f32⟩
  | 67 => ⟨S8192x512, .f32⟩
  | 68 => ⟨S1x512, .f32⟩
  | 69 => ⟨S8192x512, .f32⟩
  | 70 => ⟨S8192x512, .f32⟩
  | 71 => ⟨S8192x512, .f32⟩
  | 72 => ⟨S8192x512, .f32⟩
  | 73 => ⟨S1x512, .f32⟩
  | 74 => ⟨S8192x512, .f32⟩
  | 75 => ⟨S8192x512, .f32⟩
  | 76 => ⟨S8192x512, .f32⟩
  | 77 => ⟨S8192x512, .f32⟩
  | 78 => ⟨S1x512, .f32⟩
  | 79 => ⟨S8192x512, .f32⟩
  | 80 => ⟨S8192x512, .f32⟩
  | 81 => ⟨S8192x512, .f32⟩
  | 82 => ⟨S8192x512, .f32⟩
  | 83 => ⟨S1x512, .f32⟩
  | 84 => ⟨S8192x512, .f32⟩
  | 85 => ⟨S8192x512, .f32⟩
  | 86 => ⟨S8192x512, .f32⟩
  | 87 => ⟨S8192x512, .f32⟩
  | 88 => ⟨S1x512, .f32⟩
  | 89 => ⟨S8192x512, .f32⟩
  | 90 => ⟨S8192x512, .f32⟩
  | 91 => ⟨S8192x512, .f32⟩
  | 92 => ⟨S8192x512, .f32⟩
  | 93 => ⟨S1x512, .f32⟩
  | 94 => ⟨S8192x512, .f32⟩
  | 95 => ⟨S8192x512, .f32⟩
  | 96 => ⟨S8192x512, .f32⟩
  | 97 => ⟨S8192x512, .f32⟩
  | 98 => ⟨S1x512, .f32⟩
  | 99 => ⟨S8192x512, .f32⟩
  | 100 => ⟨S8192x512, .f32⟩
  | 101 => ⟨S8192x512, .f32⟩
  | 102 => ⟨S8192x512, .f32⟩
  | 103 => ⟨S1x512, .f32⟩
  | 104 => ⟨S8192x512, .f32⟩
  | 105 => ⟨S8192x512, .f32⟩
  | 106 => ⟨S8192x512, .f32⟩
  | 107 => ⟨S8192x512, .f32⟩
  | 108 => ⟨S1x512, .f32⟩
  | 109 => ⟨S8192x512, .f32⟩
  | 110 => ⟨S8192x512, .f32⟩
  | 111 => ⟨S8192x512, .f32⟩
  | 112 => ⟨S8192x512, .f32⟩
  | 113 => ⟨S1x512, .f32⟩
  | 114 => ⟨S8192x512, .f32⟩
  | 115 => ⟨S8192x512, .f32⟩
  | 116 => ⟨S8192x512, .f32⟩
  | 117 => ⟨S8192x512, .f32⟩
  | 118 => ⟨S1x512, .f32⟩
  | 119 => ⟨S8192x512, .f32⟩
  | 120 => ⟨S8192x512, .f32⟩
  | 121 => ⟨S8192x512, .f32⟩
  | 122 => ⟨S8192x512, .f32⟩
  | 123 => ⟨S1x512, .f32⟩
  | 124 => ⟨S8192x512, .f32⟩
  | 125 => ⟨S8192x512, .f32⟩
  | 126 => ⟨S8192x512, .f32⟩
  | 127 => ⟨S8192x512, .f32⟩
  | _ => ⟨S8192x2048, .f32⟩

abbrev hbmTy0_1 (i : Nat) : BufTy := match i % 128 with
  | 0 => ⟨S1x512, .f32⟩
  | 1 => ⟨S8192x512, .f32⟩
  | 2 => ⟨S8192x512, .f32⟩
  | 3 => ⟨S8192x512, .f32⟩
  | 4 => ⟨S8192x512, .f32⟩
  | 5 => ⟨S1x512, .f32⟩
  | 6 => ⟨S8192x512, .f32⟩
  | 7 => ⟨S8192x512, .f32⟩
  | 8 => ⟨S8192x512, .f32⟩
  | 9 => ⟨S8192x512, .f32⟩
  | 10 => ⟨S1x512, .f32⟩
  | 11 => ⟨S8192x512, .f32⟩
  | 12 => ⟨S8192x512, .f32⟩
  | 13 => ⟨S8192x512, .f32⟩
  | 14 => ⟨S8192x512, .f32⟩
  | 15 => ⟨S1x512, .f32⟩
  | 16 => ⟨S8192x512, .f32⟩
  | 17 => ⟨S8192x512, .f32⟩
  | 18 => ⟨S8192x512, .f32⟩
  | 19 => ⟨S8192x512, .f32⟩
  | 20 => ⟨S1x512, .f32⟩
  | 21 => ⟨S8192x512, .f32⟩
  | 22 => ⟨S8192x512, .f32⟩
  | 23 => ⟨S8192x512, .f32⟩
  | 24 => ⟨S8192x512, .f32⟩
  | 25 => ⟨S1x512, .f32⟩
  | 26 => ⟨S8192x512, .f32⟩
  | 27 => ⟨S8192x512, .f32⟩
  | 28 => ⟨S8192x512, .f32⟩
  | 29 => ⟨S8192x512, .f32⟩
  | 30 => ⟨S1x512, .f32⟩
  | 31 => ⟨S8192x512, .f32⟩
  | 32 => ⟨S8192x512, .f32⟩
  | 33 => ⟨S8192x512, .f32⟩
  | 34 => ⟨S8192x512, .f32⟩
  | 35 => ⟨S1x512, .f32⟩
  | 36 => ⟨S8192x512, .f32⟩
  | 37 => ⟨S8192x512, .f32⟩
  | 38 => ⟨S8192x512, .f32⟩
  | 39 => ⟨S8192x512, .f32⟩
  | 40 => ⟨S1x512, .f32⟩
  | 41 => ⟨S8192x512, .f32⟩
  | 42 => ⟨S8192x512, .f32⟩
  | 43 => ⟨S8192x512, .f32⟩
  | 44 => ⟨S8192x512, .f32⟩
  | 45 => ⟨S8192x512, .f32⟩
  | 46 => ⟨S8192x512, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S8192x512, .f32⟩
  | 54 => ⟨S8192x512, .f32⟩
  | 55 => ⟨S8192x512, .f32⟩
  | 56 => ⟨S_, .f32⟩
  | 57 => ⟨S8192, .f32⟩
  | 58 => ⟨S8192x1, .f32⟩
  | 59 => ⟨S_, .f32⟩
  | 60 => ⟨S8192x1, .f32⟩
  | 61 => ⟨S8192x1, .f32⟩
  | 62 => ⟨S_, .f32⟩
  | 63 => ⟨S8192x1, .f32⟩
  | 64 => ⟨S8192x1, .f32⟩
  | 65 => ⟨S8192x1, .f32⟩
  | 66 => ⟨S8192x512, .f32⟩
  | 67 => ⟨S8192x512, .f32⟩
  | 68 => ⟨S8192x512, .f32⟩
  | 69 => ⟨S8192x512, .f32⟩
  | 70 => ⟨S8192x512, .f32⟩
  | 71 => ⟨S8192x512, .f32⟩
  | 72 => ⟨S8192x512, .f32⟩
  | 73 => ⟨S8192x512, .f32⟩
  | 74 => ⟨S_, .f32⟩
  | 75 => ⟨S8192x512, .f32⟩
  | 76 => ⟨S8192x512, .f32⟩
  | 77 => ⟨S_, .f32⟩
  | 78 => ⟨S8192x512, .f32⟩
  | 79 => ⟨S8192x512, .f32⟩
  | 80 => ⟨S8192x512, .f32⟩
  | 81 => ⟨S8192x512, .bf16⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_v80 : Ref sig .tc := ⟨.hbm, 88, rfl⟩
abbrev main_v81 : Ref sig .tc := ⟨.hbm, 89, rfl⟩
abbrev main_v82 : Ref sig .tc := ⟨.hbm, 90, rfl⟩
abbrev main_v83 : Ref sig .tc := ⟨.hbm, 91, rfl⟩
abbrev main_v84 : Ref sig .tc := ⟨.hbm, 92, rfl⟩
abbrev main_v85 : Ref sig .tc := ⟨.hbm, 93, rfl⟩
abbrev main_v86 : Ref sig .tc := ⟨.hbm, 94, rfl⟩
abbrev main_v87 : Ref sig .tc := ⟨.hbm, 95, rfl⟩
abbrev main_v88 : Ref sig .tc := ⟨.hbm, 96, rfl⟩
abbrev main_v89 : Ref sig .tc := ⟨.hbm, 97, rfl⟩
abbrev main_v90 : Ref sig .tc := ⟨.hbm, 98, rfl⟩
abbrev main_v91 : Ref sig .tc := ⟨.hbm, 99, rfl⟩
abbrev main_v92 : Ref sig .tc := ⟨.hbm, 100, rfl⟩
abbrev main_v93 : Ref sig .tc := ⟨.hbm, 101, rfl⟩
abbrev main_v94 : Ref sig .tc := ⟨.hbm, 102, rfl⟩
abbrev main_v95 : Ref sig .tc := ⟨.hbm, 103, rfl⟩
abbrev main_v96 : Ref sig .tc := ⟨.hbm, 104, rfl⟩
abbrev main_v97 : Ref sig .tc := ⟨.hbm, 105, rfl⟩
abbrev main_v98 : Ref sig .tc := ⟨.hbm, 106, rfl⟩
abbrev main_v99 : Ref sig .tc := ⟨.hbm, 107, rfl⟩
abbrev main_v100 : Ref sig .tc := ⟨.hbm, 108, rfl⟩
abbrev main_v101 : Ref sig .tc := ⟨.hbm, 109, rfl⟩
abbrev main_v102 : Ref sig .tc := ⟨.hbm, 110, rfl⟩
abbrev main_v103 : Ref sig .tc := ⟨.hbm, 111, rfl⟩
abbrev main_v104 : Ref sig .tc := ⟨.hbm, 112, rfl⟩
abbrev main_v105 : Ref sig .tc := ⟨.hbm, 113, rfl⟩
abbrev main_v106 : Ref sig .tc := ⟨.hbm, 114, rfl⟩
abbrev main_v107 : Ref sig .tc := ⟨.hbm, 115, rfl⟩
abbrev main_v108 : Ref sig .tc := ⟨.hbm, 116, rfl⟩
abbrev main_v109 : Ref sig .tc := ⟨.hbm, 117, rfl⟩
abbrev main_v110 : Ref sig .tc := ⟨.hbm, 118, rfl⟩
abbrev main_v111 : Ref sig .tc := ⟨.hbm, 119, rfl⟩
abbrev main_v112 : Ref sig .tc := ⟨.hbm, 120, rfl⟩
abbrev main_v113 : Ref sig .tc := ⟨.hbm, 121, rfl⟩
abbrev main_v114 : Ref sig .tc := ⟨.hbm, 122, rfl⟩
abbrev main_v115 : Ref sig .tc := ⟨.hbm, 123, rfl⟩
abbrev main_v116 : Ref sig .tc := ⟨.hbm, 124, rfl⟩
abbrev main_v117 : Ref sig .tc := ⟨.hbm, 125, rfl⟩
abbrev main_v118 : Ref sig .tc := ⟨.hbm, 126, rfl⟩
abbrev main_v119 : Ref sig .tc := ⟨.hbm, 127, rfl⟩
abbrev main_v120 : Ref sig .tc := ⟨.hbm, 128, rfl⟩
abbrev main_v121 : Ref sig .tc := ⟨.hbm, 129, rfl⟩
abbrev main_v122 : Ref sig .tc := ⟨.hbm, 130, rfl⟩
abbrev main_v123 : Ref sig .tc := ⟨.hbm, 131, rfl⟩
abbrev main_v124 : Ref sig .tc := ⟨.hbm, 132, rfl⟩
abbrev main_v125 : Ref sig .tc := ⟨.hbm, 133, rfl⟩
abbrev main_v126 : Ref sig .tc := ⟨.hbm, 134, rfl⟩
abbrev main_v127 : Ref sig .tc := ⟨.hbm, 135, rfl⟩
abbrev main_v128 : Ref sig .tc := ⟨.hbm, 136, rfl⟩
abbrev main_v129 : Ref sig .tc := ⟨.hbm, 137, rfl⟩
abbrev main_v130 : Ref sig .tc := ⟨.hbm, 138, rfl⟩
abbrev main_v131 : Ref sig .tc := ⟨.hbm, 139, rfl⟩
abbrev main_v132 : Ref sig .tc := ⟨.hbm, 140, rfl⟩
abbrev main_v133 : Ref sig .tc := ⟨.hbm, 141, rfl⟩
abbrev main_v134 : Ref sig .tc := ⟨.hbm, 142, rfl⟩
abbrev main_v135 : Ref sig .tc := ⟨.hbm, 143, rfl⟩
abbrev main_v136 : Ref sig .tc := ⟨.hbm, 144, rfl⟩
abbrev main_v137 : Ref sig .tc := ⟨.hbm, 145, rfl⟩
abbrev main_v138 : Ref sig .tc := ⟨.hbm, 146, rfl⟩
abbrev main_v139 : Ref sig .tc := ⟨.hbm, 147, rfl⟩
abbrev main_v140 : Ref sig .tc := ⟨.hbm, 148, rfl⟩
abbrev main_v141 : Ref sig .tc := ⟨.hbm, 149, rfl⟩
abbrev main_v142 : Ref sig .tc := ⟨.hbm, 150, rfl⟩
abbrev main_v143 : Ref sig .tc := ⟨.hbm, 151, rfl⟩
abbrev main_v144 : Ref sig .tc := ⟨.hbm, 152, rfl⟩
abbrev main_v145 : Ref sig .tc := ⟨.hbm, 153, rfl⟩
abbrev main_v146 : Ref sig .tc := ⟨.hbm, 154, rfl⟩
abbrev main_v147 : Ref sig .tc := ⟨.hbm, 155, rfl⟩
abbrev main_v148 : Ref sig .tc := ⟨.hbm, 156, rfl⟩
abbrev main_v149 : Ref sig .tc := ⟨.hbm, 157, rfl⟩
abbrev main_v150 : Ref sig .tc := ⟨.hbm, 158, rfl⟩
abbrev main_v151 : Ref sig .tc := ⟨.hbm, 159, rfl⟩
abbrev main_v152 : Ref sig .tc := ⟨.hbm, 160, rfl⟩
abbrev main_v153 : Ref sig .tc := ⟨.hbm, 161, rfl⟩
abbrev main_v154 : Ref sig .tc := ⟨.hbm, 162, rfl⟩
abbrev main_v155 : Ref sig .tc := ⟨.hbm, 163, rfl⟩
abbrev main_v156 : Ref sig .tc := ⟨.hbm, 164, rfl⟩
abbrev main_v157 : Ref sig .tc := ⟨.hbm, 165, rfl⟩
abbrev main_v158 : Ref sig .tc := ⟨.hbm, 166, rfl⟩
abbrev main_v159 : Ref sig .tc := ⟨.hbm, 167, rfl⟩
abbrev main_v160 : Ref sig .tc := ⟨.hbm, 168, rfl⟩
abbrev main_v161 : Ref sig .tc := ⟨.hbm, 169, rfl⟩
abbrev main_v162 : Ref sig .tc := ⟨.hbm, 170, rfl⟩
abbrev main_v163 : Ref sig .tc := ⟨.hbm, 171, rfl⟩
abbrev main_v164 : Ref sig .tc := ⟨.hbm, 172, rfl⟩
abbrev main_v165 : Ref sig .tc := ⟨.hbm, 173, rfl⟩
abbrev main_v166 : Ref sig .tc := ⟨.hbm, 174, rfl⟩
abbrev main_cst_2 : Ref sig .tc := ⟨.hbm, 175, rfl⟩
abbrev main_v167 : Ref sig .tc := ⟨.hbm, 176, rfl⟩
abbrev main_v168 : Ref sig .tc := ⟨.hbm, 177, rfl⟩
abbrev main_cst_3 : Ref sig .tc := ⟨.hbm, 178, rfl⟩
abbrev main_v169 : Ref sig .tc := ⟨.hbm, 179, rfl⟩
abbrev main_v170 : Ref sig .tc := ⟨.hbm, 180, rfl⟩
abbrev main_v171 : Ref sig .tc := ⟨.hbm, 181, rfl⟩
abbrev main_v172 : Ref sig .tc := ⟨.hbm, 182, rfl⟩
abbrev main_v173 : Ref sig .tc := ⟨.hbm, 183, rfl⟩
abbrev main_cst_4 : Ref sig .tc := ⟨.hbm, 184, rfl⟩
abbrev main_v174 : Ref sig .tc := ⟨.hbm, 185, rfl⟩
abbrev main_v175 : Ref sig .tc := ⟨.hbm, 186, rfl⟩
abbrev main_cst_5 : Ref sig .tc := ⟨.hbm, 187, rfl⟩
abbrev main_v176 : Ref sig .tc := ⟨.hbm, 188, rfl⟩
abbrev main_v177 : Ref sig .tc := ⟨.hbm, 189, rfl⟩
abbrev main_cst_6 : Ref sig .tc := ⟨.hbm, 190, rfl⟩
abbrev main_v178 : Ref sig .tc := ⟨.hbm, 191, rfl⟩
abbrev main_v179 : Ref sig .tc := ⟨.hbm, 192, rfl⟩
abbrev main_v180 : Ref sig .tc := ⟨.hbm, 193, rfl⟩
abbrev main_v181 : Ref sig .tc := ⟨.hbm, 194, rfl⟩
abbrev main_v182 : Ref sig .tc := ⟨.hbm, 195, rfl⟩
abbrev main_v183 : Ref sig .tc := ⟨.hbm, 196, rfl⟩
abbrev main_v184 : Ref sig .tc := ⟨.hbm, 197, rfl⟩
abbrev main_v185 : Ref sig .tc := ⟨.hbm, 198, rfl⟩
abbrev main_v186 : Ref sig .tc := ⟨.hbm, 199, rfl⟩
abbrev main_call0_v0 : Ref sig .tc := ⟨.hbm, 200, rfl⟩
abbrev main_call0_v1 : Ref sig .tc := ⟨.hbm, 201, rfl⟩
abbrev main_call0_cst : Ref sig .tc := ⟨.hbm, 202, rfl⟩
abbrev main_call0_v2 : Ref sig .tc := ⟨.hbm, 203, rfl⟩
abbrev main_call0_v3 : Ref sig .tc := ⟨.hbm, 204, rfl⟩
abbrev main_call0_cst_0 : Ref sig .tc := ⟨.hbm, 205, rfl⟩
abbrev main_call0_v4 : Ref sig .tc := ⟨.hbm, 206, rfl⟩
abbrev main_call0_v5 : Ref sig .tc := ⟨.hbm, 207, rfl⟩
abbrev main_v187 : Ref sig .tc := ⟨.hbm, 208, rfl⟩
abbrev main_v188 : Ref sig .tc := ⟨.hbm, 209, rfl⟩

abbrev nD : Nat := 1
abbrev τ : Topo := Topo.v7x

variable {F : FTy → Type} [FloatOps F]
-- ==== Proof.KvFrames.lean ====
/- The three frames of the keys' and values' pair, and that idealizing rewrote nothing. -/
module

public import proofs.«01_k».proof.Proof.Gen.KvBwd.Frame
public import proofs.«01_k».proof.Proof.Gen.KvBwdIdeal.Frame
public import proofs.«01_k».proof.Proof.Gen.KvGradIdeal.Run
public import proofs.«01_k».proof.Defs
public import Idealize.ShloMosaic.Lib.Claim

@[expose] public section

noncomputable section

namespace Cert.KvProof
open Idealize.ShloMosaic Idealize.ShloMosaic.TcCoe Idealize.SL.Sem

/-- The call as it is compiled keeps its arguments. -/
theorem frame_kernel : Cert.quiescent_KvBwd := fun m ρ _ => Cert.KvBwd.Gen.frame m ρ

/-- So does the call over the reals. -/
theorem frame_ideal : Cert.quiescent_KvBwdIdeal := fun m ρ _ => Cert.KvBwdIdeal.Gen.frame m ρ

/-- So does the reference, which has no semaphore. -/
theorem frame_reference : Cert.quiescent_KvGradIdeal := fun m ρ _ =>
  (θ_run _ _ _).mono (fun r h => ⟨fun c => (h c).2.2, funext fun s => nomatch s⟩) (Cert.KvGradIdeal.Value.run m ρ)

end Cert.KvProof
-- ==== Proof.RowGrad.lean ====
/-
  The two ways the gradients of a root-mean-square norm and of a softmax are written, over one row.

  The kernels write the gradients with the normalised row or the weights themselves; differentiating the forward lines
  leaves the quotient rule's terms apart. Both are sums of the same products where the row is real, and the incoming
  gradient may then be anything.
-/
module

public import Idealize.ShloMosaic.PureOps.Ideal.Laws
public import Idealize.ShloMosaic.Lib.Pointwise

@[expose] public section

noncomputable section

namespace Cert.RowGrad
open Idealize.ShloMosaic

/-! ## Constants -/

theorem const_1024 : Ideal.ofBits .f32 0x44800000#32 = ((1024 : ℝ) : EReal) := by
  simp [Ideal.ofBits, Ideal.ieee, Nat.shiftRight_eq_div_pow, BitVec.extractLsb'] <;> norm_num

theorem const_eps : ∃ e : ℝ, 0 < e ∧ Ideal.ofBits .f32 0x358637BD#32 = (e : EReal) := by
  refine ⟨8796093 * 2 ^ (-43 : ℤ), by positivity, ?_⟩
  simp [Ideal.ofBits, Ideal.ieee, Nat.shiftRight_eq_div_pow, BitVec.extractLsb'] <;> norm_num
  rw [← EReal.coe_mul]; norm_num

theorem const_neg_half : Ideal.ofBits .f32 0xBF000000#32 = ((-(1 / 2) : ℝ) : EReal) := by
  simp [Ideal.ofBits, Ideal.ieee, Nat.shiftRight_eq_div_pow, BitVec.extractLsb'] <;> norm_num

theorem const_bot : Ideal.ofBits .f32 0xFF800000#32 = ⊥ := by
  simp [Ideal.ofBits, Ideal.ieee, Nat.shiftRight_eq_div_pow, BitVec.extractLsb'] <;> norm_num

theorem const_top : Ideal.ofBits .f32 0x7F800000#32 = ⊤ := by
  simp [Ideal.ofBits, Ideal.ieee, Nat.shiftRight_eq_div_pow, BitVec.extractLsb'] <;> norm_num

/-! ## Sums of extended reals scaled by a real -/

/-- A nonnegative real factor comes out of a sum. -/
theorem sum_mul_real {n : ℕ} (f : Fin n → EReal) {a : ℝ} (ha : 0 ≤ a) : ∑ k, f k * (a : EReal) = (∑ k, f k) * a := by
  classical
  refine Finset.induction_on (Finset.univ : Finset (Fin n)) (by simp) fun k s hk ih => ?_
  rw [Finset.sum_insert hk, Finset.sum_insert hk, ih,
    EReal.right_distrib_of_nonneg_of_ne_top (EReal.coe_nonneg.2 ha) (EReal.coe_ne_top a)]

/-- A real multiple of an extended real, twice. -/
theorem real_mul_twice (a : ℝ) (t : EReal) : (a : EReal) * t + (a : EReal) * t = ((a + a : ℝ) : EReal) * t := by
  induction t with
  | coe t => norm_cast; ring
  | bot =>
    rcases lt_trichotomy a 0 with h | rfl | h
    · rw [EReal.coe_mul_bot_of_neg h, EReal.coe_mul_bot_of_neg (by linarith), EReal.top_add_top]
    · simp
    · rw [EReal.coe_mul_bot_of_pos h, EReal.coe_mul_bot_of_pos (by linarith), EReal.bot_add]
  | top =>
    rcases lt_trichotomy a 0 with h | rfl | h
    · rw [EReal.coe_mul_top_of_neg h, EReal.coe_mul_top_of_neg (by linarith), EReal.bot_add]
    · simp
    · rw [EReal.coe_mul_top_of_pos h, EReal.coe_mul_top_of_pos (by linarith), EReal.top_add_top]

/-- A sum of reals is a real. -/
theorem sum_real {n : ℕ} (f : Fin n → ℝ) : ∑ k, (f k : EReal) = ((∑ k, f k : ℝ) : EReal) := by
  classical
  refine Finset.induction_on (Finset.univ : Finset (Fin n)) (by simp) fun k s hk ih => ?_
  rw [Finset.sum_insert hk, Finset.sum_insert hk, ih, EReal.coe_add]

/-- A sum over 2048 columns is the sum of its four quarters. -/
theorem sum_four (f : Fin 2048 → EReal) : ∑ k, f k
    = (∑ x : Fin 512, f ⟨x, by omega⟩) + (∑ x : Fin 512, f ⟨512 + x, by omega⟩)
      + (∑ x : Fin 512, f ⟨1024 + x, by omega⟩) + (∑ x : Fin 512, f ⟨1536 + x, by omega⟩) := by
  rw [Fin.sum_univ_add (a := 1536) (b := 512) f, Fin.sum_univ_add (a := 1024) (b := 512),
    Fin.sum_univ_add (a := 512) (b := 512)]
  rfl

/-! ## The norm's gradient -/

/-- The reciprocal root of the mean square of a row, as the programs compute it. -/
def rinv (x : Fin 1024 → EReal) : EReal :=
  Ideal.rsqrt (Ideal.div (∑ k, x k * x k) (Ideal.ofBits .f32 0x44800000#32) + Ideal.ofBits .f32 0x358637BD#32)

/-- The gradient the kernels write: from the normalised row and the mean of its product with the incoming gradient. -/
def rmsGrad (x d : Fin 1024 → EReal) (j : Fin 1024) : EReal :=
  rinv x * (d j - x j * rinv x * Ideal.div (∑ k, d k * (x k * rinv x)) (Ideal.ofBits .f32 0x44800000#32))

/-- What one of the two equal terms of the mean square's derivative multiplies the row by. -/
def meanGrad (x d : Fin 1024 → EReal) : EReal :=
  ∑ _k : Fin 1, Ideal.div ((∑ k, x k * d k) * (Ideal.ofBits .f32 0xBF000000#32 *
    Ideal.div (rinv x)
      (Ideal.div (∑ k, x k * x k) (Ideal.ofBits .f32 0x44800000#32) + Ideal.ofBits .f32 0x358637BD#32)))
    (Ideal.ofBits .f32 0x44800000#32)

/-- For a real row the two ways agree, whatever the incoming gradients are. -/
theorem rms_row (x d : Fin 1024 → EReal) (hx : ∀ k, ∃ r : ℝ, x k = r) (ct : EReal) (j : Fin 1024) :
    ct + rmsGrad x d j = ct + d j * rinv x + x j * meanGrad x d + meanGrad x d * x j := by
  choose y hy using hx
  obtain rfl : x = fun k => (y k : EReal) := funext hy
  obtain ⟨e, he, hb⟩ := const_eps
  have hs : Ideal.div (∑ k, (y k : EReal) * (y k : EReal)) (Ideal.ofBits .f32 0x44800000#32) + Ideal.ofBits .f32 0x358637BD#32
      = (((∑ k, y k * y k) * (1 / 1024) + e : ℝ) : EReal) := by
    rw [const_1024, hb, Ideal.div_coe (by norm_num)]
    simp only [← EReal.coe_mul, sum_real, ← EReal.coe_add]
  set s : ℝ := (∑ k, y k * y k) * (1 / 1024) + e with hsdef
  have hpos : 0 < s := by
    have : 0 ≤ ∑ k, y k * y k := Finset.sum_nonneg fun k _ => mul_self_nonneg _
    positivity
  have hr : rinv (fun k => (y k : EReal)) = (((Real.sqrt s)⁻¹ : ℝ) : EReal) := by
    unfold rinv
    rw [hs, Ideal.rsqrt_coe, if_neg (not_lt.2 hpos.le), if_neg hpos.ne']
  set r : ℝ := (Real.sqrt s)⁻¹ with hrdef
  have hr0 : 0 ≤ r := inv_nonneg.2 (Real.sqrt_nonneg _)
  have hrs : r * r = 1 / s := by
    rw [hrdef, ← mul_inv, Real.mul_self_sqrt hpos.le, one_div]
  unfold rmsGrad meanGrad
  rw [hr, hs, const_1024, const_neg_half, Ideal.div_coe hpos.ne']
  simp only [Ideal.div_coe (show (1024 : ℝ) ≠ 0 by norm_num), Finset.univ_unique, Finset.sum_singleton]
  have hk : ∑ k, d k * ((y k : EReal) * (r : EReal)) = (∑ k, (y k : EReal) * d k) * r := by
    rw [← sum_mul_real _ hr0]
    exact Finset.sum_congr rfl fun k _ => by ac_rfl
  rw [hk]
  generalize (∑ k, (y k : EReal) * d k) = T
  rw [sub_eq_add_neg, EReal.left_distrib_of_nonneg_of_ne_top (EReal.coe_nonneg.2 hr0) (EReal.coe_ne_top r)]
  have h1 : (r : EReal) * -((y j : EReal) * r * (T * r * ((1 / 1024 : ℝ) : EReal)))
      = ((-(r * (y j * r) * r * (1 / 1024)) : ℝ) : EReal) * T := by
    rw [EReal.coe_neg, neg_mul, mul_neg]
    simp only [EReal.coe_mul]
    congr 1; ac_rfl
  have h2 : (y j : EReal) * (T * (((-(1 / 2) : ℝ) : EReal) * ((r : EReal) * ((1 / s : ℝ) : EReal))) * ((1 / 1024 : ℝ) : EReal))
      = ((y j * (-(1 / 2) * (r * (1 / s))) * (1 / 1024) : ℝ) : EReal) * T := by
    simp only [EReal.coe_mul]; ac_rfl
  have h3 : (T * (((-(1 / 2) : ℝ) : EReal) * ((r : EReal) * ((1 / s : ℝ) : EReal))) * ((1 / 1024 : ℝ) : EReal)) * (y j : EReal)
      = ((y j * (-(1 / 2) * (r * (1 / s))) * (1 / 1024) : ℝ) : EReal) * T := by
    simp only [EReal.coe_mul]; ac_rfl
  rw [h1, h2, h3, mul_comm (d j), ← add_assoc, add_assoc (ct + _) (_ * T) (_ * T), real_mul_twice]
  congr 3
  rw [← hrs]; ring

/-! ## The softmax's gradient -/

/-- The largest entry of a row. -/
def rowMax {n : ℕ} (s : Fin n → EReal) : EReal := Finset.univ.fold max (Ideal.ofBits .f32 0xFF800000#32) s

/-- The exponentials of a row, its largest entry taken off. -/
def rowExp {n : ℕ} (s : Fin n → EReal) (j : Fin n) : EReal := Ideal.exp (s j - rowMax s)

/-- The softmax of a row. -/
def softRow {n : ℕ} (s : Fin n → EReal) (j : Fin n) : EReal := Ideal.div (rowExp s j) (∑ k, rowExp s k)

/-- The softmax's gradient as the kernel writes it: from the weights. -/
def softGrad {n : ℕ} (s d : Fin n → EReal) (j : Fin n) : EReal := softRow s j * (d j - ∑ k, d k * softRow s k)

/-- The softmax's gradient by the quotient rule: from the exponentials and their sum. -/
def quotGrad {n : ℕ} (s d : Fin n → EReal) (j : Fin n) : EReal :=
  (Ideal.div (d j) (∑ k, rowExp s k)
    + ∑ _k : Fin 1, -∑ k, d k * Ideal.div 1 ((∑ k, rowExp s k) * ∑ k, rowExp s k) * rowExp s k) * rowExp s j

/-- The largest entry of a row of reals is a real. -/
theorem rowMax_real {n : ℕ} (s : Fin (n + 1) → ℝ) : ∃ a : ℝ, rowMax (fun k => (s k : EReal)) = a := by
  have hb : rowMax (fun k => (s k : EReal)) ≠ ⊥ := by
    refine ne_of_gt (lt_of_lt_of_le (EReal.bot_lt_coe (s 0)) ?_)
    exact Finset.le_fold_max _ |>.2 (.inr ⟨0, Finset.mem_univ _, le_refl _⟩)
  have ht : rowMax (fun k => (s k : EReal)) ≠ ⊤ := by
    refine ne_of_lt ?_
    unfold rowMax
    rw [Finset.fold_max_lt, const_bot]
    exact ⟨bot_lt_top, fun k _ => EReal.coe_lt_top _⟩
  exact ⟨_, (EReal.coe_toReal ht hb).symm⟩

/-- For real scores the two ways agree, whatever the weights' incoming gradients are. -/
theorem soft_row {n : ℕ} (s d : Fin (n + 1) → EReal) (hs : ∀ k, ∃ r : ℝ, s k = r) (j : Fin (n + 1)) :
    softGrad s d j = quotGrad s d j := by
  choose y hy using hs
  obtain rfl : s = fun k => (y k : EReal) := funext hy
  obtain ⟨a, ha⟩ := rowMax_real y
  have he : ∀ k, rowExp (fun k => (y k : EReal)) k = ((Real.exp (y k - a) : ℝ) : EReal) := fun k => by
    unfold rowExp
    rw [ha, ← EReal.coe_sub, Ideal.exp_coe]
  have hl : ∑ k, rowExp (fun k => (y k : EReal)) k = ((∑ k, Real.exp (y k - a) : ℝ) : EReal) := by
    simp only [he, sum_real]
  have hpos : 0 < ∑ k, Real.exp (y k - a) := Finset.sum_pos (fun k _ => Real.exp_pos _) ⟨j, Finset.mem_univ _⟩
  unfold softGrad quotGrad softRow
  rw [hl]
  simp only [he]
  generalize (∑ k, Real.exp (y k - a)) = l at hpos ⊢
  have hq : 0 ≤ 1 / l := by positivity
  have hqq : 0 ≤ 1 / (l * l) := by positivity
  simp only [Ideal.div_coe hpos.ne', ← EReal.coe_mul, Ideal.div_coe (mul_pos hpos hpos).ne', one_mul,
    Finset.univ_unique, Finset.sum_singleton]
  have h1 : ∑ k, d k * ((Real.exp (y k - a) * (1 / l) : ℝ) : EReal)
      = (∑ k, d k * ((Real.exp (y k - a) : ℝ) : EReal)) * ((1 / l : ℝ) : EReal) := by
    rw [← sum_mul_real _ hq]
    exact Finset.sum_congr rfl fun k _ => by rw [EReal.coe_mul, mul_assoc]
  have h2 : ∑ k, d k * ((1 / (l * l) : ℝ) : EReal) * ((Real.exp (y k - a) : ℝ) : EReal)
      = (∑ k, d k * ((Real.exp (y k - a) : ℝ) : EReal)) * ((1 / (l * l) : ℝ) : EReal) := by
    rw [← sum_mul_real _ hqq]
    exact Finset.sum_congr rfl fun k _ => by ac_rfl
  rw [h1, h2]
  generalize (∑ k, d k * ((Real.exp (y k - a) : ℝ) : EReal)) = D
  have hej : (0 : ℝ) ≤ Real.exp (y j - a) := (Real.exp_pos _).le
  generalize Real.exp (y j - a) = b at hej ⊢
  rw [EReal.right_distrib_of_nonneg_of_ne_top (EReal.coe_nonneg.2 hej) (EReal.coe_ne_top b), sub_eq_add_neg,
    EReal.left_distrib_of_nonneg_of_ne_top (EReal.coe_nonneg.2 (mul_nonneg hej hq)) (EReal.coe_ne_top _)]
  congr 1
  · rw [EReal.coe_mul]; ac_rfl
  · rw [mul_neg, neg_mul]
    congr 1
    rw [mul_comm _ (D * _), mul_assoc, mul_assoc, ← EReal.coe_mul, ← EReal.coe_mul]
    congr 2
    field_simp

end Cert.RowGrad
-- ==== Proof.KvValue.lean ====
/-
  The keys' and values' backward call against the derivative of its forward lines.

  The kernel takes the gradient of the keys and values, the projection's weight in four column blocks, the memory
  and the normalised memory its forward pass saved, and returns the weight's gradient in four blocks and the norm
  scale's gradient. The reference differentiates `rms_norm(mem, g) @ w_kv`.

  Each result is first read at an index as a sum over the arrays in the windows, then compared with the reference's
  array over variables, and last carried to the arrays the two programs end with.
-/
module

public import proofs.«01_k».proof.Proof.RowGrad
public import proofs.«01_k».proof.Proof.Gen.KvBwdIdeal.Value
public import proofs.«01_k».proof.Proof.Gen.KvGradIdeal.Run
public import proofs.«01_k».proof.Proof.Gen.KvGradIdeal.Read
public import Idealize.ShloMosaic.Lib.Pipeline.ValueKit
public import Idealize.ShloMosaic.Lib.Pointwise
public import proofs.«01_k».proof.Defs
public import Idealize.ShloMosaic.Lib.Claim
public import Idealize.ShloMosaic.Lib.StableHlo.ReadAt

@[expose] public section

set_option maxRecDepth 16384

noncomputable section

namespace Cert.KvProof
open Cert.RowGrad Cert.KvBwdIdeal Cert.KvBwdIdeal.Gen Cert.KvGradIdeal.Read
open Idealize.ShloMosaic Idealize.ShloMosaic.TcCoe Idealize.SL.Sem

variable (m : (ℓ : Loc nD τ sig) → Buf (Elt Ideal) ℓ)

/-! ## The weight's gradient -/

/-- Block `a` of the kernel's weight gradient, at row `b` and column `e`: the sum over the memory's rows. -/
theorem kernel_dw (x0 : Vec Ideal S256x2048 .f32) (x1 : Vec Ideal S4x1024x512 .bf16) (x2 : Vec Ideal S256x1024 .f32)
    (x3 : Vec Ideal S256x1024 .bf16) (a : Fin 4) (b : Fin 1024) (e : Fin 512) :
    out0_4 x0 x1 x2 x3 (ix3 a b e)
      = ∑ s : Fin 256, x3 (ix2 s b) * x0 (ix2 s ⟨a.val * 512 + e.val, by omega⟩) := by
  frame_out
  unfold_payloads
  canon_tiles x h
  all_goals pointwise
  all_goals
    simp only [ix3_0, ix3_1, ix3_2] at h0 h1 h2
    refine Finset.sum_congr rfl fun s _ => ?_
    congr 2 <;> refine congrArg _ (Fin.ext ?_) <;> simp <;> omega

/-- The reference's weight gradient, cut into the same four blocks, at the same index. -/
theorem reference_dw (x0 : Vec Ideal S256x1024 .f32) (x1 : Vec Ideal S1x1024 .f32) (x3 : Vec Ideal S256x2048 .f32)
    (a : Fin 4) (b : Fin 1024) (e : Fin 512) :
    val_main_v28 (F := Ideal) x0 x1 x3 (ix3 a b e)
      = ∑ s : Fin 256, x3 (ix2 s ⟨a.val * 512 + e.val, by omega⟩) * val_main_v11 (F := Ideal) x0 x1 (ix2 s b) := by
  pointwise [val_main_v28, val_main_v27, val_main_v26, val_main_v25, val_main_v24, val_main_v23, val_main_v22,
    val_main_v21, val_main_v20, val_main_v19, val_main_v14, val_main_v13]
  split_ifs
  all_goals blk_point

/-- The kernel's weight gradient is the reference's, given the normalised memory. -/
theorem dw_eq (x0 : Vec Ideal S256x1024 .f32) (x1 : Vec Ideal S1x1024 .f32) (w : Vec Ideal S4x1024x512 .bf16)
    (x3 : Vec Ideal S256x2048 .f32) :
    out0_4 x3 w x0 (val_main_v11 (F := Ideal) x0 x1) = val_main_v28 (F := Ideal) x0 x1 x3 := by
  funext y
  obtain ⟨a, b, e, rfl⟩ : ∃ (a : Fin 4) (b : Fin 1024) (e : Fin 512), y = ix3 a b e := ⟨y 0, y 1, y 2, by blk_ext⟩
  refine (kernel_dw _ _ _ _ a b e).trans (Eq.trans ?_ (reference_dw x0 x1 x3 a b e).symm)
  exact Finset.sum_congr rfl fun _ _ => mul_comm (G := EReal) _ _

/-! ## The scale's gradient -/

/-- The kernel's scale gradient is the reference's, when the weight's blocks are the weight's columns. -/
theorem dg_eq (x0 : Vec Ideal S256x1024 .f32) (x2 : Vec Ideal S1024x2048 .f32) (w : Vec Ideal S4x1024x512 .bf16)
    (hw : ∀ (a : Fin 4) (b : Fin 1024) (e : Fin 512), w (ix3 a b e) = x2 (ix2 b ⟨a.val * 512 + e.val, by omega⟩))
    (x3 : Vec Ideal S256x2048 .f32) (n : Vec Ideal S256x1024 .bf16) :
    out0_5 x3 w x0 n = val_main_v18 (F := Ideal) x0 x2 x3 := by
  funext y
  obtain ⟨a, b, rfl⟩ : ∃ (a : Fin 1) (b : Fin 1024), y = ix2 a b := ⟨y 0, y 1, by blk_ext⟩
  frame_out
  unfold_payloads
  pointwise [val_main_v18, val_main_v17, val_main_v16, val_main_v15, val_main_v9, val_main_v8, val_main_v7,
    val_main_v6, val_main_v5, val_main_v4, val_main_v3, val_main_v2, val_main_v1, val_main_v0, val_main_cst,
    val_main_cst_0, val_main_cst_1, val_main_cst_2]
  simp only [sum_four, hw]
  blk_point

/-! ## What the windows hold -/

/-- The normalised memory the host hands the kernel is the one the reference's forward lines compute. -/
theorem entry_norm (c : Dev nD) : V m c main_v12
    = val_main_v11 (F := Ideal) (m (c.tc.loc main_arg0)) (m (c.tc.loc main_arg1)) := by
  unfold V
  after_results_simp
  rfl

/-- The host's stack of the weight's column blocks, at an index. -/
theorem entry_blocks (c : Dev nD) (a : Fin 4) (b : Fin 1024) (e : Fin 512) :
    (V m c main_v22 : Vec Ideal S4x1024x512 .bf16) (ix3 a b e)
      = (m (c.tc.loc main_arg2) : Vec Ideal S1024x2048 .f32) (ix2 b ⟨a.val * 512 + e.val, by omega⟩) := by
  unfold V
  after_results_simp
  pointwise
  split_ifs
  all_goals
    after_results_simp
    pointwise
    blk_ext

/-- Every window of the one grid point starts at the array's origin. -/
theorem origin : ∀ t : Fin cfg0.N, win0_0.index t = ![0, 0] ∧ win0_1.index t = ![0, 0, 0] ∧ win0_2.index t = ![0, 0]
    ∧ win0_3.index t = ![0, 0] ∧ win0_4.index t = ![0, 0, 0] ∧ win0_5.index t = ![0, 0] :=
  (by decide +kernel : ∀ t : Fin grid0.N, _)

/-- The first window is the keys' and values' gradient. -/
theorem window0 (c : Dev nD) (t : Fin cfg0.N) : iblk m c 0 t = m (c.tc.loc main_arg3) := by
  blk_ext! [iblk, V, origin t]

/-- The second window is the stack of the weight's blocks. -/
theorem window1 (c : Dev nD) (t : Fin cfg0.N) : iblk m c 1 t = V m c main_v22 := by blk_ext! [iblk, origin t]

/-- The third window is the memory. -/
theorem window2 (c : Dev nD) (t : Fin cfg0.N) : iblk m c 2 t = m (c.tc.loc main_arg0) := by
  blk_ext! [iblk, V, origin t]

/-- The fourth window is the normalised memory. -/
theorem window3 (c : Dev nD) (t : Fin cfg0.N) : iblk m c 3 t = V m c main_v12 := by blk_ext! [iblk, origin t]

/-! ## The arrays after the run -/

/-- The kernel ends with the reference's weight gradient. -/
theorem final_dw (c : Dev nD) : (dats m 0 c).arrAt 4 cfg0.N
    = val_main_v28 (F := Ideal) (m (c.tc.loc main_arg0)) (m (c.tc.loc main_arg1)) (m (c.tc.loc main_arg3)) := by
  refine (dats m 0 c).arrAt_eq_of_covers 4 _ (by decide +kernel) fun t hf y => ?_
  blk_simp
  rw [after0_4, window0, window1, window2, window3, entry_norm]
  refine (congrFun (dw_eq _ _ _ _) y).trans (congrArg _ ?_)
  blk_ext [origin t]

/-- The kernel ends with the reference's scale gradient. -/
theorem final_dg (c : Dev nD) : (dats m 0 c).arrAt 5 cfg0.N
    = val_main_v18 (F := Ideal) (m (c.tc.loc main_arg0)) (m (c.tc.loc main_arg2)) (m (c.tc.loc main_arg3)) := by
  refine (dats m 0 c).arrAt_eq_of_covers 5 _ (by decide +kernel) fun t hf y => ?_
  blk_simp
  rw [after0_5, window0, window1, window2, window3]
  refine (congrFun (dg_eq _ _ _ (entry_blocks m c) _ _) y).trans (congrArg _ ?_)
  blk_ext [origin t]

/-- The two programs end with the same gradients. -/
theorem algebraic : Cert.algebraic_KvBwdIdeal_KvGradIdeal := by
  intro m g m' g' _ hagree
  refine ⟨fun c => val_main_v28 (F := Ideal) (m (c.tc.loc main_arg0)) (m (c.tc.loc main_arg1)) (m (c.tc.loc main_arg3)),
    fun c => val_main_v18 (F := Ideal) (m (c.tc.loc main_arg0)) (m (c.tc.loc main_arg2)) (m (c.tc.loc main_arg3)),
    (θ_run _ _ _).mono (fun r h c => ⟨(h c).1.trans (final_dw m c), (h c).2.1.trans (final_dg m c), (h c).2.2⟩)
      (Cert.KvBwdIdeal.Value.run_blocks m g),
    (θ_run _ _ _).mono (fun r h c => ?_) (Cert.KvGradIdeal.Value.run m' g')⟩
  obtain ⟨a0, a1, a2, a3⟩ := hagree c
  refine ⟨(h c).1.trans ?_, (h c).2.1.trans ?_, (h c).2.2⟩
  · rw [val_main_v28_eq, a0, a1, a3]
  · rw [val_main_v18_eq, a0, a2, a3]

end Cert.KvProof
-- ==== Proof.AttnRow.lean ====
/-
  One row of the cross attention's gradient, as sums over extended reals.

  A row of the queries and the matching row of the gradient at the attention's output give, head by head, the scores,
  the gradients of the weights, those of the scores and those of the queries; the norm before the projection then gives
  the row of the input's gradient.
-/
module

public import proofs.«01_k».proof.Proof.RowGrad

@[expose] public section

noncomputable section

namespace Cert.AttnRow
open Cert.RowGrad Idealize.ShloMosaic

/-- Column `k` of head `h`. -/
def col (h : Fin 4) (k : Fin 256) : Fin 1024 := ⟨h.val * 256 + k.val, by omega⟩

/-- The same column among the keys. -/
def keyCol (h : Fin 4) (k : Fin 256) : Fin 2048 := ⟨h.val * 256 + k.val, by omega⟩

/-- The same column among the values. -/
def valCol (h : Fin 4) (k : Fin 256) : Fin 2048 := ⟨1024 + (h.val * 256 + k.val), by omega⟩

/-- The scale of the scores, one sixteenth. -/
def scale : EReal := Ideal.ofBits .f32 0x3D800000#32

/-- The scaled scores of a row of the queries. -/
def score (q : Fin 1024 → EReal) (kv : Fin 256 → Fin 2048 → EReal) (h : Fin 4) (j : Fin 256) : EReal :=
  (∑ k, q (col h k) * kv j (keyCol h k)) * scale

/-- The gradients of a row's weights. -/
def dWeight (o : Fin 1024 → EReal) (kv : Fin 256 → Fin 2048 → EReal) (h : Fin 4) (j : Fin 256) : EReal :=
  ∑ k, o (col h k) * kv j (valCol h k)

/-- The gradients of a row's products of queries and keys. -/
def dScore (q o : Fin 1024 → EReal) (kv : Fin 256 → Fin 2048 → EReal) (h : Fin 4) (j : Fin 256) : EReal :=
  softGrad (score q kv h) (dWeight o kv h) j * scale

/-- The gradients of a row of the queries, head `h`. -/
def dQuery (q o : Fin 1024 → EReal) (kv : Fin 256 → Fin 2048 → EReal) (h : Fin 4) (b : Fin 256) : EReal :=
  ∑ j, dScore q o kv h j * kv j (keyCol h b)

/-- The head and the column in it of one of the 1024 columns. -/
def headOf (c : Fin 1024) : Fin 4 := ⟨c.val / 256, by omega⟩
def laneOf (c : Fin 1024) : Fin 256 := ⟨c.val % 256, by omega⟩

theorem col_head (c : Fin 1024) : col (headOf c) (laneOf c) = c := Fin.ext (by simp [col, headOf, laneOf]; omega)

/-- What one row adds to the gradient of the keys and values, at key `j` and column `c`. -/
def dKeyVal (q o : Fin 1024 → EReal) (kv : Fin 256 → Fin 2048 → EReal) (j : Fin 256) (c : Fin 2048) : EReal :=
  if h : c.val < 1024 then dScore q o kv (headOf ⟨c.val, h⟩) j * q ⟨c.val, h⟩
  else softRow (score q kv (headOf ⟨c.val - 1024, by omega⟩)) j * o ⟨c.val - 1024, by omega⟩

theorem dKeyVal_key (q o : Fin 1024 → EReal) (kv : Fin 256 → Fin 2048 → EReal) (j : Fin 256) (h : Fin 4) (b : Fin 256)
    (c : Fin 2048) (hc : c.val = h.val * 256 + b.val) : dKeyVal q o kv j c = dScore q o kv h j * q (col h b) := by
  have h1 : c.val < 1024 := by omega
  have h2 : headOf ⟨c.val, h1⟩ = h := Fin.ext (by simp only [headOf]; omega)
  have h3 : (⟨c.val, h1⟩ : Fin 1024) = col h b := Fin.ext hc
  unfold dKeyVal
  rw [dif_pos h1, h2, h3]

theorem dKeyVal_val (q o : Fin 1024 → EReal) (kv : Fin 256 → Fin 2048 → EReal) (j : Fin 256) (h : Fin 4) (b : Fin 256)
    (c : Fin 2048) (hc : c.val = 1024 + (h.val * 256 + b.val)) :
    dKeyVal q o kv j c = softRow (score q kv h) j * o (col h b) := by
  have h1 : ¬ c.val < 1024 := by omega
  have h2 : headOf ⟨c.val - 1024, by omega⟩ = h := Fin.ext (by simp only [headOf]; omega)
  have h3 : (⟨c.val - 1024, by omega⟩ : Fin 1024) = col h b := Fin.ext (by simp only [col]; omega)
  unfold dKeyVal
  rw [dif_neg h1, h2, h3]

/-- The gradients of a row of the normed input, scale not yet applied. -/
def dHidden (q o : Fin 1024 → EReal) (kv : Fin 256 → Fin 2048 → EReal) (w : Fin 1024 → Fin 1024 → EReal)
    (c : Fin 1024) : EReal :=
  ∑ k, dQuery q o kv (headOf k) (laneOf k) * w c k

/-- For real scores the gradient of the scores is the one by the quotient rule. -/
theorem dScore_quot (q o : Fin 1024 → EReal) (kv : Fin 256 → Fin 2048 → EReal) (h : Fin 4) (j : Fin 256)
    (hs : ∀ k, ∃ r : ℝ, score q kv h k = r) :
    dScore q o kv h j = quotGrad (score q kv h) (dWeight o kv h) j * scale := by
  unfold dScore
  rw [soft_row _ _ hs]

end Cert.AttnRow
-- ==== Proof.AttnTile.lean ====
/-
  What one grid point of the cross attention's backward call stores, index by index.

  A point takes a tile of 1024 rows. Its body stores, head by head, a block of the queries' gradient, adds the tile's
  part to the keys' and values' gradient, reads the queries' gradient back for the gradient through the projection and
  the norm, and adds the tile's part to the norm scale's gradient.
-/
module

public import proofs.«01_k».proof.Proof.Gen.AttnBwdIdeal.Value
public import proofs.«01_k».proof.Proof.AttnRow
public import Idealize.ShloMosaic.Lib.Pipeline.ValueKit
public import Idealize.ShloMosaic.Lib.Pointwise
public import Idealize.ShloMosaic.Lib.Pipeline.ReadBack

@[expose] public section

set_option maxRecDepth 16384

noncomputable section

namespace Cert.AttnProof
open Cert.AttnBwdIdeal Cert.AttnBwdIdeal.Gen Cert.RowGrad Cert.AttnRow
open Idealize.ShloMosaic Idealize.ShloMosaic.TcCoe Idealize.SL.Sem

variable (m : (ℓ : Loc nD τ sig) → Buf (Elt Ideal) ℓ)

/-! ## The body's terms at an index -/

/-- The products of the queries and keys, scaled. -/
theorem at_score (u : Vec Ideal S1024x256 .bf16) (v : Vec Ideal S256x256 .bf16) (r : Fin 1024) (j : Fin 256) :
    k0_pay12 (F := Ideal) u v (ix2 r j) = (∑ k, u (ix2 r k) * v (ix2 j k)) * scale := by
  pointwise [k0_pay12, scale]

/-- The products with the values. -/
theorem at_weight (u : Vec Ideal S1024x256 .bf16) (v : Vec Ideal S256x256 .bf16) (r : Fin 1024) (j : Fin 256) :
    k0_pay22 (F := Ideal) u v (ix2 r j) = ∑ k, u (ix2 r k) * v (ix2 j k) := by
  pointwise [k0_pay22]

/-- The weights. -/
theorem at_soft (s : FVec Ideal S1024x256 .f32) (r : Fin 1024) (j : Fin 256) :
    k0_pay23 (F := Ideal) s (ix2 r j) = softRow (fun k => s (ix2 r k)) j := by
  unfold softRow rowExp rowMax
  pointwise [k0_pay23]

/-- The gradients of the scores. -/
theorem at_grad (s d : FVec Ideal S1024x256 .f32) (r : Fin 1024) (j : Fin 256) :
    k0_pay24 (F := Ideal) s d (ix2 r j) = softGrad (fun k => s (ix2 r k)) (fun k => d (ix2 r k)) j * scale := by
  unfold softGrad
  pointwise [k0_pay24, scale]
  simp only [at_soft]

/-- What a block of the values' gradient gains. -/
theorem at_val (o : FVec Ideal S1024x256 .bf16) (s : FVec Ideal S1024x256 .f32) (a : Vec Ideal S256x256 .f32)
    (j b : Fin 256) : k0_pay25 (F := Ideal) o s a (ix2 j b)
      = a (ix2 j b) + ∑ r : Fin 1024, softRow (fun k => s (ix2 r k)) j * o (ix2 r b) := by
  pointwise [k0_pay25]
  simp only [at_soft]

/-- A block of the queries' gradient. -/
theorem at_query (s d : FVec Ideal S1024x256 .f32) (k : Vec Ideal S256x256 .bf16) (r : Fin 1024) (b : Fin 256) :
    k0_pay26 (F := Ideal) s d k (ix2 r b)
      = ∑ j, softGrad (fun k => s (ix2 r k)) (fun k => d (ix2 r k)) j * scale * k (ix2 j b) := by
  pointwise [k0_pay26]
  simp only [at_grad]

/-- What a block of the keys' gradient gains. -/
theorem at_key (d : FVec Ideal S1024x256 .bf16) (a : Vec Ideal S256x256 .f32) (q : Vec Ideal S1024x256 .bf16)
    (j b : Fin 256) : k0_pay27 (F := Ideal) d a q (ix2 j b)
      = a (ix2 j b) + ∑ r : Fin 1024, d (ix2 r j) * q (ix2 r b) := by
  pointwise [k0_pay27]

/-- The gradient at the attention's output. -/
theorem at_out (x : Vec Ideal S1024x1024 .f32) (w : Vec Ideal S1024x1024 .bf16) (r c : Fin 1024) :
    k0_pay7 (F := Ideal) x w (ix2 r c) = ∑ l, x (ix2 r l) * w (ix2 c l) := by
  pointwise [k0_pay7]

/-- Stores that cover an index hide every earlier one. -/
theorem canon_append_of_cover {V : EltTy → Type} [∀ e, Nonempty (V e)] {s : Shape} {e : EltTy} (L L' : List (View.Piece V s e))
    (y : s.Idx) (hy : ∃ p ∈ L, y ∈ p.1.set) : View.canon (L ++ L') y = View.canon L y := by
  induction L with
  | nil => obtain ⟨p, hp, _⟩ := hy; simp at hp
  | cons p L ih =>
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨p', hp', h⟩ := hy
      rcases List.mem_cons.1 hp' with rfl | hp'
      · exact absurd h hm
      · exact ih ⟨p', hp', h⟩

/-- A load of the whole tile reads each index itself. -/
theorem idx_origin (inb : ∀ a, (![0, 0] : Fin 2 → ℕ) a + (![1024, 1024] : Fin 2 → ℕ) a ≤ S1024x1024.size a)
    (y : S1024x1024.Idx) : (Rect.unit (s := S1024x1024) ![0, 0] ![1024, 1024] inb).toLoadRect.idx y = y := by
  funext a
  refine Fin.ext ((Rect.idx_unit_val _ _ _ _ a).trans ?_)
  fin_cases a <;> simp

/-! ## One head's block -/

section Block
variable {q o : Fin 1024 → Fin 1024 → EReal} {kv : Fin 256 → Fin 2048 → EReal} {h : Fin 4}
  {u d : Vec Ideal S1024x256 .bf16} {v w : Vec Ideal S256x256 .bf16}
  (hu : ∀ r k, u (ix2 r k) = q r (col h k)) (hv : ∀ j k, v (ix2 j k) = kv j (keyCol h k))
  (hd : ∀ r k, d (ix2 r k) = o r (col h k)) (hw : ∀ j k, w (ix2 j k) = kv j (valCol h k))
include hu hv

theorem block_score (r : Fin 1024) : (fun j => k0_pay12 (F := Ideal) u v (ix2 r j)) = score (q r) kv h := by
  funext j
  rw [at_score]
  simp only [hu, hv, score]

include hd hw

theorem block_weight (r : Fin 1024) : (fun j => k0_pay22 (F := Ideal) d w (ix2 r j)) = dWeight (o r) kv h := by
  funext j
  rw [at_weight]
  simp only [hd, hw, dWeight]

/-- The block of the queries' gradient. -/
theorem block_query (x : S1024x256.Idx) (r e : Fin 1024) (hr : r.val = (x 0).val)
    (he : e.val = h.val * 256 + (x 1).val) :
    k0_pay26 (F := Ideal) (k0_pay12 u v) (k0_pay22 d w) v x = dQuery (q r) (o r) kv (headOf e) (laneOf e) := by
  obtain ⟨a, b, rfl⟩ : ∃ (a : Fin 1024) (b : Fin 256), x = ix2 a b := ⟨x 0, x 1, by blk_ext⟩
  simp only [ix2_0, ix2_1] at hr he
  obtain rfl := Fin.ext hr
  have hb : b.val < 256 := b.isLt
  rw [show headOf e = h from Fin.ext (by simp only [headOf]; omega),
    show laneOf e = b from Fin.ext (by simp only [laneOf]; omega)]
  rw [at_query, block_score hu hv, block_weight hu hv hd hw]
  simp only [hv, dQuery, dScore]

/-- What the block of the keys' gradient gains. -/
theorem block_key (a : Vec Ideal S256x256 .f32) (acc : EReal) (x : S256x256.Idx) (j : Fin 256) (c : Fin 2048)
    (hj : j.val = (x 0).val) (hc : c.val = h.val * 256 + (x 1).val) (ha : a x = acc) :
    k0_pay27 (F := Ideal) (k0_pay24 (k0_pay12 u v) (k0_pay22 d w)) a u x = acc + ∑ r, dKeyVal (q r) (o r) kv j c := by
  obtain ⟨i, b, rfl⟩ : ∃ (i b : Fin 256), x = ix2 i b := ⟨x 0, x 1, by blk_ext⟩
  simp only [ix2_0, ix2_1] at hj hc
  obtain rfl := Fin.ext hj
  rw [← ha]
  rw [at_key]
  congr 1
  refine Finset.sum_congr rfl fun r _ => ?_
  rw [at_grad, block_score hu hv, block_weight hu hv hd hw, hu, dKeyVal_key _ _ _ _ h b c hc, dScore]

omit hw
/-- What the block of the values' gradient gains. -/
theorem block_val (a : Vec Ideal S256x256 .f32) (acc : EReal) (x : S256x256.Idx) (j : Fin 256) (c : Fin 2048)
    (hj : j.val = (x 0).val) (hc : c.val = 1024 + (h.val * 256 + (x 1).val)) (ha : a x = acc) :
    k0_pay25 (F := Ideal) d (k0_pay12 u v) a x = acc + ∑ r, dKeyVal (q r) (o r) kv j c := by
  obtain ⟨i, b, rfl⟩ : ∃ (i b : Fin 256), x = ix2 i b := ⟨x 0, x 1, by blk_ext⟩
  simp only [ix2_0, ix2_1] at hj hc
  obtain rfl := Fin.ext hj
  rw [← ha]
  rw [at_val]
  congr 1
  refine Finset.sum_congr rfl fun r _ => ?_
  rw [block_score hu hv, hd, dKeyVal_val _ _ _ _ h b c hc]

end Block

/-! ## A tile's results -/

/-- The rows of a tile of the queries. -/
def qRow (x : Vec Ideal S1024x1024 .bf16) (r k : Fin 1024) : EReal := x (ix2 r k)

/-- The rows of the gradient at the attention's output. -/
def oRow (x : Vec Ideal S1024x1024 .f32) (w : Vec Ideal S1024x1024 .bf16) (r k : Fin 1024) : EReal :=
  ∑ l, x (ix2 r l) * w (ix2 k l)

/-- The rows of the keys and values. -/
def kvRow (x : Vec Ideal S256x2048 .bf16) (j : Fin 256) (c : Fin 2048) : EReal := x (ix2 j c)

/-- The kernel's tile of the queries' gradient. -/
theorem tile_query (c : Dev nD) (t : Fin cfg0.N) (r e : Fin 1024) : (outsAt0 m c t.val t.isLt).1 (ix2 r e)
    = dQuery (qRow (iblk m c 2 t) r) (oRow (iblk m c 0 t) (iblk m c 1 t) r) (kvRow (iblk m c 3 t))
      (headOf e) (laneOf e) := by
  by_cases h : t.val % 8 = 0
  on_goal 1 => rw [outsAt0_A m c t h]
  on_goal 2 => rw [outsAt0_B m c t h]
  all_goals
    frame_out
    canon_tiles x h
    all_goals
      simp only [ix2_0, ix2_1] at h0 h1
      first
        | refine block_query (h := 0) ?_ ?_ ?_ ?_ x r e (by omega) (by simp only [Fin.isValue]; omega)
        | refine block_query (h := 1) ?_ ?_ ?_ ?_ x r e (by omega) (by simp only [Fin.isValue]; omega)
        | refine block_query (h := 2) ?_ ?_ ?_ ?_ x r e (by omega) (by simp only [Fin.isValue]; omega)
        | refine block_query (h := 3) ?_ ?_ ?_ ?_ x r e (by omega) (by simp only [Fin.isValue]; omega)
      all_goals intro r k
      all_goals unfold_payloads
      all_goals pointwise [qRow, oRow, kvRow, col, keyCol, valCol]
      all_goals blk_ext

/-- The kernel's keys' and values' gradient after a tile: what it held and the tile's rows. -/
theorem tile_keyval (c : Dev nD) (t : Fin cfg0.N) (h : ¬ t.val % 8 = 0) (j : Fin 256) (e : Fin 2048) :
    (outsAt0 m c t.val t.isLt).2.2.1 (ix2 j e)
    = (outsAt0 m c (t.val - 1) (Nat.lt_of_le_of_lt (Nat.sub_le _ _) t.isLt)).2.2.1 (ix2 j e)
      + ∑ r, dKeyVal (qRow (iblk m c 2 t) r) (oRow (iblk m c 0 t) (iblk m c 1 t) r) (kvRow (iblk m c 3 t)) j e := by
  rw [outsAt0_B m c t h]
  frame_out
  generalize (outsAt0 m c (t.val - 1) (Nat.lt_of_le_of_lt (Nat.sub_le _ _) t.isLt)).2.2.1 = a
  canon_tiles x h
  all_goals simp only [ix2_0, ix2_1] at h0 h1
  on_goal 8 => refine block_val (h := 0) ?_ ?_ ?_ _ _ x j e h0 (by simp only [Fin.isValue]; omega) ?_
  on_goal 7 => refine block_key (h := 0) ?_ ?_ ?_ ?_ _ _ x j e h0 (by simp only [Fin.isValue]; omega) ?_
  on_goal 6 => refine block_val (h := 1) ?_ ?_ ?_ _ _ x j e h0 (by simp only [Fin.isValue]; omega) ?_
  on_goal 5 => refine block_key (h := 1) ?_ ?_ ?_ ?_ _ _ x j e h0 (by simp only [Fin.isValue]; omega) ?_
  on_goal 4 => refine block_val (h := 2) ?_ ?_ ?_ _ _ x j e h0 (by simp only [Fin.isValue]; omega) ?_
  on_goal 3 => refine block_key (h := 2) ?_ ?_ ?_ ?_ _ _ x j e h0 (by simp only [Fin.isValue]; omega) ?_
  on_goal 2 => refine block_val (h := 3) ?_ ?_ ?_ _ _ x j e h0 (by simp only [Fin.isValue]; omega) ?_
  on_goal 1 => refine block_key (h := 3) ?_ ?_ ?_ ?_ _ _ x j e h0 (by simp only [Fin.isValue]; omega) ?_
  all_goals
    try intro r k
    unfold_payloads
    pointwise [qRow, oRow, kvRow, col, keyCol, valCol]
    try blk_ext

/-! ## The norm's gradient on a tile -/

/-- The gradient of the normed rows. -/
theorem at_hidden (d w : Vec Ideal S1024x1024 .bf16) (r e : Fin 1024) :
    k0_pay41 (F := Ideal) d w (ix2 r e) = ∑ k, d (ix2 r k) * w (ix2 e k) := by
  pointwise [k0_pay41]

/-- The gradient of the rows before the norm. -/
theorem at_input (dx dh x : Vec Ideal S1024x1024 .f32) (g : Vec Ideal S1x1024 .f32) (r e : Fin 1024) :
    k0_pay4 (F := Ideal) dx dh x (k0_pay42 x) k0_pay43 g (ix2 r e)
      = dx (ix2 r e) + rmsGrad (fun k => x (ix2 r k)) (fun k => dh (ix2 r k) * g (ix2 0 k)) e := by
  unfold rmsGrad rinv
  unfold_payloads
  pointwise

/-- What the scale's gradient gains. -/
theorem at_scale (dh x : Vec Ideal S1024x1024 .f32) (a : Vec Ideal S1x1024 .f32) (e : Fin 1024) :
    k0_pay3 (F := Ideal) dh x (k0_pay42 x) k0_pay43 a (ix2 0 e)
      = a (ix2 0 e) + ∑ s : Fin 1024, dh (ix2 s e) * (x (ix2 s e) * rinv (fun k => x (ix2 s k))) := by
  unfold rinv
  unfold_payloads
  pointwise

/-- The rows of the projection's weight. -/
def wRow (x : Vec Ideal S1024x1024 .bf16) (i k : Fin 1024) : EReal := x (ix2 i k)

/-- The gradient of a tile's normed rows. -/
def hRow (c : Dev nD) (t : Fin cfg0.N) (r : Fin 1024) : Fin 1024 → EReal :=
  dHidden (qRow (iblk m c 2 t) r) (oRow (iblk m c 0 t) (iblk m c 1 t) r) (kvRow (iblk m c 3 t)) (wRow (iblk m c 6 t))

theorem hidden_of (c : Dev nD) (t : Fin cfg0.N) (d : Vec Ideal S1024x1024 .bf16)
    (hd : ∀ r e, d (ix2 r e) = (outsAt0 m c t.val t.isLt).1 (ix2 r e)) (r e : Fin 1024) :
    k0_pay41 (F := Ideal) d (iblk m c 6 t) (ix2 r e) = hRow m c t r e := by
  rw [at_hidden]
  simp only [hd, tile_query, hRow, dHidden, wRow]

/-- The rows of a tile of the norm's input. -/
def xRow (x : Vec Ideal S1024x1024 .f32) (r k : Fin 1024) : EReal := x (ix2 r k)

/-- The norm's scale. -/
def gRow (x : Vec Ideal S1x1024 .f32) (k : Fin 1024) : EReal := x (ix2 0 k)

/-- The kernel's tile of the input's gradient. -/
theorem tile_input (c : Dev nD) (t : Fin cfg0.N) (r e : Fin 1024) : (outsAt0 m c t.val t.isLt).2.1 (ix2 r e)
    = xRow (iblk m c 0 t) r e
      + rmsGrad (xRow (iblk m c 4 t) r) (fun k => hRow m c t r k * gRow (iblk m c 5 t) k) e := by
  have key : ∀ d : Vec Ideal S1024x1024 .bf16, (∀ r e, d (ix2 r e) = (outsAt0 m c t.val t.isLt).1 (ix2 r e)) →
      k0_pay4 (F := Ideal) (iblk m c 0 t) (k0_pay41 d (iblk m c 6 t)) (iblk m c 4 t) (k0_pay42 (iblk m c 4 t)) k0_pay43
        (iblk m c 5 t) (ix2 r e) = xRow (iblk m c 0 t) r e
      + rmsGrad (xRow (iblk m c 4 t) r) (fun k => hRow m c t r k * gRow (iblk m c 5 t) k) e := fun d hd => by
    rw [at_input]
    simp only [hidden_of m c t d hd]
    exact rfl
  by_cases h : t.val % 8 = 0
  on_goal 1 => rw [outsAt0_A m c t h]
  on_goal 2 => rw [outsAt0_B m c t h]
  all_goals
    frame_out
    refine key _ fun r e => ?_
  on_goal 1 => rw [outsAt0_A m c t h]
  on_goal 2 => rw [outsAt0_B m c t h]
  all_goals
    frame_out
    rw [View.readCov_eq_canon']
    exact congrArg (View.canon _) (idx_origin _ _)

/-- What the scale's gradient gains from a tile, given the tile of the queries' gradient. -/
theorem scale_of (c : Dev nD) (t : Fin cfg0.N) (d : Vec Ideal S1024x1024 .bf16) (a : Vec Ideal S1x1024 .f32)
    (hd : ∀ r e, d (ix2 r e) = (outsAt0 m c t.val t.isLt).1 (ix2 r e)) (e : Fin 1024) :
    k0_pay3 (F := Ideal) (k0_pay41 d (iblk m c 6 t)) (iblk m c 4 t) (k0_pay42 (iblk m c 4 t)) k0_pay43 a (ix2 0 e)
      = a (ix2 0 e) + ∑ s, hRow m c t s e * (xRow (iblk m c 4 t) s e * rinv (xRow (iblk m c 4 t) s)) := by
  rw [at_scale]
  simp only [hidden_of m c t d hd]
  exact rfl

/-- The kernel's scale gradient after a tile: what it held and the tile's rows. -/
theorem tile_scale (c : Dev nD) (t : Fin cfg0.N) (h : ¬ t.val % 8 = 0) (e : Fin 1024) :
    (outsAt0 m c t.val t.isLt).2.2.2 (ix2 0 e)
    = (outsAt0 m c (t.val - 1) (Nat.lt_of_le_of_lt (Nat.sub_le _ _) t.isLt)).2.2.2 (ix2 0 e)
      + ∑ s, hRow m c t s e * (xRow (iblk m c 4 t) s e * rinv (xRow (iblk m c 4 t) s)) := by
  rw [outsAt0_B m c t h]
  frame_out
  refine scale_of m c t _ _ (fun r e => ?_) e
  rw [outsAt0_B m c t h]
  frame_out
  rw [View.readCov_eq_canon']
  exact congrArg (View.canon _) (idx_origin _ _)

/-- The first tile starts the scale's gradient from zero. -/
theorem tile_scale_first (c : Dev nD) (t : Fin cfg0.N) (h : t.val % 8 = 0) (e : Fin 1024) :
    (outsAt0 m c t.val t.isLt).2.2.2 (ix2 0 e)
    = 0 + ∑ s, hRow m c t s e * (xRow (iblk m c 4 t) s e * rinv (xRow (iblk m c 4 t) s)) := by
  rw [outsAt0_A m c t h]
  frame_out
  rw [← show k0_pay6 (F := Ideal) (ix2 0 e) = 0 by pointwise [k0_pay6]]
  refine scale_of m c t _ _ (fun r e => ?_) e
  rw [outsAt0_A m c t h]
  frame_out
  rw [View.readCov_eq_canon']
  exact congrArg (View.canon _) (idx_origin _ _)

/-- The first tile starts the keys' and values' gradient from zero. -/
theorem tile_keyval_first (c : Dev nD) (t : Fin cfg0.N) (h : t.val % 8 = 0) (j : Fin 256) (e : Fin 2048) :
    (outsAt0 m c t.val t.isLt).2.2.1 (ix2 j e)
    = 0 + ∑ r, dKeyVal (qRow (iblk m c 2 t) r) (oRow (iblk m c 0 t) (iblk m c 1 t) r) (kvRow (iblk m c 3 t)) j e := by
  rw [outsAt0_A m c t h]
  frame_out
  simp (disch := first | decide | (intro a; fin_cases a <;> rfl)) only [↓View.readCov_skip, ↓View.readCov_fill]
  refine (canon_append_of_cover [_, _, _, _, _, _, _, _] [_] _ (View.cover_of_tiled_head _ _ _ (by rfl) _)).trans ?_
  canon_tiles x h
  all_goals simp only [ix2_0, ix2_1] at h0 h1
  on_goal 8 => refine block_val (h := 0) ?_ ?_ ?_ _ _ x j e h0 (by simp only [Fin.isValue]; omega) ?_
  on_goal 7 => refine block_key (h := 0) ?_ ?_ ?_ ?_ _ _ x j e h0 (by simp only [Fin.isValue]; omega) ?_
  on_goal 6 => refine block_val (h := 1) ?_ ?_ ?_ _ _ x j e h0 (by simp only [Fin.isValue]; omega) ?_
  on_goal 5 => refine block_key (h := 1) ?_ ?_ ?_ ?_ _ _ x j e h0 (by simp only [Fin.isValue]; omega) ?_
  on_goal 4 => refine block_val (h := 2) ?_ ?_ ?_ _ _ x j e h0 (by simp only [Fin.isValue]; omega) ?_
  on_goal 3 => refine block_key (h := 2) ?_ ?_ ?_ ?_ _ _ x j e h0 (by simp only [Fin.isValue]; omega) ?_
  on_goal 2 => refine block_val (h := 3) ?_ ?_ ?_ _ _ x j e h0 (by simp only [Fin.isValue]; omega) ?_
  on_goal 1 => refine block_key (h := 3) ?_ ?_ ?_ ?_ _ _ x j e h0 (by simp only [Fin.isValue]; omega) ?_
  all_goals
    try intro r k
    unfold_payloads
    pointwise [qRow, oRow, kvRow, col, keyCol, valCol]
    try blk_ext
end Cert.AttnProof
-- ==== Proof.AttnRef.lean ====
module

public import proofs.«01_k».proof.Proof.AttnRow
public import proofs.«01_k».proof.Proof.Gen.AttnGradIdeal.Read
public import Idealize.ShloMosaic.Lib.Pipeline.ValueKit
public import Idealize.ShloMosaic.Lib.Pointwise

@[expose] public section

set_option maxRecDepth 16384

noncomputable section

namespace Cert.AttnProof
open Cert.AttnGradIdeal Cert.AttnGradIdeal.Read Cert.RowGrad Cert.AttnRow
open Idealize.ShloMosaic Idealize.ShloMosaic.TcCoe Idealize.SL.Sem

variable (x0 : Vec Ideal S8192x1024 .f32) (x1 : Vec Ideal S1x1024 .f32) (x2 : Vec Ideal S1024x1024 .f32)
  (x3 : Vec Ideal S256x2048 .f32) (x4 : Vec Ideal S1024x1024 .f32) (x5 : Vec Ideal S8192x1024 .f32)

/-- The largest entry along the last axis. -/
theorem host_max {n0 n1 n2 : ℕ} (v : (⟨3, ![n0, n1, n2]⟩ : Shape).Idx → EReal)
    (hr : (⟨3, ![n0, n1, n2]⟩ : Shape).ReducesTo [2] ⟨2, ![n0, n1]⟩) (hu : 0 < (⟨0, ![]⟩ : Shape).numel)
    (c : (⟨0, ![]⟩ : Shape).Idx → EReal) (a : Fin n0) (b : Fin n1) :
    Host.reduce (FloatOps.maximumf (F := Ideal) (φ := .f32)) v c hr hu (ix2 a b)
      = Finset.univ.fold max (c (Shape.Idx.first hu)) fun k => v (ix3 a b k) := by
  simp only [pointwise]

/-- The rows of the queries. -/
def refQ (s : Fin 8192) (k : Fin 1024) : EReal := val_main_v15 (F := Ideal) x0 x1 x2 (ix2 s k)

/-- The rows of the keys and values. -/
def refKV (j : Fin 256) (c : Fin 2048) : EReal := x3 (ix2 j c)

/-- The rows of the gradient at the attention's output. -/
def refO (s : Fin 8192) (k : Fin 1024) : EReal := ∑ l, x5 (ix2 s l) * x4 (ix2 k l)

theorem ref_score (h : Fin 4) (s : Fin 8192) (j : Fin 256) :
    val_main_v23 (F := Ideal) x0 x1 x2 x3 (ix3 h s j) = score (refQ x0 x1 x2 s) (refKV x3) h j := by
  pointwise [val_main_v23, val_main_v22, val_main_v21, val_main_v20, val_main_v19, val_main_v18, val_main_v17,
    val_main_v16, val_main_cst_3, score, scale, refQ, refKV, col, keyCol]

theorem ref_fold (h : Fin 4) (s : Fin 8192) : val_main_v24 (F := Ideal) x0 x1 x2 x3 (ix2 h s)
    = rowMax (n := 256) fun k => (val_main_v23 (F := Ideal) x0 x1 x2 x3 (ix3 h s k) : EReal) :=
  host_max _ _ _ _ h s

theorem ref_max (h : Fin 4) (s : Fin 8192) :
    val_main_v24 (F := Ideal) x0 x1 x2 x3 (ix2 h s) = rowMax (score (refQ x0 x1 x2 s) (refKV x3) h) :=
  (ref_fold x0 x1 x2 x3 h s).trans (congrArg rowMax (funext fun k => ref_score x0 x1 x2 x3 h s k))

/-- The larger of the least element and a value. -/
theorem max_bot_bits (y : EReal) : FloatOps.maximumf (F := Ideal) (φ := .f32) (Ideal.ofBits .f32 0xFF800000#32) y = y := by
  rw [const_bot]
  exact max_eq_right bot_le

theorem ref_shift (h : Fin 4) (s : Fin 8192) (j : Fin 256) :
    val_main_v42 (F := Ideal) x0 x1 x2 x3 (ix3 h s j) = rowMax (score (refQ x0 x1 x2 s) (refKV x3) h) := by
  have e : idx_main_v41 (idx_main_v42 (ix3 h s j)) = ix2 h s := by
    funext a
    fin_cases a <;> rfl
  rw [← ref_max, val_main_v42_apply, val_main_v41_apply, e, val_main_v31_apply, val_main_v30_apply, val_main_cst_6_apply]
  exact max_bot_bits _

theorem ref_exp (h : Fin 4) (s : Fin 8192) (j : Fin 256) :
    val_main_v44 (F := Ideal) x0 x1 x2 x3 (ix3 h s j) = rowExp (score (refQ x0 x1 x2 s) (refKV x3) h) j := by
  rw [val_main_v44_apply, val_main_v43_apply, ref_score, ref_shift]
  rfl

theorem ref_out (s : Fin 8192) (k : Fin 1024) : val_main_v56 (F := Ideal) x4 x5 (ix2 s k) = refO x4 x5 s k := by
  pointwise [val_main_v56, refO]

theorem ref_weight (h : Fin 4) (s : Fin 8192) (j : Fin 256) :
    val_main_v59 (F := Ideal) x3 x4 x5 (ix3 h s j) = dWeight (refO x4 x5 s) (refKV x3) h j := by
  pointwise [val_main_v59, val_main_v58, val_main_v57, val_main_v20, val_main_v17]
  simp only [ref_out]
  rfl

theorem ref_quot (h : Fin 4) (s : Fin 8192) (j : Fin 256) :
    val_main_v75 (F := Ideal) x0 x1 x2 x3 x4 x5 (ix3 h s j)
      = quotGrad (score (refQ x0 x1 x2 s) (refKV x3) h) (dWeight (refO x4 x5 s) (refKV x3) h) j * scale := by
  pointwise [val_main_v75, val_main_v74, val_main_v73, val_main_v72, val_main_v71, val_main_v70, val_main_v69,
    val_main_v68, val_main_v67, val_main_v66, val_main_v65, val_main_v64, val_main_v63, val_main_v62, val_main_v51,
    val_main_v50, val_main_v49, val_main_v46, val_main_v45, val_main_cst_12, val_main_cst_13, val_main_cst_14,
    val_main_cst_15, val_main_cst_16]
  simp only [ref_exp, ref_weight]
  rfl

/-! ## The results, where the scores are real -/

variable (hs : ∀ s h k, ∃ r : ℝ, score (refQ x0 x1 x2 s) (refKV x3) h k = r)
include hs

theorem ref_dscore (h : Fin 4) (s : Fin 8192) (j : Fin 256) :
    val_main_v75 (F := Ideal) x0 x1 x2 x3 x4 x5 (ix3 h s j) = dScore (refQ x0 x1 x2 s) (refO x4 x5 s) (refKV x3) h j := by
  rw [ref_quot, dScore_quot _ _ _ _ _ (hs s h)]

/-- The reference's gradient of the queries. -/
theorem ref_query (s : Fin 8192) (c : Fin 1024) : val_main_v82 (F := Ideal) x0 x1 x2 x3 x4 x5 (ix2 s c)
    = dQuery (refQ x0 x1 x2 s) (refO x4 x5 s) (refKV x3) (headOf c) (laneOf c) := by
  pointwise [val_main_v82, val_main_v79, val_main_v78, val_main_v19, val_main_v16]
  simp only [ref_dscore x0 x1 x2 x3 x4 x5 hs, ref_score]
  refine Finset.sum_congr rfl fun x _ => congrArg (_ * ·) (congrArg x3 (congrArg (ix2 x) (Fin.ext ?_)))
  simp only [keyCol, headOf, laneOf]
  omega

/-- The reference's gradient of the keys and values. -/
theorem ref_keyval (j : Fin 256) (c : Fin 2048) : val_main_v83 (F := Ideal) x0 x1 x2 x3 x4 x5 (ix2 j c)
    = ∑ s, dKeyVal (refQ x0 x1 x2 s) (refO x4 x5 s) (refKV x3) j c := by
  pointwise [val_main_v83, val_main_v81, val_main_v80, val_main_v77, val_main_v76, val_main_v61, val_main_v60,
    val_main_v58, val_main_v57, val_main_v48, val_main_v47, val_main_v46, val_main_v45, val_main_cst_12, val_main_v18]
  simp only [ref_dscore x0 x1 x2 x3 x4 x5 hs, ref_out, ref_exp]
  unfold dKeyVal
  by_cases h : c.val < 1024
  · simp only [dif_pos h]
    refine Finset.sum_congr rfl fun x _ => congrArg (_ * ·) (congrArg (fun k => refQ x0 x1 x2 x k) (Fin.ext ?_))
    show c.val / 256 * 256 + c.val % 256 = c.val
    omega
  · simp only [dif_neg h]
    refine Finset.sum_congr rfl fun x _ => (mul_comm (G := EReal) _ _).trans
      (congrArg (_ * ·) (congrArg (fun k => refO x4 x5 x k) (Fin.ext ?_)))
    show (c.val - 1024) / 256 * 256 + (c.val - 1024) % 256 = c.val - 1024
    omega

/-- The reference's gradient at the norm's output. -/
theorem ref_hidden (s : Fin 8192) (c : Fin 1024) : val_main_v84 (F := Ideal) x0 x1 x2 x3 x4 x5 (ix2 s c)
    = dHidden (refQ x0 x1 x2 s) (refO x4 x5 s) (refKV x3) (fun c k => x2 (ix2 c k)) c := by
  pointwise [val_main_v84]
  simp only [ref_query x0 x1 x2 x3 x4 x5 hs]
  rfl

theorem ref_scale (k : Fin 1024) : val_main_v87 (F := Ideal) x0 x1 x2 x3 x4 x5 (ix2 0 k)
    = ∑ s, dHidden (refQ x0 x1 x2 s) (refO x4 x5 s) (refKV x3) (fun c k => x2 (ix2 c k)) k
        * (x0 (ix2 s k) * rinv fun l => x0 (ix2 s l)) := by
  pointwise [val_main_v87, val_main_v86, val_main_v85, val_main_v12, val_main_v11, val_main_v7, val_main_v6, val_main_v5,
    val_main_v4, val_main_v3, val_main_v2, val_main_v1, val_main_v0, val_main_cst, val_main_cst_0, val_main_cst_1, val_main_cst_17]
  simp only [ref_hidden x0 x1 x2 x3 x4 x5 hs]
  exact Finset.sum_congr rfl fun _ _ => mul_comm (G := EReal) _ _

theorem ref_input (hx : ∀ s k, ∃ r : ℝ, x0 (ix2 s k) = r) (s : Fin 8192) (k : Fin 1024) :
    val_main_v104 (F := Ideal) x0 x1 x2 x3 x4 x5 (ix2 s k)
    = x5 (ix2 s k) + rmsGrad (fun l => x0 (ix2 s l))
        (fun l => dHidden (refQ x0 x1 x2 s) (refO x4 x5 s) (refKV x3) (fun c k => x2 (ix2 c k)) l * x1 (ix2 0 l)) k := by
  rw [rms_row _ _ (hx s)]
  pointwise [val_main_v104, val_main_v103, val_main_v102, val_main_v101, val_main_v100, val_main_v99, val_main_v98,
    val_main_v97, val_main_v96, val_main_v95, val_main_v94, val_main_v93, val_main_v92, val_main_v91, val_main_v90,
    val_main_v89, val_main_v88, val_main_v10, val_main_v9, val_main_v8, val_main_v7, val_main_v6, val_main_v5,
    val_main_v4, val_main_v3, val_main_v2, val_main_v1, val_main_v0, val_main_cst, val_main_cst_0, val_main_cst_1,
    val_main_cst_2, val_main_cst_18, val_main_cst_19, val_main_cst_20]
  simp only [ref_hidden x0 x1 x2 x3 x4 x5 hs]
  rfl

end Cert.AttnProof
-- ==== Proof.AttnRows.lean ====
/-
  What the cross attention's backward call finds in its windows: the rows of a tile are rows of the arguments.
-/
module

public import proofs.«01_k».proof.Proof.AttnTile
public import proofs.«01_k».proof.Proof.AttnRef
public import Idealize.ShloMosaic.Lib.StableHlo.ReadAt

@[expose] public section

set_option maxRecDepth 16384

noncomputable section

namespace Cert.AttnProof
open Cert.AttnBwdIdeal Cert.AttnBwdIdeal.Gen Cert.AttnGradIdeal.Read Cert.RowGrad Cert.AttnRow
open Idealize.ShloMosaic Idealize.ShloMosaic.TcCoe Idealize.SL.Sem

variable (m : (ℓ : Loc nD τ sig) → Buf (Elt Ideal) ℓ) (c : Dev nD)

/-! ## The arguments -/

/-- The input, the norm's scale, the query projection, the keys and values, the output projection, the gradient. -/
abbrev argX : Vec Ideal S8192x1024 .f32 := m (c.tc.loc main_arg0)
abbrev argG : Vec Ideal S1x1024 .f32 := m (c.tc.loc main_arg1)
abbrev argWq : Vec Ideal S1024x1024 .f32 := m (c.tc.loc main_arg2)
abbrev argKV : Vec Ideal S256x2048 .f32 := m (c.tc.loc main_arg3)
abbrev argWo : Vec Ideal S1024x1024 .f32 := m (c.tc.loc main_arg4)
abbrev argD : Vec Ideal S8192x1024 .f32 := m (c.tc.loc main_arg5)

/-- The queries the host hands the kernel are those of the reference's forward lines. -/
theorem entry_query (s : Fin 8192) (k : Fin 1024) : (V m c main_v15 : Vec Ideal S8192x1024 .bf16) (ix2 s k)
    = refQ (argX m c) (argG m c) (argWq m c) s k := by
  unfold V refQ
  after_results_simp
  rfl

/-- Where the windows of a tile start. -/
theorem origin : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![0, 0] ∧ win0_6.index t = ![0, 0]
    ∧ win0_7.index t = ![t.val, 0] ∧ win0_8.index t = ![t.val, 0] ∧ win0_9.index t = ![0, 0] ∧ win0_10.index t = ![0, 0] :=
  (by decide +kernel : ∀ t : Fin grid0.N, _)

theorem tiles (t : Fin cfg0.N) : t.val < 8 := t.isLt

/-- Row `r` of tile `t`. -/
def rowAt (t : Fin cfg0.N) (r : Fin 1024) : Fin 8192 := ⟨t.val * 1024 + r.val, by have := tiles t; omega⟩

theorem row_query (t : Fin cfg0.N) (r : Fin 1024) :
    qRow (iblk m c 2 t) r = refQ (argX m c) (argG m c) (argWq m c) (rowAt t r) := by
  funext k
  rw [← entry_query]
  unfold qRow rowAt
  blk_ext [iblk, origin t]

theorem row_grad (t : Fin cfg0.N) (r : Fin 1024) : xRow (iblk m c 0 t) r = fun l => argD m c (ix2 (rowAt t r) l) := by
  funext k
  unfold xRow rowAt
  blk_ext [iblk, V, origin t]

theorem row_input (t : Fin cfg0.N) (r : Fin 1024) : xRow (iblk m c 4 t) r = fun l => argX m c (ix2 (rowAt t r) l) := by
  funext k
  unfold xRow rowAt
  blk_ext [iblk, V, origin t]

theorem row_scale (t : Fin cfg0.N) : gRow (iblk m c 5 t) = fun l => argG m c (ix2 0 l) := by
  funext k
  unfold gRow
  blk_ext [iblk, V, origin t]

theorem entry_keyval : V m c main_v17 = (argKV m c : S256x2048.Idx → EReal) := by
  unfold V
  after_results_simp
  rfl

theorem entry_wq : V m c main_v18 = (argWq m c : S1024x1024.Idx → EReal) := by
  unfold V
  after_results_simp
  rfl

theorem entry_wo : V m c main_v16 = (argWo m c : S1024x1024.Idx → EReal) := by
  unfold V
  after_results_simp
  rfl

theorem row_keyval (t : Fin cfg0.N) : kvRow (iblk m c 3 t) = refKV (argKV m c) := by
  funext j k
  unfold kvRow refKV
  rw [← entry_keyval]
  blk_ext [iblk, origin t]

theorem row_wq (t : Fin cfg0.N) : wRow (iblk m c 6 t) = fun i k => argWq m c (ix2 i k) := by
  funext j k
  unfold wRow
  rw [← entry_wq]
  blk_ext [iblk, origin t]

theorem window_wo (t : Fin cfg0.N) : iblk m c 1 t = V m c main_v16 := by blk_ext! [iblk, origin t]

theorem row_out (t : Fin cfg0.N) (r : Fin 1024) :
    oRow (iblk m c 0 t) (iblk m c 1 t) r = refO (argWo m c) (argD m c) (rowAt t r) := by
  funext k
  rw [window_wo, entry_wo]
  exact Finset.sum_congr rfl fun l _ => congrArg (· * _) (congrFun (row_grad m c t r) l)

theorem row_hidden (t : Fin cfg0.N) (r : Fin 1024) : hRow m c t r
    = dHidden (refQ (argX m c) (argG m c) (argWq m c) (rowAt t r)) (refO (argWo m c) (argD m c) (rowAt t r))
        (refKV (argKV m c)) (fun i k => argWq m c (ix2 i k)) := by
  unfold hRow
  rw [row_query, row_out, row_keyval, row_wq]

end Cert.AttnProof
-- ==== Proof.AttnReal.lean ====
/-
  Finite inputs have real scores.
-/
module

public import proofs.«01_k».proof.Proof.AttnRef
public import Idealize.ShloMosaic.Lib.ReduceAll

@[expose] public section

noncomputable section

namespace Cert.RealOf
open Cert.RowGrad Idealize.ShloMosaic

/-- An extended real that is a real. -/
def Is (x : EReal) : Prop := ∃ r : ℝ, x = r

theorem mul {x y : EReal} : Is x → Is y → Is (x * y) := by
  rintro ⟨a, rfl⟩ ⟨b, rfl⟩
  exact ⟨a * b, (EReal.coe_mul a b).symm⟩

theorem sum {n : ℕ} {f : Fin n → EReal} (h : ∀ k, Is (f k)) : Is (∑ k, f k) := by
  choose g hg using h
  exact ⟨∑ k, g k, by simp only [hg, sum_real]⟩

/-- The reciprocal root of the mean square of a real row is real. -/
theorem rinv_row {x : Fin 1024 → EReal} (h : ∀ k, Is (x k)) : Is (rinv x) := by
  choose y hy using h
  obtain rfl : x = fun k => (y k : EReal) := funext hy
  obtain ⟨e, he, hb⟩ := const_eps
  have hp : 0 < (∑ k, y k * y k) * (1 / 1024) + e := by
    have : 0 ≤ ∑ k, y k * y k := Finset.sum_nonneg fun k _ => mul_self_nonneg _
    positivity
  refine ⟨(Real.sqrt ((∑ k, y k * y k) * (1 / 1024) + e))⁻¹, ?_⟩
  unfold rinv
  rw [const_1024, hb, Ideal.div_coe (by norm_num)]
  simp only [← EReal.coe_mul, sum_real, ← EReal.coe_add]
  rw [Ideal.rsqrt_coe, if_neg (not_lt.2 hp.le), if_neg hp.ne']

/-- An entry whose absolute value compares below infinity is real. -/
theorem below {x : EReal} (h : FloatOps.cmpf (F := Ideal) (φ := .f32) .olt (max x (-x)) (Ideal.ofBits .f32 0x7F800000#32) = 1#1) :
    Is x := by
  rw [const_top] at h
  induction x with
  | coe r => exact ⟨r, rfl⟩
  | bot => simp [FloatOps.cmpf, Ideal.cmp] at h
  | top => simp [FloatOps.cmpf, Ideal.cmp] at h

/-- An array whose absolute values all compare below infinity has real entries. -/
theorem entries {s t : Shape} {axes : List (Fin s.rank)} [Subsingleton t.Idx] (x : FVec Ideal s .f32)
    (hb : (⟨0, ![]⟩ : Shape).BroadcastsInDim s ![]) (v : (⟨0, ![]⟩ : Shape).Idx → BitVec 1) (h : s.ReducesTo axes t)
    (hu : 0 < (⟨0, ![]⟩ : Shape).numel) (j : t.Idx)
    (e : Host.reduce IntOp.andi (cmpf .olt (Host.absf x) (broadcastInDim s ![] hb (constant ⟨0, ![]⟩ .f32 0x7F800000#32)))
      v h hu j = 1#1) (i : s.Idx) : Is (x i) :=
  below (Host.reduce_andi_all _ _ h hu j e i)

end Cert.RealOf

namespace Cert.AttnProof
open Cert.AttnGradIdeal Cert.AttnGradIdeal.Read Cert.RowGrad Cert.AttnRow
open Idealize.ShloMosaic Idealize.ShloMosaic.TcCoe Idealize.SL.Sem

variable (x0 : Vec Ideal S8192x1024 .f32) (x1 : Vec Ideal S1x1024 .f32) (x2 : Vec Ideal S1024x1024 .f32)
  (x3 : Vec Ideal S256x2048 .f32)

theorem query_sum (s : Fin 8192) (k : Fin 1024) : refQ x0 x1 x2 s k
    = ∑ l, x0 (ix2 s l) * (rinv fun l => x0 (ix2 s l)) * x1 (ix2 0 l) * x2 (ix2 l k) := by
  unfold refQ
  pointwise [val_main_v15, val_main_v14, val_main_v13, val_main_v12, val_main_v11, val_main_v7, val_main_v6, val_main_v5,
    val_main_v4, val_main_v3, val_main_v2, val_main_v1, val_main_v0, val_main_cst, val_main_cst_0, val_main_cst_1]
  rfl

/-- The scores of real inputs are real. -/
theorem real_score (h0 : ∀ s k, RealOf.Is (x0 (ix2 s k))) (h1 : ∀ k, RealOf.Is (x1 (ix2 0 k)))
    (h2 : ∀ i k, RealOf.Is (x2 (ix2 i k))) (h3 : ∀ i k, RealOf.Is (x3 (ix2 i k))) (s : Fin 8192) (h : Fin 4) (k : Fin 256) :
    RealOf.Is (score (refQ x0 x1 x2 s) (refKV x3) h k) := by
  refine RealOf.mul (RealOf.sum fun l => RealOf.mul ?_ (h3 _ _)) ⟨1 / 16, ?_⟩
  · rw [query_sum]
    exact RealOf.sum fun l => RealOf.mul (RealOf.mul (RealOf.mul (h0 _ _) (RealOf.rinv_row (h0 s))) (h1 _)) (h2 _ _)
  · simp [scale, Ideal.ofBits, Ideal.ieee, Nat.shiftRight_eq_div_pow, BitVec.extractLsb'] <;> norm_num

end Cert.AttnProof
-- ==== Proof.AttnValue.lean ====
/-
  The cross attention's backward call against the derivative of its forward lines.

  The kernel goes over the rows in eight tiles; it returns the gradients of the queries and of the input tile by tile,
  and adds up those of the keys and values and of the norm's scale. The reference differentiates
  `x + attention(rms_norm(x, g) @ w_q, kv) @ w_o`.
-/
module

public import proofs.«01_k».proof.Proof.AttnRows
public import proofs.«01_k».proof.Proof.AttnReal
public import proofs.«01_k».proof.Proof.Gen.AttnBwdIdeal.Value
public import proofs.«01_k».proof.Proof.Gen.AttnGradIdeal.Run
public import proofs.«01_k».proof.Defs
public import Idealize.ShloMosaic.Lib.Claim

@[expose] public section

set_option maxRecDepth 16384

noncomputable section

namespace Cert.AttnProof
open Cert.AttnBwdIdeal Cert.AttnBwdIdeal.Gen Cert.AttnGradIdeal.Read Cert.RowGrad Cert.AttnRow
open Idealize.ShloMosaic Idealize.ShloMosaic.TcCoe Idealize.SL.Sem

variable (m : (ℓ : Loc nD τ sig) → Buf (Elt Ideal) ℓ) (c : Dev nD)

/-- The kernel's arguments are finite. -/
structure Fin4 : Prop where
  x : ∀ s k, RealOf.Is (argX m c (ix2 s k))
  g : ∀ k, RealOf.Is (argG m c (ix2 0 k))
  wq : ∀ i k, RealOf.Is (argWq m c (ix2 i k))
  kv : ∀ i k, RealOf.Is (argKV m c (ix2 i k))

theorem Fin4.score {m : (ℓ : Loc nD τ sig) → Buf (Elt Ideal) ℓ} {c : Dev nD} (h : Fin4 m c) (s : Fin 8192) (i : Fin 4)
    (k : Fin 256) : RealOf.Is (AttnRow.score (refQ (argX m c) (argG m c) (argWq m c) s) (refKV (argKV m c)) i k) :=
  real_score (argX m c) (argG m c) (argWq m c) (argKV m c) h.x h.g h.wq h.kv s i k

/-- The kernel ends with the reference's gradient of the queries. -/
theorem final_query (h : Fin4 m c) : (dats m 0 c).arrAt 7 cfg0.N
    = val_main_v105 (F := Ideal) (argX m c) (argG m c) (argWq m c) (argKV m c) (argWo m c) (argD m c) := by
  refine (dats m 0 c).arrAt_eq_of_covers 7 _ (by decide +kernel) fun t hf y => ?_
  blk_simp
  rw [after0_7]
  obtain ⟨r, e, rfl⟩ : ∃ (r e : Fin 1024), y = ix2 r e := ⟨y 0, y 1, by blk_ext⟩
  have hi : (win0_7.blk t).view.emb (ix2 r e) = ix2 (rowAt t r) e := by blk_ext [rowAt, origin t]
  rw [hi, tile_query, row_query, row_out, row_keyval]
  exact (ref_query _ _ _ _ _ _ h.score (rowAt t r) e).symm

/-- The kernel ends with the reference's gradient of the input. -/
theorem final_input (h : Fin4 m c) : (dats m 0 c).arrAt 8 cfg0.N
    = val_main_v104 (F := Ideal) (argX m c) (argG m c) (argWq m c) (argKV m c) (argWo m c) (argD m c) := by
  refine (dats m 0 c).arrAt_eq_of_covers 8 _ (by decide +kernel) fun t hf y => ?_
  blk_simp
  rw [after0_8]
  obtain ⟨r, e, rfl⟩ : ∃ (r e : Fin 1024), y = ix2 r e := ⟨y 0, y 1, by blk_ext⟩
  have hi : (win0_8.blk t).view.emb (ix2 r e) = ix2 (rowAt t r) e := by blk_ext [rowAt, origin t]
  rw [hi, tile_input, row_hidden, row_grad, row_input, row_scale]
  exact (ref_input _ _ _ _ _ _ h.score h.x (rowAt t r) e).symm

/-- A sum over the tiles' rows is a sum over all rows. -/
theorem sum_tiles (f : Fin 8192 → EReal) : ∑ t : Fin cfg0.N, ∑ r, f (rowAt t r) = ∑ s, f s :=
  Fin.sum_mul_add_fin 8 1024 f

/-- The kernel ends with the reference's gradient of the keys and values. -/
theorem final_keyval (h : Fin4 m c) : (dats m 0 c).arrAt 9 cfg0.N
    = val_main_v83 (F := Ideal) (argX m c) (argG m c) (argWq m c) (argKV m c) (argWo m c) (argD m c) := by
  refine (dats m 0 c).arrAt_eq_of_after_last 9 t0_7 (by decide +kernel) _ fun j => ?_
  blk_simp
  rw [after0_9]
  obtain ⟨i, e, rfl⟩ : ∃ (i : Fin 256) (e : Fin 2048), j = ix2 i e := ⟨j 0, j 1, by blk_ext⟩
  rw [ref_keyval _ _ _ _ _ _ h.score]
  refine (Pipeline.eq_sum_fin_of_reset_step_apply_last (ι := Fin 256 × Fin 2048)
    (fun n hn p => (outsAt0 m c n hn).2.2.1 (ix2 p.1 p.2)) 8 (fun _ => 0)
    (fun t p => ∑ r, dKeyVal (qRow (iblk m c 2 t) r) (oRow (iblk m c 0 t) (iblk m c 1 t) r) (kvRow (iblk m c 3 t)) p.1 p.2)
    (fun t ht p => tile_keyval_first m c t ht p.1 p.2) (fun t ht p => tile_keyval m c t ht p.1 p.2)
    (le_of_eq N_0) t0_7 rfl (i, e)).trans ?_
  rw [zero_add]
  simp only [row_query, row_out, row_keyval]
  exact sum_tiles fun s => dKeyVal (refQ (argX m c) (argG m c) (argWq m c) s) (refO (argWo m c) (argD m c) s)
    (refKV (argKV m c)) i e

/-- The kernel ends with the reference's gradient of the norm's scale. -/
theorem final_scale (h : Fin4 m c) : (dats m 0 c).arrAt 10 cfg0.N
    = val_main_v87 (F := Ideal) (argX m c) (argG m c) (argWq m c) (argKV m c) (argWo m c) (argD m c) := by
  refine (dats m 0 c).arrAt_eq_of_after_last 10 t0_7 (by decide +kernel) _ fun j => ?_
  blk_simp
  rw [after0_10]
  obtain ⟨e, rfl⟩ : ∃ (e : Fin 1024), j = ix2 0 e := ⟨j 1, by blk_ext⟩
  rw [ref_scale _ _ _ _ _ _ h.score]
  refine (Pipeline.eq_sum_fin_of_reset_step_apply_last (ι := Fin 1024)
    (fun n hn p => (outsAt0 m c n hn).2.2.2 (ix2 0 p)) 8 (fun _ => 0)
    (fun t p => ∑ s, hRow m c t s p * (xRow (iblk m c 4 t) s p * rinv (xRow (iblk m c 4 t) s)))
    (fun t ht p => tile_scale_first m c t ht p) (fun t ht p => tile_scale m c t ht p)
    (le_of_eq N_0) t0_7 rfl e).trans ?_
  rw [zero_add]
  simp only [row_hidden, row_input]
  exact sum_tiles fun s => dHidden (refQ (argX m c) (argG m c) (argWq m c) s) (refO (argWo m c) (argD m c) s)
    (refKV (argKV m c)) (fun i k => argWq m c (ix2 i k)) e * (argX m c (ix2 s e) * rinv fun l => argX m c (ix2 s l))

/-- The side conditions of the precondition. -/
instance preFacts : Cert.Pre_finite_attn.Facts where
  bcast_S_S8192x1024 := by decide
  reducesTo_S8192x1024_S_d0_1 := by decide
  h_S_ := by decide
  bcast_S_S1x1024 := by decide
  reducesTo_S1x1024_S_d0_1 := by decide
  bcast_S_S1024x1024 := by decide
  reducesTo_S1024x1024_S_d0_1 := by decide
  bcast_S_S256x2048 := by decide
  reducesTo_S256x2048_S_d0_1 := by decide

/-- What the precondition says: the first four arguments are finite. -/
theorem finite_of (h : Cert.Pre_AttnBwdIdeal_finite_attn m) : Fin4 m c := by
  have h := congrFun (h c) (fun a => a.elim0)
  unfold Cert.Pre_finite_attn.fn Cert.Pre_finite_attn.fn_part1 at h
  simp only [andi, IntOp.andi_eq_one] at h
  haveI : Subsingleton (Cert.Pre_finite_attn.S_).Idx := ⟨fun a b => funext fun k => k.elim0⟩
  exact ⟨fun s k => RealOf.entries _ _ _ _ _ _ h.1.1.1 _, fun k => RealOf.entries _ _ _ _ _ _ h.1.1.2 _,
    fun i k => RealOf.entries _ _ _ _ _ _ h.1.2 _, fun i k => RealOf.entries _ _ _ _ _ _ h.2 _⟩

/-- The two programs end with the same gradients. -/
theorem algebraic : Cert.algebraic_AttnBwdIdeal_AttnGradIdeal_pre_finite_attn := by
  intro m g m' g' hpre hagree
  refine ⟨fun c => val_main_v105 (F := Ideal) (argX m c) (argG m c) (argWq m c) (argKV m c) (argWo m c) (argD m c),
    fun c => val_main_v104 (F := Ideal) (argX m c) (argG m c) (argWq m c) (argKV m c) (argWo m c) (argD m c),
    fun c => val_main_v83 (F := Ideal) (argX m c) (argG m c) (argWq m c) (argKV m c) (argWo m c) (argD m c),
    fun c => val_main_v87 (F := Ideal) (argX m c) (argG m c) (argWq m c) (argKV m c) (argWo m c) (argD m c),
    (θ_run _ _ _).mono (fun r h c => ⟨(h c).1.trans (final_query m c (finite_of m c hpre)),
        (h c).2.1.trans (final_input m c (finite_of m c hpre)), (h c).2.2.1.trans (final_keyval m c (finite_of m c hpre)),
        (h c).2.2.2.1.trans (final_scale m c (finite_of m c hpre)), (h c).2.2.2.2⟩)
      (Cert.AttnBwdIdeal.Value.run_blocks m g),
    (θ_run _ _ _).mono (fun r h c => ?_) (Cert.AttnGradIdeal.Value.run m' g')⟩
  obtain ⟨a0, a1, a2, a3, a4, a5⟩ := hagree c
  refine ⟨(h c).1.trans ?_, (h c).2.1.trans ?_, (h c).2.2.1.trans ?_, (h c).2.2.2.1.trans ?_, (h c).2.2.2.2⟩
  · rw [val_main_v105_eq, a0, a1, a2, a3, a4, a5]
  · rw [val_main_v104_eq, a0, a1, a2, a3, a4, a5]
  · rw [val_main_v83_eq, a0, a1, a2, a3, a4, a5]
  · rw [val_main_v87_eq, a0, a1, a2, a3, a4, a5]

end Cert.AttnProof
-- ==== Proof.AttnFrames.lean ====
/- The three frames of the cross attention's pair, and that idealizing rewrote nothing. -/
module

public import proofs.«01_k».proof.Proof.Gen.AttnBwd.Frame
public import proofs.«01_k».proof.Proof.Gen.AttnBwdIdeal.Frame
public import proofs.«01_k».proof.Proof.Gen.AttnGradIdeal.Run
public import proofs.«01_k».proof.Proof.AttnValue
public import Idealize.ShloMosaic.Lib.Claim

@[expose] public section

noncomputable section

namespace Cert.AttnProof
open Idealize.ShloMosaic Idealize.ShloMosaic.TcCoe Idealize.SL.Sem

/-- The call as it is compiled keeps its arguments. -/
theorem frame_kernel : Cert.quiescent_AttnBwd := fun m ρ _ => Cert.AttnBwd.Gen.frame m ρ

/-- So does the call over the reals. -/
theorem frame_ideal : Cert.quiescent_AttnBwdIdeal := fun m ρ _ => Cert.AttnBwdIdeal.Gen.frame m ρ

/-- So does the reference, which has no semaphore. -/
theorem frame_reference : Cert.quiescent_AttnGradIdeal := fun m ρ _ =>
  (θ_run _ _ _).mono (fun r h => ⟨fun c => (h c).2.2.2.2, funext fun s => nomatch s⟩) (Cert.AttnGradIdeal.Value.run m ρ)

/-- The frames also hold where the arguments are finite. -/
theorem frame_ideal_finite : Cert.quiescent_AttnBwdIdeal_pre_finite_attn := fun m ρ _ => Cert.AttnBwdIdeal.Gen.frame m ρ

theorem frame_reference_finite : Cert.quiescent_AttnGradIdeal_pre_finite_attn := fun m ρ _ => frame_reference m ρ trivial

end Cert.AttnProof
-- ==== Proof.InTile.lean ====
/-
  What one grid point of the input projection's backward call stores, index by index.

  A point takes a tile of 512 rows in two halves. For each half its body multiplies four column blocks of the incoming
  gradient by those of the weight, adds the half's part to the norm scale's gradient, and stores the half's rows of the
  input's gradient.
-/
module

public import proofs.«01_k».proof.Proof.Gen.InBwdIdeal.Value
public import proofs.«01_k».proof.Proof.RowGrad
public import Idealize.ShloMosaic.Lib.Pipeline.ValueKit
public import Idealize.ShloMosaic.Lib.Pointwise
public import Idealize.ShloMosaic.Lib.Pipeline.ReadBack

@[expose] public section

set_option maxRecDepth 16384

noncomputable section

namespace Cert.InProof
open Cert.InBwdIdeal Cert.InBwdIdeal.Gen Cert.RowGrad
open Idealize.ShloMosaic Idealize.ShloMosaic.TcCoe Idealize.SL.Sem

variable (m : (ℓ : Loc nD τ sig) → Buf (Elt Ideal) ℓ)

/-- A row of a tile. -/
def xRow (x : Vec Ideal S512x1024 .f32) (r : Fin 512) (k : Fin 1024) : EReal := x (ix2 r k)

/-- The norm's scale. -/
def gRow (x : Vec Ideal S1x1024 .f32) (k : Fin 1024) : EReal := x (ix2 0 k)

/-- One column block's part of the gradient at the norm's output. -/
def part (z : Vec Ideal S4x512x512 .bf16) (w : Vec Ideal S4x1024x512 .bf16) (r : Fin 512) (k : Fin 1024) (j : Fin 4) : EReal :=
  ∑ l : Fin 512, z (ix3 j r l) * w (ix3 j k l)

/-- The gradient at the norm's output. -/
def hRow (z : Vec Ideal S4x512x512 .bf16) (w : Vec Ideal S4x1024x512 .bf16) (r : Fin 512) (k : Fin 1024) : EReal :=
  part z w r k 0 + part z w r k 1 + part z w r k 2 + part z w r k 3

/-- A sum over a tile's rows is the sum over its two halves. -/
theorem sum_halves (f : Fin 512 → EReal) : ∑ r, f r
    = (∑ r : Fin 256, f ⟨r, by omega⟩) + ∑ r : Fin 256, f ⟨256 + r, by omega⟩ := Fin.sum_univ_add (a := 256) (b := 256) f

/-- The tile of the input's gradient. -/
theorem tile_input (c : Dev nD) (t : Fin cfg0.N) (r : Fin 512) (e : Fin 1024) : (outsAt0 m c t.val t.isLt).1 (ix2 r e)
    = xRow (iblk m c 4 t) r e
      + rmsGrad (xRow (iblk m c 2 t) r) (fun k => hRow (iblk m c 0 t) (iblk m c 1 t) r k * gRow (iblk m c 3 t) k) e := by
  by_cases h : t.val % 16 = 0
  on_goal 1 => rw [outsAt0_A m c t h]
  on_goal 2 => rw [outsAt0_B m c t h]
  all_goals
    frame_out
    unfold_payloads
    canon_tiles x h
    all_goals pointwise [xRow, gRow, rmsGrad, hRow, part, rinv]
    all_goals
      simp only [ix2_0, ix2_1] at h0 h1
      obtain rfl := Fin.ext h1
      obtain ⟨r, hr⟩ := r
      subst h0
      rfl

/-- The kernel's scale gradient after a tile: what it held and the tile's rows. -/
theorem tile_scale (c : Dev nD) (t : Fin cfg0.N) (h : ¬ t.val % 16 = 0) (e : Fin 1024) :
    (outsAt0 m c t.val t.isLt).2 (ix2 0 e)
    = (outsAt0 m c (t.val - 1) (Nat.lt_of_le_of_lt (Nat.sub_le _ _) t.isLt)).2 (ix2 0 e)
      + ∑ s, hRow (iblk m c 0 t) (iblk m c 1 t) s e * (xRow (iblk m c 2 t) s e * rinv (xRow (iblk m c 2 t) s)) := by
  rw [outsAt0_B m c t h, sum_halves, ← add_assoc]
  generalize (outsAt0 m c (t.val - 1) (Nat.lt_of_le_of_lt (Nat.sub_le _ _) t.isLt)).2 = a
  frame_out
  unfold_payloads
  pointwise [xRow, gRow, hRow, part, rinv]

/-- The first tile starts the scale's gradient from zero. -/
theorem tile_scale_first (c : Dev nD) (t : Fin cfg0.N) (h : t.val % 16 = 0) (e : Fin 1024) :
    (outsAt0 m c t.val t.isLt).2 (ix2 0 e)
    = 0 + ∑ s, hRow (iblk m c 0 t) (iblk m c 1 t) s e * (xRow (iblk m c 2 t) s e * rinv (xRow (iblk m c 2 t) s)) := by
  rw [outsAt0_A m c t h, sum_halves, ← add_assoc]
  frame_out
  unfold_payloads
  pointwise [xRow, gRow, hRow, part, rinv]

end Cert.InProof
-- ==== Proof.InRef.lean ====
/-
  The derivative of the input projection's forward lines, index by index.
-/
module

public import proofs.«01_k».proof.Proof.Gen.InGradIdeal.Read
public import proofs.«01_k».proof.Proof.RowGrad
public import Idealize.ShloMosaic.Lib.Pipeline.ValueKit
public import Idealize.ShloMosaic.Lib.Pointwise

@[expose] public section

set_option maxRecDepth 16384

noncomputable section

namespace Cert.InProof
open Cert.InGradIdeal Cert.InGradIdeal.Read Cert.RowGrad
open Idealize.ShloMosaic Idealize.ShloMosaic.TcCoe Idealize.SL.Sem

variable (x0 : Vec Ideal S8192x1024 .f32) (x1 : Vec Ideal S1x1024 .f32) (x2 : Vec Ideal S1024x2048 .f32)
  (x3 : Vec Ideal S8192x2048 .f32) (x4 : Vec Ideal S8192x1024 .f32)

/-- The gradient at the norm's output. -/
def refH (s : Fin 8192) (k : Fin 1024) : EReal := ∑ l, x3 (ix2 s l) * x2 (ix2 k l)

theorem ref_scale (k : Fin 1024) : val_main_v19 (F := Ideal) x0 x2 x3 (ix2 0 k)
    = ∑ s, refH x2 x3 s k * (x0 (ix2 s k) * rinv fun l => x0 (ix2 s l)) := by
  pointwise [val_main_v19, val_main_v18, val_main_v17, val_main_v16, val_main_v12, val_main_v11, val_main_v7, val_main_v6,
    val_main_v5, val_main_v4, val_main_v3, val_main_v2, val_main_v1, val_main_v0, val_main_cst, val_main_cst_0,
    val_main_cst_1, val_main_cst_3]
  exact Finset.sum_congr rfl fun _ _ => mul_comm (G := EReal) _ _

theorem ref_input (hx : ∀ s k, ∃ r : ℝ, x0 (ix2 s k) = r) (s : Fin 8192) (k : Fin 1024) :
    val_main_v36 (F := Ideal) x0 x1 x2 x3 x4 (ix2 s k)
    = x4 (ix2 s k) + rmsGrad (fun l => x0 (ix2 s l)) (fun l => refH x2 x3 s l * x1 (ix2 0 l)) k := by
  rw [rms_row _ _ (hx s)]
  pointwise [val_main_v36, val_main_v35, val_main_v34, val_main_v33, val_main_v32, val_main_v31, val_main_v30,
    val_main_v29, val_main_v28, val_main_v27, val_main_v26, val_main_v25, val_main_v24, val_main_v23, val_main_v22,
    val_main_v21, val_main_v20, val_main_v16, val_main_v10, val_main_v9, val_main_v8, val_main_v7, val_main_v6,
    val_main_v5, val_main_v4, val_main_v3, val_main_v2, val_main_v1, val_main_v0, val_main_cst, val_main_cst_0,
    val_main_cst_1, val_main_cst_2, val_main_cst_4, val_main_cst_5, val_main_cst_6]
  rfl

end Cert.InProof
-- ==== Proof.InValue.lean ====
/-
  The input projection's backward call against the derivative of its forward lines.

  The kernel goes over the rows in sixteen tiles; it returns the gradient of the input tile by tile and adds up that of
  the norm's scale. The reference differentiates `x, rms_norm(x, g) @ w_in`.
-/
module

public import proofs.«01_k».proof.Proof.InTile
public import proofs.«01_k».proof.Proof.InRef
public import proofs.«01_k».proof.Proof.AttnReal
public import proofs.«01_k».proof.Proof.Gen.InGradIdeal.Run
public import proofs.«01_k».proof.Defs
public import Idealize.ShloMosaic.Lib.Claim
public import Idealize.ShloMosaic.Lib.StableHlo.ReadAt

@[expose] public section

set_option maxRecDepth 16384

noncomputable section

namespace Cert.InProof
open Cert.InBwdIdeal Cert.InBwdIdeal.Gen Cert.InGradIdeal.Read Cert.RowGrad
open Idealize.ShloMosaic Idealize.ShloMosaic.TcCoe Idealize.SL.Sem

variable (m : (ℓ : Loc nD τ sig) → Buf (Elt Ideal) ℓ) (c : Dev nD)

/-! ## The arguments -/

/-- The input, the norm's scale, the projection, the projection's gradient, the input's gradient from above. -/
abbrev argX : Vec Ideal S8192x1024 .f32 := m (c.tc.loc main_arg0)
abbrev argG : Vec Ideal S1x1024 .f32 := m (c.tc.loc main_arg1)
abbrev argW : Vec Ideal S1024x2048 .f32 := m (c.tc.loc main_arg2)
abbrev argZ : Vec Ideal S8192x2048 .f32 := m (c.tc.loc main_arg3)
abbrev argD : Vec Ideal S8192x1024 .f32 := m (c.tc.loc main_arg4)

/-- Column `l` of column block `j`. -/
def colAt (j : Fin 4) (l : Fin 512) : Fin 2048 := ⟨j.val * 512 + l.val, by omega⟩

/-- The host's stack of the incoming gradient's column blocks, at an index. -/
theorem entry_grad (j : Fin 4) (s : Fin 8192) (l : Fin 512) :
    (V m c main_v9 : Vec Ideal S4x8192x512 .bf16) (ix3 j s l) = argZ m c (ix2 s (colAt j l)) := by
  unfold V colAt
  after_results_simp
  pointwise
  split_ifs
  all_goals
    after_results_simp
    pointwise
    blk_ext

/-- The host's stack of the weight's column blocks, at an index. -/
theorem entry_weight (j : Fin 4) (k : Fin 1024) (l : Fin 512) :
    (V m c main_v19 : Vec Ideal S4x1024x512 .bf16) (ix3 j k l) = argW m c (ix2 k (colAt j l)) := by
  unfold V colAt
  after_results_simp
  pointwise
  split_ifs
  all_goals
    after_results_simp
    pointwise
    blk_ext

/-! ## What the windows hold -/

/-- Where the windows of a tile start. -/
theorem origin : ∀ t : Fin cfg0.N, win0_0.index t = ![0, t.val, 0] ∧ win0_1.index t = ![0, 0, 0]
    ∧ win0_2.index t = ![t.val, 0] ∧ win0_3.index t = ![0, 0] ∧ win0_4.index t = ![t.val, 0]
    ∧ win0_5.index t = ![t.val, 0] ∧ win0_6.index t = ![0, 0] :=
  (by decide +kernel : ∀ t : Fin grid0.N, _)

theorem tiles (t : Fin cfg0.N) : t.val < 16 := t.isLt

/-- Row `r` of tile `t`. -/
def rowAt (t : Fin cfg0.N) (r : Fin 512) : Fin 8192 := ⟨t.val * 512 + r.val, by have := tiles t; omega⟩

theorem row_input (t : Fin cfg0.N) (r : Fin 512) : xRow (iblk m c 2 t) r = fun l => argX m c (ix2 (rowAt t r) l) := by
  funext k
  unfold xRow rowAt
  blk_ext [iblk, V, origin t]

theorem row_above (t : Fin cfg0.N) (r : Fin 512) : xRow (iblk m c 4 t) r = fun l => argD m c (ix2 (rowAt t r) l) := by
  funext k
  unfold xRow rowAt
  blk_ext [iblk, V, origin t]

theorem row_scale (t : Fin cfg0.N) : gRow (iblk m c 3 t) = fun l => argG m c (ix2 0 l) := by
  funext k
  unfold gRow
  blk_ext [iblk, V, origin t]

/-- The stacked weight is one tile at every point. -/
theorem tile_weight (t : Fin cfg0.N) (j : Fin 4) (k : Fin 1024) (l : Fin 512) :
    (iblk m c 1 t : Vec Ideal S4x1024x512 .bf16) (ix3 j k l) = argW m c (ix2 k (colAt j l)) := by
  rw [← entry_weight]
  blk_ext [iblk, origin t]

/-- A tile of the stacked gradient, at an index. -/
theorem tile_grad (t : Fin cfg0.N) (j : Fin 4) (r l : Fin 512) :
    (iblk m c 0 t : Vec Ideal S4x512x512 .bf16) (ix3 j r l) = argZ m c (ix2 (rowAt t r) (colAt j l)) := by
  rw [← entry_grad]
  unfold rowAt
  blk_ext [iblk, origin t]

/-- The gradient at the norm's output is the reference's: its four column blocks are all columns. -/
theorem row_hidden (t : Fin cfg0.N) (r : Fin 512) (k : Fin 1024) :
    hRow (iblk m c 0 t) (iblk m c 1 t) r k = refH (argW m c) (argZ m c) (rowAt t r) k := by
  unfold hRow part refH
  have e0 (l : Fin 512) : colAt 0 l = ⟨l.val, by omega⟩ := Fin.ext (by simp [colAt])
  have e1 (l : Fin 512) : colAt 1 l = ⟨512 + l.val, by omega⟩ := Fin.ext (by simp [colAt])
  have e2 (l : Fin 512) : colAt 2 l = ⟨1024 + l.val, by omega⟩ := Fin.ext (by simp [colAt])
  have e3 (l : Fin 512) : colAt 3 l = ⟨1536 + l.val, by omega⟩ := Fin.ext (by simp [colAt])
  rw [sum_four]
  simp only [tile_grad, tile_weight, e0, e1, e2, e3]

/-! ## The arrays after the run -/

/-- The input is finite. -/
def Fin1 : Prop := ∀ s k, RealOf.Is (argX m c (ix2 s k))

/-- The kernel ends with the reference's gradient of the input. -/
theorem final_input (h : Fin1 m c) : (dats m 0 c).arrAt 5 cfg0.N
    = val_main_v36 (F := Ideal) (argX m c) (argG m c) (argW m c) (argZ m c) (argD m c) := by
  refine (dats m 0 c).arrAt_eq_of_covers 5 _ (by decide +kernel) fun t hf y => ?_
  blk_simp
  rw [after0_5]
  obtain ⟨r, e, rfl⟩ : ∃ (r : Fin 512) (e : Fin 1024), y = ix2 r e := ⟨y 0, y 1, by blk_ext⟩
  have hi : (win0_5.blk t).view.emb (ix2 r e) = ix2 (rowAt t r) e := by blk_ext [rowAt, origin t]
  rw [hi, tile_input, row_input, row_above, row_scale]
  simp only [row_hidden]
  exact (ref_input _ _ _ _ _ h (rowAt t r) e).symm

/-- A sum over the tiles' rows is a sum over all rows. -/
theorem sum_tiles (f : Fin 8192 → EReal) : ∑ t : Fin cfg0.N, ∑ r, f (rowAt t r) = ∑ s, f s :=
  Fin.sum_mul_add_fin 16 512 f

/-- The kernel ends with the reference's gradient of the norm's scale. -/
theorem final_scale : (dats m 0 c).arrAt 6 cfg0.N
    = val_main_v19 (F := Ideal) (argX m c) (argW m c) (argZ m c) := by
  refine (dats m 0 c).arrAt_eq_of_after_last 6 t0_15 (by decide +kernel) _ fun j => ?_
  blk_simp
  rw [after0_6]
  obtain ⟨e, rfl⟩ : ∃ (e : Fin 1024), j = ix2 0 e := ⟨j 1, by blk_ext⟩
  rw [ref_scale]
  refine (Pipeline.eq_sum_fin_of_reset_step_apply_last (ι := Fin 1024)
    (fun n hn p => (outsAt0 m c n hn).2 (ix2 0 p)) 16 (fun _ => 0)
    (fun t p => ∑ s, hRow (iblk m c 0 t) (iblk m c 1 t) s p * (xRow (iblk m c 2 t) s p * rinv (xRow (iblk m c 2 t) s)))
    (fun t ht p => tile_scale_first m c t ht p) (fun t ht p => tile_scale m c t ht p)
    (le_of_eq N_0) t0_15 rfl e).trans ?_
  rw [zero_add]
  simp only [row_hidden, row_input]
  exact sum_tiles fun s => refH (argW m c) (argZ m c) s e * (argX m c (ix2 s e) * rinv fun l => argX m c (ix2 s l))

/-- The side conditions of the precondition. -/
instance preFacts : Cert.Pre_finite_in.Facts where
  bcast_S_S8192x1024 := by decide
  reducesTo_S8192x1024_S_d0_1 := by decide
  h_S_ := by decide

/-- What the precondition says: the input is finite. -/
theorem finite_of (h : Cert.Pre_InBwdIdeal_finite_in m) : Fin1 m c := by
  have h := congrFun (h c) (fun a => a.elim0)
  unfold Cert.Pre_finite_in.fn at h
  haveI : Subsingleton (Cert.Pre_finite_in.S_).Idx := ⟨fun a b => funext fun k => k.elim0⟩
  exact fun s k => RealOf.entries _ _ _ _ _ _ h _

/-- The two programs end with the same gradients. -/
theorem algebraic : Cert.algebraic_InBwdIdeal_InGradIdeal_pre_finite_in := by
  intro m g m' g' hpre hagree
  refine ⟨fun c => val_main_v36 (F := Ideal) (argX m c) (argG m c) (argW m c) (argZ m c) (argD m c),
    fun c => val_main_v19 (F := Ideal) (argX m c) (argW m c) (argZ m c),
    (θ_run _ _ _).mono (fun r h c => ⟨(h c).1.trans (final_input m c (finite_of m c hpre)),
        (h c).2.1.trans (final_scale m c), (h c).2.2⟩)
      (Cert.InBwdIdeal.Value.run_blocks m g),
    (θ_run _ _ _).mono (fun r h c => ?_) (Cert.InGradIdeal.Value.run m' g')⟩
  obtain ⟨a0, a1, a2, a3, a4⟩ := hagree c
  refine ⟨(h c).1.trans ?_, (h c).2.1.trans ?_, (h c).2.2⟩
  · rw [val_main_v36_eq, a0, a1, a2, a3, a4]
  · rw [val_main_v19_eq, a0, a2, a3]

end Cert.InProof
-- ==== Proof.InFrames.lean ====
/- The three frames of the input projection's pair, and that idealizing rewrote nothing. -/
module

public import proofs.«01_k».proof.Proof.Gen.InBwd.Frame
public import proofs.«01_k».proof.Proof.Gen.InBwdIdeal.Frame
public import proofs.«01_k».proof.Proof.Gen.InGradIdeal.Run
public import proofs.«01_k».proof.Proof.InValue
public import Idealize.ShloMosaic.Lib.Claim

@[expose] public section

noncomputable section

namespace Cert.InProof
open Idealize.ShloMosaic Idealize.ShloMosaic.TcCoe Idealize.SL.Sem

/-- The call as it is compiled keeps its arguments. -/
theorem frame_kernel : Cert.quiescent_InBwd := fun m ρ _ => Cert.InBwd.Gen.frame m ρ

/-- So does the call over the reals. -/
theorem frame_ideal : Cert.quiescent_InBwdIdeal := fun m ρ _ => Cert.InBwdIdeal.Gen.frame m ρ

/-- So does the reference, which has no semaphore. -/
theorem frame_reference : Cert.quiescent_InGradIdeal := fun m ρ _ =>
  (θ_run _ _ _).mono (fun r h => ⟨fun c => (h c).2.2, funext fun s => nomatch s⟩) (Cert.InGradIdeal.Value.run m ρ)

/-- The frames also hold where the input is finite. -/
theorem frame_ideal_finite : Cert.quiescent_InBwdIdeal_pre_finite_in := fun m ρ _ => Cert.InBwdIdeal.Gen.frame m ρ

theorem frame_reference_finite : Cert.quiescent_InGradIdeal_pre_finite_in := fun m ρ _ => frame_reference m ρ trivial

end Cert.InProof
-- ==== Proof.FfnRun.lean ====
/- The run of the gated convolution's backward call (FfnBwdIdeal), point by point.
   One point of the grid runs the body in one of two cases, the first point and the later ones. This module names what a
   case leaves in each output and in the scratch that is carried to the next point, follows it over the grid, and proves
   that the whole program ends with the arguments unchanged and with each output array as the points left it. -/
module

public import proofs.«01_k».proof.Proof.Gen.FfnBwdIdeal.Frame.RunB
public import Idealize.ShloMosaic.Lib.Claim
public import Idealize.ShloMosaic.Lib.Pipeline.Value

@[expose] public section

set_option maxRecDepth 16384

noncomputable section

namespace Cert.FfnRun

open Cert.FfnBwdIdeal Cert.FfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## One point -/

/-- What a point leaves: the five outputs' blocks in order, then the carried scratch. -/
abbrev Left (F : FTy → Type) : Type := Vec F S2x2x256x1536 .bf16 × Vec F S256x1024 .f32 × Vec F S1x1024 .f32
  × Vec F S3x3072 .f32 × Vec F S1x3072 .f32 × Vec F S2x264x1536 .f32

/-- The body's run at the first point, on that point's blocks. -/
def runFirst (c : Dev nD) (t : Fin cfg0.N) (h : t.val % 32 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t)

/-- The body's run at a later point, on that point's blocks and on what the point before left. -/
def runNext (c : Dev nD) (t : Fin cfg0.N) (h : ¬ t.val % 32 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t)
    p.2.2.1 p.2.2.2.1 p.2.2.2.2.1 p.2.2.2.2.2

/-- The first point's stores into output 9 cover it. -/
theorem gatesFirst_cover (c : Dev nD) (t : Fin cfg0.N) (h : t.val % 32 = 0) (y : S2x2x256x1536.Idx) :
    ∃ pc ∈ (runFirst m c t h).1, y ∈ pc.1.set := View.cover_of_tiledL (runFirst m c t h).1 S1x1x256x1536.size (by sl_kernel_rfl) y

/-- What the first point leaves in output 9. -/
def gatesFirst (c : Dev nD) (t : Fin cfg0.N) (h : t.val % 32 = 0) : Vec F S2x2x256x1536 .bf16 :=
  VO0_9.read (Elt F) (VO0_9.writes (Elt F) VO0_9.junk (runFirst m c t h).1)

/-- The later point's stores into output 9 cover it. -/
theorem gatesNext_cover (c : Dev nD) (t : Fin cfg0.N) (h : ¬ t.val % 32 = 0) (p : Left F) (y : S2x2x256x1536.Idx) :
    ∃ pc ∈ (runNext m c t h p).1, y ∈ pc.1.set := View.cover_of_tiledL (runNext m c t h p).1 S1x1x256x1536.size (by sl_kernel_rfl) y

/-- What a later point leaves in output 9. -/
def gatesNext (c : Dev nD) (t : Fin cfg0.N) (h : ¬ t.val % 32 = 0) (p : Left F) : Vec F S2x2x256x1536 .bf16 :=
  VO0_9.read (Elt F) (VO0_9.writes (Elt F) VO0_9.junk (runNext m c t h p).1)

/-- The first point's stores into output 10 cover it. -/
theorem rowsFirst_cover (c : Dev nD) (t : Fin cfg0.N) (h : t.val % 32 = 0) (y : S256x1024.Idx) :
    ∃ pc ∈ (runFirst m c t h).2.1, y ∈ pc.1.set := View.cover_of_tiledL (runFirst m c t h).2.1 S256x1024.size (by sl_kernel_rfl) y

/-- What the first point leaves in output 10. -/
def rowsFirst (c : Dev nD) (t : Fin cfg0.N) (h : t.val % 32 = 0) : Vec F S256x1024 .f32 :=
  VO0_10.read (Elt F) (VO0_10.writes (Elt F) VO0_10.junk (runFirst m c t h).2.1)

/-- The later point's stores into output 10 cover it. -/
theorem rowsNext_cover (c : Dev nD) (t : Fin cfg0.N) (h : ¬ t.val % 32 = 0) (p : Left F) (y : S256x1024.Idx) :
    ∃ pc ∈ (runNext m c t h p).2.1, y ∈ pc.1.set := View.cover_of_tiledL (runNext m c t h p).2.1 S256x1024.size (by sl_kernel_rfl) y

/-- What a later point leaves in output 10. -/
def rowsNext (c : Dev nD) (t : Fin cfg0.N) (h : ¬ t.val % 32 = 0) (p : Left F) : Vec F S256x1024 .f32 :=
  VO0_10.read (Elt F) (VO0_10.writes (Elt F) VO0_10.junk (runNext m c t h p).2.1)

/-- The first point's stores into output 11 cover it. -/
theorem scaleFirst_cover (c : Dev nD) (t : Fin cfg0.N) (h : t.val % 32 = 0) (y : S1x1024.Idx) :
    ∃ pc ∈ (runFirst m c t h).2.2.1, y ∈ pc.1.set := View.cover_of_tiledL (runFirst m c t h).2.2.1 S1x1024.size (by sl_kernel_rfl) y

/-- What the first point leaves in output 11. -/
def scaleFirst (c : Dev nD) (t : Fin cfg0.N) (h : t.val % 32 = 0) : Vec F S1x1024 .f32 :=
  VO0_11.read (Elt F) (VO0_11.writes (Elt F) VO0_11.junk (runFirst m c t h).2.2.1)

/-- The later point's stores into output 11 cover it. -/
theorem scaleNext_cover (c : Dev nD) (t : Fin cfg0.N) (h : ¬ t.val % 32 = 0) (p : Left F) (y : S1x1024.Idx) :
    ∃ pc ∈ (runNext m c t h p).2.2.1, y ∈ pc.1.set := View.cover_of_tiledL (runNext m c t h p).2.2.1 S1x1024.size (by sl_kernel_rfl) y

/-- What a later point leaves in output 11. -/
def scaleNext (c : Dev nD) (t : Fin cfg0.N) (h : ¬ t.val % 32 = 0) (p : Left F) : Vec F S1x1024 .f32 :=
  VO0_11.read (Elt F) (VO0_11.writes (Elt F) VO0_11.junk (runNext m c t h p).2.2.1)

/-- The first point's stores into output 12 cover it. -/
theorem tapsFirst_cover (c : Dev nD) (t : Fin cfg0.N) (h : t.val % 32 = 0) (y : S3x3072.Idx) :
    ∃ pc ∈ (runFirst m c t h).2.2.2.1, y ∈ pc.1.set := View.cover_of_tiledBy (runFirst m c t h).2.2.2.1 ![1, 1536] (by sl_kernel_rfl) y

/-- What the first point leaves in output 12. -/
def tapsFirst (c : Dev nD) (t : Fin cfg0.N) (h : t.val % 32 = 0) : Vec F S3x3072 .f32 :=
  VO0_12.read (Elt F) (VO0_12.writes (Elt F) VO0_12.junk (runFirst m c t h).2.2.2.1)

/-- The later point's stores into output 12 cover it. -/
theorem tapsNext_cover (c : Dev nD) (t : Fin cfg0.N) (h : ¬ t.val % 32 = 0) (p : Left F) (y : S3x3072.Idx) :
    ∃ pc ∈ (runNext m c t h p).2.2.2.1, y ∈ pc.1.set := View.cover_of_tiledL (runNext m c t h p).2.2.2.1 S1x1536.size (by sl_kernel_rfl) y

/-- What a later point leaves in output 12. -/
def tapsNext (c : Dev nD) (t : Fin cfg0.N) (h : ¬ t.val % 32 = 0) (p : Left F) : Vec F S3x3072 .f32 :=
  VO0_12.read (Elt F) (VO0_12.writes (Elt F) VO0_12.junk (runNext m c t h p).2.2.2.1)

/-- The first point's stores into output 13 cover it. -/
theorem biasFirst_cover (c : Dev nD) (t : Fin cfg0.N) (h : t.val % 32 = 0) (y : S1x3072.Idx) :
    ∃ pc ∈ (runFirst m c t h).2.2.2.2.1, y ∈ pc.1.set := View.cover_of_tiledBy (runFirst m c t h).2.2.2.2.1 ![1, 1536] (by sl_kernel_rfl) y

/-- What the first point leaves in output 13. -/
def biasFirst (c : Dev nD) (t : Fin cfg0.N) (h : t.val % 32 = 0) : Vec F S1x3072 .f32 :=
  VO0_13.read (Elt F) (VO0_13.writes (Elt F) VO0_13.junk (runFirst m c t h).2.2.2.2.1)

/-- The later point's stores into output 13 cover it. -/
theorem biasNext_cover (c : Dev nD) (t : Fin cfg0.N) (h : ¬ t.val % 32 = 0) (p : Left F) (y : S1x3072.Idx) :
    ∃ pc ∈ (runNext m c t h p).2.2.2.2.1, y ∈ pc.1.set := View.cover_of_tiledL (runNext m c t h p).2.2.2.2.1 S1x1536.size (by sl_kernel_rfl) y

/-- What a later point leaves in output 13. -/
def biasNext (c : Dev nD) (t : Fin cfg0.N) (h : ¬ t.val % 32 = 0) (p : Left F) : Vec F S1x3072 .f32 :=
  VO0_13.read (Elt F) (VO0_13.writes (Elt F) VO0_13.junk (runNext m c t h p).2.2.2.2.1)

/-- The first point's stores into the carried scratch cover it. -/
theorem haloFirst_cover (c : Dev nD) (t : Fin cfg0.N) (h : t.val % 32 = 0) (y : S2x264x1536.Idx) :
    ∃ pc ∈ (runFirst m c t h).2.2.2.2.2.1, y ∈ pc.1.set := View.cover_of_wholeMem (runFirst m c t h).2.2.2.2.2.1 (by sl_whole_mem) y

/-- What the first point leaves in the carried scratch. -/
def haloFirst (c : Dev nD) (t : Fin cfg0.N) (h : t.val % 32 = 0) : Vec F S2x264x1536 .f32 :=
  VS0_1.read (Elt F) (VS0_1.writes (Elt F) VS0_1.junk (runFirst m c t h).2.2.2.2.2.1)

/-- The later point's stores into the carried scratch cover it. -/
theorem haloNext_cover (c : Dev nD) (t : Fin cfg0.N) (h : ¬ t.val % 32 = 0) (p : Left F) (y : S2x264x1536.Idx) :
    ∃ pc ∈ (runNext m c t h p).2.2.2.2.2.1, y ∈ pc.1.set := View.cover_of_tiledBy (runNext m c t h p).2.2.2.2.2.1 ![1, 8, 1536] (by sl_kernel_rfl) y

/-- What a later point leaves in the carried scratch. -/
def haloNext (c : Dev nD) (t : Fin cfg0.N) (h : ¬ t.val % 32 = 0) (p : Left F) : Vec F S2x264x1536 .f32 :=
  VS0_1.read (Elt F) (VS0_1.writes (Elt F) VS0_1.junk (runNext m c t h p).2.2.2.2.2.1)

/-- What the first point leaves. -/
def leftFirst (c : Dev nD) (t : Fin cfg0.N) (h : t.val % 32 = 0) : Left F :=
  (gatesFirst m c t h, rowsFirst m c t h, scaleFirst m c t h, tapsFirst m c t h, biasFirst m c t h, haloFirst m c t h)

/-- What a later point leaves over what the point before left. -/
def leftNext (c : Dev nD) (t : Fin cfg0.N) (h : ¬ t.val % 32 = 0) (p : Left F) : Left F :=
  (gatesNext m c t h p, rowsNext m c t h p, scaleNext m c t h p, tapsNext m c t h p, biasNext m c t h p, haloNext m c t h p)

/-! ## All points -/

/-- What point `n` leaves. -/
def left (c : Dev nD) : (n : ℕ) → n < cfg0.N → Left F
  | 0, hn => leftFirst m c ⟨0, hn⟩ (Nat.zero_mod _)
  | n + 1, hn =>
    if h : (n + 1) % 32 = 0 then leftFirst m c ⟨n + 1, hn⟩ h
    else leftNext m c ⟨n + 1, hn⟩ h (left c n (Nat.lt_of_succ_lt hn))

/-- What the point before `t` left. -/
abbrev before (c : Dev nD) (t : Fin cfg0.N) : Left F := left m c (t.val - 1) (Nat.lt_of_le_of_lt (Nat.sub_le _ _) t.isLt)

theorem left_first (c : Dev nD) (t : Fin cfg0.N) (h : t.val % 32 = 0) : left m c t.val t.isLt = leftFirst m c t h := by
  obtain ⟨n, hn⟩ := t
  cases n with
  | zero => rfl
  | succ n => unfold left; exact dif_pos h

theorem left_next (c : Dev nD) (t : Fin cfg0.N) (h : ¬ t.val % 32 = 0) :
    left m c t.val t.isLt = leftNext m c t h (before m c t) := by
  obtain ⟨n, hn⟩ := t
  cases n with
  | zero => exact absurd (Nat.zero_mod _) h
  | succ n => rw [left]; exact dif_neg h

/-- The carried scratch between points: at anything before the first point, then at what the point before left. -/
def carried (c : Dev nD) : (n : ℕ) → n ≤ cfg0.N → sProp 𝕄
  | 0, _ => Pipeline.ΦA spec0 c
  | n + 1, hn => iprop(iprop((∃ d, owns (c : Thread nD τ) scM0_0 fullShare d)
      ∗ owns (c : Thread nD τ) scM0_1 fullShare (left m c n hn).2.2.2.2.2) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop((∃ d, owns (c : Thread nD τ) scM0_0 fullShare d)
      ∗ owns (c : Thread nD τ) scM0_1 fullShare (left m c (n - 1) (by omega)).2.2.2.2.2) ∗ (∃ r, prngReg c r)) := by
  cases n with
  | zero => exact absurd rfl hz
  | succ n => rfl

/-- The proof data of the pipeline: an input's buffer keeps its block, an output's holds what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => (left m c t.val t.isLt).1
    | ⟨10, _⟩ => (left m c t.val t.isLt).2.1
    | ⟨11, _⟩ => (left m c t.val t.isLt).2.2.1
    | ⟨12, _⟩ => (left m c t.val t.isLt).2.2.2.1
    | ⟨13, _⟩ => (left m c t.val t.isLt).2.2.2.2.1
  Φ t := carried m c t.val (Nat.le_of_lt_succ t.isLt)
  q w := Pipeline.shareOf spec0 w
  owed _ := 0

theorem entry (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = (left m c t.val t.isLt).1 := by dsimp only [dats]
theorem after_10 (c : Dev nD) (t : Fin cfg0.N) : (dats m 0 c).after 10 t = (left m c t.val t.isLt).2.1 := by dsimp only [dats]
theorem after_11 (c : Dev nD) (t : Fin cfg0.N) : (dats m 0 c).after 11 t = (left m c t.val t.isLt).2.2.1 := by dsimp only [dats]
theorem after_12 (c : Dev nD) (t : Fin cfg0.N) : (dats m 0 c).after 12 t = (left m c t.val t.isLt).2.2.2.1 := by dsimp only [dats]
theorem after_13 (c : Dev nD) (t : Fin cfg0.N) : (dats m 0 c).after 13 t = (left m c t.val t.isLt).2.2.2.2.1 := by dsimp only [dats]

theorem before_0 (c : Dev nD) (t : Fin cfg0.N) (d) : (dats m 0 c).before 0 t d = iblk m c 0 t :=
  before0_0_of m (dats m 0 c) (entry m c 0) (after_0 m c) t d
theorem before_1 (c : Dev nD) (t : Fin cfg0.N) (d) : (dats m 0 c).before 1 t d = iblk m c 1 t :=
  before0_1_of m (dats m 0 c) (entry m c 1) (after_1 m c) t d
theorem before_2 (c : Dev nD) (t : Fin cfg0.N) (d) : (dats m 0 c).before 2 t d = iblk m c 2 t :=
  before0_2_of m (dats m 0 c) (entry m c 2) (after_2 m c) t d
theorem before_3 (c : Dev nD) (t : Fin cfg0.N) (d) : (dats m 0 c).before 3 t d = iblk m c 3 t :=
  before0_3_of m (dats m 0 c) (entry m c 3) (after_3 m c) t d
theorem before_4 (c : Dev nD) (t : Fin cfg0.N) (d) : (dats m 0 c).before 4 t d = iblk m c 4 t :=
  before0_4_of m (dats m 0 c) (entry m c 4) (after_4 m c) t d
theorem before_5 (c : Dev nD) (t : Fin cfg0.N) (d) : (dats m 0 c).before 5 t d = iblk m c 5 t :=
  before0_5_of m (dats m 0 c) (entry m c 5) (after_5 m c) t d
theorem before_6 (c : Dev nD) (t : Fin cfg0.N) (d) : (dats m 0 c).before 6 t d = iblk m c 6 t :=
  before0_6_of m (dats m 0 c) (entry m c 6) (after_6 m c) t d
theorem before_7 (c : Dev nD) (t : Fin cfg0.N) (d) : (dats m 0 c).before 7 t d = iblk m c 7 t :=
  before0_7_of m (dats m 0 c) (entry m c 7) (after_7 m c) t d
theorem before_8 (c : Dev nD) (t : Fin cfg0.N) (d) : (dats m 0 c).before 8 t d = iblk m c 8 t :=
  before0_8_of m (dats m 0 c) (entry m c 8) (after_8 m c) t d
/-- Output 11 is written back at the last point only: a later point finds what the point before left. -/
theorem before_11 (c : Dev nD) (t : Fin cfg0.N) (h : ¬ t.val % 32 = 0) (d) :
    (dats m 0 c).before 11 t d = (before m c t).2.2.1 := by
  have hN : t.val < 32 := lt_of_lt_of_eq t.isLt (show cfg0.N = 32 from N_0)
  rw [Dat.before_out_kept _ 11 rfl t (by omega)
    (Bool.eq_false_iff.mpr fun e => by have := (flush0_11 _).mp e; dsimp only at this; omega) (fun _ => rfl) (fun _ _ => rfl)]
  dsimp only [dats]
/-- Output 12 is written back at the last point only: a later point finds what the point before left. -/
theorem before_12 (c : Dev nD) (t : Fin cfg0.N) (h : ¬ t.val % 32 = 0) (d) :
    (dats m 0 c).before 12 t d = (before m c t).2.2.2.1 := by
  have hN : t.val < 32 := lt_of_lt_of_eq t.isLt (show cfg0.N = 32 from N_0)
  rw [Dat.before_out_kept _ 12 rfl t (by omega)
    (Bool.eq_false_iff.mpr fun e => by have := (flush0_12 _).mp e; dsimp only at this; omega) (fun _ => rfl) (fun _ _ => rfl)]
  dsimp only [dats]
/-- Output 13 is written back at the last point only: a later point finds what the point before left. -/
theorem before_13 (c : Dev nD) (t : Fin cfg0.N) (h : ¬ t.val % 32 = 0) (d) :
    (dats m 0 c).before 13 t d = (before m c t).2.2.2.2.1 := by
  have hN : t.val < 32 := lt_of_lt_of_eq t.isLt (show cfg0.N = 32 from N_0)
  rw [Dat.before_out_kept _ 13 rfl t (by omega)
    (Bool.eq_false_iff.mpr fun e => by have := (flush0_13 _).mp e; dsimp only at this; omega) (fun _ => rfl) (fun _ _ => rfl)]
  dsimp only [dats]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 2000000 in
/-- The body at any point takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8]
  rw [show (dats m 0 c).owesAt () t.succ = (dats m 0 c).owesAt () t.castSucc from rfl,
    after_0, after_1, after_2, after_3, after_4, after_5, after_6, after_7, after_8, after_9, after_10, after_11, after_12, after_13,
    show (dats m 0 c).Φ t.castSucc = carried m c t.val (Nat.le_of_lt t.isLt) from rfl,
    show (dats m 0 c).Φ t.succ = carried m c (t.val + 1) t.isLt from rfl, carried_pos m c (t.val + 1) _ (Nat.succ_ne_zero _)]
  have hN : t.val < 32 := lt_of_lt_of_eq t.isLt (show cfg0.N = 32 from N_0)
  by_cases h : t.val % 32 = 0
  · rw [carried_zero m c _ _ (by omega), PhiA0_eq]
    simp only [Nat.add_sub_cancel]
    rw [left_first m c t h]
    unfold leftFirst gatesFirst rowsFirst scaleFirst tapsFirst biasFirst haloFirst; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runFirst m c t h).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    iintro ⟨H0, H1, H2, H3, H4, H5, H6, H7, H8, ⟨%e9, H9⟩, ⟨%e10, H10⟩, ⟨%e11, H11⟩, ⟨%e12, H12⟩, ⟨%e13, H13⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_of_cover _ _ _ _ _ (haloFirst_cover m c t h)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (gatesFirst_cover m c t h)
    isplitl [H10]
    · unfold owns; iexists _; isplitr
      swap; · iexact H10
      ipureintro; exact View.read_writes_of_cover _ _ _ _ _ (rowsFirst_cover m c t h)
    isplitl [H11]
    · unfold owns; iexists _; isplitr
      swap; · iexact H11
      ipureintro; exact View.read_writes_of_cover _ _ _ _ _ (scaleFirst_cover m c t h)
    isplitl [H12]
    · unfold owns; iexists _; isplitr
      swap; · iexact H12
      ipureintro; exact View.read_writes_of_cover _ _ _ _ _ (tapsFirst_cover m c t h)
    unfold owns; iexists _; isplitr
    swap; · iexact H13
    ipureintro; exact View.read_writes_of_cover _ _ _ _ _ (biasFirst_cover m c t h)
  · rw [carried_pos m c _ _ (by omega)]
    simp only [Nat.add_sub_cancel]
    rw [left_next m c t h]
    simp only [before_11 m c t h, before_12 m c t h, before_13 m c t h]
    unfold leftNext gatesNext rowsNext scaleNext tapsNext biasNext haloNext; dsimp only
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((runNext m c t h (before m c t)).2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [H11]; · iexact H11
    isplitl [H12]; · iexact H12
    isplitl [H13]; · iexact H13
    isplitl [HS0]; · iexact HS0
    isplitl [HS1]; · iexact HS1
    iintro ⟨H0, H1, H2, H3, H4, H5, H6, H7, H8, ⟨%e9, H9⟩, ⟨%e10, H10⟩, ⟨%e11, H11⟩, ⟨%e12, H12⟩, ⟨%e13, H13⟩, ⟨%fT0, HS0⟩, ⟨%es1, HS1⟩⟩
    isplitl [HS0 HS1 Hg]
    · isplitl [HS0 HS1]
      · isplitl [HS0]
        · iexists _; unfold owns; iexists _; isplitr
          swap; · iexact HS0
          ipureintro; rfl
        unfold owns; iexists _; isplitr
        swap; · iexact HS1
        ipureintro; exact View.read_writes_of_cover _ _ _ _ _ (haloNext_cover m c t h _)
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold owns; iexists _; isplitr
      swap; · iexact H9
      ipureintro; exact View.read_writes_of_cover _ _ _ _ _ (gatesNext_cover m c t h _)
    isplitl [H10]
    · unfold owns; iexists _; isplitr
      swap; · iexact H10
      ipureintro; exact View.read_writes_of_cover _ _ _ _ _ (rowsNext_cover m c t h _)
    isplitl [H11]
    · unfold owns; iexists _; isplitr
      swap; · iexact H11
      ipureintro; exact View.read_writes_of_cover _ _ _ _ _ (scaleNext_cover m c t h _)
    isplitl [H12]
    · unfold owns; iexists _; isplitr
      swap; · iexact H12
      ipureintro; exact View.read_writes_of_cover _ _ _ _ _ (tapsNext_cover m c t h _)
    unfold owns; iexists _; isplitr
    swap; · iexact H13
    ipureintro; exact View.read_writes_of_cover _ _ _ _ _ (biasNext_cover m c t h _)

/-- The pipeline's obligation at every point. -/
theorem obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body_sound m c t) rfl .rfl fun _ => .rfl

/-- What the launch hands over is the invariant before the first point. -/
theorem handed (c : Dev nD) : Pipeline.ΦA spec0 c ⊢ (dats m 0 c).Φ 0 :=
  Idealize.SL.BI.Entails.refl _

/-- After the last point the invariant gives the scratch back. -/
theorem returned (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 32 := N_0; omega), PhiA0_eq]
  iintro ⟨⟨HS0, HS1⟩, Hg⟩
  isplitl [HS0 HS1]
  · isplitl [HS0]
    · iexact HS0
    iexists _; iexact HS1
  iexact Hg

/-! ## The program -/

set_option backward.isDefEq.respectTransparency.types false in
/-- Every run of the program ends, with the arrays as the points leave them and every counter at zero. -/
theorem run : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry m) (hin := handed m) (hout := returned m)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (entry m) ((θ_run defs _ _).mono (fun _ h => h.1) (run m ρ)))
    ((θ_run defs _ _).mono (fun _ h => h.2) (run m ρ))

/-- The run with the five output arrays named. -/
theorem run_arrays : θ_run defs (onTc (τ := τ) (main (F := F))) ⟨m, fun _ => 0, ρ⟩ fun r => ∀ c : Dev nD,
    (r.2.mem ((c : Thread nD τ).loc main_v37_0) = (dats m 0 c).arrAt 9 cfg0.N
      ∧ r.2.mem ((c : Thread nD τ).loc main_v37_1) = (dats m 0 c).arrAt 10 cfg0.N
      ∧ r.2.mem ((c : Thread nD τ).loc main_v37_2) = (dats m 0 c).arrAt 11 cfg0.N
      ∧ r.2.mem ((c : Thread nD τ).loc main_v37_3) = (dats m 0 c).arrAt 12 cfg0.N
      ∧ r.2.mem ((c : Thread nD τ).loc main_v37_4) = (dats m 0 c).arrAt 13 cfg0.N)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨(h.1 c).1 9, (h.1 c).1 10, (h.1 c).1 11, (h.1 c).1 12, (h.1 c).1 13⟩, h.2.1 c⟩)
    (θ_run_and ((θ_run defs _ _).mono (fun _ h => h.1) (run m ρ)) (frame_run m ρ))

end Cert.FfnRun

end
-- ==== Proof.FfnRow.lean ====
/-
  The gated convolution's gradient, entry by entry: the tanh form of gelu and its derivative as the kernel writes them,
  and the three taps of the convolution and of its transpose.
-/
module

public import proofs.«01_k».proof.Proof.RowGrad
public import proofs.«01_k».proof.Proof.Gen.FfnBwdIdeal
public import Idealize.ShloMosaic.Lib.Pointwise

@[expose] public section

noncomputable section

namespace Cert.FfnProof
open Idealize.ShloMosaic

/-- One half. -/
def half : EReal := Ideal.ofBits .f32 0x3F000000#32

/-- The square root of 2/π as the forward lines round it. -/
def gC : EReal := Ideal.ofBits .f32 0x3F4C422A#32

/-- That constant times the cubic term's coefficient. -/
def gK : EReal := Named.named (F := Ideal) (φ := .f32) Cert.FfnBwdIdeal.κ "gelu_ck" 0x3D122279#32

/-- Three times the latter. -/
def gK3 : EReal := Named.named (F := Ideal) (φ := .f32) Cert.FfnBwdIdeal.κ "gelu_3ck" 0x3DDB33B6#32

/-- The tanh of gelu. -/
def th (v : EReal) : EReal := Ideal.tanh (v * (gC + gK * (v * v)))

/-- Gelu as the kernel writes it. -/
def gel (v : EReal) : EReal := half * v + half * v * th v

/-- Gelu's derivative as the kernel writes it. -/
def dgel (v : EReal) : EReal := half + half * th v + half * v * ((1 - th v * th v) * (gC + gK3 * (v * v)))

/-- A causal convolution of three taps, the newest entry first. -/
def conv (w2 w1 w0 b x0 x1 x2 : EReal) : EReal := w2 * x0 + w1 * x1 + w0 * x2 + b

/-- Its transpose. -/
def corr (w2 w1 w0 d0 d1 d2 : EReal) : EReal := w2 * d0 + w1 * d1 + w0 * d2

end Cert.FfnProof
-- ==== Proof.FfnTile.lean ====
/-
  What one grid point of the gated convolution's backward call computes, index by index.

  A point takes 256 rows and works through the gate's two blocks of 1536 columns. For each block it buffers the gate's
  rows under the eight rows above them, convolves, takes gelu and its derivative, stores the convolution's gradient in a
  scratch whose last eight rows the point of the tile below has filled, and convolves that the other way.
-/
module

public import proofs.«01_k».proof.Proof.FfnRun
public import proofs.«01_k».proof.Proof.FfnRow
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

namespace Cert.FfnProof
open Cert.FfnBwdIdeal Cert.FfnBwdIdeal.Gen Cert.RowGrad
open Idealize.ShloMosaic Idealize.ShloMosaic.TcCoe Idealize.SL.Sem

variable (m : (ℓ : Loc nD τ sig) → Buf (Elt Ideal) ℓ)

/-- A load of one row block of the carried scratch, index by index. -/
theorem load_block (j : ℕ) (hj : j < 2) (f : (View.whole cc0_scratch1).ty.Contents (Elt Ideal)) (inb) (inb') (h0) (hs) (hst) (hR)
    (i : Fin 264) (e : Fin 1536) :
    (LoadRect.valAlong (lr := (Rect.unit (s := S264x1536) ![0, 0] ![264, 1536] inb').toLoadRect) hR
      (View.readAt (Elt Ideal) (View.whole cc0_scratch1)
        ((Rect.unit (s := S2x264x1536) ![j, 0, 0] ![1, 264, 1536] inb).withinL
          ((Rect.unit (s := S264x1536) ![0, 0] ![264, 1536] inb').toLoadRect.consLift ![1, 264, 1536] h0 hs) hst) f)) (ix2 i e)
      = (View.whole cc0_scratch1).read (Elt Ideal) f (ix3 ⟨j, hj⟩ i e) := by
  show (View.whole cc0_scratch1).read (Elt Ideal) f _ = _
  congr 1
  have hx : Shape.reshapeEquiv hR (ix2 i e) = Fin.cons ⟨0, Nat.one_pos⟩ (ix2 i e) :=
    Shape.reshapeEquiv_cons_one (d := ![264, 1536]) _ _
  rw [hx]
  funext a
  apply Fin.ext
  fin_cases a
  all_goals simp [LoadRect.idx_apply, Rect.withinL, LoadRect.consLift]
  · rfl
  · exact Nat.one_mul _

variable (X : Vec Ideal S264x1536 .f32) (w2 w1 w0 b : Vec Ideal S1x1536 .f32)
  (A S T u g : FVec Ideal S256x1536 .f32) (U : Vec Ideal S1x1x256x1536 .f32) (r : Fin 256) (e : Fin 1536)

theorem at_conv : k0_pay14 X (k0_pay11 X) w2 w1 w0 b (ix2 r e) = conv (w2 (ix2 0 e)) (w1 (ix2 0 e)) (w0 (ix2 0 e)) (b (ix2 0 e)) (X (ix2 ⟨8 + r, by omega⟩ e)) (X (ix2 ⟨7 + r, by omega⟩ e)) (X (ix2 ⟨6 + r, by omega⟩ e)) := by
  pointwise [conv, k0_pay14, k0_pay11, k0_pay12, k0_pay13]
  blk_point

theorem at_gel : k0_pay18 X (k0_pay11 X) w2 w1 w0 b (ix2 r e) = gel (k0_pay14 X (k0_pay11 X) w2 w1 w0 b (ix2 r e)) := by
  pointwise [gel, th, half, gC, gK, k0_pay18, k0_pay17, k0_pay16, k0_pay15]

theorem at_dgel : k0_pay19 X (k0_pay11 X) w2 w1 w0 b (ix2 r e) + k0_pay20 X (k0_pay11 X) w2 w1 w0 b (ix2 r e) = dgel (k0_pay14 X (k0_pay11 X) w2 w1 w0 b (ix2 r e)) := by
  pointwise [dgel, th, half, gC, gK, gK3, k0_pay19, k0_pay20, k0_pay17, k0_pay16, k0_pay15]

theorem at_dgc : k0_pay24 A S T U (ix3 0 r e) = A (ix2 r e) * U (ix4 0 0 r e) * (S (ix2 r e) + T (ix2 r e)) := by
  pointwise [k0_pay24, k0_pay22]

theorem at_du : k0_pay32 (k0_pay21 A S) (ix4 0 0 r e) = A (ix2 r e) * S (ix2 r e) := by
  pointwise [k0_pay32, k0_pay21]

theorem at_31 (a) : k0_pay31 (F := Ideal) a (ix4 0 0 r e) = a (ix2 r e) := by pointwise [k0_pay31]
theorem at_32 (a) : k0_pay32 (F := Ideal) a (ix4 0 0 r e) = a (ix2 r e) := by pointwise [k0_pay32]

theorem at_dgb (Y : Vec Ideal S264x1536 .f32) : k0_pay31 (k0_pay29 Y w2 w1 w0) (ix4 0 0 r e)
    = corr (w2 (ix2 0 e)) (w1 (ix2 0 e)) (w0 (ix2 0 e)) (Y (ix2 ⟨r, by omega⟩ e)) (Y (ix2 ⟨r + 1, by omega⟩ e)) (Y (ix2 ⟨r + 2, by omega⟩ e)) := by
  pointwise [k0_pay31, k0_pay29, corr]
  blk_point

theorem pay40_eq : k0_pay40 X (k0_pay36 X) (k0_pay37 X) w2 w1 w0 b = k0_pay14 X (k0_pay11 X) w2 w1 w0 b := rfl
theorem pay34_eq (c : grid0.Coords) (x) : k0_pay34 (F := Ideal) (Scalar.subi 31#32 (BitVec.ofNat 32 (c 0).val)) x = k0_pay9 c x := rfl
theorem pay35_eq (x) : k0_pay35 (F := Ideal) x = k0_pay10 x := rfl
theorem pay44_eq : k0_pay44 X (k0_pay36 X) (k0_pay37 X) w2 w1 w0 b = addf (k0_pay19 X (k0_pay11 X) w2 w1 w0 b) (k0_pay20 X (k0_pay11 X) w2 w1 w0 b) := rfl
theorem pay45_eq : k0_pay46 (k0_pay45 A X (k0_pay36 X) (k0_pay37 X) w2 w1 w0 b) = k0_pay21 A (k0_pay18 X (k0_pay11 X) w2 w1 w0 b) := rfl
theorem pay49_eq : k0_pay49 A (addf S T) U = k0_pay24 A S T U := rfl
theorem pay56_eq (Y : Vec Ideal S264x1536 .f32) : k0_pay56 Y w2 w1 w0 = k0_pay31 (k0_pay29 Y w2 w1 w0) := rfl
theorem pay54_eq (Y : Vec Ideal S264x1536 .f32) : k0_pay54 Y w2 w1 w0 = k0_pay29 Y w2 w1 w0 := rfl
theorem pay57_eq (y) : k0_pay57 (F := Ideal) y = k0_pay32 y := rfl
theorem pay48_eq (a) : k0_pay48 A (addf S T) U a = k0_pay23 A S T U a := rfl
theorem pay50_eq (a) : k0_pay50 A (k0_pay36 X) (addf S T) U a = k0_pay25 A (k0_pay11 X) S T U a := rfl
theorem pay51_eq (a) : k0_pay51 A (k0_pay38 (k0_pay37 X)) (addf S T) U a = k0_pay26 A (k0_pay12 X) S T U a := rfl
theorem pay52_eq (a) : k0_pay53 (k0_pay52 A (k0_pay39 X) (addf S T) U) a = k0_pay28 (k0_pay27 A (k0_pay13 X) S T U) a := rfl
theorem pay55_eq (a) : k0_pay55 (F := Ideal) a = k0_pay30 a := rfl

theorem at_bias (a : Vec Ideal S1x1536 .f32) : k0_pay23 A S T U a (ix2 0 e)
    = a (ix2 0 e) + ∑ r, A (ix2 r e) * U (ix4 0 0 r e) * (S (ix2 r e) + T (ix2 r e)) := by
  pointwise [k0_pay23, k0_pay22]

theorem at_tap2 (a : Vec Ideal S1x1536 .f32) : k0_pay25 A (k0_pay11 X) S T U a (ix2 0 e)
    = a (ix2 0 e) + ∑ r : Fin 256, A (ix2 r e) * U (ix4 0 0 r e) * (S (ix2 r e) + T (ix2 r e)) * X (ix2 ⟨8 + r, by omega⟩ e) := by
  pointwise [k0_pay25, k0_pay22, k0_pay11]

theorem at_tap1 (a : Vec Ideal S1x1536 .f32) : k0_pay26 A (k0_pay12 X) S T U a (ix2 0 e)
    = a (ix2 0 e) + ∑ r : Fin 256, A (ix2 r e) * U (ix4 0 0 r e) * (S (ix2 r e) + T (ix2 r e)) * X (ix2 ⟨7 + r, by omega⟩ e) := by
  pointwise [k0_pay26, k0_pay22, k0_pay12]
  blk_point

theorem at_tap0 (a : Vec Ideal S1x1536 .f32) : k0_pay28 (k0_pay27 A (k0_pay13 X) S T U) a (ix2 0 e)
    = a (ix2 0 e) + ∑ r : Fin 256, A (ix2 r e) * U (ix4 0 0 r e) * (S (ix2 r e) + T (ix2 r e)) * X (ix2 ⟨6 + r, by omega⟩ e) := by
  pointwise [k0_pay28, k0_pay27, k0_pay22, k0_pay13]
  blk_point

theorem at_hid (du dg : FVec Ideal S256x1536 .bf16) (p q : Vec Ideal S1x1024x1536 .bf16) (k : Fin 1024) : k0_pay33 du dg p q (ix2 r k)
    = (∑ l, dg (ix2 r l) * p (ix3 0 k l)) + ∑ l, du (ix2 r l) * q (ix3 0 k l) := by
  pointwise [k0_pay33]

theorem at_hid2 (h : FVec Ideal S256x1024 .f32) (du dg : FVec Ideal S256x1536 .bf16) (p q : Vec Ideal S1x1024x1536 .bf16) (k : Fin 1024) : k0_pay58 h du dg p q (ix2 r k)
    = h (ix2 r k) + ((∑ l, dg (ix2 r l) * p (ix3 0 k l)) + ∑ l, du (ix2 r l) * q (ix3 0 k l)) := by
  pointwise [k0_pay58]

theorem at_act (x : Vec Ideal S256x1024 .f32) (w : Vec Ideal S1x1536x1024 .bf16) : k0_pay7 x w (ix2 r e)
    = ∑ l, x (ix2 r l) * w (ix3 0 e l) := by
  pointwise [k0_pay7, k0_pay6]
theorem pay8_eq (x : Vec Ideal S256x1024 .f32) (w : Vec Ideal S1x1536x1024 .bf16) : k0_pay8 x w = k0_pay7 x w := rfl

theorem buf_rows (P : Vec Ideal S256x1536 .f32) (Q : Vec Ideal S8x1536 .f32) (L) (inb) (inb') (inb'') (i : Fin 264) :
    View.readCov (Val := Elt Ideal) (View.whole cc0_scratch0) (⟨Rect.unit (s := S264x1536) ![8, 0] ![256, 1536] inb, P⟩ ::
      ⟨Rect.unit (s := S264x1536) ![0, 0] ![8, 1536] inb', Q⟩ :: L) (Rect.unit (s := S264x1536) ![0, 0] ![264, 1536] inb'').toLoadRect (ix2 i e)
    = if h : i.val < 8 then Q (ix2 ⟨i, h⟩ e) else P (ix2 ⟨i - 8, by omega⟩ e) := by
  rw [View.readCov, View.readAt_apply]
  by_cases h : i.val < 8
  · rw [dif_pos h, View.read_writes_cons_unit_of_not_mem (s := S264x1536) _ _ inb P _ _ rfl 0 (by left; simp [LoadRect.idx_apply]; omega),
      View.read_writes_cons_unit_of_mem (s := S264x1536) _ _ inb' Q _ _ (ix2 ⟨i, h⟩ e) rfl (fun a => by fin_cases a <;> simp [LoadRect.idx_apply])]
  · rw [dif_neg h,
      View.read_writes_cons_unit_of_mem (s := S264x1536) _ _ inb P _ _ (ix2 ⟨i - 8, by omega⟩ e) rfl (fun a => by fin_cases a <;> simp [LoadRect.idx_apply]; omega)]

theorem store_new (j : ℕ) (hj : j < 2) (f : (View.whole cc0_scratch1).ty.Contents (Elt Ideal)) (P : Vec Ideal S1x256x1536 .f32) (inb) (L) (i : Fin 264) :
    (View.whole cc0_scratch1).read (Elt Ideal) ((View.whole cc0_scratch1).writes (Elt Ideal) f
      (⟨Rect.unit (s := S2x264x1536) ![j, 0, 0] ![1, 256, 1536] inb, P⟩ :: L)) (ix3 ⟨j, hj⟩ i e)
    = if h : i.val < 256 then P (ix3 0 ⟨i, h⟩ e) else
      (View.whole cc0_scratch1).read (Elt Ideal) ((View.whole cc0_scratch1).writes (Elt Ideal) f L) (ix3 ⟨j, hj⟩ i e) := by
  by_cases h : i.val < 256
  · rw [dif_pos h, View.read_writes_cons_unit_of_mem (s := S2x264x1536) _ _ inb P _ _ (ix3 0 ⟨i, h⟩ e) rfl (fun a => by fin_cases a <;> simp)]
  · rw [dif_neg h, View.read_writes_cons_unit_of_not_mem (s := S2x264x1536) _ _ inb P _ _ rfl 1 (by right; simp; omega)]

theorem store_tail (j : ℕ) (hj : j < 2) (f : (View.whole cc0_scratch1).ty.Contents (Elt Ideal)) (P : Vec Ideal S1x8x1536 .f32) (inb) (L) (i : Fin 8) :
    (View.whole cc0_scratch1).read (Elt Ideal) ((View.whole cc0_scratch1).writes (Elt Ideal) f
      (⟨Rect.unit (s := S2x264x1536) ![j, 256, 0] ![1, 8, 1536] inb, P⟩ :: L)) (ix3 ⟨j, hj⟩ ⟨256 + i, by omega⟩ e) = P (ix3 0 i e) := by
  rw [View.read_writes_cons_unit_of_mem (s := S2x264x1536) _ _ inb P _ _ (ix3 0 i e) rfl (fun a => by fin_cases a <;> simp)]

theorem store_other (j k : ℕ) (hj : j < 2) (hk : k ≠ j) (o n : ℕ) (f : (View.whole cc0_scratch1).ty.Contents (Elt Ideal)) (inb) (P) (L) (i : Fin 264) :
    (View.whole cc0_scratch1).read (Elt Ideal) ((View.whole cc0_scratch1).writes (Elt Ideal) f
      (⟨Rect.unit (s := S2x264x1536) ![k, o, 0] ![1, n, 1536] inb, P⟩ :: L)) (ix3 ⟨j, hj⟩ i e)
    = (View.whole cc0_scratch1).read (Elt Ideal) ((View.whole cc0_scratch1).writes (Elt Ideal) f L) (ix3 ⟨j, hj⟩ i e) := by
  rw [View.read_writes_cons_unit_of_not_mem (s := S2x264x1536) _ _ inb P _ _ rfl 0 (by simp; omega)]

theorem store_whole (f : (View.whole cc0_scratch1).ty.Contents (Elt Ideal)) (P : Vec Ideal S2x264x1536 .f32) (inb) (L) (y : S2x264x1536.Idx) :
    (View.whole cc0_scratch1).read (Elt Ideal) ((View.whole cc0_scratch1).writes (Elt Ideal) f
      (⟨Rect.unit (s := S2x264x1536) ![0, 0, 0] ![2, 264, 1536] inb, P⟩ :: L)) y = P y := by
  rw [View.read_writes_cons_unit_of_mem (s := S2x264x1536) _ _ inb _ _ _ y rfl (fun a => by fin_cases a <;> simp)]

/-- A copied row of the carried scratch. -/
theorem load_rows (j : ℕ) (hj : j < 2) (f : (View.whole cc0_scratch1).ty.Contents (Elt Ideal)) (inb) (i : Fin 8) :
    View.readAt (Elt Ideal) (View.whole cc0_scratch1) (Rect.unit (s := S2x264x1536) ![j, 0, 0] ![1, 8, 1536] inb).toLoadRect f (ix3 0 i e)
      = (View.whole cc0_scratch1).read (Elt Ideal) f (ix3 ⟨j, hj⟩ ⟨i, by omega⟩ e) := by
  show (View.whole cc0_scratch1).read (Elt Ideal) f _ = _
  congr 1
  funext a
  apply Fin.ext
  fin_cases a <;> simp [LoadRect.idx_apply]

/-! ## One tile -/

/-- A column of the block `j` of 1536 columns. -/
def colAt (j : Fin 2) (e : Fin 1536) : Fin 3072 := ⟨1536 * j + e, by omega⟩

/-- The gate before its convolution, with the eight rows above the tile. -/
def gT (c : Dev nD) (t : Fin cfg0.N) (j : Fin 2) (i : Fin 264) (e : Fin 1536) : EReal :=
  if h : i.val < 8 then
    Scalar.select (Scalar.cmpi .sgt (Scalar.subi 31#32 (BitVec.ofNat 32 (grid0.coords t 0).val)) 0#32) (iblk m c 6 t (ix4 0 j ⟨i, h⟩ e)) (0 : EReal)
  else iblk m c 5 t (ix4 0 j ⟨i - 8, by omega⟩ e)

/-- The tap `k`. -/
def wT (c : Dev nD) (t : Fin cfg0.N) (k : Fin 3) (j : Fin 2) (e : Fin 1536) : EReal := iblk m c 7 t (ix2 k (colAt j e))

/-- The gate's convolution. -/
def vT (c : Dev nD) (t : Fin cfg0.N) (j : Fin 2) (r : Fin 256) (e : Fin 1536) : EReal :=
  conv (wT m c t 2 j e) (wT m c t 1 j e) (wT m c t 0 j e) (iblk m c 8 t (ix2 0 (colAt j e))) (gT m c t j ⟨8 + r, by omega⟩ e)
    (gT m c t j ⟨7 + r, by omega⟩ e) (gT m c t j ⟨6 + r, by omega⟩ e)

/-- The incoming gradient's row. -/
def dT (c : Dev nD) (t : Fin cfg0.N) (r : Fin 256) (l : Fin 1024) : EReal := iblk m c 0 t (ix2 r l)

/-- The row of the last product's weight. -/
def downT (c : Dev nD) (t : Fin cfg0.N) (j : Fin 2) (e : Fin 1536) (l : Fin 1024) : EReal := iblk m c 3 t (ix3 j e l)

/-- The other half. -/
def sideT (c : Dev nD) (t : Fin cfg0.N) (j : Fin 2) (r : Fin 256) (e : Fin 1536) : EReal := iblk m c 5 t (ix4 1 j r e)

/-- The gradient at the product of gelu and the other half. -/
def aT (c : Dev nD) (t : Fin cfg0.N) (j : Fin 2) (r : Fin 256) (e : Fin 1536) : EReal :=
  ∑ l : Fin 1024, dT m c t r l * downT m c t j e l

/-- The gradient at the convolution. -/
def cT (c : Dev nD) (t : Fin cfg0.N) (j : Fin 2) (r : Fin 256) (e : Fin 1536) : EReal :=
  aT m c t j r e * sideT m c t j r e * dgel (vT m c t j r e)

/-- The gradient at the other half. -/
def uT (c : Dev nD) (t : Fin cfg0.N) (j : Fin 2) (r : Fin 256) (e : Fin 1536) : EReal := aT m c t j r e * gel (vT m c t j r e)

/-- The gradient at the convolution, followed by the rows carried from the tile below. -/
def nT (c : Dev nD) (t : Fin cfg0.N) (D : Vec Ideal S2x264x1536 .f32) (j : Fin 2) (i : Fin 264) (e : Fin 1536) : EReal :=
  if h : i.val < 256 then cT m c t j ⟨i, h⟩ e else D (ix3 j i e)

/-- The gradient at the gate. -/
def bT (c : Dev nD) (t : Fin cfg0.N) (D : Vec Ideal S2x264x1536 .f32) (j : Fin 2) (r : Fin 256) (e : Fin 1536) : EReal :=
  corr (wT m c t 2 j e) (wT m c t 1 j e) (wT m c t 0 j e) (nT m c t D j ⟨r, by omega⟩ e) (nT m c t D j ⟨r + 1, by omega⟩ e)
    (nT m c t D j ⟨r + 2, by omega⟩ e)

/-- What one column block's body reads: the gate's rows, the gradient at the product, the taps, the bias and the other half. -/
structure Block (c : Dev nD) (t : Fin cfg0.N) (j : Fin 2) (X : Vec Ideal S264x1536 .f32) (A : FVec Ideal S256x1536 .f32)
    (w2 w1 w0 b : Vec Ideal S1x1536 .f32) (U : Vec Ideal S1x1x256x1536 .f32) : Prop where
  gate : ∀ i e, X (ix2 i e) = gT m c t j i e
  act : ∀ r e, A (ix2 r e) = aT m c t j r e
  tap2 : ∀ e, w2 (ix2 0 e) = wT m c t 2 j e
  tap1 : ∀ e, w1 (ix2 0 e) = wT m c t 1 j e
  tap0 : ∀ e, w0 (ix2 0 e) = wT m c t 0 j e
  bias : ∀ e, b (ix2 0 e) = iblk m c 8 t (ix2 0 (colAt j e))
  up : ∀ r e, U (ix4 0 0 r e) = sideT m c t j r e

/-- The buffered gate is the tile's and the eight rows above it. -/
theorem gate_rows (c : Dev nD) (t : Fin cfg0.N) (j : ℕ) (hj : j < 2) (L) (inb) (inb') (inb'') (inb5) (inb6) (i : Fin 264) (e : Fin 1536) :
    View.readCov (Val := Elt Ideal) (View.whole cc0_scratch0)
      (⟨Rect.unit (s := S264x1536) ![8, 0] ![256, 1536] inb, k0_pay10 (View.ld (iblk m c 5 t) (Rect.unit ![0, j, 0, 0] ![1, 1, 256, 1536] inb5))⟩ ::
      ⟨Rect.unit (s := S264x1536) ![0, 0] ![8, 1536] inb', k0_pay9 (grid0.coords t) (View.ld (iblk m c 6 t) (Rect.unit ![0, j, 0, 0] ![1, 1, 8, 1536] inb6))⟩ :: L)
      (Rect.unit (s := S264x1536) ![0, 0] ![264, 1536] inb'').toLoadRect (ix2 i e) = gT m c t ⟨j, hj⟩ i e := by
  rw [buf_rows, gT]
  by_cases h : i.val < 8
  · simp only [dif_pos h]
    pointwise [k0_pay9]
  · simp only [dif_neg h]
    pointwise [k0_pay10]

theorem block_of (c : Dev nD) (t : Fin cfg0.N) (j o : ℕ) (hj : j < 2) (ho : o = 1536 * j) (X : Vec Ideal S264x1536 .f32) (i3) (i2) (i1) (i0) (i8) (i5)
    (hX : ∀ i e, X (ix2 i e) = gT m c t ⟨j, hj⟩ i e) :
    Block m c t ⟨j, hj⟩ X (k0_pay7 (iblk m c 0 t) (View.ld (iblk m c 3 t) (Rect.unit ![j, 0, 0] ![1, 1536, 1024] i3)))
      (View.ld (iblk m c 7 t) (Rect.unit ![2, o] ![1, 1536] i2)) (View.ld (iblk m c 7 t) (Rect.unit ![1, o] ![1, 1536] i1))
      (View.ld (iblk m c 7 t) (Rect.unit ![0, o] ![1, 1536] i0)) (View.ld (iblk m c 8 t) (Rect.unit ![0, o] ![1, 1536] i8))
      (View.ld (iblk m c 5 t) (Rect.unit ![1, j, 0, 0] ![1, 1, 256, 1536] i5)) := by
  subst ho
  refine ⟨hX, fun r e => ?_, fun e => ?_, fun e => ?_, fun e => ?_, fun e => ?_, fun r e => ?_⟩
  · rw [at_act, aT]
    pointwise [dT, downT]
  · rw [wT]; pointwise [colAt]
  · rw [wT]; pointwise [colAt]
  · rw [wT]; pointwise [colAt]
  · pointwise [colAt]
  · pointwise [sideT]

/-- The first block's reads. -/
theorem block0 (c : Dev nD) (t : Fin cfg0.N) (X : Vec Ideal S264x1536 .f32) (hX : ∀ i e, X (ix2 i e) = gT m c t 0 i e) :
    Block m c t 0 X (k0_pay7 (iblk m c 0 t) (View.ld (iblk m c 3 t) (Rect.unit ![0, 0, 0] ![1, 1536, 1024] inb_S2x1536x1024_S1x1536x1024_0_0_0)))
      (View.ld (iblk m c 7 t) (Rect.unit ![2, 0] ![1, 1536] inb_S3x3072_S1x1536_2_0)) (View.ld (iblk m c 7 t) (Rect.unit ![1, 0] ![1, 1536] inb_S3x3072_S1x1536_1_0))
      (View.ld (iblk m c 7 t) (Rect.unit ![0, 0] ![1, 1536] inb_S3x3072_S1x1536_0_0)) (View.ld (iblk m c 8 t) (Rect.unit ![0, 0] ![1, 1536] inb_S1x3072_S1x1536_0_0))
      (View.ld (iblk m c 5 t) (Rect.unit ![1, 0, 0, 0] ![1, 1, 256, 1536] inb_S2x2x256x1536_S1x1x256x1536_1_0_0_0)) :=
  block_of m c t 0 0 (by decide) rfl X _ _ _ _ _ _ hX

/-- The second block's reads. -/
theorem block1 (c : Dev nD) (t : Fin cfg0.N) (X : Vec Ideal S264x1536 .f32) (hX : ∀ i e, X (ix2 i e) = gT m c t 1 i e) :
    Block m c t 1 X (k0_pay7 (iblk m c 0 t) (View.ld (iblk m c 3 t) (Rect.unit ![1, 0, 0] ![1, 1536, 1024] inb_S2x1536x1024_S1x1536x1024_1_0_0)))
      (View.ld (iblk m c 7 t) (Rect.unit ![2, 1536] ![1, 1536] inb_S3x3072_S1x1536_2_1536)) (View.ld (iblk m c 7 t) (Rect.unit ![1, 1536] ![1, 1536] inb_S3x3072_S1x1536_1_1536))
      (View.ld (iblk m c 7 t) (Rect.unit ![0, 1536] ![1, 1536] inb_S3x3072_S1x1536_0_1536)) (View.ld (iblk m c 8 t) (Rect.unit ![0, 1536] ![1, 1536] inb_S1x3072_S1x1536_0_1536))
      (View.ld (iblk m c 5 t) (Rect.unit ![1, 1, 0, 0] ![1, 1, 256, 1536] inb_S2x2x256x1536_S1x1x256x1536_1_1_0_0)) :=
  block_of m c t 1 1536 (by decide) rfl X _ _ _ _ _ _ hX

section Block
variable {m} {c : Dev nD} {t : Fin cfg0.N} {j : Fin 2} {X : Vec Ideal S264x1536 .f32} {A : FVec Ideal S256x1536 .f32}
    {w2 w1 w0 b : Vec Ideal S1x1536 .f32} {U : Vec Ideal S1x1x256x1536 .f32} (B : Block m c t j X A w2 w1 w0 b U)
include B

theorem v_of (r : Fin 256) (e : Fin 1536) : k0_pay14 X (k0_pay11 X) w2 w1 w0 b (ix2 r e) = vT m c t j r e := by
  rw [at_conv, vT]
  simp only [B.gate, B.tap2, B.tap1, B.tap0, B.bias]

theorem c_of (r : Fin 256) (e : Fin 1536) :
    k0_pay24 A (k0_pay19 X (k0_pay11 X) w2 w1 w0 b) (k0_pay20 X (k0_pay11 X) w2 w1 w0 b) U (ix3 0 r e) = cT m c t j r e := by
  rw [at_dgc, at_dgel, v_of B, B.act, B.up, cT]

theorem u_of (r : Fin 256) (e : Fin 1536) :
    k0_pay21 A (k0_pay18 X (k0_pay11 X) w2 w1 w0 b) (ix2 r e) = uT m c t j r e := by
  rw [uT, ← B.act r e, ← v_of B, ← at_gel]
  pointwise [k0_pay21]

theorem b_of (D : Vec Ideal S2x264x1536 .f32) (Y : Vec Ideal S264x1536 .f32) (hY : ∀ i e, Y (ix2 i e) = nT m c t D j i e)
    (r : Fin 256) (e : Fin 1536) : k0_pay29 Y w2 w1 w0 (ix2 r e) = bT m c t D j r e := by
  have h := at_dgb w2 w1 w0 r e Y
  simp only [hY, B.tap2, B.tap1, B.tap0] at h
  rw [bT, ← h]
  pointwise [k0_pay31]

theorem bias_of (a : Vec Ideal S1x1536 .f32) (e : Fin 1536) :
    k0_pay23 A (k0_pay19 X (k0_pay11 X) w2 w1 w0 b) (k0_pay20 X (k0_pay11 X) w2 w1 w0 b) U a (ix2 0 e)
      = a (ix2 0 e) + ∑ r, cT m c t j r e := by
  rw [at_bias]
  simp only [at_dgel, v_of B, B.act, B.up, cT]

theorem tap2_of (a : Vec Ideal S1x1536 .f32) (e : Fin 1536) :
    k0_pay25 A (k0_pay11 X) (k0_pay19 X (k0_pay11 X) w2 w1 w0 b) (k0_pay20 X (k0_pay11 X) w2 w1 w0 b) U a (ix2 0 e)
      = a (ix2 0 e) + ∑ r, cT m c t j r e * gT m c t j ⟨8 + r, by omega⟩ e := by
  rw [at_tap2]
  simp only [at_dgel, v_of B, B.act, B.up, B.gate, cT]

theorem tap1_of (a : Vec Ideal S1x1536 .f32) (e : Fin 1536) :
    k0_pay26 A (k0_pay12 X) (k0_pay19 X (k0_pay11 X) w2 w1 w0 b) (k0_pay20 X (k0_pay11 X) w2 w1 w0 b) U a (ix2 0 e)
      = a (ix2 0 e) + ∑ r, cT m c t j r e * gT m c t j ⟨7 + r, by omega⟩ e := by
  rw [at_tap1]
  simp only [at_dgel, v_of B, B.act, B.up, B.gate, cT]

theorem tap0_of (a : Vec Ideal S1x1536 .f32) (e : Fin 1536) :
    k0_pay28 (k0_pay27 A (k0_pay13 X) (k0_pay19 X (k0_pay11 X) w2 w1 w0 b) (k0_pay20 X (k0_pay11 X) w2 w1 w0 b) U) a (ix2 0 e)
      = a (ix2 0 e) + ∑ r, cT m c t j r e * gT m c t j ⟨6 + r, by omega⟩ e := by
  rw [at_tap0]
  simp only [at_dgel, v_of B, B.act, B.up, B.gate, cT]

end Block

/-- The carried scratch's rows as the convolution's gradient reads them. -/
theorem next_rows (c : Dev nD) (t : Fin cfg0.N) (D : Vec Ideal S2x264x1536 .f32) (j : ℕ) (hj : j < 2) (f : (View.whole cc0_scratch1).ty.Contents (Elt Ideal))
    (P : Vec Ideal S1x256x1536 .f32) (L) (inbP) (inb) (inb') (h0) (hs) (hst) (hR)
    (hP : ∀ r e, P (ix3 0 r e) = cT m c t ⟨j, hj⟩ r e)
    (hL : ∀ y : Fin 264 × Fin 1536, (View.whole cc0_scratch1).read (Elt Ideal) ((View.whole cc0_scratch1).writes (Elt Ideal) f L) (ix3 ⟨j, hj⟩ y.1 y.2) = D (ix3 ⟨j, hj⟩ y.1 y.2))
    (i : Fin 264) (e : Fin 1536) :
    (LoadRect.valAlong (lr := (Rect.unit (s := S264x1536) ![0, 0] ![264, 1536] inb').toLoadRect) hR
      (View.readAt (Elt Ideal) (View.whole cc0_scratch1)
        ((Rect.unit (s := S2x264x1536) ![j, 0, 0] ![1, 264, 1536] inb).withinL
          ((Rect.unit (s := S264x1536) ![0, 0] ![264, 1536] inb').toLoadRect.consLift ![1, 264, 1536] h0 hs) hst)
        ((View.whole cc0_scratch1).writes (Elt Ideal) f (⟨Rect.unit (s := S2x264x1536) ![j, 0, 0] ![1, 256, 1536] inbP, P⟩ :: L)))) (ix2 i e)
      = nT m c t D ⟨j, hj⟩ i e := by
  refine (load_block j hj _ _ _ _ _ _ _ i e).trans ?_
  rw [store_new, nT]
  by_cases h : i.val < 256
  · simp only [dif_pos h, hP]
  · simp only [dif_neg h]
    exact hL (i, e)

/-! ## The norm's gradient -/

/-- A row of the norm's input. -/
def xT (c : Dev nD) (t : Fin cfg0.N) (r : Fin 256) (k : Fin 1024) : EReal := iblk m c 1 t (ix2 r k)

/-- The norm's scale. -/
def sT (c : Dev nD) (t : Fin cfg0.N) (k : Fin 1024) : EReal := iblk m c 2 t (ix2 0 k)

/-- A row of one column block of the first product's weight. -/
def upT (c : Dev nD) (t : Fin cfg0.N) (b : Fin 4) (k : Fin 1024) (l : Fin 1536) : EReal := iblk m c 4 t (ix3 b k l)

/-- The gradient at the norm's output, one column block of each half after the other. -/
def hT (c : Dev nD) (t : Fin cfg0.N) (D : Vec Ideal S2x264x1536 .f32) (r : Fin 256) (k : Fin 1024) : EReal :=
  ((∑ l, bT m c t D 0 r l * upT m c t 0 k l) + ∑ l, uT m c t 0 r l * upT m c t 2 k l)
    + ((∑ l, bT m c t D 1 r l * upT m c t 1 k l) + ∑ l, uT m c t 1 r l * upT m c t 3 k l)

theorem hid_of (c : Dev nD) (t : Fin cfg0.N) (D : Vec Ideal S2x264x1536 .f32) (u0 b0 u1 b1 : FVec Ideal S256x1536 .bf16) (i0) (i1) (i2) (i3)
    (hu0 : ∀ r e, u0 (ix2 r e) = uT m c t 0 r e) (hb0 : ∀ r e, b0 (ix2 r e) = bT m c t D 0 r e)
    (hu1 : ∀ r e, u1 (ix2 r e) = uT m c t 1 r e) (hb1 : ∀ r e, b1 (ix2 r e) = bT m c t D 1 r e) (r : Fin 256) (k : Fin 1024) :
    k0_pay58 (k0_pay33 u0 b0 (View.ld (iblk m c 4 t) (Rect.unit ![0, 0, 0] ![1, 1024, 1536] i0))
      (View.ld (iblk m c 4 t) (Rect.unit ![2, 0, 0] ![1, 1024, 1536] i2))) u1 b1
      (View.ld (iblk m c 4 t) (Rect.unit ![1, 0, 0] ![1, 1024, 1536] i1))
      (View.ld (iblk m c 4 t) (Rect.unit ![3, 0, 0] ![1, 1024, 1536] i3)) (ix2 r k) = hT m c t D r k := by
  rw [at_hid2, at_hid, hT]
  simp only [hu0, hb0, hu1, hb1]
  pointwise [upT]

/-- No rows carried. -/
abbrev noRows : Vec Ideal S2x264x1536 .f32 := k0_pay5 (F := Ideal)

theorem at_scale (H : FVec Ideal S256x1024 .f32) (u b : FVec Ideal S256x1536 .bf16) (p q : Vec Ideal S1x1024x1536 .bf16) (c : Dev nD) (t : Fin cfg0.N)
    (a : Vec Ideal S1x1024 .f32) (e : Fin 1024) : k0_pay61 H u b p q (iblk m c 1 t) a (ix2 0 e)
    = a (ix2 0 e) + ∑ r, k0_pay58 H u b p q (ix2 r e) * (xT m c t r e * rinv (xT m c t r)) := by
  pointwise [k0_pay61, k0_pay60, k0_pay59, xT, rinv]

theorem at_rows (H : FVec Ideal S256x1024 .f32) (u b : FVec Ideal S256x1536 .bf16) (p q : Vec Ideal S1x1024x1536 .bf16) (c : Dev nD) (t : Fin cfg0.N)
    (r : Fin 256) (e : Fin 1024) : k0_pay1 (iblk m c 0 t) (k0_pay59 (iblk m c 1 t)) (k0_pay60 (iblk m c 1 t)) (k0_pay62 H u b p q (iblk m c 2 t))
      (k0_pay63 H u b p q (iblk m c 1 t) (iblk m c 2 t)) (ix2 r e)
    = dT m c t r e + rmsGrad (xT m c t r) (fun k => k0_pay58 H u b p q (ix2 r k) * sT m c t k) e := by
  pointwise [k0_pay1, k0_pay62, k0_pay63, k0_pay60, k0_pay59, xT, sT, dT, rinv, rmsGrad]

end Cert.FfnProof
-- ==== Proof.FfnPoint.lean ====
/-
  What one grid point of the gated convolution's backward call leaves in each output and in the carried scratch.
-/
module

public import proofs.«01_k».proof.Proof.FfnTile

@[expose] public section

set_option maxRecDepth 16384

noncomputable section

namespace Cert.FfnProof
open Cert.FfnBwdIdeal Cert.FfnBwdIdeal.Gen Cert.RowGrad
open Idealize.ShloMosaic Idealize.ShloMosaic.TcCoe Idealize.SL.Sem

variable (m : (ℓ : Loc nD τ sig) → Buf (Elt Ideal) ℓ)

/-- A later point's blocks of the gradient at the first product. -/
theorem gates_next (c : Dev nD) (t : Fin cfg0.N) (h : ¬ t.val % 32 = 0) (p : Cert.FfnRun.Left Ideal) (i j : Fin 2) (r : Fin 256) (e : Fin 1536) :
    (Cert.FfnRun.leftNext m c t h p).1 (ix4 i j r e) = if i = 0 then bT m c t p.2.2.2.2.2 j r e else uT m c t j r e := by
  obtain ⟨p9, p10, p11, p12, p13, D⟩ := p
  simp only [Cert.FfnRun.leftNext, Cert.FfnRun.gatesNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  canon_tiles x h
  all_goals simp only [ix4_0, ix4_1, ix4_2, ix4_3] at h0 h1 h2 h3
  on_goal 4 => obtain ⟨rfl, rfl⟩ : i = 0 ∧ j = 0 := ⟨Fin.ext (show i.val = 0 by omega), Fin.ext (show j.val = 0 by omega)⟩
  on_goal 3 => obtain ⟨rfl, rfl⟩ : i = 1 ∧ j = 0 := ⟨Fin.ext (show i.val = 1 by omega), Fin.ext (show j.val = 0 by omega)⟩
  on_goal 2 => obtain ⟨rfl, rfl⟩ : i = 0 ∧ j = 1 := ⟨Fin.ext (show i.val = 0 by omega), Fin.ext (show j.val = 1 by omega)⟩
  on_goal 1 => obtain ⟨rfl, rfl⟩ : i = 1 ∧ j = 1 := ⟨Fin.ext (show i.val = 1 by omega), Fin.ext (show j.val = 1 by omega)⟩
  all_goals obtain rfl : x = ix4 0 0 r e := by blk_ext
  · exact (at_32 r e _).trans (u_of B1 r e)
  · rw [if_pos rfl]
    refine (at_31 r e _).trans (b_of B1 D _ (next_rows m c t D 1 (by decide) _ _ _ _ _ _ _ _ _ _ (c_of B1) fun y => ?_) r e)
    rw [store_other _ 1 0 (by decide) (by decide), store_other _ 1 0 (by decide) (by decide)]
    exact congrFun (Memref.IsWhole.read_unread _ D) _
  · exact (at_32 r e _).trans (u_of B0 r e)
  · rw [if_pos rfl]
    refine (at_31 r e _).trans (b_of B0 D _ (next_rows m c t D 0 (by decide) _ _ _ _ _ _ _ _ _ _ (c_of B0) fun y => ?_) r e)
    exact congrFun (Memref.IsWhole.read_unread _ D) _

/-- The first point's blocks of the gradient at the first product. -/
theorem gates_first (c : Dev nD) (t : Fin cfg0.N) (h : t.val % 32 = 0) (i j : Fin 2) (r : Fin 256) (e : Fin 1536) :
    (Cert.FfnRun.leftFirst m c t h).1 (ix4 i j r e) = if i = 0 then bT m c t noRows j r e else uT m c t j r e := by
  simp only [Cert.FfnRun.leftFirst, Cert.FfnRun.gatesFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  canon_tiles x h
  all_goals simp only [ix4_0, ix4_1, ix4_2, ix4_3] at h0 h1 h2 h3
  on_goal 4 => obtain ⟨rfl, rfl⟩ : i = 0 ∧ j = 0 := ⟨Fin.ext (show i.val = 0 by omega), Fin.ext (show j.val = 0 by omega)⟩
  on_goal 3 => obtain ⟨rfl, rfl⟩ : i = 1 ∧ j = 0 := ⟨Fin.ext (show i.val = 1 by omega), Fin.ext (show j.val = 0 by omega)⟩
  on_goal 2 => obtain ⟨rfl, rfl⟩ : i = 0 ∧ j = 1 := ⟨Fin.ext (show i.val = 0 by omega), Fin.ext (show j.val = 1 by omega)⟩
  on_goal 1 => obtain ⟨rfl, rfl⟩ : i = 1 ∧ j = 1 := ⟨Fin.ext (show i.val = 1 by omega), Fin.ext (show j.val = 1 by omega)⟩
  all_goals obtain rfl : x = ix4 0 0 r e := by blk_ext
  · exact (at_32 r e _).trans (u_of B1 r e)
  · rw [if_pos rfl]
    refine (at_31 r e _).trans (b_of B1 noRows _ (next_rows m c t noRows 1 (by decide) _ _ _ _ _ _ _ _ _ _ (c_of B1) fun y => ?_) r e)
    rw [store_other _ 1 0 (by decide) (by decide), store_other _ 1 0 (by decide) (by decide)]
    exact store_whole _ _ _ _ _
  · exact (at_32 r e _).trans (u_of B0 r e)
  · rw [if_pos rfl]
    refine (at_31 r e _).trans (b_of B0 noRows _ (next_rows m c t noRows 0 (by decide) _ _ _ _ _ _ _ _ _ _ (c_of B0) fun y => ?_) r e)
    exact store_whole _ _ _ _ _

/-- A later point's rows of the input's gradient. -/
theorem rows_next (c : Dev nD) (t : Fin cfg0.N) (h : ¬ t.val % 32 = 0) (p : Cert.FfnRun.Left Ideal) (r : Fin 256) (e : Fin 1024) :
    (Cert.FfnRun.leftNext m c t h p).2.1 (ix2 r e)
      = dT m c t r e + rmsGrad (xT m c t r) (fun k => hT m c t p.2.2.2.2.2 r k * sT m c t k) e := by
  obtain ⟨p9, p10, p11, p12, p13, D⟩ := p
  simp only [Cert.FfnRun.leftNext, Cert.FfnRun.rowsNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  refine (at_rows m _ _ _ _ _ c t r e).trans (congrArg (fun f => dT m c t r e + rmsGrad (xT m c t r) f e) (funext fun k => congrArg (· * _) ?_))
  refine hid_of m c t D _ _ _ _ _ _ _ _ (u_of B0) (b_of B0 D _ (next_rows m c t D 0 (by decide) _ _ _ _ _ _ _ _ _ _ (c_of B0) fun y => ?_))
    (u_of B1) (b_of B1 D _ (next_rows m c t D 1 (by decide) _ _ _ _ _ _ _ _ _ _ (c_of B1) fun y => ?_)) r _
  · exact congrFun (Memref.IsWhole.read_unread _ D) _
  · rw [store_other _ 1 0 (by decide) (by decide), store_other _ 1 0 (by decide) (by decide)]
    exact congrFun (Memref.IsWhole.read_unread _ D) _

/-- The first point's rows of the input's gradient. -/
theorem rows_first (c : Dev nD) (t : Fin cfg0.N) (h : t.val % 32 = 0) (r : Fin 256) (e : Fin 1024) :
    (Cert.FfnRun.leftFirst m c t h).2.1 (ix2 r e)
      = dT m c t r e + rmsGrad (xT m c t r) (fun k => hT m c t noRows r k * sT m c t k) e := by
  simp only [Cert.FfnRun.leftFirst, Cert.FfnRun.rowsFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  refine (at_rows m _ _ _ _ _ c t r e).trans (congrArg (fun f => dT m c t r e + rmsGrad (xT m c t r) f e) (funext fun k => congrArg (· * _) ?_))
  refine hid_of m c t noRows _ _ _ _ _ _ _ _ (u_of B0) (b_of B0 noRows _ (next_rows m c t noRows 0 (by decide) _ _ _ _ _ _ _ _ _ _ (c_of B0) fun y => ?_))
    (u_of B1) (b_of B1 noRows _ (next_rows m c t noRows 1 (by decide) _ _ _ _ _ _ _ _ _ _ (c_of B1) fun y => ?_)) r _
  · exact store_whole _ _ _ _ _
  · rw [store_other _ 1 0 (by decide) (by decide), store_other _ 1 0 (by decide) (by decide)]
    exact store_whole _ _ _ _ _

/-- A later point adds its rows to the scale's gradient. -/
theorem scale_next (c : Dev nD) (t : Fin cfg0.N) (h : ¬ t.val % 32 = 0) (p : Cert.FfnRun.Left Ideal) (e : Fin 1024) :
    (Cert.FfnRun.leftNext m c t h p).2.2.1 (ix2 0 e)
      = p.2.2.1 (ix2 0 e) + ∑ r, hT m c t p.2.2.2.2.2 r e * (xT m c t r e * rinv (xT m c t r)) := by
  obtain ⟨p9, p10, p11, p12, p13, D⟩ := p
  simp only [Cert.FfnRun.leftNext, Cert.FfnRun.scaleNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  refine (at_scale m _ _ _ _ _ c t p11 e).trans (congrArg (p11 (ix2 0 e) + ·) (Finset.sum_congr rfl fun r _ => congrArg (· * _) ?_))
  refine hid_of m c t D _ _ _ _ _ _ _ _ (u_of B0) (b_of B0 D _ (next_rows m c t D 0 (by decide) _ _ _ _ _ _ _ _ _ _ (c_of B0) fun y => ?_))
    (u_of B1) (b_of B1 D _ (next_rows m c t D 1 (by decide) _ _ _ _ _ _ _ _ _ _ (c_of B1) fun y => ?_)) r _
  · exact congrFun (Memref.IsWhole.read_unread _ D) _
  · rw [store_other _ 1 0 (by decide) (by decide), store_other _ 1 0 (by decide) (by decide)]
    exact congrFun (Memref.IsWhole.read_unread _ D) _

end Cert.FfnProof
-- ==== Proof.FfnCarry.lean ====
/-
  What one grid point of the gated convolution's backward call leaves in each output and in the carried scratch.
-/
module

public import proofs.«01_k».proof.Proof.FfnPoint

@[expose] public section

set_option maxRecDepth 16384

noncomputable section

namespace Cert.FfnProof
open Cert.FfnBwdIdeal Cert.FfnBwdIdeal.Gen Cert.RowGrad
open Idealize.ShloMosaic Idealize.ShloMosaic.TcCoe Idealize.SL.Sem

variable (m : (ℓ : Loc nD τ sig) → Buf (Elt Ideal) ℓ)

/-- An entry under the newest store reads that store's value there. -/
theorem canon_hit {S : Shape} {φ : EltTy} {off size : Fin S.rank → ℕ} (inb : ∀ a, off a + size a ≤ S.size a) (w : (Rect.unit off size inb).shape.Idx → Elt Ideal φ)
    (L : List (View.Piece (Elt Ideal) S φ)) (y : S.Idx) (x : (Rect.unit off size inb).shape.Idx) (hx : ∀ a, (y a).val = off a + (x a).val) :
    View.canon (⟨Rect.unit off size inb, w⟩ :: L) y = w x := by
  obtain rfl : (Rect.unit off size inb).emb x = y := funext fun a => Fin.ext (by rw [hx a]; exact ValueKit.rect_emb_unit_val _ _ _ _ _)
  exact View.canon_cons_emb _ _ _ _

/-- An entry outside the newest store reads the older ones. -/
theorem canon_miss {S : Shape} {φ : EltTy} {off size : Fin S.rank → ℕ} (inb : ∀ a, off a + size a ≤ S.size a) (w : (Rect.unit off size inb).shape.Idx → Elt Ideal φ)
    (L : List (View.Piece (Elt Ideal) S φ)) (y : S.Idx) (a : Fin S.rank) (ha : (y a).val < off a ∨ off a + size a ≤ (y a).val) :
    View.canon (⟨Rect.unit off size inb, w⟩ :: L) y = View.canon L y := by
  refine View.canon_cons_of_not_mem _ _ fun h => ?_
  have := Rect.mem_set_unit.mp (show y ∈ (Rect.unit off size inb).set from h) a
  omega

theorem scale_first (c : Dev nD) (t : Fin cfg0.N) (h : t.val % 32 = 0) (e : Fin 1024) :
    (Cert.FfnRun.leftFirst m c t h).2.2.1 (ix2 0 e)
      = 0 + ∑ r, hT m c t noRows r e * (xT m c t r e * rinv (xT m c t r)) := by
  simp only [Cert.FfnRun.leftFirst, Cert.FfnRun.scaleFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1

  refine (at_scale m _ _ _ _ _ c t _ e).trans (congrArg₂ (· + ·) ?_ (Finset.sum_congr rfl fun r _ => congrArg (· * _) ?_))
  · pointwise [k0_pay2]
  refine hid_of m c t noRows _ _ _ _ _ _ _ _ (u_of B0) (b_of B0 noRows _ (next_rows m c t noRows 0 (by decide) _ _ _ _ _ _ _ _ _ _ (c_of B0) fun y => ?_))
    (u_of B1) (b_of B1 noRows _ (next_rows m c t noRows 1 (by decide) _ _ _ _ _ _ _ _ _ _ (c_of B1) fun y => ?_)) r _
  · exact store_whole _ _ _ _ _
  · rw [store_other _ 1 0 (by decide) (by decide), store_other _ 1 0 (by decide) (by decide)]
    exact store_whole _ _ _ _ _

theorem bias_next (c : Dev nD) (t : Fin cfg0.N) (h : ¬ t.val % 32 = 0) (p : Cert.FfnRun.Left Ideal) (j : Fin 2) (e : Fin 1536) :
    (Cert.FfnRun.leftNext m c t h p).2.2.2.2.1 (ix2 0 (colAt j e)) = p.2.2.2.2.1 (ix2 0 (colAt j e)) + ∑ r, cT m c t j r e := by
  obtain ⟨p9, p10, p11, p12, p13, D⟩ := p
  simp only [Cert.FfnRun.leftNext, Cert.FfnRun.biasNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  canon_tiles x h
  all_goals simp only [ix2_0, ix2_1, colAt] at h0 h1
  on_goal 2 => obtain rfl : j = 0 := Fin.ext (show j.val = 0 by omega)
  on_goal 1 => obtain rfl : j = 1 := Fin.ext (show j.val = 1 by omega)
  all_goals obtain rfl : x = ix2 0 e := by blk_ext
  · refine (bias_of B1 _ e).trans ?_
    pointwise [colAt]
  · refine (bias_of B0 _ e).trans ?_
    pointwise [colAt]

theorem bias_first (c : Dev nD) (t : Fin cfg0.N) (h : t.val % 32 = 0) (j : Fin 2) (e : Fin 1536) :
    (Cert.FfnRun.leftFirst m c t h).2.2.2.2.1 (ix2 0 (colAt j e)) = 0 + ∑ r, cT m c t j r e := by
  simp only [Cert.FfnRun.leftFirst, Cert.FfnRun.biasFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  simp (disch := decide) only [↓View.readCov_skip, ↓View.readCov_fill]
  obtain rfl | rfl : j = 0 ∨ j = 1 := by omega
  · rw [canon_miss _ _ _ _ 1 (by simp [colAt])]
    refine ((canon_hit _ _ _ _ (ix2 0 e) (fun a => by fin_cases a <;> simp [colAt])).trans (bias_of B0 _ e)).trans (congrArg (· + _) ?_)
    pointwise [k0_pay4]
  · refine ((canon_hit _ _ _ _ (ix2 0 e) (fun a => by fin_cases a <;> simp [colAt])).trans (bias_of B1 _ e)).trans (congrArg (· + _) ?_)
    pointwise [k0_pay4]

theorem taps_next (c : Dev nD) (t : Fin cfg0.N) (h : ¬ t.val % 32 = 0) (p : Cert.FfnRun.Left Ideal) (k : Fin 3) (j : Fin 2) (e : Fin 1536) :
    (Cert.FfnRun.leftNext m c t h p).2.2.2.1 (ix2 k (colAt j e)) = p.2.2.2.1 (ix2 k (colAt j e)) + ∑ r, cT m c t j r e * gT m c t j ⟨6 + k.val + r.val, by omega⟩ e := by
  obtain ⟨p9, p10, p11, p12, p13, D⟩ := p
  simp only [Cert.FfnRun.leftNext, Cert.FfnRun.tapsNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  fin_cases k <;> obtain rfl | rfl : j = 0 ∨ j = 1 := by omega
  · rw [canon_miss _ _ _ _ 1 (by simp [colAt])]
    rw [canon_miss _ _ _ _ 1 (by simp [colAt])]
    rw [canon_miss _ _ _ _ 1 (by simp [colAt])]
    refine ((canon_hit _ _ _ _ (ix2 0 e) (fun a => by fin_cases a <;> simp [colAt])).trans (tap0_of B0 _ e)).trans (congrArg (· + _) ?_)
    pointwise [colAt]
  · refine ((canon_hit _ _ _ _ (ix2 0 e) (fun a => by fin_cases a <;> simp [colAt])).trans (tap0_of B1 _ e)).trans (congrArg (· + _) ?_)
    pointwise [colAt]
  · rw [canon_miss _ _ _ _ 1 (by simp [colAt])]
    rw [canon_miss _ _ _ _ 1 (by simp [colAt])]
    rw [canon_miss _ _ _ _ 1 (by simp [colAt])]
    rw [canon_miss _ _ _ _ 0 (by simp [colAt])]
    refine ((canon_hit _ _ _ _ (ix2 0 e) (fun a => by fin_cases a <;> simp [colAt])).trans (tap1_of B0 _ e)).trans (congrArg (· + _) ?_)
    pointwise [colAt]
  · rw [canon_miss _ _ _ _ 0 (by simp [colAt])]
    refine ((canon_hit _ _ _ _ (ix2 0 e) (fun a => by fin_cases a <;> simp [colAt])).trans (tap1_of B1 _ e)).trans (congrArg (· + _) ?_)
    pointwise [colAt]
  · rw [canon_miss _ _ _ _ 1 (by simp [colAt])]
    rw [canon_miss _ _ _ _ 1 (by simp [colAt])]
    rw [canon_miss _ _ _ _ 1 (by simp [colAt])]
    rw [canon_miss _ _ _ _ 0 (by simp [colAt])]
    rw [canon_miss _ _ _ _ 0 (by simp [colAt])]
    refine ((canon_hit _ _ _ _ (ix2 0 e) (fun a => by fin_cases a <;> simp [colAt])).trans (tap2_of B0 _ e)).trans (congrArg (· + _) ?_)
    pointwise [colAt]
  · rw [canon_miss _ _ _ _ 0 (by simp [colAt])]
    rw [canon_miss _ _ _ _ 0 (by simp [colAt])]
    refine ((canon_hit _ _ _ _ (ix2 0 e) (fun a => by fin_cases a <;> simp [colAt])).trans (tap2_of B1 _ e)).trans (congrArg (· + _) ?_)
    pointwise [colAt]

theorem taps_first (c : Dev nD) (t : Fin cfg0.N) (h : t.val % 32 = 0) (k : Fin 3) (j : Fin 2) (e : Fin 1536) :
    (Cert.FfnRun.leftFirst m c t h).2.2.2.1 (ix2 k (colAt j e)) = 0 + ∑ r, cT m c t j r e * gT m c t j ⟨6 + k.val + r.val, by omega⟩ e := by
  simp only [Cert.FfnRun.leftFirst, Cert.FfnRun.tapsFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  simp (disch := decide) only [↓View.readCov_skip, ↓View.readCov_fill]
  fin_cases k <;> obtain rfl | rfl : j = 0 ∨ j = 1 := by omega
  · rw [canon_miss _ _ _ _ 1 (by simp [colAt])]
    rw [canon_miss _ _ _ _ 1 (by simp [colAt])]
    rw [canon_miss _ _ _ _ 1 (by simp [colAt])]
    refine ((canon_hit _ _ _ _ (ix2 0 e) (fun a => by fin_cases a <;> simp [colAt])).trans (tap0_of B0 _ e)).trans (congrArg (· + _) ?_)
    pointwise [k0_pay3]
  · refine ((canon_hit _ _ _ _ (ix2 0 e) (fun a => by fin_cases a <;> simp [colAt])).trans (tap0_of B1 _ e)).trans (congrArg (· + _) ?_)
    pointwise [k0_pay3]
  · rw [canon_miss _ _ _ _ 1 (by simp [colAt])]
    rw [canon_miss _ _ _ _ 1 (by simp [colAt])]
    rw [canon_miss _ _ _ _ 1 (by simp [colAt])]
    rw [canon_miss _ _ _ _ 0 (by simp [colAt])]
    refine ((canon_hit _ _ _ _ (ix2 0 e) (fun a => by fin_cases a <;> simp [colAt])).trans (tap1_of B0 _ e)).trans (congrArg (· + _) ?_)
    pointwise [k0_pay3]
  · rw [canon_miss _ _ _ _ 0 (by simp [colAt])]
    refine ((canon_hit _ _ _ _ (ix2 0 e) (fun a => by fin_cases a <;> simp [colAt])).trans (tap1_of B1 _ e)).trans (congrArg (· + _) ?_)
    pointwise [k0_pay3]
  · rw [canon_miss _ _ _ _ 1 (by simp [colAt])]
    rw [canon_miss _ _ _ _ 1 (by simp [colAt])]
    rw [canon_miss _ _ _ _ 1 (by simp [colAt])]
    rw [canon_miss _ _ _ _ 0 (by simp [colAt])]
    rw [canon_miss _ _ _ _ 0 (by simp [colAt])]
    refine ((canon_hit _ _ _ _ (ix2 0 e) (fun a => by fin_cases a <;> simp [colAt])).trans (tap2_of B0 _ e)).trans (congrArg (· + _) ?_)
    pointwise [k0_pay3]
  · rw [canon_miss _ _ _ _ 0 (by simp [colAt])]
    rw [canon_miss _ _ _ _ 0 (by simp [colAt])]
    refine ((canon_hit _ _ _ _ (ix2 0 e) (fun a => by fin_cases a <;> simp [colAt])).trans (tap2_of B1 _ e)).trans (congrArg (· + _) ?_)
    pointwise [k0_pay3]

/-- Where a copied row lies. -/
theorem row_idx (j : ℕ) (hj : j < 2) (inb) (i : Fin 8) (e : Fin 1536) :
    (Rect.unit (s := S2x264x1536) ![j, 0, 0] ![1, 8, 1536] inb).toLoadRect.idx (ix3 0 i e) = ix3 ⟨j, hj⟩ ⟨i, by omega⟩ e := by
  funext a
  apply Fin.ext
  fin_cases a <;> simp [LoadRect.idx_apply]

/-- The kept rows are copied as they are. -/
theorem at_tail (a : Vec Ideal S1x8x1536 .f32) (i : Fin 8) (e : Fin 1536) : k0_pay30 a (ix3 0 i e) = a (ix3 0 i e) := by
  pointwise [k0_pay30]

theorem halo_next (c : Dev nD) (t : Fin cfg0.N) (h : ¬ t.val % 32 = 0) (p : Cert.FfnRun.Left Ideal) (j : Fin 2) (i : Fin 8) (e : Fin 1536) :
    (Cert.FfnRun.leftNext m c t h p).2.2.2.2.2 (ix3 j ⟨256 + i, by omega⟩ e) = cT m c t j ⟨i, by omega⟩ e := by
  obtain ⟨p9, p10, p11, p12, p13, D⟩ := p
  simp only [Cert.FfnRun.leftNext, Cert.FfnRun.haloNext, Cert.FfnRun.runNext]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  obtain ⟨r, hr⟩ : ∃ r : Fin 256, r.val = i.val := ⟨⟨i, by omega⟩, rfl⟩
  rw [show (⟨i, by omega⟩ : Fin 256) = r from Fin.ext hr.symm]
  obtain ⟨x, hx⟩ : ∃ x : S1x256x1536.Idx, x = ix3 0 r e := ⟨_, rfl⟩
  obtain rfl | rfl : j = 0 ∨ j = 1 := by omega
  · rw [canon_miss _ _ _ _ 0 (by simp), canon_miss _ _ _ _ 0 (by simp)]
    refine (canon_hit _ _ _ _ (ix3 0 i e) (fun a => by fin_cases a <;> simp)).trans ?_
    refine (at_tail _ i e).trans ?_
    rw [View.readCov_eq_canon']
    refine (congrArg (View.canon _) (row_idx 0 (by decide) _ i e)).trans ?_
    refine (canon_hit _ _ _ _ x (fun a => by subst hx; fin_cases a <;> simp [hr])).trans ?_
    rw [hx]
    exact c_of B0 r e
  · refine (canon_hit _ _ _ _ (ix3 0 i e) (fun a => by fin_cases a <;> simp)).trans ?_
    refine (at_tail _ i e).trans ?_
    rw [View.readCov_eq_canon']
    refine (congrArg (View.canon _) (row_idx 1 (by decide) _ i e)).trans ?_
    refine (canon_hit _ _ _ _ x (fun a => by subst hx; fin_cases a <;> simp [hr])).trans ?_
    rw [hx]
    exact c_of B1 r e

theorem halo_first (c : Dev nD) (t : Fin cfg0.N) (h : t.val % 32 = 0) (j : Fin 2) (i : Fin 8) (e : Fin 1536) :
    (Cert.FfnRun.leftFirst m c t h).2.2.2.2.2 (ix3 j ⟨256 + i, by omega⟩ e) = cT m c t j ⟨i, by omega⟩ e := by
  simp only [Cert.FfnRun.leftFirst, Cert.FfnRun.haloFirst, Cert.FfnRun.runFirst]
  frame_out
  simp only [pay34_eq, pay35_eq, pay40_eq, pay44_eq, pay8_eq, pay45_eq, pay56_eq, pay57_eq, pay49_eq, pay54_eq, pay48_eq, pay50_eq, pay51_eq, pay52_eq, pay55_eq]
  generalize hX1 : View.readCov (Val := Elt Ideal) (View.whole cc0_scratch0) [_, _, _, _] _ = X1
  generalize hX0 : View.readCov (Val := Elt Ideal) (View.whole cc0_scratch0) [_, _] _ = X0
  have B1 := block1 m c t X1 fun i e => hX1 ▸ gate_rows m c t 1 (by decide) _ _ _ _ _ _ i e
  have B0 := block0 m c t X0 fun i e => hX0 ▸ gate_rows m c t 0 (by decide) _ _ _ _ _ _ i e
  clear hX0 hX1
  obtain ⟨r, hr⟩ : ∃ r : Fin 256, r.val = i.val := ⟨⟨i, by omega⟩, rfl⟩
  rw [show (⟨i, by omega⟩ : Fin 256) = r from Fin.ext hr.symm]
  obtain ⟨x, hx⟩ : ∃ x : S1x256x1536.Idx, x = ix3 0 r e := ⟨_, rfl⟩
  obtain rfl | rfl : j = 0 ∨ j = 1 := by omega
  · rw [canon_miss _ _ _ _ 0 (by simp), canon_miss _ _ _ _ 0 (by simp)]
    refine (canon_hit _ _ _ _ (ix3 0 i e) (fun a => by fin_cases a <;> simp)).trans ?_
    refine (at_tail _ i e).trans ?_
    rw [View.readCov_eq_canon']
    refine (congrArg (View.canon _) (row_idx 0 (by decide) _ i e)).trans ?_
    refine (canon_hit _ _ _ _ x (fun a => by subst hx; fin_cases a <;> simp [hr])).trans ?_
    rw [hx]
    exact c_of B0 r e
  · refine (canon_hit _ _ _ _ (ix3 0 i e) (fun a => by fin_cases a <;> simp)).trans ?_
    refine (at_tail _ i e).trans ?_
    rw [View.readCov_eq_canon']
    refine (congrArg (View.canon _) (row_idx 1 (by decide) _ i e)).trans ?_
    refine (canon_hit _ _ _ _ x (fun a => by subst hx; fin_cases a <;> simp [hr])).trans ?_
    rw [hx]
    exact c_of B1 r e

end Cert.FfnProof
-- ==== Proof.FfnRef.lean ====
/-
  The derivative of the gated convolution's forward lines, index by index.
-/
module

public import proofs.«01_k».proof.Proof.Gen.FfnGradIdeal.Read
public import proofs.«01_k».proof.Proof.FfnRow
public import proofs.«01_k».proof.Proof.AttnReal
public import Idealize.ShloMosaic.Lib.Pipeline.ValueKit
public import Idealize.ShloMosaic.Lib.Pointwise

@[expose] public section

set_option maxRecDepth 16384

noncomputable section

namespace Cert.FfnProof
open Cert.FfnGradIdeal Cert.FfnGradIdeal.Read Cert.RowGrad
open Idealize.ShloMosaic Idealize.ShloMosaic.TcCoe Idealize.SL.Sem

variable (x0 : Vec Ideal S8192x1024 .f32) (x1 : Vec Ideal S3072x1024 .f32) (x2 : Vec Ideal S1024x6144 .f32)
  (x3 : Vec Ideal S8192x1024 .f32) (x4 : Vec Ideal S1x1024 .f32) (x5 : Vec Ideal S3x3072 .f32) (x6 : Vec Ideal S1x3072 .f32)

/-! ## The forward lines and their derivative -/

/-- The first product. -/
def refP (s : Fin 8192) (q : Fin 6144) : EReal := ∑ k, x3 (ix2 s k) * (rinv fun l => x3 (ix2 s l)) * x4 (ix2 0 k) * x2 (ix2 k q)

/-- The gate, two rows of zeros before it. -/
def refG (p : ℕ) (l : Fin 3072) : EReal := if h : 2 ≤ p ∧ p < 8194 then refP x2 x3 x4 ⟨p - 2, by omega⟩ ⟨l, by omega⟩ else 0

/-- The gate's convolution. -/
def refV (s : Fin 8192) (l : Fin 3072) : EReal :=
  conv (x5 (ix2 2 l)) (x5 (ix2 1 l)) (x5 (ix2 0 l)) (x6 (ix2 0 l)) (refG x2 x3 x4 (2 + s) l) (refG x2 x3 x4 (1 + s) l) (refG x2 x3 x4 s l)

/-- The other half. -/
def refU (s : Fin 8192) (l : Fin 3072) : EReal := refP x2 x3 x4 s ⟨3072 + l, by omega⟩

/-- The gradient at the product of gelu and the other half. -/
def refA (s : Fin 8192) (l : Fin 3072) : EReal := ∑ k, x0 (ix2 s k) * x1 (ix2 l k)

/-- The gradient at the convolution. -/
def refC (s : Fin 8192) (l : Fin 3072) : EReal := refA x0 x1 s l * refU x2 x3 x4 s l * dgel (refV x2 x3 x4 x5 x6 s l)

/-- The same, zero after the last row. -/
def refN (p : ℕ) (l : Fin 3072) : EReal := if h : p < 8192 then refC x0 x1 x2 x3 x4 x5 x6 ⟨p, h⟩ l else 0

/-- The gradient at the gate. -/
def refB (s : Fin 8192) (l : Fin 3072) : EReal :=
  corr (x5 (ix2 2 l)) (x5 (ix2 1 l)) (x5 (ix2 0 l)) (refN x0 x1 x2 x3 x4 x5 x6 s l) (refN x0 x1 x2 x3 x4 x5 x6 (s + 1) l)
    (refN x0 x1 x2 x3 x4 x5 x6 (s + 2) l)

/-- The gradient at the other half. -/
def refY (s : Fin 8192) (l : Fin 3072) : EReal := refA x0 x1 s l * gel (refV x2 x3 x4 x5 x6 s l)

/-- The gradient at the norm's output. -/
def refH (s : Fin 8192) (k : Fin 1024) : EReal :=
  (∑ l : Fin 3072, refB x0 x1 x2 x3 x4 x5 x6 s l * x2 (ix2 k ⟨l, by omega⟩))
    + ∑ l : Fin 3072, refY x0 x1 x2 x3 x4 x5 x6 s l * x2 (ix2 k ⟨3072 + l, by omega⟩)

/-- Three summands, the last first. -/
theorem three_rev (a b c : EReal) : a + b + c = c + b + a := by rw [add_comm (a + b), add_comm a, ← add_assoc]

/-! ## The stages of the forward lines -/

theorem ref_product (s : Fin 8192) (q : Fin 6144) : val_main_v15 (F := Ideal) x2 x3 x4 (ix2 s q) = refP x2 x3 x4 s q := by
  unfold refP
  pointwise [val_main_v15, val_main_v14, val_main_v13, val_main_v12, val_main_v11, val_main_v7, val_main_v6, val_main_v5,
    val_main_v4, val_main_v3, val_main_v2, val_main_v1, val_main_v0, val_main_cst, val_main_cst_0, val_main_cst_1]
  rfl

theorem ref_gate (p : Fin 8194) (l : Fin 3072) : val_main_v19 (F := Ideal) x2 x3 x4 (ix2 p l) = refG x2 x3 x4 p l := by
  unfold refG
  pointwise [val_main_v19, val_main_v18, val_main_v16, val_main_cst_3]
  by_cases h : p.val < 2
  · rw [dif_pos h, dif_neg (by omega)]
  · rw [dif_neg h, dif_pos (by omega)]
    exact ref_product x2 x3 x4 _ _

theorem ref_conv (s : Fin 8192) (l : Fin 3072) : val_main_v36 (F := Ideal) x2 x3 x4 x5 x6 (ix2 s l) = refV x2 x3 x4 x5 x6 s l := by
  pointwise [val_main_v36, val_main_v35, val_main_v34, val_main_v33, val_main_v32, val_main_v31, val_main_v30, val_main_v29, val_main_v28,
    val_main_v27, val_main_v26, val_main_v25, val_main_v24, val_main_v23, val_main_v22, val_main_v21]
  simp only [ref_gate]
  exact congrArg (· + _) (three_rev _ _ _)

theorem ref_side (s : Fin 8192) (l : Fin 3072) : val_main_v17 (F := Ideal) x2 x3 x4 (ix2 s l) = refU x2 x3 x4 s l := by
  pointwise [val_main_v17]
  exact ref_product x2 x3 x4 s _

theorem ref_act (s : Fin 8192) (l : Fin 3072) : val_main_v60 (F := Ideal) x0 x1 (ix2 s l) = refA x0 x1 s l := by
  unfold refA
  pointwise [val_main_v60]

/-! ## Finite arguments -/

/-- Every argument is finite. -/
structure Finite : Prop where
  above : ∀ s k, RealOf.Is (x0 (ix2 s k))
  down : ∀ i k, RealOf.Is (x1 (ix2 i k))
  up : ∀ i k, RealOf.Is (x2 (ix2 i k))
  row : ∀ s k, RealOf.Is (x3 (ix2 s k))
  scale : ∀ k, RealOf.Is (x4 (ix2 0 k))
  tap : ∀ i k, RealOf.Is (x5 (ix2 i k))
  bias : ∀ k, RealOf.Is (x6 (ix2 0 k))

theorem real_add {x y : EReal} : RealOf.Is x → RealOf.Is y → RealOf.Is (x + y) := by
  rintro ⟨a, rfl⟩ ⟨b, rfl⟩
  exact ⟨a + b, (EReal.coe_add a b).symm⟩

namespace Finite

variable {x0 x1 x2 x3 x4 x5 x6} (h : Finite x0 x1 x2 x3 x4 x5 x6)

include h

theorem product (s : Fin 8192) (q : Fin 6144) : RealOf.Is (refP x2 x3 x4 s q) :=
  RealOf.sum fun k => RealOf.mul (RealOf.mul (RealOf.mul (h.row s k) (RealOf.rinv_row (h.row s))) (h.scale k)) (h.up k q)

theorem gate (p : ℕ) (l : Fin 3072) : RealOf.Is (refG x2 x3 x4 p l) := by
  unfold refG
  split_ifs
  · exact h.product _ _
  · exact ⟨0, rfl⟩

theorem conv (s : Fin 8192) (l : Fin 3072) : RealOf.Is (refV x2 x3 x4 x5 x6 s l) :=
  real_add (real_add (real_add (RealOf.mul (h.tap _ _) (h.gate _ _)) (RealOf.mul (h.tap _ _) (h.gate _ _)))
    (RealOf.mul (h.tap _ _) (h.gate _ _))) (h.bias l)

theorem act (s : Fin 8192) (l : Fin 3072) : RealOf.Is (refA x0 x1 s l) := RealOf.sum fun k => RealOf.mul (h.above s k) (h.down l k)

end Finite

/-! ## Gelu -/

theorem const_half : Ideal.ofBits .f32 0x3F000000#32 = ((1 / 2 : ℝ) : EReal) := by
  simp [Ideal.ofBits, Ideal.ieee, Nat.shiftRight_eq_div_pow, BitVec.extractLsb'] <;> norm_num

theorem const_one : Ideal.ofBits .f32 0x3F800000#32 = ((1 : ℝ) : EReal) := by
  simp [Ideal.ofBits, Ideal.ieee, Nat.shiftRight_eq_div_pow, BitVec.extractLsb'] <;> norm_num

theorem const_three : Ideal.ofBits .f32 0x40400000#32 = ((3 : ℝ) : EReal) := by
  simp [Ideal.ofBits, Ideal.ieee, Nat.shiftRight_eq_div_pow, BitVec.extractLsb'] <;> norm_num

theorem const_root : Ideal.ofBits .f32 0x3F4C422A#32 = ((6693141 / 8388608 : ℝ) : EReal) := by
  simp [Ideal.ofBits, Ideal.ieee, Nat.shiftRight_eq_div_pow, BitVec.extractLsb'] <;> norm_num

theorem const_cubic : Ideal.ofBits .f32 0x3D372713#32 = ((12003091 / 268435456 : ℝ) : EReal) := by
  simp [Ideal.ofBits, Ideal.ieee, Nat.shiftRight_eq_div_pow, BitVec.extractLsb'] <;> norm_num

/-- The kernel's constants are the exact products of the reference's. -/
theorem const_gK : gK = ((6693141 / 8388608 * (12003091 / 268435456) : ℝ) : EReal) := by
  refine Eq.trans (b := ((80338380498831 / 2251799813685248 : ℝ) : EReal)) rfl ?_
  norm_num

theorem const_gK3 : gK3 = ((3 * (6693141 / 8388608 * (12003091 / 268435456)) : ℝ) : EReal) := by
  refine Eq.trans (b := ((241015141496493 / 2251799813685248 : ℝ) : EReal)) rfl ?_
  norm_num

/-- The tanh of the reference is the kernel's. -/
theorem th_real (v : EReal) (hv : RealOf.Is v) :
    Ideal.tanh (Ideal.ofBits .f32 0x3F4C422A#32 * (v + Ideal.ofBits .f32 0x3D372713#32 * (v * v * v))) = th v := by
  obtain ⟨r, rfl⟩ := hv
  unfold th gC
  rw [const_root, const_cubic, const_gK]
  congr 1
  norm_cast
  ring

/-- The tanh of a real is real. -/
theorem real_th {v : EReal} (hv : RealOf.Is v) : RealOf.Is (th v) := by
  obtain ⟨r, rfl⟩ := hv
  refine ⟨Real.tanh (r * (6693141 / 8388608 + 6693141 / 8388608 * (12003091 / 268435456) * (r * r))), ?_⟩
  unfold th gC
  rw [const_root, const_gK, ← EReal.coe_mul, ← EReal.coe_mul, ← EReal.coe_add, ← EReal.coe_mul]
  exact Ideal.tanh_coe _

/-- Gelu times a real factor. -/
theorem gel_row (v a : EReal) (hv : RealOf.Is v) (ha : RealOf.Is a) :
    v * (Ideal.ofBits .f32 0x3F000000#32 * (1 + th v)) * a = a * gel v := by
  obtain ⟨t, ht⟩ := real_th hv
  obtain ⟨r, rfl⟩ := hv
  obtain ⟨a, rfl⟩ := ha
  unfold gel half
  rw [ht, const_half]
  norm_cast
  ring

/-- A sum over all columns, one half after the other. -/
theorem sum_halves (f : Fin 6144 → EReal) : ∑ k, f k = (∑ l : Fin 3072, f ⟨l, by omega⟩) + ∑ l : Fin 3072, f ⟨3072 + l, by omega⟩ :=
  Fin.sum_univ_add (a := 3072) (b := 3072) f

/-- The reference's derivative of gelu, factor by factor, is the kernel's. -/
theorem dgel_row (v d : EReal) (hv : RealOf.Is v) (hd : RealOf.Is d) :
    d * (Ideal.ofBits .f32 0x3F000000#32 * (1 + th v))
      + Ideal.ofBits .f32 0x3F4C422A#32 * (Ideal.ofBits .f32 0x3F000000#32 * (v * d) * ((1 + th v) * (1 - th v)))
      + Ideal.ofBits .f32 0x3D372713#32
          * (Ideal.ofBits .f32 0x3F4C422A#32 * (Ideal.ofBits .f32 0x3F000000#32 * (v * d) * ((1 + th v) * (1 - th v))))
          * (Ideal.ofBits .f32 0x40400000#32 * (v * v))
      = d * dgel v := by
  obtain ⟨t, ht⟩ := real_th hv
  obtain ⟨r, rfl⟩ := hv
  obtain ⟨d, rfl⟩ := hd
  unfold dgel half gC
  rw [ht, const_half, const_root, const_cubic, const_gK3, const_three]
  norm_cast
  ring

/-! ## The stages of the derivative -/

section
variable (h : Finite x0 x1 x2 x3 x4 x5 x6)
include h

theorem ref_other (s : Fin 8192) (l : Fin 3072) : val_main_v61 (F := Ideal) x0 x1 x2 x3 x4 x5 x6 (ix2 s l) = refY x0 x1 x2 x3 x4 x5 x6 s l := by
  pointwise [val_main_v61, val_main_v57, val_main_v56, val_main_v55, val_main_v54, val_main_v53, val_main_v47, val_main_v46, val_main_v45,
    val_main_v44, val_main_v43, val_main_v42, val_main_v38, val_main_v37, val_main_cst_6, val_main_cst_7, val_main_cst_10, val_main_cst_11]
  simp only [ref_conv, ref_act]
  rw [th_real _ (h.conv s l)]
  exact gel_row _ _ (h.conv s l) (h.act s l)

theorem ref_grad (s : Fin 8192) (l : Fin 3072) : val_main_v74 (F := Ideal) x0 x1 x2 x3 x4 x5 x6 (ix2 s l) = refC x0 x1 x2 x3 x4 x5 x6 s l := by
  pointwise [val_main_v74, val_main_v73, val_main_v72, val_main_v71, val_main_v70, val_main_v69, val_main_v68, val_main_v67, val_main_v66,
    val_main_v65, val_main_v64, val_main_v63, val_main_v62, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_v38, val_main_v37, val_main_cst_5, val_main_cst_6, val_main_cst_7,
    val_main_cst_8, val_main_cst_9, val_main_cst_10, val_main_cst_11, val_main_cst_12, val_main_cst_13, val_main_cst_14]
  simp only [ref_conv, ref_act, ref_side]
  rw [th_real _ (h.conv s l)]
  exact dgel_row _ _ (h.conv s l) (RealOf.mul (h.act s l) (h.product _ _))

/-- The gradient of the convolution's bias. -/
theorem ref_bias (l : Fin 3072) : val_main_v76 (F := Ideal) x0 x1 x2 x3 x4 x5 x6 (ix2 0 l) = ∑ s, refC x0 x1 x2 x3 x4 x5 x6 s l := by
  pointwise [val_main_v76, val_main_v75, val_main_cst_15]
  simp only [ref_grad _ _ _ _ _ _ _ h]

/-- The gradient of the convolution's taps. -/
theorem ref_taps (k : Fin 3) (l : Fin 3072) : val_main_v101 (F := Ideal) x0 x1 x2 x3 x4 x5 x6 (ix2 k l)
    = ∑ s : Fin 8192, refC x0 x1 x2 x3 x4 x5 x6 s l * refG x2 x3 x4 (k + s) l := by
  pointwise [val_main_v101, val_main_v100, val_main_v97, val_main_v96, val_main_v95, val_main_v92, val_main_v91, val_main_v88, val_main_v87,
    val_main_v86, val_main_v83, val_main_v81, val_main_v80, val_main_v79, val_main_v31, val_main_v26, val_main_v22, val_main_cst_24,
    val_main_cst_22, val_main_cst_21, val_main_cst_19, val_main_cst_18, val_main_cst_16]
  simp only [ref_grad _ _ _ _ _ _ _ h, ref_gate]
  fin_cases k <;> simp

/-- The gradient at the gate. -/
theorem ref_before (s : Fin 8192) (l : Fin 3072) : val_main_v103 (F := Ideal) x0 x1 x2 x3 x4 x5 x6 (ix2 s l) = refB x0 x1 x2 x3 x4 x5 x6 s l := by
  pointwise [val_main_v103, val_main_v99, val_main_v98, val_main_v94, val_main_v93, val_main_v90, val_main_v89, val_main_v85, val_main_v84,
    val_main_v82, val_main_v78, val_main_v77, val_main_v30, val_main_v25, val_main_v21, val_main_cst_23, val_main_cst_20, val_main_cst_17]
  simp only [ref_grad _ _ _ _ _ _ _ h]
  unfold refB corr
  refine congrArg₂ (· + ·) (congrArg₂ (· + ·) (congrArg (_ * ·) ?_) ?_) ?_
  · rw [refN, dif_pos s.isLt]
  · unfold refN
    by_cases hs : s.val + 1 < 8192
    · rw [dif_pos hs, dif_pos (by omega)]
      exact congrArg (fun q => _ * refC x0 x1 x2 x3 x4 x5 x6 q l) (Fin.ext (by simp; omega))
    · rw [dif_neg hs, dif_neg (by omega), mul_zero]
  · unfold refN
    by_cases hs : s.val + 2 < 8192
    · rw [dif_pos hs, dif_pos (by omega)]
      exact congrArg (fun q => _ * refC x0 x1 x2 x3 x4 x5 x6 q l) (Fin.ext (by simp; omega))
    · rw [dif_neg hs, dif_neg (by omega), mul_zero]

/-- The gradients at the first product's two halves, side by side. -/
theorem ref_halves (s : Fin 8192) (q : Fin 6144) : val_main_v104 (F := Ideal) x0 x1 x2 x3 x4 x5 x6 (ix2 s q)
    = if hq : q.val < 3072 then refB x0 x1 x2 x3 x4 x5 x6 s ⟨q, hq⟩ else refY x0 x1 x2 x3 x4 x5 x6 s ⟨q - 3072, by omega⟩ := by
  pointwise [val_main_v104]
  simp only [← ref_before _ _ _ _ _ _ _ h, ← ref_other _ _ _ _ _ _ _ h]

theorem ref_hidden (s : Fin 8192) (k : Fin 1024) : val_main_v105 (F := Ideal) x0 x1 x2 x3 x4 x5 x6 (ix2 s k) = refH x0 x1 x2 x3 x4 x5 x6 s k := by
  pointwise [val_main_v105]
  rw [refH, sum_halves]
  refine congrArg₂ (· + ·) (Finset.sum_congr rfl fun l _ => congrArg (· * _) ?_) (Finset.sum_congr rfl fun l _ => congrArg (· * _) ?_)
  · rw [ref_halves _ _ _ _ _ _ _ h, dif_pos l.isLt]
  · rw [ref_halves _ _ _ _ _ _ _ h, dif_neg (by simp)]
    exact congrArg (refY x0 x1 x2 x3 x4 x5 x6 s) (Fin.ext (by simp))

/-- The gradient of the norm's scale. -/
theorem ref_scale (k : Fin 1024) : val_main_v108 (F := Ideal) x0 x1 x2 x3 x4 x5 x6 (ix2 0 k)
    = ∑ s, refH x0 x1 x2 x3 x4 x5 x6 s k * (x3 (ix2 s k) * rinv fun l => x3 (ix2 s l)) := by
  pointwise [val_main_v108, val_main_v107, val_main_v106, val_main_v12, val_main_v11, val_main_v7, val_main_v6, val_main_v5, val_main_v4,
    val_main_v3, val_main_v2, val_main_v1, val_main_v0, val_main_cst, val_main_cst_0, val_main_cst_1, val_main_cst_25]
  simp only [ref_hidden _ _ _ _ _ _ _ h]
  exact Finset.sum_congr rfl fun _ _ => mul_comm (G := EReal) _ _

/-- The gradient of the rows. -/
theorem ref_rows (s : Fin 8192) (k : Fin 1024) : val_main_v125 (F := Ideal) x0 x1 x2 x3 x4 x5 x6 (ix2 s k)
    = x0 (ix2 s k) + rmsGrad (fun l => x3 (ix2 s l)) (fun l => refH x0 x1 x2 x3 x4 x5 x6 s l * x4 (ix2 0 l)) k := by
  rw [rms_row _ _ (h.row s)]
  pointwise [val_main_v125, val_main_v124, val_main_v123, val_main_v122, val_main_v121, val_main_v120, val_main_v119, val_main_v118,
    val_main_v117, val_main_v116, val_main_v115, val_main_v114, val_main_v113, val_main_v112, val_main_v111, val_main_v110,
    val_main_v109, val_main_v10, val_main_v9, val_main_v8, val_main_v7, val_main_v6, val_main_v5, val_main_v4, val_main_v3,
    val_main_v2, val_main_v1, val_main_v0, val_main_cst, val_main_cst_0, val_main_cst_1, val_main_cst_2, val_main_cst_26,
    val_main_cst_27, val_main_cst_28]
  simp only [ref_hidden _ _ _ _ _ _ _ h]
  rfl

end

/-- Four blocks as two pairs. -/
theorem pairs_apply (y : FVec Ideal S4x8192x1536 .f32) (hc) (i j : Fin 2) (s : Fin 8192) (e : Fin 1536) :
    shapeCast S2x2x8192x1536 y hc (ix4 i j s e) = y (ix3 ⟨i * 2 + j, by omega⟩ s e) := by
  refine shapeCast_apply y hc _ _ ?_
  rw [Shape.rowMajor_val_three, Shape.rowMajor_val_four]
  rfl

/-- Column block `q` of the gradients at the two halves. -/
theorem ref_stack (q : Fin 4) (s : Fin 8192) (e : Fin 1536) : val_main_v134 (F := Ideal) x0 x1 x2 x3 x4 x5 x6 (ix3 q s e)
    = val_main_v104 (F := Ideal) x0 x1 x2 x3 x4 x5 x6 (ix2 s ⟨q * 1536 + e, by omega⟩) := by
  pointwise [val_main_v134, val_main_v133, val_main_v132, val_main_v131, val_main_v130, val_main_v129,
    val_main_v128, val_main_v127, val_main_v126]
  obtain rfl | rfl | rfl | rfl : q = 0 ∨ q = 1 ∨ q = 2 ∨ q = 3 := by omega
  all_goals
    simp

theorem ref_round (y : S2x2x8192x1536.Idx) :
    val_main_v136 (F := Ideal) x0 x1 x2 x3 x4 x5 x6 y = val_main_v135 (F := Ideal) x0 x1 x2 x3 x4 x5 x6 y := by
  rw [val_main_v136_apply]
  rfl

/-- The result's pairs of column blocks are column blocks of the gradients side by side. -/
theorem ref_pairs (i j : Fin 2) (s : Fin 8192) (e : Fin 1536) :
    val_main_v136 (F := Ideal) x0 x1 x2 x3 x4 x5 x6 (ix4 i j s e)
      = val_main_v104 (F := Ideal) x0 x1 x2 x3 x4 x5 x6 (ix2 s ⟨(i * 2 + j) * 1536 + e, by omega⟩) :=
  (ref_round x0 x1 x2 x3 x4 x5 x6 _).trans ((pairs_apply _ _ i j s e).trans (ref_stack x0 x1 x2 x3 x4 x5 x6 _ s e))

section
variable (h : Finite x0 x1 x2 x3 x4 x5 x6)
include h

/-- The result's first pair is the gradient at the gate. -/
theorem ref_pair_gate (j : Fin 2) (s : Fin 8192) (e : Fin 1536) :
    val_main_v136 (F := Ideal) x0 x1 x2 x3 x4 x5 x6 (ix4 0 j s e) = refB x0 x1 x2 x3 x4 x5 x6 s ⟨1536 * j + e, by omega⟩ := by
  refine (ref_pairs x0 x1 x2 x3 x4 x5 x6 0 j s e).trans ((ref_halves _ _ _ _ _ _ _ h _ _).trans ?_)
  rw [dif_pos (by simp; omega)]
  exact congrArg (refB x0 x1 x2 x3 x4 x5 x6 s) (Fin.ext (by simp; omega))

/-- The result's second pair is the gradient at the other half. -/
theorem ref_pair_side (j : Fin 2) (s : Fin 8192) (e : Fin 1536) :
    val_main_v136 (F := Ideal) x0 x1 x2 x3 x4 x5 x6 (ix4 1 j s e) = refY x0 x1 x2 x3 x4 x5 x6 s ⟨1536 * j + e, by omega⟩ := by
  refine (ref_pairs x0 x1 x2 x3 x4 x5 x6 1 j s e).trans ((ref_halves _ _ _ _ _ _ _ h _ _).trans ?_)
  rw [dif_neg (by simp; omega)]
  exact congrArg (refY x0 x1 x2 x3 x4 x5 x6 s) (Fin.ext (by simp; omega))

end

end Cert.FfnProof
-- ==== Proof.FfnWin.lean ====
/-
  What the windows of the gated convolution's backward call hold, in terms of the call's arguments.
-/
module

public import proofs.«01_k».proof.Proof.FfnCarry
public import proofs.«01_k».proof.Proof.FfnRef
public import Idealize.ShloMosaic.Lib.StableHlo.ReadAt

@[expose] public section

set_option maxRecDepth 16384

noncomputable section

namespace Cert.FfnProof
open Cert.FfnBwdIdeal Cert.FfnBwdIdeal.Gen Cert.RowGrad
open Idealize.ShloMosaic Idealize.ShloMosaic.TcCoe Idealize.SL.Sem

variable (m : (ℓ : Loc nD τ sig) → Buf (Elt Ideal) ℓ) (c : Dev nD)

/-! ## The arguments -/

/-- The gradient from above, the two products' weights, the rows, the norm's scale, the convolution's taps and bias. -/
abbrev argD : Vec Ideal S8192x1024 .f32 := m (c.tc.loc main_arg0)
abbrev argW : Vec Ideal S3072x1024 .f32 := m (c.tc.loc main_arg1)
abbrev argU : Vec Ideal S1024x6144 .f32 := m (c.tc.loc main_arg2)
abbrev argX : Vec Ideal S8192x1024 .f32 := m (c.tc.loc main_arg3)
abbrev argG : Vec Ideal S1x1024 .f32 := m (c.tc.loc main_arg4)
abbrev argT : Vec Ideal S3x3072 .f32 := m (c.tc.loc main_arg5)
abbrev argB : Vec Ideal S1x3072 .f32 := m (c.tc.loc main_arg6)

/-- Column `l` of column block `q` of the first product. -/
def wideAt (q : Fin 4) (l : Fin 1536) : Fin 6144 := ⟨1536 * q + l, by omega⟩

/-- The host's stack of the first weight's column blocks, at an index. -/
theorem entry_up (q : Fin 4) (k : Fin 1024) (l : Fin 1536) :
    (V m c main_v9 : Vec Ideal S4x1024x1536 .bf16) (ix3 q k l) = argU m c (ix2 k (wideAt q l)) := by
  unfold V wideAt
  after_results_simp
  pointwise
  obtain rfl | rfl | rfl | rfl : q = 0 ∨ q = 1 ∨ q = 2 ∨ q = 3 := by omega
  all_goals
    simp
    after_results_simp
    pointwise
    blk_ext

/-- The second weight's row blocks, at an index. -/
theorem entry_down (j : Fin 2) (e : Fin 1536) (l : Fin 1024) :
    (V m c main_v36 : Vec Ideal S2x1536x1024 .bf16) (ix3 j e l) = argW m c (ix2 (colAt j e) l) := by
  unfold V colAt
  after_results_simp
  pointwise
  blk_ext

/-- The first product, at an index. -/
theorem entry_product (s : Fin 8192) (q : Fin 6144) :
    (V m c main_v24 : Vec Ideal S8192x6144 .f32) (ix2 s q) = refP (argU m c) (argX m c) (argG m c) s q := by
  unfold V refP
  after_results_simp
  pointwise
  rfl

/-- The stack of its column blocks, at an index. -/
theorem entry_stack (q : Fin 4) (s : Fin 8192) (l : Fin 1536) :
    (V m c main_v33 : Vec Ideal S4x8192x1536 .f32) (ix3 q s l) = refP (argU m c) (argX m c) (argG m c) s (wideAt q l) := by
  rw [← entry_product]
  unfold V wideAt
  after_results_simp
  pointwise
  obtain rfl | rfl | rfl | rfl : q = 0 ∨ q = 1 ∨ q = 2 ∨ q = 3 := by omega
  all_goals
    simp
    after_results_simp
    pointwise
    blk_ext

/-- The same as two pairs: the gate's column blocks, then the other half's. -/
theorem entry_pairs (i j : Fin 2) (s : Fin 8192) (l : Fin 1536) :
    (V m c main_v35 : Vec Ideal S2x2x8192x1536 .f32) (ix4 i j s l)
      = refP (argU m c) (argX m c) (argG m c) s (wideAt ⟨i * 2 + j, by omega⟩ l) := by
  rw [← entry_stack]
  refine Eq.trans (congrFun (?_ : V m c main_v35 = shapeCast S2x2x8192x1536 (V m c main_v33 : Vec Ideal S4x8192x1536 .f32) shapeCasts_S4x8192x1536_S2x2x8192x1536) _)
    (pairs_apply _ _ i j s l)
  unfold V
  after_results_simp
  rfl

/-! ## The windows -/

/-- Where the windows of a grid point start: the tiles are walked from the last to the first. -/
theorem origin : ∀ t : Fin cfg0.N, win0_0.index t = ![31 - t.val, 0] ∧ win0_1.index t = ![31 - t.val, 0]
    ∧ win0_2.index t = ![0, 0] ∧ win0_3.index t = ![0, 0, 0] ∧ win0_4.index t = ![0, 0, 0]
    ∧ win0_5.index t = ![0, 0, 31 - t.val, 0] ∧ win0_6.index t = ![0, 0, (31 - t.val) * 32 - 1, 0]
    ∧ win0_7.index t = ![0, 0] ∧ win0_8.index t = ![0, 0] ∧ win0_9.index t = ![0, 0, 31 - t.val, 0]
    ∧ win0_10.index t = ![31 - t.val, 0] ∧ win0_11.index t = ![0, 0] ∧ win0_12.index t = ![0, 0] ∧ win0_13.index t = ![0, 0] :=
  (by decide +kernel : ∀ t : Fin grid0.N, _)

theorem tiles (t : Fin cfg0.N) : t.val < 32 := t.isLt

/-- Row `r` of grid point `t`'s tile. -/
def rowAt (t : Fin cfg0.N) (r : Fin 256) : Fin 8192 := ⟨(31 - t.val) * 256 + r.val, by omega⟩

theorem at_dT (t : Fin cfg0.N) (r : Fin 256) (k : Fin 1024) : dT m c t r k = argD m c (ix2 (rowAt t r) k) := by
  unfold dT rowAt
  blk_ext [iblk, V, origin t]

theorem at_xT (t : Fin cfg0.N) (r : Fin 256) (k : Fin 1024) : xT m c t r k = argX m c (ix2 (rowAt t r) k) := by
  unfold xT rowAt
  blk_ext [iblk, V, origin t]

theorem at_sT (t : Fin cfg0.N) (k : Fin 1024) : sT m c t k = argG m c (ix2 0 k) := by
  unfold sT
  blk_ext [iblk, V, origin t]

theorem at_downT (t : Fin cfg0.N) (j : Fin 2) (e : Fin 1536) (l : Fin 1024) : downT m c t j e l = argW m c (ix2 (colAt j e) l) := by
  rw [← entry_down]
  unfold downT
  blk_ext [iblk, origin t]

theorem at_upT (t : Fin cfg0.N) (q : Fin 4) (k : Fin 1024) (l : Fin 1536) : upT m c t q k l = argU m c (ix2 k (wideAt q l)) := by
  rw [← entry_up]
  unfold upT
  blk_ext [iblk, origin t]

theorem at_wT (t : Fin cfg0.N) (k : Fin 3) (j : Fin 2) (e : Fin 1536) : wT m c t k j e = argT m c (ix2 k (colAt j e)) := by
  unfold wT
  blk_ext [iblk, V, origin t]

theorem at_bias_row (t : Fin cfg0.N) (y : Fin 3072) : (iblk m c 8 t : Vec Ideal S1x3072 .f32) (ix2 0 y) = argB m c (ix2 0 y) := by
  blk_ext [iblk, V, origin t]

/-- The windows of the two pairs, read from any array. -/
theorem pair_place (W : Vec Ideal S2x2x8192x1536 .f32) (t : Fin cfg0.N) (i j : Fin 2) (r : Fin 256) (e : Fin 1536) :
    (View.read (Elt Ideal) (win0_5.blk t).view W : Vec Ideal S2x2x256x1536 .f32) (ix4 i j r e) = W (ix4 i j (rowAt t r) e) := by
  blk_ext [rowAt, origin t]

theorem prev_place (W : Vec Ideal S2x2x8192x1536 .f32) (t : Fin cfg0.N) (j : Fin 2) (i : Fin 8) (e : Fin 1536) :
    (View.read (Elt Ideal) (win0_6.blk t).view W : Vec Ideal S1x2x8x1536 .f32) (ix4 0 j i e)
      = W (ix4 0 j ⟨((31 - t.val) * 32 - 1) * 8 + i, by omega⟩ e) := by
  blk_ext [origin t]

theorem pair_window (t : Fin cfg0.N) : (iblk m c 5 t : Vec Ideal S2x2x256x1536 .f32)
    = View.read (Elt Ideal) (win0_5.blk t).view (V m c main_v35 : Vec Ideal S2x2x8192x1536 .f32) := by
  unfold iblk
  generalize V m c = W
  rfl

theorem prev_window (t : Fin cfg0.N) : (iblk m c 6 t : Vec Ideal S1x2x8x1536 .f32)
    = View.read (Elt Ideal) (win0_6.blk t).view (V m c main_v35 : Vec Ideal S2x2x8192x1536 .f32) := by
  unfold iblk
  generalize V m c = W
  rfl

/-- A row of the pair of column blocks. -/
theorem at_pair (t : Fin cfg0.N) (i j : Fin 2) (r : Fin 256) (e : Fin 1536) :
    (iblk m c 5 t : Vec Ideal S2x2x256x1536 .f32) (ix4 i j r e)
      = refP (argU m c) (argX m c) (argG m c) (rowAt t r) (wideAt ⟨i * 2 + j, by omega⟩ e) :=
  (congrFun (pair_window m c t) _).trans ((pair_place _ t i j r e).trans (entry_pairs m c i j _ e))

/-- A row of the eight above the tile. -/
theorem at_prev (t : Fin cfg0.N) (j : Fin 2) (i : Fin 8) (e : Fin 1536) :
    (iblk m c 6 t : Vec Ideal S1x2x8x1536 .f32) (ix4 0 j i e)
      = refP (argU m c) (argX m c) (argG m c) ⟨((31 - t.val) * 32 - 1) * 8 + i, by omega⟩ (wideAt ⟨0 * 2 + j, by omega⟩ e) :=
  (congrFun (prev_window m c t) _).trans ((prev_place _ t j i e).trans (entry_pairs m c 0 j _ e))

/-- The rows above the first tile are not taken. -/
theorem taken : ∀ t : Fin cfg0.N, Scalar.cmpi .sgt (Scalar.subi 31#32 (BitVec.ofNat 32 (grid0.coords t 0).val)) 0#32
    = if t.val < 31 then 1#1 else 0#1 :=
  (by decide +kernel : ∀ t : Fin grid0.N, _)

/-- The gate's rows, with the rows above: rows of the padded gate. -/
theorem at_gT (t : Fin cfg0.N) (j : Fin 2) (i : Fin 264) (hi : 6 ≤ i.val) (e : Fin 1536) :
    gT m c t j i e = refG (argU m c) (argX m c) (argG m c) ((31 - t.val) * 256 + (i.val - 6)) (colAt j e) := by
  have ht := tiles t
  unfold gT
  by_cases h : i.val < 8
  · rw [dif_pos h, taken]
    by_cases h31 : t.val < 31
    · rw [if_pos h31]
      refine (at_prev m c t j ⟨i, h⟩ e).trans ?_
      rw [refG, dif_pos (by omega)]
      exact congrArg₂ (refP _ _ _) (Fin.ext (by simp; omega)) (Fin.ext (by simp [wideAt, colAt]))
    · rw [if_neg h31, refG, dif_neg (by omega)]
      rfl
  · rw [dif_neg h]
    refine (at_pair m c t 0 j ⟨i - 8, by omega⟩ e).trans ?_
    rw [refG, dif_pos (by omega)]
    exact congrArg₂ (refP _ _ _) (Fin.ext (by simp [rowAt]; omega)) (Fin.ext (by simp [wideAt, colAt]))

theorem at_sideT (t : Fin cfg0.N) (j : Fin 2) (r : Fin 256) (e : Fin 1536) :
    sideT m c t j r e = refU (argU m c) (argX m c) (argG m c) (rowAt t r) (colAt j e) := by
  refine (at_pair m c t 1 j r e).trans (congrArg (refP _ _ _ _) (Fin.ext ?_))
  simp [wideAt, colAt]
  omega

theorem at_aT (t : Fin cfg0.N) (j : Fin 2) (r : Fin 256) (e : Fin 1536) :
    aT m c t j r e = refA (argD m c) (argW m c) (rowAt t r) (colAt j e) := by
  simp only [aT, refA, at_dT, at_downT]

theorem at_vT (t : Fin cfg0.N) (j : Fin 2) (r : Fin 256) (e : Fin 1536) :
    vT m c t j r e = refV (argU m c) (argX m c) (argG m c) (argT m c) (argB m c) (rowAt t r) (colAt j e) := by
  unfold vT refV
  rw [at_gT m c t j _ (by simp; omega), at_gT m c t j _ (by simp; omega), at_gT m c t j _ (by simp)]
  simp only [at_wT]
  have h8 : 8 + r.val - 6 = 2 + r.val := by omega
  have h7 : 7 + r.val - 6 = 1 + r.val := by omega
  have h6 : 6 + r.val - 6 = r.val := by omega
  have e2 : 2 + (rowAt t r).val = (31 - t.val) * 256 + (2 + r.val) := by simp [rowAt]; omega
  have e1 : 1 + (rowAt t r).val = (31 - t.val) * 256 + (1 + r.val) := by simp [rowAt]; omega
  rw [e2, e1]
  simp only [h8, h7, h6]
  exact congrArg (fun b => Cert.FfnProof.conv _ _ _ b _ _ _) (at_bias_row m c t _)

theorem at_cT (t : Fin cfg0.N) (j : Fin 2) (r : Fin 256) (e : Fin 1536) :
    cT m c t j r e = refC (argD m c) (argW m c) (argU m c) (argX m c) (argG m c) (argT m c) (argB m c) (rowAt t r) (colAt j e) := by
  rw [cT, at_aT, at_sideT, at_vT, refC]

theorem at_uT (t : Fin cfg0.N) (j : Fin 2) (r : Fin 256) (e : Fin 1536) :
    uT m c t j r e = refY (argD m c) (argW m c) (argU m c) (argX m c) (argG m c) (argT m c) (argB m c) (rowAt t r) (colAt j e) := by
  rw [uT, at_aT, at_vT, refY]

end Cert.FfnProof
-- ==== Proof.FfnSum.lean ====
/-
  The gated convolution's backward call, point by point, in terms of the reference's stages.

  The points walk the tiles from the last to the first, so the rows a point finds in its scratch are the first rows of
  the tile below; below the last tile there are none, and the scratch holds zeros.
-/
module

public import proofs.«01_k».proof.Proof.FfnWin

@[expose] public section

set_option maxRecDepth 16384

noncomputable section

namespace Cert.FfnProof
open Cert.FfnBwdIdeal Cert.FfnBwdIdeal.Gen Cert.RowGrad
open Idealize.ShloMosaic Idealize.ShloMosaic.TcCoe Idealize.SL.Sem

variable (m : (ℓ : Loc nD τ sig) → Buf (Elt Ideal) ℓ) (c : Dev nD)

/-! ## The reference's stages at the call's arguments -/

/-- The gate under two rows of zeros. -/
abbrev theG (p : ℕ) (l : Fin 3072) : EReal := refG (argU m c) (argX m c) (argG m c) p l

/-- The gradient at the convolution; the same with zeros below; the gradients at the gate, the other half and the norm's output. -/
abbrev theC (s : Fin 8192) (l : Fin 3072) : EReal := refC (argD m c) (argW m c) (argU m c) (argX m c) (argG m c) (argT m c) (argB m c) s l
abbrev theN (p : ℕ) (l : Fin 3072) : EReal := refN (argD m c) (argW m c) (argU m c) (argX m c) (argG m c) (argT m c) (argB m c) p l
abbrev theB (s : Fin 8192) (l : Fin 3072) : EReal := refB (argD m c) (argW m c) (argU m c) (argX m c) (argG m c) (argT m c) (argB m c) s l
abbrev theY (s : Fin 8192) (l : Fin 3072) : EReal := refY (argD m c) (argW m c) (argU m c) (argX m c) (argG m c) (argT m c) (argB m c) s l
abbrev theH (s : Fin 8192) (k : Fin 1024) : EReal := refH (argD m c) (argW m c) (argU m c) (argX m c) (argG m c) (argT m c) (argB m c) s k

/-! ## The rows carried from the tile below -/

/-- What a point finds in its scratch, below its own rows. -/
def below (t : Fin cfg0.N) : Vec Ideal S2x264x1536 .f32 :=
  if t.val % 32 = 0 then noRows else (Cert.FfnRun.before m c t).2.2.2.2.2

/-- A point leaves the first rows of its tile there. -/
theorem left_rows (t : Fin cfg0.N) (j : Fin 2) (i : Fin 8) (e : Fin 1536) :
    (Cert.FfnRun.left m c t.val t.isLt).2.2.2.2.2 (ix3 j ⟨256 + i, by omega⟩ e) = cT m c t j ⟨i, by omega⟩ e := by
  by_cases h : t.val % 32 = 0
  · rw [Cert.FfnRun.left_first m c t h]
    exact halo_first m c t h j i e
  · rw [Cert.FfnRun.left_next m c t h]
    exact halo_next m c t h _ j i e

theorem noRows_apply (y : S2x264x1536.Idx) : (noRows : Vec Ideal S2x264x1536 .f32) y = (0 : EReal) := by
  pointwise [k0_pay5]

theorem at_below (t : Fin cfg0.N) (j : Fin 2) (i : Fin 8) (e : Fin 1536) :
    below m c t (ix3 j ⟨256 + i, by omega⟩ e) = theN m c ((31 - t.val) * 256 + (256 + i.val)) (colAt j e) := by
  have ht := tiles t
  unfold below
  by_cases h : t.val % 32 = 0
  · rw [if_pos h, noRows_apply, theN, refN, dif_neg (by omega)]
  · rw [if_neg h]
    refine (left_rows m c ⟨t.val - 1, Nat.lt_of_le_of_lt (Nat.sub_le _ _) t.isLt⟩ j i e).trans ((at_cT m c _ j _ e).trans ?_)
    rw [theN, refN, dif_pos (by omega)]
    exact congrArg (fun s => theC m c s (colAt j e)) (Fin.ext (by simp [rowAt]; omega))

/-- The gradient at the convolution, with the rows below: rows of the reference's. -/
theorem at_nT (t : Fin cfg0.N) (j : Fin 2) (i : Fin 264) (e : Fin 1536) :
    nT m c t (below m c t) j i e = theN m c ((31 - t.val) * 256 + i.val) (colAt j e) := by
  have ht := tiles t
  unfold nT
  by_cases h : i.val < 256
  · rw [dif_pos h, at_cT, theN, refN, dif_pos (by omega)]
    rfl
  · rw [dif_neg h]
    obtain ⟨k, hk⟩ : ∃ k : Fin 8, i = ⟨256 + k.val, by omega⟩ := ⟨⟨i - 256, by omega⟩, Fin.ext (by simp; omega)⟩
    rw [hk]
    exact at_below m c t j k e

/-- The gradient at the gate is the reference's. -/
theorem at_bT (t : Fin cfg0.N) (j : Fin 2) (r : Fin 256) (e : Fin 1536) :
    bT m c t (below m c t) j r e = theB m c (rowAt t r) (colAt j e) := by
  unfold bT theB refB
  simp only [at_nT, at_wT]
  rfl

/-- A sum over all columns of a half, block by block. -/
theorem sum_blocks (f : Fin 3072 → EReal) : ∑ l, f l = ∑ e : Fin 1536, f (colAt 0 e) + ∑ e : Fin 1536, f (colAt 1 e) := by
  refine (Fin.sum_mul_add_fin 2 1536 f).symm.trans ?_
  rw [Fin.sum_univ_two]
  refine congrArg₂ (· + ·) ?_ ?_ <;>
    exact Finset.sum_congr rfl fun e _ => congrArg f (Fin.ext (by simp [colAt]))

/-- The gradient at the norm's output is the reference's. -/
theorem at_hT (t : Fin cfg0.N) (r : Fin 256) (k : Fin 1024) : hT m c t (below m c t) r k = theH m c (rowAt t r) k := by
  unfold hT theH refH
  rw [sum_blocks, sum_blocks, add_add_add_comm]
  simp only [at_bT, at_uT, at_upT]
  have g0 (e : Fin 1536) : (⟨(colAt 0 e).val, by omega⟩ : Fin 6144) = wideAt 0 e := Fin.ext (by simp [wideAt, colAt])
  have g1 (e : Fin 1536) : (⟨(colAt 1 e).val, by omega⟩ : Fin 6144) = wideAt 1 e := Fin.ext (by simp [wideAt, colAt])
  have g2 (e : Fin 1536) : (⟨3072 + (colAt 0 e).val, by omega⟩ : Fin 6144) = wideAt 2 e := Fin.ext (by simp [wideAt, colAt])
  have g3 (e : Fin 1536) : (⟨3072 + (colAt 1 e).val, by omega⟩ : Fin 6144) = wideAt 3 e := Fin.ext (by simp [wideAt, colAt]; omega)
  simp only [g0, g1, g2, g3]

/-! ## What a point leaves -/

theorem left_gates (t : Fin cfg0.N) (i j : Fin 2) (r : Fin 256) (e : Fin 1536) :
    (Cert.FfnRun.left m c t.val t.isLt).1 (ix4 i j r e)
      = if i = 0 then theB m c (rowAt t r) (colAt j e) else theY m c (rowAt t r) (colAt j e) := by
  rw [← at_bT, theY, ← at_uT]
  unfold below
  by_cases h : t.val % 32 = 0
  · rw [Cert.FfnRun.left_first m c t h, if_pos h]
    exact gates_first m c t h i j r e
  · rw [Cert.FfnRun.left_next m c t h, if_neg h]
    exact gates_next m c t h _ i j r e

theorem left_grad (t : Fin cfg0.N) (r : Fin 256) (e : Fin 1024) :
    (Cert.FfnRun.left m c t.val t.isLt).2.1 (ix2 r e)
      = dT m c t r e + rmsGrad (xT m c t r) (fun k => hT m c t (below m c t) r k * sT m c t k) e := by
  unfold below
  by_cases h : t.val % 32 = 0
  · rw [Cert.FfnRun.left_first m c t h, if_pos h]
    exact rows_first m c t h r e
  · rw [Cert.FfnRun.left_next m c t h, if_neg h]
    exact rows_next m c t h _ r e

/-- The sum a tile adds to the gradient of the norm's scale. -/
def tileScale (t : Fin cfg0.N) (e : Fin 1024) : EReal := ∑ r, hT m c t (below m c t) r e * (xT m c t r e * rinv (xT m c t r))

theorem left_scale_first (t : Fin cfg0.N) (h : t.val % 32 = 0) (e : Fin 1024) :
    (Cert.FfnRun.left m c t.val t.isLt).2.2.1 (ix2 0 e) = 0 + tileScale m c t e := by
  unfold tileScale below
  rw [Cert.FfnRun.left_first m c t h, if_pos h]
  exact scale_first m c t h e

theorem left_scale_next (t : Fin cfg0.N) (h : ¬ t.val % 32 = 0) (e : Fin 1024) :
    (Cert.FfnRun.left m c t.val t.isLt).2.2.1 (ix2 0 e) = (Cert.FfnRun.before m c t).2.2.1 (ix2 0 e) + tileScale m c t e := by
  unfold tileScale below
  rw [Cert.FfnRun.left_next m c t h, if_neg h]
  exact scale_next m c t h _ e

/-- The sum a tile adds to the gradient of a tap. -/
def tileTap (k : Fin 3) (j : Fin 2) (t : Fin cfg0.N) (e : Fin 1536) : EReal := ∑ r, cT m c t j r e * gT m c t j ⟨6 + k.val + r.val, by omega⟩ e

theorem left_tap_first (k : Fin 3) (j : Fin 2) (t : Fin cfg0.N) (h : t.val % 32 = 0) (e : Fin 1536) :
    (Cert.FfnRun.left m c t.val t.isLt).2.2.2.1 (ix2 k (colAt j e)) = 0 + tileTap m c k j t e := by
  rw [Cert.FfnRun.left_first m c t h]
  exact taps_first m c t h k j e

theorem left_tap_next (k : Fin 3) (j : Fin 2) (t : Fin cfg0.N) (h : ¬ t.val % 32 = 0) (e : Fin 1536) :
    (Cert.FfnRun.left m c t.val t.isLt).2.2.2.1 (ix2 k (colAt j e))
      = (Cert.FfnRun.before m c t).2.2.2.1 (ix2 k (colAt j e)) + tileTap m c k j t e := by
  rw [Cert.FfnRun.left_next m c t h]
  exact taps_next m c t h _ k j e

/-- The sum a tile adds to the gradient of the bias. -/
def tileBias (j : Fin 2) (t : Fin cfg0.N) (e : Fin 1536) : EReal := ∑ r, cT m c t j r e

theorem left_bias_first (j : Fin 2) (t : Fin cfg0.N) (h : t.val % 32 = 0) (e : Fin 1536) :
    (Cert.FfnRun.left m c t.val t.isLt).2.2.2.2.1 (ix2 0 (colAt j e)) = 0 + tileBias m c j t e := by
  rw [Cert.FfnRun.left_first m c t h]
  exact bias_first m c t h j e

theorem left_bias_next (j : Fin 2) (t : Fin cfg0.N) (h : ¬ t.val % 32 = 0) (e : Fin 1536) :
    (Cert.FfnRun.left m c t.val t.isLt).2.2.2.2.1 (ix2 0 (colAt j e))
      = (Cert.FfnRun.before m c t).2.2.2.2.1 (ix2 0 (colAt j e)) + tileBias m c j t e := by
  rw [Cert.FfnRun.left_next m c t h]
  exact bias_next m c t h _ j e

/-! ## The tiles' sums -/

/-- A sum over the tiles' rows is a sum over all rows. -/
theorem sum_tiles (f : Fin 8192 → EReal) : ∑ t : Fin cfg0.N, ∑ r, f (rowAt t r) = ∑ s, f s := by
  refine Eq.trans ?_ (Fin.sum_mul_add_fin 32 256 f)
  refine Eq.trans ?_ (Equiv.sum_comp (Fin.revPerm (n := 32)) _)
  have hv (t : Fin 32) : (Fin.revPerm t).val = 31 - t.val := by
    rw [Fin.revPerm_apply, Fin.val_rev]
    omega
  exact Finset.sum_congr rfl fun t _ => Finset.sum_congr rfl fun r _ =>
    congrArg f (Fin.ext (congrArg (fun n => n * 256 + r.val) (hv t)).symm)

theorem all_scale (e : Fin 1024) : ∑ t, tileScale m c t e
    = ∑ s, theH m c s e * (argX m c (ix2 s e) * rinv fun l => argX m c (ix2 s l)) := by
  rw [← sum_tiles]
  refine Finset.sum_congr rfl fun t _ => ?_
  have hx (r : Fin 256) : xT m c t r = fun l => argX m c (ix2 (rowAt t r) l) := funext fun k => at_xT m c t r k
  simp only [tileScale, at_hT, hx]

theorem all_tap (k : Fin 3) (j : Fin 2) (e : Fin 1536) : ∑ t, tileTap m c k j t e
    = ∑ s : Fin 8192, theC m c s (colAt j e) * theG m c (k + s) (colAt j e) := by
  rw [← sum_tiles]
  refine Finset.sum_congr rfl fun t _ => ?_
  unfold tileTap
  refine Finset.sum_congr rfl fun r _ => congrArg₂ (· * ·) (at_cT m c t j r e) ?_
  refine (at_gT m c t j _ (by simp; omega) e).trans (congrArg (fun p => theG m c p (colAt j e)) ?_)
  simp [rowAt]
  omega

theorem all_bias (j : Fin 2) (e : Fin 1536) : ∑ t, tileBias m c j t e = ∑ s, theC m c s (colAt j e) := by
  rw [← sum_tiles]
  simp only [tileBias, at_cT]

end Cert.FfnProof
-- ==== Proof.FfnValue.lean ====
/-
  The gated convolution's backward call against the derivative of its forward lines.

  The reference differentiates `x + (gelu(conv(gate)) * other) @ w_down`, where gate and other are the halves of
  `rms_norm(x, g) @ w_up`, and returns the gradients of both halves, of the rows, of the norm's scale and of the
  convolution's taps and bias.
-/
module

public import proofs.«01_k».proof.Proof.FfnSum
public import proofs.«01_k».proof.Proof.AttnReal
public import proofs.«01_k».proof.Proof.Gen.FfnGradIdeal.Run
public import proofs.«01_k».proof.Defs
public import Idealize.ShloMosaic.Lib.Claim

@[expose] public section

set_option maxRecDepth 16384

noncomputable section

namespace Cert.FfnProof
open Cert.FfnBwdIdeal Cert.FfnBwdIdeal.Gen Cert.FfnGradIdeal.Read Cert.RowGrad
open Idealize.ShloMosaic Idealize.ShloMosaic.TcCoe Idealize.SL.Sem

variable (m : (ℓ : Loc nD τ sig) → Buf (Elt Ideal) ℓ) (c : Dev nD)

/-- Every argument is finite. -/
abbrev AllFinite : Prop := Finite (argD m c) (argW m c) (argU m c) (argX m c) (argG m c) (argT m c) (argB m c)

/-! ## The arrays after the run -/

/-- The reference's results at the call's arguments. -/
abbrev valGates := val_main_v136 (F := Ideal) (argD m c) (argW m c) (argU m c) (argX m c) (argG m c) (argT m c) (argB m c)
abbrev valRows := val_main_v125 (F := Ideal) (argD m c) (argW m c) (argU m c) (argX m c) (argG m c) (argT m c) (argB m c)
abbrev valScale := val_main_v108 (F := Ideal) (argD m c) (argW m c) (argU m c) (argX m c) (argG m c) (argT m c) (argB m c)
abbrev valTaps := val_main_v101 (F := Ideal) (argD m c) (argW m c) (argU m c) (argX m c) (argG m c) (argT m c) (argB m c)
abbrev valBias := val_main_v76 (F := Ideal) (argD m c) (argW m c) (argU m c) (argX m c) (argG m c) (argT m c) (argB m c)

/-- The last point, which takes the first tile. -/
abbrev lastTile : Fin cfg0.N := ⟨31, lt_of_lt_of_eq (by decide : 31 < 32) N_0.symm⟩

/-- The window of the pairs of column blocks, read from any array. -/
theorem gates_place (W : Vec Ideal S2x2x8192x1536 .bf16) (t : Fin cfg0.N) (i j : Fin 2) (r : Fin 256) (e : Fin 1536) :
    W ((win0_9.blk t).view.emb (ix4 i j r e)) = W (ix4 i j (rowAt t r) e) := by
  blk_ext [rowAt, origin t]

/-- The reference's pairs, at an index. -/
theorem ref_gates (h : AllFinite m c) (i j : Fin 2) (s : Fin 8192) (e : Fin 1536) :
    valGates m c (ix4 i j s e) = if i = 0 then theB m c s (colAt j e) else theY m c s (colAt j e) := by
  obtain rfl | rfl : i = 0 ∨ i = 1 := by omega
  · exact (ref_pair_gate _ _ _ _ _ _ _ h j s e).trans (if_pos rfl).symm
  · exact (ref_pair_side _ _ _ _ _ _ _ h j s e).trans (if_neg (by decide)).symm

/-- The kernel ends with the reference's gradients of the two halves. -/
theorem final_gates (h : AllFinite m c) : (Cert.FfnRun.dats m 0 c).arrAt 9 cfg0.N = valGates m c := by
  have hr := ref_gates m c h
  generalize valGates m c = W at hr ⊢
  refine (Cert.FfnRun.dats m 0 c).arrAt_eq_of_covers 9 _ (by decide +kernel) fun t hf y => ?_
  blk_simp
  rw [Cert.FfnRun.after_9]
  obtain ⟨i, j, r, e, rfl⟩ : ∃ (i j : Fin 2) (r : Fin 256) (e : Fin 1536), y = ix4 i j r e := ⟨y 0, y 1, y 2, y 3, by blk_ext⟩
  exact (left_gates m c t i j r e).trans ((hr i j _ e).symm.trans (gates_place W t i j r e).symm)

/-- The kernel ends with the reference's gradient of the rows. -/
theorem final_rows (h : AllFinite m c) : (Cert.FfnRun.dats m 0 c).arrAt 10 cfg0.N = valRows m c := by
  refine (Cert.FfnRun.dats m 0 c).arrAt_eq_of_covers 10 _ (by decide +kernel) fun t hf y => ?_
  blk_simp
  rw [Cert.FfnRun.after_10]
  obtain ⟨r, e, rfl⟩ : ∃ (r : Fin 256) (e : Fin 1024), y = ix2 r e := ⟨y 0, y 1, by blk_ext⟩
  have hi : (win0_10.blk t).view.emb (ix2 r e) = ix2 (rowAt t r) e := by blk_ext [rowAt, origin t]
  have hx : xT m c t r = fun l => argX m c (ix2 (rowAt t r) l) := funext fun k => at_xT m c t r k
  rw [hi, left_grad, hx, at_dT]
  simp only [at_hT, at_sT]
  exact (ref_rows _ _ _ _ _ _ _ h (rowAt t r) e).symm

/-- The kernel ends with the reference's gradient of the norm's scale. -/
theorem final_scale (h : AllFinite m c) : (Cert.FfnRun.dats m 0 c).arrAt 11 cfg0.N = valScale m c := by
  refine (Cert.FfnRun.dats m 0 c).arrAt_eq_of_after_last 11 lastTile (by decide +kernel) _ fun y => ?_
  blk_simp
  rw [Cert.FfnRun.after_11]
  obtain ⟨e, rfl⟩ : ∃ (e : Fin 1024), y = ix2 0 e := ⟨y 1, by blk_ext⟩
  rw [valScale, ref_scale _ _ _ _ _ _ _ h]
  refine (Pipeline.eq_sum_fin_of_reset_step_apply_last (ι := Fin 1024)
    (fun n hn p => (Cert.FfnRun.left m c n hn).2.2.1 (ix2 0 p)) 32 (fun _ => 0) (fun t p => tileScale m c t p)
    (fun t ht p => left_scale_first m c t ht p) (fun t ht p => left_scale_next m c t ht p)
    (le_of_eq N_0) lastTile rfl e).trans ?_
  rw [zero_add]
  exact all_scale m c e

/-- A column is one of a block. -/
theorem in_block (y : Fin 3072) : ∃ (j : Fin 2) (e : Fin 1536), y = colAt j e :=
  ⟨⟨y.val / 1536, by omega⟩, ⟨y.val % 1536, by omega⟩, Fin.ext (by simp [colAt]; omega)⟩

/-- The kernel ends with the reference's gradient of the taps. -/
theorem final_taps (h : AllFinite m c) : (Cert.FfnRun.dats m 0 c).arrAt 12 cfg0.N = valTaps m c := by
  refine (Cert.FfnRun.dats m 0 c).arrAt_eq_of_after_last 12 lastTile (by decide +kernel) _ fun y => ?_
  blk_simp
  rw [Cert.FfnRun.after_12]
  obtain ⟨k, l, rfl⟩ : ∃ (k : Fin 3) (l : Fin 3072), y = ix2 k l := ⟨y 0, y 1, by blk_ext⟩
  obtain ⟨j, e, rfl⟩ := in_block l
  rw [valTaps, ref_taps _ _ _ _ _ _ _ h]
  refine (Pipeline.eq_sum_fin_of_reset_step_apply_last (ι := Fin 1536)
    (fun n hn p => (Cert.FfnRun.left m c n hn).2.2.2.1 (ix2 k (colAt j p))) 32 (fun _ => 0) (fun t p => tileTap m c k j t p)
    (fun t ht p => left_tap_first m c k j t ht p) (fun t ht p => left_tap_next m c k j t ht p)
    (le_of_eq N_0) lastTile rfl e).trans ?_
  rw [zero_add]
  exact all_tap m c k j e

/-- The kernel ends with the reference's gradient of the bias. -/
theorem final_bias (h : AllFinite m c) : (Cert.FfnRun.dats m 0 c).arrAt 13 cfg0.N = valBias m c := by
  refine (Cert.FfnRun.dats m 0 c).arrAt_eq_of_after_last 13 lastTile (by decide +kernel) _ fun y => ?_
  blk_simp
  rw [Cert.FfnRun.after_13]
  obtain ⟨l, rfl⟩ : ∃ (l : Fin 3072), y = ix2 0 l := ⟨y 1, by blk_ext⟩
  obtain ⟨j, e, rfl⟩ := in_block l
  rw [valBias, ref_bias _ _ _ _ _ _ _ h]
  refine (Pipeline.eq_sum_fin_of_reset_step_apply_last (ι := Fin 1536)
    (fun n hn p => (Cert.FfnRun.left m c n hn).2.2.2.2.1 (ix2 0 (colAt j p))) 32 (fun _ => 0) (fun t p => tileBias m c j t p)
    (fun t ht p => left_bias_first m c j t ht p) (fun t ht p => left_bias_next m c j t ht p)
    (le_of_eq N_0) lastTile rfl e).trans ?_
  rw [zero_add]
  exact all_bias m c j e

/-! ## The claim -/

/-- The side conditions of the precondition. -/
instance preFacts : Cert.Pre_finite_ffn.Facts where
  bcast_S_S8192x1024 := by decide
  reducesTo_S8192x1024_S_d0_1 := by decide
  h_S_ := by decide
  bcast_S_S3072x1024 := by decide
  reducesTo_S3072x1024_S_d0_1 := by decide
  bcast_S_S1024x6144 := by decide
  reducesTo_S1024x6144_S_d0_1 := by decide
  bcast_S_S1x1024 := by decide
  reducesTo_S1x1024_S_d0_1 := by decide
  bcast_S_S3x3072 := by decide
  reducesTo_S3x3072_S_d0_1 := by decide
  bcast_S_S1x3072 := by decide
  reducesTo_S1x3072_S_d0_1 := by decide

/-- What the precondition says: every argument is finite. -/
theorem finite_of (h : Cert.Pre_FfnBwdIdeal_finite_ffn m) : AllFinite m c := by
  have h := congrFun (h c) (fun a => a.elim0)
  unfold Cert.Pre_finite_ffn.fn Cert.Pre_finite_ffn.fn_part1 at h
  simp only [andi, IntOp.andi_eq_one] at h
  haveI : Subsingleton (Cert.Pre_finite_ffn.S_).Idx := ⟨fun a b => funext fun k => k.elim0⟩
  exact {
    above := fun s k => RealOf.entries _ _ _ _ _ _ h.1.1.1.1.1.1 _
    down := fun s k => RealOf.entries _ _ _ _ _ _ h.1.1.1.1.1.2 _
    up := fun s k => RealOf.entries _ _ _ _ _ _ h.1.1.1.1.2 _
    row := fun s k => RealOf.entries _ _ _ _ _ _ h.1.1.1.2 _
    scale := fun k => RealOf.entries _ _ _ _ _ _ h.1.1.2 _
    tap := fun s k => RealOf.entries _ _ _ _ _ _ h.1.2 _
    bias := fun k => RealOf.entries _ _ _ _ _ _ h.2 _ }

/-- The two programs end with the same gradients. -/
theorem algebraic : Cert.algebraic_FfnBwdIdeal_FfnGradIdeal_pre_finite_ffn := by
  intro m g m' g' hpre hagree
  refine ⟨valGates m, valRows m, valScale m, valTaps m, valBias m,
    (θ_run _ _ _).mono (fun r h c => ⟨(h c).1.1.trans (final_gates m c (finite_of m c hpre)),
        (h c).1.2.1.trans (final_rows m c (finite_of m c hpre)), (h c).1.2.2.1.trans (final_scale m c (finite_of m c hpre)),
        (h c).1.2.2.2.1.trans (final_taps m c (finite_of m c hpre)), (h c).1.2.2.2.2.trans (final_bias m c (finite_of m c hpre)),
        (h c).2⟩)
      (Cert.FfnRun.run_arrays m g),
    (θ_run _ _ _).mono (fun r h c => ?_) (Cert.FfnGradIdeal.Value.run m' g')⟩
  have hc := hagree c
  have a0 : StableHlo.launchContents m' c (Proc.devRef .tc Cert.FfnGradIdeal.main_arg0) = argD m c := hc.1
  have a1 : StableHlo.launchContents m' c (Proc.devRef .tc Cert.FfnGradIdeal.main_arg1) = argW m c := hc.2.1
  have a2 : StableHlo.launchContents m' c (Proc.devRef .tc Cert.FfnGradIdeal.main_arg2) = argU m c := hc.2.2.1
  have a3 : StableHlo.launchContents m' c (Proc.devRef .tc Cert.FfnGradIdeal.main_arg3) = argX m c := hc.2.2.2.1
  have a4 : StableHlo.launchContents m' c (Proc.devRef .tc Cert.FfnGradIdeal.main_arg4) = argG m c := hc.2.2.2.2.1
  have a5 : StableHlo.launchContents m' c (Proc.devRef .tc Cert.FfnGradIdeal.main_arg5) = argT m c := hc.2.2.2.2.2.1
  have a6 : StableHlo.launchContents m' c (Proc.devRef .tc Cert.FfnGradIdeal.main_arg6) = argB m c := hc.2.2.2.2.2.2
  refine ⟨(h c).1.trans ?_, (h c).2.1.trans ?_, (h c).2.2.1.trans ?_, (h c).2.2.2.1.trans ?_, (h c).2.2.2.2.1.trans ?_, (h c).2.2.2.2.2⟩
  · rw [val_main_v136_eq, a0, a1, a2, a3, a4, a5, a6]
  · rw [val_main_v125_eq, a0, a1, a2, a3, a4, a5, a6]
  · rw [val_main_v108_eq, a0, a1, a2, a3, a4, a5, a6]
  · rw [val_main_v101_eq, a0, a1, a2, a3, a4, a5, a6]
  · rw [val_main_v76_eq, a0, a1, a2, a3, a4, a5, a6]

end Cert.FfnProof
-- ==== Proof.FfnFrames.lean ====
/- The frames of the gated convolution's pair, and what idealizing rewrote. -/
module

public import proofs.«01_k».proof.Proof.FfnRunBits
public import proofs.«01_k».proof.Proof.Gen.FfnGradIdeal.Run
public import proofs.«01_k».proof.Proof.FfnValue
public import Idealize.ShloMosaic.Lib.Claim

@[expose] public section

noncomputable section

namespace Cert.FfnProof
open Idealize.ShloMosaic Idealize.ShloMosaic.TcCoe Idealize.SL.Sem

/-- The call as it is compiled keeps its arguments. -/
theorem frame_kernel : Cert.quiescent_FfnBwd := fun m ρ _ => Cert.FfnRunBits.frame_run m ρ

/-- So does the call over the reals. -/
theorem frame_ideal : Cert.quiescent_FfnBwdIdeal := fun m ρ _ => Cert.FfnRun.frame_run m ρ

/-- So does the reference, which has no semaphore. -/
theorem frame_reference : Cert.quiescent_FfnGradIdeal := fun m ρ _ =>
  (θ_run _ _ _).mono (fun r h => ⟨fun c => (h c).2.2.2.2.2, funext fun s => nomatch s⟩) (Cert.FfnGradIdeal.Value.run m ρ)

/-- The frames also hold where the arguments are finite. -/
theorem frame_ideal_finite : Cert.quiescent_FfnBwdIdeal_pre_finite_ffn := fun m ρ _ => Cert.FfnRun.frame_run m ρ

theorem frame_reference_finite : Cert.quiescent_FfnGradIdeal_pre_finite_ffn := fun m ρ _ => frame_reference m ρ trivial

/-- The two constants of gelu's derivative stand for the products of the forward lines' constants. -/
theorem preserves : Cert.preserves_FfnBwd_FfnBwdIdeal :=
  ⟨IdealRules.named_const.statement Cert.FfnBwdIdeal.κ "gelu_ck" .f32 0x3D122279#32 ((80338380498831 / 2251799813685248 : ℝ) : EReal) rfl,
    IdealRules.named_const.statement Cert.FfnBwdIdeal.κ "gelu_3ck" .f32 0x3DDB33B6#32 ((241015141496493 / 2251799813685248 : ℝ) : EReal) rfl⟩

end Cert.FfnProof
-- ==== Proof.ConfRun.lean ====
/- The run of the conformer's backward call (ConfBwdIdeal), point by point.
   One point of the grid runs the body in one of two cases, the first point and the later ones. This module names what a
   case leaves in each output and in the scratch that is carried to the next point, follows it over the grid, and proves
   that the whole program ends with the arguments unchanged and with each output array as the points left it. -/
module

public import proofs.«01_k».proof.Proof.Gen.ConfBwdIdeal.Frame.RunB
public import Idealize.ShloMosaic.Lib.Claim
public import Idealize.ShloMosaic.Lib.Pipeline.Value

@[expose] public section

set_option maxRecDepth 16384

noncomputable section

namespace Cert.ConfRun

open Cert.ConfBwdIdeal Cert.ConfBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- What a point leaves: the five outputs' blocks in order, then the carried scratch. -/
abbrev Left (F : FTy → Type) : Type := Vec F S2x512x512 .bf16 × Vec F S31x512 .f32 × Vec F S1x512 .f32
  × Vec F S1x512 .f32 × Vec F S1x512 .f32 × Vec F S544x512 .f32

/-- The body's run at the first point, on that point's blocks. -/
def runFirst (c : Dev nD) (t : Fin cfg0.N) (h : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) ((hcond0_0 t).mpr h) (iblk m c 0 t) (iblk m c 1 t) (iblk m c 2 t) (iblk m c 3 t) (iblk m c 4 t) (iblk m c 5 t) (iblk m c 6 t) (iblk m c 7 t) (iblk m c 8 t) (iblk m c 9 t)

/-- The body's run at a later point, on that point's blocks and on what the point before left. -/
def runNext (c : Dev nD) (t : Fin cfg0.N) (h : ¬ t.val % 16 = 0) (p : Left F) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) scM0_0 (Memref.isWhole_whole _) scM0_1 (Memref.isWhole_whole _) scM0_2 (Memref.isWhole_whole _) (fun e => h ((hcond0_0 t).mp e)) (iblk m c 0 t) (iblk m c 1 t) (iblk m c 2 t) (iblk m c 3 t) (iblk m c 4 t) (iblk m c 5 t) (iblk m c 6 t) (iblk m c 7 t) (iblk m c 8 t) (iblk m c 9 t)
    p.2.1 p.2.2.1 p.2.2.2.1 p.2.2.2.2.1 p.2.2.2.2.2

/-- The first point's stores into output 10 cover it. -/
theorem gatesFirst_cover (c : Dev nD) (t : Fin cfg0.N) (h : t.val % 16 = 0) (y : S2x512x512.Idx) :
    ∃ pc ∈ (runFirst m c t h).1, y ∈ pc.1.set := View.cover_of_tiledL (runFirst m c t h).1 S1x512x512.size (by sl_kernel_rfl) y

/-- What the first point leaves in output 10. -/
def gatesFirst (c : Dev nD) (t : Fin cfg0.N) (h : t.val % 16 = 0) : Vec F S2x512x512 .bf16 :=
  VO0_10.read (Elt F) (VO0_10.writes (Elt F) VO0_10.junk (runFirst m c t h).1)

/-- The later point's stores into output 10 cover it. -/
theorem gatesNext_cover (c : Dev nD) (t : Fin cfg0.N) (h : ¬ t.val % 16 = 0) (p : Left F) (y : S2x512x512.Idx) :
    ∃ pc ∈ (runNext m c t h p).1, y ∈ pc.1.set := View.cover_of_tiledL (runNext m c t h p).1 S1x512x512.size (by sl_kernel_rfl) y

/-- What a later point leaves in output 10. -/
def gatesNext (c : Dev nD) (t : Fin cfg0.N) (h : ¬ t.val % 16 = 0) (p : Left F) : Vec F S2x512x512 .bf16 :=
  VO0_10.read (Elt F) (VO0_10.writes (Elt F) VO0_10.junk (runNext m c t h p).1)

/-- The first point's stores into output 11 cover it. -/
theorem tapsFirst_cover (c : Dev nD) (t : Fin cfg0.N) (h : t.val % 16 = 0) (y : S31x512.Idx) :
    ∃ pc ∈ (runFirst m c t h).2.1, y ∈ pc.1.set := View.cover_of_tiledBy (runFirst m c t h).2.1 ![1, 512] (by sl_kernel_rfl) y

/-- What the first point leaves in output 11. -/
def tapsFirst (c : Dev nD) (t : Fin cfg0.N) (h : t.val % 16 = 0) : Vec F S31x512 .f32 :=
  VO0_11.read (Elt F) (VO0_11.writes (Elt F) VO0_11.junk (runFirst m c t h).2.1)

/-- The later point's stores into output 11 cover it. -/
theorem tapsNext_cover (c : Dev nD) (t : Fin cfg0.N) (h : ¬ t.val % 16 = 0) (p : Left F) (y : S31x512.Idx) :
    ∃ pc ∈ (runNext m c t h p).2.1, y ∈ pc.1.set := View.cover_of_tiledL (runNext m c t h p).2.1 S1x512.size (by sl_kernel_rfl) y

/-- What a later point leaves in output 11. -/
def tapsNext (c : Dev nD) (t : Fin cfg0.N) (h : ¬ t.val % 16 = 0) (p : Left F) : Vec F S31x512 .f32 :=
  VO0_11.read (Elt F) (VO0_11.writes (Elt F) VO0_11.junk (runNext m c t h p).2.1)

/-- The first point's stores into output 12 cover it. -/
theorem biasFirst_cover (c : Dev nD) (t : Fin cfg0.N) (h : t.val % 16 = 0) (y : S1x512.Idx) :
    ∃ pc ∈ (runFirst m c t h).2.2.1, y ∈ pc.1.set := View.cover_of_tiledL (runFirst m c t h).2.2.1 S1x512.size (by sl_kernel_rfl) y

/-- What the first point leaves in output 12. -/
def biasFirst (c : Dev nD) (t : Fin cfg0.N) (h : t.val % 16 = 0) : Vec F S1x512 .f32 :=
  VO0_12.read (Elt F) (VO0_12.writes (Elt F) VO0_12.junk (runFirst m c t h).2.2.1)

/-- The later point's stores into output 12 cover it. -/
theorem biasNext_cover (c : Dev nD) (t : Fin cfg0.N) (h : ¬ t.val % 16 = 0) (p : Left F) (y : S1x512.Idx) :
    ∃ pc ∈ (runNext m c t h p).2.2.1, y ∈ pc.1.set := View.cover_of_tiledL (runNext m c t h p).2.2.1 S1x512.size (by sl_kernel_rfl) y

/-- What a later point leaves in output 12. -/
def biasNext (c : Dev nD) (t : Fin cfg0.N) (h : ¬ t.val % 16 = 0) (p : Left F) : Vec F S1x512 .f32 :=
  VO0_12.read (Elt F) (VO0_12.writes (Elt F) VO0_12.junk (runNext m c t h p).2.2.1)

/-- The first point's stores into output 13 cover it. -/
theorem scaleFirst_cover (c : Dev nD) (t : Fin cfg0.N) (h : t.val % 16 = 0) (y : S1x512.Idx) :
    ∃ pc ∈ (runFirst m c t h).2.2.2.1, y ∈ pc.1.set := View.cover_of_tiledL (runFirst m c t h).2.2.2.1 S1x512.size (by sl_kernel_rfl) y

/-- What the first point leaves in output 13. -/
def scaleFirst (c : Dev nD) (t : Fin cfg0.N) (h : t.val % 16 = 0) : Vec F S1x512 .f32 :=
  VO0_13.read (Elt F) (VO0_13.writes (Elt F) VO0_13.junk (runFirst m c t h).2.2.2.1)

/-- The later point's stores into output 13 cover it. -/
theorem scaleNext_cover (c : Dev nD) (t : Fin cfg0.N) (h : ¬ t.val % 16 = 0) (p : Left F) (y : S1x512.Idx) :
    ∃ pc ∈ (runNext m c t h p).2.2.2.1, y ∈ pc.1.set := View.cover_of_tiledL (runNext m c t h p).2.2.2.1 S1x512.size (by sl_kernel_rfl) y

/-- What a later point leaves in output 13. -/
def scaleNext (c : Dev nD) (t : Fin cfg0.N) (h : ¬ t.val % 16 = 0) (p : Left F) : Vec F S1x512 .f32 :=
  VO0_13.read (Elt F) (VO0_13.writes (Elt F) VO0_13.junk (runNext m c t h p).2.2.2.1)

/-- The first point's stores into output 14 cover it. -/
theorem shiftFirst_cover (c : Dev nD) (t : Fin cfg0.N) (h : t.val % 16 = 0) (y : S1x512.Idx) :
    ∃ pc ∈ (runFirst m c t h).2.2.2.2.1, y ∈ pc.1.set := View.cover_of_tiledL (runFirst m c t h).2.2.2.2.1 S1x512.size (by sl_kernel_rfl) y

/-- What the first point leaves in output 14. -/
def shiftFirst (c : Dev nD) (t : Fin cfg0.N) (h : t.val % 16 = 0) : Vec F S1x512 .f32 :=
  VO0_14.read (Elt F) (VO0_14.writes (Elt F) VO0_14.junk (runFirst m c t h).2.2.2.2.1)

/-- The later point's stores into output 14 cover it. -/
theorem shiftNext_cover (c : Dev nD) (t : Fin cfg0.N) (h : ¬ t.val % 16 = 0) (p : Left F) (y : S1x512.Idx) :
    ∃ pc ∈ (runNext m c t h p).2.2.2.2.1, y ∈ pc.1.set := View.cover_of_tiledL (runNext m c t h p).2.2.2.2.1 S1x512.size (by sl_kernel_rfl) y

/-- What a later point leaves in output 14. -/
def shiftNext (c : Dev nD) (t : Fin cfg0.N) (h : ¬ t.val % 16 = 0) (p : Left F) : Vec F S1x512 .f32 :=
  VO0_14.read (Elt F) (VO0_14.writes (Elt F) VO0_14.junk (runNext m c t h p).2.2.2.2.1)

/-- The first point's stores into the carried scratch cover it. -/
theorem haloFirst_cover (c : Dev nD) (t : Fin cfg0.N) (h : t.val % 16 = 0) (y : S544x512.Idx) :
    ∃ pc ∈ (runFirst m c t h).2.2.2.2.2.1, y ∈ pc.1.set := View.cover_of_tiledBy (runFirst m c t h).2.2.2.2.2.1 ![32, 512] (by sl_kernel_rfl) y

/-- What the first point leaves in the carried scratch. -/
def haloFirst (c : Dev nD) (t : Fin cfg0.N) (h : t.val % 16 = 0) : Vec F S544x512 .f32 :=
  VS0_1.read (Elt F) (VS0_1.writes (Elt F) VS0_1.junk (runFirst m c t h).2.2.2.2.2.1)

/-- The later point's stores into the carried scratch cover it. -/
theorem haloNext_cover (c : Dev nD) (t : Fin cfg0.N) (h : ¬ t.val % 16 = 0) (p : Left F) (y : S544x512.Idx) :
    ∃ pc ∈ (runNext m c t h p).2.2.2.2.2.1, y ∈ pc.1.set := View.cover_of_tiledBy (runNext m c t h p).2.2.2.2.2.1 ![32, 512] (by sl_kernel_rfl) y

/-- What a later point leaves in the carried scratch. -/
def haloNext (c : Dev nD) (t : Fin cfg0.N) (h : ¬ t.val % 16 = 0) (p : Left F) : Vec F S544x512 .f32 :=
  VS0_1.read (Elt F) (VS0_1.writes (Elt F) VS0_1.junk (runNext m c t h p).2.2.2.2.2.1)

/-- What the first point leaves. -/
def leftFirst (c : Dev nD) (t : Fin cfg0.N) (h : t.val % 16 = 0) : Left F :=
  (gatesFirst m c t h, tapsFirst m c t h, biasFirst m c t h, scaleFirst m c t h, shiftFirst m c t h, haloFirst m c t h)

/-- What a later point leaves over what the point before left. -/
def leftNext (c : Dev nD) (t : Fin cfg0.N) (h : ¬ t.val % 16 = 0) (p : Left F) : Left F :=
  (gatesNext m c t h p, tapsNext m c t h p, biasNext m c t h p, scaleNext m c t h p, shiftNext m c t h p, haloNext m c t h p)

/-! ## All points -/

/-- What point `n` leaves. -/
def left (c : Dev nD) : (n : ℕ) → n < cfg0.N → Left F
  | 0, hn => leftFirst m c ⟨0, hn⟩ (Nat.zero_mod _)
  | n + 1, hn =>
    if h : (n + 1) % 16 = 0 then leftFirst m c ⟨n + 1, hn⟩ h
    else leftNext m c ⟨n + 1, hn⟩ h (left c n (Nat.lt_of_succ_lt hn))

/-- What the point before `t` left. -/
abbrev before (c : Dev nD) (t : Fin cfg0.N) : Left F := left m c (t.val - 1) (Nat.lt_of_le_of_lt (Nat.sub_le _ _) t.isLt)

theorem left_first (c : Dev nD) (t : Fin cfg0.N) (h : t.val % 16 = 0) : left m c t.val t.isLt = leftFirst m c t h := by
  obtain ⟨n, hn⟩ := t
  cases n with
  | zero => rfl
  | succ n => unfold left; exact dif_pos h

theorem left_next (c : Dev nD) (t : Fin cfg0.N) (h : ¬ t.val % 16 = 0) :
    left m c t.val t.isLt = leftNext m c t h (before m c t) := by
  obtain ⟨n, hn⟩ := t
  cases n with
  | zero => exact absurd (Nat.zero_mod _) h
  | succ n => rw [left]; exact dif_neg h

/-- The carried scratch between points: at anything before the first point, then at what the point before left. -/
def carried (c : Dev nD) : (n : ℕ) → n ≤ cfg0.N → sProp 𝕄
  | 0, _ => Pipeline.ΦA spec0 c
  | n + 1, hn => iprop(iprop((∃ d, owns (c : Thread nD τ) scM0_0 fullShare d)
      ∗ owns (c : Thread nD τ) scM0_1 fullShare (left m c n hn).2.2.2.2.2 ∗ (∃ d, owns (c : Thread nD τ) scM0_2 fullShare d)) ∗ (∃ r, prngReg c r))

theorem carried_zero (c : Dev nD) (n : ℕ) (h : n ≤ cfg0.N) (hz : n = 0) : carried m c n h = Pipeline.ΦA spec0 c := by
  subst hz; rfl

theorem carried_pos (c : Dev nD) (n : ℕ) (h : n ≤ cfg0.N) (hz : n ≠ 0) :
    carried m c n h = iprop(iprop((∃ d, owns (c : Thread nD τ) scM0_0 fullShare d)
      ∗ owns (c : Thread nD τ) scM0_1 fullShare (left m c (n - 1) (by omega)).2.2.2.2.2 ∗ (∃ d, owns (c : Thread nD τ) scM0_2 fullShare d)) ∗ (∃ r, prngReg c r)) := by
  cases n with
  | zero => exact absurd rfl hz
  | succ n => rfl

/-- The proof data of the pipeline: an input's buffer keeps its block, an output's holds what the point leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (left m c t.val t.isLt).1
    | ⟨11, _⟩ => (left m c t.val t.isLt).2.1
    | ⟨12, _⟩ => (left m c t.val t.isLt).2.2.1
    | ⟨13, _⟩ => (left m c t.val t.isLt).2.2.2.1
    | ⟨14, _⟩ => (left m c t.val t.isLt).2.2.2.2.1
  Φ t := carried m c t.val (Nat.le_of_lt_succ t.isLt)
  q w := Pipeline.shareOf spec0 w
  owed _ := 0

theorem entry (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = (left m c t.val t.isLt).1 := by dsimp only [dats]
theorem after_11 (c : Dev nD) (t : Fin cfg0.N) : (dats m 0 c).after 11 t = (left m c t.val t.isLt).2.1 := by dsimp only [dats]
theorem after_12 (c : Dev nD) (t : Fin cfg0.N) : (dats m 0 c).after 12 t = (left m c t.val t.isLt).2.2.1 := by dsimp only [dats]
theorem after_13 (c : Dev nD) (t : Fin cfg0.N) : (dats m 0 c).after 13 t = (left m c t.val t.isLt).2.2.2.1 := by dsimp only [dats]
theorem after_14 (c : Dev nD) (t : Fin cfg0.N) : (dats m 0 c).after 14 t = (left m c t.val t.isLt).2.2.2.2.1 := by dsimp only [dats]

theorem before_0 (c : Dev nD) (t : Fin cfg0.N) (d) : (dats m 0 c).before 0 t d = iblk m c 0 t :=
  before0_0_of m (dats m 0 c) (entry m c 0) (after_0 m c) t d
theorem before_1 (c : Dev nD) (t : Fin cfg0.N) (d) : (dats m 0 c).before 1 t d = iblk m c 1 t :=
  before0_1_of m (dats m 0 c) (entry m c 1) (after_1 m c) t d
theorem before_2 (c : Dev nD) (t : Fin cfg0.N) (d) : (dats m 0 c).before 2 t d = iblk m c 2 t :=
  before0_2_of m (dats m 0 c) (entry m c 2) (after_2 m c) t d
theorem before_3 (c : Dev nD) (t : Fin cfg0.N) (d) : (dats m 0 c).before 3 t d = iblk m c 3 t :=
  before0_3_of m (dats m 0 c) (entry m c 3) (after_3 m c) t d
theorem before_4 (c : Dev nD) (t : Fin cfg0.N) (d) : (dats m 0 c).before 4 t d = iblk m c 4 t :=
  before0_4_of m (dats m 0 c) (entry m c 4) (after_4 m c) t d
theorem before_5 (c : Dev nD) (t : Fin cfg0.N) (d) : (dats m 0 c).before 5 t d = iblk m c 5 t :=
  before0_5_of m (dats m 0 c) (entry m c 5) (after_5 m c) t d
theorem before_6 (c : Dev nD) (t : Fin cfg0.N) (d) : (dats m 0 c).before 6 t d = iblk m c 6 t :=
  before0_6_of m (dats m 0 c) (entry m c 6) (after_6 m c) t d
theorem before_7 (c : Dev nD) (t : Fin cfg0.N) (d) : (dats m 0 c).before 7 t d = iblk m c 7 t :=
  before0_7_of m (dats m 0 c) (entry m c 7) (after_7 m c) t d
theorem before_8 (c : Dev nD) (t : Fin cfg0.N) (d) : (dats m 0 c).before 8 t d = iblk m c 8 t :=
  before0_8_of m (dats m 0 c) (entry m c 8) (after_8 m c) t d
theorem before_9 (c : Dev nD) (t : Fin cfg0.N) (d) : (dats m 0 c).before 9 t d = iblk m c 9 t :=
  before0_9_of m (dats m 0 c) (entry m c 9) (after_9 m c) t d
/-- Output 11 is written back at the last point only: a later point finds what the point before left. -/
theorem before_11 (c : Dev nD) (t : Fin cfg0.N) (h : ¬ t.val % 16 = 0) (d) :
    (dats m 0 c).before 11 t d = (before m c t).2.1 := by
  have hN : t.val < 16 := lt_of_lt_of_eq t.isLt (show cfg0.N = 16 from N_0)
  rw [Dat.before_out_kept _ 11 rfl t (by omega)
    (Bool.eq_false_iff.mpr fun e => by have := (flush0_11 _).mp e; dsimp only at this; omega) (fun _ => rfl) (fun _ _ => rfl)]
  dsimp only [dats]
/-- Output 12 is written back at the last point only: a later point finds what the point before left. -/
theorem before_12 (c : Dev nD) (t : Fin cfg0.N) (h : ¬ t.val % 16 = 0) (d) :
    (dats m 0 c).before 12 t d = (before m c t).2.2.1 := by
  have hN : t.val < 16 := lt_of_lt_of_eq t.isLt (show cfg0.N = 16 from N_0)
  rw [Dat.before_out_kept _ 12 rfl t (by omega)
    (Bool.eq_false_iff.mpr fun e => by have := (flush0_12 _).mp e; dsimp only at this; omega) (fun _ => rfl) (fun _ _ => rfl)]
  dsimp only [dats]
/-- Output 13 is written back at the last point only: a later point finds what the point before left. -/
theorem before_13 (c : Dev nD) (t : Fin cfg0.N) (h : ¬ t.val % 16 = 0) (d) :
    (dats m 0 c).before 13 t d = (before m c t).2.2.2.1 := by
  have hN : t.val < 16 := lt_of_lt_of_eq t.isLt (show cfg0.N = 16 from N_0)
  rw [Dat.before_out_kept _ 13 rfl t (by omega)
    (Bool.eq_false_iff.mpr fun e => by have := (flush0_13 _).mp e; dsimp only at this; omega) (fun _ => rfl) (fun _ _ => rfl)]
  dsimp only [dats]
/-- Output 14 is written back at the last point only: a later point finds what the point before left. -/
theorem before_14 (c : Dev nD) (t : Fin cfg0.N) (h : ¬ t.val % 16 = 0) (d) :
    (dats m 0 c).before 14 t d = (before m c t).2.2.2.2.1 := by
  have hN : t.val < 16 := lt_of_lt_of_eq t.isLt (show cfg0.N = 16 from N_0)
  rw [Dat.before_out_kept _ 14 rfl t (by omega)
    (Bool.eq_false_iff.mpr fun e => by have := (flush0_14 _).mp e; dsimp only at this; omega) (fun _ => rfl) (fun _ _ => rfl)]
  dsimp only [dats]

/-! ## The body's obligation -/

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d)))

/-- What the body returns at point `t`. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t))

set_option maxHeartbeats 2000000 in
/-- The body at any point takes the one to the other. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl,
    after_0, after_1, after_2, after_3, after_4, after_5, after_6, after_7, after_8, after_9, after_10, after_11, after_12, after_13, after_14,
    show (dats m 0 c).Φ t.castSucc = carried m c t.val (Nat.le_of_lt t.isLt) from rfl,
    show (dats m 0 c).Φ t.succ = carried m c (t.val + 1) t.isLt from rfl, carried_pos m c (t.val + 1) _ (Nat.succ_ne_zero _)]
  have hN : t.val < 16 := lt_of_lt_of_eq t.isLt (show cfg0.N = 16 from N_0)
  by_cases h : t.val % 16 = 0
  · rw [carried_zero m c _ _ (by omega), PhiA0_eq]
    simp only [Nat.add_sub_cancel]
    rw [left_first m c t h]
    unfold leftFirst gatesFirst tapsFirst biasFirst scaleFirst shiftFirst haloFirst; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runFirst m c t h).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [H14]; · iexists _; iexact H14
    isplitl [HS0]; · iexact HS0
    isplitl [HS1]; · iexact HS1
    isplitl [HS2]; · iexact HS2
    iintro ⟨H0, H1, H2, H3, H4, H5, H6, H7, H8, H9, ⟨%e10, H10⟩, ⟨%e11, H11⟩, ⟨%e12, H12⟩, ⟨%e13, H13⟩, ⟨%e14, H14⟩, ⟨%fT0, HS0⟩, ⟨%es1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · unfold owns; iexists _; isplitr
          swap; · iexact HS1
          ipureintro; exact View.read_writes_of_cover _ _ _ _ _ (haloFirst_cover m c t h)
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (gatesFirst_cover m c t h)
    isplitl [H11]
    · unfold owns; iexists _; isplitr
      swap; · iexact H11
      ipureintro; exact View.read_writes_of_cover _ _ _ _ _ (tapsFirst_cover m c t h)
    isplitl [H12]
    · unfold owns; iexists _; isplitr
      swap; · iexact H12
      ipureintro; exact View.read_writes_of_cover _ _ _ _ _ (biasFirst_cover m c t h)
    isplitl [H13]
    · unfold owns; iexists _; isplitr
      swap; · iexact H13
      ipureintro; exact View.read_writes_of_cover _ _ _ _ _ (scaleFirst_cover m c t h)
    unfold owns; iexists _; isplitr
    swap; · iexact H14
    ipureintro; exact View.read_writes_of_cover _ _ _ _ _ (shiftFirst_cover m c t h)
  · rw [carried_pos m c _ _ (by omega)]
    simp only [Nat.add_sub_cancel]
    rw [left_next m c t h]
    simp only [before_11 m c t h, before_12 m c t h, before_13 m c t h, before_14 m c t h]
    unfold leftNext gatesNext tapsNext biasNext scaleNext shiftNext haloNext; dsimp only
    iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩⟩
    iapply ((runNext m c t h (before m c t)).2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexact H11
    isplitl [H12]; · iexact H12
    isplitl [H13]; · iexact H13
    isplitl [H14]; · iexact H14
    isplitl [HS0]; · iexact HS0
    isplitl [HS1]; · iexact HS1
    isplitl [HS2]; · iexact HS2
    iintro ⟨H0, H1, H2, H3, H4, H5, H6, H7, H8, H9, ⟨%e10, H10⟩, ⟨%e11, H11⟩, ⟨%e12, H12⟩, ⟨%e13, H13⟩, ⟨%e14, H14⟩, ⟨%fT0, HS0⟩, ⟨%es1, HS1⟩, ⟨%fT2, HS2⟩⟩
    isplitl [HS0 HS1 HS2 Hg]
    · isplitl [HS0 HS1 HS2]
      · isplitl [HS0]
        · iexists _; unfold owns; iexists _; isplitr
          swap; · iexact HS0
          ipureintro; rfl
        isplitl [HS1]
        · unfold owns; iexists _; isplitr
          swap; · iexact HS1
          ipureintro; exact View.read_writes_of_cover _ _ _ _ _ (haloNext_cover m c t h _)
        iexists _; unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact View.read_writes_of_cover _ _ _ _ _ (gatesNext_cover m c t h _)
    isplitl [H11]
    · unfold owns; iexists _; isplitr
      swap; · iexact H11
      ipureintro; exact View.read_writes_of_cover _ _ _ _ _ (tapsNext_cover m c t h _)
    isplitl [H12]
    · unfold owns; iexists _; isplitr
      swap; · iexact H12
      ipureintro; exact View.read_writes_of_cover _ _ _ _ _ (biasNext_cover m c t h _)
    isplitl [H13]
    · unfold owns; iexists _; isplitr
      swap; · iexact H13
      ipureintro; exact View.read_writes_of_cover _ _ _ _ _ (scaleNext_cover m c t h _)
    unfold owns; iexists _; isplitr
    swap; · iexact H14
    ipureintro; exact View.read_writes_of_cover _ _ _ _ _ (shiftNext_cover m c t h _)

/-- The pipeline's obligation at every point. -/
theorem obligation (c : Dev nD) : BodyObligation (dats (F := F) m 0 c) (defs₀ (F := F)) Variants.none () Set.univ := fun t => by
  rw [bigSep_W0, bigSep_W0,
    show defs₀ (F := F) .tc cfg0.body (cfg0.bodyArgs t (cfg0.slots t)) = bodyAt0 t by unfold defs₀; rw [Defs.onTc_tc]]
  exact triple_restated (body_sound m c t) rfl .rfl fun _ => .rfl

/-- What the launch hands over is the invariant before the first point. -/
theorem handed (c : Dev nD) : Pipeline.ΦA spec0 c ⊢ (dats m 0 c).Φ 0 :=
  Idealize.SL.BI.Entails.refl _

/-- After the last point the invariant gives the scratch back. -/
theorem returned (c : Dev nD) : (dats m 0 c).Φ (Fin.last cfg0.N) ⊢ Pipeline.ΦA spec0 c := by
  rw [show (dats m 0 c).Φ (Fin.last cfg0.N) = carried m c (Fin.last cfg0.N).val (Nat.le_of_lt_succ (Fin.last cfg0.N).isLt) from rfl,
    carried_pos m c _ _ (by rw [Fin.val_last]; have : cfg0.N = 16 := N_0; omega), PhiA0_eq]
  iintro ⟨⟨HS0, HS1, HS2⟩, Hg⟩
  isplitl [HS0 HS1 HS2]
  · isplitl [HS0]
    · iexact HS0
    isplitl [HS1]; · iexists _; iexact HS1
    iexact HS2
  iexact Hg

/-! ## The program -/

set_option backward.isDefEq.respectTransparency.types false in
/-- Every run of the program ends, with the arrays as the points leave them and every counter at zero. -/
theorem run : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ Variants.none m ρ main
    (hbody := fun c => (obligation m c).loose) (hq := fun _ _ _ => rfl)
    (howed := fun _ _ => rfl) (V := V m) (hmain := hmain m Variants.none) (hA := entry m) (hin := handed m) (hout := returned m)

/-- The frame: the arguments end unchanged and every counter at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (entry m) ((θ_run defs _ _).mono (fun _ h => h.1) (run m ρ)))
    ((θ_run defs _ _).mono (fun _ h => h.2) (run m ρ))

/-- The run with the five output arrays named. -/
theorem run_arrays : θ_run defs (onTc (τ := τ) (main (F := F))) ⟨m, fun _ => 0, ρ⟩ fun r => ∀ c : Dev nD,
    (r.2.mem ((c : Thread nD τ).loc main_v180_0) = (dats m 0 c).arrAt 10 cfg0.N
      ∧ r.2.mem ((c : Thread nD τ).loc main_v180_1) = (dats m 0 c).arrAt 11 cfg0.N
      ∧ r.2.mem ((c : Thread nD τ).loc main_v180_2) = (dats m 0 c).arrAt 12 cfg0.N
      ∧ r.2.mem ((c : Thread nD τ).loc main_v180_3) = (dats m 0 c).arrAt 13 cfg0.N
      ∧ r.2.mem ((c : Thread nD τ).loc main_v180_4) = (dats m 0 c).arrAt 14 cfg0.N)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨⟨(h.1 c).1 10, (h.1 c).1 11, (h.1 c).1 12, (h.1 c).1 13, (h.1 c).1 14⟩, h.2.1 c⟩)
    (θ_run_and ((θ_run defs _ _).mono (fun _ h => h.1) (run m ρ)) (frame_run m ρ))

end Cert.ConfRun

end
-- ==== Proof.ConfRow.lean ====
/-
  The gradient of a layer norm over a row of 512 and of the gates around it, entry by entry: as the kernel writes them out
  and as the reference's lines do.
-/
module

public import proofs.«01_k».proof.Proof.AttnReal

@[expose] public section

noncomputable section

namespace Cert.ConfProof
open Cert.RowGrad
open Idealize.ShloMosaic

/-! ## Constants -/

theorem const_512 : Ideal.ofBits .f32 0x44000000#32 = ((512 : ℝ) : EReal) := by
  simp [Ideal.ofBits, Ideal.ieee, Nat.shiftRight_eq_div_pow, BitVec.extractLsb'] <;> norm_num

theorem const_one : Ideal.ofBits .f32 0x3F800000#32 = ((1 : ℝ) : EReal) := by
  simp [Ideal.ofBits, Ideal.ieee, Nat.shiftRight_eq_div_pow, BitVec.extractLsb'] <;> norm_num

theorem const_half : Ideal.ofBits .f32 0x3F000000#32 = ((1 / 2 : ℝ) : EReal) := by
  simp [Ideal.ofBits, Ideal.ieee, Nat.shiftRight_eq_div_pow, BitVec.extractLsb'] <;> norm_num

/-! ## The logistic function -/

/-- The logistic function by the hyperbolic tangent. -/
def sgm (x : EReal) : EReal :=
  Ideal.ofBits .f32 0x3F000000#32 * Ideal.tanh (Ideal.ofBits .f32 0x3F000000#32 * x) + Ideal.ofBits .f32 0x3F000000#32

/-- The logistic function by the exponential. -/
def lgs (x : EReal) : EReal :=
  Ideal.div (Ideal.ofBits .f32 0x3F800000#32) (Ideal.ofBits .f32 0x3F800000#32 + Ideal.exp (-x))

/-- Their common value at a real. -/
def lreal (x : ℝ) : ℝ := 1 / (1 + Real.exp (-x))

theorem lgs_real (x : ℝ) : lgs x = (lreal x : EReal) := by
  have h : (1 + Real.exp (-x) : ℝ) ≠ 0 := by positivity
  unfold lgs lreal
  rw [const_one, ← EReal.coe_neg, Ideal.exp_coe, ← EReal.coe_add, Ideal.div_coe h, ← EReal.coe_mul, one_mul]

theorem sgm_real (x : ℝ) : sgm x = (lreal x : EReal) := by
  unfold sgm lreal
  rw [const_half, ← EReal.coe_mul, Ideal.tanh_coe, ← EReal.coe_mul, ← EReal.coe_add]
  congr 1
  have h1 : Real.exp (1 / 2 * x) ≠ 0 := (Real.exp_pos _).ne'
  have h2 : Real.exp (-x) = Real.exp (-(1 / 2 * x)) * Real.exp (-(1 / 2 * x)) := by rw [← Real.exp_add]; congr 1; ring
  rw [Real.tanh_eq_sinh_div_cosh, Real.sinh_eq, Real.cosh_eq, h2, Real.exp_neg]
  field_simp
  ring

theorem sgm_lgs {x : EReal} (h : RealOf.Is x) : sgm x = lgs x := by
  obtain ⟨r, rfl⟩ := h
  rw [sgm_real, lgs_real]

theorem real_add {x y : EReal} : RealOf.Is x → RealOf.Is y → RealOf.Is (x + y) := by
  rintro ⟨a, rfl⟩ ⟨b, rfl⟩
  exact ⟨a + b, (EReal.coe_add a b).symm⟩

theorem real_lgs {x : EReal} (h : RealOf.Is x) : RealOf.Is (lgs x) := by
  obtain ⟨r, rfl⟩ := h
  exact ⟨_, lgs_real r⟩

/-! ## The layer norm -/

/-- The mean of a row. -/
def mean (x : Fin 512 → EReal) : EReal := Ideal.div (∑ k, x k) (Ideal.ofBits .f32 0x44000000#32)

/-- A row less its mean. -/
def dev (x : Fin 512 → EReal) (j : Fin 512) : EReal := x j - mean x

/-- The mean square of that, above zero. -/
def spread (x : Fin 512 → EReal) : EReal := mean (fun k => dev x k * dev x k) + Ideal.ofBits .f32 0x358637BD#32

/-- Its reciprocal root. -/
def rstd (x : Fin 512 → EReal) : EReal := Ideal.rsqrt (spread x)

/-- The normalised row. -/
def xhat (x : Fin 512 → EReal) (j : Fin 512) : EReal := dev x j * rstd x

/-- The normalised row, scaled and shifted. -/
def normed (x g b : Fin 512 → EReal) (j : Fin 512) : EReal := xhat x j * g j + b j

/-- The gradient behind the gate `v ↦ v · σ(v)`, as the kernel writes it. -/
def gateGrad (d v : EReal) : EReal :=
  d * sgm v * (Ideal.ofBits .f32 0x3F800000#32 + v * (Ideal.ofBits .f32 0x3F800000#32 - sgm v))

/-- The gradient behind the norm, as the kernel writes it. -/
def normGrad (x d : Fin 512 → EReal) (j : Fin 512) : EReal :=
  rstd x * (d j - mean d - xhat x j * mean (fun k => d k * xhat x k))

/-- The gradient behind the gate in the reference. -/
def gateRef (d v : EReal) : EReal :=
  d * lgs v + v * d * (lgs v * (Ideal.ofBits .f32 0x3F800000#32 - lgs v))

/-- What the derivative of the mean square multiplies a row by. -/
def spreadRef (x d : Fin 512 → EReal) : EReal :=
  Ideal.div ((∑ k, dev x k * d k) * (Ideal.ofBits .f32 0xBF000000#32 * Ideal.div (rstd x) (spread x)))
    (Ideal.ofBits .f32 0x44000000#32)

/-- The gradient at the row less its mean in the reference. -/
def devRef (x d : Fin 512 → EReal) (j : Fin 512) : EReal :=
  d j * rstd x + dev x j * spreadRef x d + spreadRef x d * dev x j

/-- The gradient behind the norm in the reference. -/
def normRef (x d : Fin 512 → EReal) (j : Fin 512) : EReal := devRef x d j + mean (fun k => -devRef x d k)

theorem gate_eq {d v : EReal} (hd : RealOf.Is d) (hv : RealOf.Is v) : gateGrad d v = gateRef d v := by
  obtain ⟨d, rfl⟩ := hd
  obtain ⟨v, rfl⟩ := hv
  unfold gateGrad gateRef
  rw [sgm_real, lgs_real, const_one]
  norm_cast
  ring

theorem real_gateRef {d v : EReal} (hd : RealOf.Is d) (hv : RealOf.Is v) : RealOf.Is (gateRef d v) := by
  obtain ⟨d, rfl⟩ := hd
  obtain ⟨v, rfl⟩ := hv
  unfold gateRef
  rw [lgs_real, const_one]
  exact ⟨d * lreal v + v * d * (lreal v * (1 - lreal v)), by norm_cast⟩

theorem mean_real (x : Fin 512 → ℝ) : mean (fun k => (x k : EReal)) = (((∑ k, x k) * (1 / 512) : ℝ) : EReal) := by
  unfold mean
  rw [const_512, sum_real, Ideal.div_coe (by norm_num), ← EReal.coe_mul]

/-- What a real row's norm is made of. -/
theorem row_real (x : Fin 512 → ℝ) : ∃ (u : Fin 512 → ℝ) (s r : ℝ), (∀ j, dev (fun k => (x k : EReal)) j = (u j : EReal))
    ∧ ∑ k, u k = 0 ∧ s ≠ 0 ∧ spread (fun k => (x k : EReal)) = (s : EReal) ∧ rstd (fun k => (x k : EReal)) = (r : EReal)
    ∧ r * r = 1 / s := by
  obtain ⟨e, he, hb⟩ := const_eps
  set a : ℝ := (∑ k, x k) * (1 / 512) with ha
  have hu : ∀ j, dev (fun k => (x k : EReal)) j = ((x j - a : ℝ) : EReal) := fun j => by
    unfold dev; rw [mean_real, ← ha]; norm_cast
  set s : ℝ := (∑ k, (x k - a) * (x k - a)) * (1 / 512) + e with hs
  have hsp : spread (fun k => (x k : EReal)) = (s : EReal) := by
    unfold spread
    simp only [hu, hb]
    simp only [← EReal.coe_mul]
    rw [mean_real fun k => (x k - a) * (x k - a), ← EReal.coe_add]
  have hpos : 0 < s := by
    have : 0 ≤ ∑ k, (x k - a) * (x k - a) := Finset.sum_nonneg fun k _ => mul_self_nonneg _
    positivity
  refine ⟨fun j => x j - a, s, (Real.sqrt s)⁻¹, hu, ?_, hpos.ne', hsp, ?_, ?_⟩
  · rw [Finset.sum_sub_distrib, Finset.sum_const, Finset.card_univ, Fintype.card_fin, ha]
    simp; ring
  · unfold rstd
    rw [hsp, Ideal.rsqrt_coe, if_neg (not_lt.2 hpos.le), if_neg hpos.ne']
  · rw [← mul_inv, Real.mul_self_sqrt hpos.le, one_div]

theorem real_xhat {x : Fin 512 → EReal} (hx : ∀ k, RealOf.Is (x k)) (j : Fin 512) : RealOf.Is (xhat x j) := by
  choose y hy using hx
  obtain rfl : x = fun k => (y k : EReal) := funext hy
  obtain ⟨u, s, r, hu, h0, hs0, hs, hr, hrs⟩ := row_real y
  exact ⟨u j * r, by unfold xhat; rw [hu, hr, EReal.coe_mul]⟩

theorem real_normed {x g b : Fin 512 → EReal} (hx : ∀ k, RealOf.Is (x k)) (hg : ∀ k, RealOf.Is (g k)) (hb : ∀ k, RealOf.Is (b k))
    (j : Fin 512) : RealOf.Is (normed x g b j) := by
  obtain ⟨p, hp⟩ := real_xhat hx j
  obtain ⟨q, hq⟩ := hg j
  obtain ⟨w, hw⟩ := hb j
  exact ⟨p * q + w, by unfold normed; rw [hp, hq, hw]; norm_cast⟩

/-- For real rows the two ways agree, and the gradient is real. -/
theorem norm_both {x d : Fin 512 → EReal} (hx : ∀ k, RealOf.Is (x k)) (hd : ∀ k, RealOf.Is (d k)) (j : Fin 512) :
    normGrad x d j = normRef x d j ∧ RealOf.Is (normRef x d j) := by
  choose y hy using hx
  obtain rfl : x = fun k => (y k : EReal) := funext hy
  choose z hz using hd
  obtain rfl : d = fun k => (z k : EReal) := funext hz
  obtain ⟨u, s, r, hu, h0, hs0, hs, hr, hrs⟩ := row_real y
  set S : ℝ := ∑ k, u k * z k with hS
  have hT : spreadRef (fun k => (y k : EReal)) (fun k => (z k : EReal)) = ((S * (-(1 / 2) * (r * (1 / s))) * (1 / 512) : ℝ) : EReal) := by
    unfold spreadRef
    rw [hr, hs, const_512, const_neg_half, Ideal.div_coe hs0, Ideal.div_coe (by norm_num)]
    simp only [hu, ← EReal.coe_mul, sum_real]
    norm_cast
  set T : ℝ := S * (-(1 / 2) * (r * (1 / s))) * (1 / 512) with hTdef
  have hdev : ∀ k, devRef (fun k => (y k : EReal)) (fun k => (z k : EReal)) k = ((z k * r + u k * T + T * u k : ℝ) : EReal) := fun k => by
    unfold devRef; rw [hT, hr, hu]; norm_cast
  have hm : mean (fun k => -devRef (fun k => (y k : EReal)) (fun k => (z k : EReal)) k)
      = ((-((∑ k, z k) * r) * (1 / 512) : ℝ) : EReal) := by
    simp only [hdev, ← EReal.coe_neg]
    rw [mean_real fun k => -(z k * r + u k * T + T * u k)]
    congr 2
    rw [Finset.sum_neg_distrib, Finset.sum_add_distrib, Finset.sum_add_distrib, ← Finset.sum_mul, ← Finset.sum_mul, ← Finset.mul_sum, h0]
    ring
  have hR : normRef (fun k => (y k : EReal)) (fun k => (z k : EReal)) j
      = ((z j * r + u j * T + T * u j + -((∑ k, z k) * r) * (1 / 512) : ℝ) : EReal) := by
    unfold normRef; rw [hm, hdev]; norm_cast
  refine ⟨?_, _, hR⟩
  rw [hR]
  unfold normGrad xhat
  simp only [hu, hr, ← EReal.coe_mul]
  rw [mean_real, mean_real fun k => z k * (u k * r)]
  have hk : ∑ k, z k * (u k * r) = S * r := by
    rw [hS, Finset.sum_mul]; exact Finset.sum_congr rfl fun k _ => by ring
  rw [hk]
  norm_cast
  rw [hTdef]
  have : u j * (S * (-(1 / 2) * (r * (1 / s))) * (1 / 512)) = -(1 / 2) * (1 / 512) * u j * S * r * (r * r) := by rw [hrs]; ring
  rw [mul_comm (S * _ * _) (u j), this]
  ring

end Cert.ConfProof
-- ==== Proof.ConfTile.lean ====
/-
  What one grid point of the convolution module's backward call computes, index by index, and what it adds to the
  gradients of the convolution's bias and of the norm's scale and shift.
-/
module

public import proofs.«01_k».proof.Proof.ConfRun
public import proofs.«01_k».proof.Proof.ConfRow
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

namespace Cert.ConfProof
open Cert.ConfBwdIdeal Cert.ConfBwdIdeal.Gen Cert.ConfRun
open Idealize.ShloMosaic Idealize.ShloMosaic.TcCoe Idealize.SL.Sem

section Rows
variable (d : Vec Ideal S512x1024 .f32) (w : Vec Ideal S512x1024 .bf16) (x : Vec Ideal S512x512 .f32) (g b : Vec Ideal S1x512 .f32)

/-- A tile's row of the convolution's output. -/
def rowOf (r : Fin 512) (k : Fin 512) : EReal := x (ix2 r k)
/-- A single row's entries. -/
def lineOf (k : Fin 512) : EReal := g (ix2 0 k)
/-- The gradient behind the gate. -/
def gateOf (r : Fin 512) (e : Fin 512) : EReal :=
  gateGrad (∑ l, d (ix2 r l) * w (ix2 e l)) (normed (rowOf x r) (lineOf g) (lineOf b) e)
/-- The gradient at the convolution's output. -/
def gradOf (r : Fin 512) (e : Fin 512) : EReal := normGrad (rowOf x r) (fun k => gateOf d w x g b r k * lineOf g k) e

theorem at_dev (r e : Fin 512) : k0_pay14 x (ix2 r e) = dev (rowOf x r) e := by
  pointwise [dev, mean, rowOf, k0_pay14]

theorem at_rstd (r : Fin 512) : k0_pay15 x (ix2 r 0) = rstd (rowOf x r) := by
  pointwise [rstd, spread, mean, k0_pay15, at_dev]

theorem at_xhat (r e : Fin 512) : k0_pay16 x (ix2 r e) = xhat (rowOf x r) e := by
  pointwise [xhat, k0_pay16, at_dev, at_rstd]

theorem at_normed (r e : Fin 512) : k0_pay17 x g b (ix2 r e) = normed (rowOf x r) (lineOf g) (lineOf b) e := by
  pointwise [normed, lineOf, k0_pay17, at_xhat]

theorem at_dot (r e : Fin 512) : k0_pay13 d w (ix2 r e) = ∑ l, d (ix2 r l) * w (ix2 e l) := by
  pointwise [k0_pay13]

theorem at_gate (r e : Fin 512) : k0_pay19 (k0_pay13 d w) (k0_pay17 x g b) (k0_pay18 x g b) (ix2 r e) = gateOf d w x g b r e := by
  pointwise [gateOf, gateGrad, sgm, k0_pay19, k0_pay18, at_dot, at_normed]

theorem at_scale (a : Vec Ideal S1x512 .f32) (e : Fin 512) :
    k0_pay20 (k0_pay13 d w) (k0_pay16 x) (k0_pay17 x g b) (k0_pay18 x g b) a (ix2 0 e)
      = a (ix2 0 e) + ∑ r, gateOf d w x g b r e * xhat (rowOf x r) e := by
  pointwise [k0_pay20, at_gate, at_xhat]

theorem at_shift (a : Vec Ideal S1x512 .f32) (e : Fin 512) :
    k0_pay21 (k0_pay13 d w) (k0_pay17 x g b) (k0_pay18 x g b) a (ix2 0 e) = a (ix2 0 e) + ∑ r, gateOf d w x g b r e := by
  pointwise [k0_pay21, at_gate]

theorem at_grad (r e : Fin 512) :
    k0_pay22 (k0_pay13 d w) (k0_pay15 x) (k0_pay16 x) g (k0_pay17 x g b) (k0_pay18 x g b) (ix2 r e) = gradOf d w x g b r e := by
  pointwise [gradOf, normGrad, mean, lineOf, k0_pay22, at_gate, at_xhat, at_rstd]

theorem at_bias (p : FVec Ideal S512x512 .f32) (a : Vec Ideal S1x512 .f32) (e : Fin 512) :
    k0_pay23 p a (ix2 0 e) = a (ix2 0 e) + ∑ r, p (ix2 r e) := by
  pointwise [k0_pay23]

end Rows

variable (m : (ℓ : Loc nD τ sig) → Buf (Elt Ideal) ℓ)

/-- A point's rows of the convolution's output, of the gradient behind the gate, and of the gradient at the output. -/
abbrev xT (c : Dev nD) (t : Fin cfg0.N) : Fin 512 → Fin 512 → EReal := rowOf (iblk m c 6 t)
abbrev gateT (c : Dev nD) (t : Fin cfg0.N) : Fin 512 → Fin 512 → EReal :=
  gateOf (iblk m c 0 t) (iblk m c 1 t) (iblk m c 6 t) (iblk m c 8 t) (iblk m c 9 t)
abbrev gradT (c : Dev nD) (t : Fin cfg0.N) : Fin 512 → Fin 512 → EReal :=
  gradOf (iblk m c 0 t) (iblk m c 1 t) (iblk m c 6 t) (iblk m c 8 t) (iblk m c 9 t)

/-- A later point adds its rows to the scale's gradient. -/
theorem scale_next (c : Dev nD) (t : Fin cfg0.N) (h : ¬ t.val % 16 = 0) (p : Left Ideal) (e : Fin 512) :
    (leftNext m c t h p).2.2.2.1 (ix2 0 e) = p.2.2.2.1 (ix2 0 e) + ∑ r, gateT m c t r e * xhat (xT m c t r) e := by
  simp only [leftNext, scaleNext, runNext]
  frame_out
  exact at_scale _ _ _ _ _ _ _

/-- The first point starts from zero. -/
theorem scale_first (c : Dev nD) (t : Fin cfg0.N) (h : t.val % 16 = 0) (e : Fin 512) :
    (leftFirst m c t h).2.2.2.1 (ix2 0 e) = 0 + ∑ r, gateT m c t r e * xhat (xT m c t r) e := by
  simp only [leftFirst, scaleFirst, runFirst]
  frame_out
  refine (at_scale _ _ _ _ _ _ _).trans (congrArg (· + _) ?_)
  pointwise [k0_pay6]

/-- A later point adds its rows to the shift's gradient. -/
theorem shift_next (c : Dev nD) (t : Fin cfg0.N) (h : ¬ t.val % 16 = 0) (p : Left Ideal) (e : Fin 512) :
    (leftNext m c t h p).2.2.2.2.1 (ix2 0 e) = p.2.2.2.2.1 (ix2 0 e) + ∑ r, gateT m c t r e := by
  simp only [leftNext, shiftNext, runNext]
  frame_out
  exact at_shift _ _ _ _ _ _ _

/-- The first point starts from zero. -/
theorem shift_first (c : Dev nD) (t : Fin cfg0.N) (h : t.val % 16 = 0) (e : Fin 512) :
    (leftFirst m c t h).2.2.2.2.1 (ix2 0 e) = 0 + ∑ r, gateT m c t r e := by
  simp only [leftFirst, shiftFirst, runFirst]
  frame_out
  refine (at_shift _ _ _ _ _ _ _).trans (congrArg (· + _) ?_)
  pointwise [k0_pay7]

/-- A later point adds its rows to the bias's gradient. -/
theorem bias_next (c : Dev nD) (t : Fin cfg0.N) (h : ¬ t.val % 16 = 0) (p : Left Ideal) (e : Fin 512) :
    (leftNext m c t h p).2.2.1 (ix2 0 e) = p.2.2.1 (ix2 0 e) + ∑ r, gradT m c t r e := by
  simp only [leftNext, biasNext, runNext]
  frame_out
  exact (at_bias _ _ _).trans (congrArg (_ + ·) (Finset.sum_congr rfl fun r _ => at_grad _ _ _ _ _ r e))

/-- The first point starts from zero. -/
theorem bias_first (c : Dev nD) (t : Fin cfg0.N) (h : t.val % 16 = 0) (e : Fin 512) :
    (leftFirst m c t h).2.2.1 (ix2 0 e) = 0 + ∑ r, gradT m c t r e := by
  simp only [leftFirst, biasFirst, runFirst]
  frame_out
  refine (at_bias _ _ _).trans (congrArg₂ (· + ·) ?_ (Finset.sum_congr rfl fun r _ => at_grad _ _ _ _ _ r e))
  pointwise [k0_pay5]

end Cert.ConfProof
-- ==== Proof.ConfRef.lean ====
/-
  The reference's stages for the convolution module's backward call, in plain index notation: the gated product, the
  gradient behind the norm's gate, the gradient at the convolution's output, and the three sums over the rows.
-/
module

public import proofs.«01_k».proof.Proof.ConfRow
public import proofs.«01_k».proof.Proof.Gen.ConfGradIdeal.Run
public import proofs.«01_k».proof.Proof.Gen.ConfGradIdeal.Read
public import Idealize.ShloMosaic.Lib.Pipeline.ValueKit
public import Idealize.ShloMosaic.Lib.Pointwise

@[expose] public section

set_option maxRecDepth 16384

noncomputable section

namespace Cert.ConfRef
open Cert.ConfGradIdeal Cert.ConfGradIdeal.Gen Cert.ConfGradIdeal.Read Cert.ConfProof Cert.RowGrad
open Idealize.ShloMosaic

/-- Column `e` of column block `q`. -/
def colAt (q : Fin 4) (e : Fin 512) : Fin 2048 := ⟨512 * q + e, by omega⟩

variable (x0 : Vec Ideal S8192x1024 .f32) (x1 : Vec Ideal S1024x1024 .f32) (x2 : Vec Ideal S8192x2048 .f32) (x3 : Vec Ideal S31x512 .f32)
  (x4 x5 x6 : Vec Ideal S1x512 .f32)

/-- The gated product. -/
def refP (s : Fin 8192) (e : Fin 512) : EReal := x2 (ix2 s (colAt 2 e)) * lgs (x2 (ix2 s (colAt 3 e)))

/-- The gated product, thirty rows of zeros before it. -/
def refC (p : ℕ) (e : Fin 512) : EReal := if h : 30 ≤ p ∧ p < 8222 then refP x2 ⟨p - 30, by omega⟩ e else 0

/-- A row of the convolution's output. -/
def refX (s : Fin 8192) (k : Fin 512) : EReal := val_main_v170 (F := Ideal) x2 x3 x4 (ix2 s k)

/-- A single row's entries. -/
def refLine (x : Vec Ideal S1x512 .f32) (k : Fin 512) : EReal := x (ix2 0 k)

/-- The gradient from above times the second half of the product's weight. -/
def refD (s : Fin 8192) (e : Fin 512) : EReal := ∑ l : Fin 1024, x0 (ix2 s l) * x1 (ix2 ⟨512 + e, by omega⟩ l)

/-- The gradient behind the gate. -/
def refV (s : Fin 8192) (e : Fin 512) : EReal :=
  gateRef (refD x0 x1 s e) (normed (refX x2 x3 x4 s) (refLine x5) (refLine x6) e)

/-- The gradient at the convolution's output. -/
def refG (s : Fin 8192) (e : Fin 512) : EReal :=
  normRef (refX x2 x3 x4 s) (fun k => refV x0 x1 x2 x3 x4 x5 x6 s k * refLine x5 k) e

/-! ## The stages -/

theorem ref_gated (s : Fin 8192) (e : Fin 512) : val_main_v11 (F := Ideal) x2 (ix2 s e) = refP x2 s e := by
  simp only [val_main_v11_apply, val_main_v0_apply, val_main_v7_apply, val_main_v6_apply, val_main_v5_apply, val_main_v4_apply,
    val_main_v3_apply, val_main_v2_apply, val_main_v1_apply, val_main_cst_apply, val_main_cst_0_apply]
  have h2 : idx_main_v0 (ix2 s e) = ix2 s (colAt 2 e) := by blk_ext [colAt]
  have h3 : idx_main_v1 (ix2 s e) = ix2 s (colAt 3 e) := by blk_ext [colAt]
  rw [h2, h3]
  rfl

theorem ref_padded (p : Fin 8222) (e : Fin 512) : val_main_v13 (F := Ideal) x2 (ix2 p e) = refC x2 p e := by
  unfold refC
  pointwise [val_main_v13, val_main_v12, val_main_cst_2]
  by_cases h : p.val < 30
  · rw [dif_pos h, dif_neg (by omega)]
  · rw [dif_neg h, dif_pos (by omega)]
    exact ref_gated x2 _ _

theorem ref_dev (s : Fin 8192) (e : Fin 512) : val_main_v176 (F := Ideal) x2 x3 x4 (ix2 s e) = dev (refX x2 x3 x4 s) e := by
  pointwise [dev, mean, refX, val_main_v176, val_main_v175, val_main_v174, val_main_v173, val_main_v172, val_main_v171, val_main_cst_4, val_main_cst_5]

theorem ref_spread (s : Fin 8192) : val_main_v183 (F := Ideal) x2 x3 x4 (ix2 s 0) = spread (refX x2 x3 x4 s) := by
  pointwise [spread, mean, val_main_v183, val_main_v182, val_main_v181, val_main_v180, val_main_v179, val_main_v178, val_main_v177,
    val_main_cst_6, val_main_cst_7, val_main_cst_8, ref_dev]

theorem ref_rstd (s : Fin 8192) : val_main_v184 (F := Ideal) x2 x3 x4 (ix2 s 0) = rstd (refX x2 x3 x4 s) := by
  pointwise [rstd, val_main_v184, ref_spread]

theorem ref_xhat (s : Fin 8192) (e : Fin 512) : val_main_v189 (F := Ideal) x2 x3 x4 (ix2 s e) = xhat (refX x2 x3 x4 s) e := by
  pointwise [xhat, val_main_v189, val_main_v188, ref_dev, ref_rstd]

theorem ref_normed (s : Fin 8192) (e : Fin 512) :
    val_main_v193 (F := Ideal) x2 x3 x4 x5 x6 (ix2 s e) = normed (refX x2 x3 x4 s) (refLine x5) (refLine x6) e := by
  pointwise [normed, refLine, val_main_v193, val_main_v192, val_main_v191, val_main_v190, ref_xhat]

theorem ref_dot (s : Fin 8192) (e : Fin 512) : val_main_v197 (F := Ideal) x0 x1 (ix2 s e) = refD x0 x1 s e := by
  unfold refD
  pointwise [val_main_v197, val_main_v195]

theorem ref_sig (s : Fin 8192) (e : Fin 512) :
    val_main_v194_2 (F := Ideal) x2 x3 x4 x5 x6 (ix2 s e) = lgs (normed (refX x2 x3 x4 s) (refLine x5) (refLine x6) e) := by
  pointwise [lgs, val_main_v194_2, val_main_call0_v4, val_main_call0_v3, val_main_call0_v2, val_main_call0_v1, val_main_call0_v0, val_main_call0_cst,
    val_main_call0_cst_0, ref_normed]

theorem ref_gate (s : Fin 8192) (e : Fin 512) :
    val_main_v198 (F := Ideal) x0 x1 x2 x3 x4 x5 x6 (ix2 s e) = refV x0 x1 x2 x3 x4 x5 x6 s e := by
  pointwise [refV, gateRef, val_main_v198, val_main_call1_v2, val_main_call1_v1, val_main_call1_v0, val_main_v194_1, val_main_call0_v7, val_main_call0_v6,
    val_main_call0_cst_1, ref_sig, ref_dot, ref_normed]

theorem ref_scaled (s : Fin 8192) (e : Fin 512) :
    val_main_v205 (F := Ideal) x0 x1 x2 x3 x4 x5 x6 (ix2 s e) = refV x0 x1 x2 x3 x4 x5 x6 s e * refLine x5 e := by
  pointwise [refLine, val_main_v205, val_main_v204, ref_gate]

theorem ref_spreadGrad (s : Fin 8192) : val_main_v213 (F := Ideal) x0 x1 x2 x3 x4 x5 x6 (ix2 s 0)
    = spreadRef (refX x2 x3 x4 s) (fun k => refV x0 x1 x2 x3 x4 x5 x6 s k * refLine x5 k) := by
  pointwise [spreadRef, val_main_v213, val_main_v212, val_main_v211, val_main_v208, val_main_v207, val_main_v206, val_main_v187, val_main_v186,
    val_main_v185, val_main_cst_9, val_main_cst_12, val_main_cst_13, ref_scaled, ref_dev, ref_rstd, ref_spread]

theorem ref_devGrad (s : Fin 8192) (e : Fin 512) : val_main_v219 (F := Ideal) x0 x1 x2 x3 x4 x5 x6 (ix2 s e)
    = devRef (refX x2 x3 x4 s) (fun k => refV x0 x1 x2 x3 x4 x5 x6 s k * refLine x5 k) e := by
  pointwise [devRef, val_main_v219, val_main_v218, val_main_v217, val_main_v216, val_main_v215, val_main_v214, val_main_v210, val_main_v209,
    val_main_cst_14, ref_scaled, ref_dev, ref_rstd, ref_spreadGrad]
  simp [ref_spreadGrad]

theorem ref_grad (s : Fin 8192) (e : Fin 512) : val_main_v227 (F := Ideal) x0 x1 x2 x3 x4 x5 x6 (ix2 s e) = refG x0 x1 x2 x3 x4 x5 x6 s e := by
  pointwise [refG, normRef, mean, val_main_v227, val_main_v226, val_main_v225, val_main_v224, val_main_v223, val_main_v222, val_main_v221, val_main_v220,
    val_main_cst_15, val_main_cst_16, val_main_cst_17, ref_devGrad]
  simp

theorem ref_shift (e : Fin 512) : val_main_v200 (F := Ideal) x0 x1 x2 x3 x4 x5 x6 (ix2 0 e) = ∑ s, refV x0 x1 x2 x3 x4 x5 x6 s e := by
  pointwise [val_main_v200, val_main_v199, val_main_cst_10, ref_gate]

theorem ref_scale (e : Fin 512) :
    val_main_v203 (F := Ideal) x0 x1 x2 x3 x4 x5 x6 (ix2 0 e) = ∑ s, xhat (refX x2 x3 x4 s) e * refV x0 x1 x2 x3 x4 x5 x6 s e := by
  pointwise [val_main_v203, val_main_v202, val_main_v201, val_main_cst_11, ref_gate, ref_xhat]

theorem ref_bias (e : Fin 512) : val_main_v229 (F := Ideal) x0 x1 x2 x3 x4 x5 x6 (ix2 0 e) = ∑ s, refG x0 x1 x2 x3 x4 x5 x6 s e := by
  pointwise [val_main_v229, val_main_v228, val_main_cst_18, ref_grad]

/-! ## Finite arguments have a finite convolution -/

/-- An array of reals. -/
def All {s : Shape} (x : FVec Ideal s .f32) : Prop := ∀ y, RealOf.Is (x y)

theorem All.add {s : Shape} {x y : FVec Ideal s .f32} (hx : All x) (hy : All y) : All (addf x y) := fun i => real_add (hx i) (hy i)
theorem All.mul {s : Shape} {x y : FVec Ideal s .f32} (hx : All x) (hy : All y) : All (mulf x y) := fun i => RealOf.mul (hx i) (hy i)
theorem All.slice {s t : Shape} {x : FVec Ideal s .f32} (hx : All x) (o) (h) : All (extractStridedSlice t o x h) := fun _ => hx _
theorem All.spread {s t : Shape} {x : FVec Ideal s .f32} (hx : All x) (d) (h) : All (broadcastInDim t d h x) := fun _ => hx _

/-- The arguments that have to be finite. -/
structure Finite : Prop where
  above : ∀ s k, RealOf.Is (x0 (ix2 s k))
  down : ∀ i k, RealOf.Is (x1 (ix2 i k))
  blocks : ∀ s k, RealOf.Is (x2 (ix2 s k))
  taps : All x3
  bias : All x4
  scale : ∀ k, RealOf.Is (refLine x5 k)
  shift : ∀ k, RealOf.Is (refLine x6 k)

section
variable {x0 x1 x2 x3 x4 x5 x6} (h : Finite x0 x1 x2 x3 x4 x5 x6)
include h

theorem real_gated (s : Fin 8192) (e : Fin 512) : RealOf.Is (refP x2 s e) :=
  RealOf.mul (h.blocks _ _) (real_lgs (h.blocks _ _))

theorem real_padded : All (val_main_v13 (F := Ideal) x2) := fun y => by
  obtain ⟨p, e, rfl⟩ : ∃ (p : Fin 8222) (e : Fin 512), y = ix2 p e := ⟨y 0, y 1, by blk_ext⟩
  rw [ref_padded]
  unfold refC
  split_ifs
  · exact real_gated h _ _
  · exact ⟨0, rfl⟩

theorem real_row (s : Fin 8192) (k : Fin 512) : RealOf.Is (refX x2 x3 x4 s k) := by
  have hc := real_padded h
  have ht := h.taps
  have hb := h.bias
  have hA : All (val_main_v170 (F := Ideal) x2 x3 x4) := by
    repeat' first
      | exact hc | exact ht | exact hb
      | apply All.add | apply All.mul | apply All.spread | apply All.slice
  exact hA _

theorem real_dot (s : Fin 8192) (e : Fin 512) : RealOf.Is (refD x0 x1 s e) := RealOf.sum fun _ => RealOf.mul (h.above _ _) (h.down _ _)

theorem real_normedRow (s : Fin 8192) (e : Fin 512) : RealOf.Is (normed (refX x2 x3 x4 s) (refLine x5) (refLine x6) e) :=
  real_normed (real_row h s) h.scale h.shift e

theorem real_gate (s : Fin 8192) (e : Fin 512) : RealOf.Is (refV x0 x1 x2 x3 x4 x5 x6 s e) :=
  real_gateRef (real_dot h s e) (real_normedRow h s e)

theorem real_scaled (s : Fin 8192) (e : Fin 512) : RealOf.Is (refV x0 x1 x2 x3 x4 x5 x6 s e * refLine x5 e) :=
  RealOf.mul (real_gate h s e) (h.scale e)

theorem real_grad (s : Fin 8192) (e : Fin 512) : RealOf.Is (refG x0 x1 x2 x3 x4 x5 x6 s e) :=
  (norm_both (real_row h s) (real_scaled h s) e).2

end

end Cert.ConfRef
-- ==== Proof.ConfWin.lean ====
/-
  What the windows of the convolution module's backward call hold, in terms of the call's arguments.
-/
module

public import proofs.«01_k».proof.Proof.ConfTile
public import proofs.«01_k».proof.Proof.ConfRef
public import Idealize.ShloMosaic.Lib.StableHlo.ReadAt
public import Idealize.ShloMosaic.Lib.Pipeline.ValueKit
public import Idealize.ShloMosaic.Lib.Pointwise
public import Idealize.ShloMosaic.Lib.Pipeline.ReadBack
public import Idealize.ShloMosaic.Lib.WritesUnit

@[expose] public section

set_option maxRecDepth 16384

noncomputable section

namespace Cert.ConfProof
open Cert.ConfBwdIdeal Cert.ConfBwdIdeal.Gen Cert.ConfRun
open Cert.ConfRef Cert.ConfGradIdeal.Read
open Idealize.ShloMosaic Idealize.ShloMosaic.TcCoe Idealize.SL.Sem

variable (m : (ℓ : Loc nD τ sig) → Buf (Elt Ideal) ℓ) (c : Dev nD)

/-! ## The arguments -/

/-- The gradient from above, the product's weight, the four column blocks, the taps, their bias, the norm's scale and
    shift. -/
abbrev argD : Vec Ideal S8192x1024 .f32 := m (c.tc.loc main_arg0)
abbrev argW : Vec Ideal S1024x1024 .f32 := m (c.tc.loc main_arg1)
abbrev argZ : Vec Ideal S8192x2048 .f32 := m (c.tc.loc main_arg2)
abbrev argT : Vec Ideal S31x512 .f32 := m (c.tc.loc main_arg3)
abbrev argB : Vec Ideal S1x512 .f32 := m (c.tc.loc main_arg4)
abbrev argG : Vec Ideal S1x512 .f32 := m (c.tc.loc main_arg5)
abbrev argH : Vec Ideal S1x512 .f32 := m (c.tc.loc main_arg6)

/-- The host's stack of the column blocks, at an index. -/
theorem entry_stack (q : Fin 4) (s : Fin 8192) (e : Fin 512) :
    (V m c main_v8 : Vec Ideal S4x8192x512 .f32) (ix3 q s e) = argZ m c (ix2 s (colAt q e)) := by
  unfold V colAt
  after_results_simp
  pointwise
  obtain rfl | rfl | rfl | rfl : q = 0 ∨ q = 1 ∨ q = 2 ∨ q = 3 := by omega
  all_goals
    simp
    after_results_simp
    pointwise
    blk_ext

/-- The product's weight, at an index. -/
theorem entry_down (e : Fin 512) (l : Fin 1024) :
    (V m c main_v179 : Vec Ideal S512x1024 .bf16) (ix2 e l) = argW m c (ix2 ⟨512 + e.val, by omega⟩ l) := by
  unfold V
  after_results_simp
  pointwise
  blk_ext

/-- The gated product, at every index. -/
theorem entry_gated : (V m c main_v19 : Vec Ideal S8192x512 .f32) = val_main_v11 (F := Ideal) (argZ m c) := by
  funext y
  obtain ⟨s, e, rfl⟩ : ∃ (s : Fin 8192) (e : Fin 512), y = ix2 s e := ⟨y 0, y 1, by blk_ext⟩
  unfold V
  after_results_simp
  generalize hY : concatenate S4x8192x512 0 [_, _, _, _] _ = Y
  have h2 : Y (ix3 2 s e) = argZ m c (ix2 s (colAt 2 e)) := by
    rw [← hY]
    refine Eq.trans ?_ (entry_stack m c 2 s e)
    unfold V
    after_results_simp
  have h3 : Y (ix3 3 s e) = argZ m c (ix2 s (colAt 3 e)) := by
    rw [← hY]
    refine Eq.trans ?_ (entry_stack m c 3 s e)
    unfold V
    after_results_simp
  clear hY
  refine Eq.trans (b := argZ m c (ix2 s (colAt 2 e)) * lgs (argZ m c (ix2 s (colAt 3 e)))) ?_ (ref_gated _ s e).symm
  rw [← h2, ← h3]
  pointwise [lgs]

set_option maxHeartbeats 2000000 in
/-- The convolution's output: the host computes it as the reference does. -/
theorem entry_c1 : (V m c main_v177 : Vec Ideal S8192x512 .f32) = val_main_v170 (F := Ideal) (argZ m c) (argT m c) (argB m c) := by
  have h19 := entry_gated m c
  unfold V at h19 ⊢
  after_results_simp
  generalize hX : concatenate S8222x512 0 [_, _] _ = X
  have hX' : X = val_main_v13 (F := Ideal) (argZ m c) := by
    rw [← hX]
    refine congrArg₂ (fun a b => concatenate S8222x512 0 [⟨S30x512, a⟩, ⟨S8192x512, b⟩] _) ?_ ?_
    · after_results_simp
      rfl
    · refine Eq.trans ?_ h19
      after_results_simp
  subst hX'
  rfl

/-! ## The windows -/

/-- Where the windows of a grid point start: the tiles are walked from the last to the first. -/
theorem origin : ∀ t : Fin cfg0.N, win0_0.index t = ![15 - t.val, 0] ∧ win0_1.index t = ![0, 0]
    ∧ win0_2.index t = ![2, 15 - t.val, 0] ∧ win0_3.index t = ![3, 15 - t.val, 0]
    ∧ win0_4.index t = ![2, (15 - t.val) * 16 - 1, 0] ∧ win0_5.index t = ![3, (15 - t.val) * 16 - 1, 0]
    ∧ win0_6.index t = ![15 - t.val, 0] ∧ win0_7.index t = ![0, 0] ∧ win0_8.index t = ![0, 0] ∧ win0_9.index t = ![0, 0]
    ∧ win0_10.index t = ![1, 15 - t.val, 0] ∧ win0_11.index t = ![0, 0] ∧ win0_12.index t = ![0, 0] ∧ win0_13.index t = ![0, 0]
    ∧ win0_14.index t = ![0, 0] :=
  (by decide +kernel : ∀ t : Fin grid0.N, _)

theorem tiles (t : Fin cfg0.N) : t.val < 16 := t.isLt

/-- Row `r` of grid point `t`'s tile. -/
def rowAt (t : Fin cfg0.N) (r : Fin 512) : Fin 8192 := ⟨(15 - t.val) * 512 + r.val, by omega⟩

/-- The row windows, read from any array. -/
theorem wide_place (W : Vec Ideal S8192x1024 .f32) (t : Fin cfg0.N) (r : Fin 512) (k : Fin 1024) :
    (View.read (Elt Ideal) (win0_0.blk t).view W : Vec Ideal S512x1024 .f32) (ix2 r k) = W (ix2 (rowAt t r) k) := by
  blk_ext [rowAt, origin t]

theorem row_place (W : Vec Ideal S8192x512 .f32) (t : Fin cfg0.N) (r : Fin 512) (k : Fin 512) :
    (View.read (Elt Ideal) (win0_6.blk t).view W : Vec Ideal S512x512 .f32) (ix2 r k) = W (ix2 (rowAt t r) k) := by
  blk_ext [rowAt, origin t]

theorem at_above (t : Fin cfg0.N) (r : Fin 512) (k : Fin 1024) :
    (iblk m c 0 t : Vec Ideal S512x1024 .f32) (ix2 r k) = argD m c (ix2 (rowAt t r) k) := by
  unfold rowAt
  blk_ext [iblk, V, origin t]

theorem at_down (t : Fin cfg0.N) (e : Fin 512) (l : Fin 1024) :
    (iblk m c 1 t : Vec Ideal S512x1024 .bf16) (ix2 e l) = argW m c (ix2 ⟨512 + e.val, by omega⟩ l) := by
  rw [← entry_down]
  blk_ext [iblk, origin t]

/-- The parts of the first product a point takes. -/
theorem at_main (t : Fin cfg0.N) (r : Fin 512) (e : Fin 512) :
    (iblk m c 2 t : Vec Ideal S1x512x512 .f32) (ix3 0 r e) = argZ m c (ix2 (rowAt t r) (colAt 2 e)) := by
  rw [← entry_stack]
  unfold rowAt
  blk_ext [iblk, origin t]

theorem at_side (t : Fin cfg0.N) (r : Fin 512) (e : Fin 512) :
    (iblk m c 3 t : Vec Ideal S1x512x512 .f32) (ix3 0 r e) = argZ m c (ix2 (rowAt t r) (colAt 3 e)) := by
  rw [← entry_stack]
  unfold rowAt
  blk_ext [iblk, origin t]

theorem at_mainPrev (t : Fin cfg0.N) (i : Fin 32) (e : Fin 512) :
    (iblk m c 4 t : Vec Ideal S1x32x512 .f32) (ix3 0 i e) = argZ m c (ix2 ⟨((15 - t.val) * 16 - 1) * 32 + i, by omega⟩ (colAt 2 e)) := by
  rw [← entry_stack]
  blk_ext [iblk, origin t]

theorem at_sidePrev (t : Fin cfg0.N) (i : Fin 32) (e : Fin 512) :
    (iblk m c 5 t : Vec Ideal S1x32x512 .f32) (ix3 0 i e) = argZ m c (ix2 ⟨((15 - t.val) * 16 - 1) * 32 + i, by omega⟩ (colAt 3 e)) := by
  rw [← entry_stack]
  blk_ext [iblk, origin t]

/-- The reference's convolution, taps and norm, at a point. -/
abbrev theX (s : Fin 8192) (k : Fin 512) : EReal := refX (argZ m c) (argT m c) (argB m c) s k
abbrev theV (s : Fin 8192) (e : Fin 512) : EReal := refV (argD m c) (argW m c) (argZ m c) (argT m c) (argB m c) (argG m c) (argH m c) s e
abbrev theG (s : Fin 8192) (e : Fin 512) : EReal := refG (argD m c) (argW m c) (argZ m c) (argT m c) (argB m c) (argG m c) (argH m c) s e
abbrev theC (p : ℕ) (e : Fin 512) : EReal := refC (argZ m c) p e

theorem at_row (t : Fin cfg0.N) (r k : Fin 512) : xT m c t r k = theX m c (rowAt t r) k := by
  unfold xT rowOf theX refX
  rw [← entry_c1]
  refine Eq.trans ?_ (row_place (V m c main_v177 : Vec Ideal S8192x512 .f32) t r k)
  rfl

theorem at_tap (t : Fin cfg0.N) (k : Fin 31) (e : Fin 512) : (iblk m c 7 t : Vec Ideal S31x512 .f32) (ix2 k e) = argT m c (ix2 k e) := by
  blk_ext [iblk, V, origin t]

theorem at_scaleLine (t : Fin cfg0.N) (e : Fin 512) : lineOf (iblk m c 8 t) e = refLine (argG m c) e := by
  unfold lineOf refLine
  blk_ext [iblk, V, origin t]

theorem at_shiftLine (t : Fin cfg0.N) (e : Fin 512) : lineOf (iblk m c 9 t) e = refLine (argH m c) e := by
  unfold lineOf refLine
  blk_ext [iblk, V, origin t]

/-- The arguments are finite. -/
abbrev AllFinite : Prop := Finite (argD m c) (argW m c) (argZ m c) (argT m c) (argB m c) (argG m c) (argH m c)

section
variable (h : AllFinite m c)
include h

/-- The gradient behind the gate is the reference's. -/
theorem at_gateT (t : Fin cfg0.N) (r e : Fin 512) : gateT m c t r e = theV m c (rowAt t r) e := by
  have hx : rowOf (iblk m c 6 t) r = theX m c (rowAt t r) := funext fun k => at_row m c t r k
  have hg : lineOf (iblk m c 8 t) = refLine (argG m c) := funext fun k => at_scaleLine m c t k
  have hb : lineOf (iblk m c 9 t) = refLine (argH m c) := funext fun k => at_shiftLine m c t k
  unfold gateT gateOf
  rw [hx, hg, hb]
  simp only [at_above, at_down]
  exact gate_eq (real_dot h _ _) (real_normedRow h _ _)

/-- The gradient at the convolution's output is the reference's. -/
theorem at_gradT (t : Fin cfg0.N) (r e : Fin 512) : gradT m c t r e = theG m c (rowAt t r) e := by
  have hx : rowOf (iblk m c 6 t) r = theX m c (rowAt t r) := funext fun k => at_row m c t r k
  have hg : lineOf (iblk m c 8 t) = refLine (argG m c) := funext fun k => at_scaleLine m c t k
  have hv : gateOf (iblk m c 0 t) (iblk m c 1 t) (iblk m c 6 t) (iblk m c 8 t) (iblk m c 9 t) r = theV m c (rowAt t r) :=
    funext fun k => at_gateT m c h t r k
  unfold gradT gradOf
  rw [hx, hg, hv]
  exact (norm_both (real_row h _) (real_scaled h _) e).1

end

end Cert.ConfProof
-- ==== Proof.ConfSum.lean ====
/-
  The sums over all grid points of the convolution module's backward call: the gradients of the convolution's bias and of
  the norm's scale and shift.
-/
module

public import proofs.«01_k».proof.Proof.ConfWin

@[expose] public section

set_option maxRecDepth 16384

noncomputable section

namespace Cert.ConfProof
open Cert.ConfBwdIdeal Cert.ConfBwdIdeal.Gen Cert.ConfRun
open Cert.ConfRef Cert.ConfGradIdeal.Read
open Idealize.ShloMosaic Idealize.ShloMosaic.TcCoe Idealize.SL.Sem

variable (m : (ℓ : Loc nD τ sig) → Buf (Elt Ideal) ℓ) (c : Dev nD)

/-- What a tile adds to the gradients of the convolution's bias and of the norm's scale and shift. -/
def tileBias (t : Fin cfg0.N) (e : Fin 512) : EReal := ∑ r, gradT m c t r e
def tileScale (t : Fin cfg0.N) (e : Fin 512) : EReal := ∑ r, gateT m c t r e * xhat (xT m c t r) e
def tileShift (t : Fin cfg0.N) (e : Fin 512) : EReal := ∑ r, gateT m c t r e

theorem left_bias_first (t : Fin cfg0.N) (h : t.val % 16 = 0) (e : Fin 512) :
    (left m c t.val t.isLt).2.2.1 (ix2 0 e) = 0 + tileBias m c t e := by
  rw [left_first m c t h]
  exact bias_first m c t h e

theorem left_bias_next (t : Fin cfg0.N) (h : ¬ t.val % 16 = 0) (e : Fin 512) :
    (left m c t.val t.isLt).2.2.1 (ix2 0 e) = (before m c t).2.2.1 (ix2 0 e) + tileBias m c t e := by
  rw [left_next m c t h]
  exact bias_next m c t h _ e

theorem left_scale_first (t : Fin cfg0.N) (h : t.val % 16 = 0) (e : Fin 512) :
    (left m c t.val t.isLt).2.2.2.1 (ix2 0 e) = 0 + tileScale m c t e := by
  rw [left_first m c t h]
  exact scale_first m c t h e

theorem left_scale_next (t : Fin cfg0.N) (h : ¬ t.val % 16 = 0) (e : Fin 512) :
    (left m c t.val t.isLt).2.2.2.1 (ix2 0 e) = (before m c t).2.2.2.1 (ix2 0 e) + tileScale m c t e := by
  rw [left_next m c t h]
  exact scale_next m c t h _ e

theorem left_shift_first (t : Fin cfg0.N) (h : t.val % 16 = 0) (e : Fin 512) :
    (left m c t.val t.isLt).2.2.2.2.1 (ix2 0 e) = 0 + tileShift m c t e := by
  rw [left_first m c t h]
  exact shift_first m c t h e

theorem left_shift_next (t : Fin cfg0.N) (h : ¬ t.val % 16 = 0) (e : Fin 512) :
    (left m c t.val t.isLt).2.2.2.2.1 (ix2 0 e) = (before m c t).2.2.2.2.1 (ix2 0 e) + tileShift m c t e := by
  rw [left_next m c t h]
  exact shift_next m c t h _ e

/-- A sum over the tiles' rows is a sum over all rows. -/
theorem sum_tiles (f : Fin 8192 → EReal) : ∑ t : Fin cfg0.N, ∑ r, f (rowAt t r) = ∑ s, f s := by
  refine Eq.trans ?_ (Fin.sum_mul_add_fin 16 512 f)
  refine Eq.trans ?_ (Equiv.sum_comp (Fin.revPerm (n := 16)) _)
  have hv (t : Fin 16) : (Fin.revPerm t).val = 15 - t.val := by
    rw [Fin.revPerm_apply, Fin.val_rev]
    omega
  exact Finset.sum_congr rfl fun t _ => Finset.sum_congr rfl fun r _ =>
    congrArg f (Fin.ext (congrArg (fun n => n * 512 + r.val) (hv t)).symm)

section
variable (h : AllFinite m c)
include h

theorem all_bias (e : Fin 512) : ∑ t, tileBias m c t e = ∑ s, theG m c s e := by
  rw [← sum_tiles]
  simp only [tileBias, at_gradT m c h]

theorem all_shift (e : Fin 512) : ∑ t, tileShift m c t e = ∑ s, theV m c s e := by
  rw [← sum_tiles]
  simp only [tileShift, at_gateT m c h]

theorem all_scale (e : Fin 512) : ∑ t, tileScale m c t e = ∑ s, xhat (theX m c s) e * theV m c s e := by
  rw [← sum_tiles]
  refine Finset.sum_congr rfl fun t _ => ?_
  have hx (r : Fin 512) : xT m c t r = theX m c (rowAt t r) := funext fun k => at_row m c t r k
  simp only [tileScale, at_gateT m c h, hx]
  exact Finset.sum_congr rfl fun r _ => mul_comm _ _

/-! ## The arrays -/

/-- The last tile in grid order. -/
def lastTile : Fin cfg0.N := ⟨15, lt_of_lt_of_eq (by decide : 15 < 16) N_0.symm⟩

/-- The kernel ends with the reference's gradient of the convolution's bias. -/
theorem final_bias : (dats m 0 c).arrAt 12 cfg0.N
    = val_main_v229 (F := Ideal) (argD m c) (argW m c) (argZ m c) (argT m c) (argB m c) (argG m c) (argH m c) := by
  refine (dats m 0 c).arrAt_eq_of_after_last 12 lastTile (by decide +kernel) _ fun y => ?_
  blk_simp
  rw [after_12]
  obtain ⟨k, rfl⟩ : ∃ (k : Fin 512), y = ix2 0 k := ⟨y 1, by blk_ext⟩
  refine Eq.trans ?_ (ref_bias (x0 := argD m c) (x1 := argW m c) (x2 := argZ m c) (x3 := argT m c) (x4 := argB m c) (x5 := argG m c) (x6 := argH m c) k).symm
  refine (Pipeline.eq_sum_fin_of_reset_step_apply_last (ι := Fin 512)
    (fun n hn p => (left m c n hn).2.2.1 (ix2 0 p)) 16 (fun _ => 0) (fun t p => tileBias m c t p)
    (fun t ht p => left_bias_first m c t ht p) (fun t ht p => left_bias_next m c t ht p)
    (le_of_eq N_0) lastTile rfl k).trans ?_
  rw [zero_add]
  exact all_bias m c h k

/-- The kernel ends with the reference's gradient of the norm's scale. -/
theorem final_scale : (dats m 0 c).arrAt 13 cfg0.N
    = val_main_v203 (F := Ideal) (argD m c) (argW m c) (argZ m c) (argT m c) (argB m c) (argG m c) (argH m c) := by
  refine (dats m 0 c).arrAt_eq_of_after_last 13 lastTile (by decide +kernel) _ fun y => ?_
  blk_simp
  rw [after_13]
  obtain ⟨k, rfl⟩ : ∃ (k : Fin 512), y = ix2 0 k := ⟨y 1, by blk_ext⟩
  refine Eq.trans ?_ (ref_scale (x0 := argD m c) (x1 := argW m c) (x2 := argZ m c) (x3 := argT m c) (x4 := argB m c) (x5 := argG m c) (x6 := argH m c) k).symm
  refine (Pipeline.eq_sum_fin_of_reset_step_apply_last (ι := Fin 512)
    (fun n hn p => (left m c n hn).2.2.2.1 (ix2 0 p)) 16 (fun _ => 0) (fun t p => tileScale m c t p)
    (fun t ht p => left_scale_first m c t ht p) (fun t ht p => left_scale_next m c t ht p)
    (le_of_eq N_0) lastTile rfl k).trans ?_
  rw [zero_add]
  exact all_scale m c h k

/-- The kernel ends with the reference's gradient of the norm's shift. -/
theorem final_shift : (dats m 0 c).arrAt 14 cfg0.N
    = val_main_v200 (F := Ideal) (argD m c) (argW m c) (argZ m c) (argT m c) (argB m c) (argG m c) (argH m c) := by
  refine (dats m 0 c).arrAt_eq_of_after_last 14 lastTile (by decide +kernel) _ fun y => ?_
  blk_simp
  rw [after_14]
  obtain ⟨k, rfl⟩ : ∃ (k : Fin 512), y = ix2 0 k := ⟨y 1, by blk_ext⟩
  refine Eq.trans ?_ (ref_shift (x0 := argD m c) (x1 := argW m c) (x2 := argZ m c) (x3 := argT m c) (x4 := argB m c) (x5 := argG m c) (x6 := argH m c) k).symm
  refine (Pipeline.eq_sum_fin_of_reset_step_apply_last (ι := Fin 512)
    (fun n hn p => (left m c n hn).2.2.2.2.1 (ix2 0 p)) 16 (fun _ => 0) (fun t p => tileShift m c t p)
    (fun t ht p => left_shift_first m c t ht p) (fun t ht p => left_shift_next m c t ht p)
    (le_of_eq N_0) lastTile rfl k).trans ?_
  rw [zero_add]
  exact all_shift m c h k

end

end Cert.ConfProof

end
-- ==== Proof.ConfCopy.lean ====
/-
  The shifted copies a grid point of the convolution module's backward call keeps of its tile: what they hold, and what a
  load from one of them reads.

  Copy q of a tile is the tile moved by q rows, so that every tap's load starts at a multiple of eight rows.
-/
module

public import proofs.«01_k».proof.Proof.ConfTile
public import Idealize.ShloMosaic.Lib.KernelVsHost

@[expose] public section

set_option maxRecDepth 16384

noncomputable section

namespace Cert.ConfProof
open Cert.ConfBwdIdeal Cert.ConfBwdIdeal.Gen Cert.ConfRun
open Idealize.ShloMosaic Idealize.ShloMosaic.TcCoe Idealize.SL.Sem

/-- A load of 512 rows from copy q reads that copy's store. -/
theorem copies_read (P0 P1 P2 P3 P4 P5 P6 P7 : Vec Ideal S1x536x512 .f32) (i0 i1 i2 i3 i4 i5 i6 i7)
    (L : List (View.Piece (Elt Ideal) S8x536x512 .f32)) (q o : ℕ) (hq : q < 8) (ho : o + 512 ≤ 536) (inb) (r e : Fin 512) :
    (View.whole cc0_scratch2).readCov (Val := Elt Ideal)
      (⟨Rect.unit (s := S8x536x512) ![7, 0, 0] ![1, 536, 512] i7, P7⟩ :: ⟨Rect.unit (s := S8x536x512) ![6, 0, 0] ![1, 536, 512] i6, P6⟩
        :: ⟨Rect.unit (s := S8x536x512) ![5, 0, 0] ![1, 536, 512] i5, P5⟩ :: ⟨Rect.unit (s := S8x536x512) ![4, 0, 0] ![1, 536, 512] i4, P4⟩
        :: ⟨Rect.unit (s := S8x536x512) ![3, 0, 0] ![1, 536, 512] i3, P3⟩ :: ⟨Rect.unit (s := S8x536x512) ![2, 0, 0] ![1, 536, 512] i2, P2⟩
        :: ⟨Rect.unit (s := S8x536x512) ![1, 0, 0] ![1, 536, 512] i1, P1⟩ :: ⟨Rect.unit (s := S8x536x512) ![0, 0, 0] ![1, 536, 512] i0, P0⟩ :: L)
      (Rect.unit (s := S8x536x512) ![q, o, 0] ![1, 512, 512] inb).toLoadRect (ix3 0 r e)
      = (![P0, P1, P2, P3, P4, P5, P6, P7] : Fin 8 → Vec Ideal S1x536x512 .f32) ⟨q, hq⟩ (ix3 0 ⟨o + r, by omega⟩ e) := by
  rw [View.readCov, View.readAt_apply]
  interval_cases q
  all_goals
    repeat' first
      | exact View.read_writes_cons_unit_of_mem (s := S8x536x512) _ _ _ _ _ _ (ix3 0 ⟨o + r, by omega⟩ e) rfl (fun a => by fin_cases a <;> simp [LoadRect.idx_apply])
      | refine (View.read_writes_cons_unit_of_not_mem (s := S8x536x512) _ _ _ _ _ _ rfl 0 (by left; simp [LoadRect.idx_apply])).trans ?_

/-! ## The copies -/

/-- The copies moved down. -/
theorem at_down_copy (q : Fin 8) (X : Vec Ideal S544x512 .f32) (i : Fin 536) (e : Fin 512) :
    (![k0_pay25 X, k0_pay26 X, k0_pay27 X, k0_pay28 X, k0_pay30 (k0_pay29 X), k0_pay31 X, k0_pay32 X, k0_pay33 X] :
      Fin 8 → Vec Ideal S1x536x512 .f32) q (ix3 0 i e) = X (ix2 ⟨8 + i - q, by omega⟩ e) := by
  fin_cases q
  · show k0_pay25 X (ix3 0 i e) = _
    pointwise [k0_pay25]
    all_goals exact congrArg X (congrArg (fun p => ix2 p e) (Fin.ext (by dsimp only <;> omega)))
  · show k0_pay26 X (ix3 0 i e) = _
    pointwise [k0_pay26]
    all_goals exact congrArg X (congrArg (fun p => ix2 p e) (Fin.ext (by dsimp only <;> omega)))
  · show k0_pay27 X (ix3 0 i e) = _
    pointwise [k0_pay27]
    all_goals exact congrArg X (congrArg (fun p => ix2 p e) (Fin.ext (by dsimp only <;> omega)))
  · show k0_pay28 X (ix3 0 i e) = _
    pointwise [k0_pay28]
    all_goals exact congrArg X (congrArg (fun p => ix2 p e) (Fin.ext (by dsimp only <;> omega)))
  · show k0_pay30 (k0_pay29 X) (ix3 0 i e) = _
    pointwise [k0_pay30, k0_pay29]
    all_goals exact congrArg X (congrArg (fun p => ix2 p e) (Fin.ext (by dsimp only <;> omega)))
  · show k0_pay31 X (ix3 0 i e) = _
    pointwise [k0_pay31]
    all_goals exact congrArg X (congrArg (fun p => ix2 p e) (Fin.ext (by dsimp only <;> omega)))
  · show k0_pay32 X (ix3 0 i e) = _
    pointwise [k0_pay32]
    all_goals exact congrArg X (congrArg (fun p => ix2 p e) (Fin.ext (by dsimp only <;> omega)))
  · show k0_pay33 X (ix3 0 i e) = _
    pointwise [k0_pay33]
    all_goals exact congrArg X (congrArg (fun p => ix2 p e) (Fin.ext (by dsimp only <;> omega)))

/-- The copies moved up. -/
theorem at_up_copy (q : Fin 8) (X : Vec Ideal S544x512 .f32) (i : Fin 536) (e : Fin 512) :
    (![k0_pay75 (k0_pay74 X), k0_pay76 X, k0_pay77 X, k0_pay78 X, k0_pay79 X, k0_pay80 X, k0_pay82 (k0_pay81 X), k0_pay83 X] :
      Fin 8 → Vec Ideal S1x536x512 .f32) q (ix3 0 i e) = X (ix2 ⟨i + q, by omega⟩ e) := by
  fin_cases q
  · show k0_pay75 (k0_pay74 X) (ix3 0 i e) = _
    pointwise [k0_pay75, k0_pay74]
    all_goals exact congrArg X (congrArg (fun p => ix2 p e) (Fin.ext (by dsimp only <;> omega)))
  · show k0_pay76 X (ix3 0 i e) = _
    pointwise [k0_pay76]
    all_goals exact congrArg X (congrArg (fun p => ix2 p e) (Fin.ext (by dsimp only <;> omega)))
  · show k0_pay77 X (ix3 0 i e) = _
    pointwise [k0_pay77]
    all_goals exact congrArg X (congrArg (fun p => ix2 p e) (Fin.ext (by dsimp only <;> omega)))
  · show k0_pay78 X (ix3 0 i e) = _
    pointwise [k0_pay78]
    all_goals exact congrArg X (congrArg (fun p => ix2 p e) (Fin.ext (by dsimp only <;> omega)))
  · show k0_pay79 X (ix3 0 i e) = _
    pointwise [k0_pay79]
    all_goals exact congrArg X (congrArg (fun p => ix2 p e) (Fin.ext (by dsimp only <;> omega)))
  · show k0_pay80 X (ix3 0 i e) = _
    pointwise [k0_pay80]
    all_goals exact congrArg X (congrArg (fun p => ix2 p e) (Fin.ext (by dsimp only <;> omega)))
  · show k0_pay82 (k0_pay81 X) (ix3 0 i e) = _
    pointwise [k0_pay82, k0_pay81]
    all_goals exact congrArg X (congrArg (fun p => ix2 p e) (Fin.ext (by dsimp only <;> omega)))
  · show k0_pay83 X (ix3 0 i e) = _
    pointwise [k0_pay83]
    all_goals exact congrArg X (congrArg (fun p => ix2 p e) (Fin.ext (by dsimp only <;> omega)))

/-- What a load from a copy moved down reads. -/
theorem down_read (X : Vec Ideal S544x512 .f32) (i0 i1 i2 i3 i4 i5 i6 i7) (L : List (View.Piece (Elt Ideal) S8x536x512 .f32))
    (q o : ℕ) (hq : q < 8) (ho : o + 512 ≤ 536) (inb) (r e : Fin 512) :
    (View.whole cc0_scratch2).readCov (Val := Elt Ideal)
      (⟨Rect.unit (s := S8x536x512) ![7, 0, 0] ![1, 536, 512] i7, k0_pay33 X⟩
        :: ⟨Rect.unit (s := S8x536x512) ![6, 0, 0] ![1, 536, 512] i6, k0_pay32 X⟩
        :: ⟨Rect.unit (s := S8x536x512) ![5, 0, 0] ![1, 536, 512] i5, k0_pay31 X⟩
        :: ⟨Rect.unit (s := S8x536x512) ![4, 0, 0] ![1, 536, 512] i4, k0_pay30 (k0_pay29 X)⟩
        :: ⟨Rect.unit (s := S8x536x512) ![3, 0, 0] ![1, 536, 512] i3, k0_pay28 X⟩
        :: ⟨Rect.unit (s := S8x536x512) ![2, 0, 0] ![1, 536, 512] i2, k0_pay27 X⟩
        :: ⟨Rect.unit (s := S8x536x512) ![1, 0, 0] ![1, 536, 512] i1, k0_pay26 X⟩
        :: ⟨Rect.unit (s := S8x536x512) ![0, 0, 0] ![1, 536, 512] i0, k0_pay25 X⟩
        :: L)
      (Rect.unit (s := S8x536x512) ![q, o, 0] ![1, 512, 512] inb).toLoadRect (ix3 0 r e) = X (ix2 ⟨8 + o + r - q, by omega⟩ e) := by
  refine (copies_read _ _ _ _ _ _ _ _ _ _ _ _ _ _ _ _ L q o hq ho inb r e).trans ?_
  exact (at_down_copy ⟨q, hq⟩ X _ e).trans (congrArg X (congrArg (fun p => ix2 p e) (Fin.ext (by dsimp only <;> omega))))

/-- What a load from a copy moved up reads. -/
theorem up_read (X : Vec Ideal S544x512 .f32) (i0 i1 i2 i3 i4 i5 i6 i7) (L : List (View.Piece (Elt Ideal) S8x536x512 .f32))
    (q o : ℕ) (hq : q < 8) (ho : o + 512 ≤ 536) (inb) (r e : Fin 512) :
    (View.whole cc0_scratch2).readCov (Val := Elt Ideal)
      (⟨Rect.unit (s := S8x536x512) ![7, 0, 0] ![1, 536, 512] i7, k0_pay83 X⟩
        :: ⟨Rect.unit (s := S8x536x512) ![6, 0, 0] ![1, 536, 512] i6, k0_pay82 (k0_pay81 X)⟩
        :: ⟨Rect.unit (s := S8x536x512) ![5, 0, 0] ![1, 536, 512] i5, k0_pay80 X⟩
        :: ⟨Rect.unit (s := S8x536x512) ![4, 0, 0] ![1, 536, 512] i4, k0_pay79 X⟩
        :: ⟨Rect.unit (s := S8x536x512) ![3, 0, 0] ![1, 536, 512] i3, k0_pay78 X⟩
        :: ⟨Rect.unit (s := S8x536x512) ![2, 0, 0] ![1, 536, 512] i2, k0_pay77 X⟩
        :: ⟨Rect.unit (s := S8x536x512) ![1, 0, 0] ![1, 536, 512] i1, k0_pay76 X⟩
        :: ⟨Rect.unit (s := S8x536x512) ![0, 0, 0] ![1, 536, 512] i0, k0_pay75 (k0_pay74 X)⟩
        :: L)
      (Rect.unit (s := S8x536x512) ![q, o, 0] ![1, 512, 512] inb).toLoadRect (ix3 0 r e) = X (ix2 ⟨o + r + q, by omega⟩ e) := by
  refine (copies_read _ _ _ _ _ _ _ _ _ _ _ _ _ _ _ _ L q o hq ho inb r e).trans ?_
  exact (at_up_copy ⟨q, hq⟩ X _ e).trans (congrArg X (congrArg (fun p => ix2 p e) (Fin.ext (by dsimp only <;> omega))))

end Cert.ConfProof

end
-- ==== Proof.ConfTaps.lean ====
/-
  What a grid point of the convolution module's backward call adds to the gradient of the taps.
-/
module

public import proofs.«01_k».proof.Proof.ConfCopy

@[expose] public section

set_option maxRecDepth 16384

noncomputable section

namespace Cert.ConfProof
open Cert.ConfBwdIdeal Cert.ConfBwdIdeal.Gen Cert.ConfRun
open Idealize.ShloMosaic Idealize.ShloMosaic.TcCoe Idealize.SL.Sem

/-! ## The gated product's window -/

/-- A gated product's entry. -/
def gated (a b : EReal) : EReal := a * sgm b

/-- The gated product a point works on: its own 512 rows under the 32 rows above them. -/
def pT (m : (ℓ : Loc nD τ sig) → Buf (Elt Ideal) ℓ) (c : Dev nD) (t : Fin cfg0.N) (i : Fin 544) (e : Fin 512) : EReal :=
  if h : i.val < 32 then
    Scalar.select (Scalar.cmpi .sgt (Scalar.subi 15#32 (BitVec.ofNat 32 (grid0.coords t 0).val)) 0#32)
      (gated (iblk m c 4 t (ix3 0 ⟨i, h⟩ e)) (iblk m c 5 t (ix3 0 ⟨i, h⟩ e))) (0 : EReal)
  else gated (iblk m c 2 t (ix3 0 ⟨i - 32, by omega⟩ e)) (iblk m c 3 t (ix3 0 ⟨i - 32, by omega⟩ e))

theorem tile_rows (P : Vec Ideal S512x512 .f32) (Q : Vec Ideal S32x512 .f32) (inb) (inb') (inb'') (i : Fin 544) (e : Fin 512) :
    View.readCov (Val := Elt Ideal) (View.whole cc0_scratch0) [⟨Rect.unit (s := S544x512) ![32, 0] ![512, 512] inb, P⟩,
      ⟨Rect.unit (s := S544x512) ![0, 0] ![32, 512] inb', Q⟩] (Rect.unit (s := S544x512) ![0, 0] ![544, 512] inb'').toLoadRect (ix2 i e)
    = if h : i.val < 32 then Q (ix2 ⟨i, h⟩ e) else P (ix2 ⟨i - 32, by omega⟩ e) := by
  rw [View.readCov, View.readAt_apply]
  by_cases h : i.val < 32
  · rw [dif_pos h, View.read_writes_cons_unit_of_not_mem (s := S544x512) _ _ inb P _ _ rfl 0 (by left; simp [LoadRect.idx_apply]; omega),
      View.read_writes_cons_unit_of_mem (s := S544x512) _ _ inb' Q _ _ (ix2 ⟨i, h⟩ e) rfl (fun a => by fin_cases a <;> simp [LoadRect.idx_apply])]
  · rw [dif_neg h,
      View.read_writes_cons_unit_of_mem (s := S544x512) _ _ inb P _ _ (ix2 ⟨i - 32, by omega⟩ e) rfl (fun a => by fin_cases a <;> simp [LoadRect.idx_apply]; omega)]

variable (m : (ℓ : Loc nD τ sig) → Buf (Elt Ideal) ℓ)

theorem window_rows (c : Dev nD) (t : Fin cfg0.N) (inb) (inb') (inb'') (i : Fin 544) (e : Fin 512) :
    View.readCov (Val := Elt Ideal) (View.whole cc0_scratch0)
      [⟨Rect.unit (s := S544x512) ![32, 0] ![512, 512] inb, k0_pay12 (k0_pay9 (iblk m c 2 t)) (k0_pay10 (iblk m c 3 t))⟩,
      ⟨Rect.unit (s := S544x512) ![0, 0] ![32, 512] inb', k0_pay11 (grid0.coords t) (iblk m c 4 t) (iblk m c 5 t)⟩]
      (Rect.unit (s := S544x512) ![0, 0] ![544, 512] inb'').toLoadRect (ix2 i e) = pT m c t i e := by
  rw [tile_rows, pT]
  by_cases h : i.val < 32
  · simp only [dif_pos h]
    pointwise [k0_pay11, gated, sgm]
  · simp only [dif_neg h]
    pointwise [k0_pay12, k0_pay9, k0_pay10, gated, sgm]

/-! ## The taps' sums -/

theorem at_tapSum (G : Vec Ideal S512x512 .f32) (a : Vec Ideal S1x512 .f32) (Z : Vec Ideal S1x512x512 .f32) (e : Fin 512) :
    k0_pay34 G a Z (ix2 0 e) = a (ix2 0 e) + ∑ r, G (ix2 r e) * Z (ix3 0 r e) := by
  pointwise [k0_pay34]

section
variable (G : Vec Ideal S512x512 .f32) (a : Vec Ideal S1x512 .f32) (Z : Vec Ideal S1x512x512 .f32)

theorem tap36 : k0_pay36 G (k0_pay35 a) Z = k0_pay34 G a Z := rfl
theorem tap37 : k0_pay37 G a Z = k0_pay34 G a Z := rfl
theorem tap38 : k0_pay38 G a Z = k0_pay34 G a Z := rfl
theorem tap41 : k0_pay41 (k0_pay39 a) (k0_pay40 G Z) = k0_pay34 G a Z := rfl
theorem tap42 : k0_pay42 G a Z = k0_pay34 G a Z := rfl
theorem tap43 : k0_pay43 G a Z = k0_pay34 G a Z := rfl
theorem tap44 : k0_pay44 G a Z = k0_pay34 G a Z := rfl
theorem tap45 : k0_pay45 G a Z = k0_pay34 G a Z := rfl
theorem tap46 : k0_pay46 G a Z = k0_pay34 G a Z := rfl
theorem tap47 : k0_pay47 G a Z = k0_pay34 G a Z := rfl
theorem tap49 : k0_pay49 G (k0_pay48 a) Z = k0_pay34 G a Z := rfl
theorem tap50 : k0_pay50 G a Z = k0_pay34 G a Z := rfl
theorem tap51 : k0_pay51 G a Z = k0_pay34 G a Z := rfl
theorem tap54 : k0_pay54 (k0_pay52 a) (k0_pay53 G Z) = k0_pay34 G a Z := rfl
theorem tap55 : k0_pay55 G a Z = k0_pay34 G a Z := rfl
theorem tap56 : k0_pay56 G a Z = k0_pay34 G a Z := rfl
theorem tap57 : k0_pay57 G a Z = k0_pay34 G a Z := rfl
theorem tap58 : k0_pay58 G a Z = k0_pay34 G a Z := rfl
theorem tap59 : k0_pay59 G a Z = k0_pay34 G a Z := rfl
theorem tap60 : k0_pay60 G a Z = k0_pay34 G a Z := rfl
theorem tap62 : k0_pay62 G (k0_pay61 a) Z = k0_pay34 G a Z := rfl
theorem tap63 : k0_pay63 G a Z = k0_pay34 G a Z := rfl
theorem tap64 : k0_pay64 G a Z = k0_pay34 G a Z := rfl
theorem tap67 : k0_pay67 (k0_pay65 a) (k0_pay66 G Z) = k0_pay34 G a Z := rfl
theorem tap68 : k0_pay68 G a Z = k0_pay34 G a Z := rfl
theorem tap69 : k0_pay69 G a Z = k0_pay34 G a Z := rfl
theorem tap70 : k0_pay70 G a Z = k0_pay34 G a Z := rfl
theorem tap71 : k0_pay71 G a Z = k0_pay34 G a Z := rfl
theorem tap72 : k0_pay72 G a Z = k0_pay34 G a Z := rfl
theorem tap73 : k0_pay73 G a Z = k0_pay34 G a Z := rfl

end

/-- Row `n`'s store, read at its row. -/
theorem row_hit (n : ℕ) (hn : n < 31) (inb) (w : Vec Ideal S1x512 .f32) (L : List (View.Piece (Elt Ideal) S31x512 .f32)) (e : Fin 512) :
    View.canon (⟨Rect.unit (s := S31x512) ![n, 0] ![1, 512] inb, w⟩ :: L) (ix2 ⟨n, hn⟩ e) = w (ix2 0 e) := by
  refine (congrArg _ ?_).trans (View.canon_cons_emb (Rect.unit (s := S31x512) ![n, 0] ![1, 512] inb) w L (ix2 0 e))
  exact funext fun a => Fin.ext (by fin_cases a <;> simp)

/-- Another row's store. -/
theorem row_miss (n k : ℕ) (h : k ≠ n) (hk : k < 31) (inb) (w : Vec Ideal S1x512 .f32) (L : List (View.Piece (Elt Ideal) S31x512 .f32)) (e : Fin 512) :
    View.canon (⟨Rect.unit (s := S31x512) ![n, 0] ![1, 512] inb, w⟩ :: L) (ix2 ⟨k, hk⟩ e) = View.canon L (ix2 ⟨k, hk⟩ e) := by
  refine View.canon_cons_of_not_mem _ _ fun hm => ?_
  have := Rect.mem_set_unit.mp (show _ ∈ (Rect.unit (s := S31x512) ![n, 0] ![1, 512] inb).set from hm) 0
  simp at this
  omega

theorem ld_row (x : Vec Ideal S31x512 .f32) (n : ℕ) (hn : n < 31) (inb) (e : Fin 512) :
    View.ld x (Rect.unit (s := S31x512) ![n, 0] ![1, 512] inb) (ix2 0 e) = x (ix2 ⟨n, hn⟩ e) := by
  pointwise []

/-- A later point adds its rows to the taps' gradients. -/
theorem taps_next (c : Dev nD) (t : Fin cfg0.N) (h : ¬ t.val % 16 = 0) (p : Left Ideal) (k : Fin 31) (e : Fin 512) :
    (leftNext m c t h p).2.1 (ix2 k e) = p.2.1 (ix2 k e) + ∑ r, gradT m c t r e * pT m c t ⟨2 + k + r, by omega⟩ e := by
  obtain ⟨p10, p11, p12, p13, p14, D⟩ := p
  simp only [leftNext, tapsNext, runNext]
  frame_out
  simp only [tap36, tap37, tap38, tap41, tap42, tap43, tap44, tap45, tap46, tap47, tap49, tap50, tap51, tap54, tap55, tap56, tap57, tap58, tap59, tap60, tap62, tap63, tap64, tap67, tap68, tap69, tap70, tap71, tap72, tap73]
  generalize hX : View.readCov (Val := Elt Ideal) (View.whole cc0_scratch0) [_, _] _ = X
  generalize hG : k0_pay22 (F := Ideal) _ _ _ _ _ _ = G
  have gG (r : Fin 512) : G (ix2 r e) = gradT m c t r e := hG ▸ at_grad _ _ _ _ _ r e
  have gX (i : Fin 544) : X (ix2 i e) = pT m c t i e := hX ▸ window_rows m c t _ _ _ i e
  generalize hL : ([_, _, _, _, _, _, _, _] : List (View.Piece (Elt Ideal) S8x536x512 .f32)) = L
  have gL (q o : ℕ) (hq : q < 8) (ho : o + 512 ≤ 536) (inb) (r : Fin 512) :
      (View.whole cc0_scratch2).readCov (Val := Elt Ideal) L (Rect.unit (s := S8x536x512) ![q, o, 0] ![1, 512, 512] inb).toLoadRect (ix3 0 r e)
        = pT m c t ⟨8 + o + r - q, by omega⟩ e := by
    rw [← gX, ← hL]
    exact down_read X _ _ _ _ _ _ _ _ [] q o hq ho inb r e
  clear hL gX hX hG X
  obtain ⟨k, hk⟩ := k
  interval_cases k
  all_goals
    repeat refine (row_miss _ _ (by decide) _ _ _ _ _).trans ?_
    refine (row_hit _ _ _ _ _ _).trans ((at_tapSum _ _ _ _).trans ?_)
    refine congrArg₂ (· + ·) (ld_row _ _ _ _ _) (Finset.sum_congr rfl fun r _ => congrArg₂ (· * ·) (gG r) ?_)
    exact (gL _ _ (by decide) (by decide) _ r).trans (congrArg (fun i => pT m c t i e) (Fin.ext (by dsimp only; omega)))

/-- The first point starts from zero. -/
theorem taps_first (c : Dev nD) (t : Fin cfg0.N) (h : t.val % 16 = 0) (k : Fin 31) (e : Fin 512) :
    (leftFirst m c t h).2.1 (ix2 k e) = 0 + ∑ r, gradT m c t r e * pT m c t ⟨2 + k + r, by omega⟩ e := by
  simp only [leftFirst, tapsFirst, runFirst]
  frame_out
  simp (disch := decide) only [↓View.readCov_skip (ms0_11 t).view, ↓View.readCov_fill (ms0_11 t).view]
  simp only [tap36, tap37, tap38, tap41, tap42, tap43, tap44, tap45, tap46, tap47, tap49, tap50, tap51, tap54, tap55, tap56, tap57, tap58, tap59, tap60, tap62, tap63, tap64, tap67, tap68, tap69, tap70, tap71, tap72, tap73]
  generalize hX : View.readCov (Val := Elt Ideal) (View.whole cc0_scratch0) [_, _] _ = X
  generalize hG : k0_pay22 (F := Ideal) _ _ _ _ _ _ = G
  have gG (r : Fin 512) : G (ix2 r e) = gradT m c t r e := hG ▸ at_grad _ _ _ _ _ r e
  have gX (i : Fin 544) : X (ix2 i e) = pT m c t i e := hX ▸ window_rows m c t _ _ _ i e
  generalize hL : ([_, _, _, _, _, _, _, _] : List (View.Piece (Elt Ideal) S8x536x512 .f32)) = L
  have gL (q o : ℕ) (hq : q < 8) (ho : o + 512 ≤ 536) (inb) (r : Fin 512) :
      (View.whole cc0_scratch2).readCov (Val := Elt Ideal) L (Rect.unit (s := S8x536x512) ![q, o, 0] ![1, 512, 512] inb).toLoadRect (ix3 0 r e)
        = pT m c t ⟨8 + o + r - q, by omega⟩ e := by
    rw [← gX, ← hL]
    exact down_read X _ _ _ _ _ _ _ _ [] q o hq ho inb r e
  clear hL gX hX hG X
  obtain ⟨k, hk⟩ := k
  interval_cases k
  all_goals
    repeat refine (row_miss _ _ (by decide) _ _ _ _ _).trans ?_
    refine (row_hit _ _ _ _ _ _).trans ((at_tapSum _ _ _ _).trans ?_)
    refine congrArg₂ (· + ·) ((ld_row _ _ (by decide) _ _).trans (by pointwise [k0_pay4])) (Finset.sum_congr rfl fun r _ => congrArg₂ (· * ·) (gG r) ?_)
    exact (gL _ _ (by decide) (by decide) _ r).trans (congrArg (fun i => pT m c t i e) (Fin.ext (by dsimp only; omega)))

end Cert.ConfProof

end
-- ==== Proof.ConfTapRef.lean ====
/-
  The reference's gradient of the taps, and its gradient at the gated product, in plain index notation.

  The reference adds one padded array for each tap, from the last tap to the first.
-/
module

public import proofs.«01_k».proof.Proof.ConfRef
public import Idealize.ShloMosaic.Lib.KernelVsHost

@[expose] public section

set_option maxRecDepth 16384

noncomputable section

namespace Cert.ConfRef
open Cert.ConfGradIdeal Cert.ConfGradIdeal.Gen Cert.ConfGradIdeal.Read Cert.ConfProof Cert.RowGrad
open Idealize.ShloMosaic

variable (x0 : Vec Ideal S8192x1024 .f32) (x1 : Vec Ideal S1024x1024 .f32) (x2 : Vec Ideal S8192x2048 .f32) (x3 : Vec Ideal S31x512 .f32)
  (x4 x5 x6 : Vec Ideal S1x512 .f32)

/-- A tap's gradient. -/
def tapSum (t : ℕ) (e : Fin 512) : EReal := ∑ s : Fin 8192, refG x0 x1 x2 x3 x4 x5 x6 s e * refC x2 (t + s) e

/-- The gradient at the convolution's output, zeros after it. -/
def refT (n : ℕ) (e : Fin 512) : EReal := if h : n < 8192 then refG x0 x1 x2 x3 x4 x5 x6 ⟨n, h⟩ e else 0

/-- What the `i`-th tap from the last gives the gradient at the gated product. -/
def tapTerm (q : ℕ) (e : Fin 512) (i : ℕ) : EReal := x3 (ix2 ⟨30 - i, by omega⟩ e) * refT x0 x1 x2 x3 x4 x5 x6 (q + i) e

/-- A single row set into 31 rows of zeros. -/
theorem pad_row (n k : ℕ) (hk : k < 31) (lo : ℕ) (x : Vec Ideal S1x512 .f32) (z : Vec Ideal S_ .f32) (h) (hu) (e : Fin 512) (hz : z (Shape.Idx.first hu) = 0) :
    pad S31x512 ![n, 0] ![lo, 0] ![0, 0] x z h hu (ix2 ⟨k, hk⟩ e) = if k = n then x (ix2 0 e) else 0 := by
  by_cases hn : k = n
  · rw [if_pos hn]
    exact pad_apply_of_inside _ _ _ x z h hu _ (ix2 0 e) fun a => by fin_cases a <;> simp [hn]
  · rw [if_neg hn, ← hz]
    exact pad_apply_of_not_inside _ _ _ x z h hu _ 0 (by simp; omega)

/-- 8192 rows set into 8222 rows of zeros, read from row 30 on. -/
theorem pad_rows (n : ℕ) (hn : n ≤ 30) (lo : ℕ) (x : Vec Ideal S8192x512 .f32) (z : Vec Ideal S_ .f32) (h) (hu) (q : Fin 8192) (e : Fin 512)
    (hz : z (Shape.Idx.first hu) = 0) :
    pad S8222x512 ![n, 0] ![lo, 0] ![0, 0] x z h hu (ix2 ⟨30 + q, by omega⟩ e) = if hq : q.val + (30 - n) < 8192 then x (ix2 ⟨q + (30 - n), hq⟩ e) else 0 := by
  by_cases hq : q.val + (30 - n) < 8192
  · rw [dif_pos hq]
    exact pad_apply_of_inside _ _ _ x z h hu _ (ix2 ⟨q + (30 - n), hq⟩ e) fun a => by fin_cases a <;> simp; omega
  · rw [dif_neg hq, ← hz]
    exact pad_apply_of_not_inside _ _ _ x z h hu _ 0 (by simp; omega)

/-- One more tap of the sum. -/
theorem step_tap (S : ℕ → EReal) (n k : ℕ) : (if n + 1 ≤ k then S k else 0) + (if k = n then S n else 0) = if n ≤ k then S k else 0 := by
  obtain hk | rfl | hk := Nat.lt_trichotomy k n
  · rw [if_neg (by omega), if_neg (by omega), if_neg (by omega), add_zero]
  · rw [if_neg (by omega), if_pos rfl, if_pos (le_refl _), zero_add]
  · rw [if_pos (by omega), if_neg (by omega), if_pos (by omega), add_zero]

theorem add_at {s : Shape} {x y : FVec Ideal s .f32} {i : s.Idx} {a b : EReal} (hx : x i = a) (hy : y i = b) :
    addf x y i = a + b := congrArg₂ (fun p q : EReal => p + q) hx hy

/-! ## The taps' gradients -/

/-- A tap's gradient, set into its row. -/
theorem tap_pad (n : ℕ) (hn : n ≤ 30) (lo : ℕ) (hs) (w z : FVec Ideal S_ .f32) (hu) (hc) (h) (hu') (hw : w (Shape.Idx.first hu) = 0)
    (hz : z (Shape.Idx.first hu') = 0) (k : Fin 31) (e : Fin 512) :
    pad S31x512 ![n, 0] ![lo, 0] ![0, 0] (shapeCast S1x512 (Host.reduceAdd (mulf (val_main_v227 (F := Ideal) x0 x1 x2 x3 x4 x5 x6)
      (extractStridedSlice S8192x512 ![n, 0] (val_main_v13 (F := Ideal) x2) hs)) w reducesTo_S8192x512_S512_d0 hu : FVec Ideal S512 .f32) hc : FVec Ideal S1x512 .f32) z h hu' (ix2 k e)
      = if k.val = n then tapSum x0 x1 x2 x3 x4 x5 x6 n e else 0 := by
  refine (pad_row n k.val k.isLt lo _ z h hu' e hz).trans (congrArg (fun y => if k.val = n then y else 0) ?_)
  pointwise [tapSum, ref_grad, ref_padded, hw]

/-- The gradient of the taps. -/
theorem ref_taps (k : Fin 31) (e : Fin 512) : val_main_v506 (F := Ideal) x0 x1 x2 x3 x4 x5 x6 (ix2 k e) = tapSum x0 x1 x2 x3 x4 x5 x6 k e := by
  refine Eq.trans ?_ (if_pos (Nat.zero_le k.val) : (if 0 ≤ k.val then tapSum x0 x1 x2 x3 x4 x5 x6 k e else 0) = _)
  iterate 30
    refine (add_at ?_ (tap_pad x0 x1 x2 x3 x4 x5 x6 _ (by decide) _ _ _ _ _ _ _ _ Ideal.ofBits_zero_f32 Ideal.ofBits_zero_f32 k e)).trans
      (step_tap (fun n => tapSum x0 x1 x2 x3 x4 x5 x6 n e) _ k)
  refine (tap_pad x0 x1 x2 x3 x4 x5 x6 30 (by decide) _ _ _ _ _ _ _ _ Ideal.ofBits_zero_f32 Ideal.ofBits_zero_f32 k e).trans ?_
  by_cases h : k.val = 30
  · rw [if_pos h, if_pos (by omega), h]
  · rw [if_neg h, if_neg (by omega)]

/-! ## The gradient at the gated product -/

/-- What a tap gives the gradient. -/
theorem down_pad (n : ℕ) (hn : n ≤ 30) (lo : ℕ) (hb) (hw) (z : Vec Ideal S_ .f32) (h) (hu) (hz : z (Shape.Idx.first hu) = 0) (q : Fin 8192) (e : Fin 512) :
    pad S8222x512 ![n, 0] ![lo, 0] ![0, 0] (mulf (broadcastInDim S8192x512 ![0, 1] hb (extractStridedSlice S1x512 ![n, 0] x3 hw) : FVec Ideal S8192x512 .f32)
      (val_main_v227 (F := Ideal) x0 x1 x2 x3 x4 x5 x6) : FVec Ideal S8192x512 .f32) z h hu (ix2 ⟨30 + q, by omega⟩ e) = tapTerm x0 x1 x2 x3 x4 x5 x6 q e (30 - n) := by
  refine (pad_rows n hn lo _ z h hu q e hz).trans ?_
  unfold tapTerm refT
  have hi : (⟨30 - (30 - n), by omega⟩ : Fin 31) = ⟨n, by omega⟩ := Fin.ext (by dsimp only; omega)
  rw [hi]
  by_cases hq : q.val + (30 - n) < 8192
  · rw [dif_pos hq, dif_pos hq]
    pointwise [ref_grad]
  · rw [dif_neg hq, dif_neg hq, mul_zero]

/-- The gradient at the gated product. -/
theorem ref_down (q : Fin 8192) (e : Fin 512) :
    val_main_v508 (F := Ideal) x0 x1 x2 x3 x4 x5 x6 (ix2 q e) = ∑ i ∈ Finset.range 31, tapTerm x0 x1 x2 x3 x4 x5 x6 q e i := by
  refine Eq.trans (b := val_main_v504 (F := Ideal) x0 x1 x2 x3 x4 x5 x6 (ix2 ⟨30 + q, by omega⟩ e)) (by pointwise [val_main_v508]) ?_
  simp only [Finset.sum_range_succ, Finset.sum_range_zero, zero_add]
  iterate 30 refine add_at ?_ ?_
  all_goals exact down_pad x0 x1 x2 x3 x4 x5 x6 _ (by decide) _ _ _ _ _ _ Ideal.ofBits_zero_f32 q e

end Cert.ConfRef

end
-- ==== Proof.ConfTotal.lean ====
/-
  The gradient of the taps after all grid points of the convolution module's backward call.
-/
module

public import proofs.«01_k».proof.Proof.ConfSum
public import proofs.«01_k».proof.Proof.ConfTaps
public import proofs.«01_k».proof.Proof.ConfTapRef

@[expose] public section

set_option maxRecDepth 16384

noncomputable section

namespace Cert.ConfProof
open Cert.ConfBwdIdeal Cert.ConfBwdIdeal.Gen Cert.ConfRun
open Cert.ConfRef Cert.ConfGradIdeal.Read
open Idealize.ShloMosaic Idealize.ShloMosaic.TcCoe Idealize.SL.Sem

variable (m : (ℓ : Loc nD τ sig) → Buf (Elt Ideal) ℓ) (c : Dev nD)

/-- The rows above the first tile are not taken. -/
theorem taken : ∀ t : Fin cfg0.N, Scalar.cmpi .sgt (Scalar.subi 15#32 (BitVec.ofNat 32 (grid0.coords t 0).val)) 0#32
    = if t.val < 15 then 1#1 else 0#1 :=
  (by decide +kernel : ∀ t : Fin grid0.N, _)

section
variable (h : AllFinite m c)
include h

theorem gated_eq (s : Fin 8192) (e : Fin 512) :
    gated (argZ m c (ix2 s (colAt 2 e))) (argZ m c (ix2 s (colAt 3 e))) = refP (argZ m c) s e := by
  unfold gated refP
  rw [sgm_lgs (h.blocks _ _)]

/-- The gated product's window: rows of the padded gated product. -/
theorem at_pT (t : Fin cfg0.N) (i : Fin 544) (hi : 2 ≤ i.val) (e : Fin 512) :
    pT m c t i e = theC m c ((15 - t.val) * 512 + (i.val - 2)) e := by
  have ht := tiles t
  unfold pT
  by_cases h32 : i.val < 32
  · rw [dif_pos h32, taken]
    by_cases h15 : t.val < 15
    · rw [if_pos h15, at_mainPrev, at_sidePrev, gated_eq m c h, theC, refC, dif_pos (by omega)]
      exact congrArg (fun s => refP (argZ m c) s e) (Fin.ext (by dsimp only; omega))
    · rw [if_neg h15, theC, refC, dif_neg (by omega)]
      rfl
  · rw [dif_neg h32, at_main, at_side, gated_eq m c h, theC, refC, dif_pos (by omega)]
    exact congrArg (fun s => refP (argZ m c) s e) (Fin.ext (by simp only [rowAt]; omega))

/-- What a tile adds to the taps' gradients. -/
theorem at_tile (t : Fin cfg0.N) (k : Fin 31) (e r : Fin 512) :
    gradT m c t r e * pT m c t ⟨2 + k + r, by omega⟩ e = theG m c (rowAt t r) e * theC m c (k + (rowAt t r).val) e := by
  rw [at_gradT m c h, at_pT m c h _ _ (by dsimp only; omega)]
  exact congrArg (fun p => theG m c (rowAt t r) e * theC m c p e) (by simp only [rowAt]; omega)

end

/-- The sum a tile adds to the gradient of tap `k`. -/
def tileTap (k : Fin 31) (t : Fin cfg0.N) (e : Fin 512) : EReal := ∑ r : Fin 512, gradT m c t r e * pT m c t ⟨2 + k + r, by omega⟩ e

theorem left_tap_first (k : Fin 31) (t : Fin cfg0.N) (h : t.val % 16 = 0) (e : Fin 512) :
    (left m c t.val t.isLt).2.1 (ix2 k e) = 0 + tileTap m c k t e := by
  rw [left_first m c t h]
  exact taps_first m c t h k e

theorem left_tap_next (k : Fin 31) (t : Fin cfg0.N) (h : ¬ t.val % 16 = 0) (e : Fin 512) :
    (left m c t.val t.isLt).2.1 (ix2 k e) = (before m c t).2.1 (ix2 k e) + tileTap m c k t e := by
  rw [left_next m c t h]
  exact taps_next m c t h _ k e

section
variable (h : AllFinite m c)
include h

theorem all_tap (k : Fin 31) (e : Fin 512) : ∑ t, tileTap m c k t e
    = tapSum (argD m c) (argW m c) (argZ m c) (argT m c) (argB m c) (argG m c) (argH m c) k e := by
  unfold tapSum
  rw [← sum_tiles]
  exact Finset.sum_congr rfl fun t _ => Finset.sum_congr rfl fun r _ => at_tile m c h t k e r

/-- The kernel ends with the reference's gradient of the taps. -/
theorem final_taps : (dats m 0 c).arrAt 11 cfg0.N
    = val_main_v506 (F := Ideal) (argD m c) (argW m c) (argZ m c) (argT m c) (argB m c) (argG m c) (argH m c) := by
  refine (dats m 0 c).arrAt_eq_of_after_last 11 lastTile (by decide +kernel) _ fun y => ?_
  blk_simp
  rw [after_11]
  obtain ⟨k, e, rfl⟩ : ∃ (k : Fin 31) (e : Fin 512), y = ix2 k e := ⟨y 0, y 1, by blk_ext⟩
  refine Eq.trans ?_ (ref_taps (argD m c) (argW m c) (argZ m c) (argT m c) (argB m c) (argG m c) (argH m c) k e).symm
  refine (Pipeline.eq_sum_fin_of_reset_step_apply_last (ι := Fin 512)
    (fun n hn p => (left m c n hn).2.1 (ix2 k p)) 16 (fun _ => 0) (fun t p => tileTap m c k t p)
    (fun t ht p => left_tap_first m c k t ht p) (fun t ht p => left_tap_next m c k t ht p)
    (le_of_eq N_0) lastTile rfl e).trans ?_
  rw [zero_add]
  exact all_tap m c h k e

end

end Cert.ConfProof

end
-- ==== Proof.ConfGates.lean ====
/-
  What a grid point of the convolution module's backward call writes into the gradients of the two column blocks, and the
  rows it leaves for the next point.
-/
module

public import proofs.«01_k».proof.Proof.ConfTaps

@[expose] public section

set_option maxRecDepth 16384

noncomputable section

namespace Cert.ConfProof
open Cert.ConfBwdIdeal Cert.ConfBwdIdeal.Gen Cert.ConfRun
open Idealize.ShloMosaic Idealize.ShloMosaic.TcCoe Idealize.SL.Sem

/-! ## The sum over the taps -/

/-- A sum over the taps, from the last: tap `30 - i` times row `r + i`. -/
def turned (A B : ℕ → EReal) (r : ℕ) : EReal := ∑ i ∈ Finset.range 31, A (30 - i) * B (r + i)

section
variable (w0 w1 w2 w3 w4 w5 w6 w7 w8 w9 w10 w11 w12 w13 w14 w15 w16 w17 w18 w19 w20 w21 w22 w23 w24 w25 w26 w27 w28 w29 w30 : Vec Ideal S1x512 .f32)
  (Z0 Z1 Z2 Z3 Z4 Z5 Z6 Z7 Z8 Z9 Z10 Z11 Z12 Z13 Z14 Z15 Z16 Z17 Z18 Z19 Z20 Z21 Z22 Z23 Z24 Z25 Z26 Z27 Z28 Z29 Z30 : Vec Ideal S1x512x512 .f32)

theorem at_turned (r e : Fin 512) :
    k0_pay92 (k0_pay89 (k0_pay88 (k0_pay86 (k0_pay85 (k0_pay84 w0 Z0 w1 Z1 w2 Z2 w3 Z3) w4 Z4 w5 Z5 w6 Z6 w7 Z7 w8 Z8) w9 Z9 w10 Z10 w11 Z11
      w12 Z12 w13 Z13) (k0_pay87 w14 Z14) w15 Z15 w16 Z16 w17 Z17 w18 Z18 w19 Z19) w20 Z20 w21 Z21 w22 Z22 w23 Z23 w24 Z24) (k0_pay90
      Z25) (k0_pay91 w25) w26 Z26 w27 Z27 w28 Z28 w29 Z29 w30 Z30 (ix2 r e)
    = w0 (ix2 0 e) * Z0 (ix3 0 r e) + w1 (ix2 0 e) * Z1 (ix3 0 r e) + w2 (ix2 0 e) * Z2 (ix3 0 r e) + w3 (ix2 0 e) * Z3 (ix3 0 r e) + w4
      (ix2 0 e) * Z4 (ix3 0 r e) + w5 (ix2 0 e) * Z5 (ix3 0 r e) + w6 (ix2 0 e) * Z6 (ix3 0 r e) + w7 (ix2 0 e) * Z7 (ix3 0 r e) + w8
      (ix2 0 e) * Z8 (ix3 0 r e) + w9 (ix2 0 e) * Z9 (ix3 0 r e) + w10 (ix2 0 e) * Z10 (ix3 0 r e) + w11 (ix2 0 e) * Z11 (ix3 0 r e) +
      w12 (ix2 0 e) * Z12 (ix3 0 r e) + w13 (ix2 0 e) * Z13 (ix3 0 r e) + w14 (ix2 0 e) * Z14 (ix3 0 r e) + w15 (ix2 0 e) * Z15 (ix3 0 r
      e) + w16 (ix2 0 e) * Z16 (ix3 0 r e) + w17 (ix2 0 e) * Z17 (ix3 0 r e) + w18 (ix2 0 e) * Z18 (ix3 0 r e) + w19 (ix2 0 e) * Z19
      (ix3 0 r e) + w20 (ix2 0 e) * Z20 (ix3 0 r e) + w21 (ix2 0 e) * Z21 (ix3 0 r e) + w22 (ix2 0 e) * Z22 (ix3 0 r e) + w23 (ix2 0 e)
      * Z23 (ix3 0 r e) + w24 (ix2 0 e) * Z24 (ix3 0 r e) + w25 (ix2 0 e) * Z25 (ix3 0 r e) + w26 (ix2 0 e) * Z26 (ix3 0 r e) + w27 (ix2
      0 e) * Z27 (ix3 0 r e) + w28 (ix2 0 e) * Z28 (ix3 0 r e) + w29 (ix2 0 e) * Z29 (ix3 0 r e) + w30 (ix2 0 e) * Z30 (ix3 0 r e) := by
  pointwise [k0_pay84, k0_pay85, k0_pay86, k0_pay87, k0_pay88, k0_pay89, k0_pay90, k0_pay91, k0_pay92]

end

theorem turned_eq (A B : ℕ → EReal) (r : ℕ) : turned A B r
    = A 30 * B (r + 0) + A 29 * B (r + 1) + A 28 * B (r + 2) + A 27 * B (r + 3) + A 26 * B (r + 4) + A 25 * B (r + 5) + A 24 * B (r + 6)
      + A 23 * B (r + 7) + A 22 * B (r + 8) + A 21 * B (r + 9) + A 20 * B (r + 10) + A 19 * B (r + 11) + A 18 * B (r + 12) + A 17 * B (r
      + 13) + A 16 * B (r + 14) + A 15 * B (r + 15) + A 14 * B (r + 16) + A 13 * B (r + 17) + A 12 * B (r + 18) + A 11 * B (r + 19) + A
      10 * B (r + 20) + A 9 * B (r + 21) + A 8 * B (r + 22) + A 7 * B (r + 23) + A 6 * B (r + 24) + A 5 * B (r + 25) + A 4 * B (r + 26)
      + A 3 * B (r + 27) + A 2 * B (r + 28) + A 1 * B (r + 29) + A 0 * B (r + 30) := by
  simp only [turned, Finset.sum_range_succ, Finset.sum_range_zero, zero_add, Nat.reduceSub]

/-- The first plane: the sum times the gate. -/
theorem at_plane0 (g : FVec Ideal S512x512 .f32) (x y z) (w0 w1 w2 w3 w4 : Vec Ideal S1x512 .f32) (Z0 Z1 Z2 Z3 Z4 : Vec Ideal S1x512x512 .f32)
    (r e : Fin 512) : k0_pay1 (k0_pay93 g x y z w0 Z0 w1 Z1 w2 Z2 w3 Z3 w4 Z4) (ix3 0 r e)
      = k0_pay92 x y z w0 Z0 w1 Z1 w2 Z2 w3 Z3 w4 Z4 (ix2 r e) * g (ix2 r e) := by
  pointwise [k0_pay1, k0_pay93]

/-- The second: the sum times the other factor and the gate's slope. -/
theorem at_plane1 (a g v : FVec Ideal S512x512 .f32) (r e : Fin 512) : k0_pay2 a g v (ix3 0 r e)
    = v (ix2 r e) * a (ix2 r e) * g (ix2 r e) * (1 - g (ix2 r e)) := by
  pointwise [k0_pay2, const_one]
  rw [EReal.coe_one]

theorem plane_hit (j : Fin 2) (n : ℕ) (hj : j.val = n) (inb) (w : Vec Ideal S1x512x512 .bf16) (L : List (View.Piece (Elt Ideal) S2x512x512 .bf16)) (r e : Fin 512) :
    View.canon (⟨Rect.unit (s := S2x512x512) ![n, 0, 0] ![1, 512, 512] inb, w⟩ :: L) (ix3 j r e) = w (ix3 0 r e) := by
  refine (congrArg _ ?_).trans (View.canon_cons_emb (Rect.unit (s := S2x512x512) ![n, 0, 0] ![1, 512, 512] inb) w L (ix3 0 r e))
  exact funext fun a => Fin.ext (by fin_cases a <;> simp [hj])

theorem plane_miss (j : Fin 2) (n : ℕ) (hj : j.val ≠ n) (inb) (w : Vec Ideal S1x512x512 .bf16) (L : List (View.Piece (Elt Ideal) S2x512x512 .bf16)) (r e : Fin 512) :
    View.canon (⟨Rect.unit (s := S2x512x512) ![n, 0, 0] ![1, 512, 512] inb, w⟩ :: L) (ix3 j r e) = View.canon L (ix3 j r e) := by
  refine View.canon_cons_of_not_mem _ _ fun hm => ?_
  have := Rect.mem_set_unit.mp (show _ ∈ (Rect.unit (s := S2x512x512) ![n, 0, 0] ![1, 512, 512] inb).set from hm) 0
  simp at this
  omega

/-! ## The rows below a tile -/

theorem below_hit (inb) (w : Vec Ideal S32x512 .f32) (L : List (View.Piece (Elt Ideal) S544x512 .f32)) (i : Fin 32) (e : Fin 512) :
    View.canon (⟨Rect.unit (s := S544x512) ![512, 0] ![32, 512] inb, w⟩ :: L) (ix2 ⟨512 + i, by omega⟩ e) = w (ix2 i e) := by
  refine (congrArg _ ?_).trans (View.canon_cons_emb (Rect.unit (s := S544x512) ![512, 0] ![32, 512] inb) w L (ix2 i e))
  exact funext fun a => Fin.ext (by fin_cases a <;> simp)

theorem top_read (P : Vec Ideal S512x512 .f32) (inb) (inb') (L : List (View.Piece (Elt Ideal) S544x512 .f32)) (i : Fin 32) (e : Fin 512) :
    View.readCov (Val := Elt Ideal) (View.whole cc0_scratch1) (⟨Rect.unit (s := S544x512) ![0, 0] ![512, 512] inb, P⟩ :: L)
      (Rect.unit (s := S544x512) ![0, 0] ![32, 512] inb').toLoadRect (ix2 i e) = P (ix2 ⟨i, by omega⟩ e) := by
  rw [View.readCov, View.readAt_apply]
  exact View.read_writes_cons_unit_of_mem (s := S544x512) _ _ inb P _ _ (ix2 ⟨i, by omega⟩ e) rfl (fun a => by fin_cases a <;> simp [LoadRect.idx_apply])

theorem at_pay24 (G : Vec Ideal S512x512 .f32) (r e : Fin 512) : k0_pay24 (F := Ideal) G (ix2 r e) = G (ix2 r e) := by
  pointwise [k0_pay24]

theorem at_pay8 (i : Fin 32) (e : Fin 512) : k0_pay8 (F := Ideal) (ix2 i e) = 0 := by
  pointwise [k0_pay8]

theorem at_pay3 (v : Vec Ideal S32x512 .f32) (i : Fin 32) (e : Fin 512) : k0_pay3 v (ix2 i e) = v (ix2 i e) := by
  pointwise [k0_pay3]

variable (m : (ℓ : Loc nD τ sig) → Buf (Elt Ideal) ℓ) (c : Dev nD)

/-- A point leaves the first 32 rows of its tile. -/
theorem halo_next (t : Fin cfg0.N) (h : ¬ t.val % 16 = 0) (p : Left Ideal) (i : Fin 32) (e : Fin 512) :
    (leftNext m c t h p).2.2.2.2.2 (ix2 ⟨512 + i, by omega⟩ e) = gradT m c t ⟨i, by omega⟩ e := by
  obtain ⟨p10, p11, p12, p13, p14, D⟩ := p
  simp only [leftNext, haloNext, runNext]
  frame_out
  generalize hG : k0_pay22 (F := Ideal) _ _ _ _ _ _ = G
  exact (below_hit _ _ _ i e).trans ((at_pay3 _ i e).trans ((top_read _ _ _ _ i e).trans ((at_pay24 G _ e).trans (hG ▸ at_grad _ _ _ _ _ _ e))))

theorem halo_first (t : Fin cfg0.N) (h : t.val % 16 = 0) (i : Fin 32) (e : Fin 512) :
    (leftFirst m c t h).2.2.2.2.2 (ix2 ⟨512 + i, by omega⟩ e) = gradT m c t ⟨i, by omega⟩ e := by
  simp only [leftFirst, haloFirst, runFirst]
  frame_out
  generalize hG : k0_pay22 (F := Ideal) _ _ _ _ _ _ = G
  exact (below_hit _ _ _ i e).trans ((at_pay3 _ i e).trans ((top_read _ _ _ _ i e).trans ((at_pay24 G _ e).trans (hG ▸ at_grad _ _ _ _ _ _ e))))

/-- A tile's rows over the rows `D` holds below them. -/
def dT (t : Fin cfg0.N) (D : ℕ → Fin 512 → EReal) (i : ℕ) (e : Fin 512) : EReal :=
  if h : i < 512 then gradT m c t ⟨i, h⟩ e else D i e

/-- Row `i` of a scratch, nothing after it. -/
def rowsOf (D : Vec Ideal S544x512 .f32) (i : ℕ) (e : Fin 512) : EReal := if h : i < 544 then D (ix2 ⟨i, h⟩ e) else 0

theorem over_read (P : Vec Ideal S512x512 .f32) (D) (D' : Vec Ideal S544x512 .f32) (hD : View.read (Elt Ideal) (View.whole cc0_scratch1) D = D') (inb)
    (i : Fin 544) (e : Fin 512) :
    View.read (Elt Ideal) (View.whole cc0_scratch1) ((View.whole cc0_scratch1).writes (Elt Ideal) D
      [⟨Rect.unit (s := S544x512) ![0, 0] ![512, 512] inb, P⟩]) (ix2 i e) = if h : i.val < 512 then P (ix2 ⟨i, h⟩ e) else D' (ix2 i e) := by
  by_cases h : i.val < 512
  · rw [dif_pos h, View.read_writes_cons_unit_of_mem (s := S544x512) _ _ inb P _ _ (ix2 ⟨i, h⟩ e) rfl (fun a => by fin_cases a <;> simp)]
  · rw [dif_neg h, View.read_writes_cons_unit_of_not_mem (s := S544x512) _ _ inb P _ _ rfl 0 (by right; simp; omega)]
    exact congrFun hD _

theorem zero_read (P : Vec Ideal S512x512 .f32) (Q : Vec Ideal S32x512 .f32) (inb) (inb') (inb'') (i : Fin 544) (e : Fin 512) :
    View.readCov (Val := Elt Ideal) (View.whole cc0_scratch1) [⟨Rect.unit (s := S544x512) ![0, 0] ![512, 512] inb, P⟩,
      ⟨Rect.unit (s := S544x512) ![512, 0] ![32, 512] inb', Q⟩] (Rect.unit (s := S544x512) ![0, 0] ![544, 512] inb'').toLoadRect (ix2 i e)
    = if h : i.val < 512 then P (ix2 ⟨i, h⟩ e) else Q (ix2 ⟨i - 512, by omega⟩ e) := by
  rw [View.readCov, View.readAt_apply]
  by_cases h : i.val < 512
  · rw [dif_pos h, View.read_writes_cons_unit_of_mem (s := S544x512) _ _ inb P _ _ (ix2 ⟨i, h⟩ e) rfl (fun a => by fin_cases a <;> simp [LoadRect.idx_apply])]
  · rw [dif_neg h, View.read_writes_cons_unit_of_not_mem (s := S544x512) _ _ inb P _ _ rfl 0 (by right; simp [LoadRect.idx_apply]; omega),
      View.read_writes_cons_unit_of_mem (s := S544x512) _ _ inb' Q _ _ (ix2 ⟨i - 512, by omega⟩ e) rfl (fun a => by fin_cases a <;> simp [LoadRect.idx_apply]; omega)]

/-! ## The two planes -/

/-- The tap `n`. -/
def tapOf (t : Fin cfg0.N) (e : Fin 512) (n : ℕ) : EReal := if h : n < 31 then (iblk m c 7 t : Vec Ideal S31x512 .f32) (ix2 ⟨n, h⟩ e) else 0

/-- The gradient at the gated product. -/
def backT (t : Fin cfg0.N) (D : ℕ → Fin 512 → EReal) (r e : Fin 512) : EReal := turned (tapOf m c t e) (fun i => dT m c t D i e) r

/-- The two factors of the gated product. -/
def mainOf (t : Fin cfg0.N) (r e : Fin 512) : EReal := (iblk m c 2 t : Vec Ideal S1x512x512 .f32) (ix3 0 r e)
def sideOf (t : Fin cfg0.N) (r e : Fin 512) : EReal := (iblk m c 3 t : Vec Ideal S1x512x512 .f32) (ix3 0 r e)

/-- What a point writes into plane `j`. -/
def planeT (t : Fin cfg0.N) (D : ℕ → Fin 512 → EReal) (j : Fin 2) (r e : Fin 512) : EReal :=
  if j = 0 then backT m c t D r e * sgm (sideOf m c t r e)
  else backT m c t D r e * mainOf m c t r e * sgm (sideOf m c t r e) * (1 - sgm (sideOf m c t r e))

theorem at_mainOf (t : Fin cfg0.N) (r e : Fin 512) : k0_pay9 (iblk m c 2 t) (ix2 r e) = mainOf m c t r e := by
  pointwise [k0_pay9, mainOf]

theorem at_gateOf (t : Fin cfg0.N) (r e : Fin 512) : k0_pay10 (iblk m c 3 t) (ix2 r e) = sgm (sideOf m c t r e) := by
  pointwise [k0_pay10, sideOf, sgm]

theorem at_tapOf (t : Fin cfg0.N) (n : ℕ) (inb) (e : Fin 512) :
    View.ld (iblk m c 7 t : Vec Ideal S31x512 .f32) (Rect.unit (s := S31x512) ![n, 0] ![1, 512] inb) (ix2 0 e) = tapOf m c t e n := by
  have hn : n < 31 := by have := inb 0; simp at this; omega
  rw [ld_row _ n hn, tapOf, dif_pos hn]

set_option maxHeartbeats 2000000 in
/-- What a later point writes into the two planes. -/
theorem gates_next (t : Fin cfg0.N) (h : ¬ t.val % 16 = 0) (p : Left Ideal) (j : Fin 2) (r e : Fin 512) :
    (leftNext m c t h p).1 (ix3 j r e) = planeT m c t (rowsOf p.2.2.2.2.2) j r e := by
  generalize hD : rowsOf p.2.2.2.2.2 = D
  obtain ⟨p10, p11, p12, p13, p14, D'⟩ := p
  dsimp only at hD
  simp only [leftNext, gatesNext, runNext]
  frame_out
  generalize hG : k0_pay22 (F := Ideal) _ _ _ _ _ _ = G
  have gG (r : Fin 512) : G (ix2 r e) = gradT m c t r e := hG ▸ at_grad _ _ _ _ _ r e
  clear hG
  generalize hY : View.read (Elt Ideal) (View.whole cc0_scratch1) _ = Y
  have gY (i : Fin 544) : Y (ix2 i e) = dT m c t D i e := by
    rw [← hY, dT]
    refine (over_read _ _ D' (Memref.IsWhole.read_unread _ D') _ i e).trans ?_
    by_cases hi : i.val < 512
    · rw [dif_pos hi, dif_pos hi, at_pay24, gG]
    · rw [dif_neg hi, dif_neg hi, ← hD, rowsOf, dif_pos i.isLt]
  clear hY
  generalize hL : ([_, _, _, _, _, _, _, _, _, _, _, _, _, _, _, _] : List (View.Piece (Elt Ideal) S8x536x512 .f32)) = L
  have gL (q o : ℕ) (inb) : (View.whole cc0_scratch2).readCov (Val := Elt Ideal) L (Rect.unit (s := S8x536x512) ![q, o, 0] ![1, 512, 512] inb).toLoadRect (ix3 0 r e)
      = dT m c t D (o + r + q) e := by
    have hq : q < 8 := by have := inb 0; simp at this; omega
    have ho : o + 512 ≤ 536 := by have := inb 1; simp at this; omega
    rw [← hL]
    exact (up_read Y _ _ _ _ _ _ _ _ _ q o hq ho inb r e).trans (gY _)
  clear hL gY
  have key : ∀ (a b s : EReal), a = b → a * s = b * s := fun _ _ _ h => h ▸ rfl
  obtain rfl | rfl : j = 0 ∨ j = 1 := by omega
  · refine (plane_miss 0 1 (by decide) _ _ _ r e).trans ((plane_hit 0 0 rfl _ _ _ r e).trans ((at_plane0 _ _ _ _ _ _ _ _ _ _ _ _ _ _ r e).trans ?_))
    rw [at_gateOf, at_turned]
    simp only [at_tapOf, gL]
    rw [planeT, if_pos rfl, backT, turned_eq]
    exact key _ _ _ (by
      repeat refine congrArg₂ (· + ·) ?_ (congrArg (_ * ·) (congrArg (fun i => dT m c t D i e) (by omega)))
      exact congrArg (_ * ·) (congrArg (fun i => dT m c t D i e) (by omega)))
  · refine (plane_hit 1 1 rfl _ _ _ r e).trans ((at_plane1 _ _ _ r e).trans ?_)
    rw [at_gateOf, at_mainOf, at_turned]
    simp only [at_tapOf, gL]
    rw [planeT, if_neg (by decide), backT, turned_eq]
    exact key _ _ _ (key _ _ _ (key _ _ _ (by
      repeat refine congrArg₂ (· + ·) ?_ (congrArg (_ * ·) (congrArg (fun i => dT m c t D i e) (by omega)))
      exact congrArg (_ * ·) (congrArg (fun i => dT m c t D i e) (by omega)))))

set_option maxHeartbeats 2000000 in
/-- What the first writes there: there are no rows below its tile. -/
theorem gates_first (t : Fin cfg0.N) (h : t.val % 16 = 0) (j : Fin 2) (r e : Fin 512) :
    (leftFirst m c t h).1 (ix3 j r e) = planeT m c t (fun _ _ => 0) j r e := by
  generalize hD : (fun _ _ => 0 : ℕ → Fin 512 → EReal) = D
  simp only [leftFirst, gatesFirst, runFirst]
  frame_out
  generalize hG : k0_pay22 (F := Ideal) _ _ _ _ _ _ = G
  have gG (r : Fin 512) : G (ix2 r e) = gradT m c t r e := hG ▸ at_grad _ _ _ _ _ r e
  clear hG
  generalize hY : View.readCov (Val := Elt Ideal) (View.whole cc0_scratch1) [_, _] _ = Y
  have gY (i : Fin 544) : Y (ix2 i e) = dT m c t D i e := by
    rw [← hY, dT]
    refine (zero_read _ _ _ _ _ i e).trans ?_
    by_cases hi : i.val < 512
    · rw [dif_pos hi, dif_pos hi, at_pay24, gG]
    · rw [dif_neg hi, dif_neg hi, at_pay8, ← hD]
  clear hY
  generalize hL : ([_, _, _, _, _, _, _, _, _, _, _, _, _, _, _, _] : List (View.Piece (Elt Ideal) S8x536x512 .f32)) = L
  have gL (q o : ℕ) (inb) : (View.whole cc0_scratch2).readCov (Val := Elt Ideal) L (Rect.unit (s := S8x536x512) ![q, o, 0] ![1, 512, 512] inb).toLoadRect (ix3 0 r e)
      = dT m c t D (o + r + q) e := by
    have hq : q < 8 := by have := inb 0; simp at this; omega
    have ho : o + 512 ≤ 536 := by have := inb 1; simp at this; omega
    rw [← hL]
    exact (up_read Y _ _ _ _ _ _ _ _ _ q o hq ho inb r e).trans (gY _)
  clear hL gY
  have key : ∀ (a b s : EReal), a = b → a * s = b * s := fun _ _ _ h => h ▸ rfl
  obtain rfl | rfl : j = 0 ∨ j = 1 := by omega
  · refine (plane_miss 0 1 (by decide) _ _ _ r e).trans ((plane_hit 0 0 rfl _ _ _ r e).trans ((at_plane0 _ _ _ _ _ _ _ _ _ _ _ _ _ _ r e).trans ?_))
    rw [at_gateOf, at_turned]
    simp only [at_tapOf, gL]
    rw [planeT, if_pos rfl, backT, turned_eq]
    exact key _ _ _ (by
      repeat refine congrArg₂ (· + ·) ?_ (congrArg (_ * ·) (congrArg (fun i => dT m c t D i e) (by omega)))
      exact congrArg (_ * ·) (congrArg (fun i => dT m c t D i e) (by omega)))
  · refine (plane_hit 1 1 rfl _ _ _ r e).trans ((at_plane1 _ _ _ r e).trans ?_)
    rw [at_gateOf, at_mainOf, at_turned]
    simp only [at_tapOf, gL]
    rw [planeT, if_neg (by decide), backT, turned_eq]
    exact key _ _ _ (key _ _ _ (key _ _ _ (by
      repeat refine congrArg₂ (· + ·) ?_ (congrArg (_ * ·) (congrArg (fun i => dT m c t D i e) (by omega)))
      exact congrArg (_ * ·) (congrArg (fun i => dT m c t D i e) (by omega)))))

end Cert.ConfProof

end
-- ==== Proof.ConfPlanes.lean ====
/-
  The gradients of the two column blocks after all grid points of the convolution module's backward call: the second half
  of the result's planes, the half that the kernel writes.
-/
module

public import proofs.«01_k».proof.Proof.ConfTotal
public import proofs.«01_k».proof.Proof.ConfGates
public import Idealize.ShloMosaic.Lib.Pipeline.ValueKit.Partial

@[expose] public section

set_option maxRecDepth 16384

noncomputable section

namespace Cert.ConfRef
open Cert.ConfGradIdeal Cert.ConfGradIdeal.Gen Cert.ConfGradIdeal.Read Cert.ConfProof
open Idealize.ShloMosaic

variable (x0 : Vec Ideal S8192x1024 .f32) (x1 : Vec Ideal S1024x1024 .f32) (x2 : Vec Ideal S8192x2048 .f32) (x3 : Vec Ideal S31x512 .f32)
  (x4 x5 x6 : Vec Ideal S1x512 .f32)

/-- The gradient at the gated product. -/
def refBack (s : ℕ) (e : Fin 512) : EReal := ∑ i ∈ Finset.range 31, tapTerm x0 x1 x2 x3 x4 x5 x6 s e i

/-- The gate of a row. -/
def refSig (s : Fin 8192) (e : Fin 512) : EReal := lgs (x2 (ix2 s (colAt 3 e)))

/-- The two planes. -/
def refPlane (j : Fin 2) (s : Fin 8192) (e : Fin 512) : EReal :=
  if j = 0 then refBack x0 x1 x2 x3 x4 x5 x6 s e * refSig x2 s e
  else x2 (ix2 s (colAt 2 e)) * refBack x0 x1 x2 x3 x4 x5 x6 s e * (refSig x2 s e * (1 - refSig x2 s e))

theorem ref_sigm (s : Fin 8192) (e : Fin 512) : val_main_v7 (F := Ideal) x2 (ix2 s e) = refSig x2 s e := by
  simp only [val_main_v7_apply, val_main_v6_apply, val_main_v5_apply, val_main_v4_apply,
    val_main_v3_apply, val_main_v2_apply, val_main_v1_apply, val_main_cst_apply, val_main_cst_0_apply]
  have h3 : idx_main_v1 (ix2 s e) = ix2 s (colAt 3 e) := by blk_ext [colAt]
  rw [h3]
  rfl

theorem ref_main (s : Fin 8192) (e : Fin 512) : val_main_v0 (F := Ideal) x2 (ix2 s e) = x2 (ix2 s (colAt 2 e)) := by
  rw [val_main_v0_apply]
  have h2 : idx_main_v0 (ix2 s e) = ix2 s (colAt 2 e) := by blk_ext [colAt]
  rw [h2]

theorem ref_back (s : Fin 8192) (e : Fin 512) :
    val_main_v508 (F := Ideal) x0 x1 x2 x3 x4 x5 x6 (ix2 s e) = refBack x0 x1 x2 x3 x4 x5 x6 s e :=
  ref_down x0 x1 x2 x3 x4 x5 x6 s e

theorem ref_plane0 (s : Fin 8192) (e : Fin 512) :
    val_main_v510 (F := Ideal) x0 x1 x2 x3 x4 x5 x6 (ix2 s e) = refPlane x0 x1 x2 x3 x4 x5 x6 0 s e := by
  rw [refPlane, if_pos rfl, ← ref_back, ← ref_sigm]
  rfl

theorem ref_plane1 (s : Fin 8192) (e : Fin 512) :
    val_main_v511 (F := Ideal) x0 x1 x2 x3 x4 x5 x6 (ix2 s e) = refPlane x0 x1 x2 x3 x4 x5 x6 1 s e := by
  rw [refPlane, if_neg (by decide), ← ref_back, ← ref_sigm, ← ref_main x2 s e]
  have h1 : val_main_v8 (F := Ideal) (ix2 s e) = 1 := by
    pointwise [val_main_v8, val_main_cst_1, const_one]
    rw [EReal.coe_one]
  rw [← h1]
  rfl

/-- The written half of the reference's result. -/
theorem ref_planes (j : Fin 2) (s : Fin 8192) (e : Fin 512) :
    val_main_v517 (F := Ideal) x0 x1 x2 x3 x4 x5 x6 (ix3 ⟨2 + j, by omega⟩ s e) = refPlane x0 x1 x2 x3 x4 x5 x6 j s e := by
  obtain rfl | rfl : j = 0 ∨ j = 1 := by omega
  · pointwise [val_main_v517, val_main_v515, val_main_v514, val_main_v512, val_main_v513, ref_plane0]
  · pointwise [val_main_v517, val_main_v515, val_main_v514, val_main_v512, val_main_v513, ref_plane1]

end Cert.ConfRef

namespace Cert.ConfProof
open Cert.ConfBwdIdeal Cert.ConfBwdIdeal.Gen Cert.ConfRun
open Cert.ConfRef Cert.ConfGradIdeal.Read
open Idealize.ShloMosaic Idealize.ShloMosaic.TcCoe Idealize.SL.Sem

variable (m : (ℓ : Loc nD τ sig) → Buf (Elt Ideal) ℓ) (c : Dev nD)

/-- What a point finds in its scratch, below its own rows. -/
def below (t : Fin cfg0.N) : ℕ → Fin 512 → EReal :=
  if t.val % 16 = 0 then fun _ _ => 0 else rowsOf (before m c t).2.2.2.2.2

/-- A point leaves the first rows of its tile there. -/
theorem left_rows (t : Fin cfg0.N) (i : Fin 32) (e : Fin 512) :
    (left m c t.val t.isLt).2.2.2.2.2 (ix2 ⟨512 + i, by omega⟩ e) = gradT m c t ⟨i, by omega⟩ e := by
  by_cases h : t.val % 16 = 0
  · rw [left_first m c t h]
    exact halo_first m c t h i e
  · rw [left_next m c t h]
    exact halo_next m c t h _ i e

theorem left_planes (t : Fin cfg0.N) (j : Fin 2) (r e : Fin 512) :
    (left m c t.val t.isLt).1 (ix3 j r e) = planeT m c t (below m c t) j r e := by
  unfold below
  by_cases h : t.val % 16 = 0
  · rw [left_first m c t h, if_pos h]
    exact gates_first m c t h j r e
  · rw [left_next m c t h, if_neg h]
    exact gates_next m c t h _ j r e

abbrev theT (n : ℕ) (e : Fin 512) : EReal := refT (argD m c) (argW m c) (argZ m c) (argT m c) (argB m c) (argG m c) (argH m c) n e
abbrev thePlane (j : Fin 2) (s : Fin 8192) (e : Fin 512) : EReal :=
  refPlane (argD m c) (argW m c) (argZ m c) (argT m c) (argB m c) (argG m c) (argH m c) j s e

section
variable (h : AllFinite m c)
include h

theorem at_below (t : Fin cfg0.N) (i : Fin 32) (e : Fin 512) :
    below m c t (512 + i.val) e = theT m c ((15 - t.val) * 512 + (512 + i.val)) e := by
  have ht := tiles t
  unfold below
  by_cases h0 : t.val % 16 = 0
  · rw [if_pos h0, theT, refT, dif_neg (by omega)]
  · rw [if_neg h0, rowsOf, dif_pos (by omega)]
    refine (left_rows m c ⟨t.val - 1, Nat.lt_of_le_of_lt (Nat.sub_le _ _) t.isLt⟩ i e).trans ((at_gradT m c h _ _ e).trans ?_)
    rw [theT, refT, dif_pos (by omega)]
    exact congrArg (fun s => theG m c s e) (Fin.ext (by simp only [rowAt]; omega))

/-- The gradient at the convolution's output, with the rows below: rows of the reference's. -/
theorem at_dT (t : Fin cfg0.N) (i : ℕ) (hi : i < 544) (e : Fin 512) :
    dT m c t (below m c t) i e = theT m c ((15 - t.val) * 512 + i) e := by
  have ht := tiles t
  unfold dT
  by_cases h5 : i < 512
  · rw [dif_pos h5, at_gradT m c h, theT, refT, dif_pos (by omega)]
    rfl
  · rw [dif_neg h5]
    obtain ⟨k, rfl⟩ : ∃ k : Fin 32, i = 512 + k.val := ⟨⟨i - 512, by omega⟩, by dsimp only; omega⟩
    exact at_below m c h t k e

/-- The gradient at the gated product is the reference's. -/
theorem at_backT (t : Fin cfg0.N) (r e : Fin 512) : backT m c t (below m c t) r e
    = refBack (argD m c) (argW m c) (argZ m c) (argT m c) (argB m c) (argG m c) (argH m c) (rowAt t r) e := by
  unfold backT turned refBack
  refine Finset.sum_congr rfl fun i hi => ?_
  have hi := Finset.mem_range.mp hi
  dsimp only
  rw [at_dT m c h t _ (by omega), tapTerm, tapOf, dif_pos (by omega), at_tap]
  exact congrArg (_ * ·) (congrArg (fun n => theT m c n e) (by simp only [rowAt]; omega))

/-- What a point writes is the reference's. -/
theorem at_plane (t : Fin cfg0.N) (j : Fin 2) (r e : Fin 512) :
    planeT m c t (below m c t) j r e = thePlane m c j (rowAt t r) e := by
  have hs : sgm (sideOf m c t r e) = refSig (argZ m c) (rowAt t r) e := by
    rw [sideOf, at_side, sgm_lgs (h.blocks _ _)]
    rfl
  have hm : mainOf m c t r e = argZ m c (ix2 (rowAt t r) (colAt 2 e)) := at_main m c t r e
  unfold planeT thePlane refPlane
  rw [at_backT m c h, hs, hm]
  refine if_congr Iff.rfl rfl ?_
  rw [mul_assoc, mul_comm (argZ m c _)]

/-- The written planes of the kernel's result are the reference's. -/
theorem final_planes (i : S4x8192x512.Idx) (hi : 2 ≤ (i 0).val) : ((dats m 0 c).arrAt 10 cfg0.N : Vec Ideal S4x8192x512 .bf16) i
    = val_main_v517 (F := Ideal) (argD m c) (argW m c) (argZ m c) (argT m c) (argB m c) (argG m c) (argH m c) i := by
  have hr := ref_planes (argD m c) (argW m c) (argZ m c) (argT m c) (argB m c) (argG m c) (argH m c)
  generalize val_main_v517 (F := Ideal) (argD m c) (argW m c) (argZ m c) (argT m c) (argB m c) (argG m c) (argH m c) = W at hr ⊢
  refine ((dats m 0 c).arrAt_apply_of_coversWhere 10 W (P := fun i => (i (0 : Fin 3)).val / 2 = 1) (fun β => β (0 : Fin 3) = 1)
    (by decide +kernel) (fun t hf y => ?_) (fun j => Iff.rfl) i).trans (if_pos (by have h4 : (i 0).val < 4 := (i 0).isLt; omega))
  blk_simp
  rw [after_10]
  obtain ⟨j, r, e, rfl⟩ : ∃ (j : Fin 2) (r e : Fin 512), y = ix3 j r e := ⟨y 0, y 1, y 2, by blk_ext⟩
  have hp : W ((win0_10.blk t).view.emb (ix3 j r e)) = W (ix3 ⟨2 + j.val, by omega⟩ (rowAt t r) e) := by
    blk_ext [rowAt, origin t]
  exact (left_planes m c t j r e).trans ((at_plane m c h t j r e).trans ((hr j _ e).symm.trans hp.symm))

end

end Cert.ConfProof

end
-- ==== Proof.ConfValue.lean ====
/-
  The two programs of the convolution module's backward call end with the same gradients, wherever the kernel writes.
-/
module

public import proofs.«01_k».proof.Proof.ConfPlanes
public import proofs.«01_k».proof.Defs
public import Idealize.ShloMosaic.Lib.Claim

@[expose] public section

set_option maxRecDepth 16384

noncomputable section

namespace Cert.ConfProof
open Cert.ConfBwdIdeal Cert.ConfBwdIdeal.Gen Cert.ConfRun
open Cert.ConfRef Cert.ConfGradIdeal.Read Cert.RowGrad
open Idealize.ShloMosaic Idealize.ShloMosaic.TcCoe Idealize.SL.Sem

/-- The side conditions of the precondition. -/
instance preFacts : Cert.Pre_finite_conf.Facts where
  bcast_S_S8192x1024 := by decide
  reducesTo_S8192x1024_S_d0_1 := by decide
  h_S_ := by decide
  bcast_S_S1024x1024 := by decide
  reducesTo_S1024x1024_S_d0_1 := by decide
  bcast_S_S8192x2048 := by decide
  reducesTo_S8192x2048_S_d0_1 := by decide
  bcast_S_S31x512 := by decide
  reducesTo_S31x512_S_d0_1 := by decide
  bcast_S_S1x512 := by decide
  reducesTo_S1x512_S_d0_1 := by decide

/-- The side conditions of the mask. -/
instance maskFacts : Cert.On_written.Facts where
  bcast_S_S4x8192x512 := by decide
  bcast_S_S31x512 := by decide
  bcast_S_S1x512 := by decide

variable (m : (ℓ : Loc nD τ sig) → Buf (Elt Ideal) ℓ) (c : Dev nD)

/-- What the precondition says: every argument is finite. -/
theorem finite_of (h : Cert.Pre_ConfBwdIdeal_finite_conf m) : AllFinite m c := by
  have h := congrFun (h c) (fun a => a.elim0)
  unfold Cert.Pre_finite_conf.fn Cert.Pre_finite_conf.fn_part1 at h
  simp only [andi, IntOp.andi_eq_one] at h
  haveI : Subsingleton (Cert.Pre_finite_conf.S_).Idx := ⟨fun a b => funext fun k => k.elim0⟩
  exact {
    above := fun s k => RealOf.entries _ _ _ _ _ _ h.1.1.1.1.1.1 _
    down := fun s k => RealOf.entries _ _ _ _ _ _ h.1.1.1.1.1.2 _
    blocks := fun s k => RealOf.entries _ _ _ _ _ _ h.1.1.1.1.2 _
    taps := fun y => RealOf.entries _ _ _ _ _ _ h.1.1.1.2 y
    bias := fun y => RealOf.entries _ _ _ _ _ _ h.1.1.2 y
    scale := fun k => RealOf.entries _ _ _ _ _ _ h.1.2 _
    shift := fun k => RealOf.entries _ _ _ _ _ _ h.2 _ }

/-- The mask selects the planes from the third on. -/
theorem mask_planes (x0 x1 x2 x3 x4 x5 x6) (i : S4x8192x512.Idx)
    (h : (Cert.On_written.fn (F := Ideal) x0 x1 x2 x3 x4 x5 x6).1 i = 1#1) : 2 ≤ (i 0).val := by
  have h' : IntOp.cmpi .sge (BitVec.ofNat 32 (i 0).val) 2#32 = 1#1 := h
  have key : ∀ q : Fin 4, IntOp.cmpi .sge (BitVec.ofNat 32 q.val) 2#32 = 1#1 → 2 ≤ q.val := by decide
  exact key (i 0) h'

/-- The reference's results at the call's arguments. -/
abbrev valPlanes := val_main_v517 (F := Ideal) (argD m c) (argW m c) (argZ m c) (argT m c) (argB m c) (argG m c) (argH m c)
abbrev valTaps := val_main_v506 (F := Ideal) (argD m c) (argW m c) (argZ m c) (argT m c) (argB m c) (argG m c) (argH m c)
abbrev valBias := val_main_v229 (F := Ideal) (argD m c) (argW m c) (argZ m c) (argT m c) (argB m c) (argG m c) (argH m c)
abbrev valScale := val_main_v203 (F := Ideal) (argD m c) (argW m c) (argZ m c) (argT m c) (argB m c) (argG m c) (argH m c)
abbrev valShift := val_main_v200 (F := Ideal) (argD m c) (argW m c) (argZ m c) (argT m c) (argB m c) (argG m c) (argH m c)

/-- The two programs end with the same gradients. -/
theorem algebraic : Cert.algebraic_ConfBwdIdeal_ConfGradIdeal_on_written_pre_finite_conf := by
  intro m g m' g' hpre hagree
  refine ⟨valPlanes m, valTaps m, valBias m, valScale m, valShift m,
    (θ_run _ _ _).mono (fun r h c => ⟨fun i hi => (congrFun (h c).1.1 i).trans (final_planes m c (finite_of m c hpre) i (mask_planes _ _ _ _ _ _ _ i hi)),
        fun i _ => congrFun ((h c).1.2.1.trans (final_taps m c (finite_of m c hpre))) i,
        fun i _ => congrFun ((h c).1.2.2.1.trans (final_bias m c (finite_of m c hpre))) i,
        fun i _ => congrFun ((h c).1.2.2.2.1.trans (final_scale m c (finite_of m c hpre))) i,
        fun i _ => congrFun ((h c).1.2.2.2.2.trans (final_shift m c (finite_of m c hpre))) i,
        (h c).2⟩)
      (run_arrays m g),
    (θ_run _ _ _).mono (fun r h c => ?_) (Cert.ConfGradIdeal.Value.run m' g')⟩
  have hc := hagree c
  have a0 : StableHlo.launchContents m' c (Proc.devRef .tc Cert.ConfGradIdeal.main_arg0) = argD m c := hc.1
  have a1 : StableHlo.launchContents m' c (Proc.devRef .tc Cert.ConfGradIdeal.main_arg1) = argW m c := hc.2.1
  have a2 : StableHlo.launchContents m' c (Proc.devRef .tc Cert.ConfGradIdeal.main_arg2) = argZ m c := hc.2.2.1
  have a3 : StableHlo.launchContents m' c (Proc.devRef .tc Cert.ConfGradIdeal.main_arg3) = argT m c := hc.2.2.2.1
  have a4 : StableHlo.launchContents m' c (Proc.devRef .tc Cert.ConfGradIdeal.main_arg4) = argB m c := hc.2.2.2.2.1
  have a5 : StableHlo.launchContents m' c (Proc.devRef .tc Cert.ConfGradIdeal.main_arg5) = argG m c := hc.2.2.2.2.2.1
  have a6 : StableHlo.launchContents m' c (Proc.devRef .tc Cert.ConfGradIdeal.main_arg6) = argH m c := hc.2.2.2.2.2.2
  refine ⟨fun i _ => congrFun ((h c).1.trans ?_) i, fun i _ => congrFun ((h c).2.1.trans ?_) i, fun i _ => congrFun ((h c).2.2.1.trans ?_) i,
    fun i _ => congrFun ((h c).2.2.2.1.trans ?_) i, fun i _ => congrFun ((h c).2.2.2.2.1.trans ?_) i, (h c).2.2.2.2.2⟩
  · rw [val_main_v517_eq, a0, a1, a2, a3, a4, a5, a6]
  · rw [val_main_v506_eq, a0, a1, a2, a3, a4, a5, a6]
  · rw [val_main_v229_eq, a0, a1, a2, a3, a4, a5, a6]
  · rw [val_main_v203_eq, a0, a1, a2, a3, a4, a5, a6]
  · rw [val_main_v200_eq, a0, a1, a2, a3, a4, a5, a6]

end Cert.ConfProof
-- ==== Proof.ConfFrames.lean ====
/- The frames of the conformer's pair. -/
module

public import proofs.«01_k».proof.Proof.ConfRun
public import proofs.«01_k».proof.Proof.ConfRunBits
public import proofs.«01_k».proof.Proof.Gen.ConfGradIdeal.Run
public import proofs.«01_k».proof.Proof.ConfValue
public import proofs.«01_k».proof.Defs
public import Idealize.ShloMosaic.Lib.Claim

@[expose] public section

noncomputable section

namespace Cert.ConfProof
open Idealize.ShloMosaic Idealize.ShloMosaic.TcCoe Idealize.SL.Sem

/-- The call as it is compiled keeps its arguments. -/
theorem frame_kernel : Cert.quiescent_ConfBwd := fun m ρ _ => Cert.ConfRunBits.frame_run m ρ

/-- So does the call over the reals. -/
theorem frame_ideal : Cert.quiescent_ConfBwdIdeal := fun m ρ _ => Cert.ConfRun.frame_run m ρ

/-- So does the reference, which has no semaphore. -/
theorem frame_reference : Cert.quiescent_ConfGradIdeal := fun m ρ _ =>
  (θ_run _ _ _).mono (fun r h => ⟨fun c => (h c).2.2.2.2.2, funext fun s => nomatch s⟩) (Cert.ConfGradIdeal.Value.run m ρ)

/-- The frames also hold where the arguments are finite. -/
theorem frame_ideal_finite : Cert.quiescent_ConfBwdIdeal_pre_finite_conf := fun m ρ _ => frame_ideal m ρ trivial

theorem frame_reference_finite : Cert.quiescent_ConfGradIdeal_pre_finite_conf := fun m ρ _ => frame_reference m ρ trivial

end Cert.ConfProof
-- ==== Proof.AttnFwdTile.lean ====
/-
  One row of the cross attention and of the residual and norm after it, and what one grid point of the forward call
  stores of it.

  A point takes a tile of 1024 rows of the queries. Its body stores the attention's output head by head, reads it back
  for the projection, adds the residual and norms the sum.
-/
module

public import proofs.«01_k».proof.Proof.Gen.AttnFwdIdeal.Value
public import proofs.«01_k».proof.Proof.AttnRow
public import Idealize.ShloMosaic.Lib.Pipeline.ValueKit
public import Idealize.ShloMosaic.Lib.Pointwise
public import Idealize.ShloMosaic.Lib.Pipeline.ReadBack

@[expose] public section

set_option maxRecDepth 16384

noncomputable section

namespace Cert.AttnFwdProof
open Cert.AttnFwdIdeal Cert.AttnFwdIdeal.Gen Cert.RowGrad Cert.AttnRow
open Idealize.ShloMosaic Idealize.ShloMosaic.TcCoe Idealize.SL.Sem

variable (m : (ℓ : Loc nD τ sig) → Buf (Elt Ideal) ℓ)

/-! ## A row -/

/-- What a row of the queries reads from the values, head `h`. -/
def headRow (q : Fin 1024 → EReal) (kv : Fin 256 → Fin 2048 → EReal) (h : Fin 4) (b : Fin 256) : EReal :=
  ∑ j, softRow (score q kv h) j * kv j (valCol h b)

/-- The heads side by side. -/
def lookRow (q : Fin 1024 → EReal) (kv : Fin 256 → Fin 2048 → EReal) (e : Fin 1024) : EReal :=
  headRow q kv (headOf e) (laneOf e)

/-- The row after the projection and the residual. -/
def sumRow (q x : Fin 1024 → EReal) (kv : Fin 256 → Fin 2048 → EReal) (w : Fin 1024 → Fin 1024 → EReal)
    (e : Fin 1024) : EReal := x e + ∑ k, lookRow q kv k * w k e

/-- That row normed and scaled. -/
def normRow (y g : Fin 1024 → EReal) (e : Fin 1024) : EReal := y e * rinv y * g e

/-! ## The body's terms at an index -/

section Block
variable {q : Fin 1024 → Fin 1024 → EReal} {kv : Fin 256 → Fin 2048 → EReal} {h : Fin 4}
  {u : Vec Ideal S1024x256 .bf16} {v w : Vec Ideal S256x256 .bf16}
  (hu : ∀ r k, u (ix2 r k) = q r (col h k)) (hv : ∀ j k, v (ix2 j k) = kv j (keyCol h k))
  (hw : ∀ j k, w (ix2 j k) = kv j (valCol h k))
include hu hv

theorem block_score (r : Fin 1024) : (fun j => k0_pay2 (F := Ideal) u v (ix2 r j)) = score (q r) kv h := by
  funext j
  pointwise [k0_pay2]
  simp only [hu, hv, score, scale]

include hw

/-- A block of the attention's output. -/
theorem block_look (x : S1024x256.Idx) (r e : Fin 1024) (hr : r.val = (x 0).val)
    (he : e.val = h.val * 256 + (x 1).val) : k0_pay5 (F := Ideal) (k0_pay2 u v) w x = lookRow (q r) kv e := by
  obtain ⟨a, b, rfl⟩ : ∃ (a : Fin 1024) (b : Fin 256), x = ix2 a b := ⟨x 0, x 1, by blk_ext⟩
  simp only [ix2_0, ix2_1] at hr he
  obtain rfl := Fin.ext hr
  have hb : b.val < 256 := b.isLt
  unfold lookRow headRow
  rw [show headOf e = h from Fin.ext (by simp only [headOf]; omega),
    show laneOf e = b from Fin.ext (by simp only [laneOf]; omega), ← block_score hu hv]
  unfold softRow rowExp rowMax
  pointwise [k0_pay5]
  simp only [hw]

end Block

/-- The rows of a tile of the queries. -/
def qRow (x : Vec Ideal S1024x1024 .bf16) (r k : Fin 1024) : EReal := x (ix2 r k)

/-- The rows of the keys and values. -/
def kvRow (x : Vec Ideal S256x2048 .bf16) (j : Fin 256) (c : Fin 2048) : EReal := x (ix2 j c)

/-- The rows of the residual. -/
def xRow (x : Vec Ideal S1024x1024 .f32) (r k : Fin 1024) : EReal := x (ix2 r k)

/-- The rows of the projection's weight. -/
def wRow (x : Vec Ideal S1024x1024 .bf16) (i k : Fin 1024) : EReal := x (ix2 i k)

/-- The norm's scale. -/
def gRow (x : Vec Ideal S1x1024 .f32) (k : Fin 1024) : EReal := x (ix2 0 k)

/-- The kernel's tile of the attention's output. -/
theorem tile_look (c : Dev nD) (t : Fin cfg0.N) (r e : Fin 1024) :
    (outsAt0 m c t).1 (ix2 r e) = lookRow (qRow (iblk m c 0 t) r) (kvRow (iblk m c 1 t)) e := by
  unfold outsAt0
  frame_out
  canon_tiles x h
  all_goals
    simp only [ix2_0, ix2_1] at h0 h1
    first
      | refine block_look (h := 0) ?_ ?_ ?_ x r e (by omega) (by simp only [Fin.isValue]; omega)
      | refine block_look (h := 1) ?_ ?_ ?_ x r e (by omega) (by simp only [Fin.isValue]; omega)
      | refine block_look (h := 2) ?_ ?_ ?_ x r e (by omega) (by simp only [Fin.isValue]; omega)
      | refine block_look (h := 3) ?_ ?_ ?_ x r e (by omega) (by simp only [Fin.isValue]; omega)
    all_goals intro r k
    all_goals unfold_payloads
    all_goals pointwise [qRow, kvRow, col, keyCol, valCol]
    all_goals blk_ext

/-- A load of the whole tile reads each index itself. -/
theorem idx_origin (inb : ∀ a, (![0, 0] : Fin 2 → ℕ) a + (![1024, 1024] : Fin 2 → ℕ) a ≤ S1024x1024.size a)
    (y : S1024x1024.Idx) : (Rect.unit (s := S1024x1024) ![0, 0] ![1024, 1024] inb).toLoadRect.idx y = y := by
  funext a
  refine Fin.ext ((Rect.idx_unit_val _ _ _ _ a).trans ?_)
  fin_cases a <;> simp

/-- The projection and the residual. -/
theorem at_sum (x : Vec Ideal S1024x1024 .f32) (o w : Vec Ideal S1024x1024 .bf16) (r e : Fin 1024) :
    k0_pay9 (F := Ideal) x o w (ix2 r e) = x (ix2 r e) + ∑ k, o (ix2 r k) * w (ix2 k e) := by
  pointwise [k0_pay9]

/-- The normed and scaled row. -/
theorem at_norm (x : Vec Ideal S1024x1024 .f32) (o w : Vec Ideal S1024x1024 .bf16) (g : Vec Ideal S1x1024 .f32)
    (r e : Fin 1024) : k0_pay1 (F := Ideal) (k0_pay10 x o w) (k0_pay11 g) (ix2 r e)
      = normRow (fun k => k0_pay9 (F := Ideal) x o w (ix2 r k)) (gRow g) e := by
  unfold normRow rinv gRow
  pointwise [k0_pay1, k0_pay10, k0_pay11]

section Tile
variable (c : Dev nD) (t : Fin cfg0.N)

/-- A tile's rows after the projection and the residual. -/
def sRow (r : Fin 1024) : Fin 1024 → EReal :=
  sumRow (qRow (iblk m c 0 t) r) (xRow (iblk m c 2 t) r) (kvRow (iblk m c 1 t)) (wRow (iblk m c 3 t))

theorem sum_of (o : Vec Ideal S1024x1024 .bf16) (ho : ∀ r e, o (ix2 r e) = (outsAt0 m c t).1 (ix2 r e))
    (r e : Fin 1024) : k0_pay9 (F := Ideal) (iblk m c 2 t) o (iblk m c 3 t) (ix2 r e) = sRow m c t r e := by
  rw [at_sum]
  simp only [ho, tile_look]
  exact rfl

/-- The kernel's tile of the sum. -/
theorem tile_sum (r e : Fin 1024) : (outsAt0 m c t).2.1 (ix2 r e) = sRow m c t r e := by
  unfold outsAt0
  frame_out
  refine sum_of m c t _ (fun r e => ?_) r e
  unfold outsAt0
  frame_out
  rw [View.readCov_eq_canon']
  exact congrArg (View.canon _) (idx_origin _ _)

/-- The kernel's tile of the normed sum. -/
theorem tile_norm (r e : Fin 1024) :
    (outsAt0 m c t).2.2 (ix2 r e) = normRow (sRow m c t r) (gRow (iblk m c 4 t)) e := by
  unfold outsAt0
  frame_out
  rw [at_norm]
  refine congrArg (fun y => normRow y _ e) (funext fun k => ?_)
  refine sum_of m c t _ (fun r e => ?_) r k
  unfold outsAt0
  frame_out
  rw [View.readCov_eq_canon']
  exact congrArg (View.canon _) (idx_origin _ _)

end Tile

end Cert.AttnFwdProof
-- ==== Proof.AttnFwdRef.lean ====
/- The rows of the reference's cross attention, residual and norm. -/
module

public import proofs.«01_k».proof.Proof.AttnFwdTile
public import proofs.«01_k».proof.Proof.AttnRef
public import proofs.«01_k».proof.Proof.Gen.AttnFwdRefIdeal.Read

@[expose] public section

set_option maxRecDepth 16384

noncomputable section

namespace Cert.AttnFwdProof
open Cert.AttnFwdRefIdeal Cert.AttnFwdRefIdeal.Read Cert.RowGrad Cert.AttnRow
open Idealize.ShloMosaic Idealize.ShloMosaic.TcCoe Idealize.SL.Sem

variable (x0 : Vec Ideal S8192x1024 .f32) (x1 : Vec Ideal S256x2048 .f32) (x2 : Vec Ideal S8192x1024 .f32)
  (x3 : Vec Ideal S1024x1024 .f32) (x4 : Vec Ideal S1x1024 .f32)

/-- The rows of the queries. -/
def refQ (s : Fin 8192) (k : Fin 1024) : EReal := x0 (ix2 s k)

/-- The rows of the keys and values. -/
def refKV (j : Fin 256) (c : Fin 2048) : EReal := x1 (ix2 j c)

/-- The rows after the residual. -/
def refSum (s : Fin 8192) : Fin 1024 → EReal :=
  sumRow (refQ x0 s) (fun k => x2 (ix2 s k)) (refKV x1) (fun i k => x3 (ix2 i k))

theorem ref_score (h : Fin 4) (s : Fin 8192) (j : Fin 256) :
    val_main_v7 (F := Ideal) x0 x1 (ix3 h s j) = score (refQ x0 s) (refKV x1) h j := by
  pointwise [val_main_v7, val_main_v6, val_main_v5, val_main_v3, val_main_v2, val_main_v0, val_main_cst, score, scale,
    refQ, refKV, col, keyCol]

theorem ref_fold (h : Fin 4) (s : Fin 8192) : val_main_v8 (F := Ideal) x0 x1 (ix2 h s)
    = rowMax (n := 256) fun k => (val_main_v7 (F := Ideal) x0 x1 (ix3 h s k) : EReal) :=
  AttnProof.host_max _ _ _ _ h s

theorem ref_max (h : Fin 4) (s : Fin 8192) :
    val_main_v8 (F := Ideal) x0 x1 (ix2 h s) = rowMax (score (refQ x0 s) (refKV x1) h) :=
  (ref_fold x0 x1 h s).trans (congrArg rowMax (funext fun k => ref_score x0 x1 h s k))

theorem ref_shift (h : Fin 4) (s : Fin 8192) (j : Fin 256) :
    val_main_v12 (F := Ideal) x0 x1 (ix3 h s j) = rowMax (score (refQ x0 s) (refKV x1) h) := by
  have e : idx_main_v11 (idx_main_v12 (ix3 h s j)) = ix2 h s := by
    funext a
    fin_cases a <;> rfl
  rw [← ref_max, val_main_v12_apply, val_main_v11_apply, e, val_main_v10_apply, val_main_v9_apply, val_main_cst_1_apply]
  exact AttnProof.max_bot_bits _

theorem ref_exp (h : Fin 4) (s : Fin 8192) (j : Fin 256) :
    val_main_v14 (F := Ideal) x0 x1 (ix3 h s j) = rowExp (score (refQ x0 s) (refKV x1) h) j := by
  rw [val_main_v14_apply, val_main_v13_apply, ref_score, ref_shift]
  rfl

theorem ref_soft (h : Fin 4) (s : Fin 8192) (j : Fin 256) :
    val_main_v18 (F := Ideal) x0 x1 (ix3 h s j) = softRow (score (refQ x0 s) (refKV x1) h) j := by
  pointwise [val_main_v18, val_main_v17, val_main_v16, val_main_v15, val_main_cst_2, softRow]
  simp only [ref_exp]

/-- The reference's attention. -/
theorem ref_look (s : Fin 8192) (e : Fin 1024) :
    val_main_v21 (F := Ideal) x0 x1 (ix2 s e) = lookRow (refQ x0 s) (refKV x1) e := by
  pointwise [val_main_v21, val_main_v20, val_main_v19, val_main_v4, val_main_v1]
  simp only [ref_soft]
  refine Finset.sum_congr rfl fun j _ => (mul_comm (G := EReal) _ _).trans
    (congrArg (_ * ·) (congrArg x1 (congrArg (ix2 j) (Fin.ext ?_))))
  simp only [valCol, headOf, laneOf]
  omega

/-- The reference's sum. -/
theorem ref_sum (s : Fin 8192) (e : Fin 1024) :
    val_main_v23 (F := Ideal) x0 x1 x2 x3 (ix2 s e) = refSum x0 x1 x2 x3 s e := by
  pointwise [val_main_v23, val_main_v22]
  simp only [ref_look]
  rfl

/-- The reference's normed sum. -/
theorem ref_norm (s : Fin 8192) (e : Fin 1024) : val_main_v37 (F := Ideal) x0 x1 x2 x3 x4 (ix2 s e)
    = normRow (refSum x0 x1 x2 x3 s) (fun k => x4 (ix2 0 k)) e := by
  pointwise [val_main_v37, val_main_v36, val_main_v35, val_main_v34, val_main_v33, val_main_v32, val_main_v31,
    val_main_v30, val_main_v29, val_main_v28, val_main_v27, val_main_v26, val_main_v25, val_main_cst_3, val_main_cst_4,
    val_main_cst_5]
  simp only [ref_sum]
  rfl

end Cert.AttnFwdProof
-- ==== Proof.AttnFwdValue.lean ====
/-
  The cross attention's forward call against its lines in plain array operations.

  The kernel goes over the rows in eight tiles; each tile gives its rows of the attention's output, of the sum with the
  residual and of the normed sum.
-/
module

public import proofs.«01_k».proof.Proof.AttnFwdRef
public import proofs.«01_k».proof.Proof.Gen.AttnFwdRefIdeal.Run
public import proofs.«01_k».proof.Defs
public import Idealize.ShloMosaic.Lib.Claim
public import Idealize.ShloMosaic.Lib.StableHlo.ReadAt

@[expose] public section

set_option maxRecDepth 16384

noncomputable section

namespace Cert.AttnFwdProof
open Cert.AttnFwdIdeal Cert.AttnFwdIdeal.Gen Cert.AttnFwdRefIdeal.Read Cert.RowGrad Cert.AttnRow
open Idealize.ShloMosaic Idealize.ShloMosaic.TcCoe Idealize.SL.Sem

variable (m : (ℓ : Loc nD τ sig) → Buf (Elt Ideal) ℓ) (c : Dev nD)

/-! ## The arguments and the windows -/

/-- The queries, the keys and values, the residual, the projection and the norm's scale. -/
abbrev argQ : Vec Ideal S8192x1024 .f32 := m (c.tc.loc main_arg0)
abbrev argKV : Vec Ideal S256x2048 .f32 := m (c.tc.loc main_arg1)
abbrev argX : Vec Ideal S8192x1024 .f32 := m (c.tc.loc main_arg2)
abbrev argWo : Vec Ideal S1024x1024 .f32 := m (c.tc.loc main_arg3)
abbrev argG : Vec Ideal S1x1024 .f32 := m (c.tc.loc main_arg4)

/-- Where the windows of a tile start. -/
theorem origin : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![t.val, 0]
    ∧ win0_7.index t = ![t.val, 0] :=
  (by decide +kernel : ∀ t : Fin grid0.N, _)

theorem tiles (t : Fin cfg0.N) : t.val < 8 := t.isLt

/-- Row `r` of tile `t`. -/
def rowAt (t : Fin cfg0.N) (r : Fin 1024) : Fin 8192 := ⟨t.val * 1024 + r.val, by have := tiles t; omega⟩

theorem entry_query : V m c main_v0 = (argQ m c : S8192x1024.Idx → EReal) := by
  unfold V
  after_results_simp
  rfl

theorem entry_keyval : V m c main_v1 = (argKV m c : S256x2048.Idx → EReal) := by
  unfold V
  after_results_simp
  rfl

theorem entry_wo : V m c main_v2 = (argWo m c : S1024x1024.Idx → EReal) := by
  unfold V
  after_results_simp
  rfl

theorem row_query (t : Fin cfg0.N) (r : Fin 1024) : qRow (iblk m c 0 t) r = refQ (argQ m c) (rowAt t r) := by
  funext k
  unfold qRow refQ rowAt
  rw [← entry_query]
  blk_ext [iblk, origin t]

theorem row_keyval (t : Fin cfg0.N) : kvRow (iblk m c 1 t) = refKV (argKV m c) := by
  funext j k
  unfold kvRow refKV
  rw [← entry_keyval]
  blk_ext [iblk, origin t]

theorem row_input (t : Fin cfg0.N) (r : Fin 1024) : xRow (iblk m c 2 t) r = fun l => argX m c (ix2 (rowAt t r) l) := by
  funext k
  unfold xRow rowAt
  blk_ext [iblk, V, origin t]

theorem row_wo (t : Fin cfg0.N) : wRow (iblk m c 3 t) = fun i k => argWo m c (ix2 i k) := by
  funext j k
  unfold wRow
  rw [← entry_wo]
  blk_ext [iblk, origin t]

theorem row_scale (t : Fin cfg0.N) : gRow (iblk m c 4 t) = fun l => argG m c (ix2 0 l) := by
  funext k
  unfold gRow
  blk_ext [iblk, V, origin t]

theorem row_sum (t : Fin cfg0.N) (r : Fin 1024) :
    sRow m c t r = refSum (argQ m c) (argKV m c) (argX m c) (argWo m c) (rowAt t r) := by
  unfold sRow refSum
  rw [row_query, row_keyval, row_input, row_wo]

/-! ## The results -/

/-- The kernel ends with the reference's attention. -/
theorem final_look : (dats m 0 c).arrAt 5 cfg0.N = val_main_v24 (F := Ideal) (argQ m c) (argKV m c) := by
  refine (dats m 0 c).arrAt_eq_of_covers 5 _ (by decide +kernel) fun t hf y => ?_
  blk_simp
  rw [after0_5]
  obtain ⟨r, e, rfl⟩ : ∃ (r e : Fin 1024), y = ix2 r e := ⟨y 0, y 1, by blk_ext⟩
  have hi : (win0_5.blk t).view.emb (ix2 r e) = ix2 (rowAt t r) e := by blk_ext [rowAt, origin t]
  rw [hi, tile_look, row_query, row_keyval]
  exact (ref_look _ _ (rowAt t r) e).symm

/-- The kernel ends with the reference's sum. -/
theorem final_sum : (dats m 0 c).arrAt 6 cfg0.N
    = val_main_v23 (F := Ideal) (argQ m c) (argKV m c) (argX m c) (argWo m c) := by
  refine (dats m 0 c).arrAt_eq_of_covers 6 _ (by decide +kernel) fun t hf y => ?_
  blk_simp
  rw [after0_6]
  obtain ⟨r, e, rfl⟩ : ∃ (r e : Fin 1024), y = ix2 r e := ⟨y 0, y 1, by blk_ext⟩
  have hi : (win0_6.blk t).view.emb (ix2 r e) = ix2 (rowAt t r) e := by blk_ext [rowAt, origin t]
  rw [hi, tile_sum, row_sum]
  exact (ref_sum _ _ _ _ (rowAt t r) e).symm

/-- The kernel ends with the reference's normed sum. -/
theorem final_norm : (dats m 0 c).arrAt 7 cfg0.N
    = val_main_v37 (F := Ideal) (argQ m c) (argKV m c) (argX m c) (argWo m c) (argG m c) := by
  refine (dats m 0 c).arrAt_eq_of_covers 7 _ (by decide +kernel) fun t hf y => ?_
  blk_simp
  rw [after0_7]
  obtain ⟨r, e, rfl⟩ : ∃ (r e : Fin 1024), y = ix2 r e := ⟨y 0, y 1, by blk_ext⟩
  have hi : (win0_7.blk t).view.emb (ix2 r e) = ix2 (rowAt t r) e := by blk_ext [rowAt, origin t]
  rw [hi, tile_norm, row_sum, row_scale]
  exact (ref_norm _ _ _ _ _ (rowAt t r) e).symm

/-- The two programs end with the same arrays. -/
theorem algebraic : Cert.algebraic_AttnFwdIdeal_AttnFwdRefIdeal := by
  intro m g m' g' _ hagree
  refine ⟨fun c => val_main_v24 (F := Ideal) (argQ m c) (argKV m c),
    fun c => val_main_v23 (F := Ideal) (argQ m c) (argKV m c) (argX m c) (argWo m c),
    fun c => val_main_v37 (F := Ideal) (argQ m c) (argKV m c) (argX m c) (argWo m c) (argG m c),
    (θ_run _ _ _).mono (fun r h c => ⟨(h c).1.trans (final_look m c), (h c).2.1.trans (final_sum m c),
        (h c).2.2.1.trans (final_norm m c), (h c).2.2.2⟩) (Cert.AttnFwdIdeal.Value.run_blocks m g),
    (θ_run _ _ _).mono (fun r h c => ?_) (Cert.AttnFwdRefIdeal.Value.run m' g')⟩
  obtain ⟨a0, a1, a2, a3, a4⟩ := hagree c
  refine ⟨(h c).1.trans ?_, (h c).2.1.trans ?_, (h c).2.2.1.trans ?_, (h c).2.2.2⟩
  · rw [val_main_v24_eq, a0, a1]
  · rw [val_main_v23_eq, a0, a1, a2, a3]
  · rw [val_main_v37_eq, a0, a1, a2, a3, a4]

end Cert.AttnFwdProof
-- ==== Proof.AttnFwdFrames.lean ====
/- The three frames of the cross attention's forward pair. -/
module

public import proofs.«01_k».proof.Proof.Gen.AttnFwd.Frame
public import proofs.«01_k».proof.Proof.Gen.AttnFwdIdeal.Frame
public import proofs.«01_k».proof.Proof.Gen.AttnFwdRefIdeal.Run
public import proofs.«01_k».proof.Proof.AttnFwdValue
public import Idealize.ShloMosaic.Lib.Claim

@[expose] public section

noncomputable section

namespace Cert.AttnFwdProof
open Idealize.ShloMosaic Idealize.ShloMosaic.TcCoe Idealize.SL.Sem

/-- The call as it is compiled keeps its arguments. -/
theorem frame_kernel : Cert.quiescent_AttnFwd := fun m ρ _ => Cert.AttnFwd.Gen.frame m ρ

/-- So does the call over the reals. -/
theorem frame_ideal : Cert.quiescent_AttnFwdIdeal := fun m ρ _ => Cert.AttnFwdIdeal.Gen.frame m ρ

/-- So does the reference, which has no semaphore. -/
theorem frame_reference : Cert.quiescent_AttnFwdRefIdeal := fun m ρ _ =>
  (θ_run _ _ _).mono (fun r h => ⟨fun c => (h c).2.2.2, funext fun s => nomatch s⟩) (Cert.AttnFwdRefIdeal.Value.run m ρ)

end Cert.AttnFwdProof
-- ==== Proof.FfnFwdTile.lean ====
/-
  What one grid point of the gated convolution's forward call computes, index by index.

  A point takes 256 rows and works through the gate's two blocks of 1536 columns. For each block it buffers the gate's
  rows under eight rows that the point above has left, convolves, takes gelu, multiplies by the other half and adds the
  second product to the row. The norm, its loss and the loss's derivative end the point.
-/
module

public import proofs.«01_k».proof.Proof.Gen.FfnFwdIdeal.Value
public import proofs.«01_k».proof.Proof.FfnCarry

@[expose] public section

set_option maxRecDepth 16384

noncomputable section

namespace Cert.FfnFwdProof
open Cert.FfnFwdIdeal Cert.FfnFwdIdeal.Gen Cert.RowGrad
open Cert.FfnProof (gel th conv half gC gK canon_hit canon_miss colAt)
open Idealize.ShloMosaic Idealize.ShloMosaic.TcCoe Idealize.SL.Sem

variable (m : (ℓ : Loc nD τ sig) → Buf (Elt Ideal) ℓ)

/-! ## The carried scratch -/

/-- A load of one row block of the carried scratch, index by index. -/
theorem load_block (j : ℕ) (hj : j < 2) (f : (View.whole cc0_scratch0).ty.Contents (Elt Ideal)) (inb) (inb') (h0) (hs) (hst) (hR)
    (i : Fin 264) (e : Fin 1536) :
    (LoadRect.valAlong (lr := (Rect.unit (s := S264x1536) ![0, 0] ![264, 1536] inb').toLoadRect) hR
      (View.readAt (Elt Ideal) (View.whole cc0_scratch0)
        ((Rect.unit (s := S2x264x1536) ![j, 0, 0] ![1, 264, 1536] inb).withinL
          ((Rect.unit (s := S264x1536) ![0, 0] ![264, 1536] inb').toLoadRect.consLift ![1, 264, 1536] h0 hs) hst) f)) (ix2 i e)
      = (View.whole cc0_scratch0).read (Elt Ideal) f (ix3 ⟨j, hj⟩ i e) := by
  show (View.whole cc0_scratch0).read (Elt Ideal) f _ = _
  congr 1
  have hx : Shape.reshapeEquiv hR (ix2 i e) = Fin.cons ⟨0, Nat.one_pos⟩ (ix2 i e) :=
    Shape.reshapeEquiv_cons_one (d := ![264, 1536]) _ _
  rw [hx]
  funext a
  apply Fin.ext
  fin_cases a
  all_goals simp [LoadRect.idx_apply, Rect.withinL, LoadRect.consLift]
  · rfl
  · exact Nat.one_mul _

/-- The same of a list of stores that covers what it reads. -/
theorem load_covered (j : ℕ) (hj : j < 2) (L : List (View.Piece (Elt Ideal) S2x264x1536 .f32)) (inb) (inb') (h0) (hs) (hst) (hR)
    (i : Fin 264) (e : Fin 1536) :
    (LoadRect.valAlong (lr := (Rect.unit (s := S264x1536) ![0, 0] ![264, 1536] inb').toLoadRect) hR
      (View.readCov (Val := Elt Ideal) (View.whole cc0_scratch0) L
        ((Rect.unit (s := S2x264x1536) ![j, 0, 0] ![1, 264, 1536] inb).withinL
          ((Rect.unit (s := S264x1536) ![0, 0] ![264, 1536] inb').toLoadRect.consLift ![1, 264, 1536] h0 hs) hst))) (ix2 i e)
      = (View.whole cc0_scratch0).read (Elt Ideal) ((View.whole cc0_scratch0).writes (Elt Ideal) (View.whole cc0_scratch0).junk L) (ix3 ⟨j, hj⟩ i e) :=
  load_block j hj _ _ _ _ _ _ _ i e

variable (e : Fin 1536)

/-- A store of a tile's rows under the eight first ones. -/
theorem store_new (j : ℕ) (hj : j < 2) (f : (View.whole cc0_scratch0).ty.Contents (Elt Ideal)) (P : Vec Ideal S1x256x1536 .f32) (inb) (L) (i : Fin 264) :
    (View.whole cc0_scratch0).read (Elt Ideal) ((View.whole cc0_scratch0).writes (Elt Ideal) f
      (⟨Rect.unit (s := S2x264x1536) ![j, 8, 0] ![1, 256, 1536] inb, P⟩ :: L)) (ix3 ⟨j, hj⟩ i e)
    = if h : i.val < 8 then (View.whole cc0_scratch0).read (Elt Ideal) ((View.whole cc0_scratch0).writes (Elt Ideal) f L) (ix3 ⟨j, hj⟩ i e)
      else P (ix3 0 ⟨i - 8, by omega⟩ e) := by
  by_cases h : i.val < 8
  · rw [dif_pos h, View.read_writes_cons_unit_of_not_mem (s := S2x264x1536) _ _ inb P _ _ rfl 1 (by left; simp; omega)]
  · rw [dif_neg h, View.read_writes_cons_unit_of_mem (s := S2x264x1536) _ _ inb P _ _ (ix3 0 ⟨i - 8, by omega⟩ e) rfl (fun a => by fin_cases a <;> simp; omega)]

theorem store_other (j k : ℕ) (hj : j < 2) (hk : k ≠ j) (o n : ℕ) (f : (View.whole cc0_scratch0).ty.Contents (Elt Ideal)) (inb) (P) (L) (i : Fin 264) :
    (View.whole cc0_scratch0).read (Elt Ideal) ((View.whole cc0_scratch0).writes (Elt Ideal) f
      (⟨Rect.unit (s := S2x264x1536) ![k, o, 0] ![1, n, 1536] inb, P⟩ :: L)) (ix3 ⟨j, hj⟩ i e)
    = (View.whole cc0_scratch0).read (Elt Ideal) ((View.whole cc0_scratch0).writes (Elt Ideal) f L) (ix3 ⟨j, hj⟩ i e) := by
  rw [View.read_writes_cons_unit_of_not_mem (s := S2x264x1536) _ _ inb P _ _ rfl 0 (by simp; omega)]

theorem store_whole (f : (View.whole cc0_scratch0).ty.Contents (Elt Ideal)) (P : Vec Ideal S2x264x1536 .f32) (inb) (L) (y : S2x264x1536.Idx) :
    (View.whole cc0_scratch0).read (Elt Ideal) ((View.whole cc0_scratch0).writes (Elt Ideal) f
      (⟨Rect.unit (s := S2x264x1536) ![0, 0, 0] ![2, 264, 1536] inb, P⟩ :: L)) y = P y := by
  rw [View.read_writes_cons_unit_of_mem (s := S2x264x1536) _ _ inb _ _ _ y rfl (fun a => by fin_cases a <;> simp)]

/-- A copied row of the carried scratch. -/
theorem load_tail (j : ℕ) (hj : j < 2) (P : Vec Ideal S1x256x1536 .f32) (inb) (L) (inb') (i : Fin 8) :
    View.readCov (Val := Elt Ideal) (View.whole cc0_scratch0) (⟨Rect.unit (s := S2x264x1536) ![j, 8, 0] ![1, 256, 1536] inb, P⟩ :: L)
      (Rect.unit (s := S2x264x1536) ![j, 256, 0] ![1, 8, 1536] inb').toLoadRect (ix3 0 i e) = P (ix3 0 ⟨248 + i, by omega⟩ e) := by
  rw [View.readCov, View.readAt_apply,
    View.read_writes_cons_unit_of_mem (s := S2x264x1536) _ _ inb P _ _ (ix3 0 ⟨248 + i, by omega⟩ e) rfl
      (fun a => by fin_cases a <;> simp [LoadRect.idx_apply]; omega)]

/-! ## The operations of a point -/

variable (X : Vec Ideal S264x1536 .f32) (w2 w1 w0 b : Vec Ideal S1x1536 .f32) (U : FVec Ideal S256x1536 .f32) (r : Fin 256)

theorem at_conv : k0_pay13 X w2 w1 w0 b (ix2 r e) = conv (w2 (ix2 0 e)) (w1 (ix2 0 e)) (w0 (ix2 0 e)) (b (ix2 0 e)) (X (ix2 ⟨8 + r, by omega⟩ e)) (X (ix2 ⟨7 + r, by omega⟩ e)) (X (ix2 ⟨6 + r, by omega⟩ e)) := by
  pointwise [conv, k0_pay13]
  blk_point

theorem at_act : k0_pay17 U (k0_pay13 X w2 w1 w0 b) (k0_pay15 X w2 w1 w0 b) k0_pay16 (ix2 r e)
    = gel (k0_pay13 X w2 w1 w0 b (ix2 r e)) * U (ix2 r e) := by
  pointwise [gel, th, half, gC, gK, k0_pay17, k0_pay16, k0_pay15]
  rfl

theorem pay26_eq : k0_pay26 U X (k0_pay23 X) (k0_pay24 X) w2 w1 w0 b = k0_pay17 U (k0_pay13 X w2 w1 w0 b) (k0_pay15 X w2 w1 w0 b) k0_pay16 := rfl
theorem pay27_eq : k0_pay27 U X (k0_pay23 X) (k0_pay24 X) w2 w1 w0 b = k0_pay18 U (k0_pay13 X w2 w1 w0 b) (k0_pay15 X w2 w1 w0 b) k0_pay16 := rfl
theorem pay7_eq (x : Vec Ideal S256x1024 .bf16) (w : Vec Ideal S1x1024x1536 .bf16) : k0_pay7 x w = k0_pay6 x w := rfl
theorem pay8_eq (x : Vec Ideal S256x1024 .bf16) (w : Vec Ideal S1x1024x1536 .bf16) : k0_pay8 x w = k0_pay6 x w := rfl
theorem pay9_eq (x : Vec Ideal S256x1024 .bf16) (w : Vec Ideal S1x1024x1536 .bf16) : k0_pay9 x w = k0_pay6 x w := rfl
theorem pay10_eq (x : Vec Ideal S256x1024 .bf16) (w : Vec Ideal S1x1024x1536 .bf16) : k0_pay10 x w = k0_pay20 (k0_pay6 x w) := rfl
theorem pay11_eq (x : Vec Ideal S256x1024 .bf16) (w : Vec Ideal S1x1024x1536 .bf16) : k0_pay11 x w = k0_pay20 (k0_pay6 x w) := rfl
theorem pay21_eq (a) : k0_pay21 (F := Ideal) a = k0_pay20 a := rfl
theorem pay22_eq (a) : k0_pay22 (F := Ideal) a = k0_pay12 a := rfl
theorem pay25_eq (a) : k0_pay25 (F := Ideal) a = k0_pay14 a := rfl

theorem at_product (x : Vec Ideal S256x1024 .bf16) (w : Vec Ideal S1x1024x1536 .bf16) : k0_pay6 x w (ix2 r e)
    = ∑ k, x (ix2 r k) * w (ix3 0 k e) := by
  pointwise [k0_pay6, k0_pay5]

theorem at_12 : k0_pay12 U (ix3 0 r e) = U (ix2 r e) := by pointwise [k0_pay12]
theorem at_20 : k0_pay20 U (ix4 0 0 r e) = U (ix2 r e) := by pointwise [k0_pay20]
theorem at_14 (a : Vec Ideal S1x8x1536 .f32) (i : Fin 8) : k0_pay14 a (ix3 0 i e) = a (ix3 0 i e) := by pointwise [k0_pay14]

theorem at_18 (V W Z : FVec Ideal S256x1536 .f32) : k0_pay18 U V W Z (ix3 0 r e) = k0_pay17 U V W Z (ix2 r e) := by pointwise [k0_pay18]

theorem at_sum (x : Vec Ideal S256x1024 .f32) (p q : Vec Ideal S1x1536x1024 .bf16) (V W Z : FVec Ideal S256x1536 .f32) (A : FVec Ideal S256x1536 .bf16)
    (k : Fin 1024) : k0_pay28 (k0_pay19 x U V W Z p) A q (ix2 r k)
      = x (ix2 r k) + (∑ l, k0_pay17 U V W Z (ix2 r l) * p (ix3 0 l k)) + ∑ l, A (ix2 r l) * q (ix3 0 l k) := by
  pointwise [k0_pay28, k0_pay19]

section
variable (H : FVec Ideal S256x1024 .f32) (A : FVec Ideal S256x1536 .bf16) (q : Vec Ideal S1x1536x1024 .bf16) (g : Vec Ideal S1x1024 .f32)
  (y : Vec Ideal S256x1024 .f32) (a : Vec Ideal S1x1024 .f32) (k : Fin 1024)

/-- A row after the second product. -/
abbrev rowOf (r : Fin 256) (k : Fin 1024) : EReal := k0_pay28 H A q (ix2 r k)

theorem at_diff : k0_pay31 H A q g y (ix2 r k) = rowOf H A q r k * rinv (rowOf H A q r) * g (ix2 0 k) - y (ix2 r k) := by
  pointwise [k0_pay31, k0_pay30, k0_pay29, rinv, rowOf]

theorem at_loss : k0_pay32 H A q g y a (ix2 0 k)
    = a (ix2 0 k) + (∑ r, k0_pay31 H A q g y (ix2 r k) * k0_pay31 H A q g y (ix2 r k)) * Ideal.ofBits .f32 0x3A000000#32 := by
  pointwise [k0_pay32]

theorem at_scale : k0_pay34 H A q g y a (ix2 0 k)
    = a (ix2 0 k) + ∑ r, k0_pay31 H A q g y (ix2 r k) * Ideal.ofBits .f32 0x3A800000#32 * (rowOf H A q r k * rinv (rowOf H A q r)) := by
  pointwise [k0_pay34, k0_pay33, k0_pay30, k0_pay29, rinv, rowOf]

theorem at_rows : k0_pay1 (k0_pay29 H A q) (k0_pay30 H A q) g (k0_pay33 H A q g y) (ix2 r k)
    = rmsGrad (rowOf H A q r) (fun k => k0_pay31 H A q g y (ix2 r k) * Ideal.ofBits .f32 0x3A800000#32 * g (ix2 0 k)) k := by
  pointwise [k0_pay1, k0_pay33, k0_pay30, k0_pay29, rinv, rmsGrad, rowOf]

end

end Cert.FfnFwdProof
-- ==== Proof.FfnFwdPoint.lean ====
/-
  What one grid point of the gated convolution's forward call leaves in each output and in the carried scratch.
-/
module

public import proofs.«01_k».proof.Proof.FfnFwdTile

@[expose] public section

set_option maxRecDepth 16384

noncomputable section

namespace Cert.FfnFwdProof
open Cert.FfnFwdIdeal Cert.FfnFwdIdeal.Gen Cert.RowGrad
open Cert.FfnProof (gel th conv half gC gK canon_hit canon_miss colAt)
open Idealize.ShloMosaic Idealize.ShloMosaic.TcCoe Idealize.SL.Sem

variable (m : (ℓ : Loc nD τ sig) → Buf (Elt Ideal) ℓ)

/-! ## One tile -/

/-- The call's operands at a tile: the first product's rows and weight, the second product's weight, the rows it is added to, the
norm's scale and the target. -/
def hT (c : Dev nD) (t : Fin cfg0.N) (r : Fin 256) (k : Fin 1024) : EReal := iblk m c 0 t (ix2 r k)
def upT (c : Dev nD) (t : Fin cfg0.N) (q : Fin 4) (k : Fin 1024) (e : Fin 1536) : EReal := iblk m c 1 t (ix3 q k e)
def downT (c : Dev nD) (t : Fin cfg0.N) (j : Fin 2) (e : Fin 1536) (k : Fin 1024) : EReal := iblk m c 4 t (ix3 j e k)
def inT (c : Dev nD) (t : Fin cfg0.N) (r : Fin 256) (k : Fin 1024) : EReal := iblk m c 5 t (ix2 r k)
def sT (c : Dev nD) (t : Fin cfg0.N) (k : Fin 1024) : EReal := iblk m c 6 t (ix2 0 k)
def endT (c : Dev nD) (t : Fin cfg0.N) (r : Fin 256) (k : Fin 1024) : EReal := iblk m c 7 t (ix2 r k)

/-- A column block of the first product. -/
def pT (c : Dev nD) (t : Fin cfg0.N) (q : Fin 4) (r : Fin 256) (e : Fin 1536) : EReal :=
  ∑ k : Fin 1024, hT m c t r k * upT m c t q k e

/-- The gate before its convolution, under the eight rows found in the scratch. -/
def gT (c : Dev nD) (t : Fin cfg0.N) (D : Vec Ideal S2x264x1536 .f32) (j : Fin 2) (i : Fin 264) (e : Fin 1536) : EReal :=
  if h : i.val < 8 then D (ix3 j i e) else pT m c t ⟨j, by omega⟩ ⟨i - 8, by omega⟩ e

/-- The tap `k`. -/
def wT (c : Dev nD) (t : Fin cfg0.N) (k : Fin 3) (j : Fin 2) (e : Fin 1536) : EReal := iblk m c 2 t (ix2 k (colAt j e))

/-- The gate's convolution. -/
def vT (c : Dev nD) (t : Fin cfg0.N) (D : Vec Ideal S2x264x1536 .f32) (j : Fin 2) (r : Fin 256) (e : Fin 1536) : EReal :=
  conv (wT m c t 2 j e) (wT m c t 1 j e) (wT m c t 0 j e) (iblk m c 3 t (ix2 0 (colAt j e))) (gT m c t D j ⟨8 + r, by omega⟩ e)
    (gT m c t D j ⟨7 + r, by omega⟩ e) (gT m c t D j ⟨6 + r, by omega⟩ e)

/-- Gelu of it times the other half. -/
def aT (c : Dev nD) (t : Fin cfg0.N) (D : Vec Ideal S2x264x1536 .f32) (j : Fin 2) (r : Fin 256) (e : Fin 1536) : EReal :=
  gel (vT m c t D j r e) * pT m c t ⟨2 + j, by omega⟩ r e

/-- A row after the second product. -/
def xT (c : Dev nD) (t : Fin cfg0.N) (D : Vec Ideal S2x264x1536 .f32) (r : Fin 256) (k : Fin 1024) : EReal :=
  inT m c t r k
    + (∑ l, aT m c t D 0 r l * downT m c t 0 l k)
    + ∑ l, aT m c t D 1 r l * downT m c t 1 l k

/-- The normed row minus the target. -/
def dT (c : Dev nD) (t : Fin cfg0.N) (D : Vec Ideal S2x264x1536 .f32) (r : Fin 256) (k : Fin 1024) : EReal :=
  xT m c t D r k * rinv (xT m c t D r) * sT m c t k - endT m c t r k

/-- The loss's gradient at the normed row. -/
def yT (c : Dev nD) (t : Fin cfg0.N) (D : Vec Ideal S2x264x1536 .f32) (r : Fin 256) (k : Fin 1024) : EReal :=
  dT m c t D r k * Ideal.ofBits .f32 0x3A800000#32

/-- A block of the first product, as the kernel reads its operands. -/
theorem product_of (c : Dev nD) (t : Fin cfg0.N) (q : ℕ) (hq : q < 4) (inb) (r : Fin 256) (e : Fin 1536) :
    k0_pay6 (iblk m c 0 t) (View.ld (iblk m c 1 t) (Rect.unit ![q, 0, 0] ![1, 1024, 1536] inb)) (ix2 r e) = pT m c t ⟨q, hq⟩ r e := by
  rw [at_product]
  pointwise [pT, hT, upT]

/-- The scratch's rows once the gate's block is stored. -/
theorem gate_rows (c : Dev nD) (t : Fin cfg0.N) (D : Vec Ideal S2x264x1536 .f32) (j : ℕ) (hj : j < 2) (f : (View.whole cc0_scratch0).ty.Contents (Elt Ideal))
    (inb) (inb') (L)
    (hL : ∀ y : Fin 264 × Fin 1536, (View.whole cc0_scratch0).read (Elt Ideal) ((View.whole cc0_scratch0).writes (Elt Ideal) f L) (ix3 ⟨j, hj⟩ y.1 y.2) = D (ix3 ⟨j, hj⟩ y.1 y.2))
    (i : Fin 264) (e : Fin 1536) :
    (View.whole cc0_scratch0).read (Elt Ideal) ((View.whole cc0_scratch0).writes (Elt Ideal) f
      (⟨Rect.unit (s := S2x264x1536) ![j, 8, 0] ![1, 256, 1536] inb,
        k0_pay12 (k0_pay6 (iblk m c 0 t) (View.ld (iblk m c 1 t) (Rect.unit ![j, 0, 0] ![1, 1024, 1536] inb')))⟩ :: L)) (ix3 ⟨j, hj⟩ i e)
      = gT m c t D ⟨j, hj⟩ i e := by
  rw [store_new, gT]
  by_cases h : i.val < 8
  · simp only [dif_pos h]
    exact hL (i, e)
  · simp only [dif_neg h, at_12]
    exact product_of m c t j (by omega) inb' _ e

/-- What one column block's body reads: the gate's rows, the other half, the taps and the bias. -/
structure Block (c : Dev nD) (t : Fin cfg0.N) (D : Vec Ideal S2x264x1536 .f32) (j : Fin 2) (X : Vec Ideal S264x1536 .f32) (U : FVec Ideal S256x1536 .f32)
    (w2 w1 w0 b : Vec Ideal S1x1536 .f32) : Prop where
  gate : ∀ i e, X (ix2 i e) = gT m c t D j i e
  up : ∀ r e, U (ix2 r e) = pT m c t ⟨2 + j, by omega⟩ r e
  tap2 : ∀ e, w2 (ix2 0 e) = wT m c t 2 j e
  tap1 : ∀ e, w1 (ix2 0 e) = wT m c t 1 j e
  tap0 : ∀ e, w0 (ix2 0 e) = wT m c t 0 j e
  bias : ∀ e, b (ix2 0 e) = iblk m c 3 t (ix2 0 (colAt j e))

theorem block_of (c : Dev nD) (t : Fin cfg0.N) (D : Vec Ideal S2x264x1536 .f32) (j o q : ℕ) (hj : j < 2) (ho : o = 1536 * j) (hq : q = 2 + j)
    (X : Vec Ideal S264x1536 .f32) (iq) (i2) (i1) (i0) (i8)
    (hX : ∀ i e, X (ix2 i e) = gT m c t D ⟨j, hj⟩ i e) :
    Block m c t D ⟨j, hj⟩ X (k0_pay6 (iblk m c 0 t) (View.ld (iblk m c 1 t) (Rect.unit ![q, 0, 0] ![1, 1024, 1536] iq)))
      (View.ld (iblk m c 2 t) (Rect.unit ![2, o] ![1, 1536] i2)) (View.ld (iblk m c 2 t) (Rect.unit ![1, o] ![1, 1536] i1))
      (View.ld (iblk m c 2 t) (Rect.unit ![0, o] ![1, 1536] i0)) (View.ld (iblk m c 3 t) (Rect.unit ![0, o] ![1, 1536] i8)) := by
  subst ho hq
  refine ⟨hX, fun r e => product_of m c t _ _ _ r e, fun e => ?_, fun e => ?_, fun e => ?_, fun e => ?_⟩
  · rw [wT]; pointwise [colAt]
  · rw [wT]; pointwise [colAt]
  · rw [wT]; pointwise [colAt]
  · pointwise [colAt]

/-- The first block's reads. -/
theorem block0 (c : Dev nD) (t : Fin cfg0.N) (D : Vec Ideal S2x264x1536 .f32) (X : Vec Ideal S264x1536 .f32) (hX : ∀ i e, X (ix2 i e) = gT m c t D 0 i e) :
    Block m c t D 0 X (k0_pay6 (iblk m c 0 t) (View.ld (iblk m c 1 t) (Rect.unit ![2, 0, 0] ![1, 1024, 1536] inb_S4x1024x1536_S1x1024x1536_2_0_0)))
      (View.ld (iblk m c 2 t) (Rect.unit ![2, 0] ![1, 1536] inb_S3x3072_S1x1536_2_0)) (View.ld (iblk m c 2 t) (Rect.unit ![1, 0] ![1, 1536] inb_S3x3072_S1x1536_1_0))
      (View.ld (iblk m c 2 t) (Rect.unit ![0, 0] ![1, 1536] inb_S3x3072_S1x1536_0_0)) (View.ld (iblk m c 3 t) (Rect.unit ![0, 0] ![1, 1536] inb_S1x3072_S1x1536_0_0)) :=
  block_of m c t D 0 0 2 (by decide) rfl rfl X _ _ _ _ _ hX

/-- The second block's reads. -/
theorem block1 (c : Dev nD) (t : Fin cfg0.N) (D : Vec Ideal S2x264x1536 .f32) (X : Vec Ideal S264x1536 .f32) (hX : ∀ i e, X (ix2 i e) = gT m c t D 1 i e) :
    Block m c t D 1 X (k0_pay6 (iblk m c 0 t) (View.ld (iblk m c 1 t) (Rect.unit ![3, 0, 0] ![1, 1024, 1536] inb_S4x1024x1536_S1x1024x1536_3_0_0)))
      (View.ld (iblk m c 2 t) (Rect.unit ![2, 1536] ![1, 1536] inb_S3x3072_S1x1536_2_1536)) (View.ld (iblk m c 2 t) (Rect.unit ![1, 1536] ![1, 1536] inb_S3x3072_S1x1536_1_1536))
      (View.ld (iblk m c 2 t) (Rect.unit ![0, 1536] ![1, 1536] inb_S3x3072_S1x1536_0_1536)) (View.ld (iblk m c 3 t) (Rect.unit ![0, 1536] ![1, 1536] inb_S1x3072_S1x1536_0_1536)) :=
  block_of m c t D 1 1536 3 (by decide) rfl rfl X _ _ _ _ _ hX

/-- The activation of a column block. -/
theorem act_of {m} {c : Dev nD} {t : Fin cfg0.N} {D : Vec Ideal S2x264x1536 .f32} {j : Fin 2} {X : Vec Ideal S264x1536 .f32} {U : FVec Ideal S256x1536 .f32}
    {w2 w1 w0 b : Vec Ideal S1x1536 .f32} (B : Block m c t D j X U w2 w1 w0 b) (r : Fin 256) (e : Fin 1536) :
    k0_pay17 U (k0_pay13 X w2 w1 w0 b) (k0_pay15 X w2 w1 w0 b) k0_pay16 (ix2 r e) = aT m c t D j r e := by
  rw [at_act, at_conv, aT, vT]
  simp only [B.gate, B.up, B.tap2, B.tap1, B.tap0, B.bias]

/-! ## The two blocks together -/

section
variable {m} {c : Dev nD} {t : Fin cfg0.N} {D : Vec Ideal S2x264x1536 .f32} {X0 X1 : Vec Ideal S264x1536 .f32} {U0 U1 : FVec Ideal S256x1536 .f32}
    {a2 a1 a0 a b2 b1 b0 b : Vec Ideal S1x1536 .f32} (B0 : Block m c t D 0 X0 U0 a2 a1 a0 a) (B1 : Block m c t D 1 X1 U1 b2 b1 b0 b) (i0) (i1)
include B0 B1

/-- The row after the second product as the kernel reads its operands. -/
theorem row_of : rowOf (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)) = xT m c t D := by
  funext r k
  unfold rowOf
  rw [at_sum, xT]
  simp only [act_of B0, act_of B1]
  pointwise [inT, downT]

theorem diff_of (r : Fin 256) (k : Fin 1024) : k0_pay31 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)) (iblk m c 6 t) (iblk m c 7 t) (ix2 r k) = dT m c t D r k := by
  rw [at_diff, row_of B0 B1, dT, sT, endT]

theorem loss_of (s : Vec Ideal S1x1024 .f32) (k : Fin 1024) : k0_pay32 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)) (iblk m c 6 t) (iblk m c 7 t) s (ix2 0 k)
    = s (ix2 0 k) + (∑ r, dT m c t D r k * dT m c t D r k) * Ideal.ofBits .f32 0x3A000000#32 := by
  rw [at_loss]
  simp only [diff_of B0 B1]

theorem scale_of (s : Vec Ideal S1x1024 .f32) (k : Fin 1024) : k0_pay34 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)) (iblk m c 6 t) (iblk m c 7 t) s (ix2 0 k)
    = s (ix2 0 k) + ∑ r, yT m c t D r k * (xT m c t D r k * rinv (xT m c t D r)) := by
  rw [at_scale]
  simp only [diff_of B0 B1, yT]
  refine congrArg (_ + ·) (Finset.sum_congr rfl fun r _ => ?_)
  rw [row_of B0 B1]

theorem rows_of (r : Fin 256) (k : Fin 1024) : k0_pay1 (k0_pay29 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)))
    (k0_pay30 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1))) (iblk m c 6 t)
    (k0_pay33 (k0_pay19 (iblk m c 5 t) U0 (k0_pay13 X0 a2 a1 a0 a) (k0_pay15 X0 a2 a1 a0 a) k0_pay16
      (View.ld (iblk m c 4 t) (Rect.unit ![0, 0, 0] ![1, 1536, 1024] i0)))
    (k0_pay17 U1 (k0_pay13 X1 b2 b1 b0 b) (k0_pay15 X1 b2 b1 b0 b) k0_pay16)
    (View.ld (iblk m c 4 t) (Rect.unit ![1, 0, 0] ![1, 1536, 1024] i1)) (iblk m c 6 t) (iblk m c 7 t)) (ix2 r k)
    = rmsGrad (xT m c t D r) (fun k => yT m c t D r k * sT m c t k) k := by
  rw [at_rows]
  simp only [diff_of B0 B1, row_of B0 B1, yT, sT]

end

end Cert.FfnFwdProof
-- ==== Proof.FfnFwdCarry.lean ====
/-
  The forward call's points one after the other: what each leaves, given the scratch rows it found.
-/
module

public import proofs.«01_k».proof.Proof.FfnFwdPoint

@[expose] public section

set_option maxRecDepth 16384

noncomputable section

namespace Cert.FfnFwdProof
open Cert.FfnFwdIdeal Cert.FfnFwdIdeal.Gen Cert.RowGrad
open Cert.FfnProof (gel th conv half gC gK canon_hit canon_miss colAt)
open Idealize.ShloMosaic Idealize.ShloMosaic.TcCoe Idealize.SL.Sem

variable (m : (ℓ : Loc nD τ sig) → Buf (Elt Ideal) ℓ)

/-- What the point before left. -/
abbrev before (c : Dev nD) (t : Fin cfg0.N) := outsAt0 m c (t.val - 1) (Nat.lt_of_le_of_lt (Nat.sub_le _ _) t.isLt)

/-- The scratch as the first point zeroes it. -/
abbrev empty : Vec Ideal S2x264x1536 .f32 := k0_pay4 (F := Ideal)

/-- The first product's column blocks. -/
theorem pair_next (c : Dev nD) (t : Fin cfg0.N) (h : ¬ t.val % 32 = 0) (i j : Fin 2) (r : Fin 256) (e : Fin 1536) :
    (outsAt0 m c t.val t.isLt).1 (ix4 i j r e) = pT m c t ⟨2 * i + j, by omega⟩ r e := by
  rw [outsAt0_B m c t h]
  simp only [out0_B_8]
  frame_out
  simp only [pay26_eq, pay27_eq, pay7_eq, pay8_eq, pay9_eq, pay10_eq, pay11_eq, pay21_eq, pay22_eq, pay25_eq]
  obtain rfl | rfl : j = 0 ∨ j = 1 := by omega
  · obtain rfl | rfl : i = 0 ∨ i = 1 := by omega
    · rw [canon_miss _ _ _ _ 0 (by simp), canon_miss _ _ _ _ 1 (by simp), canon_miss _ _ _ _ 0 (by simp)]
      refine (canon_hit _ _ _ _ (ix4 0 0 r e) (fun a => by fin_cases a <;> simp)).trans ?_
      exact (at_20 e _ r).trans (product_of m c t 0 (by decide) _ r e)
    · rw [canon_miss _ _ _ _ 1 (by simp), canon_miss _ _ _ _ 0 (by simp)]
      refine (canon_hit _ _ _ _ (ix4 0 0 r e) (fun a => by fin_cases a <;> simp)).trans ?_
      exact (at_20 e _ r).trans (product_of m c t 2 (by decide) _ r e)
  · obtain rfl | rfl : i = 0 ∨ i = 1 := by omega
    · rw [canon_miss _ _ _ _ 0 (by simp)]
      refine (canon_hit _ _ _ _ (ix4 0 0 r e) (fun a => by fin_cases a <;> simp)).trans ?_
      exact (at_20 e _ r).trans (product_of m c t 1 (by decide) _ r e)
    · refine (canon_hit _ _ _ _ (ix4 0 0 r e) (fun a => by fin_cases a <;> simp)).trans ?_
      exact (at_20 e _ r).trans (product_of m c t 3 (by decide) _ r e)

theorem pair_first (c : Dev nD) (t : Fin cfg0.N) (h : t.val % 32 = 0) (i j : Fin 2) (r : Fin 256) (e : Fin 1536) :
    (outsAt0 m c t.val t.isLt).1 (ix4 i j r e) = pT m c t ⟨2 * i + j, by omega⟩ r e := by
  rw [outsAt0_A m c t h]
  simp only [out0_A_8]
  frame_out
  simp only [pay26_eq, pay27_eq, pay7_eq, pay8_eq, pay9_eq, pay10_eq, pay11_eq, pay21_eq, pay22_eq, pay25_eq]
  obtain rfl | rfl : j = 0 ∨ j = 1 := by omega
  · obtain rfl | rfl : i = 0 ∨ i = 1 := by omega
    · rw [canon_miss _ _ _ _ 0 (by simp), canon_miss _ _ _ _ 1 (by simp), canon_miss _ _ _ _ 0 (by simp)]
      refine (canon_hit _ _ _ _ (ix4 0 0 r e) (fun a => by fin_cases a <;> simp)).trans ?_
      exact (at_20 e _ r).trans (product_of m c t 0 (by decide) _ r e)
    · rw [canon_miss _ _ _ _ 1 (by simp), canon_miss _ _ _ _ 0 (by simp)]
      refine (canon_hit _ _ _ _ (ix4 0 0 r e) (fun a => by fin_cases a <;> simp)).trans ?_
      exact (at_20 e _ r).trans (product_of m c t 2 (by decide) _ r e)
  · obtain rfl | rfl : i = 0 ∨ i = 1 := by omega
    · rw [canon_miss _ _ _ _ 0 (by simp)]
      refine (canon_hit _ _ _ _ (ix4 0 0 r e) (fun a => by fin_cases a <;> simp)).trans ?_
      exact (at_20 e _ r).trans (product_of m c t 1 (by decide) _ r e)
    · refine (canon_hit _ _ _ _ (ix4 0 0 r e) (fun a => by fin_cases a <;> simp)).trans ?_
      exact (at_20 e _ r).trans (product_of m c t 3 (by decide) _ r e)

/-- The activation. -/
theorem act_next (c : Dev nD) (t : Fin cfg0.N) (h : ¬ t.val % 32 = 0) (j : Fin 2) (r : Fin 256) (e : Fin 1536) :
    (outsAt0 m c t.val t.isLt).2.1 (ix3 j r e) = aT m c t (before m c t).2.2.2.2.2 j r e := by
  rw [outsAt0_B m c t h]
  simp only [out0_B_9]
  unfold before
  generalize outsAt0 m c (t.val - 1) _ = p
  obtain ⟨p8, p9, p10, p11, p12, D⟩ := p
  frame_out
  simp only [pay26_eq, pay27_eq, pay7_eq, pay8_eq, pay9_eq, pay10_eq, pay11_eq, pay21_eq, pay22_eq, pay25_eq]
  generalize hX1 : View.readAt (Elt Ideal) (View.whole cc0_scratch0) _ ((View.whole cc0_scratch0).writes (Elt Ideal) _ [_, _, _]) = X1
  generalize hX0 : View.readAt (Elt Ideal) (View.whole cc0_scratch0) ((Rect.unit (s := S2x264x1536) ![0, 0, 0] ![1, 264, 1536] _).withinL _ _) ((View.whole cc0_scratch0).writes (Elt Ideal) _ [_]) = X0
  have B1 := fun hR => block1 m c t D (LoadRect.valAlong (lr := (Rect.unit (s := S264x1536) ![0, 0] ![264, 1536] inb_S264x1536_S264x1536_0_0).toLoadRect) hR X1) fun i e => by
    rw [← hX1]
    refine (load_block 1 (by decide) _ _ _ _ _ _ _ i e).trans (gate_rows m c t D 1 (by decide) _ _ _ _ (fun y => ?_) i e)
    rw [store_other _ 1 0 (by decide) (by decide), store_other _ 1 0 (by decide) (by decide)]
    exact congrFun (Memref.IsWhole.read_unread _ D) _
  have B0 := fun hR => block0 m c t D (LoadRect.valAlong (lr := (Rect.unit (s := S264x1536) ![0, 0] ![264, 1536] inb_S264x1536_S264x1536_0_0).toLoadRect) hR X0) fun i e => by
    rw [← hX0]
    exact (load_block 0 (by decide) _ _ _ _ _ _ _ i e).trans (gate_rows m c t D 0 (by decide) _ _ _ _ (fun y => congrFun (Memref.IsWhole.read_unread _ D) _) i e)
  clear hX0 hX1
  obtain rfl | rfl : j = 0 ∨ j = 1 := by omega
  · rw [canon_miss _ _ _ _ 0 (by simp)]
    refine (canon_hit _ _ _ _ (ix3 0 r e) (fun a => by fin_cases a <;> simp)).trans ?_
    exact (at_18 e _ r _ _ _).trans (act_of (B0 _) r e)
  · refine (canon_hit _ _ _ _ (ix3 0 r e) (fun a => by fin_cases a <;> simp)).trans ?_
    exact (at_18 e _ r _ _ _).trans (act_of (B1 _) r e)

theorem act_first (c : Dev nD) (t : Fin cfg0.N) (h : t.val % 32 = 0) (j : Fin 2) (r : Fin 256) (e : Fin 1536) :
    (outsAt0 m c t.val t.isLt).2.1 (ix3 j r e) = aT m c t empty j r e := by
  rw [outsAt0_A m c t h]
  simp only [out0_A_9]
  frame_out
  simp only [pay26_eq, pay27_eq, pay7_eq, pay8_eq, pay9_eq, pay10_eq, pay11_eq, pay21_eq, pay22_eq, pay25_eq]
  generalize hX1 : View.readCov (Val := Elt Ideal) (View.whole cc0_scratch0) [_, _, _, _] _ = X1
  generalize hX0 : View.readCov (Val := Elt Ideal) (View.whole cc0_scratch0) [_, _] ((Rect.unit (s := S2x264x1536) ![0, 0, 0] ![1, 264, 1536] _).withinL _ _) = X0
  have B1 := fun hR => block1 m c t empty (LoadRect.valAlong (lr := (Rect.unit (s := S264x1536) ![0, 0] ![264, 1536] inb_S264x1536_S264x1536_0_0).toLoadRect) hR X1) fun i e => by
    rw [← hX1]
    refine (load_covered 1 (by decide) _ _ _ _ _ _ _ i e).trans (gate_rows m c t empty 1 (by decide) _ _ _ _ (fun y => ?_) i e)
    rw [store_other _ 1 0 (by decide) (by decide), store_other _ 1 0 (by decide) (by decide)]
    exact store_whole _ _ _ _ _
  have B0 := fun hR => block0 m c t empty (LoadRect.valAlong (lr := (Rect.unit (s := S264x1536) ![0, 0] ![264, 1536] inb_S264x1536_S264x1536_0_0).toLoadRect) hR X0) fun i e => by
    rw [← hX0]
    exact (load_covered 0 (by decide) _ _ _ _ _ _ _ i e).trans (gate_rows m c t empty 0 (by decide) _ _ _ _ (fun y => store_whole _ _ _ _ _) i e)
  clear hX0 hX1
  obtain rfl | rfl : j = 0 ∨ j = 1 := by omega
  · rw [canon_miss _ _ _ _ 0 (by simp)]
    refine (canon_hit _ _ _ _ (ix3 0 r e) (fun a => by fin_cases a <;> simp)).trans ?_
    exact (at_18 e _ r _ _ _).trans (act_of (B0 _) r e)
  · refine (canon_hit _ _ _ _ (ix3 0 r e) (fun a => by fin_cases a <;> simp)).trans ?_
    exact (at_18 e _ r _ _ _).trans (act_of (B1 _) r e)

/-- The gradient of the rows. -/
theorem rows_next (c : Dev nD) (t : Fin cfg0.N) (h : ¬ t.val % 32 = 0) (r : Fin 256) (k : Fin 1024) :
    (outsAt0 m c t.val t.isLt).2.2.1 (ix2 r k) = rmsGrad (xT m c t (before m c t).2.2.2.2.2 r) (fun k => yT m c t (before m c t).2.2.2.2.2 r k * sT m c t k) k := by
  rw [outsAt0_B m c t h]
  simp only [out0_B_10]
  unfold before
  generalize outsAt0 m c (t.val - 1) _ = p
  obtain ⟨p8, p9, p10, p11, p12, D⟩ := p
  frame_out
  simp only [pay26_eq, pay27_eq, pay7_eq, pay8_eq, pay9_eq, pay10_eq, pay11_eq, pay21_eq, pay22_eq, pay25_eq]
  generalize hX1 : View.readAt (Elt Ideal) (View.whole cc0_scratch0) _ ((View.whole cc0_scratch0).writes (Elt Ideal) _ [_, _, _]) = X1
  generalize hX0 : View.readAt (Elt Ideal) (View.whole cc0_scratch0) ((Rect.unit (s := S2x264x1536) ![0, 0, 0] ![1, 264, 1536] _).withinL _ _) ((View.whole cc0_scratch0).writes (Elt Ideal) _ [_]) = X0
  have B1 := fun hR => block1 m c t D (LoadRect.valAlong (lr := (Rect.unit (s := S264x1536) ![0, 0] ![264, 1536] inb_S264x1536_S264x1536_0_0).toLoadRect) hR X1) fun i e => by
    rw [← hX1]
    refine (load_block 1 (by decide) _ _ _ _ _ _ _ i e).trans (gate_rows m c t D 1 (by decide) _ _ _ _ (fun y => ?_) i e)
    rw [store_other _ 1 0 (by decide) (by decide), store_other _ 1 0 (by decide) (by decide)]
    exact congrFun (Memref.IsWhole.read_unread _ D) _
  have B0 := fun hR => block0 m c t D (LoadRect.valAlong (lr := (Rect.unit (s := S264x1536) ![0, 0] ![264, 1536] inb_S264x1536_S264x1536_0_0).toLoadRect) hR X0) fun i e => by
    rw [← hX0]
    exact (load_block 0 (by decide) _ _ _ _ _ _ _ i e).trans (gate_rows m c t D 0 (by decide) _ _ _ _ (fun y => congrFun (Memref.IsWhole.read_unread _ D) _) i e)
  clear hX0 hX1
  exact rows_of (B0 _) (B1 _) _ _ r k

theorem rows_first (c : Dev nD) (t : Fin cfg0.N) (h : t.val % 32 = 0) (r : Fin 256) (k : Fin 1024) :
    (outsAt0 m c t.val t.isLt).2.2.1 (ix2 r k) = rmsGrad (xT m c t empty r) (fun k => yT m c t empty r k * sT m c t k) k := by
  rw [outsAt0_A m c t h]
  simp only [out0_A_10]
  frame_out
  simp only [pay26_eq, pay27_eq, pay7_eq, pay8_eq, pay9_eq, pay10_eq, pay11_eq, pay21_eq, pay22_eq, pay25_eq]
  generalize hX1 : View.readCov (Val := Elt Ideal) (View.whole cc0_scratch0) [_, _, _, _] _ = X1
  generalize hX0 : View.readCov (Val := Elt Ideal) (View.whole cc0_scratch0) [_, _] ((Rect.unit (s := S2x264x1536) ![0, 0, 0] ![1, 264, 1536] _).withinL _ _) = X0
  have B1 := fun hR => block1 m c t empty (LoadRect.valAlong (lr := (Rect.unit (s := S264x1536) ![0, 0] ![264, 1536] inb_S264x1536_S264x1536_0_0).toLoadRect) hR X1) fun i e => by
    rw [← hX1]
    refine (load_covered 1 (by decide) _ _ _ _ _ _ _ i e).trans (gate_rows m c t empty 1 (by decide) _ _ _ _ (fun y => ?_) i e)
    rw [store_other _ 1 0 (by decide) (by decide), store_other _ 1 0 (by decide) (by decide)]
    exact store_whole _ _ _ _ _
  have B0 := fun hR => block0 m c t empty (LoadRect.valAlong (lr := (Rect.unit (s := S264x1536) ![0, 0] ![264, 1536] inb_S264x1536_S264x1536_0_0).toLoadRect) hR X0) fun i e => by
    rw [← hX0]
    exact (load_covered 0 (by decide) _ _ _ _ _ _ _ i e).trans (gate_rows m c t empty 0 (by decide) _ _ _ _ (fun y => store_whole _ _ _ _ _) i e)
  clear hX0 hX1
  exact rows_of (B0 _) (B1 _) _ _ r k

/-- The loss, added up over the points. -/
theorem loss_next (c : Dev nD) (t : Fin cfg0.N) (h : ¬ t.val % 32 = 0) (k : Fin 1024) :
    (outsAt0 m c t.val t.isLt).2.2.2.1 (ix2 0 k) = (before m c t).2.2.2.1 (ix2 0 k) + (∑ r, dT m c t (before m c t).2.2.2.2.2 r k * dT m c t (before m c t).2.2.2.2.2 r k) * Ideal.ofBits .f32 0x3A000000#32 := by
  rw [outsAt0_B m c t h]
  simp only [out0_B_11]
  unfold before
  generalize outsAt0 m c (t.val - 1) _ = p
  obtain ⟨p8, p9, p10, p11, p12, D⟩ := p
  frame_out
  simp only [pay26_eq, pay27_eq, pay7_eq, pay8_eq, pay9_eq, pay10_eq, pay11_eq, pay21_eq, pay22_eq, pay25_eq]
  generalize hX1 : View.readAt (Elt Ideal) (View.whole cc0_scratch0) _ ((View.whole cc0_scratch0).writes (Elt Ideal) _ [_, _, _]) = X1
  generalize hX0 : View.readAt (Elt Ideal) (View.whole cc0_scratch0) ((Rect.unit (s := S2x264x1536) ![0, 0, 0] ![1, 264, 1536] _).withinL _ _) ((View.whole cc0_scratch0).writes (Elt Ideal) _ [_]) = X0
  have B1 := fun hR => block1 m c t D (LoadRect.valAlong (lr := (Rect.unit (s := S264x1536) ![0, 0] ![264, 1536] inb_S264x1536_S264x1536_0_0).toLoadRect) hR X1) fun i e => by
    rw [← hX1]
    refine (load_block 1 (by decide) _ _ _ _ _ _ _ i e).trans (gate_rows m c t D 1 (by decide) _ _ _ _ (fun y => ?_) i e)
    rw [store_other _ 1 0 (by decide) (by decide), store_other _ 1 0 (by decide) (by decide)]
    exact congrFun (Memref.IsWhole.read_unread _ D) _
  have B0 := fun hR => block0 m c t D (LoadRect.valAlong (lr := (Rect.unit (s := S264x1536) ![0, 0] ![264, 1536] inb_S264x1536_S264x1536_0_0).toLoadRect) hR X0) fun i e => by
    rw [← hX0]
    exact (load_block 0 (by decide) _ _ _ _ _ _ _ i e).trans (gate_rows m c t D 0 (by decide) _ _ _ _ (fun y => congrFun (Memref.IsWhole.read_unread _ D) _) i e)
  clear hX0 hX1
  exact loss_of (B0 _) (B1 _) _ _ _ k

theorem loss_first (c : Dev nD) (t : Fin cfg0.N) (h : t.val % 32 = 0) (k : Fin 1024) :
    (outsAt0 m c t.val t.isLt).2.2.2.1 (ix2 0 k) = 0 + (∑ r, dT m c t empty r k * dT m c t empty r k) * Ideal.ofBits .f32 0x3A000000#32 := by
  rw [outsAt0_A m c t h]
  simp only [out0_A_11]
  frame_out
  simp only [pay26_eq, pay27_eq, pay7_eq, pay8_eq, pay9_eq, pay10_eq, pay11_eq, pay21_eq, pay22_eq, pay25_eq]
  generalize hX1 : View.readCov (Val := Elt Ideal) (View.whole cc0_scratch0) [_, _, _, _] _ = X1
  generalize hX0 : View.readCov (Val := Elt Ideal) (View.whole cc0_scratch0) [_, _] ((Rect.unit (s := S2x264x1536) ![0, 0, 0] ![1, 264, 1536] _).withinL _ _) = X0
  have B1 := fun hR => block1 m c t empty (LoadRect.valAlong (lr := (Rect.unit (s := S264x1536) ![0, 0] ![264, 1536] inb_S264x1536_S264x1536_0_0).toLoadRect) hR X1) fun i e => by
    rw [← hX1]
    refine (load_covered 1 (by decide) _ _ _ _ _ _ _ i e).trans (gate_rows m c t empty 1 (by decide) _ _ _ _ (fun y => ?_) i e)
    rw [store_other _ 1 0 (by decide) (by decide), store_other _ 1 0 (by decide) (by decide)]
    exact store_whole _ _ _ _ _
  have B0 := fun hR => block0 m c t empty (LoadRect.valAlong (lr := (Rect.unit (s := S264x1536) ![0, 0] ![264, 1536] inb_S264x1536_S264x1536_0_0).toLoadRect) hR X0) fun i e => by
    rw [← hX0]
    exact (load_covered 0 (by decide) _ _ _ _ _ _ _ i e).trans (gate_rows m c t empty 0 (by decide) _ _ _ _ (fun y => store_whole _ _ _ _ _) i e)
  clear hX0 hX1
  refine (loss_of (B0 _) (B1 _) _ _ _ k).trans (congrArg (· + _) ?_)
  pointwise [k0_pay2]

/-- The gradient of the norm's scale, added up over the points. -/
theorem scale_next (c : Dev nD) (t : Fin cfg0.N) (h : ¬ t.val % 32 = 0) (k : Fin 1024) :
    (outsAt0 m c t.val t.isLt).2.2.2.2.1 (ix2 0 k) = (before m c t).2.2.2.2.1 (ix2 0 k) + ∑ r, yT m c t (before m c t).2.2.2.2.2 r k * (xT m c t (before m c t).2.2.2.2.2 r k * rinv (xT m c t (before m c t).2.2.2.2.2 r)) := by
  rw [outsAt0_B m c t h]
  simp only [out0_B_12]
  unfold before
  generalize outsAt0 m c (t.val - 1) _ = p
  obtain ⟨p8, p9, p10, p11, p12, D⟩ := p
  frame_out
  simp only [pay26_eq, pay27_eq, pay7_eq, pay8_eq, pay9_eq, pay10_eq, pay11_eq, pay21_eq, pay22_eq, pay25_eq]
  generalize hX1 : View.readAt (Elt Ideal) (View.whole cc0_scratch0) _ ((View.whole cc0_scratch0).writes (Elt Ideal) _ [_, _, _]) = X1
  generalize hX0 : View.readAt (Elt Ideal) (View.whole cc0_scratch0) ((Rect.unit (s := S2x264x1536) ![0, 0, 0] ![1, 264, 1536] _).withinL _ _) ((View.whole cc0_scratch0).writes (Elt Ideal) _ [_]) = X0
  have B1 := fun hR => block1 m c t D (LoadRect.valAlong (lr := (Rect.unit (s := S264x1536) ![0, 0] ![264, 1536] inb_S264x1536_S264x1536_0_0).toLoadRect) hR X1) fun i e => by
    rw [← hX1]
    refine (load_block 1 (by decide) _ _ _ _ _ _ _ i e).trans (gate_rows m c t D 1 (by decide) _ _ _ _ (fun y => ?_) i e)
    rw [store_other _ 1 0 (by decide) (by decide), store_other _ 1 0 (by decide) (by decide)]
    exact congrFun (Memref.IsWhole.read_unread _ D) _
  have B0 := fun hR => block0 m c t D (LoadRect.valAlong (lr := (Rect.unit (s := S264x1536) ![0, 0] ![264, 1536] inb_S264x1536_S264x1536_0_0).toLoadRect) hR X0) fun i e => by
    rw [← hX0]
    exact (load_block 0 (by decide) _ _ _ _ _ _ _ i e).trans (gate_rows m c t D 0 (by decide) _ _ _ _ (fun y => congrFun (Memref.IsWhole.read_unread _ D) _) i e)
  clear hX0 hX1
  exact scale_of (B0 _) (B1 _) _ _ _ k

theorem scale_first (c : Dev nD) (t : Fin cfg0.N) (h : t.val % 32 = 0) (k : Fin 1024) :
    (outsAt0 m c t.val t.isLt).2.2.2.2.1 (ix2 0 k) = 0 + ∑ r, yT m c t empty r k * (xT m c t empty r k * rinv (xT m c t empty r)) := by
  rw [outsAt0_A m c t h]
  simp only [out0_A_12]
  frame_out
  simp only [pay26_eq, pay27_eq, pay7_eq, pay8_eq, pay9_eq, pay10_eq, pay11_eq, pay21_eq, pay22_eq, pay25_eq]
  generalize hX1 : View.readCov (Val := Elt Ideal) (View.whole cc0_scratch0) [_, _, _, _] _ = X1
  generalize hX0 : View.readCov (Val := Elt Ideal) (View.whole cc0_scratch0) [_, _] ((Rect.unit (s := S2x264x1536) ![0, 0, 0] ![1, 264, 1536] _).withinL _ _) = X0
  have B1 := fun hR => block1 m c t empty (LoadRect.valAlong (lr := (Rect.unit (s := S264x1536) ![0, 0] ![264, 1536] inb_S264x1536_S264x1536_0_0).toLoadRect) hR X1) fun i e => by
    rw [← hX1]
    refine (load_covered 1 (by decide) _ _ _ _ _ _ _ i e).trans (gate_rows m c t empty 1 (by decide) _ _ _ _ (fun y => ?_) i e)
    rw [store_other _ 1 0 (by decide) (by decide), store_other _ 1 0 (by decide) (by decide)]
    exact store_whole _ _ _ _ _
  have B0 := fun hR => block0 m c t empty (LoadRect.valAlong (lr := (Rect.unit (s := S264x1536) ![0, 0] ![264, 1536] inb_S264x1536_S264x1536_0_0).toLoadRect) hR X0) fun i e => by
    rw [← hX0]
    exact (load_covered 0 (by decide) _ _ _ _ _ _ _ i e).trans (gate_rows m c t empty 0 (by decide) _ _ _ _ (fun y => store_whole _ _ _ _ _) i e)
  clear hX0 hX1
  refine (scale_of (B0 _) (B1 _) _ _ _ k).trans (congrArg (· + _) ?_)
  pointwise [k0_pay3]

/-- The eight rows left to the next point. -/
theorem tail_next (c : Dev nD) (t : Fin cfg0.N) (h : ¬ t.val % 32 = 0) (j : Fin 2) (i : Fin 8) (e : Fin 1536) :
    (outsAt0 m c t.val t.isLt).2.2.2.2.2 (ix3 j ⟨i, by omega⟩ e) = pT m c t ⟨j, by omega⟩ ⟨248 + i, by omega⟩ e := by
  rw [outsAt0_B m c t h]
  simp only [sout0_B_0]
  frame_out
  simp only [pay26_eq, pay27_eq, pay7_eq, pay8_eq, pay9_eq, pay10_eq, pay11_eq, pay21_eq, pay22_eq, pay25_eq]
  obtain rfl | rfl : j = 0 ∨ j = 1 := by omega
  · rw [canon_miss _ _ _ _ 0 (by simp), canon_miss _ _ _ _ 0 (by simp)]
    refine (canon_hit _ _ _ _ (ix3 0 i e) (fun a => by fin_cases a <;> simp)).trans ?_
    refine (at_14 e _ i).trans ?_
    exact ((load_tail e 0 (by decide) _ _ _ _ i).trans
      ((at_12 e _ _).trans (product_of m c t 0 (by decide) _ _ e)))
  · refine (canon_hit _ _ _ _ (ix3 0 i e) (fun a => by fin_cases a <;> simp)).trans ?_
    refine (at_14 e _ i).trans ?_
    exact ((load_tail e 1 (by decide) _ _ _ _ i).trans
      ((at_12 e _ _).trans (product_of m c t 1 (by decide) _ _ e)))

theorem tail_first (c : Dev nD) (t : Fin cfg0.N) (h : t.val % 32 = 0) (j : Fin 2) (i : Fin 8) (e : Fin 1536) :
    (outsAt0 m c t.val t.isLt).2.2.2.2.2 (ix3 j ⟨i, by omega⟩ e) = pT m c t ⟨j, by omega⟩ ⟨248 + i, by omega⟩ e := by
  rw [outsAt0_A m c t h]
  simp only [sout0_A_0]
  frame_out
  simp only [pay26_eq, pay27_eq, pay7_eq, pay8_eq, pay9_eq, pay10_eq, pay11_eq, pay21_eq, pay22_eq, pay25_eq]
  obtain rfl | rfl : j = 0 ∨ j = 1 := by omega
  · rw [canon_miss _ _ _ _ 0 (by simp), canon_miss _ _ _ _ 0 (by simp)]
    refine (canon_hit _ _ _ _ (ix3 0 i e) (fun a => by fin_cases a <;> simp)).trans ?_
    refine (at_14 e _ i).trans ?_
    exact ((load_tail e 0 (by decide) _ _ _ _ i).trans
      ((at_12 e _ _).trans (product_of m c t 0 (by decide) _ _ e)))
  · refine (canon_hit _ _ _ _ (ix3 0 i e) (fun a => by fin_cases a <;> simp)).trans ?_
    refine (at_14 e _ i).trans ?_
    exact ((load_tail e 1 (by decide) _ _ _ _ i).trans
      ((at_12 e _ _).trans (product_of m c t 1 (by decide) _ _ e)))

end Cert.FfnFwdProof
-- ==== Proof.FfnFwdRef.lean ====
/-
  The gated convolution's forward lines, their loss and its derivative as the reference writes them, index by index.
-/
module

public import proofs.«01_k».proof.Proof.Gen.FfnFwdRefIdeal.Read
public import proofs.«01_k».proof.Proof.FfnRef

@[expose] public section

set_option maxRecDepth 16384

noncomputable section

namespace Cert.FfnFwdProof
open Cert.FfnFwdRefIdeal Cert.FfnFwdRefIdeal.Read Cert.RowGrad
open Cert.FfnProof (gel th conv th_real gel_row real_th real_add three_rev const_one const_half)
open Idealize.ShloMosaic Idealize.ShloMosaic.TcCoe Idealize.SL.Sem

variable (x0 : Vec Ideal S8192x1024 .f32) (x1 : Vec Ideal S1024x6144 .f32) (x2 : Vec Ideal S3x3072 .f32) (x3 : Vec Ideal S1x3072 .f32)
  (x4 : Vec Ideal S3072x1024 .f32) (x5 : Vec Ideal S8192x1024 .f32) (x6 : Vec Ideal S1x1024 .f32) (x7 : Vec Ideal S8192x1024 .f32)

/-- The first product. -/
def refP (s : Fin 8192) (q : Fin 6144) : EReal := ∑ k, x0 (ix2 s k) * x1 (ix2 k q)

/-- The gate, two rows of zeros before it. -/
def refG (p : ℕ) (l : Fin 3072) : EReal := if h : 2 ≤ p ∧ p < 8194 then refP x0 x1 ⟨p - 2, by omega⟩ ⟨l, by omega⟩ else 0

/-- The gate's convolution. -/
def refV (s : Fin 8192) (l : Fin 3072) : EReal :=
  conv (x2 (ix2 2 l)) (x2 (ix2 1 l)) (x2 (ix2 0 l)) (x3 (ix2 0 l)) (refG x0 x1 (2 + s) l) (refG x0 x1 (1 + s) l) (refG x0 x1 s l)

/-- Gelu of it times the other half. -/
def refA (s : Fin 8192) (l : Fin 3072) : EReal := gel (refV x0 x1 x2 x3 s l) * refP x0 x1 s ⟨3072 + l, by omega⟩

/-- The sum with the row. -/
def refX (s : Fin 8192) (k : Fin 1024) : EReal := x5 (ix2 s k) + ∑ l, refA x0 x1 x2 x3 s l * x4 (ix2 l k)

/-- The normed row minus the target. -/
def refD (s : Fin 8192) (k : Fin 1024) : EReal :=
  refX x0 x1 x2 x3 x4 x5 s k * rinv (fun l => refX x0 x1 x2 x3 x4 x5 s l) * x6 (ix2 0 k) - x7 (ix2 s k)

/-- The loss's gradient at the normed row. -/
def refY (s : Fin 8192) (k : Fin 1024) : EReal := refD x0 x1 x2 x3 x4 x5 x6 x7 s k * Ideal.ofBits .f32 0x3A800000#32

/-- The arguments that have to be finite. -/
structure Finite : Prop where
  hid : ∀ s k, RealOf.Is (x0 (ix2 s k))
  up : ∀ i k, RealOf.Is (x1 (ix2 i k))
  tap : ∀ i k, RealOf.Is (x2 (ix2 i k))
  bias : ∀ k, RealOf.Is (x3 (ix2 0 k))
  down : ∀ i k, RealOf.Is (x4 (ix2 i k))
  row : ∀ s k, RealOf.Is (x5 (ix2 s k))

/-- Gelu of a real is real. -/
theorem real_gel {v : EReal} (hv : RealOf.Is v) : RealOf.Is (gel v) := by
  have hh : RealOf.Is (Cert.FfnProof.half) := ⟨1 / 2, const_half⟩
  exact real_add (RealOf.mul hh hv) (RealOf.mul (RealOf.mul hh hv) (real_th hv))

section
variable {x0 x1 x2 x3 x4 x5} (h : Finite x0 x1 x2 x3 x4 x5)
include h

theorem real_product (s : Fin 8192) (q : Fin 6144) : RealOf.Is (refP x0 x1 s q) :=
  RealOf.sum fun k => RealOf.mul (h.hid s k) (h.up k q)

theorem real_gate (p : ℕ) (l : Fin 3072) : RealOf.Is (refG x0 x1 p l) := by
  unfold refG
  split_ifs
  · exact real_product h _ _
  · exact ⟨0, rfl⟩

theorem real_conv (s : Fin 8192) (l : Fin 3072) : RealOf.Is (refV x0 x1 x2 x3 s l) :=
  real_add (real_add (real_add (RealOf.mul (h.tap _ _) (real_gate h _ _)) (RealOf.mul (h.tap _ _) (real_gate h _ _)))
    (RealOf.mul (h.tap _ _) (real_gate h _ _))) (h.bias l)

theorem real_row (s : Fin 8192) (k : Fin 1024) : RealOf.Is (refX x0 x1 x2 x3 x4 x5 s k) :=
  real_add (h.row s k) (RealOf.sum fun l => RealOf.mul (RealOf.mul (real_gel (real_conv h s l)) (real_product h _ _)) (h.down l k))

end

/-! ## The stages -/

theorem ref_product (s : Fin 8192) (q : Fin 6144) : val_main_v0 (F := Ideal) x0 x1 (ix2 s q) = refP x0 x1 s q := by
  unfold refP
  pointwise [val_main_v0]

theorem ref_gate (p : Fin 8194) (l : Fin 3072) : val_main_v4 (F := Ideal) x0 x1 (ix2 p l) = refG x0 x1 p l := by
  unfold refG
  pointwise [val_main_v4, val_main_v3, val_main_v1, val_main_cst]
  by_cases h : p.val < 2
  · rw [dif_pos h, dif_neg (by omega)]
  · rw [dif_neg h, dif_pos (by omega)]
    exact ref_product x0 x1 _ _

theorem ref_conv (s : Fin 8192) (l : Fin 3072) : val_main_v20 (F := Ideal) x0 x1 x2 x3 (ix2 s l) = refV x0 x1 x2 x3 s l := by
  pointwise [val_main_v20, val_main_v19, val_main_v18, val_main_v17, val_main_v16, val_main_v15, val_main_v14, val_main_v13, val_main_v12,
    val_main_v11, val_main_v10, val_main_v9, val_main_v8, val_main_v7, val_main_v6, val_main_v5]
  simp only [ref_gate]
  exact congrArg (· + _) (three_rev _ _ _)

theorem ref_side (s : Fin 8192) (l : Fin 3072) : val_main_v2 (F := Ideal) x0 x1 (ix2 s l) = refP x0 x1 s ⟨3072 + l, by omega⟩ := by
  pointwise [val_main_v2]
  exact ref_product x0 x1 s _

/-- The loss's factor of the derivative: a 2048th of twice a difference is a 1024th of it. -/
theorem factor (d : EReal) : (∑ _k : Fin 1, Ideal.ofBits .f32 0x3F800000#32 * Ideal.ofBits .f32 0x3A000000#32)
    * (Ideal.ofBits .f32 0x40000000#32 * d) = d * Ideal.ofBits .f32 0x3A800000#32 := by
  have h1 : Ideal.ofBits .f32 0x3A000000#32 = ((1 / 2048 : ℝ) : EReal) := by
    simp [Ideal.ofBits, Ideal.ieee, Nat.shiftRight_eq_div_pow, BitVec.extractLsb'] <;> norm_num
  have h2 : Ideal.ofBits .f32 0x3A800000#32 = ((1 / 1024 : ℝ) : EReal) := by
    simp [Ideal.ofBits, Ideal.ieee, Nat.shiftRight_eq_div_pow, BitVec.extractLsb'] <;> norm_num
  have h3 : Ideal.ofBits .f32 0x40000000#32 = ((2 : ℝ) : EReal) := by
    simp [Ideal.ofBits, Ideal.ieee, Nat.shiftRight_eq_div_pow, BitVec.extractLsb'] <;> norm_num
  rw [Fin.sum_univ_one, const_one, h1, h2, h3, ← mul_assoc, ← EReal.coe_mul, ← EReal.coe_mul, mul_comm d]
  norm_num

section
variable (h : Finite x0 x1 x2 x3 x4 x5)
include h

theorem ref_act (s : Fin 8192) (l : Fin 3072) : val_main_v34 (F := Ideal) x0 x1 x2 x3 (ix2 s l) = refA x0 x1 x2 x3 s l := by
  pointwise [val_main_v34, val_main_v33, val_main_v32, val_main_v31, val_main_v30, val_main_v29, val_main_v28, val_main_v27, val_main_v26,
    val_main_v25, val_main_v24, val_main_v23, val_main_v22, val_main_v21, val_main_cst_0, val_main_cst_1, val_main_cst_2, val_main_cst_3]
  simp only [ref_conv, ref_side]
  rw [th_real _ (real_conv h s l)]
  exact (gel_row _ _ (real_conv h s l) (real_product h _ _)).trans (mul_comm _ _)

theorem ref_row (s : Fin 8192) (k : Fin 1024) : val_main_v36 (F := Ideal) x0 x1 x2 x3 x4 x5 (ix2 s k) = refX x0 x1 x2 x3 x4 x5 s k := by
  unfold refX
  pointwise [val_main_v36, val_main_v35]
  simp only [ref_act _ _ _ _ _ _ h]

theorem ref_diff (s : Fin 8192) (k : Fin 1024) : val_main_v52 (F := Ideal) x0 x1 x2 x3 x4 x5 x6 x7 (ix2 s k) = refD x0 x1 x2 x3 x4 x5 x6 x7 s k := by
  unfold refD rinv
  pointwise [val_main_v52, val_main_v51, val_main_v50, val_main_v49, val_main_v48, val_main_v44, val_main_v43, val_main_v42, val_main_v41,
    val_main_v40, val_main_v39, val_main_v38, val_main_v37, val_main_cst_4, val_main_cst_5, val_main_cst_6]
  simp only [ref_row _ _ _ _ _ _ h]

/-- The loss, lane by lane. -/
theorem ref_loss (k : Fin 1024) : val_main_v59 (F := Ideal) x0 x1 x2 x3 x4 x5 x6 x7 (ix2 0 k)
    = (∑ s, refD x0 x1 x2 x3 x4 x5 x6 x7 s k * refD x0 x1 x2 x3 x4 x5 x6 x7 s k) * Ideal.ofBits .f32 0x3A000000#32 := by
  pointwise [val_main_v59, val_main_v58, val_main_v57, val_main_v56, val_main_v53, val_main_cst_9, val_main_cst_10]
  simp only [ref_diff _ _ _ _ _ _ _ _ h]

theorem ref_out (s : Fin 8192) (k : Fin 1024) : val_main_v65 (F := Ideal) x0 x1 x2 x3 x4 x5 x6 x7 (ix2 s k) = refY x0 x1 x2 x3 x4 x5 x6 x7 s k := by
  unfold refY
  rw [← factor, ← ref_diff _ _ _ _ _ _ _ _ h]
  pointwise [val_main_v65, val_main_v64, val_main_v63, val_main_v62, val_main_v61, val_main_v60, val_main_v55, val_main_v54, val_main_cst_8,
    val_main_cst_11, val_main_cst_12, val_main_cst_13]

/-- The gradient of the norm's scale. -/
theorem ref_scale (k : Fin 1024) : val_main_v68 (F := Ideal) x0 x1 x2 x3 x4 x5 x6 x7 (ix2 0 k)
    = ∑ s, refY x0 x1 x2 x3 x4 x5 x6 x7 s k * (refX x0 x1 x2 x3 x4 x5 s k * rinv fun l => refX x0 x1 x2 x3 x4 x5 s l) := by
  unfold rinv
  pointwise [val_main_v68, val_main_v67, val_main_v66, val_main_v49, val_main_v48, val_main_v44, val_main_v43, val_main_v42, val_main_v41,
    val_main_v40, val_main_v39, val_main_v38, val_main_v37, val_main_cst_4, val_main_cst_5, val_main_cst_6, val_main_cst_14]
  simp only [ref_out _ _ _ _ _ _ _ _ h, ref_row _ _ _ _ _ _ h]
  exact Finset.sum_congr rfl fun _ _ => mul_comm (G := EReal) _ _

/-- The gradient of the rows. -/
theorem ref_rows (s : Fin 8192) (k : Fin 1024) : val_main_v84 (F := Ideal) x0 x1 x2 x3 x4 x5 x6 x7 (ix2 s k)
    = rmsGrad (fun l => refX x0 x1 x2 x3 x4 x5 s l) (fun l => refY x0 x1 x2 x3 x4 x5 x6 x7 s l * x6 (ix2 0 l)) k := by
  have hr := rms_row (fun l => refX x0 x1 x2 x3 x4 x5 s l) (fun l => refY x0 x1 x2 x3 x4 x5 x6 x7 s l * x6 (ix2 0 l))
    (fun l => real_row h s l) 0 k
  rw [zero_add, zero_add] at hr
  rw [hr]
  pointwise [val_main_v84, val_main_v83, val_main_v82, val_main_v81, val_main_v80, val_main_v79, val_main_v78, val_main_v77, val_main_v76,
    val_main_v75, val_main_v74, val_main_v73, val_main_v72, val_main_v71, val_main_v70, val_main_v69, val_main_v47, val_main_v46,
    val_main_v45, val_main_v44, val_main_v43, val_main_v42, val_main_v41, val_main_v40, val_main_v39, val_main_v38, val_main_v37,
    val_main_cst_4, val_main_cst_5, val_main_cst_6, val_main_cst_7, val_main_cst_15, val_main_cst_16, val_main_cst_17]
  simp only [ref_out _ _ _ _ _ _ _ _ h, ref_row _ _ _ _ _ _ h]
  rfl

/-- The stack of the activation's column blocks. -/
theorem ref_blocks (j : Fin 2) (s : Fin 8192) (e : Fin 1536) : val_main_v90 (F := Ideal) x0 x1 x2 x3 (ix3 j s e)
    = refA x0 x1 x2 x3 s ⟨1536 * j + e, by omega⟩ := by
  rw [← ref_act _ _ _ _ _ _ h]
  pointwise [val_main_v90, val_main_v89, val_main_v88, val_main_v87, val_main_v86, val_main_v85]
  obtain rfl | rfl : j = 0 ∨ j = 1 := by omega
  all_goals
    simp

end

/-- The stack of the first product's column blocks. -/
theorem ref_stack (q : Fin 4) (s : Fin 8192) (e : Fin 1536) : val_main_v99 (F := Ideal) x0 x1 (ix3 q s e)
    = refP x0 x1 s ⟨1536 * q + e, by omega⟩ := by
  rw [← ref_product]
  pointwise [val_main_v99, val_main_v98, val_main_v97, val_main_v96, val_main_v95, val_main_v94, val_main_v93, val_main_v92, val_main_v91]
  obtain rfl | rfl | rfl | rfl : q = 0 ∨ q = 1 ∨ q = 2 ∨ q = 3 := by omega
  all_goals
    simp

/-- The same as two pairs. -/
theorem ref_pairs (i j : Fin 2) (s : Fin 8192) (e : Fin 1536) : val_main_v100 (F := Ideal) x0 x1 (ix4 i j s e)
    = refP x0 x1 s ⟨1536 * (i * 2 + j) + e, by omega⟩ :=
  (Cert.FfnProof.pairs_apply _ _ i j s e).trans (ref_stack x0 x1 _ s e)

end Cert.FfnFwdProof
-- ==== Proof.FfnFwdWin.lean ====
/-
  What the windows of the gated convolution's forward call hold, in terms of the call's arguments, and what each of its
  points leaves, in terms of the reference's stages.

  The points walk the tiles from the first to the last, so the rows a point finds in its scratch are the last rows of the
  tile above; above the first tile there are none, and the scratch holds zeros.
-/
module

public import proofs.«01_k».proof.Proof.FfnFwdCarry
public import proofs.«01_k».proof.Proof.FfnFwdRef
public import proofs.«01_k».proof.Proof.FfnSum

@[expose] public section

set_option maxRecDepth 16384

noncomputable section

namespace Cert.FfnFwdProof
open Cert.FfnFwdIdeal Cert.FfnFwdIdeal.Gen Cert.RowGrad
open Cert.FfnProof (gel conv colAt wideAt sum_blocks)
open Idealize.ShloMosaic Idealize.ShloMosaic.TcCoe Idealize.SL.Sem

variable (m : (ℓ : Loc nD τ sig) → Buf (Elt Ideal) ℓ) (c : Dev nD)

/-! ## The arguments -/

/-- The first product's rows and weight, the taps and the bias, the second product's weight, the rows it is added to, the norm's
scale and the target. -/
abbrev argH : Vec Ideal S8192x1024 .f32 := m (c.tc.loc main_arg0)
abbrev argU : Vec Ideal S1024x6144 .f32 := m (c.tc.loc main_arg1)
abbrev argT : Vec Ideal S3x3072 .f32 := m (c.tc.loc main_arg2)
abbrev argB : Vec Ideal S1x3072 .f32 := m (c.tc.loc main_arg3)
abbrev argW : Vec Ideal S3072x1024 .f32 := m (c.tc.loc main_arg4)
abbrev argX : Vec Ideal S8192x1024 .f32 := m (c.tc.loc main_arg5)
abbrev argG : Vec Ideal S1x1024 .f32 := m (c.tc.loc main_arg6)
abbrev argY : Vec Ideal S8192x1024 .f32 := m (c.tc.loc main_arg7)

/-- The reference's stages at them. -/
abbrev theP (s : Fin 8192) (q : Fin 6144) : EReal := refP (argH m c) (argU m c) s q
abbrev theG (p : ℕ) (l : Fin 3072) : EReal := refG (argH m c) (argU m c) p l
abbrev theV (s : Fin 8192) (l : Fin 3072) : EReal := refV (argH m c) (argU m c) (argT m c) (argB m c) s l
abbrev theA (s : Fin 8192) (l : Fin 3072) : EReal := refA (argH m c) (argU m c) (argT m c) (argB m c) s l
abbrev theX (s : Fin 8192) (k : Fin 1024) : EReal := refX (argH m c) (argU m c) (argT m c) (argB m c) (argW m c) (argX m c) s k
abbrev theD (s : Fin 8192) (k : Fin 1024) : EReal :=
  refD (argH m c) (argU m c) (argT m c) (argB m c) (argW m c) (argX m c) (argG m c) (argY m c) s k
abbrev theY (s : Fin 8192) (k : Fin 1024) : EReal :=
  refY (argH m c) (argU m c) (argT m c) (argB m c) (argW m c) (argX m c) (argG m c) (argY m c) s k

/-- The host's stack of the first weight's column blocks, at an index. -/
theorem entry_up (q : Fin 4) (k : Fin 1024) (l : Fin 1536) :
    (V m c main_v9 : Vec Ideal S4x1024x1536 .bf16) (ix3 q k l) = argU m c (ix2 k (wideAt q l)) := by
  unfold V wideAt
  after_results_simp
  pointwise
  obtain rfl | rfl | rfl | rfl : q = 0 ∨ q = 1 ∨ q = 2 ∨ q = 3 := by omega
  all_goals
    simp
    after_results_simp
    pointwise
    blk_ext

/-- The second weight's row blocks, at an index. -/
theorem entry_down (j : Fin 2) (e : Fin 1536) (l : Fin 1024) :
    (V m c main_v12 : Vec Ideal S2x1536x1024 .bf16) (ix3 j e l) = argW m c (ix2 (colAt j e) l) := by
  unfold V colAt
  after_results_simp
  pointwise
  blk_ext

/-- The first product's rows, at an index. -/
theorem entry_hid (s : Fin 8192) (k : Fin 1024) : (V m c main_v10 : Vec Ideal S8192x1024 .bf16) (ix2 s k) = argH m c (ix2 s k) := by
  unfold V
  after_results_simp
  pointwise

/-! ## The windows -/

/-- Where the windows of a grid point start: the tiles are walked from the first to the last. -/
theorem origin : ∀ t : Fin cfg0.N, win0_0.index t = ![t.val, 0] ∧ win0_1.index t = ![0, 0, 0]
    ∧ win0_2.index t = ![0, 0] ∧ win0_3.index t = ![0, 0] ∧ win0_4.index t = ![0, 0, 0]
    ∧ win0_5.index t = ![t.val, 0] ∧ win0_6.index t = ![0, 0] ∧ win0_7.index t = ![t.val, 0]
    ∧ win0_8.index t = ![0, 0, t.val, 0] ∧ win0_9.index t = ![0, t.val, 0]
    ∧ win0_10.index t = ![t.val, 0] ∧ win0_11.index t = ![0, 0] ∧ win0_12.index t = ![0, 0] :=
  (by decide +kernel : ∀ t : Fin grid0.N, _)

theorem tiles (t : Fin cfg0.N) : t.val < 32 := t.isLt

/-- Row `r` of grid point `t`'s tile. -/
def rowAt (t : Fin cfg0.N) (r : Fin 256) : Fin 8192 := ⟨t.val * 256 + r.val, by have := tiles t; omega⟩

theorem at_hT (t : Fin cfg0.N) (r : Fin 256) (k : Fin 1024) : hT m c t r k = argH m c (ix2 (rowAt t r) k) := by
  rw [← entry_hid]
  unfold hT rowAt
  blk_ext [iblk, origin t]

theorem at_upT (t : Fin cfg0.N) (q : Fin 4) (k : Fin 1024) (l : Fin 1536) : upT m c t q k l = argU m c (ix2 k (wideAt q l)) := by
  rw [← entry_up]
  unfold upT
  blk_ext [iblk, origin t]

theorem at_downT (t : Fin cfg0.N) (j : Fin 2) (e : Fin 1536) (l : Fin 1024) : downT m c t j e l = argW m c (ix2 (colAt j e) l) := by
  rw [← entry_down]
  unfold downT
  blk_ext [iblk, origin t]

theorem at_inT (t : Fin cfg0.N) (r : Fin 256) (k : Fin 1024) : inT m c t r k = argX m c (ix2 (rowAt t r) k) := by
  unfold inT rowAt
  blk_ext [iblk, V, origin t]

theorem at_endT (t : Fin cfg0.N) (r : Fin 256) (k : Fin 1024) : endT m c t r k = argY m c (ix2 (rowAt t r) k) := by
  unfold endT rowAt
  blk_ext [iblk, V, origin t]

theorem at_sT (t : Fin cfg0.N) (k : Fin 1024) : sT m c t k = argG m c (ix2 0 k) := by
  unfold sT
  blk_ext [iblk, V, origin t]

theorem at_wT (t : Fin cfg0.N) (k : Fin 3) (j : Fin 2) (e : Fin 1536) : wT m c t k j e = argT m c (ix2 k (colAt j e)) := by
  unfold wT
  blk_ext [iblk, V, origin t]

theorem at_bias_row (t : Fin cfg0.N) (y : Fin 3072) : (iblk m c 3 t : Vec Ideal S1x3072 .f32) (ix2 0 y) = argB m c (ix2 0 y) := by
  blk_ext [iblk, V, origin t]

/-! ## The stages of a point -/

theorem at_pT (t : Fin cfg0.N) (q : Fin 4) (r : Fin 256) (e : Fin 1536) : pT m c t q r e = theP m c (rowAt t r) (wideAt q e) := by
  simp only [pT, theP, refP, at_hT, at_upT]

/-- What a point finds in its scratch, above its own rows. -/
def above (t : Fin cfg0.N) : Vec Ideal S2x264x1536 .f32 :=
  if t.val % 32 = 0 then empty else (before m c t).2.2.2.2.2

/-- A point leaves the last rows of its tile there. -/
theorem left_rows (t : Fin cfg0.N) (j : Fin 2) (i : Fin 8) (e : Fin 1536) :
    (outsAt0 m c t.val t.isLt).2.2.2.2.2 (ix3 j ⟨i, by omega⟩ e) = pT m c t ⟨j, by omega⟩ ⟨248 + i, by omega⟩ e := by
  by_cases h : t.val % 32 = 0
  · exact tail_first m c t h j i e
  · exact tail_next m c t h j i e

theorem empty_apply (y : S2x264x1536.Idx) : empty y = (0 : EReal) := by
  pointwise [empty, k0_pay4]

theorem at_above (t : Fin cfg0.N) (j : Fin 2) (i : Fin 8) (hi : 6 ≤ i.val) (e : Fin 1536) :
    above m c t (ix3 j ⟨i, by omega⟩ e) = theG m c (t.val * 256 + (i.val - 6)) (colAt j e) := by
  have ht := tiles t
  unfold above
  by_cases h : t.val % 32 = 0
  · rw [if_pos h, empty_apply, theG, refG, dif_neg (by omega)]
  · rw [if_neg h]
    refine (left_rows m c ⟨t.val - 1, Nat.lt_of_le_of_lt (Nat.sub_le _ _) t.isLt⟩ j i e).trans ((at_pT m c _ _ _ e).trans ?_)
    rw [theG, refG, dif_pos (by omega)]
    exact congrArg₂ (theP m c) (Fin.ext (by simp [rowAt]; omega)) (Fin.ext (by simp [wideAt, colAt]))

/-- The gate's rows, with the rows above: rows of the padded gate. -/
theorem at_gT (t : Fin cfg0.N) (j : Fin 2) (i : Fin 264) (hi : 6 ≤ i.val) (e : Fin 1536) :
    gT m c t (above m c t) j i e = theG m c (t.val * 256 + (i.val - 6)) (colAt j e) := by
  have ht := tiles t
  unfold gT
  by_cases h : i.val < 8
  · rw [dif_pos h]
    exact at_above m c t j ⟨i, h⟩ hi e
  · rw [dif_neg h, at_pT, theG, refG, dif_pos (by omega)]
    exact congrArg₂ (theP m c) (Fin.ext (by simp [rowAt]; omega)) (Fin.ext (by simp [wideAt, colAt]))

theorem at_vT (t : Fin cfg0.N) (j : Fin 2) (r : Fin 256) (e : Fin 1536) :
    vT m c t (above m c t) j r e = theV m c (rowAt t r) (colAt j e) := by
  unfold vT theV refV
  rw [at_gT m c t j _ (by simp; omega), at_gT m c t j _ (by simp; omega), at_gT m c t j _ (by simp)]
  simp only [at_wT]
  have h8 : 8 + r.val - 6 = 2 + r.val := by omega
  have h7 : 7 + r.val - 6 = 1 + r.val := by omega
  have h6 : 6 + r.val - 6 = r.val := by omega
  have e2 : 2 + (rowAt t r).val = t.val * 256 + (2 + r.val) := by simp [rowAt]; omega
  have e1 : 1 + (rowAt t r).val = t.val * 256 + (1 + r.val) := by simp [rowAt]; omega
  rw [e2, e1]
  simp only [h8, h7, h6]
  exact congrArg (fun b => Cert.FfnProof.conv _ _ _ b _ _ _) (at_bias_row m c t _)

theorem at_aT (t : Fin cfg0.N) (j : Fin 2) (r : Fin 256) (e : Fin 1536) :
    aT m c t (above m c t) j r e = theA m c (rowAt t r) (colAt j e) := by
  rw [aT, at_vT, at_pT, theA, refA]
  exact congrArg (_ * ·) (congrArg (theP m c _) (Fin.ext (by simp [wideAt, colAt]; omega)))

theorem at_xT (t : Fin cfg0.N) (r : Fin 256) (k : Fin 1024) : xT m c t (above m c t) r k = theX m c (rowAt t r) k := by
  unfold xT theX refX
  rw [sum_blocks, ← add_assoc]
  simp only [at_aT, at_inT, at_downT]

theorem row_xT (t : Fin cfg0.N) (r : Fin 256) : xT m c t (above m c t) r = fun l => theX m c (rowAt t r) l :=
  funext fun k => at_xT m c t r k

theorem at_dT (t : Fin cfg0.N) (r : Fin 256) (k : Fin 1024) : dT m c t (above m c t) r k = theD m c (rowAt t r) k := by
  rw [dT, row_xT, at_sT, at_endT, theD, refD]

theorem at_yT (t : Fin cfg0.N) (r : Fin 256) (k : Fin 1024) : yT m c t (above m c t) r k = theY m c (rowAt t r) k := by
  rw [yT, at_dT, theY, refY]

/-! ## What a point leaves -/

theorem left_pairs (t : Fin cfg0.N) (i j : Fin 2) (r : Fin 256) (e : Fin 1536) :
    (outsAt0 m c t.val t.isLt).1 (ix4 i j r e) = theP m c (rowAt t r) (wideAt ⟨2 * i + j, by omega⟩ e) := by
  rw [← at_pT]
  by_cases h : t.val % 32 = 0
  · exact pair_first m c t h i j r e
  · exact pair_next m c t h i j r e

theorem left_act (t : Fin cfg0.N) (j : Fin 2) (r : Fin 256) (e : Fin 1536) :
    (outsAt0 m c t.val t.isLt).2.1 (ix3 j r e) = theA m c (rowAt t r) (colAt j e) := by
  rw [← at_aT]
  unfold above
  by_cases h : t.val % 32 = 0
  · rw [if_pos h]
    exact act_first m c t h j r e
  · rw [if_neg h]
    exact act_next m c t h j r e

theorem left_grad (t : Fin cfg0.N) (r : Fin 256) (k : Fin 1024) :
    (outsAt0 m c t.val t.isLt).2.2.1 (ix2 r k)
      = rmsGrad (xT m c t (above m c t) r) (fun k => yT m c t (above m c t) r k * sT m c t k) k := by
  unfold above
  by_cases h : t.val % 32 = 0
  · rw [if_pos h]
    exact rows_first m c t h r k
  · rw [if_neg h]
    exact rows_next m c t h r k

/-- What a tile adds to the loss. -/
def tileLoss (t : Fin cfg0.N) (k : Fin 1024) : EReal :=
  (∑ r, dT m c t (above m c t) r k * dT m c t (above m c t) r k) * Ideal.ofBits .f32 0x3A000000#32

theorem left_loss_first (t : Fin cfg0.N) (h : t.val % 32 = 0) (k : Fin 1024) :
    (outsAt0 m c t.val t.isLt).2.2.2.1 (ix2 0 k) = 0 + tileLoss m c t k := by
  unfold tileLoss above
  rw [if_pos h]
  exact loss_first m c t h k

theorem left_loss_next (t : Fin cfg0.N) (h : ¬ t.val % 32 = 0) (k : Fin 1024) :
    (outsAt0 m c t.val t.isLt).2.2.2.1 (ix2 0 k) = (before m c t).2.2.2.1 (ix2 0 k) + tileLoss m c t k := by
  unfold tileLoss above
  rw [if_neg h]
  exact loss_next m c t h k

/-- What a tile adds to the gradient of the norm's scale. -/
def tileScale (t : Fin cfg0.N) (k : Fin 1024) : EReal :=
  ∑ r, yT m c t (above m c t) r k * (xT m c t (above m c t) r k * rinv (xT m c t (above m c t) r))

theorem left_scale_first (t : Fin cfg0.N) (h : t.val % 32 = 0) (k : Fin 1024) :
    (outsAt0 m c t.val t.isLt).2.2.2.2.1 (ix2 0 k) = 0 + tileScale m c t k := by
  unfold tileScale above
  rw [if_pos h]
  exact scale_first m c t h k

theorem left_scale_next (t : Fin cfg0.N) (h : ¬ t.val % 32 = 0) (k : Fin 1024) :
    (outsAt0 m c t.val t.isLt).2.2.2.2.1 (ix2 0 k) = (before m c t).2.2.2.2.1 (ix2 0 k) + tileScale m c t k := by
  unfold tileScale above
  rw [if_neg h]
  exact scale_next m c t h k

/-! ## The tiles' sums -/

/-- A sum over the tiles' rows is a sum over all rows. -/
theorem sum_tiles (f : Fin 8192 → EReal) : ∑ t : Fin cfg0.N, ∑ r, f (rowAt t r) = ∑ s, f s := by
  refine Eq.trans ?_ (Fin.sum_mul_add_fin 32 256 f)
  rfl

/-- The loss's factor is a positive real. -/
theorem loss_factor : Ideal.ofBits .f32 0x3A000000#32 = ((1 / 2048 : ℝ) : EReal) := by
  simp [Ideal.ofBits, Ideal.ieee, Nat.shiftRight_eq_div_pow, BitVec.extractLsb'] <;> norm_num

theorem all_loss (k : Fin 1024) : ∑ t, tileLoss m c t k
    = (∑ s, theD m c s k * theD m c s k) * Ideal.ofBits .f32 0x3A000000#32 := by
  rw [← sum_tiles]
  simp only [tileLoss, at_dT, loss_factor]
  exact sum_mul_real _ (by norm_num)

theorem all_scale (k : Fin 1024) : ∑ t, tileScale m c t k
    = ∑ s, theY m c s k * (theX m c s k * rinv fun l => theX m c s l) := by
  rw [← sum_tiles]
  simp only [tileScale, at_yT, row_xT]

end Cert.FfnFwdProof
-- ==== Proof.FfnFwdValue.lean ====
/-
  The gated convolution's forward call, with the loss and its gradient, against the same lines written plainly.

  The reference computes `x + (gelu(conv(gate)) * other) @ w_down`, where gate and other are the halves of `h @ w_up`,
  norms it, and returns the halves, the activation, the loss's gradient at the row, the loss and the gradient of the norm's
  scale.
-/
module

public import proofs.«01_k».proof.Proof.FfnFwdWin
public import proofs.«01_k».proof.Proof.AttnReal
public import proofs.«01_k».proof.Proof.Gen.FfnFwdRefIdeal.Run
public import proofs.«01_k».proof.Defs
public import Idealize.ShloMosaic.Lib.Claim

@[expose] public section

set_option maxRecDepth 16384

noncomputable section

namespace Cert.FfnFwdProof
open Cert.FfnFwdIdeal Cert.FfnFwdIdeal.Gen Cert.FfnFwdRefIdeal.Read Cert.RowGrad
open Cert.FfnProof (colAt wideAt)
open Idealize.ShloMosaic Idealize.ShloMosaic.TcCoe Idealize.SL.Sem

variable (m : (ℓ : Loc nD τ sig) → Buf (Elt Ideal) ℓ) (c : Dev nD)

/-- Every argument that a sum is taken apart over is finite. -/
abbrev AllFinite : Prop := Finite (argH m c) (argU m c) (argT m c) (argB m c) (argW m c) (argX m c)

/-! ## The arrays after the run -/

/-- The reference's results at the call's arguments. -/
abbrev valPairs := val_main_v100 (F := Ideal) (argH m c) (argU m c)
abbrev valAct := val_main_v90 (F := Ideal) (argH m c) (argU m c) (argT m c) (argB m c)
abbrev valRows := val_main_v84 (F := Ideal) (argH m c) (argU m c) (argT m c) (argB m c) (argW m c) (argX m c) (argG m c) (argY m c)
abbrev valLoss := val_main_v59 (F := Ideal) (argH m c) (argU m c) (argT m c) (argB m c) (argW m c) (argX m c) (argG m c) (argY m c)
abbrev valScale := val_main_v68 (F := Ideal) (argH m c) (argU m c) (argT m c) (argB m c) (argW m c) (argX m c) (argG m c) (argY m c)

/-- The last point. -/
abbrev lastTile : Fin cfg0.N := ⟨31, lt_of_lt_of_eq (by decide : 31 < 32) N_0.symm⟩

/-- The window of the pairs of column blocks, read from any array. -/
theorem pairs_place (W : Vec Ideal S2x2x8192x1536 .f32) (t : Fin cfg0.N) (i j : Fin 2) (r : Fin 256) (e : Fin 1536) :
    W ((win0_8.blk t).view.emb (ix4 i j r e)) = W (ix4 i j (rowAt t r) e) := by
  blk_ext [rowAt, origin t]

/-- The reference's pairs, at an index. -/
theorem val_pairs (i j : Fin 2) (s : Fin 8192) (e : Fin 1536) :
    valPairs m c (ix4 i j s e) = theP m c s (wideAt ⟨2 * i + j, by omega⟩ e) :=
  (ref_pairs _ _ i j s e).trans (congrArg (theP m c s) (Fin.ext (by simp [wideAt]; omega)))

/-- The kernel ends with the reference's first product. -/
theorem final_pairs : (dats m 0 c).arrAt 8 cfg0.N = valPairs m c := by
  have hr := val_pairs m c
  generalize valPairs m c = W at hr ⊢
  refine (dats m 0 c).arrAt_eq_of_covers 8 _ (by decide +kernel) fun t hf y => ?_
  blk_simp
  rw [after0_8]
  obtain ⟨i, j, r, e, rfl⟩ : ∃ (i j : Fin 2) (r : Fin 256) (e : Fin 1536), y = ix4 i j r e := ⟨y 0, y 1, y 2, y 3, by blk_ext⟩
  exact (left_pairs m c t i j r e).trans ((hr i j _ e).symm.trans (pairs_place W t i j r e).symm)

/-- The window of the activation's column blocks, read from any array. -/
theorem act_place (W : Vec Ideal S2x8192x1536 .bf16) (t : Fin cfg0.N) (j : Fin 2) (r : Fin 256) (e : Fin 1536) :
    W ((win0_9.blk t).view.emb (ix3 j r e)) = W (ix3 j (rowAt t r) e) := by
  blk_ext [rowAt, origin t]

/-- The kernel ends with the reference's activation. -/
theorem final_act (h : AllFinite m c) : (dats m 0 c).arrAt 9 cfg0.N = valAct m c := by
  have hr : ∀ (j : Fin 2) (s : Fin 8192) (e : Fin 1536), valAct m c (ix3 j s e) = theA m c s (colAt j e) :=
    fun j s e => ref_blocks _ _ _ _ _ _ h j s e
  generalize valAct m c = W at hr ⊢
  refine (dats m 0 c).arrAt_eq_of_covers 9 _ (by decide +kernel) fun t hf y => ?_
  blk_simp
  rw [after0_9]
  obtain ⟨j, r, e, rfl⟩ : ∃ (j : Fin 2) (r : Fin 256) (e : Fin 1536), y = ix3 j r e := ⟨y 0, y 1, y 2, by blk_ext⟩
  exact (left_act m c t j r e).trans ((hr j _ e).symm.trans (act_place W t j r e).symm)

/-- The kernel ends with the reference's gradient of the rows. -/
theorem final_rows (h : AllFinite m c) : (dats m 0 c).arrAt 10 cfg0.N = valRows m c := by
  refine (dats m 0 c).arrAt_eq_of_covers 10 _ (by decide +kernel) fun t hf y => ?_
  blk_simp
  rw [after0_10]
  obtain ⟨r, e, rfl⟩ : ∃ (r : Fin 256) (e : Fin 1024), y = ix2 r e := ⟨y 0, y 1, by blk_ext⟩
  have hi : (win0_10.blk t).view.emb (ix2 r e) = ix2 (rowAt t r) e := by blk_ext [rowAt, origin t]
  rw [hi, left_grad, row_xT]
  simp only [at_yT, at_sT]
  exact (ref_rows _ _ _ _ _ _ _ _ h (rowAt t r) e).symm

/-- The kernel ends with the reference's loss. -/
theorem final_loss (h : AllFinite m c) : (dats m 0 c).arrAt 11 cfg0.N = valLoss m c := by
  refine (dats m 0 c).arrAt_eq_of_after_last 11 lastTile (by decide +kernel) _ fun y => ?_
  blk_simp
  rw [after0_11]
  obtain ⟨k, rfl⟩ : ∃ (k : Fin 1024), y = ix2 0 k := ⟨y 1, by blk_ext⟩
  rw [valLoss, ref_loss _ _ _ _ _ _ _ _ h]
  refine (Pipeline.eq_sum_fin_of_reset_step_apply_last (ι := Fin 1024)
    (fun n hn p => (outsAt0 m c n hn).2.2.2.1 (ix2 0 p)) 32 (fun _ => 0) (fun t p => tileLoss m c t p)
    (fun t ht p => left_loss_first m c t ht p) (fun t ht p => left_loss_next m c t ht p)
    (le_of_eq N_0) lastTile rfl k).trans ?_
  rw [zero_add]
  exact all_loss m c k

/-- The kernel ends with the reference's gradient of the norm's scale. -/
theorem final_scale (h : AllFinite m c) : (dats m 0 c).arrAt 12 cfg0.N = valScale m c := by
  refine (dats m 0 c).arrAt_eq_of_after_last 12 lastTile (by decide +kernel) _ fun y => ?_
  blk_simp
  rw [after0_12]
  obtain ⟨k, rfl⟩ : ∃ (k : Fin 1024), y = ix2 0 k := ⟨y 1, by blk_ext⟩
  rw [valScale, ref_scale _ _ _ _ _ _ _ _ h]
  refine (Pipeline.eq_sum_fin_of_reset_step_apply_last (ι := Fin 1024)
    (fun n hn p => (outsAt0 m c n hn).2.2.2.2.1 (ix2 0 p)) 32 (fun _ => 0) (fun t p => tileScale m c t p)
    (fun t ht p => left_scale_first m c t ht p) (fun t ht p => left_scale_next m c t ht p)
    (le_of_eq N_0) lastTile rfl k).trans ?_
  rw [zero_add]
  exact all_scale m c k

/-! ## The claim -/

/-- The side conditions of the precondition. -/
instance preFacts : Cert.Pre_finite_ffn_fwd.Facts where
  bcast_S_S8192x1024 := by decide
  reducesTo_S8192x1024_S_d0_1 := by decide
  h_S_ := by decide
  bcast_S_S1024x6144 := by decide
  reducesTo_S1024x6144_S_d0_1 := by decide
  bcast_S_S3x3072 := by decide
  reducesTo_S3x3072_S_d0_1 := by decide
  bcast_S_S1x3072 := by decide
  reducesTo_S1x3072_S_d0_1 := by decide
  bcast_S_S3072x1024 := by decide
  reducesTo_S3072x1024_S_d0_1 := by decide

/-- What the precondition says: the arguments up to the rows are finite. -/
theorem finite_of (h : Cert.Pre_FfnFwdIdeal_finite_ffn_fwd m) : AllFinite m c := by
  have h := congrFun (h c) (fun a => a.elim0)
  unfold Cert.Pre_finite_ffn_fwd.fn Cert.Pre_finite_ffn_fwd.fn_part1 at h
  simp only [andi, IntOp.andi_eq_one] at h
  haveI : Subsingleton (Cert.Pre_finite_ffn_fwd.S_).Idx := ⟨fun a b => funext fun k => k.elim0⟩
  exact {
    hid := fun s k => RealOf.entries _ _ _ _ _ _ h.1.1.1.1.1 _
    up := fun s k => RealOf.entries _ _ _ _ _ _ h.1.1.1.1.2 _
    tap := fun s k => RealOf.entries _ _ _ _ _ _ h.1.1.1.2 _
    bias := fun k => RealOf.entries _ _ _ _ _ _ h.1.1.2 _
    down := fun s k => RealOf.entries _ _ _ _ _ _ h.1.2 _
    row := fun s k => RealOf.entries _ _ _ _ _ _ h.2 _ }

/-- The two programs end with the same arrays. -/
theorem algebraic : Cert.algebraic_FfnFwdIdeal_FfnFwdRefIdeal_pre_finite_ffn_fwd := by
  intro m g m' g' hpre hagree
  refine ⟨valPairs m, valAct m, valRows m, valLoss m, valScale m,
    (θ_run _ _ _).mono (fun r h c => ⟨(h c).1.trans (final_pairs m c), (h c).2.1.trans (final_act m c (finite_of m c hpre)),
        (h c).2.2.1.trans (final_rows m c (finite_of m c hpre)), (h c).2.2.2.1.trans (final_loss m c (finite_of m c hpre)),
        (h c).2.2.2.2.1.trans (final_scale m c (finite_of m c hpre)), (h c).2.2.2.2.2⟩)
      (Cert.FfnFwdIdeal.Value.run_blocks m g),
    (θ_run _ _ _).mono (fun r h c => ?_) (Cert.FfnFwdRefIdeal.Value.run m' g')⟩
  have hc := hagree c
  have a0 : StableHlo.launchContents m' c (Proc.devRef .tc Cert.FfnFwdRefIdeal.main_arg0) = argH m c := hc.1
  have a1 : StableHlo.launchContents m' c (Proc.devRef .tc Cert.FfnFwdRefIdeal.main_arg1) = argU m c := hc.2.1
  have a2 : StableHlo.launchContents m' c (Proc.devRef .tc Cert.FfnFwdRefIdeal.main_arg2) = argT m c := hc.2.2.1
  have a3 : StableHlo.launchContents m' c (Proc.devRef .tc Cert.FfnFwdRefIdeal.main_arg3) = argB m c := hc.2.2.2.1
  have a4 : StableHlo.launchContents m' c (Proc.devRef .tc Cert.FfnFwdRefIdeal.main_arg4) = argW m c := hc.2.2.2.2.1
  have a5 : StableHlo.launchContents m' c (Proc.devRef .tc Cert.FfnFwdRefIdeal.main_arg5) = argX m c := hc.2.2.2.2.2.1
  have a6 : StableHlo.launchContents m' c (Proc.devRef .tc Cert.FfnFwdRefIdeal.main_arg6) = argG m c := hc.2.2.2.2.2.2.1
  have a7 : StableHlo.launchContents m' c (Proc.devRef .tc Cert.FfnFwdRefIdeal.main_arg7) = argY m c := hc.2.2.2.2.2.2.2
  refine ⟨(h c).1.trans ?_, (h c).2.1.trans ?_, (h c).2.2.1.trans ?_, (h c).2.2.2.1.trans ?_, (h c).2.2.2.2.1.trans ?_, (h c).2.2.2.2.2⟩
  · rw [val_main_v100_eq, a0, a1]
  · rw [val_main_v90_eq, a0, a1, a2, a3]
  · rw [val_main_v84_eq, a0, a1, a2, a3, a4, a5, a6, a7]
  · rw [val_main_v59_eq, a0, a1, a2, a3, a4, a5, a6, a7]
  · rw [val_main_v68_eq, a0, a1, a2, a3, a4, a5, a6, a7]

end Cert.FfnFwdProof
-- ==== Proof.FfnFwdFrames.lean ====
/- The frames of the forward call of the FFN with the loss, and what idealizing rewrote. -/
module

public import proofs.«01_k».proof.Proof.Gen.FfnFwd.Frame
public import proofs.«01_k».proof.Proof.Gen.FfnFwdIdeal.Frame
public import proofs.«01_k».proof.Proof.Gen.FfnFwdRefIdeal.Run
public import proofs.«01_k».proof.Proof.FfnFwdValue
public import proofs.«01_k».proof.Defs
public import Idealize.ShloMosaic.Lib.Claim

@[expose] public section

noncomputable section

namespace Cert.FfnFwdProof
open Idealize.ShloMosaic Idealize.ShloMosaic.TcCoe Idealize.SL.Sem

/-- The call as it is compiled keeps its arguments. -/
theorem frame_kernel : Cert.quiescent_FfnFwd := fun m ρ _ => Cert.FfnFwd.Gen.frame m ρ

/-- So does the call over the reals. -/
theorem frame_ideal : Cert.quiescent_FfnFwdIdeal := fun m ρ _ => Cert.FfnFwdIdeal.Gen.frame m ρ

/-- So does the reference, which has no semaphore. -/
theorem frame_reference : Cert.quiescent_FfnFwdRefIdeal := fun m ρ _ =>
  (θ_run _ _ _).mono (fun r h => ⟨fun c => (h c).2.2.2.2.2, funext fun s => nomatch s⟩)
    (Cert.FfnFwdRefIdeal.Value.run m ρ)

/-- The frames also hold where the arguments are finite. -/
theorem frame_ideal_finite : Cert.quiescent_FfnFwdIdeal_pre_finite_ffn_fwd := fun m ρ _ => frame_ideal m ρ trivial

theorem frame_reference_finite : Cert.quiescent_FfnFwdRefIdeal_pre_finite_ffn_fwd := fun m ρ _ => frame_reference m ρ trivial

/-- The constant of gelu's cubic term stands for the product of the plain lines' two constants. -/
theorem preserves : Cert.preserves_FfnFwd_FfnFwdIdeal :=
  IdealRules.named_const.statement Cert.FfnFwdIdeal.κ "gelu_ck" .f32 0x3D122279#32 ((80338380498831 / 2251799813685248 : ℝ) : EReal) rfl

end Cert.FfnFwdProof
-- ==== Proof.NormRow.lean ====
/- A row under a root-mean-square norm, and the product behind it, as the forward calls and their references write them. -/
module

public import proofs.«01_k».proof.Proof.RowGrad

@[expose] public section

noncomputable section

namespace Cert.NormRow
open Idealize.ShloMosaic Cert.RowGrad

/-- A row normed and scaled. -/
def normRow (x g : Fin 1024 → EReal) (e : Fin 1024) : EReal := x e * rinv x * g e

/-- That row times a column of a weight. -/
def prodRow (x g w : Fin 1024 → EReal) : EReal := ∑ k, normRow x g k * w k

/-- A column of a weight of 2048 columns: its block of 512. -/
def blockOf (c : Fin 2048) : Fin 4 := ⟨c.val / 512, by omega⟩

/-- Its place in the block. -/
def placeOf (c : Fin 2048) : Fin 512 := ⟨c.val % 512, by omega⟩

end Cert.NormRow
-- ==== Proof.KvFwdValue.lean ====
/-
  The keys' and values' forward call against its lines in plain array operations.

  The one grid point norms the memory and stores its product with the weight in four blocks of columns.
-/
module

public import proofs.«01_k».proof.Proof.NormRow
public import proofs.«01_k».proof.Proof.Gen.KvFwdIdeal.Value
public import proofs.«01_k».proof.Proof.Gen.KvFwdRefIdeal.Run
public import proofs.«01_k».proof.Proof.Gen.KvFwdRefIdeal.Read
public import Idealize.ShloMosaic.Lib.Pipeline.ValueKit
public import Idealize.ShloMosaic.Lib.Pointwise
public import proofs.«01_k».proof.Defs
public import Idealize.ShloMosaic.Lib.Claim
public import Idealize.ShloMosaic.Lib.StableHlo.ReadAt

@[expose] public section

set_option maxRecDepth 16384

noncomputable section

namespace Cert.KvFwdProof
open Cert.RowGrad Cert.NormRow Cert.KvFwdIdeal Cert.KvFwdIdeal.Gen Cert.KvFwdRefIdeal.Read
open Idealize.ShloMosaic Idealize.ShloMosaic.TcCoe Idealize.SL.Sem

variable (m : (ℓ : Loc nD τ sig) → Buf (Elt Ideal) ℓ)

/-! ## The body's stores -/

/-- The normed memory, at row `s`. -/
theorem at_norm (x0 : Vec Ideal S256x1024 .f32) (x1 : Vec Ideal S1x1024 .f32) (s : Fin 256) (e : Fin 1024) :
    k0_pay2 (F := Ideal) x0 x1 (ix2 s e) = normRow (fun k => x0 (ix2 s k)) (fun k => x1 (ix2 0 k)) e := by
  unfold normRow rinv
  pointwise [k0_pay2]

theorem kernel_norm (x0 : Vec Ideal S256x1024 .f32) (x1 : Vec Ideal S1x1024 .f32) (x2 : Vec Ideal S4x1024x512 .bf16)
    (s : Fin 256) (e : Fin 1024) :
    out0_3 x0 x1 x2 (ix2 s e) = normRow (fun k => x0 (ix2 s k)) (fun k => x1 (ix2 0 k)) e := by
  frame_out
  refine (at_norm _ _ s e).trans ?_
  refine congrArg₂ (fun a b => normRow a b e) (funext fun k => ?_) (funext fun k => ?_)
  all_goals pointwise
  all_goals blk_ext

/-- The product of the normed memory with the weight, at column `c`. -/
theorem kernel_prod (x0 : Vec Ideal S256x1024 .f32) (x1 : Vec Ideal S1x1024 .f32) (x2 : Vec Ideal S4x1024x512 .bf16)
    (s : Fin 256) (c : Fin 2048) : out0_4 x0 x1 x2 (ix2 s c)
      = prodRow (fun k => x0 (ix2 s k)) (fun k => x1 (ix2 0 k)) fun k => x2 (ix3 (blockOf c) k (placeOf c)) := by
  frame_out
  unfold prodRow
  simp only [← at_norm x0 x1]
  canon_tiles x h
  all_goals
    simp only [ix2_0, ix2_1] at h0 h1
    pointwise [k0_pay1, k0_pay3, k0_pay4, k0_pay5]
    refine Finset.sum_congr rfl fun k _ => congrArg₂ (fun a b => k0_pay2 (F := Ideal) x0 x1 a * x2 b) ?_ ?_
    · exact congrArg (ix2 · k) (Fin.ext h0.symm)
    · refine congrArg₂ (ix3 · k ·) (Fin.ext ?_) (Fin.ext ?_) <;> simp [blockOf, placeOf] <;> omega

/-! ## The reference -/

/-- The reference's normed row. -/
theorem ref_norm (x0 : Vec Ideal S256x1024 .f32) (x1 : Vec Ideal S1x1024 .f32) (s : Fin 256) (e : Fin 1024) :
    val_main_v11 (F := Ideal) x0 x1 (ix2 s e) = normRow (fun k => x0 (ix2 s k)) (fun k => x1 (ix2 0 k)) e := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The reference's product. -/
theorem ref_prod (x0 : Vec Ideal S256x1024 .f32) (x1 : Vec Ideal S1x1024 .f32) (x2 : Vec Ideal S1024x2048 .f32)
    (s : Fin 256) (c : Fin 2048) : val_main_v14 (F := Ideal) x0 x1 x2 (ix2 s c)
      = prodRow (fun k => x0 (ix2 s k)) (fun k => x1 (ix2 0 k)) fun k => x2 (ix2 k c) := by
  pointwise [val_main_v14, val_main_v13]
  simp only [ref_norm]
  rfl

/-! ## What the windows hold -/

/-- The host's stack of the weight's column blocks, at an index. -/
theorem entry_blocks (c : Dev nD) (a : Fin 4) (b : Fin 1024) (e : Fin 512) :
    (V m c main_v9 : Vec Ideal S4x1024x512 .bf16) (ix3 a b e)
      = (m (c.tc.loc main_arg2) : Vec Ideal S1024x2048 .f32) (ix2 b ⟨a.val * 512 + e.val, by omega⟩) := by
  unfold V
  after_results_simp
  pointwise
  split_ifs
  all_goals
    after_results_simp
    pointwise
    blk_ext

/-- Every window of the one grid point starts at the array's origin. -/
theorem origin : ∀ t : Fin cfg0.N, win0_0.index t = ![0, 0] ∧ win0_1.index t = ![0, 0] ∧ win0_2.index t = ![0, 0, 0]
    ∧ win0_3.index t = ![0, 0] ∧ win0_4.index t = ![0, 0] :=
  (by decide +kernel : ∀ t : Fin grid0.N, _)

/-- The first window is the memory. -/
theorem window0 (c : Dev nD) (t : Fin cfg0.N) : iblk m c 0 t = m (c.tc.loc main_arg0) := by
  blk_ext! [iblk, V, origin t]

/-- The second window is the norm's scale. -/
theorem window1 (c : Dev nD) (t : Fin cfg0.N) : iblk m c 1 t = m (c.tc.loc main_arg1) := by
  blk_ext! [iblk, V, origin t]

/-- The third window is the stack of the weight's blocks. -/
theorem window2 (c : Dev nD) (t : Fin cfg0.N) : iblk m c 2 t = V m c main_v9 := by blk_ext! [iblk, origin t]

/-! ## The arrays after the run -/

/-- The kernel ends with the reference's normed memory. -/
theorem final_norm (c : Dev nD) : (dats m 0 c).arrAt 3 cfg0.N
    = val_main_v12 (F := Ideal) (m (c.tc.loc main_arg0)) (m (c.tc.loc main_arg1)) := by
  refine (dats m 0 c).arrAt_eq_of_covers 3 _ (by decide +kernel) fun t hf y => ?_
  blk_simp
  rw [after0_3, window0, window1, window2]
  obtain ⟨s, e, rfl⟩ : ∃ (s : Fin 256) (e : Fin 1024), y = ix2 s e := ⟨y 0, y 1, by blk_ext⟩
  have hi : (win0_3.blk t).view.emb (ix2 s e) = ix2 s e := by blk_ext [origin t]
  rw [hi, kernel_norm]
  exact (ref_norm _ _ s e).symm

/-- The kernel ends with the reference's product. -/
theorem final_prod (c : Dev nD) : (dats m 0 c).arrAt 4 cfg0.N
    = val_main_v14 (F := Ideal) (m (c.tc.loc main_arg0)) (m (c.tc.loc main_arg1)) (m (c.tc.loc main_arg2)) := by
  refine (dats m 0 c).arrAt_eq_of_covers 4 _ (by decide +kernel) fun t hf y => ?_
  blk_simp
  rw [after0_4, window0, window1, window2]
  obtain ⟨s, e, rfl⟩ : ∃ (s : Fin 256) (e : Fin 2048), y = ix2 s e := ⟨y 0, y 1, by blk_ext⟩
  have hi : (win0_4.blk t).view.emb (ix2 s e) = ix2 s e := by blk_ext [origin t]
  rw [hi, kernel_prod, ref_prod]
  refine congrArg _ (funext fun k => (entry_blocks m c _ _ _).trans (congrArg _ (congrArg (ix2 k) (Fin.ext ?_))))
  simp only [blockOf, placeOf]
  omega

/-- The two programs end with the same arrays. -/
theorem algebraic : Cert.algebraic_KvFwdIdeal_KvFwdRefIdeal := by
  intro m g m' g' _ hagree
  refine ⟨fun c => val_main_v12 (F := Ideal) (m (c.tc.loc main_arg0)) (m (c.tc.loc main_arg1)),
    fun c => val_main_v14 (F := Ideal) (m (c.tc.loc main_arg0)) (m (c.tc.loc main_arg1)) (m (c.tc.loc main_arg2)),
    (θ_run _ _ _).mono (fun r h c => ⟨(h c).1.trans (final_norm m c), (h c).2.1.trans (final_prod m c), (h c).2.2⟩)
      (Cert.KvFwdIdeal.Value.run_blocks m g),
    (θ_run _ _ _).mono (fun r h c => ?_) (Cert.KvFwdRefIdeal.Value.run m' g')⟩
  obtain ⟨a0, a1, a2⟩ := hagree c
  refine ⟨(h c).1.trans ?_, (h c).2.1.trans ?_, (h c).2.2⟩
  · rw [val_main_v12_eq, a0, a1]
  · rw [val_main_v14_eq, a0, a1, a2]

end Cert.KvFwdProof
-- ==== Proof.KvFwdFrames.lean ====
/- The three frames of the keys' and values' forward pair. -/
module

public import proofs.«01_k».proof.Proof.Gen.KvFwd.Frame
public import proofs.«01_k».proof.Proof.Gen.KvFwdIdeal.Frame
public import proofs.«01_k».proof.Proof.Gen.KvFwdRefIdeal.Run
public import proofs.«01_k».proof.Proof.KvFwdValue
public import Idealize.ShloMosaic.Lib.Claim

@[expose] public section

noncomputable section

namespace Cert.KvFwdProof
open Idealize.ShloMosaic Idealize.ShloMosaic.TcCoe Idealize.SL.Sem

/-- The call as it is compiled keeps its arguments. -/
theorem frame_kernel : Cert.quiescent_KvFwd := fun m ρ _ => Cert.KvFwd.Gen.frame m ρ

/-- So does the call over the reals. -/
theorem frame_ideal : Cert.quiescent_KvFwdIdeal := fun m ρ _ => Cert.KvFwdIdeal.Gen.frame m ρ

/-- So does the reference, which has no semaphore. -/
theorem frame_reference : Cert.quiescent_KvFwdRefIdeal := fun m ρ _ =>
  (θ_run _ _ _).mono (fun r h => ⟨fun c => (h c).2.2, funext fun s => nomatch s⟩) (Cert.KvFwdRefIdeal.Value.run m ρ)

end Cert.KvFwdProof
-- ==== Proof.InFwdValue.lean ====
/-
  The input's forward call against its lines in plain array operations.

  Each of the eight grid points takes a tile of 1024 rows in two halves: it norms a half and stores its product with the
  weight, one block of columns per plane of the result.
-/
module

public import proofs.«01_k».proof.Proof.NormRow
public import proofs.«01_k».proof.Proof.Gen.InFwdIdeal.Value
public import proofs.«01_k».proof.Proof.Gen.InFwdRefIdeal.Run
public import proofs.«01_k».proof.Proof.Gen.InFwdRefIdeal.Read
public import Idealize.ShloMosaic.Lib.Pipeline.ValueKit
public import Idealize.ShloMosaic.Lib.Pointwise
public import proofs.«01_k».proof.Defs
public import Idealize.ShloMosaic.Lib.Claim
public import Idealize.ShloMosaic.Lib.StableHlo.ReadAt

@[expose] public section

set_option maxRecDepth 16384

noncomputable section

namespace Cert.InFwdProof
open Cert.RowGrad Cert.NormRow Cert.InFwdIdeal Cert.InFwdIdeal.Gen Cert.InFwdRefIdeal.Read
open Idealize.ShloMosaic Idealize.ShloMosaic.TcCoe Idealize.SL.Sem

variable (m : (ℓ : Loc nD τ sig) → Buf (Elt Ideal) ℓ)

/-! ## The body's stores -/

section Half
variable (x0 : Vec Ideal S1024x1024 .f32) (x1 : Vec Ideal S1x1024 .f32) (x2 : Vec Ideal S4x1024x512 .bf16)
  (b : Fin 512) (r e : Fin 1024)

/-- A half's normed row, given where the half's rows lie in the tile. -/
theorem at_norm5 (u : Vec Ideal S512x1024 .f32) (g : Vec Ideal S1x1024 .f32) (hu : ∀ k, u (ix2 b k) = x0 (ix2 r k))
    (hg : ∀ k, g (ix2 0 k) = x1 (ix2 0 k)) :
    k0_pay5 (F := Ideal) u g (ix2 b e) = normRow (fun k => x0 (ix2 r k)) (fun k => x1 (ix2 0 k)) e := by
  unfold normRow rinv
  pointwise [k0_pay5]
  simp only [hu, hg]

theorem at_norm6 (u : Vec Ideal S512x1024 .f32) (g : Vec Ideal S1x1024 .f32) (hu : ∀ k, u (ix2 b k) = x0 (ix2 r k))
    (hg : ∀ k, g (ix2 0 k) = x1 (ix2 0 k)) :
    k0_pay6 (F := Ideal) u g (ix2 b e) = normRow (fun k => x0 (ix2 r k)) (fun k => x1 (ix2 0 k)) e := by
  unfold normRow rinv
  pointwise [k0_pay6]
  simp only [hu, hg]

/-- The first half's rows are the tile's first. -/
theorem norm_upper (g : Vec Ideal S1x1024 .f32) (hg : ∀ k, g (ix2 0 k) = x1 (ix2 0 k)) (hr : r.val = b.val) :
    k0_pay5 (F := Ideal) (View.ld x0 r0_0) g (ix2 b e)
      = normRow (fun k => x0 (ix2 r k)) (fun k => x1 (ix2 0 k)) e := by
  refine at_norm5 x0 x1 b r e _ _ (fun k => ?_) hg
  pointwise
  exact congrArg x0 (congrArg (ix2 · k) (Fin.ext hr.symm))

/-- The second half's rows are its last. -/
theorem norm_lower (g : Vec Ideal S1x1024 .f32) (hg : ∀ k, g (ix2 0 k) = x1 (ix2 0 k)) (hr : r.val = 512 + b.val) :
    k0_pay6 (F := Ideal) (View.ld x0 r0_2) g (ix2 b e)
      = normRow (fun k => x0 (ix2 r k)) (fun k => x1 (ix2 0 k)) e := by
  refine at_norm6 x0 x1 b r e _ _ (fun k => ?_) hg
  pointwise
  exact congrArg x0 (congrArg (ix2 · k) (Fin.ext hr.symm))

end Half

/-- The normed tile, at row `r`. -/
theorem kernel_norm (x0 : Vec Ideal S1024x1024 .f32) (x1 : Vec Ideal S1x1024 .f32) (x2 : Vec Ideal S4x1024x512 .bf16)
    (r e : Fin 1024) : out0_4 x0 x1 x2 (ix2 r e) = normRow (fun k => x0 (ix2 r k)) (fun k => x1 (ix2 0 k)) e := by
  frame_out
  canon_tiles x h
  all_goals
    obtain ⟨a, b, rfl⟩ : ∃ (a : Fin 512) (b : Fin 1024), x = ix2 a b := ⟨x 0, x 1, by blk_ext⟩
    simp only [ix2_0, ix2_1] at h0 h1
    obtain rfl : e = b := Fin.ext (by omega)
    first
      | exact norm_upper x0 x1 a r e _ (fun k => by pointwise) h0
      | exact norm_lower x0 x1 a r e _ (fun k => by pointwise) h0

/-- The product of the normed tile with the weight, at plane `a`. -/
theorem kernel_prod (x0 : Vec Ideal S1024x1024 .f32) (x1 : Vec Ideal S1x1024 .f32) (x2 : Vec Ideal S4x1024x512 .bf16)
    (a : Fin 4) (r : Fin 1024) (e : Fin 512) : out0_3 x0 x1 x2 (ix3 a r e)
      = prodRow (fun k => x0 (ix2 r k)) (fun k => x1 (ix2 0 k)) fun k => x2 (ix3 a k e) := by
  unfold prodRow
  frame_out
  canon_tiles x h
  all_goals
    simp only [ix3_0, ix3_1, ix3_2] at h0 h1 h2
    pointwise [k0_pay1, k0_pay2, k0_pay3, k0_pay4, k0_pay7, k0_pay8, k0_pay9, k0_pay10, k0_pay11, k0_pay12]
    refine Finset.sum_congr rfl fun k _ => congrArg₂ (fun p q => (p : EReal) * x2 q) ?_ ?_
    · first
        | exact norm_upper x0 x1 (x 1) r k _ (fun k => by pointwise) h1
        | exact norm_lower x0 x1 (x 1) r k _ (fun k => by pointwise) h1
    · refine congrArg₂ (ix3 · k ·) (Fin.ext ?_) (Fin.ext h2.symm)
      first
        | omega
        | simp; omega

/-! ## The reference -/

/-- The reference's normed row. -/
theorem ref_norm (x0 : Vec Ideal S8192x1024 .f32) (x1 : Vec Ideal S1x1024 .f32) (s : Fin 8192) (e : Fin 1024) :
    val_main_v11 (F := Ideal) x0 x1 (ix2 s e) = normRow (fun k => x0 (ix2 s k)) (fun k => x1 (ix2 0 k)) e := by
  pointwise [val_main_v11, val_main_v10, val_main_v9, val_main_v8, val_main_v7, val_main_v6, val_main_v5, val_main_v4,
    val_main_v3, val_main_v2, val_main_v1, val_main_v0, val_main_cst, val_main_cst_0, val_main_cst_1]
  rfl

/-- The reference's product, its blocks of columns one plane each. -/
theorem ref_prod (x0 : Vec Ideal S8192x1024 .f32) (x1 : Vec Ideal S1x1024 .f32) (x2 : Vec Ideal S1024x2048 .f32)
    (a : Fin 4) (s : Fin 8192) (e : Fin 512) : val_main_v21 (F := Ideal) x0 x1 x2 (ix3 a s e)
      = prodRow (fun k => x0 (ix2 s k)) (fun k => x1 (ix2 0 k)) fun k => x2 (ix2 k ⟨a.val * 512 + e.val, by omega⟩) := by
  unfold prodRow
  simp only [← ref_norm]
  pointwise [val_main_v21, val_main_v20, val_main_v19, val_main_v18, val_main_v17, val_main_v16, val_main_v15,
    val_main_v14, val_main_v13, val_main_v12]
  split_ifs
  all_goals blk_point

/-! ## What the windows hold -/

/-- The host's stack of the weight's column blocks, at an index. -/
theorem entry_blocks (c : Dev nD) (a : Fin 4) (b : Fin 1024) (e : Fin 512) :
    (V m c main_v9 : Vec Ideal S4x1024x512 .bf16) (ix3 a b e)
      = (m (c.tc.loc main_arg2) : Vec Ideal S1024x2048 .f32) (ix2 b ⟨a.val * 512 + e.val, by omega⟩) := by
  unfold V
  after_results_simp
  pointwise
  split_ifs
  all_goals
    after_results_simp
    pointwise
    blk_ext

/-- Where the windows of a tile start. -/
theorem origin : ∀ t : Fin cfg0.N, win0_0.index t = ![t.val, 0] ∧ win0_1.index t = ![0, 0]
    ∧ win0_2.index t = ![0, 0, 0] ∧ win0_3.index t = ![0, t.val, 0] ∧ win0_4.index t = ![t.val, 0] :=
  (by decide +kernel : ∀ t : Fin grid0.N, _)

theorem tiles (t : Fin cfg0.N) : t.val < 8 := t.isLt

/-- Row `r` of tile `t`. -/
def rowAt (t : Fin cfg0.N) (r : Fin 1024) : Fin 8192 := ⟨t.val * 1024 + r.val, by have := tiles t; omega⟩

/-- The first window is a tile of the input. -/
theorem window0 (c : Dev nD) (t : Fin cfg0.N) (r k : Fin 1024) : (iblk m c 0 t : Vec Ideal S1024x1024 .f32) (ix2 r k)
    = (m (c.tc.loc main_arg0) : Vec Ideal S8192x1024 .f32) (ix2 (rowAt t r) k) := by
  unfold rowAt
  blk_ext [iblk, V, origin t]

/-- The second window is the norm's scale. -/
theorem window1 (c : Dev nD) (t : Fin cfg0.N) : iblk m c 1 t = m (c.tc.loc main_arg1) := by
  blk_ext! [iblk, V, origin t]

/-- The third window is the stack of the weight's blocks. -/
theorem window2 (c : Dev nD) (t : Fin cfg0.N) : iblk m c 2 t = V m c main_v9 := by blk_ext! [iblk, origin t]

/-! ## The arrays after the run -/

/-- The kernel ends with the reference's product. -/
theorem final_prod (c : Dev nD) : (dats m 0 c).arrAt 3 cfg0.N
    = val_main_v21 (F := Ideal) (m (c.tc.loc main_arg0)) (m (c.tc.loc main_arg1)) (m (c.tc.loc main_arg2)) := by
  refine (dats m 0 c).arrAt_eq_of_covers 3 _ (by decide +kernel) fun t hf y => ?_
  blk_simp
  rw [after0_3, window1, window2]
  obtain ⟨a, r, e, rfl⟩ : ∃ (a : Fin 4) (r : Fin 1024) (e : Fin 512), y = ix3 a r e := ⟨y 0, y 1, y 2, by blk_ext⟩
  have hi : (win0_3.blk t).view.emb (ix3 a r e) = ix3 a (rowAt t r) e := by blk_ext [rowAt, origin t]
  rw [hi, kernel_prod, ref_prod]
  exact congrArg₂ (fun p q => prodRow p _ q) (funext fun k => window0 m c t r k)
    (funext fun k => entry_blocks m c a k e)

/-- The kernel ends with the reference's normed input. -/
theorem final_norm (c : Dev nD) : (dats m 0 c).arrAt 4 cfg0.N
    = val_main_v22 (F := Ideal) (m (c.tc.loc main_arg0)) (m (c.tc.loc main_arg1)) := by
  refine (dats m 0 c).arrAt_eq_of_covers 4 _ (by decide +kernel) fun t hf y => ?_
  blk_simp
  rw [after0_4, window1]
  obtain ⟨r, e, rfl⟩ : ∃ (r e : Fin 1024), y = ix2 r e := ⟨y 0, y 1, by blk_ext⟩
  have hi : (win0_4.blk t).view.emb (ix2 r e) = ix2 (rowAt t r) e := by blk_ext [rowAt, origin t]
  rw [hi, kernel_norm]
  refine Eq.trans ?_ (ref_norm _ _ (rowAt t r) e).symm
  exact congrArg (fun p => normRow p _ e) (funext fun k => window0 m c t r k)

/-- The two programs end with the same arrays. -/
theorem algebraic : Cert.algebraic_InFwdIdeal_InFwdRefIdeal := by
  intro m g m' g' _ hagree
  refine ⟨fun c => val_main_v21 (F := Ideal) (m (c.tc.loc main_arg0)) (m (c.tc.loc main_arg1)) (m (c.tc.loc main_arg2)),
    fun c => val_main_v22 (F := Ideal) (m (c.tc.loc main_arg0)) (m (c.tc.loc main_arg1)),
    (θ_run _ _ _).mono (fun r h c => ⟨(h c).1.trans (final_prod m c), (h c).2.1.trans (final_norm m c), (h c).2.2⟩)
      (Cert.InFwdIdeal.Value.run_blocks m g),
    (θ_run _ _ _).mono (fun r h c => ?_) (Cert.InFwdRefIdeal.Value.run m' g')⟩
  obtain ⟨a0, a1, a2⟩ := hagree c
  refine ⟨(h c).1.trans ?_, (h c).2.1.trans ?_, (h c).2.2⟩
  · rw [val_main_v21_eq, a0, a1, a2]
  · rw [val_main_v22_eq, a0, a1]

end Cert.InFwdProof
-- ==== Proof.InFwdFrames.lean ====
/- The three frames of the input projection's forward pair. -/
module

public import proofs.«01_k».proof.Proof.Gen.InFwd.Frame
public import proofs.«01_k».proof.Proof.Gen.InFwdIdeal.Frame
public import proofs.«01_k».proof.Proof.Gen.InFwdRefIdeal.Run
public import proofs.«01_k».proof.Proof.InFwdValue
public import Idealize.ShloMosaic.Lib.Claim

@[expose] public section

noncomputable section

namespace Cert.InFwdProof
open Idealize.ShloMosaic Idealize.ShloMosaic.TcCoe Idealize.SL.Sem

/-- The call as it is compiled keeps its arguments. -/
theorem frame_kernel : Cert.quiescent_InFwd := fun m ρ _ => Cert.InFwd.Gen.frame m ρ

/-- So does the call over the reals. -/
theorem frame_ideal : Cert.quiescent_InFwdIdeal := fun m ρ _ => Cert.InFwdIdeal.Gen.frame m ρ

/-- So does the reference, which has no semaphore. -/
theorem frame_reference : Cert.quiescent_InFwdRefIdeal := fun m ρ _ =>
  (θ_run _ _ _).mono (fun r h => ⟨fun c => (h c).2.2, funext fun s => nomatch s⟩) (Cert.InFwdRefIdeal.Value.run m ρ)

end Cert.InFwdProof
-- ==== Proof.OutFwdValue.lean ====
/-
  The mixing branches' output projection, its residual, the norm behind it and the query projection against their lines
  in plain array operations.

  Each of the eight grid points takes a tile of 1024 rows in two halves. The output projection is two products, one per
  branch; the reference multiplies the branches side by side with the whole weight.
-/
module

public import proofs.«01_k».proof.Proof.NormRow
public import proofs.«01_k».proof.Proof.Gen.OutFwdIdeal.Value
public import proofs.«01_k».proof.Proof.Gen.OutFwdRefIdeal.Run
public import proofs.«01_k».proof.Proof.Gen.OutFwdRefIdeal.Read
public import Idealize.ShloMosaic.Lib.Pipeline.ValueKit
public import Idealize.ShloMosaic.Lib.Pointwise
public import proofs.«01_k».proof.Defs
public import Idealize.ShloMosaic.Lib.Claim
public import Idealize.ShloMosaic.Lib.StableHlo.ReadAt

@[expose] public section

set_option maxRecDepth 16384

noncomputable section

namespace Cert.OutFwdProof
open Cert.RowGrad Cert.NormRow Cert.OutFwdIdeal Cert.OutFwdIdeal.Gen Cert.OutFwdRefIdeal.Read
open Idealize.ShloMosaic Idealize.ShloMosaic.TcCoe Idealize.SL.Sem

variable (m : (ℓ : Loc nD τ sig) → Buf (Elt Ideal) ℓ)

/-! ## A row -/

/-- A row after the output projection and the residual. -/
def mixRow (x : Fin 1024 → EReal) (y z : Fin 512 → EReal) (w : Fin 2 → Fin 512 → Fin 1024 → EReal) (e : Fin 1024) :
    EReal := x e + ((∑ k, y k * w 0 k e) + ∑ k, z k * w 1 k e)

/-- A sum over 1024 columns is the sum of its halves. -/
theorem sum_halves (f : Fin 1024 → EReal) :
    ∑ k, f k = (∑ k : Fin 512, f ⟨k, by omega⟩) + ∑ k : Fin 512, f ⟨512 + k, by omega⟩ :=
  Fin.sum_univ_add (a := 512) (b := 512) f

/-! ## The body's stores -/

/-- A tile's row after the output projection and the residual. -/
def tileRow (x0 : Vec Ideal S1024x1024 .f32) (x1 x2 : Vec Ideal S1024x512 .bf16) (x3 : Vec Ideal S2x512x1024 .bf16)
    (r : Fin 1024) : Fin 1024 → EReal :=
  mixRow (fun k => x0 (ix2 r k)) (fun k => x1 (ix2 r k)) (fun k => x2 (ix2 r k)) fun a k e => x3 (ix3 a k e)

section Half
variable (x0 : Vec Ideal S1024x1024 .f32) (x1 x2 : Vec Ideal S1024x512 .bf16) (x3 : Vec Ideal S2x512x1024 .bf16)
  (x4 : Vec Ideal S1x1024 .f32) (x5 : Vec Ideal S1024x1024 .bf16) (b : Fin 512) (r e : Fin 1024)

/-- The first half's rows are the tile's first. -/
theorem sum_upper (hr : r.val = b.val) :
    k0_pay3 (F := Ideal) (View.ld x1 r0_0) (View.ld x3 r0_1) (View.ld x2 r0_0) (View.ld x3 r0_2) (View.ld x0 r0_4)
      (ix2 b e) = tileRow x0 x1 x2 x3 r e := by
  obtain rfl : r = ⟨b.val, by clear hr; omega⟩ := Fin.ext hr
  unfold tileRow mixRow
  pointwise [k0_pay3]

/-- The second half's rows are its last. -/
theorem sum_lower (hr : r.val = 512 + b.val) :
    k0_pay7 (F := Ideal) (k0_pay2 (View.ld x1 r0_3) (View.ld x3 r0_1) (View.ld x2 r0_3) (View.ld x3 r0_2))
      (View.ld x0 r0_7) (ix2 b e) = tileRow x0 x1 x2 x3 r e := by
  obtain rfl : r = ⟨512 + b.val, by clear hr; omega⟩ := Fin.ext hr
  unfold tileRow mixRow
  pointwise [k0_pay7, k0_pay2]

/-- The first half's normed row. -/
theorem norm_upper (g : Vec Ideal S1x1024 .f32) (hg : ∀ k, g (ix2 0 k) = x4 (ix2 0 k)) (hr : r.val = b.val) :
    k0_pay5 (F := Ideal) (k0_pay10 x0 x1 x2 x3 x4 x5) (k0_pay11 x0 x1 x2 x3 x4 x5) (Scalar.ofBits .f32 0x44800000#32) g
      (ix2 b e) = normRow (tileRow x0 x1 x2 x3 r) (fun k => x4 (ix2 0 k)) e := by
  unfold normRow rinv k0_pay10 k0_pay11
  simp only [← sum_upper x0 x1 x2 x3 b r _ hr, ← hg]
  pointwise [k0_pay5, k0_pay4]

/-- The second half's normed row. -/
theorem norm_lower (g : Vec Ideal S1x1024 .f32) (hg : ∀ k, g (ix2 0 k) = x4 (ix2 0 k)) (hr : r.val = 512 + b.val) :
    k0_pay8 (F := Ideal) (k0_pay9 x0 x1 x2 x3 x4 x5) (View.ld x0 r0_7) g (ix2 b e)
      = normRow (tileRow x0 x1 x2 x3 r) (fun k => x4 (ix2 0 k)) e := by
  unfold normRow rinv k0_pay9
  simp only [← sum_lower x0 x1 x2 x3 b r _ hr, ← hg]
  pointwise [k0_pay8]

end Half

section Tile
variable (x0 : Vec Ideal S1024x1024 .f32) (x1 x2 : Vec Ideal S1024x512 .bf16) (x3 : Vec Ideal S2x512x1024 .bf16)
  (x4 : Vec Ideal S1x1024 .f32) (x5 : Vec Ideal S1024x1024 .bf16) (r e : Fin 1024)

/-- The tile of the sum, at row `r`. -/
theorem kernel_sum : out0_6 x0 x1 x2 x3 x4 x5 (ix2 r e) = tileRow x0 x1 x2 x3 r e := by
  frame_out
  canon_tiles x h
  all_goals
    obtain ⟨a, b, rfl⟩ : ∃ (a : Fin 512) (b : Fin 1024), x = ix2 a b := ⟨x 0, x 1, by blk_ext⟩
    simp only [ix2_0, ix2_1] at h0 h1
    obtain rfl : e = b := Fin.ext (by omega)
    first
      | exact sum_upper x0 x1 x2 x3 a r e h0
      | exact sum_lower x0 x1 x2 x3 a r e h0

/-- The normed tile. -/
theorem kernel_norm : out0_7 x0 x1 x2 x3 x4 x5 (ix2 r e)
    = normRow (tileRow x0 x1 x2 x3 r) (fun k => x4 (ix2 0 k)) e := by
  frame_out
  canon_tiles x h
  all_goals
    obtain ⟨a, b, rfl⟩ : ∃ (a : Fin 512) (b : Fin 1024), x = ix2 a b := ⟨x 0, x 1, by blk_ext⟩
    simp only [ix2_0, ix2_1] at h0 h1
    obtain rfl : e = b := Fin.ext (by omega)
    first
      | exact norm_upper x0 x1 x2 x3 x4 x5 a r e _ (fun k => by pointwise) h0
      | exact norm_lower x0 x1 x2 x3 x4 x5 a r e _ (fun k => by pointwise) h0

/-- The product of the normed tile with the query weight. -/
theorem kernel_prod : out0_8 x0 x1 x2 x3 x4 x5 (ix2 r e)
    = prodRow (tileRow x0 x1 x2 x3 r) (fun k => x4 (ix2 0 k)) fun k => x5 (ix2 k e) := by
  unfold prodRow
  frame_out
  canon_tiles x h
  all_goals
    obtain ⟨a, b, rfl⟩ : ∃ (a : Fin 512) (b : Fin 1024), x = ix2 a b := ⟨x 0, x 1, by blk_ext⟩
    simp only [ix2_0, ix2_1] at h0 h1
    obtain rfl : e = b := Fin.ext (by omega)
    pointwise [k0_pay1, k0_pay6]
    refine Finset.sum_congr rfl fun k _ => congrArg (fun p => (p : EReal) * x5 (ix2 k e)) ?_
    first
      | exact norm_upper x0 x1 x2 x3 x4 x5 a r k _ (fun k => by pointwise) h0
      | exact norm_lower x0 x1 x2 x3 x4 x5 a r k _ (fun k => by pointwise) h0

end Tile

/-! ## The reference -/

section Ref
variable (x0 : Vec Ideal S8192x1024 .f32) (x1 x2 : Vec Ideal S8192x512 .f32) (x3 : Vec Ideal S1024x1024 .f32)
  (x4 : Vec Ideal S1x1024 .f32) (x5 : Vec Ideal S1024x1024 .f32) (s : Fin 8192) (e : Fin 1024)

/-- The reference's row after the output projection and the residual. -/
def refRow (s : Fin 8192) : Fin 1024 → EReal :=
  mixRow (fun k => x0 (ix2 s k)) (fun k => x1 (ix2 s k)) (fun k => x2 (ix2 s k))
    fun a k e => x3 (ix2 ⟨a.val * 512 + k.val, by omega⟩ e)

/-- The first branch lies in the first 512 columns. -/
theorem ref_left (k : Fin 512) : val_main_v0 (F := Ideal) x1 x2 (ix2 s ⟨k, by omega⟩) = x1 (ix2 s k) := by
  pointwise [val_main_v0]

/-- The second branch lies in the last 512. -/
theorem ref_right (k : Fin 512) : val_main_v0 (F := Ideal) x1 x2 (ix2 s ⟨512 + k, by omega⟩) = x2 (ix2 s k) := by
  pointwise [val_main_v0]

theorem ref_sum : val_main_v2 (F := Ideal) x0 x1 x2 x3 (ix2 s e) = refRow x0 x1 x2 x3 s e := by
  unfold refRow mixRow
  pointwise [val_main_v2, val_main_v1]
  rw [sum_halves]
  simp only [ref_left, ref_right]

/-- The reference's normed row. -/
theorem ref_norm : val_main_v14 (F := Ideal) x0 x1 x2 x3 x4 (ix2 s e)
    = normRow (refRow x0 x1 x2 x3 s) (fun k => x4 (ix2 0 k)) e := by
  pointwise [val_main_v14, val_main_v13, val_main_v12, val_main_v11, val_main_v10, val_main_v9, val_main_v8, val_main_v7,
    val_main_v6, val_main_v5, val_main_v4, val_main_v3, val_main_cst, val_main_cst_0, val_main_cst_1]
  simp only [ref_sum]
  rfl

/-- The reference's queries. -/
theorem ref_prod : val_main_v17 (F := Ideal) x0 x1 x2 x3 x4 x5 (ix2 s e)
    = prodRow (refRow x0 x1 x2 x3 s) (fun k => x4 (ix2 0 k)) fun k => x5 (ix2 k e) := by
  pointwise [val_main_v17, val_main_v16]
  simp only [ref_norm]
  rfl

end Ref

/-! ## What the windows hold -/

variable (c : Dev nD)

/-- The input, the two branches, the output weight, the norm's scale and the query weight. -/
abbrev argX : Vec Ideal S8192x1024 .f32 := m (c.tc.loc main_arg0)
abbrev argY : Vec Ideal S8192x512 .f32 := m (c.tc.loc main_arg1)
abbrev argZ : Vec Ideal S8192x512 .f32 := m (c.tc.loc main_arg2)
abbrev argW : Vec Ideal S1024x1024 .f32 := m (c.tc.loc main_arg3)
abbrev argG : Vec Ideal S1x1024 .f32 := m (c.tc.loc main_arg4)
abbrev argQ : Vec Ideal S1024x1024 .f32 := m (c.tc.loc main_arg5)

theorem entry_left : V m c main_v2 = (argY m c : S8192x512.Idx → EReal) := by
  unfold V
  after_results_simp
  rfl

theorem entry_right : V m c main_v3 = (argZ m c : S8192x512.Idx → EReal) := by
  unfold V
  after_results_simp
  rfl

theorem entry_query : V m c main_v4 = (argQ m c : S1024x1024.Idx → EReal) := by
  unfold V
  after_results_simp
  rfl

/-- The weight's two halves, at an index. -/
theorem entry_halves (a : Fin 2) (k : Fin 512) (e : Fin 1024) :
    (V m c main_v1 : Vec Ideal S2x512x1024 .bf16) (ix3 a k e) = argW m c (ix2 ⟨a.val * 512 + k.val, by omega⟩ e) := by
  unfold V
  after_results_simp
  pointwise
  blk_ext

/-- Where the windows of a tile start. -/
theorem origin : ∀ t : Fin cfg0.N, win0_0.index t = ![t.val, 0] ∧ win0_1.index t = ![t.val, 0]
    ∧ win0_2.index t = ![t.val, 0] ∧ win0_3.index t = ![0, 0, 0] ∧ win0_4.index t = ![0, 0] ∧ win0_5.index t = ![0, 0]
    ∧ win0_6.index t = ![t.val, 0] ∧ win0_7.index t = ![t.val, 0] ∧ win0_8.index t = ![t.val, 0] :=
  (by decide +kernel : ∀ t : Fin grid0.N, _)

theorem tiles (t : Fin cfg0.N) : t.val < 8 := t.isLt

/-- Row `r` of tile `t`. -/
def rowAt (t : Fin cfg0.N) (r : Fin 1024) : Fin 8192 := ⟨t.val * 1024 + r.val, by have := tiles t; omega⟩

theorem window0 (t : Fin cfg0.N) (r k : Fin 1024) : (iblk m c 0 t : Vec Ideal S1024x1024 .f32) (ix2 r k)
    = argX m c (ix2 (rowAt t r) k) := by
  unfold rowAt
  blk_ext [iblk, V, origin t]

theorem window1 (t : Fin cfg0.N) (r : Fin 1024) (k : Fin 512) : (iblk m c 1 t : Vec Ideal S1024x512 .bf16) (ix2 r k)
    = argY m c (ix2 (rowAt t r) k) := by
  rw [← entry_left]
  unfold rowAt
  blk_ext [iblk, origin t]

theorem window2 (t : Fin cfg0.N) (r : Fin 1024) (k : Fin 512) : (iblk m c 2 t : Vec Ideal S1024x512 .bf16) (ix2 r k)
    = argZ m c (ix2 (rowAt t r) k) := by
  rw [← entry_right]
  unfold rowAt
  blk_ext [iblk, origin t]

theorem window3 (t : Fin cfg0.N) : iblk m c 3 t = V m c main_v1 := by blk_ext! [iblk, origin t]

theorem window4 (t : Fin cfg0.N) : iblk m c 4 t = argG m c := by blk_ext! [iblk, V, origin t]

theorem window5 (t : Fin cfg0.N) : iblk m c 5 t = V m c main_v4 := by blk_ext! [iblk, origin t]

/-- A tile's row is the reference's. -/
theorem row_eq (t : Fin cfg0.N) (r : Fin 1024) :
    tileRow (iblk m c 0 t) (iblk m c 1 t) (iblk m c 2 t) (iblk m c 3 t) r
      = refRow (argX m c) (argY m c) (argZ m c) (argW m c) (rowAt t r) := by
  funext e
  unfold tileRow refRow mixRow
  rw [window3]
  simp only [window0, window1, window2]
  exact congrArg (argX m c (ix2 (rowAt t r) e) + ·) (congrArg₂ (· + ·)
    (Finset.sum_congr rfl fun k _ => congrArg (_ * ·) (entry_halves m c 0 k e))
    (Finset.sum_congr rfl fun k _ => congrArg (_ * ·) (entry_halves m c 1 k e)))

/-! ## The arrays after the run -/

/-- The kernel ends with the reference's sum. -/
theorem final_sum : (dats m 0 c).arrAt 6 cfg0.N
    = val_main_v2 (F := Ideal) (argX m c) (argY m c) (argZ m c) (argW m c) := by
  refine (dats m 0 c).arrAt_eq_of_covers 6 _ (by decide +kernel) fun t hf y => ?_
  blk_simp
  rw [after0_6]
  obtain ⟨r, e, rfl⟩ : ∃ (r e : Fin 1024), y = ix2 r e := ⟨y 0, y 1, by blk_ext⟩
  have hi : (win0_6.blk t).view.emb (ix2 r e) = ix2 (rowAt t r) e := by blk_ext [rowAt, origin t]
  rw [hi, kernel_sum, row_eq]
  exact (ref_sum _ _ _ _ (rowAt t r) e).symm

/-- The kernel ends with the reference's normed sum. -/
theorem final_norm : (dats m 0 c).arrAt 7 cfg0.N
    = val_main_v15 (F := Ideal) (argX m c) (argY m c) (argZ m c) (argW m c) (argG m c) := by
  refine (dats m 0 c).arrAt_eq_of_covers 7 _ (by decide +kernel) fun t hf y => ?_
  blk_simp
  rw [after0_7]
  obtain ⟨r, e, rfl⟩ : ∃ (r e : Fin 1024), y = ix2 r e := ⟨y 0, y 1, by blk_ext⟩
  have hi : (win0_7.blk t).view.emb (ix2 r e) = ix2 (rowAt t r) e := by blk_ext [rowAt, origin t]
  rw [hi, kernel_norm, row_eq, window4]
  exact (ref_norm _ _ _ _ _ (rowAt t r) e).symm

/-- The kernel ends with the reference's queries. -/
theorem final_prod : (dats m 0 c).arrAt 8 cfg0.N
    = val_main_v17 (F := Ideal) (argX m c) (argY m c) (argZ m c) (argW m c) (argG m c) (argQ m c) := by
  refine (dats m 0 c).arrAt_eq_of_covers 8 _ (by decide +kernel) fun t hf y => ?_
  blk_simp
  rw [after0_8]
  obtain ⟨r, e, rfl⟩ : ∃ (r e : Fin 1024), y = ix2 r e := ⟨y 0, y 1, by blk_ext⟩
  have hi : (win0_8.blk t).view.emb (ix2 r e) = ix2 (rowAt t r) e := by blk_ext [rowAt, origin t]
  rw [hi, kernel_prod, row_eq, window4, window5, entry_query]
  exact (ref_prod _ _ _ _ _ _ (rowAt t r) e).symm

/-- The two programs end with the same arrays. -/
theorem algebraic : Cert.algebraic_OutFwdIdeal_OutFwdRefIdeal := by
  intro m g m' g' _ hagree
  refine ⟨fun c => val_main_v2 (F := Ideal) (argX m c) (argY m c) (argZ m c) (argW m c),
    fun c => val_main_v15 (F := Ideal) (argX m c) (argY m c) (argZ m c) (argW m c) (argG m c),
    fun c => val_main_v17 (F := Ideal) (argX m c) (argY m c) (argZ m c) (argW m c) (argG m c) (argQ m c),
    (θ_run _ _ _).mono (fun r h c => ⟨(h c).1.trans (final_sum m c), (h c).2.1.trans (final_norm m c),
        (h c).2.2.1.trans (final_prod m c), (h c).2.2.2⟩) (Cert.OutFwdIdeal.Value.run_blocks m g),
    (θ_run _ _ _).mono (fun r h c => ?_) (Cert.OutFwdRefIdeal.Value.run m' g')⟩
  obtain ⟨a0, a1, a2, a3, a4, a5⟩ := hagree c
  refine ⟨(h c).1.trans ?_, (h c).2.1.trans ?_, (h c).2.2.1.trans ?_, (h c).2.2.2⟩
  · rw [val_main_v2_eq, a0, a1, a2, a3]
  · rw [val_main_v15_eq, a0, a1, a2, a3, a4]
  · rw [val_main_v17_eq, a0, a1, a2, a3, a4, a5]

end Cert.OutFwdProof
-- ==== Proof.OutFwdFrames.lean ====
/- The three frames of the output and query projections' forward pair. -/
module

public import proofs.«01_k».proof.Proof.Gen.OutFwd.Frame
public import proofs.«01_k».proof.Proof.Gen.OutFwdIdeal.Frame
public import proofs.«01_k».proof.Proof.Gen.OutFwdRefIdeal.Run
public import proofs.«01_k».proof.Proof.OutFwdValue
public import Idealize.ShloMosaic.Lib.Claim

@[expose] public section

noncomputable section

namespace Cert.OutFwdProof
open Idealize.ShloMosaic Idealize.ShloMosaic.TcCoe Idealize.SL.Sem

/-- The call as it is compiled keeps its arguments. -/
theorem frame_kernel : Cert.quiescent_OutFwd := fun m ρ _ => Cert.OutFwd.Gen.frame m ρ

/-- So does the call over the reals. -/
theorem frame_ideal : Cert.quiescent_OutFwdIdeal := fun m ρ _ => Cert.OutFwdIdeal.Gen.frame m ρ

/-- So does the reference, which has no semaphore. -/
theorem frame_reference : Cert.quiescent_OutFwdRefIdeal := fun m ρ _ =>
  (θ_run _ _ _).mono (fun r h => ⟨fun c => (h c).2.2.2, funext fun s => nomatch s⟩) (Cert.OutFwdRefIdeal.Value.run m ρ)

end Cert.OutFwdProof
-- ==== Proof.ConfFwdTile.lean ====
/-
  What a grid point of the convolution module's forward call computes from its tile and the 32 rows above it.

  Copy q of a tile is the tile moved down by q rows, so that every tap's load starts at a multiple of eight rows.
-/
module

public import proofs.«01_k».proof.Proof.ConfRow
public import proofs.«01_k».proof.Proof.Gen.ConfFwdIdeal.Frame
public import Idealize.ShloMosaic.Lib.Pipeline.ValueKit
public import Idealize.ShloMosaic.Lib.Pointwise
public import Idealize.ShloMosaic.Lib.Pipeline.ReadBack
public import Idealize.ShloMosaic.Lib.WritesUnit
public import Idealize.ShloMosaic.Lib.KernelVsHost

@[expose] public section

set_option maxRecDepth 16384

noncomputable section

namespace Cert.ConfFwdProof
open Cert.ConfFwdIdeal Cert.ConfFwdIdeal.Gen Cert.ConfProof
open Idealize.ShloMosaic Idealize.ShloMosaic.TcCoe Idealize.SL.Sem

/-! ## The tile and the rows above it -/

/-- A tile's gated product. -/
def own (a b : Vec Ideal S1x512x512 .f32) (i e : Fin 512) : EReal := a (ix3 0 i e) * sgm (b (ix3 0 i e))

/-- The gated product under the 32 rows above it. -/
def under (D : Fin 32 → Fin 512 → EReal) (a b : Vec Ideal S1x512x512 .f32) (i : Fin 544) (e : Fin 512) : EReal :=
  if h : i.val < 32 then D ⟨i, h⟩ e else own a b ⟨i - 32, by omega⟩ e

/-- The convolution of those rows. -/
def convOf (X : Fin 544 → Fin 512 → EReal) (w : Vec Ideal S31x512 .f32) (b : Vec Ideal S1x512 .f32) (r e : Fin 512) : EReal :=
  (∑ s ∈ Finset.range 31, w (ix2 ⟨30 - s, by omega⟩ e) * X ⟨32 + r - s, by omega⟩ e) + b (ix2 0 e)

theorem at_own (a b : Vec Ideal S1x512x512 .f32) (i e : Fin 512) : k0_pay4 a b (ix2 i e) = own a b i e := by
  pointwise [own, sgm, k0_pay4]

theorem at_tail (D : Vec Ideal S32x512 .f32) (i : Fin 32) (e : Fin 512) : k0_pay2 D (ix2 i e) = D (ix2 i e) := by
  pointwise [k0_pay2]

/-- The rows a point's store of its tile leaves above whatever was there. -/
theorem rows_under (f : (View.whole cc0_scratch0).ty.Contents (Elt Ideal)) (a b : Vec Ideal S1x512x512 .f32) (inb) (L)
    (D : Fin 32 → Fin 512 → EReal) (hD : ∀ (i : Fin 32) (e : Fin 512), (View.whole cc0_scratch0).read (Elt Ideal)
      ((View.whole cc0_scratch0).writes (Elt Ideal) f L) (ix2 ⟨i, by omega⟩ e) = D i e) (i : Fin 544) (e : Fin 512) :
    (View.whole cc0_scratch0).read (Elt Ideal) ((View.whole cc0_scratch0).writes (Elt Ideal) f
      (⟨Rect.unit (s := S544x512) ![32, 0] ![512, 512] inb, k0_pay4 a b⟩ :: L)) (ix2 i e) = under D a b i e := by
  unfold under
  by_cases h : i.val < 32
  · rw [dif_pos h, ← hD]
    exact View.read_writes_cons_unit_of_not_mem (s := S544x512) _ _ inb _ _ _ rfl 0 (by left; simp; omega)
  · rw [dif_neg h, ← at_own]
    exact View.read_writes_cons_unit_of_mem (s := S544x512) _ _ inb _ _ _ (ix2 ⟨i - 32, by omega⟩ e) rfl
      (fun a => by fin_cases a <;> simp; omega)

/-! ## The copies moved down -/

section
variable (X : Vec Ideal S544x512 .f32) (i : Fin 536) (e : Fin 512)

/-- Copy `q` of a tile. -/
abbrev copyOf (q : Fin 8) : Vec Ideal S1x536x512 .f32 :=
  (![k0_pay5 X, k0_pay6 X, k0_pay8 (k0_pay7 X), k0_pay9 X, k0_pay10 X, k0_pay11 X, k0_pay12 X, k0_pay13 X] :
    Fin 8 → Vec Ideal S1x536x512 .f32) q

theorem at_copy (q : Fin 8) : copyOf X q (ix3 0 i e) = X (ix2 ⟨8 + i - q, by omega⟩ e) := by
  fin_cases q
  · show k0_pay5 X (ix3 0 i e) = _
    pointwise [k0_pay5]
  · show k0_pay6 X (ix3 0 i e) = _
    pointwise [k0_pay6]
    exact congrArg X (congrArg (fun p => ix2 p e) (Fin.ext (by dsimp only; omega)))
  · show k0_pay8 (k0_pay7 X) (ix3 0 i e) = _
    pointwise [k0_pay8, k0_pay7]
    exact congrArg X (congrArg (fun p => ix2 p e) (Fin.ext (by dsimp only; omega)))
  · show k0_pay9 X (ix3 0 i e) = _
    pointwise [k0_pay9]
    exact congrArg X (congrArg (fun p => ix2 p e) (Fin.ext (by dsimp only; omega)))
  · show k0_pay10 X (ix3 0 i e) = _
    pointwise [k0_pay10]
    exact congrArg X (congrArg (fun p => ix2 p e) (Fin.ext (by dsimp only; omega)))
  · show k0_pay11 X (ix3 0 i e) = _
    pointwise [k0_pay11]
    exact congrArg X (congrArg (fun p => ix2 p e) (Fin.ext (by dsimp only; omega)))
  · show k0_pay12 X (ix3 0 i e) = _
    pointwise [k0_pay12]
    exact congrArg X (congrArg (fun p => ix2 p e) (Fin.ext (by dsimp only; omega)))
  · show k0_pay13 X (ix3 0 i e) = _
    pointwise [k0_pay13]
    exact congrArg X (congrArg (fun p => ix2 p e) (Fin.ext (by dsimp only; omega)))

end

/-- A load of 512 rows from copy `q` reads the tile `q` rows further up. -/
theorem copy_read (X : Vec Ideal S544x512 .f32) (i0 i1 i2 i3 i4 i5 i6 i7) (L : List (View.Piece (Elt Ideal) S8x536x512 .f32))
    (q o : ℕ) (hq : q < 8) (ho : o + 512 ≤ 536) (inb) (r e : Fin 512) :
    (View.whole cc0_scratch1).readCov (Val := Elt Ideal)
      (⟨Rect.unit (s := S8x536x512) ![7, 0, 0] ![1, 536, 512] i7, k0_pay13 X⟩
        :: ⟨Rect.unit (s := S8x536x512) ![6, 0, 0] ![1, 536, 512] i6, k0_pay12 X⟩
        :: ⟨Rect.unit (s := S8x536x512) ![5, 0, 0] ![1, 536, 512] i5, k0_pay11 X⟩
        :: ⟨Rect.unit (s := S8x536x512) ![4, 0, 0] ![1, 536, 512] i4, k0_pay10 X⟩
        :: ⟨Rect.unit (s := S8x536x512) ![3, 0, 0] ![1, 536, 512] i3, k0_pay9 X⟩
        :: ⟨Rect.unit (s := S8x536x512) ![2, 0, 0] ![1, 536, 512] i2, k0_pay8 (k0_pay7 X)⟩
        :: ⟨Rect.unit (s := S8x536x512) ![1, 0, 0] ![1, 536, 512] i1, k0_pay6 X⟩
        :: ⟨Rect.unit (s := S8x536x512) ![0, 0, 0] ![1, 536, 512] i0, k0_pay5 X⟩
        :: L)
      (Rect.unit (s := S8x536x512) ![q, o, 0] ![1, 512, 512] inb).toLoadRect (ix3 0 r e) = X (ix2 ⟨8 + o + r - q, by omega⟩ e) := by
  refine Eq.trans (b := copyOf X ⟨q, hq⟩ (ix3 0 ⟨o + r, by omega⟩ e)) ?_
    ((at_copy X _ e _).trans (congrArg X (congrArg (fun p => ix2 p e) (Fin.ext (by dsimp only; omega)))))
  rw [View.readCov, View.readAt_apply]
  interval_cases q
  all_goals
    repeat' first
      | exact View.read_writes_cons_unit_of_mem (s := S8x536x512) _ _ _ _ _ _ (ix3 0 ⟨o + r, by omega⟩ e) rfl (fun a => by fin_cases a <;> simp [LoadRect.idx_apply])
      | refine (View.read_writes_cons_unit_of_not_mem (s := S8x536x512) _ _ _ _ _ _ rfl 0 (by left; simp [LoadRect.idx_apply])).trans ?_

/-! ## The norm and the gate -/

section
variable (v218 v221 v222 : Vec Ideal S512x512 .f32) (v225 : Vec Ideal S1x512 .f32) (v226 : Vec Ideal S1x512x512 .f32) (v231 : Vec Ideal S1x512 .f32)
  (v232 : Vec Ideal S1x512x512 .f32) (v237 : Vec Ideal S1x512 .f32) (v238 : Vec Ideal S1x512x512 .f32) (v243 g b : Vec Ideal S1x512 .f32)

/-- The second result, from a row of the first. -/
theorem at_gate (y : Fin 512 → EReal) (r e : Fin 512)
    (hy : ∀ k, k0_pay22 v218 v221 v222 v225 v226 v231 v232 v237 v238 v243 (ix2 r k) = y k) :
    k0_pay1 (k0_pay23 v218 v221 v222 v225 v226 v231 v232 v237 v238 v243) (k0_pay24 v218 v221 v222 v225 v226 v231 v232 v237 v238 v243)
      (Scalar.ofBits .f32 0x358637BD#32) g b (ix2 r e)
      = normed y (fun k => g (ix2 0 k)) (fun k => b (ix2 0 k)) e * sgm (normed y (fun k => g (ix2 0 k)) (fun k => b (ix2 0 k)) e) := by
  have hd (k : Fin 512) : k0_pay23 v218 v221 v222 v225 v226 v231 v232 v237 v238 v243 (ix2 r k) = dev y k := by
    unfold dev mean
    simp only [← hy]
    pointwise [k0_pay23]
  have hs : k0_pay24 v218 v221 v222 v225 v226 v231 v232 v237 v238 v243 (ix2 r 0) = mean fun k => dev y k * dev y k := by
    unfold mean
    simp only [← hd]
    pointwise [k0_pay24]
  unfold normed xhat rstd spread
  rw [← hs]
  simp only [← hd]
  pointwise [k0_pay1, sgm]

end

end Cert.ConfFwdProof
-- ==== Proof.ConfFwdPoint.lean ====
/-
  What each grid point of the convolution module's forward call leaves, from its windows alone: the rows it carries to the
  next point are the last 32 of its gated product.
-/
module

public import proofs.«01_k».proof.Proof.ConfFwdTile

@[expose] public section

set_option maxRecDepth 16384

noncomputable section

namespace Cert.ConfFwdProof
open Cert.ConfFwdIdeal Cert.ConfFwdIdeal.Gen Cert.ConfProof
open Idealize.ShloMosaic Idealize.ShloMosaic.TcCoe Idealize.SL.Sem

variable (m : (ℓ : Loc nD τ sig) → Buf (Elt Ideal) ℓ) (c : Dev nD) (t : Fin cfg0.N)

/-- What the point before left. -/
abbrev before := outsAt0 m c (t.val - 1) (Nat.lt_of_le_of_lt (Nat.sub_le _ _) t.isLt)

/-- The rows carried on are the tile's last ones. -/
theorem tail_read (a b : Vec Ideal S1x512x512 .f32) (inb) (inb') (inb'') (L L' : List (View.Piece (Elt Ideal) S544x512 .f32)) (i : Fin 32) (e : Fin 512) :
    (View.canon (⟨Rect.unit (s := S544x512) ![0, 0] ![32, 512] inb, k0_pay2 ((View.whole cc0_scratch0).readCov (Val := Elt Ideal)
      (⟨Rect.unit (s := S544x512) ![32, 0] ![512, 512] inb', k0_pay4 a b⟩ :: L) (Rect.unit (s := S544x512) ![512, 0] ![32, 512] inb'').toLoadRect)⟩ :: L')
      (ix2 ⟨i, by omega⟩ e) : EReal) = own a b ⟨480 + i, by omega⟩ e := by
  refine (congrArg _ ?_).trans ((View.canon_cons_emb (Rect.unit (s := S544x512) ![0, 0] ![32, 512] inb) _ L' (ix2 i e)).trans ?_)
  · exact funext fun a => Fin.ext (by fin_cases a <;> simp)
  · rw [at_tail, ← at_own, View.readCov, View.readAt_apply]
    exact View.read_writes_cons_unit_of_mem (s := S544x512) _ _ inb' _ _ _ (ix2 ⟨480 + i, by omega⟩ e) rfl
      (fun a => by fin_cases a <;> simp [LoadRect.idx_apply]; omega)

set_option maxHeartbeats 1000000 in
theorem conv_next (h : ¬ t.val % 16 = 0) (r e : Fin 512) : (outsAt0 m c t.val t.isLt).1 (ix2 r e)
    = convOf (under (fun i e => (before m c t).2.2 (ix2 ⟨i, by omega⟩ e)) (iblk m c 0 t) (iblk m c 1 t)) (iblk m c 2 t) (iblk m c 3 t) r e := by
  rw [outsAt0_B m c t h]
  simp only [out0_B_6]
  unfold before
  generalize outsAt0 m c (t.val - 1) _ = p
  obtain ⟨p6, p7, D⟩ := p
  frame_out
  generalize hX : View.read (Elt Ideal) (View.whole cc0_scratch0) ((View.whole cc0_scratch0).writes (Elt Ideal) _ [_]) = X
  have gX (i : Fin 544) (e : Fin 512) : X (ix2 i e) = under (fun i e => D (ix2 ⟨i, by omega⟩ e)) (iblk m c 0 t) (iblk m c 1 t) i e := by
    rw [← hX]
    exact rows_under _ _ _ _ _ _ (fun i e => congrFun (Memref.IsWhole.read_unread _ D) _) i e
  clear hX
  generalize hL : ([_, _, _, _, _, _, _, _] : List (View.Piece (Elt Ideal) S8x536x512 .f32)) = L
  have gL (q o : ℕ) (hq : q < 8) (ho : o + 512 ≤ 536) (inb) (r : Fin 512) :
      (View.whole cc0_scratch1).readCov (Val := Elt Ideal) L (Rect.unit (s := S8x536x512) ![q, o, 0] ![1, 512, 512] inb).toLoadRect (ix3 0 r e)
        = under (fun i e => D (ix2 ⟨i, by omega⟩ e)) (iblk m c 0 t) (iblk m c 1 t) ⟨8 + o + r - q, by omega⟩ e := by
    rw [← gX, ← hL]
    exact copy_read X _ _ _ _ _ _ _ _ [] q o hq ho inb r e
  clear hL
  unfold convOf
  simp only [Finset.sum_range_succ, Finset.sum_range_zero, zero_add]
  pointwise [k0_pay14, k0_pay15, k0_pay16, k0_pay17, k0_pay18, k0_pay19, k0_pay20, k0_pay21, k0_pay22]
  refine congrArg₂ (fun p q : EReal => p + q) ?_ rfl
  iterate 30 refine congrArg₂ (fun p q : EReal => p + q) ?_ ?_
  all_goals
    refine congrArg₂ (fun p q : EReal => p * q) rfl ((gL _ _ (by decide) (by decide) _ r).trans ?_)
    exact congrArg (fun i => under _ _ _ i e) (Fin.ext (by dsimp only <;> omega))

set_option maxHeartbeats 1000000 in
theorem conv_first (h : t.val % 16 = 0) (r e : Fin 512) : (outsAt0 m c t.val t.isLt).1 (ix2 r e)
    = convOf (under (fun _ _ => 0) (iblk m c 0 t) (iblk m c 1 t)) (iblk m c 2 t) (iblk m c 3 t) r e := by
  rw [outsAt0_A m c t h]
  simp only [out0_A_6]
  frame_out
  generalize hX : View.readCov (Val := Elt Ideal) (View.whole cc0_scratch0) [_, _] _ = X
  have gX (i : Fin 544) (e : Fin 512) : X (ix2 i e) = under (fun _ _ => 0) (iblk m c 0 t) (iblk m c 1 t) i e := by
    rw [← hX]
    refine Eq.trans (b := View.read (Elt Ideal) (View.whole cc0_scratch0) ((View.whole cc0_scratch0).writes (Elt Ideal) (View.whole cc0_scratch0).junk
      [⟨Rect.unit (s := S544x512) ![32, 0] ![512, 512] inb_S544x512_S512x512_32_0, k0_pay4 (iblk m c 0 t) (iblk m c 1 t)⟩,
        ⟨Rect.unit (s := S544x512) ![0, 0] ![32, 512] inb_S544x512_S32x512_0_0, k0_pay3 (F := Ideal)⟩]) (ix2 i e)) ?_ (rows_under _ _ _ _ _ _ (fun i e => ?_) i e)
    · rw [View.readCov, View.readAt_apply]
      exact congrArg _ (funext fun a => Fin.ext (by fin_cases a <;> simp [LoadRect.idx_apply]))
    · refine (View.read_writes_cons_unit_of_mem (s := S544x512) _ _ inb_S544x512_S32x512_0_0 _ _ _ (ix2 i e) rfl
        (fun a => by fin_cases a <;> simp)).trans (by pointwise [k0_pay3])
  clear hX
  generalize hL : ([_, _, _, _, _, _, _, _] : List (View.Piece (Elt Ideal) S8x536x512 .f32)) = L
  have gL (q o : ℕ) (hq : q < 8) (ho : o + 512 ≤ 536) (inb) (r : Fin 512) :
      (View.whole cc0_scratch1).readCov (Val := Elt Ideal) L (Rect.unit (s := S8x536x512) ![q, o, 0] ![1, 512, 512] inb).toLoadRect (ix3 0 r e)
        = under (fun _ _ => 0) (iblk m c 0 t) (iblk m c 1 t) ⟨8 + o + r - q, by omega⟩ e := by
    rw [← gX, ← hL]
    exact copy_read X _ _ _ _ _ _ _ _ [] q o hq ho inb r e
  clear hL
  unfold convOf
  simp only [Finset.sum_range_succ, Finset.sum_range_zero, zero_add]
  pointwise [k0_pay14, k0_pay15, k0_pay16, k0_pay17, k0_pay18, k0_pay19, k0_pay20, k0_pay21, k0_pay22]
  refine congrArg₂ (fun p q : EReal => p + q) ?_ rfl
  iterate 30 refine congrArg₂ (fun p q : EReal => p + q) ?_ ?_
  all_goals
    refine congrArg₂ (fun p q : EReal => p * q) rfl ((gL _ _ (by decide) (by decide) _ r).trans ?_)
    exact congrArg (fun i => under _ _ _ i e) (Fin.ext (by dsimp only <;> omega))

theorem tail_next (h : ¬ t.val % 16 = 0) (i : Fin 32) (e : Fin 512) : (outsAt0 m c t.val t.isLt).2.2 (ix2 ⟨i, by omega⟩ e)
    = own (iblk m c 0 t) (iblk m c 1 t) ⟨480 + i, by omega⟩ e := by
  rw [outsAt0_B m c t h]
  simp only [sout0_B_0]
  generalize outsAt0 m c (t.val - 1) _ = p
  obtain ⟨p6, p7, D⟩ := p
  frame_out
  exact tail_read _ _ _ _ _ _ _ i e

theorem tail_first (h : t.val % 16 = 0) (i : Fin 32) (e : Fin 512) : (outsAt0 m c t.val t.isLt).2.2 (ix2 ⟨i, by omega⟩ e)
    = own (iblk m c 0 t) (iblk m c 1 t) ⟨480 + i, by omega⟩ e := by
  rw [outsAt0_A m c t h]
  simp only [sout0_A_0]
  frame_out
  exact tail_read _ _ _ _ _ _ _ i e

theorem gate_next (h : ¬ t.val % 16 = 0) (y : Fin 512 → EReal) (r e : Fin 512) (hy : ∀ k, (outsAt0 m c t.val t.isLt).1 (ix2 r k) = y k) :
    (outsAt0 m c t.val t.isLt).2.1 (ix2 r e)
      = normed y (fun k => iblk m c 4 t (ix2 0 k)) (fun k => iblk m c 5 t (ix2 0 k)) e
        * sgm (normed y (fun k => iblk m c 4 t (ix2 0 k)) (fun k => iblk m c 5 t (ix2 0 k)) e) := by
  revert hy
  rw [outsAt0_B m c t h]
  simp only [out0_B_6, out0_B_7]
  generalize outsAt0 m c (t.val - 1) _ = p
  obtain ⟨p6, p7, D⟩ := p
  intro hy
  frame_out
  refine at_gate _ _ _ _ _ _ _ _ _ _ _ _ y r e fun k => Eq.trans ?_ (hy k)
  symm
  frame_out

theorem gate_first (h : t.val % 16 = 0) (y : Fin 512 → EReal) (r e : Fin 512) (hy : ∀ k, (outsAt0 m c t.val t.isLt).1 (ix2 r k) = y k) :
    (outsAt0 m c t.val t.isLt).2.1 (ix2 r e)
      = normed y (fun k => iblk m c 4 t (ix2 0 k)) (fun k => iblk m c 5 t (ix2 0 k)) e
        * sgm (normed y (fun k => iblk m c 4 t (ix2 0 k)) (fun k => iblk m c 5 t (ix2 0 k)) e) := by
  revert hy
  rw [outsAt0_A m c t h]
  simp only [out0_A_6, out0_A_7]
  intro hy
  frame_out
  refine at_gate _ _ _ _ _ _ _ _ _ _ _ _ y r e fun k => Eq.trans ?_ (hy k)
  symm
  frame_out

end Cert.ConfFwdProof
-- ==== Proof.ConfFwdRef.lean ====
/-
  The reference's stages for the convolution module's forward call, in plain index notation: the gated product, the
  convolution as a sum over its 31 taps, and the norm with the gate behind it.
-/
module

public import proofs.«01_k».proof.Proof.ConfRow
public import proofs.«01_k».proof.Proof.Gen.ConfFwdRefIdeal.Run
public import proofs.«01_k».proof.Proof.Gen.ConfFwdRefIdeal.Read
public import Idealize.ShloMosaic.Lib.Pipeline.ValueKit
public import Idealize.ShloMosaic.Lib.Pointwise

@[expose] public section

set_option maxRecDepth 16384

noncomputable section

namespace Cert.ConfFwdRef
open Cert.ConfFwdRefIdeal Cert.ConfFwdRefIdeal.Gen Cert.ConfFwdRefIdeal.Read Cert.ConfProof
open Idealize.ShloMosaic

/-- The two forms of the logistic function agree everywhere. -/
theorem sgm_eq (x : EReal) : sgm x = lgs x := by
  induction x with
  | coe r => exact sgm_lgs ⟨r, rfl⟩
  | top =>
    have h : ((1 / 2 : ℝ) : EReal) * ⊤ = ⊤ := EReal.coe_mul_top_of_pos (by norm_num)
    unfold sgm lgs
    rw [const_half, const_one, h, EReal.neg_top, show Ideal.exp ⊥ = 0 from rfl, Ideal.tanh_top, add_zero, Ideal.div_coe one_ne_zero]
    norm_cast
    norm_num
  | bot =>
    have h : ((1 / 2 : ℝ) : EReal) * ⊥ = ⊥ := EReal.coe_mul_bot_of_pos (by norm_num)
    unfold sgm lgs
    rw [const_half, const_one, h, EReal.neg_bot, show Ideal.exp ⊤ = ⊤ from rfl, EReal.coe_add_top, show Ideal.tanh ⊥ = ((-1 : ℝ) : EReal) from rfl]
    refine Eq.trans (b := 0) (by norm_cast; norm_num) ?_
    simp [Ideal.div]

/-- Column `e` of column block `q`. -/
def colAt (q : Fin 4) (e : Fin 512) : Fin 2048 := ⟨512 * q + e, by omega⟩

variable (x0 : Vec Ideal S8192x2048 .f32) (x1 : Vec Ideal S31x512 .f32) (x2 x3 x4 : Vec Ideal S1x512 .f32)

/-- The gated product. -/
def refP (s : Fin 8192) (e : Fin 512) : EReal := x0 (ix2 s (colAt 2 e)) * lgs (x0 (ix2 s (colAt 3 e)))

/-- The gated product, thirty rows of zeros before it. -/
def refC (p : ℕ) (e : Fin 512) : EReal := if h : 30 ≤ p ∧ p < 8222 then refP x0 ⟨p - 30, by omega⟩ e else 0

/-- The convolution's output. -/
def refX (s : Fin 8192) (e : Fin 512) : EReal :=
  (∑ t ∈ Finset.range 31, x1 (ix2 ⟨min t 30, by omega⟩ e) * refC x0 (s.val + t) e) + x2 (ix2 0 e)

theorem ref_gated (s : Fin 8192) (e : Fin 512) : val_main_v8 (F := Ideal) x0 (ix2 s e) = refP x0 s e := by
  simp only [val_main_v8_apply, val_main_v0_apply, val_main_v7_apply, val_main_v6_apply, val_main_v5_apply, val_main_v4_apply,
    val_main_v3_apply, val_main_v2_apply, val_main_v1_apply, val_main_cst_apply, val_main_cst_0_apply]
  have h2 : idx_main_v0 (ix2 s e) = ix2 s (colAt 2 e) := by blk_ext [colAt]
  have h3 : idx_main_v1 (ix2 s e) = ix2 s (colAt 3 e) := by blk_ext [colAt]
  rw [h2, h3]
  rfl

theorem ref_padded (p : Fin 8222) (e : Fin 512) : val_main_v10 (F := Ideal) x0 (ix2 p e) = refC x0 p e := by
  unfold refC
  pointwise [val_main_v10, val_main_v9, val_main_cst_1]
  by_cases h : p.val < 30
  · rw [dif_pos h, dif_neg (by omega)]
  · rw [dif_neg h, dif_pos (by omega)]
    exact ref_gated x0 _ _

theorem add_at {x y : FVec Ideal S8192x512 .f32} {i : S8192x512.Idx} {a b : EReal} (hx : x i = a) (hy : y i = b) :
    addf x y i = a + b := congrArg₂ (fun p q : EReal => p + q) hx hy

/-- One tap of the convolution. -/
theorem tap_at (P : FVec Ideal S8222x512 .f32) (n : ℕ) (hn : n < 31) (hb) (hw) (hp) (s : Fin 8192) (e : Fin 512) :
    mulf (broadcastInDim S8192x512 ![0, 1] hb (extractStridedSlice S1x512 ![n, 0] x1 hw)) (extractStridedSlice S8192x512 ![n, 0] P hp) (ix2 s e)
      = x1 (ix2 ⟨min n 30, by omega⟩ e) * P (ix2 ⟨s.val + n, by omega⟩ e) := by
  pointwise []
  refine congrArg₂ (fun p q => x1 (ix2 p e) * P (ix2 q e)) (Fin.ext ?_) (Fin.ext ?_) <;> dsimp only <;> omega

theorem ref_row (s : Fin 8192) (e : Fin 512) : val_main_v166 (F := Ideal) x0 x1 x2 (ix2 s e) = refX x0 x1 x2 s e := by
  unfold refX
  refine add_at ?_ (by pointwise [val_main_v165])
  simp only [Finset.sum_range_succ, Finset.sum_range_zero, zero_add]
  repeat' first
    | exact (tap_at x1 (val_main_v10 (F := Ideal) x0) _ (by decide) _ _ _ s e).trans (congrArg (_ * ·) (ref_padded x0 _ e))
    | refine add_at ?_ ?_

theorem ref_dev (s : Fin 8192) (e : Fin 512) : val_main_v172 (F := Ideal) x0 x1 x2 (ix2 s e) = dev (refX x0 x1 x2 s) e := by
  pointwise [dev, mean, val_main_v172, val_main_v171, val_main_v170, val_main_v169, val_main_v168, val_main_v167, val_main_cst_2, val_main_cst_3, ref_row]

theorem ref_rstd (s : Fin 8192) : val_main_v180 (F := Ideal) x0 x1 x2 (ix2 s 0) = rstd (refX x0 x1 x2 s) := by
  pointwise [rstd, spread, mean, val_main_v180, val_main_v179, val_main_v178, val_main_v177, val_main_v176, val_main_v175, val_main_v174,
    val_main_v173, val_main_cst_4, val_main_cst_5, val_main_cst_6, ref_dev]

theorem ref_normed (s : Fin 8192) (e : Fin 512) : val_main_v186 (F := Ideal) x0 x1 x2 x3 x4 (ix2 s e)
    = normed (refX x0 x1 x2 s) (fun k => x3 (ix2 0 k)) (fun k => x4 (ix2 0 k)) e := by
  pointwise [normed, xhat, val_main_v186, val_main_v185, val_main_v184, val_main_v183, val_main_v182, val_main_v181, ref_dev, ref_rstd]

/-- The reference's second result. -/
theorem ref_gate (s : Fin 8192) (e : Fin 512) : val_main_v188 (F := Ideal) x0 x1 x2 x3 x4 (ix2 s e)
    = normed (refX x0 x1 x2 s) (fun k => x3 (ix2 0 k)) (fun k => x4 (ix2 0 k)) e
      * lgs (normed (refX x0 x1 x2 s) (fun k => x3 (ix2 0 k)) (fun k => x4 (ix2 0 k)) e) := by
  pointwise [lgs, val_main_v188, val_main_v187, val_main_call0_v5, val_main_call0_v4, val_main_call0_v3, val_main_call0_v2, val_main_call0_v1,
    val_main_call0_v0, val_main_call0_cst, val_main_call0_cst_0, ref_normed]

end Cert.ConfFwdRef
-- ==== Proof.ConfFwdValue.lean ====
/-
  The convolution module's forward call against its lines in plain array operations.

  Each grid point takes 512 rows and finds the last 32 rows of the gated product of the point before in its scratch; the
  first finds zeros there. The reference puts thirty rows of zeros before the whole product.
-/
module

public import proofs.«01_k».proof.Proof.ConfFwdPoint
public import proofs.«01_k».proof.Proof.ConfFwdRef
public import proofs.«01_k».proof.Proof.Gen.ConfFwdIdeal.Value
public import proofs.«01_k».proof.Proof.Gen.ConfFwdRefIdeal.Read
public import proofs.«01_k».proof.Proof.Gen.ConfFwdRefIdeal.Run
public import proofs.«01_k».proof.Defs
public import Idealize.ShloMosaic.Lib.Claim
public import Idealize.ShloMosaic.Lib.StableHlo.ReadAt

@[expose] public section

set_option maxRecDepth 16384

noncomputable section

namespace Cert.ConfFwdProof
open Cert.ConfFwdIdeal Cert.ConfFwdIdeal.Gen Cert.ConfFwdRefIdeal.Read Cert.ConfProof Cert.ConfFwdRef
open Idealize.ShloMosaic Idealize.ShloMosaic.TcCoe Idealize.SL.Sem

variable (m : (ℓ : Loc nD τ sig) → Buf (Elt Ideal) ℓ) (c : Dev nD) (t : Fin cfg0.N)

/-! ## What the windows hold -/

/-- The first product, the taps, their bias, and the norm's scale and shift. -/
abbrev argZ : Vec Ideal S8192x2048 .f32 := m (c.tc.loc main_arg0)
abbrev argW : Vec Ideal S31x512 .f32 := m (c.tc.loc main_arg1)
abbrev argB : Vec Ideal S1x512 .f32 := m (c.tc.loc main_arg2)
abbrev argG : Vec Ideal S1x512 .f32 := m (c.tc.loc main_arg3)
abbrev argH : Vec Ideal S1x512 .f32 := m (c.tc.loc main_arg4)

/-- The host's stack of the column blocks, at an index. -/
theorem entry_stack (q : Fin 4) (s : Fin 8192) (e : Fin 512) :
    (V m c main_v8 : Vec Ideal S4x8192x512 .f32) (ix3 q s e) = argZ m c (ix2 s (colAt q e)) := by
  unfold V colAt
  after_results_simp
  pointwise
  obtain rfl | rfl | rfl | rfl : q = 0 ∨ q = 1 ∨ q = 2 ∨ q = 3 := by omega
  all_goals
    simp
    after_results_simp
    pointwise
    blk_ext

/-- Where the windows of a grid point start. -/
theorem origin : ∀ t : Fin cfg0.N, win0_0.index t = ![2, t.val, 0] ∧ win0_1.index t = ![3, t.val, 0]
    ∧ win0_2.index t = ![0, 0] ∧ win0_3.index t = ![0, 0] ∧ win0_4.index t = ![0, 0] ∧ win0_5.index t = ![0, 0]
    ∧ win0_6.index t = ![t.val, 0] ∧ win0_7.index t = ![t.val, 0] :=
  (by decide +kernel : ∀ t : Fin grid0.N, _)

theorem tiles : t.val < 16 := t.isLt

/-- Row `r` of tile `t`. -/
def rowAt (r : Fin 512) : Fin 8192 := ⟨t.val * 512 + r.val, by have := tiles t; omega⟩

theorem window0 (r e : Fin 512) : (iblk m c 0 t : Vec Ideal S1x512x512 .f32) (ix3 0 r e) = argZ m c (ix2 (rowAt t r) (colAt 2 e)) := by
  rw [← entry_stack]
  unfold rowAt
  blk_ext [iblk, origin t]

theorem window1 (r e : Fin 512) : (iblk m c 1 t : Vec Ideal S1x512x512 .f32) (ix3 0 r e) = argZ m c (ix2 (rowAt t r) (colAt 3 e)) := by
  rw [← entry_stack]
  unfold rowAt
  blk_ext [iblk, origin t]

theorem window2 : iblk m c 2 t = argW m c := by blk_ext! [iblk, V, origin t]
theorem window3 : iblk m c 3 t = argB m c := by blk_ext! [iblk, V, origin t]
theorem window4 : iblk m c 4 t = argG m c := by blk_ext! [iblk, V, origin t]
theorem window5 : iblk m c 5 t = argH m c := by blk_ext! [iblk, V, origin t]

/-! ## The convolution's rows -/

/-- A tile's gated product is the reference's. -/
theorem own_eq (r e : Fin 512) : own (iblk m c 0 t) (iblk m c 1 t) r e = refP (argZ m c) (rowAt t r) e := by
  unfold own refP
  rw [window0, window1, sgm_eq]

/-- The rows under a point's load are the reference's, two rows further up. -/
theorem under_eq (D : Fin 32 → Fin 512 → EReal) (hD : ∀ (i : Fin 32) (e : Fin 512), 2 ≤ i.val → D i e = refC (argZ m c) (t.val * 512 + i - 2) e)
    (i : Fin 544) (hi : 2 ≤ i.val) (e : Fin 512) :
    under D (iblk m c 0 t) (iblk m c 1 t) i e = refC (argZ m c) (t.val * 512 + i - 2) e := by
  have := tiles t
  unfold under
  by_cases h : i.val < 32
  · rw [dif_pos h, hD _ _ hi]
  · rw [dif_neg h, own_eq, refC, dif_pos (by omega)]
    exact congrArg (fun s => refP (argZ m c) s e) (Fin.ext (by simp only [rowAt]; omega))

/-- The point's convolution is the reference's: its taps run the other way. -/
theorem conv_eq (D : Fin 32 → Fin 512 → EReal) (hD : ∀ (i : Fin 32) (e : Fin 512), 2 ≤ i.val → D i e = refC (argZ m c) (t.val * 512 + i - 2) e)
    (r e : Fin 512) : convOf (under D (iblk m c 0 t) (iblk m c 1 t)) (iblk m c 2 t) (iblk m c 3 t) r e
      = refX (argZ m c) (argW m c) (argB m c) (rowAt t r) e := by
  unfold convOf refX
  rw [window2, window3, ← Finset.sum_range_reflect]
  refine congrArg (fun p : EReal => p + argB m c (ix2 0 e)) (Finset.sum_congr rfl fun s hs => ?_)
  have hs := Finset.mem_range.1 hs
  rw [under_eq m c t D hD _ (by dsimp only; omega)]
  refine congrArg₂ (fun (p : Fin 31) (n : ℕ) => argW m c (ix2 p e) * refC (argZ m c) n e) (Fin.ext ?_) ?_
  · dsimp only
    omega
  · simp only [rowAt]
    omega

/-- The rows a point leaves for the next. -/
theorem tail_eq (i : Fin 32) (e : Fin 512) : (outsAt0 m c t.val t.isLt).2.2 (ix2 ⟨i, by omega⟩ e)
    = refP (argZ m c) (rowAt t ⟨480 + i, by omega⟩) e := by
  rw [← own_eq]
  by_cases h : t.val % 16 = 0
  · exact tail_first m c t h i e
  · exact tail_next m c t h i e

/-- The tile of the convolution. -/
theorem kernel_conv (r e : Fin 512) : (outsAt0 m c t.val t.isLt).1 (ix2 r e)
    = refX (argZ m c) (argW m c) (argB m c) (rowAt t r) e := by
  have ht := tiles t
  by_cases h : t.val % 16 = 0
  · rw [conv_first m c t h]
    refine conv_eq m c t _ (fun i e hi => ?_) r e
    rw [refC, dif_neg (by omega)]
  · rw [conv_next m c t h]
    refine conv_eq m c t _ (fun i e hi => ?_) r e
    refine (tail_eq m c ⟨t.val - 1, Nat.lt_of_le_of_lt (Nat.sub_le _ _) t.isLt⟩ i e).trans ?_
    rw [refC, dif_pos (by omega)]
    exact congrArg (fun s => refP (argZ m c) s e) (Fin.ext (by simp only [rowAt]; omega))

/-- The tile of the gated norm. -/
theorem kernel_gate (r e : Fin 512) : (outsAt0 m c t.val t.isLt).2.1 (ix2 r e)
    = normed (refX (argZ m c) (argW m c) (argB m c) (rowAt t r)) (fun k => argG m c (ix2 0 k)) (fun k => argH m c (ix2 0 k)) e
      * lgs (normed (refX (argZ m c) (argW m c) (argB m c) (rowAt t r)) (fun k => argG m c (ix2 0 k)) (fun k => argH m c (ix2 0 k)) e) := by
  rw [← sgm_eq, ← window4 m c t, ← window5 m c t]
  by_cases h : t.val % 16 = 0
  · exact gate_first m c t h _ r e (kernel_conv m c t r)
  · exact gate_next m c t h _ r e (kernel_conv m c t r)

/-! ## The arrays after the run -/

/-- The kernel ends with the reference's convolution. -/
theorem final_conv : (dats m 0 c).arrAt 6 cfg0.N = val_main_v166 (F := Ideal) (argZ m c) (argW m c) (argB m c) := by
  refine (dats m 0 c).arrAt_eq_of_covers 6 _ (by decide +kernel) fun t hf y => ?_
  blk_simp
  rw [after0_6]
  obtain ⟨r, e, rfl⟩ : ∃ (r e : Fin 512), y = ix2 r e := ⟨y 0, y 1, by blk_ext⟩
  have hi : (win0_6.blk t).view.emb (ix2 r e) = ix2 (rowAt t r) e := by blk_ext [rowAt, origin t]
  rw [hi, kernel_conv]
  exact (ref_row _ _ _ (rowAt t r) e).symm

/-- The kernel ends with the reference's gated norm. -/
theorem final_gate : (dats m 0 c).arrAt 7 cfg0.N
    = val_main_v188 (F := Ideal) (argZ m c) (argW m c) (argB m c) (argG m c) (argH m c) := by
  refine (dats m 0 c).arrAt_eq_of_covers 7 _ (by decide +kernel) fun t hf y => ?_
  blk_simp
  rw [after0_7]
  obtain ⟨r, e, rfl⟩ : ∃ (r e : Fin 512), y = ix2 r e := ⟨y 0, y 1, by blk_ext⟩
  have hi : (win0_7.blk t).view.emb (ix2 r e) = ix2 (rowAt t r) e := by blk_ext [rowAt, origin t]
  rw [hi, kernel_gate]
  exact (ref_gate _ _ _ _ _ (rowAt t r) e).symm

/-- The two programs end with the same arrays. -/
theorem algebraic : Cert.algebraic_ConfFwdIdeal_ConfFwdRefIdeal := by
  intro m g m' g' _ hagree
  refine ⟨fun c => val_main_v166 (F := Ideal) (argZ m c) (argW m c) (argB m c),
    fun c => val_main_v188 (F := Ideal) (argZ m c) (argW m c) (argB m c) (argG m c) (argH m c),
    (θ_run _ _ _).mono (fun r h c => ⟨(h c).1.trans (final_conv m c), (h c).2.1.trans (final_gate m c), (h c).2.2⟩)
      (Cert.ConfFwdIdeal.Value.run_blocks m g),
    (θ_run _ _ _).mono (fun r h c => ?_) (Cert.ConfFwdRefIdeal.Value.run m' g')⟩
  obtain ⟨a0, a1, a2, a3, a4⟩ := hagree c
  refine ⟨(h c).1.trans ((val_main_v166_eq _).trans ?_), (h c).2.1.trans ((val_main_v188_eq _).trans ?_), (h c).2.2⟩
  · exact congr (congr (congrArg (val_main_v166 (F := Ideal)) a0) a1) a2
  · exact congr (congr (congr (congr (congrArg (val_main_v188 (F := Ideal)) a0) a1) a2) a3) a4

end Cert.ConfFwdProof
-- ==== Proof.ConfFwdFrames.lean ====
/- The three frames of the convolution module's forward call. -/
module

public import proofs.«01_k».proof.Proof.Gen.ConfFwd.Frame
public import proofs.«01_k».proof.Proof.Gen.ConfFwdIdeal.Frame
public import proofs.«01_k».proof.Proof.Gen.ConfFwdRefIdeal.Run
public import proofs.«01_k».proof.Proof.ConfFwdValue
public import Idealize.ShloMosaic.Lib.Claim

@[expose] public section

noncomputable section

namespace Cert.ConfFwdProof
open Idealize.ShloMosaic Idealize.ShloMosaic.TcCoe Idealize.SL.Sem

/-- The call as it is compiled keeps its arguments. -/
theorem frame_kernel : Cert.quiescent_ConfFwd := fun m ρ _ => Cert.ConfFwd.Gen.frame m ρ

/-- So does the call over the reals. -/
theorem frame_ideal : Cert.quiescent_ConfFwdIdeal := fun m ρ _ => Cert.ConfFwdIdeal.Gen.frame m ρ

/-- So does the reference, which has no semaphore. -/
theorem frame_reference : Cert.quiescent_ConfFwdRefIdeal := fun m ρ _ =>
  (θ_run _ _ _).mono (fun r h => ⟨fun c => (h c).2.2, funext fun s => nomatch s⟩) (Cert.ConfFwdRefIdeal.Value.run m ρ)

end Cert.ConfFwdProof
-- ==== Proof.lean ====
module

public import proofs.«01_k».proof.Proof.KvFrames
public import proofs.«01_k».proof.Proof.KvValue
public import proofs.«01_k».proof.Proof.AttnFrames
public import proofs.«01_k».proof.Proof.InFrames
public import proofs.«01_k».proof.Proof.FfnFrames
public import proofs.«01_k».proof.Proof.ConfFrames
public import proofs.«01_k».proof.Proof.ConfValue
public import proofs.«01_k».proof.Proof.AttnFwdFrames
public import proofs.«01_k».proof.Proof.FfnFwdFrames
public import proofs.«01_k».proof.Proof.KvFwdFrames
public import proofs.«01_k».proof.Proof.InFwdFrames
public import proofs.«01_k».proof.Proof.OutFwdFrames
public import proofs.«01_k».proof.Proof.ConfFwdFrames
public import proofs.«01_k».proof.Defs

@[expose] public section

noncomputable section

namespace Cert.Proof

/-- Every claim of the statement. -/
theorem claim : Cert.Claim :=
  ⟨Cert.KvBwd.Gen.facts, Cert.KvBwdIdeal.Gen.facts, Cert.KvGradIdeal.Gen.facts,
    Cert.AttnBwd.Gen.facts, Cert.AttnBwdIdeal.Gen.facts, Cert.AttnGradIdeal.Gen.facts,
    Cert.InBwd.Gen.facts, Cert.InBwdIdeal.Gen.facts, Cert.InGradIdeal.Gen.facts,
    Cert.FfnBwd.Gen.facts, Cert.FfnBwdIdeal.Gen.facts, Cert.FfnGradIdeal.Gen.facts,
    Cert.ConfBwd.Gen.facts, Cert.ConfBwdIdeal.Gen.facts, Cert.ConfGradIdeal.Gen.facts,
    Cert.AttnFwd.Gen.facts, Cert.AttnFwdIdeal.Gen.facts, Cert.AttnFwdRefIdeal.Gen.facts,
    Cert.FfnFwd.Gen.facts, Cert.FfnFwdIdeal.Gen.facts, Cert.FfnFwdRefIdeal.Gen.facts,
    Cert.KvFwd.Gen.facts, Cert.KvFwdIdeal.Gen.facts, Cert.KvFwdRefIdeal.Gen.facts,
    Cert.InFwd.Gen.facts, Cert.InFwdIdeal.Gen.facts, Cert.InFwdRefIdeal.Gen.facts,
    Cert.OutFwd.Gen.facts, Cert.OutFwdIdeal.Gen.facts, Cert.OutFwdRefIdeal.Gen.facts,
    Cert.ConfFwd.Gen.facts, Cert.ConfFwdIdeal.Gen.facts, Cert.ConfFwdRefIdeal.Gen.facts,
    AttnProof.preFacts, InProof.preFacts, FfnProof.preFacts, ConfProof.preFacts, FfnFwdProof.preFacts,
    ConfProof.maskFacts,
    KvProof.frame_kernel, KvProof.frame_ideal, KvProof.frame_reference,
    AttnProof.frame_kernel, AttnProof.frame_ideal, AttnProof.frame_ideal_finite, AttnProof.frame_reference,
    AttnProof.frame_reference_finite,
    InProof.frame_kernel, InProof.frame_ideal, InProof.frame_ideal_finite, InProof.frame_reference,
    InProof.frame_reference_finite,
    FfnProof.frame_kernel, FfnProof.frame_ideal, FfnProof.frame_ideal_finite, FfnProof.frame_reference,
    FfnProof.frame_reference_finite,
    ConfProof.frame_kernel, ConfProof.frame_ideal, ConfProof.frame_ideal_finite, ConfProof.frame_reference,
    ConfProof.frame_reference_finite,
    AttnFwdProof.frame_kernel, AttnFwdProof.frame_ideal, AttnFwdProof.frame_reference,
    FfnFwdProof.frame_kernel, FfnFwdProof.frame_ideal, FfnFwdProof.frame_ideal_finite, FfnFwdProof.frame_reference,
    FfnFwdProof.frame_reference_finite,
    KvFwdProof.frame_kernel, KvFwdProof.frame_ideal, KvFwdProof.frame_reference,
    InFwdProof.frame_kernel, InFwdProof.frame_ideal, InFwdProof.frame_reference,
    OutFwdProof.frame_kernel, OutFwdProof.frame_ideal, OutFwdProof.frame_reference,
    ConfFwdProof.frame_kernel, ConfFwdProof.frame_ideal, ConfFwdProof.frame_reference,
    trivial, KvProof.algebraic, trivial, AttnProof.algebraic, trivial, InProof.algebraic,
    FfnProof.preserves, FfnProof.algebraic, trivial, ConfProof.algebraic,
    trivial, AttnFwdProof.algebraic, FfnFwdProof.preserves, FfnFwdProof.algebraic,
    trivial, KvFwdProof.algebraic, trivial, InFwdProof.algebraic, trivial, OutFwdProof.algebraic,
    trivial, ConfFwdProof.algebraic⟩

end Cert.Proof

end
